-- ==== Defs.lean ====
def Pre_Kernel [hPre_sizes_partition_rows : Cert.Pre_sizes_partition_rows.Facts] (m : (ℓ : Loc Cert.Kernel.nD Cert.Kernel.τ Cert.Kernel.sig) → Buf (Elt Bits) ℓ) : Prop :=
  ∀ c : Dev Cert.Kernel.nD,
    (Cert.Pre_sizes_partition_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_partition_rows : Cert.Pre_sizes_partition_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_partition_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_partition_rows [hPre_sizes_partition_rows : Cert.Pre_sizes_partition_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_partition_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_partition_rows : Cert.Pre_sizes_partition_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_partition_rows [hReferenceIdeal : Cert.ReferenceIdeal.Facts] [hPre_sizes_partition_rows : Cert.Pre_sizes_partition_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_partition_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_partition_rows : Cert.Pre_sizes_partition_rows.Facts),
    quiescent_Kernel (hKernel := hKernel) (hPre_sizes_partition_rows := hPre_sizes_partition_rows)
    ∧ quiescent_KernelIdeal (hKernelIdeal := hKernelIdeal) (hPre_sizes_partition_rows := hPre_sizes_partition_rows)
    ∧ quiescent_ReferenceIdeal (hReferenceIdeal := hReferenceIdeal)
    ∧ quiescent_ReferenceIdeal_pre_sizes_partition_rows (hReferenceIdeal := hReferenceIdeal) (hPre_sizes_partition_rows := hPre_sizes_partition_rows)
    ∧ preserves_Kernel_KernelIdeal
    ∧ algebraic_KernelIdeal_ReferenceIdeal (hKernelIdeal := hKernelIdeal) (hReferenceIdeal := hReferenceIdeal) (hPre_sizes_partition_rows := hPre_sizes_partition_rows)
-- ==== Pre_sizes_partition_rows.lean ====
abbrev S256x4096 : Shape := ⟨2, ![256, 4096]⟩
abbrev S6 : Shape := ⟨1, ![6]⟩
abbrev S6x4096x14336 : Shape := ⟨3, ![6, 4096, 14336]⟩
abbrev S6x14336 : Shape := ⟨2, ![6, 14336]⟩
abbrev S_ : Shape := ⟨0, ![]⟩

class Facts : Prop where
  bcast_S_S6 : S_.BroadcastsInDim S6 (![] : Fin 0 → Fin S6.rank)
  reducesTo_S6_S_d0 : S6.ReducesTo [0] S_
  h_S_ : 0 < S_.numel

variable [Facts]

def fn {F : FTy → Type} [FloatOps F] (main_arg0 : FVec F S256x4096 .bf16) (main_arg1 : IVec S6 32) (main_arg2 : FVec F S6 .f32) (main_arg3 : FVec F S6x4096x14336 .fp8e4m3) (main_arg4 : FVec F S6x14336 .f32) : IVec S_ 1 :=
  let main_c : IVec S_ 32 := constantI S_ 32 0#32
  let main_v0 : IVec S6 32 := broadcastInDim S6 ![] bcast_S_S6 main_c
  let main_v1 : IVec S6 1 := cmpi .sge main_arg1 main_v0
  let main_c_0 : IVec S_ 1 := constantI S_ 1 1#1
  let main_v2 : IVec S_ 1 := (fun x v => Host.reduce IntOp.andi x v reducesTo_S6_S_d0 h_S_) main_v1 main_c_0
  let main_c_1 : IVec S_ 32 := constantI S_ 32 256#32
  let main_v3 : IVec S6 32 := broadcastInDim S6 ![] bcast_S_S6 main_c_1
  let main_v4 : IVec S6 1 := cmpi .sle main_arg1 main_v3
  let main_c_2 : IVec S_ 1 := constantI S_ 1 1#1
  let main_v5 : IVec S_ 1 := (fun x v => Host.reduce IntOp.andi x v reducesTo_S6_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S6_S_d0 h_S_) main_arg1 main_c_3
  let main_c_4 : IVec S_ 32 := constantI S_ 32 256#32
  let main_v8 : IVec S_ 1 := cmpi .eq main_v7 main_c_4
  let main_v9 : IVec S_ 1 := andi main_v6 main_v8
  main_v9
-- ==== Kernel.lean ====
abbrev S256x4096 : Shape := ⟨2, ![256, 4096]⟩
abbrev S6 : Shape := ⟨1, ![6]⟩
abbrev S6x4096x14336 : Shape := ⟨3, ![6, 4096, 14336]⟩
abbrev S6x14336 : Shape := ⟨2, ![6, 14336]⟩
abbrev S256x14336 : Shape := ⟨2, ![256, 14336]⟩
abbrev S16x4096x512 : Shape := ⟨3, ![16, 4096, 512]⟩
abbrev S2x256x512 : Shape := ⟨3, ![2, 256, 512]⟩
abbrev S7 : Shape := ⟨1, ![7]⟩
abbrev S_ : Shape := ⟨0, ![]⟩
abbrev S16 : Shape := ⟨1, ![16]⟩
abbrev S2 : Shape := ⟨1, ![2]⟩
abbrev S1 : Shape := ⟨1, ![1]⟩
abbrev S1x4096x512 : Shape := ⟨3, ![1, 4096, 512]⟩
abbrev S4096x512 : Shape := ⟨2, ![4096, 512]⟩
abbrev S256x128 : Shape := ⟨2, ![256, 128]⟩
abbrev S256x512 : Shape := ⟨2, ![256, 512]⟩
abbrev S1x256x512 : Shape := ⟨3, ![1, 256, 512]⟩
abbrev S32x512 : Shape := ⟨2, ![32, 512]⟩
abbrev S32x4096 : Shape := ⟨2, ![32, 4096]⟩
abbrev S1x512 : Shape := ⟨2, ![1, 512]⟩
abbrev S1x32x512 : Shape := ⟨3, ![1, 32, 512]⟩
abbrev S64x4096 : Shape := ⟨2, ![64, 4096]⟩
abbrev S64x512 : Shape := ⟨2, ![64, 512]⟩
abbrev S96x4096 : Shape := ⟨2, ![96, 4096]⟩
abbrev S96x512 : Shape := ⟨2, ![96, 512]⟩
abbrev S1x64x512 : Shape := ⟨3, ![1, 64, 512]⟩
abbrev S128x4096 : Shape := ⟨2, ![128, 4096]⟩
abbrev S128x512 : Shape := ⟨2, ![128, 512]⟩
abbrev S1x96x512 : Shape := ⟨3, ![1, 96, 512]⟩
abbrev S160x4096 : Shape := ⟨2, ![160, 4096]⟩
abbrev S160x512 : Shape := ⟨2, ![160, 512]⟩
abbrev S1x128x512 : Shape := ⟨3, ![1, 128, 512]⟩
abbrev S192x4096 : Shape := ⟨2, ![192, 4096]⟩
abbrev S192x512 : Shape := ⟨2, ![192, 512]⟩
abbrev S1x160x512 : Shape := ⟨3, ![1, 160, 512]⟩
abbrev S224x4096 : Shape := ⟨2, ![224, 4096]⟩
abbrev S224x512 : Shape := ⟨2, ![224, 512]⟩
abbrev S1x192x512 : Shape := ⟨3, ![1, 192, 512]⟩
abbrev S1x224x512 : Shape := ⟨3, ![1, 224, 512]⟩

abbrev nBuf : Space → Nat
  | .hbm => 6
  | .vmem => 5
  | .smem => 4
  | _ => 0

abbrev bufTy : (tb : Table) → Fin (tcTables nBuf tb) → BufTy
  | .hbm, ⟨0, _⟩ => ⟨S256x4096, .bf16⟩
  | .hbm, ⟨1, _⟩ => ⟨S6, .i32⟩
  | .hbm, ⟨2, _⟩ => ⟨S6, .f32⟩
  | .hbm, ⟨3, _⟩ => ⟨S6x4096x14336, .fp8e4m3⟩
  | .hbm, ⟨4, _⟩ => ⟨S6x14336, .f32⟩
  | .hbm, ⟨5, _⟩ => ⟨S256x14336, .bf16⟩
  | .local _ .vmem, ⟨0, _⟩ => ⟨S256x4096, .bf16⟩
  | .local _ .vmem, ⟨1, _⟩ => ⟨S256x4096, .fp8e4m3⟩
  | .local _ .vmem, ⟨2, _⟩ => ⟨S6x14336, .f32⟩
  | .local _ .vmem, ⟨3, _⟩ => ⟨S16x4096x512, .fp8e4m3⟩
  | .local _ .vmem, ⟨4, _⟩ => ⟨S2x256x512, .bf16⟩
  | .local _ .smem, ⟨0, _⟩ => ⟨S6, .i32⟩
  | .local _ .smem, ⟨1, _⟩ => ⟨S6, .f32⟩
  | .local _ .smem, ⟨2, _⟩ => ⟨S7, .i32⟩
  | .local _ .smem, ⟨3, _⟩ => ⟨S7, .i32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch0 : Ref sig .tc := ⟨.smem, 0, rfl⟩
abbrev cc0_scratch1 : Ref sig .tc := ⟨.smem, 1, rfl⟩
abbrev cc0_scratch7 : Ref sig .tc := ⟨.smem, 2, rfl⟩
abbrev cc0_scratch8 : Ref sig .tc := ⟨.smem, 3, rfl⟩

abbrev nD : Nat := 1
abbrev τ : Topo := Topo.v7x

variable {F : FTy → Type} [FloatOps F]

abbrev grid0 : Pipeline.Grid := .none

def k0_off1 (v2 : BitVec 32) : Fin 1 → Nat :=
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let v7 : Index := Scalar.indexCast v5
  ![v7.toNat]

def k0_chk1 (v2 : BitVec 32) : Prop :=
  (∀ a, (k0_off1 v2) a + S1.size a ≤ S7.size a)
theorem k0_off1_inb : ∀ (v2 : BitVec 32) (k0_hw1 : k0_chk1 v2), ∀ a, (k0_off1 v2) a + S1.size a ≤ S7.size a := fun v2 k0_hw1 => k0_hw1

def k0_off2 (v2 : BitVec 32) (v11 : BitVec 32) : Fin 1 → Nat :=
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let v16 : Index := Scalar.indexCast v14
  ![v16.toNat]

def k0_chk2 (v2 : BitVec 32) (v11 : BitVec 32) : Prop :=
  (∀ a, (k0_off2 v2 v11) a + S1.size a ≤ S7.size a)
theorem k0_off2_inb : ∀ (v2 : BitVec 32) (v11 : BitVec 32) (k0_hw2 : k0_chk2 v2 v11), ∀ a, (k0_off2 v2 v11) a + S1.size a ≤ S7.size a := fun v2 v11 k0_hw2 => k0_hw2

def k0_off3 (v2 : BitVec 32) (v11 : BitVec 32) (v20 : BitVec 32) : Fin 1 → Nat :=
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let v25 : Index := Scalar.indexCast v23
  ![v25.toNat]

def k0_chk3 (v2 : BitVec 32) (v11 : BitVec 32) (v20 : BitVec 32) : Prop :=
  (∀ a, (k0_off3 v2 v11 v20) a + S1.size a ≤ S7.size a)
theorem k0_off3_inb : ∀ (v2 : BitVec 32) (v11 : BitVec 32) (v20 : BitVec 32) (k0_hw3 : k0_chk3 v2 v11 v20), ∀ a, (k0_off3 v2 v11 v20) a + S1.size a ≤ S7.size a := fun v2 v11 v20 k0_hw3 => k0_hw3

def k0_off4 (v2 : BitVec 32) (v11 : BitVec 32) (v20 : BitVec 32) (v29 : BitVec 32) : Fin 1 → Nat :=
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let v34 : Index := Scalar.indexCast v32
  ![v34.toNat]

def k0_chk4 (v2 : BitVec 32) (v11 : BitVec 32) (v20 : BitVec 32) (v29 : BitVec 32) : Prop :=
  (∀ a, (k0_off4 v2 v11 v20 v29) a + S1.size a ≤ S7.size a)
theorem k0_off4_inb : ∀ (v2 : BitVec 32) (v11 : BitVec 32) (v20 : BitVec 32) (v29 : BitVec 32) (k0_hw4 : k0_chk4 v2 v11 v20 v29), ∀ a, (k0_off4 v2 v11 v20 v29) a + S1.size a ≤ S7.size a := fun v2 v11 v20 v29 k0_hw4 => k0_hw4

def k0_off5 (v2 : BitVec 32) (v11 : BitVec 32) (v20 : BitVec 32) (v29 : BitVec 32) (v38 : BitVec 32) : Fin 1 → Nat :=
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let v43 : Index := Scalar.indexCast v41
  ![v43.toNat]

def k0_chk5 (v2 : BitVec 32) (v11 : BitVec 32) (v20 : BitVec 32) (v29 : BitVec 32) (v38 : BitVec 32) : Prop :=
  (∀ a, (k0_off5 v2 v11 v20 v29 v38) a + S1.size a ≤ S7.size a)
theorem k0_off5_inb : ∀ (v2 : BitVec 32) (v11 : BitVec 32) (v20 : BitVec 32) (v29 : BitVec 32) (v38 : BitVec 32) (k0_hw5 : k0_chk5 v2 v11 v20 v29 v38), ∀ a, (k0_off5 v2 v11 v20 v29 v38) a + S1.size a ≤ S7.size a := fun v2 v11 v20 v29 v38 k0_hw5 => k0_hw5

def k0_off6 (v2 : BitVec 32) (v11 : BitVec 32) (v20 : BitVec 32) (v29 : BitVec 32) (v38 : BitVec 32) (v47 : BitVec 32) : Fin 1 → Nat :=
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let v52 : Index := Scalar.indexCast v50
  ![v52.toNat]

@[reducible] def k0_t1_loop (v2 : BitVec 32) (v11 : BitVec 32) (v20 : BitVec 32) (v29 : BitVec 32) (v38 : BitVec 32) (v47 : BitVec 32) : Scf.Loop 32 :=
  let c0_i32_11 : BitVec 32 := 0#32
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let c28_i32 : BitVec 32 := 28#32
  let v54 : BitVec 32 := Scalar.muli v50 c28_i32
  let c16_i32 : BitVec 32 := 16#32
  let v55 : BitVec 32 := Scalar.minsi v54 c16_i32
  let v56 : BitVec 32 := Scalar.subi v55 c0_i32_11
  let c1_i32_14 : BitVec 32 := 1#32
  let v58 : BitVec 32 := Scalar.divsi v56 c1_i32_14
  let v59 : BitVec 32 := Scalar.muli v58 c1_i32_14
  let v60 : BitVec 32 := Scalar.addi c0_i32_11 v59
  let c1_i32_15 : BitVec 32 := 1#32
  ⟨c0_i32_11, v60, c1_i32_15⟩
def k0_mult1 (arg22 : BitVec 32) : BitVec 32 :=
  let c512_i32 : BitVec 32 := 512#32
  let v130 : BitVec 32 := Scalar.muli arg22 c512_i32
  v130

def k0_chk7 (arg22 : BitVec 32) : Prop :=
  (512 ∣ (k0_mult1 arg22).toNat)
theorem k0_mult1_dvd : ∀ (arg22 : BitVec 32) (k0_hw7 : k0_chk7 arg22), 512 ∣ (k0_mult1 arg22).toNat := fun arg22 k0_hw7 => k0_hw7

def k0_off7 (arg23 : BitVec 32) : Fin 1 → Nat :=
  let v132 : Index := Scalar.indexCast arg23
  ![v132.toNat]

def k0_chk8 (arg23 : BitVec 32) : Prop :=
  (∀ a, (k0_off7 arg23) a + S1.size a ≤ S7.size a)
theorem k0_off7_inb : ∀ (arg23 : BitVec 32) (k0_hw8 : k0_chk8 arg23), ∀ a, (k0_off7 arg23) a + S1.size a ≤ S7.size a := fun arg23 k0_hw8 => k0_hw8

def k0_off8 (v2 : BitVec 32) (v11 : BitVec 32) (v20 : BitVec 32) (v29 : BitVec 32) (v38 : BitVec 32) (v47 : BitVec 32) (k0_t1 : Fin (k0_t1_loop v2 v11 v20 v29 v38 v47).trips) : Fin 1 → Nat :=
  let c0_i32_11 : BitVec 32 := 0#32
  let c1_i32_15 : BitVec 32 := 1#32
  let arg21 : BitVec 32 := Scf.iv c0_i32_11 c1_i32_15 k0_t1
  ![arg21.toNat]
def k0_off9 (v2 : BitVec 32) (v11 : BitVec 32) (v20 : BitVec 32) (v29 : BitVec 32) (v38 : BitVec 32) (v47 : BitVec 32) (k0_t1 : Fin (k0_t1_loop v2 v11 v20 v29 v38 v47).trips) : Fin 3 → Nat :=
  let c0_i32_11 : BitVec 32 := 0#32
  let c1_i32_15 : BitVec 32 := 1#32
  let arg21 : BitVec 32 := Scf.iv c0_i32_11 c1_i32_15 k0_t1
  let c0_i32_53 : BitVec 32 := 0#32
  let c0_i32_54 : BitVec 32 := 0#32
  ![arg21.toNat, 0, 0]
def k0_off10 (arg22 : BitVec 32) (v133 : BitVec 32) : Fin 3 → Nat :=
  let c0_i32_55 : BitVec 32 := 0#32
  let c512_i32 : BitVec 32 := 512#32
  let v130 : BitVec 32 := Scalar.muli arg22 c512_i32
  let v131 : BitVec 32 := v130
  ![v133.toNat, 0, v131.toNat]

def k0_chk9 (arg22 : BitVec 32) (v133 : BitVec 32) : Prop :=
  (∀ a, (k0_off10 arg22 v133) a + S1x4096x512.size a ≤ S6x4096x14336.size a) ∧
  (∀ (hinb : ∀ a, (k0_off10 arg22 v133) a + S1x4096x512.size a ≤ S6x4096x14336.size a), (Rect.unit (s := S6x4096x14336) (k0_off10 arg22 v133) S1x4096x512.size hinb).WholeWords (EltTy.packing .fp8e4m3))
theorem k0_off10_inb : ∀ (arg22 : BitVec 32) (v133 : BitVec 32) (k0_hw9 : k0_chk9 arg22 v133), ∀ a, (k0_off10 arg22 v133) a + S1x4096x512.size a ≤ S6x4096x14336.size a := fun arg22 v133 k0_hw9 => k0_hw9.1
theorem k0_off10_wordsfp8e4m3 : ∀ (arg22 : BitVec 32) (v133 : BitVec 32) (k0_hw9 : k0_chk9 arg22 v133), (Rect.unit (s := S6x4096x14336) (k0_off10 arg22 v133) S1x4096x512.size (k0_off10_inb arg22 v133 k0_hw9)).WholeWords (EltTy.packing .fp8e4m3) := fun arg22 v133 k0_hw9 => k0_hw9.2 (k0_off10_inb arg22 v133 k0_hw9)

@[reducible] def k0_t2_loop (v2 : BitVec 32) (v11 : BitVec 32) (v20 : BitVec 32) (v29 : BitVec 32) (v38 : BitVec 32) (v47 : BitVec 32) : Scf.Loop 32 :=
  let c0_i32_11 : BitVec 32 := 0#32
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let c28_i32 : BitVec 32 := 28#32
  let v54 : BitVec 32 := Scalar.muli v50 c28_i32
  let c16_i32 : BitVec 32 := 16#32
  let v55 : BitVec 32 := Scalar.minsi v54 c16_i32
  let v56 : BitVec 32 := Scalar.subi v55 c0_i32_11
  let c1_i32_14 : BitVec 32 := 1#32
  let v58 : BitVec 32 := Scalar.divsi v56 c1_i32_14
  let v59 : BitVec 32 := Scalar.muli v58 c1_i32_14
  let v60 : BitVec 32 := Scalar.addi c0_i32_11 v59
  let v57 : BitVec 32 := Scalar.addi c0_i32_11 v56
  let c1_i32_16 : BitVec 32 := 1#32
  ⟨v60, v57, c1_i32_16⟩
def k0_mult2 (arg22 : BitVec 32) : BitVec 32 :=
  let c512_i32 : BitVec 32 := 512#32
  let v130 : BitVec 32 := Scalar.muli arg22 c512_i32
  v130

def k0_chk10 (arg22 : BitVec 32) : Prop :=
  (512 ∣ (k0_mult2 arg22).toNat)
theorem k0_mult2_dvd : ∀ (arg22 : BitVec 32) (k0_hw10 : k0_chk10 arg22), 512 ∣ (k0_mult2 arg22).toNat := fun arg22 k0_hw10 => k0_hw10

def k0_off11 (arg23 : BitVec 32) : Fin 1 → Nat :=
  let v132 : Index := Scalar.indexCast arg23
  ![v132.toNat]

def k0_chk11 (arg23 : BitVec 32) : Prop :=
  (∀ a, (k0_off11 arg23) a + S1.size a ≤ S7.size a)
theorem k0_off11_inb : ∀ (arg23 : BitVec 32) (k0_hw11 : k0_chk11 arg23), ∀ a, (k0_off11 arg23) a + S1.size a ≤ S7.size a := fun arg23 k0_hw11 => k0_hw11

def k0_off12 (v2 : BitVec 32) (v11 : BitVec 32) (v20 : BitVec 32) (v29 : BitVec 32) (v38 : BitVec 32) (v47 : BitVec 32) (k0_t2 : Fin (k0_t2_loop v2 v11 v20 v29 v38 v47).trips) : Fin 1 → Nat :=
  let c0_i32_11 : BitVec 32 := 0#32
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let c28_i32 : BitVec 32 := 28#32
  let v54 : BitVec 32 := Scalar.muli v50 c28_i32
  let c16_i32 : BitVec 32 := 16#32
  let v55 : BitVec 32 := Scalar.minsi v54 c16_i32
  let v56 : BitVec 32 := Scalar.subi v55 c0_i32_11
  let c1_i32_14 : BitVec 32 := 1#32
  let v58 : BitVec 32 := Scalar.divsi v56 c1_i32_14
  let v59 : BitVec 32 := Scalar.muli v58 c1_i32_14
  let v60 : BitVec 32 := Scalar.addi c0_i32_11 v59
  let c1_i32_16 : BitVec 32 := 1#32
  let arg21 : BitVec 32 := Scf.iv v60 c1_i32_16 k0_t2
  ![arg21.toNat]
def k0_off13 (v2 : BitVec 32) (v11 : BitVec 32) (v20 : BitVec 32) (v29 : BitVec 32) (v38 : BitVec 32) (v47 : BitVec 32) (k0_t2 : Fin (k0_t2_loop v2 v11 v20 v29 v38 v47).trips) : Fin 3 → Nat :=
  let c0_i32_11 : BitVec 32 := 0#32
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let c28_i32 : BitVec 32 := 28#32
  let v54 : BitVec 32 := Scalar.muli v50 c28_i32
  let c16_i32 : BitVec 32 := 16#32
  let v55 : BitVec 32 := Scalar.minsi v54 c16_i32
  let v56 : BitVec 32 := Scalar.subi v55 c0_i32_11
  let c1_i32_14 : BitVec 32 := 1#32
  let v58 : BitVec 32 := Scalar.divsi v56 c1_i32_14
  let v59 : BitVec 32 := Scalar.muli v58 c1_i32_14
  let v60 : BitVec 32 := Scalar.addi c0_i32_11 v59
  let c1_i32_16 : BitVec 32 := 1#32
  let arg21 : BitVec 32 := Scf.iv v60 c1_i32_16 k0_t2
  let c0_i32_53 : BitVec 32 := 0#32
  let c0_i32_54 : BitVec 32 := 0#32
  ![arg21.toNat, 0, 0]
def k0_off14 (arg22 : BitVec 32) (v133 : BitVec 32) : Fin 3 → Nat :=
  let c0_i32_55 : BitVec 32 := 0#32
  let c512_i32 : BitVec 32 := 512#32
  let v130 : BitVec 32 := Scalar.muli arg22 c512_i32
  let v131 : BitVec 32 := v130
  ![v133.toNat, 0, v131.toNat]

def k0_chk12 (arg22 : BitVec 32) (v133 : BitVec 32) : Prop :=
  (∀ a, (k0_off14 arg22 v133) a + S1x4096x512.size a ≤ S6x4096x14336.size a) ∧
  (∀ (hinb : ∀ a, (k0_off14 arg22 v133) a + S1x4096x512.size a ≤ S6x4096x14336.size a), (Rect.unit (s := S6x4096x14336) (k0_off14 arg22 v133) S1x4096x512.size hinb).WholeWords (EltTy.packing .fp8e4m3))
theorem k0_off14_inb : ∀ (arg22 : BitVec 32) (v133 : BitVec 32) (k0_hw12 : k0_chk12 arg22 v133), ∀ a, (k0_off14 arg22 v133) a + S1x4096x512.size a ≤ S6x4096x14336.size a := fun arg22 v133 k0_hw12 => k0_hw12.1
theorem k0_off14_wordsfp8e4m3 : ∀ (arg22 : BitVec 32) (v133 : BitVec 32) (k0_hw12 : k0_chk12 arg22 v133), (Rect.unit (s := S6x4096x14336) (k0_off14 arg22 v133) S1x4096x512.size (k0_off14_inb arg22 v133 k0_hw12)).WholeWords (EltTy.packing .fp8e4m3) := fun arg22 v133 k0_hw12 => k0_hw12.2 (k0_off14_inb arg22 v133 k0_hw12)

@[reducible] def k0_t3_loop : Scf.Loop 32 :=
  let c0_i32_29 : BitVec 32 := 0#32
  let c8_i32 : BitVec 32 := 8#32
  let v101 : BitVec 32 := Scalar.addi c0_i32_29 c8_i32
  let c1_i32_30 : BitVec 32 := 1#32
  ⟨c0_i32_29, v101, c1_i32_30⟩
def k0_mult3 (k0_t3 : Fin k0_t3_loop.trips) : BitVec 32 :=
  let c0_i32_29 : BitVec 32 := 0#32
  let c1_i32_30 : BitVec 32 := 1#32
  let arg21 : BitVec 32 := Scf.iv c0_i32_29 c1_i32_30 k0_t3
  let c512_i32 : BitVec 32 := 512#32
  let v130 : BitVec 32 := Scalar.muli arg21 c512_i32
  let c0_i32_53 : BitVec 32 := 0#32
  let v131 : BitVec 32 := Scalar.addi v130 c0_i32_53
  v131
def k0_off15 (k0_t3 : Fin k0_t3_loop.trips) (c0_i32_53 : BitVec 32) : Fin 2 → Nat :=
  let c0_54 : Index := 0#32
  let c0_i32_29 : BitVec 32 := 0#32
  let c1_i32_30 : BitVec 32 := 1#32
  let arg21 : BitVec 32 := Scf.iv c0_i32_29 c1_i32_30 k0_t3
  let c512_i32 : BitVec 32 := 512#32
  let v130 : BitVec 32 := Scalar.muli arg21 c512_i32
  let v131 : BitVec 32 := Scalar.addi v130 c0_i32_53
  let v132 : BitVec 32 := v131
  let v133 : Index := Scalar.indexCast v132
  ![0, v133.toNat]
def k0_mult4 (k0_t3 : Fin k0_t3_loop.trips) : BitVec 32 :=
  let c0_i32_29 : BitVec 32 := 0#32
  let c1_i32_30 : BitVec 32 := 1#32
  let arg21 : BitVec 32 := Scf.iv c0_i32_29 c1_i32_30 k0_t3
  let c512_i32_57 : BitVec 32 := 512#32
  let v146 : BitVec 32 := Scalar.muli arg21 c512_i32_57
  let c128_i32 : BitVec 32 := 128#32
  let v147 : BitVec 32 := Scalar.addi v146 c128_i32
  v147
def k0_mult5 (k0_t3 : Fin k0_t3_loop.trips) : BitVec 32 :=
  let c0_i32_29 : BitVec 32 := 0#32
  let c1_i32_30 : BitVec 32 := 1#32
  let arg21 : BitVec 32 := Scf.iv c0_i32_29 c1_i32_30 k0_t3
  let c512_i32_62 : BitVec 32 := 512#32
  let v162 : BitVec 32 := Scalar.muli arg21 c512_i32_62
  let c256_i32 : BitVec 32 := 256#32
  let v163 : BitVec 32 := Scalar.addi v162 c256_i32
  v163
def k0_mult6 (k0_t3 : Fin k0_t3_loop.trips) : BitVec 32 :=
  let c0_i32_29 : BitVec 32 := 0#32
  let c1_i32_30 : BitVec 32 := 1#32
  let arg21 : BitVec 32 := Scf.iv c0_i32_29 c1_i32_30 k0_t3
  let c512_i32_67 : BitVec 32 := 512#32
  let v178 : BitVec 32 := Scalar.muli arg21 c512_i32_67
  let c384_i32 : BitVec 32 := 384#32
  let v179 : BitVec 32 := Scalar.addi v178 c384_i32
  v179
@[reducible] def k0_t4_loop (v2 : BitVec 32) (v11 : BitVec 32) (v20 : BitVec 32) (v29 : BitVec 32) (v38 : BitVec 32) (v47 : BitVec 32) : Scf.Loop 32 :=
  let c0_i32_32 : BitVec 32 := 0#32
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let c28_i32 : BitVec 32 := 28#32
  let v54 : BitVec 32 := Scalar.muli v50 c28_i32
  let v102 : BitVec 32 := Scalar.subi v54 c0_i32_32
  let c1_i32_36 : BitVec 32 := 1#32
  let v104 : BitVec 32 := Scalar.divsi v102 c1_i32_36
  let v105 : BitVec 32 := Scalar.muli v104 c1_i32_36
  let v106 : BitVec 32 := Scalar.addi c0_i32_32 v105
  let c1_i32_37 : BitVec 32 := 1#32
  ⟨c0_i32_32, v106, c1_i32_37⟩
def k0_off16 (arg23 : BitVec 32) : Fin 1 → Nat :=
  let v130 : Index := Scalar.indexCast arg23
  ![v130.toNat]

def k0_off17 (arg23 : BitVec 32) : Fin 1 → Nat :=
  let c1_i32_53 : BitVec 32 := 1#32
  let v134 : BitVec 32 := Scalar.addi arg23 c1_i32_53
  let v135 : Index := Scalar.indexCast v134
  ![v135.toNat]
def k0_mult7 (arg22 : BitVec 32) : BitVec 32 :=
  let c512_i32 : BitVec 32 := 512#32
  let v142 : BitVec 32 := Scalar.muli arg22 c512_i32
  v142

def k0_chk14 (arg22 : BitVec 32) : Prop :=
  (512 ∣ (k0_mult7 arg22).toNat)
theorem k0_mult7_dvd : ∀ (arg22 : BitVec 32) (k0_hw14 : k0_chk14 arg22), 512 ∣ (k0_mult7 arg22).toNat := fun arg22 k0_hw14 => k0_hw14

def k0_off18 (arg23 : BitVec 32) : Fin 1 → Nat :=
  let v144 : Index := Scalar.indexCast arg23
  ![v144.toNat]
def k0_off19 (arg26 : BitVec 32) : Fin 1 → Nat :=
  ![arg26.toNat]

def k0_off20 (arg26 : BitVec 32) : Fin 3 → Nat :=
  let c0_i32_56 : BitVec 32 := 0#32
  let c0_i32_57 : BitVec 32 := 0#32
  ![arg26.toNat, 0, 0]
def k0_off21 (arg22 : BitVec 32) (v145 : BitVec 32) : Fin 3 → Nat :=
  let c0_i32_58 : BitVec 32 := 0#32
  let c512_i32 : BitVec 32 := 512#32
  let v142 : BitVec 32 := Scalar.muli arg22 c512_i32
  let v143 : BitVec 32 := v142
  ![v145.toNat, 0, v143.toNat]

def k0_chk16 (arg22 : BitVec 32) (v145 : BitVec 32) : Prop :=
  (∀ a, (k0_off21 arg22 v145) a + S1x4096x512.size a ≤ S6x4096x14336.size a) ∧
  (∀ (hinb : ∀ a, (k0_off21 arg22 v145) a + S1x4096x512.size a ≤ S6x4096x14336.size a), (Rect.unit (s := S6x4096x14336) (k0_off21 arg22 v145) S1x4096x512.size hinb).WholeWords (EltTy.packing .fp8e4m3))
theorem k0_off21_inb : ∀ (arg22 : BitVec 32) (v145 : BitVec 32) (k0_hw16 : k0_chk16 arg22 v145), ∀ a, (k0_off21 arg22 v145) a + S1x4096x512.size a ≤ S6x4096x14336.size a := fun arg22 v145 k0_hw16 => k0_hw16.1
theorem k0_off21_wordsfp8e4m3 : ∀ (arg22 : BitVec 32) (v145 : BitVec 32) (k0_hw16 : k0_chk16 arg22 v145), (Rect.unit (s := S6x4096x14336) (k0_off21 arg22 v145) S1x4096x512.size (k0_off21_inb arg22 v145 k0_hw16)).WholeWords (EltTy.packing .fp8e4m3) := fun arg22 v145 k0_hw16 => k0_hw16.2 (k0_off21_inb arg22 v145 k0_hw16)

def k0_mult8 (arg22 : BitVec 32) : BitVec 32 :=
  let c1_i32_93 : BitVec 32 := 1#32
  let v206 : BitVec 32 := Scalar.subi arg22 c1_i32_93
  let c512_i32_94 : BitVec 32 := 512#32
  let v207 : BitVec 32 := Scalar.muli v206 c512_i32_94
  v207
def k0_cond1 (arg22 : BitVec 32) (arg23 : BitVec 32) : BitVec 1 :=
  let c0_i32_59 : BitVec 32 := 0#32
  let v152 : BitVec 1 := Scalar.cmpi .eq arg23 c0_i32_59
  let c1_i32_60 : BitVec 32 := 1#32
  let v153 : BitVec 1 := Scalar.cmpi .sge arg22 c1_i32_60
  let v154 : BitVec 1 := Scalar.andi v152 v153
  let v155 : BitVec 32 := Scalar.extui v154
  let c0_i32_61 : BitVec 32 := 0#32
  let v156 : BitVec 1 := Scalar.cmpi .ne v155 c0_i32_61
  v156

def k0_off22 (arg22 : BitVec 32) : Fin 1 → Nat :=
  let c1_i32_93 : BitVec 32 := 1#32
  let v206 : BitVec 32 := Scalar.subi arg22 c1_i32_93
  let c2_i32_95 : BitVec 32 := 2#32
  let v209 : BitVec 32 := Scalar.remsi v206 c2_i32_95
  ![v209.toNat]
def k0_off23 (arg22 : BitVec 32) : Fin 2 → Nat :=
  let c0_i32_96 : BitVec 32 := 0#32
  let c1_i32_93 : BitVec 32 := 1#32
  let v206 : BitVec 32 := Scalar.subi arg22 c1_i32_93
  let c512_i32_94 : BitVec 32 := 512#32
  let v207 : BitVec 32 := Scalar.muli v206 c512_i32_94
  let v208 : BitVec 32 := v207
  ![0, v208.toNat]
def k0_off24 (arg22 : BitVec 32) : Fin 3 → Nat :=
  let c1_i32_93 : BitVec 32 := 1#32
  let v206 : BitVec 32 := Scalar.subi arg22 c1_i32_93
  let c2_i32_95 : BitVec 32 := 2#32
  let v209 : BitVec 32 := Scalar.remsi v206 c2_i32_95
  let c0_i32_97 : BitVec 32 := 0#32
  let c0_i32_98 : BitVec 32 := 0#32
  ![v209.toNat, 0, 0]
def k0_mult9 (arg22 : BitVec 32) : BitVec 32 :=
  let c2_i32_93 : BitVec 32 := 2#32
  let v206 : BitVec 32 := Scalar.subi arg22 c2_i32_93
  let c512_i32_94 : BitVec 32 := 512#32
  let v207 : BitVec 32 := Scalar.muli v206 c512_i32_94
  v207
def k0_cond2 (arg22 : BitVec 32) (arg23 : BitVec 32) : BitVec 1 :=
  let c0_i32_62 : BitVec 32 := 0#32
  let v157 : BitVec 1 := Scalar.cmpi .eq arg23 c0_i32_62
  let c2_i32_63 : BitVec 32 := 2#32
  let v158 : BitVec 1 := Scalar.cmpi .sge arg22 c2_i32_63
  let v159 : BitVec 1 := Scalar.andi v157 v158
  let v160 : BitVec 32 := Scalar.extui v159
  let c0_i32_64 : BitVec 32 := 0#32
  let v161 : BitVec 1 := Scalar.cmpi .ne v160 c0_i32_64
  v161

def k0_off25 (arg22 : BitVec 32) : Fin 1 → Nat :=
  let c2_i32_93 : BitVec 32 := 2#32
  let v206 : BitVec 32 := Scalar.subi arg22 c2_i32_93
  let c2_i32_95 : BitVec 32 := 2#32
  let v209 : BitVec 32 := Scalar.remsi v206 c2_i32_95
  ![v209.toNat]
def k0_off26 (arg22 : BitVec 32) : Fin 2 → Nat :=
  let c0_i32_96 : BitVec 32 := 0#32
  let c2_i32_93 : BitVec 32 := 2#32
  let v206 : BitVec 32 := Scalar.subi arg22 c2_i32_93
  let c512_i32_94 : BitVec 32 := 512#32
  let v207 : BitVec 32 := Scalar.muli v206 c512_i32_94
  let v208 : BitVec 32 := v207
  ![0, v208.toNat]
def k0_off27 (arg22 : BitVec 32) : Fin 3 → Nat :=
  let c2_i32_93 : BitVec 32 := 2#32
  let v206 : BitVec 32 := Scalar.subi arg22 c2_i32_93
  let c2_i32_95 : BitVec 32 := 2#32
  let v209 : BitVec 32 := Scalar.remsi v206 c2_i32_95
  let c0_i32_97 : BitVec 32 := 0#32
  let c0_i32_98 : BitVec 32 := 0#32
  ![v209.toNat, 0, 0]

def k0_chk13 (arg22 : BitVec 32) (arg23 : BitVec 32) : Prop :=
  (∀ a, (k0_off16 arg23) a + S1.size a ≤ S7.size a) ∧
  (∀ a, (k0_off17 arg23) a + S1.size a ≤ S7.size a) ∧
  (∀ a, (k0_off18 arg23) a + S1.size a ≤ S7.size a) ∧
  (∀ (k0_h1 : k0_cond1 arg22 arg23 = 1#1), 512 ∣ (k0_mult8 arg22).toNat) ∧
  (∀ (k0_h1 : k0_cond1 arg22 arg23 = 1#1), ∀ a, (k0_off22 arg22) a + S1.size a ≤ S2.size a) ∧
  (∀ (k0_h1 : k0_cond1 arg22 arg23 = 1#1), ∀ a, (k0_off23 arg22) a + S256x512.size a ≤ S256x14336.size a) ∧
  (∀ (k0_h1 : k0_cond1 arg22 arg23 = 1#1), ∀ a, (k0_off24 arg22) a + S1x256x512.size a ≤ S2x256x512.size a) ∧
  (∀ (k0_h1 : k0_cond1 arg22 arg23 = 1#1), ∀ (hinb : ∀ a, (k0_off24 arg22) a + S1x256x512.size a ≤ S2x256x512.size a), (Rect.unit (s := S2x256x512) (k0_off24 arg22) S1x256x512.size hinb).WholeWords (EltTy.packing .bf16)) ∧
  (∀ (k0_h1 : k0_cond1 arg22 arg23 = 1#1), ∀ (hinb : ∀ a, (k0_off23 arg22) a + S256x512.size a ≤ S256x14336.size a), (Rect.unit (s := S256x14336) (k0_off23 arg22) S256x512.size hinb).WholeWords (EltTy.packing .bf16)) ∧
  (∀ (k0_h2 : k0_cond2 arg22 arg23 = 1#1), 512 ∣ (k0_mult9 arg22).toNat) ∧
  (∀ (k0_h2 : k0_cond2 arg22 arg23 = 1#1), ∀ a, (k0_off25 arg22) a + S1.size a ≤ S2.size a) ∧
  (∀ (k0_h2 : k0_cond2 arg22 arg23 = 1#1), ∀ a, (k0_off26 arg22) a + S256x512.size a ≤ S256x14336.size a) ∧
  (∀ (k0_h2 : k0_cond2 arg22 arg23 = 1#1), ∀ a, (k0_off27 arg22) a + S1x256x512.size a ≤ S2x256x512.size a) ∧
  (∀ (k0_h2 : k0_cond2 arg22 arg23 = 1#1), ∀ (hinb : ∀ a, (k0_off27 arg22) a + S1x256x512.size a ≤ S2x256x512.size a), (Rect.unit (s := S2x256x512) (k0_off27 arg22) S1x256x512.size hinb).WholeWords (EltTy.packing .bf16)) ∧
  (∀ (k0_h2 : k0_cond2 arg22 arg23 = 1#1), ∀ (hinb : ∀ a, (k0_off26 arg22) a + S256x512.size a ≤ S256x14336.size a), (Rect.unit (s := S256x14336) (k0_off26 arg22) S256x512.size hinb).WholeWords (EltTy.packing .bf16))
theorem k0_off16_inb : ∀ (arg22 : BitVec 32) (arg23 : BitVec 32) (k0_hw13 : k0_chk13 arg22 arg23), ∀ a, (k0_off16 arg23) a + S1.size a ≤ S7.size a := fun arg22 arg23 k0_hw13 => k0_hw13.1
theorem k0_off17_inb : ∀ (arg22 : BitVec 32) (arg23 : BitVec 32) (k0_hw13 : k0_chk13 arg22 arg23), ∀ a, (k0_off17 arg23) a + S1.size a ≤ S7.size a := fun arg22 arg23 k0_hw13 => k0_hw13.2.1
theorem k0_off18_inb : ∀ (arg22 : BitVec 32) (arg23 : BitVec 32) (k0_hw13 : k0_chk13 arg22 arg23), ∀ a, (k0_off18 arg23) a + S1.size a ≤ S7.size a := fun arg22 arg23 k0_hw13 => k0_hw13.2.2.1
theorem k0_mult8_dvd : ∀ (arg22 : BitVec 32) (arg23 : BitVec 32) (k0_hw13 : k0_chk13 arg22 arg23), ∀ (k0_h1 : k0_cond1 arg22 arg23 = 1#1), 512 ∣ (k0_mult8 arg22).toNat := fun arg22 arg23 k0_hw13 k0_h1 => k0_hw13.2.2.2.1 k0_h1
theorem k0_off22_inb : ∀ (arg22 : BitVec 32) (arg23 : BitVec 32) (k0_hw13 : k0_chk13 arg22 arg23), ∀ (k0_h1 : k0_cond1 arg22 arg23 = 1#1), ∀ a, (k0_off22 arg22) a + S1.size a ≤ S2.size a := fun arg22 arg23 k0_hw13 k0_h1 => k0_hw13.2.2.2.2.1 k0_h1
theorem k0_off23_inb : ∀ (arg22 : BitVec 32) (arg23 : BitVec 32) (k0_hw13 : k0_chk13 arg22 arg23), ∀ (k0_h1 : k0_cond1 arg22 arg23 = 1#1), ∀ a, (k0_off23 arg22) a + S256x512.size a ≤ S256x14336.size a := fun arg22 arg23 k0_hw13 k0_h1 => k0_hw13.2.2.2.2.2.1 k0_h1
theorem k0_off24_inb : ∀ (arg22 : BitVec 32) (arg23 : BitVec 32) (k0_hw13 : k0_chk13 arg22 arg23), ∀ (k0_h1 : k0_cond1 arg22 arg23 = 1#1), ∀ a, (k0_off24 arg22) a + S1x256x512.size a ≤ S2x256x512.size a := fun arg22 arg23 k0_hw13 k0_h1 => k0_hw13.2.2.2.2.2.2.1 k0_h1
theorem k0_off24_wordsbf16 : ∀ (arg22 : BitVec 32) (arg23 : BitVec 32) (k0_hw13 : k0_chk13 arg22 arg23), ∀ (k0_h1 : k0_cond1 arg22 arg23 = 1#1), (Rect.unit (s := S2x256x512) (k0_off24 arg22) S1x256x512.size (k0_off24_inb arg22 arg23 k0_hw13 k0_h1)).WholeWords (EltTy.packing .bf16) := fun arg22 arg23 k0_hw13 k0_h1 => k0_hw13.2.2.2.2.2.2.2.1 k0_h1 (k0_off24_inb arg22 arg23 k0_hw13 k0_h1)
theorem k0_off23_wordsbf16 : ∀ (arg22 : BitVec 32) (arg23 : BitVec 32) (k0_hw13 : k0_chk13 arg22 arg23), ∀ (k0_h1 : k0_cond1 arg22 arg23 = 1#1), (Rect.unit (s := S256x14336) (k0_off23 arg22) S256x512.size (k0_off23_inb arg22 arg23 k0_hw13 k0_h1)).WholeWords (EltTy.packing .bf16) := fun arg22 arg23 k0_hw13 k0_h1 => k0_hw13.2.2.2.2.2.2.2.2.1 k0_h1 (k0_off23_inb arg22 arg23 k0_hw13 k0_h1)
theorem k0_mult9_dvd : ∀ (arg22 : BitVec 32) (arg23 : BitVec 32) (k0_hw13 : k0_chk13 arg22 arg23), ∀ (k0_h2 : k0_cond2 arg22 arg23 = 1#1), 512 ∣ (k0_mult9 arg22).toNat := fun arg22 arg23 k0_hw13 k0_h2 => k0_hw13.2.2.2.2.2.2.2.2.2.1 k0_h2
theorem k0_off25_inb : ∀ (arg22 : BitVec 32) (arg23 : BitVec 32) (k0_hw13 : k0_chk13 arg22 arg23), ∀ (k0_h2 : k0_cond2 arg22 arg23 = 1#1), ∀ a, (k0_off25 arg22) a + S1.size a ≤ S2.size a := fun arg22 arg23 k0_hw13 k0_h2 => k0_hw13.2.2.2.2.2.2.2.2.2.2.1 k0_h2
theorem k0_off26_inb : ∀ (arg22 : BitVec 32) (arg23 : BitVec 32) (k0_hw13 : k0_chk13 arg22 arg23), ∀ (k0_h2 : k0_cond2 arg22 arg23 = 1#1), ∀ a, (k0_off26 arg22) a + S256x512.size a ≤ S256x14336.size a := fun arg22 arg23 k0_hw13 k0_h2 => k0_hw13.2.2.2.2.2.2.2.2.2.2.2.1 k0_h2
theorem k0_off27_inb : ∀ (arg22 : BitVec 32) (arg23 : BitVec 32) (k0_hw13 : k0_chk13 arg22 arg23), ∀ (k0_h2 : k0_cond2 arg22 arg23 = 1#1), ∀ a, (k0_off27 arg22) a + S1x256x512.size a ≤ S2x256x512.size a := fun arg22 arg23 k0_hw13 k0_h2 => k0_hw13.2.2.2.2.2.2.2.2.2.2.2.2.1 k0_h2
theorem k0_off27_wordsbf16 : ∀ (arg22 : BitVec 32) (arg23 : BitVec 32) (k0_hw13 : k0_chk13 arg22 arg23), ∀ (k0_h2 : k0_cond2 arg22 arg23 = 1#1), (Rect.unit (s := S2x256x512) (k0_off27 arg22) S1x256x512.size (k0_off27_inb arg22 arg23 k0_hw13 k0_h2)).WholeWords (EltTy.packing .bf16) := fun arg22 arg23 k0_hw13 k0_h2 => k0_hw13.2.2.2.2.2.2.2.2.2.2.2.2.2.1 k0_h2 (k0_off27_inb arg22 arg23 k0_hw13 k0_h2)
theorem k0_off26_wordsbf16 : ∀ (arg22 : BitVec 32) (arg23 : BitVec 32) (k0_hw13 : k0_chk13 arg22 arg23), ∀ (k0_h2 : k0_cond2 arg22 arg23 = 1#1), (Rect.unit (s := S256x14336) (k0_off26 arg22) S256x512.size (k0_off26_inb arg22 arg23 k0_hw13 k0_h2)).WholeWords (EltTy.packing .bf16) := fun arg22 arg23 k0_hw13 k0_h2 => k0_hw13.2.2.2.2.2.2.2.2.2.2.2.2.2.2 k0_h2 (k0_off26_inb arg22 arg23 k0_hw13 k0_h2)

def k0_mult10 (v133 : BitVec 32) : BitVec 32 :=
  let c_m32_i32 : BitVec 32 := 4294967264#32
  let v137 : BitVec 32 := Scalar.andi v133 c_m32_i32
  v137
def k0_cond3 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c1_i32_65 : BitVec 32 := 1#32
  let v162 : BitVec 1 := Scalar.cmpi .eq v140 c1_i32_65
  let v163 : BitVec 32 := Scalar.extui v162
  let c0_i32_66 : BitVec 32 := 0#32
  let v164 : BitVec 1 := Scalar.cmpi .ne v163 c0_i32_66
  v164

def k0_off28 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off29 (arg26 : BitVec 32) : Fin 3 → Nat :=
  let v214 : Index := Scalar.indexCast arg26
  let c0_94 : Index := 0#32
  let c0_95 : Index := 0#32
  ![v214.toNat, 0, 0]
def k0_mult11 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off30 (v131 : BitVec 32) : Fin 1 → Nat :=
  let v221 : Index := Scalar.indexCast v131
  ![v221.toNat]
def k0_off31 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off32 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_mult12 (v133 : BitVec 32) : BitVec 32 :=
  let c_m32_i32 : BitVec 32 := 4294967264#32
  let v137 : BitVec 32 := Scalar.andi v133 c_m32_i32
  v137
def k0_cond4 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c2_i32_67 : BitVec 32 := 2#32
  let v165 : BitVec 1 := Scalar.cmpi .eq v140 c2_i32_67
  let v166 : BitVec 32 := Scalar.extui v165
  let c0_i32_68 : BitVec 32 := 0#32
  let v167 : BitVec 1 := Scalar.cmpi .ne v166 c0_i32_68
  v167

def k0_off33 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off34 (arg26 : BitVec 32) : Fin 3 → Nat :=
  let v214 : Index := Scalar.indexCast arg26
  let c0_94 : Index := 0#32
  let c0_95 : Index := 0#32
  ![v214.toNat, 0, 0]
def k0_mult13 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off35 (v131 : BitVec 32) : Fin 1 → Nat :=
  let v221 : Index := Scalar.indexCast v131
  ![v221.toNat]
def k0_off36 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off37 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off38 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult14 (v133 : BitVec 32) : BitVec 32 :=
  let c_m32_i32 : BitVec 32 := 4294967264#32
  let v137 : BitVec 32 := Scalar.andi v133 c_m32_i32
  v137
def k0_cond5 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c3_i32_69 : BitVec 32 := 3#32
  let v168 : BitVec 1 := Scalar.cmpi .eq v140 c3_i32_69
  let v169 : BitVec 32 := Scalar.extui v168
  let c0_i32_70 : BitVec 32 := 0#32
  let v170 : BitVec 1 := Scalar.cmpi .ne v169 c0_i32_70
  v170

def k0_off39 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off40 (arg26 : BitVec 32) : Fin 3 → Nat :=
  let v214 : Index := Scalar.indexCast arg26
  let c0_94 : Index := 0#32
  let c0_95 : Index := 0#32
  ![v214.toNat, 0, 0]
def k0_mult15 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off41 (v131 : BitVec 32) : Fin 1 → Nat :=
  let v221 : Index := Scalar.indexCast v131
  ![v221.toNat]
def k0_off42 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off43 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off44 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult16 (v133 : BitVec 32) : BitVec 32 :=
  let c_m32_i32 : BitVec 32 := 4294967264#32
  let v137 : BitVec 32 := Scalar.andi v133 c_m32_i32
  v137
def k0_cond6 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c4_i32_71 : BitVec 32 := 4#32
  let v171 : BitVec 1 := Scalar.cmpi .eq v140 c4_i32_71
  let v172 : BitVec 32 := Scalar.extui v171
  let c0_i32_72 : BitVec 32 := 0#32
  let v173 : BitVec 1 := Scalar.cmpi .ne v172 c0_i32_72
  v173

def k0_off45 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off46 (arg26 : BitVec 32) : Fin 3 → Nat :=
  let v214 : Index := Scalar.indexCast arg26
  let c0_94 : Index := 0#32
  let c0_95 : Index := 0#32
  ![v214.toNat, 0, 0]
def k0_mult17 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off47 (v131 : BitVec 32) : Fin 1 → Nat :=
  let v221 : Index := Scalar.indexCast v131
  ![v221.toNat]
def k0_off48 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off49 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off50 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult18 (v133 : BitVec 32) : BitVec 32 :=
  let c_m32_i32 : BitVec 32 := 4294967264#32
  let v137 : BitVec 32 := Scalar.andi v133 c_m32_i32
  v137
def k0_cond7 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c5_i32_73 : BitVec 32 := 5#32
  let v174 : BitVec 1 := Scalar.cmpi .eq v140 c5_i32_73
  let v175 : BitVec 32 := Scalar.extui v174
  let c0_i32_74 : BitVec 32 := 0#32
  let v176 : BitVec 1 := Scalar.cmpi .ne v175 c0_i32_74
  v176

def k0_off51 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off52 (arg26 : BitVec 32) : Fin 3 → Nat :=
  let v214 : Index := Scalar.indexCast arg26
  let c0_94 : Index := 0#32
  let c0_95 : Index := 0#32
  ![v214.toNat, 0, 0]
def k0_mult19 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off53 (v131 : BitVec 32) : Fin 1 → Nat :=
  let v221 : Index := Scalar.indexCast v131
  ![v221.toNat]
def k0_off54 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off55 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off56 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult20 (v133 : BitVec 32) : BitVec 32 :=
  let c_m32_i32 : BitVec 32 := 4294967264#32
  let v137 : BitVec 32 := Scalar.andi v133 c_m32_i32
  v137
def k0_cond8 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c6_i32 : BitVec 32 := 6#32
  let v177 : BitVec 1 := Scalar.cmpi .eq v140 c6_i32
  let v178 : BitVec 32 := Scalar.extui v177
  let c0_i32_75 : BitVec 32 := 0#32
  let v179 : BitVec 1 := Scalar.cmpi .ne v178 c0_i32_75
  v179

def k0_off57 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off58 (arg26 : BitVec 32) : Fin 3 → Nat :=
  let v214 : Index := Scalar.indexCast arg26
  let c0_94 : Index := 0#32
  let c0_95 : Index := 0#32
  ![v214.toNat, 0, 0]
def k0_mult21 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off59 (v131 : BitVec 32) : Fin 1 → Nat :=
  let v221 : Index := Scalar.indexCast v131
  ![v221.toNat]
def k0_off60 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off61 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off62 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult22 (v133 : BitVec 32) : BitVec 32 :=
  let c_m32_i32 : BitVec 32 := 4294967264#32
  let v137 : BitVec 32 := Scalar.andi v133 c_m32_i32
  v137
def k0_cond9 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c7_i32 : BitVec 32 := 7#32
  let v180 : BitVec 1 := Scalar.cmpi .eq v140 c7_i32
  let v181 : BitVec 32 := Scalar.extui v180
  let c0_i32_76 : BitVec 32 := 0#32
  let v182 : BitVec 1 := Scalar.cmpi .ne v181 c0_i32_76
  v182

def k0_off63 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off64 (arg26 : BitVec 32) : Fin 3 → Nat :=
  let v214 : Index := Scalar.indexCast arg26
  let c0_94 : Index := 0#32
  let c0_95 : Index := 0#32
  ![v214.toNat, 0, 0]
def k0_mult23 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off65 (v131 : BitVec 32) : Fin 1 → Nat :=
  let v221 : Index := Scalar.indexCast v131
  ![v221.toNat]
def k0_off66 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off67 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off68 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult24 (v133 : BitVec 32) : BitVec 32 :=
  let c_m32_i32 : BitVec 32 := 4294967264#32
  let v137 : BitVec 32 := Scalar.andi v133 c_m32_i32
  v137
def k0_cond10 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c8_i32_77 : BitVec 32 := 8#32
  let v183 : BitVec 1 := Scalar.cmpi .eq v140 c8_i32_77
  let v184 : BitVec 32 := Scalar.extui v183
  let c0_i32_78 : BitVec 32 := 0#32
  let v185 : BitVec 1 := Scalar.cmpi .ne v184 c0_i32_78
  v185

def k0_off69 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off70 (arg26 : BitVec 32) : Fin 3 → Nat :=
  let v214 : Index := Scalar.indexCast arg26
  let c0_94 : Index := 0#32
  let c0_95 : Index := 0#32
  ![v214.toNat, 0, 0]
def k0_mult25 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off71 (v131 : BitVec 32) : Fin 1 → Nat :=
  let v221 : Index := Scalar.indexCast v131
  ![v221.toNat]
def k0_off72 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off73 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off74 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]

def k0_chk17_0 (arg22 : BitVec 32) (arg26 : BitVec 32) (v131 : BitVec 32) (v133 : BitVec 32) (v136 : BitVec 32) : Prop :=
  (∀ (k0_h3 : k0_cond3 v133 v136 = 1#1), 32 ∣ (k0_mult10 v133).toNat) ∧
  (∀ (k0_h3 : k0_cond3 v133 v136 = 1#1), ∀ a, (k0_off28 v133) a + S32x4096.size a ≤ S256x4096.size a) ∧
  (∀ (k0_h3 : k0_cond3 v133 v136 = 1#1), ∀ a, (k0_off29 arg26) a + S1x4096x512.size a ≤ S16x4096x512.size a) ∧
  (∀ (k0_h3 : k0_cond3 v133 v136 = 1#1), 512 ∣ (k0_mult11 arg22).toNat) ∧
  (∀ (k0_h3 : k0_cond3 v133 v136 = 1#1), ∀ a, (k0_off30 v131) a + S1.size a ≤ S6.size a) ∧
  (∀ (k0_h3 : k0_cond3 v133 v136 = 1#1), ∀ a, (k0_off31 arg22 v131) a + S1x512.size a ≤ S6x14336.size a) ∧
  (∀ (k0_h3 : k0_cond3 v133 v136 = 1#1), ∀ a, (k0_off32 arg22 v133) a + S1x32x512.size a ≤ S2x256x512.size a) ∧
  (∀ (k0_h3 : k0_cond3 v133 v136 = 1#1), ∀ (hinb : ∀ a, (k0_off32 arg22 v133) a + S1x32x512.size a ≤ S2x256x512.size a), (Rect.unit (s := S2x256x512) (k0_off32 arg22 v133) S1x32x512.size hinb).PackedRows (EltTy.packing .bf16)) ∧
  (∀ (k0_h4 : k0_cond4 v133 v136 = 1#1), 32 ∣ (k0_mult12 v133).toNat) ∧
  (∀ (k0_h4 : k0_cond4 v133 v136 = 1#1), ∀ a, (k0_off33 v133) a + S64x4096.size a ≤ S256x4096.size a) ∧
  (∀ (k0_h4 : k0_cond4 v133 v136 = 1#1), ∀ a, (k0_off34 arg26) a + S1x4096x512.size a ≤ S16x4096x512.size a) ∧
  (∀ (k0_h4 : k0_cond4 v133 v136 = 1#1), 512 ∣ (k0_mult13 arg22).toNat) ∧
  (∀ (k0_h4 : k0_cond4 v133 v136 = 1#1), ∀ a, (k0_off35 v131) a + S1.size a ≤ S6.size a) ∧
  (∀ (k0_h4 : k0_cond4 v133 v136 = 1#1), ∀ a, (k0_off36 arg22 v131) a + S1x512.size a ≤ S6x14336.size a) ∧
  (∀ (k0_h4 : k0_cond4 v133 v136 = 1#1), ∀ a, (k0_off37 arg22 v133) a + S1x32x512.size a ≤ S2x256x512.size a) ∧
  (∀ (k0_h4 : k0_cond4 v133 v136 = 1#1), ∀ (hinb : ∀ a, (k0_off37 arg22 v133) a + S1x32x512.size a ≤ S2x256x512.size a), (Rect.unit (s := S2x256x512) (k0_off37 arg22 v133) S1x32x512.size hinb).PackedRows (EltTy.packing .bf16)) ∧
  (∀ (k0_h4 : k0_cond4 v133 v136 = 1#1), ∀ a, (k0_off38 arg22 v133) a + S1x32x512.size a ≤ S2x256x512.size a) ∧
  (∀ (k0_h4 : k0_cond4 v133 v136 = 1#1), ∀ (hinb : ∀ a, (k0_off38 arg22 v133) a + S1x32x512.size a ≤ S2x256x512.size a), (Rect.unit (s := S2x256x512) (k0_off38 arg22 v133) S1x32x512.size hinb).PackedRows (EltTy.packing .bf16)) ∧
  (∀ (k0_h5 : k0_cond5 v133 v136 = 1#1), 32 ∣ (k0_mult14 v133).toNat) ∧
  (∀ (k0_h5 : k0_cond5 v133 v136 = 1#1), ∀ a, (k0_off39 v133) a + S96x4096.size a ≤ S256x4096.size a) ∧
  (∀ (k0_h5 : k0_cond5 v133 v136 = 1#1), ∀ a, (k0_off40 arg26) a + S1x4096x512.size a ≤ S16x4096x512.size a) ∧
  (∀ (k0_h5 : k0_cond5 v133 v136 = 1#1), 512 ∣ (k0_mult15 arg22).toNat) ∧
  (∀ (k0_h5 : k0_cond5 v133 v136 = 1#1), ∀ a, (k0_off41 v131) a + S1.size a ≤ S6.size a) ∧
  (∀ (k0_h5 : k0_cond5 v133 v136 = 1#1), ∀ a, (k0_off42 arg22 v131) a + S1x512.size a ≤ S6x14336.size a) ∧
  (∀ (k0_h5 : k0_cond5 v133 v136 = 1#1), ∀ a, (k0_off43 arg22 v133) a + S1x32x512.size a ≤ S2x256x512.size a) ∧
  (∀ (k0_h5 : k0_cond5 v133 v136 = 1#1), ∀ (hinb : ∀ a, (k0_off43 arg22 v133) a + S1x32x512.size a ≤ S2x256x512.size a), (Rect.unit (s := S2x256x512) (k0_off43 arg22 v133) S1x32x512.size hinb).PackedRows (EltTy.packing .bf16)) ∧
  (∀ (k0_h5 : k0_cond5 v133 v136 = 1#1), ∀ a, (k0_off44 arg22 v133) a + S1x64x512.size a ≤ S2x256x512.size a) ∧
  (∀ (k0_h5 : k0_cond5 v133 v136 = 1#1), ∀ (hinb : ∀ a, (k0_off44 arg22 v133) a + S1x64x512.size a ≤ S2x256x512.size a), (Rect.unit (s := S2x256x512) (k0_off44 arg22 v133) S1x64x512.size hinb).PackedRows (EltTy.packing .bf16)) ∧
  (∀ (k0_h6 : k0_cond6 v133 v136 = 1#1), 32 ∣ (k0_mult16 v133).toNat) ∧
  (∀ (k0_h6 : k0_cond6 v133 v136 = 1#1), ∀ a, (k0_off45 v133) a + S128x4096.size a ≤ S256x4096.size a) ∧
  (∀ (k0_h6 : k0_cond6 v133 v136 = 1#1), ∀ a, (k0_off46 arg26) a + S1x4096x512.size a ≤ S16x4096x512.size a) ∧
  (∀ (k0_h6 : k0_cond6 v133 v136 = 1#1), 512 ∣ (k0_mult17 arg22).toNat)
def k0_chk17_1 (arg22 : BitVec 32) (arg26 : BitVec 32) (v131 : BitVec 32) (v133 : BitVec 32) (v136 : BitVec 32) : Prop :=
  (∀ (k0_h6 : k0_cond6 v133 v136 = 1#1), ∀ a, (k0_off47 v131) a + S1.size a ≤ S6.size a) ∧
  (∀ (k0_h6 : k0_cond6 v133 v136 = 1#1), ∀ a, (k0_off48 arg22 v131) a + S1x512.size a ≤ S6x14336.size a) ∧
  (∀ (k0_h6 : k0_cond6 v133 v136 = 1#1), ∀ a, (k0_off49 arg22 v133) a + S1x32x512.size a ≤ S2x256x512.size a) ∧
  (∀ (k0_h6 : k0_cond6 v133 v136 = 1#1), ∀ (hinb : ∀ a, (k0_off49 arg22 v133) a + S1x32x512.size a ≤ S2x256x512.size a), (Rect.unit (s := S2x256x512) (k0_off49 arg22 v133) S1x32x512.size hinb).PackedRows (EltTy.packing .bf16)) ∧
  (∀ (k0_h6 : k0_cond6 v133 v136 = 1#1), ∀ a, (k0_off50 arg22 v133) a + S1x96x512.size a ≤ S2x256x512.size a) ∧
  (∀ (k0_h6 : k0_cond6 v133 v136 = 1#1), ∀ (hinb : ∀ a, (k0_off50 arg22 v133) a + S1x96x512.size a ≤ S2x256x512.size a), (Rect.unit (s := S2x256x512) (k0_off50 arg22 v133) S1x96x512.size hinb).PackedRows (EltTy.packing .bf16)) ∧
  (∀ (k0_h7 : k0_cond7 v133 v136 = 1#1), 32 ∣ (k0_mult18 v133).toNat) ∧
  (∀ (k0_h7 : k0_cond7 v133 v136 = 1#1), ∀ a, (k0_off51 v133) a + S160x4096.size a ≤ S256x4096.size a) ∧
  (∀ (k0_h7 : k0_cond7 v133 v136 = 1#1), ∀ a, (k0_off52 arg26) a + S1x4096x512.size a ≤ S16x4096x512.size a) ∧
  (∀ (k0_h7 : k0_cond7 v133 v136 = 1#1), 512 ∣ (k0_mult19 arg22).toNat) ∧
  (∀ (k0_h7 : k0_cond7 v133 v136 = 1#1), ∀ a, (k0_off53 v131) a + S1.size a ≤ S6.size a) ∧
  (∀ (k0_h7 : k0_cond7 v133 v136 = 1#1), ∀ a, (k0_off54 arg22 v131) a + S1x512.size a ≤ S6x14336.size a) ∧
  (∀ (k0_h7 : k0_cond7 v133 v136 = 1#1), ∀ a, (k0_off55 arg22 v133) a + S1x32x512.size a ≤ S2x256x512.size a) ∧
  (∀ (k0_h7 : k0_cond7 v133 v136 = 1#1), ∀ (hinb : ∀ a, (k0_off55 arg22 v133) a + S1x32x512.size a ≤ S2x256x512.size a), (Rect.unit (s := S2x256x512) (k0_off55 arg22 v133) S1x32x512.size hinb).PackedRows (EltTy.packing .bf16)) ∧
  (∀ (k0_h7 : k0_cond7 v133 v136 = 1#1), ∀ a, (k0_off56 arg22 v133) a + S1x128x512.size a ≤ S2x256x512.size a) ∧
  (∀ (k0_h7 : k0_cond7 v133 v136 = 1#1), ∀ (hinb : ∀ a, (k0_off56 arg22 v133) a + S1x128x512.size a ≤ S2x256x512.size a), (Rect.unit (s := S2x256x512) (k0_off56 arg22 v133) S1x128x512.size hinb).PackedRows (EltTy.packing .bf16)) ∧
  (∀ (k0_h8 : k0_cond8 v133 v136 = 1#1), 32 ∣ (k0_mult20 v133).toNat) ∧
  (∀ (k0_h8 : k0_cond8 v133 v136 = 1#1), ∀ a, (k0_off57 v133) a + S192x4096.size a ≤ S256x4096.size a) ∧
  (∀ (k0_h8 : k0_cond8 v133 v136 = 1#1), ∀ a, (k0_off58 arg26) a + S1x4096x512.size a ≤ S16x4096x512.size a) ∧
  (∀ (k0_h8 : k0_cond8 v133 v136 = 1#1), 512 ∣ (k0_mult21 arg22).toNat) ∧
  (∀ (k0_h8 : k0_cond8 v133 v136 = 1#1), ∀ a, (k0_off59 v131) a + S1.size a ≤ S6.size a) ∧
  (∀ (k0_h8 : k0_cond8 v133 v136 = 1#1), ∀ a, (k0_off60 arg22 v131) a + S1x512.size a ≤ S6x14336.size a) ∧
  (∀ (k0_h8 : k0_cond8 v133 v136 = 1#1), ∀ a, (k0_off61 arg22 v133) a + S1x32x512.size a ≤ S2x256x512.size a) ∧
  (∀ (k0_h8 : k0_cond8 v133 v136 = 1#1), ∀ (hinb : ∀ a, (k0_off61 arg22 v133) a + S1x32x512.size a ≤ S2x256x512.size a), (Rect.unit (s := S2x256x512) (k0_off61 arg22 v133) S1x32x512.size hinb).PackedRows (EltTy.packing .bf16)) ∧
  (∀ (k0_h8 : k0_cond8 v133 v136 = 1#1), ∀ a, (k0_off62 arg22 v133) a + S1x160x512.size a ≤ S2x256x512.size a) ∧
  (∀ (k0_h8 : k0_cond8 v133 v136 = 1#1), ∀ (hinb : ∀ a, (k0_off62 arg22 v133) a + S1x160x512.size a ≤ S2x256x512.size a), (Rect.unit (s := S2x256x512) (k0_off62 arg22 v133) S1x160x512.size hinb).PackedRows (EltTy.packing .bf16)) ∧
  (∀ (k0_h9 : k0_cond9 v133 v136 = 1#1), 32 ∣ (k0_mult22 v133).toNat) ∧
  (∀ (k0_h9 : k0_cond9 v133 v136 = 1#1), ∀ a, (k0_off63 v133) a + S224x4096.size a ≤ S256x4096.size a) ∧
  (∀ (k0_h9 : k0_cond9 v133 v136 = 1#1), ∀ a, (k0_off64 arg26) a + S1x4096x512.size a ≤ S16x4096x512.size a) ∧
  (∀ (k0_h9 : k0_cond9 v133 v136 = 1#1), 512 ∣ (k0_mult23 arg22).toNat) ∧
  (∀ (k0_h9 : k0_cond9 v133 v136 = 1#1), ∀ a, (k0_off65 v131) a + S1.size a ≤ S6.size a) ∧
  (∀ (k0_h9 : k0_cond9 v133 v136 = 1#1), ∀ a, (k0_off66 arg22 v131) a + S1x512.size a ≤ S6x14336.size a)
def k0_chk17_2 (arg22 : BitVec 32) (arg26 : BitVec 32) (v131 : BitVec 32) (v133 : BitVec 32) (v136 : BitVec 32) : Prop :=
  (∀ (k0_h9 : k0_cond9 v133 v136 = 1#1), ∀ a, (k0_off67 arg22 v133) a + S1x32x512.size a ≤ S2x256x512.size a) ∧
  (∀ (k0_h9 : k0_cond9 v133 v136 = 1#1), ∀ (hinb : ∀ a, (k0_off67 arg22 v133) a + S1x32x512.size a ≤ S2x256x512.size a), (Rect.unit (s := S2x256x512) (k0_off67 arg22 v133) S1x32x512.size hinb).PackedRows (EltTy.packing .bf16)) ∧
  (∀ (k0_h9 : k0_cond9 v133 v136 = 1#1), ∀ a, (k0_off68 arg22 v133) a + S1x192x512.size a ≤ S2x256x512.size a) ∧
  (∀ (k0_h9 : k0_cond9 v133 v136 = 1#1), ∀ (hinb : ∀ a, (k0_off68 arg22 v133) a + S1x192x512.size a ≤ S2x256x512.size a), (Rect.unit (s := S2x256x512) (k0_off68 arg22 v133) S1x192x512.size hinb).PackedRows (EltTy.packing .bf16)) ∧
  (∀ (k0_h10 : k0_cond10 v133 v136 = 1#1), 32 ∣ (k0_mult24 v133).toNat) ∧
  (∀ (k0_h10 : k0_cond10 v133 v136 = 1#1), ∀ a, (k0_off69 v133) a + S256x4096.size a ≤ S256x4096.size a) ∧
  (∀ (k0_h10 : k0_cond10 v133 v136 = 1#1), ∀ a, (k0_off70 arg26) a + S1x4096x512.size a ≤ S16x4096x512.size a) ∧
  (∀ (k0_h10 : k0_cond10 v133 v136 = 1#1), 512 ∣ (k0_mult25 arg22).toNat) ∧
  (∀ (k0_h10 : k0_cond10 v133 v136 = 1#1), ∀ a, (k0_off71 v131) a + S1.size a ≤ S6.size a) ∧
  (∀ (k0_h10 : k0_cond10 v133 v136 = 1#1), ∀ a, (k0_off72 arg22 v131) a + S1x512.size a ≤ S6x14336.size a) ∧
  (∀ (k0_h10 : k0_cond10 v133 v136 = 1#1), ∀ a, (k0_off73 arg22 v133) a + S1x32x512.size a ≤ S2x256x512.size a) ∧
  (∀ (k0_h10 : k0_cond10 v133 v136 = 1#1), ∀ (hinb : ∀ a, (k0_off73 arg22 v133) a + S1x32x512.size a ≤ S2x256x512.size a), (Rect.unit (s := S2x256x512) (k0_off73 arg22 v133) S1x32x512.size hinb).PackedRows (EltTy.packing .bf16)) ∧
  (∀ (k0_h10 : k0_cond10 v133 v136 = 1#1), ∀ a, (k0_off74 arg22 v133) a + S1x224x512.size a ≤ S2x256x512.size a) ∧
  (∀ (k0_h10 : k0_cond10 v133 v136 = 1#1), ∀ (hinb : ∀ a, (k0_off74 arg22 v133) a + S1x224x512.size a ≤ S2x256x512.size a), (Rect.unit (s := S2x256x512) (k0_off74 arg22 v133) S1x224x512.size hinb).PackedRows (EltTy.packing .bf16))
def k0_chk17 (arg22 : BitVec 32) (arg26 : BitVec 32) (v131 : BitVec 32) (v133 : BitVec 32) (v136 : BitVec 32) : Prop :=
  k0_chk17_0 arg22 arg26 v131 v133 v136 ∧
  k0_chk17_1 arg22 arg26 v131 v133 v136 ∧
  k0_chk17_2 arg22 arg26 v131 v133 v136
theorem k0_mult10_dvd : ∀ (arg22 : BitVec 32) (arg26 : BitVec 32) (v131 : BitVec 32) (v133 : BitVec 32) (v136 : BitVec 32) (k0_hw17 : k0_chk17 arg22 arg26 v131 v133 v136), ∀ (k0_h3 : k0_cond3 v133 v136 = 1#1), 32 ∣ (k0_mult10 v133).toNat := fun arg22 arg26 v131 v133 v136 k0_hw17 k0_h3 => k0_hw17.1.1 k0_h3
theorem k0_off28_inb : ∀ (arg22 : BitVec 32) (arg26 : BitVec 32) (v131 : BitVec 32) (v133 : BitVec 32) (v136 : BitVec 32) (k0_hw17 : k0_chk17 arg22 arg26 v131 v133 v136), ∀ (k0_h3 : k0_cond3 v133 v136 = 1#1), ∀ a, (k0_off28 v133) a + S32x4096.size a ≤ S256x4096.size a := fun arg22 arg26 v131 v133 v136 k0_hw17 k0_h3 => k0_hw17.1.2.1 k0_h3
theorem k0_off29_inb : ∀ (arg22 : BitVec 32) (arg26 : BitVec 32) (v131 : BitVec 32) (v133 : BitVec 32) (v136 : BitVec 32) (k0_hw17 : k0_chk17 arg22 arg26 v131 v133 v136), ∀ (k0_h3 : k0_cond3 v133 v136 = 1#1), ∀ a, (k0_off29 arg26) a + S1x4096x512.size a ≤ S16x4096x512.size a := fun arg22 arg26 v131 v133 v136 k0_hw17 k0_h3 => k0_hw17.1.2.2.1 k0_h3
theorem k0_mult11_dvd : ∀ (arg22 : BitVec 32) (arg26 : BitVec 32) (v131 : BitVec 32) (v133 : BitVec 32) (v136 : BitVec 32) (k0_hw17 : k0_chk17 arg22 arg26 v131 v133 v136), ∀ (k0_h3 : k0_cond3 v133 v136 = 1#1), 512 ∣ (k0_mult11 arg22).toNat := fun arg22 arg26 v131 v133 v136 k0_hw17 k0_h3 => k0_hw17.1.2.2.2.1 k0_h3
theorem k0_off30_inb : ∀ (arg22 : BitVec 32) (arg26 : BitVec 32) (v131 : BitVec 32) (v133 : BitVec 32) (v136 : BitVec 32) (k0_hw17 : k0_chk17 arg22 arg26 v131 v133 v136), ∀ (k0_h3 : k0_cond3 v133 v136 = 1#1), ∀ a, (k0_off30 v131) a + S1.size a ≤ S6.size a := fun arg22 arg26 v131 v133 v136 k0_hw17 k0_h3 => k0_hw17.1.2.2.2.2.1 k0_h3
theorem k0_off31_inb : ∀ (arg22 : BitVec 32) (arg26 : BitVec 32) (v131 : BitVec 32) (v133 : BitVec 32) (v136 : BitVec 32) (k0_hw17 : k0_chk17 arg22 arg26 v131 v133 v136), ∀ (k0_h3 : k0_cond3 v133 v136 = 1#1), ∀ a, (k0_off31 arg22 v131) a + S1x512.size a ≤ S6x14336.size a := fun arg22 arg26 v131 v133 v136 k0_hw17 k0_h3 => k0_hw17.1.2.2.2.2.2.1 k0_h3
theorem k0_off32_inb : ∀ (arg22 : BitVec 32) (arg26 : BitVec 32) (v131 : BitVec 32) (v133 : BitVec 32) (v136 : BitVec 32) (k0_hw17 : k0_chk17 arg22 arg26 v131 v133 v136), ∀ (k0_h3 : k0_cond3 v133 v136 = 1#1), ∀ a, (k0_off32 arg22 v133) a + S1x32x512.size a ≤ S2x256x512.size a := fun arg22 arg26 v131 v133 v136 k0_hw17 k0_h3 => k0_hw17.1.2.2.2.2.2.2.1 k0_h3
theorem k0_off32_packedbf16 : ∀ (arg22 : BitVec 32) (arg26 : BitVec 32) (v131 : BitVec 32) (v133 : BitVec 32) (v136 : BitVec 32) (k0_hw17 : k0_chk17 arg22 arg26 v131 v133 v136), ∀ (k0_h3 : k0_cond3 v133 v136 = 1#1), (Rect.unit (s := S2x256x512) (k0_off32 arg22 v133) S1x32x512.size (k0_off32_inb arg22 arg26 v131 v133 v136 k0_hw17 k0_h3)).PackedRows (EltTy.packing .bf16) := fun arg22 arg26 v131 v133 v136 k0_hw17 k0_h3 => k0_hw17.1.2.2.2.2.2.2.2.1 k0_h3 (k0_off32_inb arg22 arg26 v131 v133 v136 k0_hw17 k0_h3)
theorem k0_mult12_dvd : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), 32 ∣ (k0_mult12 v133).toNat := fun arg22 arg26 v131 v133 v136 k0_hw17 k0_h4 => k0_hw17.1.2.2.2.2.2.2.2.2.1 k0_h4
theorem k0_off33_inb : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), ∀ a, (k0_off33 v133) a + S64x4096.size a ≤ S256x4096.size a := fun arg22 arg26 v131 v133 v136 k0_hw17 k0_h4 => k0_hw17.1.2.2.2.2.2.2.2.2.2.1 k0_h4
theorem k0_off34_inb : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), ∀ a, (k0_off34 arg26) a + S1x4096x512.size a ≤ S16x4096x512.size a := fun arg22 arg26 v131 v133 v136 k0_hw17 k0_h4 => k0_hw17.1.2.2.2.2.2.2.2.2.2.2.1 k0_h4
theorem k0_mult13_dvd : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), 512 ∣ (k0_mult13 arg22).toNat := fun arg22 arg26 v131 v133 v136 k0_hw17 k0_h4 => k0_hw17.1.2.2.2.2.2.2.2.2.2.2.2.1 k0_h4
theorem k0_off35_inb : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), ∀ a, (k0_off35 v131) a + S1.size a ≤ S6.size a := fun arg22 arg26 v131 v133 v136 k0_hw17 k0_h4 => k0_hw17.1.2.2.2.2.2.2.2.2.2.2.2.2.1 k0_h4
theorem k0_off36_inb : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), ∀ a, (k0_off36 arg22 v131) a + S1x512.size a ≤ S6x14336.size a := fun arg22 arg26 v131 v133 v136 k0_hw17 k0_h4 => k0_hw17.1.2.2.2.2.2.2.2.2.2.2.2.2.2.1 k0_h4
theorem k0_off37_inb : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), ∀ a, (k0_off37 arg22 v133) a + S1x32x512.size a ≤ S2x256x512.size a := fun arg22 arg26 v131 v133 v136 k0_hw17 k0_h4 => k0_hw17.1.2.2.2.2.2.2.2.2.2.2.2.2.2.2.1 k0_h4
theorem k0_off37_packedbf16 : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), (Rect.unit (s := S2x256x512) (k0_off37 arg22 v133) S1x32x512.size (k0_off37_inb arg22 arg26 v131 v133 v136 k0_hw17 k0_h4)).PackedRows (EltTy.packing .bf16) := fun arg22 arg26 v131 v133 v136 k0_hw17 k0_h4 => k0_hw17.1.2.2.2.2.2.2.2.2.2.2.2.2.2.2.2.1 k0_h4 (k0_off37_inb arg22 arg26 v131 v133 v136 k0_hw17 k0_h4)
theorem k0_off38_inb : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), ∀ a, (k0_off38 arg22 v133) a + S1x32x512.size a ≤ S2x256x512.size a := fun arg22 arg26 v131 v133 v136 k0_hw17 k0_h4 => k0_hw17.1.2.2.2.2.2.2.2.2.2.2.2.2.2.2.2.2.1 k0_h4
theorem k0_off38_packedbf16 : ∀ (arg22 : BitVec 32) (arg26 : BitVec 32) (v131 : BitVec 32) (v133 : BitVec 32) (v136 : BitVec 32) (k0_hw17 : k0_chk17 arg22 arg26 v131 v133 v136), ∀ (k0_h4 : k0_cond4 v133 v136 = 1#1), (Rect.unit (s := S2x256x512) (k0_off38 arg22 v133) S1x32x512.size (k0_off38_inb arg22 arg26 v131 v133 v136 k0_hw17 k0_h4)).PackedRows (EltTy.packing .bf16) := fun arg22 arg26 v131 v133 v136 k0_hw17 k0_h4 => k0_hw17.1.2.2.2.2.2.2.2.2.2.2.2.2.2.2.2.2.2.1 k0_h4 (k0_off38_inb arg22 arg26 v131 v133 v136 k0_hw17 k0_h4)
theorem k0_mult14_dvd : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), 32 ∣ (k0_mult14 v133).toNat := fun arg22 arg26 v131 v133 v136 k0_hw17 k0_h5 => k0_hw17.1.2.2.2.2.2.2.2.2.2.2.2.2.2.2.2.2.2.2.1 k0_h5
theorem k0_off39_inb : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), ∀ a, (k0_off39 v133) a + S96x4096.size a ≤ S256x4096.size a := fun arg22 arg26 v131 v133 v136 k0_hw17 k0_h5 => k0_hw17.1.2.2.2.2.2.2.2.2.2.2.2.2.2.2.2.2.2.2.2.1 k0_h5
theorem k0_off40_inb : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), ∀ a, (k0_off40 arg26) a + S1x4096x512.size a ≤ S16x4096x512.size a := fun arg22 arg26 v131 v133 v136 k0_hw17 k0_h5 => k0_hw17.1.2.2.2.2.2.2.2.2.2.2.2.2.2.2.2.2.2.2.2.2.1 k0_h5
theorem k0_mult15_dvd : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), 512 ∣ (k0_mult15 arg22).toNat := fun arg22 arg26 v131 v133 v136 k0_hw17 k0_h5 => k0_hw17.1.2.2.2.2.2.2.2.2.2.2.2.2.2.2.2.2.2.2.2.2.2.1 k0_h5
theorem k0_off41_inb : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), ∀ a, (k0_off41 v131) a + S1.size a ≤ S6.size a := fun arg22 arg26 v131 v133 v136 k0_hw17 k0_h5 => k0_hw17.1.2.2.2.2.2.2.2.2.2.2.2.2.2.2.2.2.2.2.2.2.2.2.1 k0_h5
theorem k0_off42_inb : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), ∀ a, (k0_off42 arg22 v131) a + S1x512.size a ≤ S6x14336.size a := fun arg22 arg26 v131 v133 v136 k0_hw17 k0_h5 => k0_hw17.1.2.2.2.2.2.2.2.2.2.2.2.2.2.2.2.2.2.2.2.2.2.2.2.1 k0_h5
theorem k0_off43_inb : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), ∀ a, (k0_off43 arg22 v133) a + S1x32x512.size a ≤ S2x256x512.size a := fun arg22 arg26 v131 v133 v136 k0_hw17 k0_h5 => k0_hw17.1.2.2.2.2.2.2.2.2.2.2.2.2.2.2.2.2.2.2.2.2.2.2.2.2.1 k0_h5
theorem k0_off43_packedbf16 : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), (Rect.unit (s := S2x256x512) (k0_off43 arg22 v133) S1x32x512.size (k0_off43_inb arg22 arg26 v131 v133 v136 k0_hw17 k0_h5)).PackedRows (EltTy.packing .bf16) := fun arg22 arg26 v131 v133 v136 k0_hw17 k0_h5 => k0_hw17.1.2.2.2.2.2.2.2.2.2.2.2.2.2.2.2.2.2.2.2.2.2.2.2.2.2.1 k0_h5 (k0_off43_inb arg22 arg26 v131 v133 v136 k0_hw17 k0_h5)
theorem k0_off44_inb : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), ∀ a, (k0_off44 arg22 v133) a + S1x64x512.size a ≤ S2x256x512.size a := fun arg22 arg26 v131 v133 v136 k0_hw17 k0_h5 => k0_hw17.1.2.2.2.2.2.2.2.2.2.2.2.2.2.2.2.2.2.2.2.2.2.2.2.2.2.2.1 k0_h5
theorem k0_off44_packedbf16 : ∀ (arg22 : BitVec 32) (arg26 : BitVec 32) (v131 : BitVec 32) (v133 : BitVec 32) (v136 : BitVec 32) (k0_hw17 : k0_chk17 arg22 arg26 v131 v133 v136), ∀ (k0_h5 : k0_cond5 v133 v136 = 1#1), (Rect.unit (s := S2x256x512) (k0_off44 arg22 v133) S1x64x512.size (k0_off44_inb arg22 arg26 v131 v133 v136 k0_hw17 k0_h5)).PackedRows (EltTy.packing .bf16) := fun arg22 arg26 v131 v133 v136 k0_hw17 k0_h5 => k0_hw17.1.2.2.2.2.2.2.2.2.2.2.2.2.2.2.2.2.2.2.2.2.2.2.2.2.2.2.2.1 k0_h5 (k0_off44_inb arg22 arg26 v131 v133 v136 k0_hw17 k0_h5)
theorem k0_mult16_dvd : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), 32 ∣ (k0_mult16 v133).toNat := fun arg22 arg26 v131 v133 v136 k0_hw17 k0_h6 => k0_hw17.1.2.2.2.2.2.2.2.2.2.2.2.2.2.2.2.2.2.2.2.2.2.2.2.2.2.2.2.2.1 k0_h6
theorem k0_off45_inb : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), ∀ a, (k0_off45 v133) a + S128x4096.size a ≤ S256x4096.size a := fun arg22 arg26 v131 v133 v136 k0_hw17 k0_h6 => k0_hw17.1.2.2.2.2.2.2.2.2.2.2.2.2.2.2.2.2.2.2.2.2.2.2.2.2.2.2.2.2.2.1 k0_h6
theorem k0_off46_inb : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), ∀ a, (k0_off46 arg26) a + S1x4096x512.size a ≤ S16x4096x512.size a := fun arg22 arg26 v131 v133 v136 k0_hw17 k0_h6 => k0_hw17.1.2.2.2.2.2.2.2.2.2.2.2.2.2.2.2.2.2.2.2.2.2.2.2.2.2.2.2.2.2.2.1 k0_h6
theorem k0_mult17_dvd : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), 512 ∣ (k0_mult17 arg22).toNat := fun arg22 arg26 v131 v133 v136 k0_hw17 k0_h6 => k0_hw17.1.2.2.2.2.2.2.2.2.2.2.2.2.2.2.2.2.2.2.2.2.2.2.2.2.2.2.2.2.2.2.2 k0_h6
theorem k0_off47_inb : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), ∀ a, (k0_off47 v131) a + S1.size a ≤ S6.size a := fun arg22 arg26 v131 v133 v136 k0_hw17 k0_h6 => k0_hw17.2.1.1 k0_h6
theorem k0_off48_inb : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), ∀ a, (k0_off48 arg22 v131) a + S1x512.size a ≤ S6x14336.size a := fun arg22 arg26 v131 v133 v136 k0_hw17 k0_h6 => k0_hw17.2.1.2.1 k0_h6
theorem k0_off49_inb : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), ∀ a, (k0_off49 arg22 v133) a + S1x32x512.size a ≤ S2x256x512.size a := fun arg22 arg26 v131 v133 v136 k0_hw17 k0_h6 => k0_hw17.2.1.2.2.1 k0_h6
theorem k0_off49_packedbf16 : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), (Rect.unit (s := S2x256x512) (k0_off49 arg22 v133) S1x32x512.size (k0_off49_inb arg22 arg26 v131 v133 v136 k0_hw17 k0_h6)).PackedRows (EltTy.packing .bf16) := fun arg22 arg26 v131 v133 v136 k0_hw17 k0_h6 => k0_hw17.2.1.2.2.2.1 k0_h6 (k0_off49_inb arg22 arg26 v131 v133 v136 k0_hw17 k0_h6)
theorem k0_off50_inb : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), ∀ a, (k0_off50 arg22 v133) a + S1x96x512.size a ≤ S2x256x512.size a := fun arg22 arg26 v131 v133 v136 k0_hw17 k0_h6 => k0_hw17.2.1.2.2.2.2.1 k0_h6
theorem k0_off50_packedbf16 : ∀ (arg22 : BitVec 32) (arg26 : BitVec 32) (v131 : BitVec 32) (v133 : BitVec 32) (v136 : BitVec 32) (k0_hw17 : k0_chk17 arg22 arg26 v131 v133 v136), ∀ (k0_h6 : k0_cond6 v133 v136 = 1#1), (Rect.unit (s := S2x256x512) (k0_off50 arg22 v133) S1x96x512.size (k0_off50_inb arg22 arg26 v131 v133 v136 k0_hw17 k0_h6)).PackedRows (EltTy.packing .bf16) := fun arg22 arg26 v131 v133 v136 k0_hw17 k0_h6 => k0_hw17.2.1.2.2.2.2.2.1 k0_h6 (k0_off50_inb arg22 arg26 v131 v133 v136 k0_hw17 k0_h6)
theorem k0_mult18_dvd : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), 32 ∣ (k0_mult18 v133).toNat := fun arg22 arg26 v131 v133 v136 k0_hw17 k0_h7 => k0_hw17.2.1.2.2.2.2.2.2.1 k0_h7
theorem k0_off51_inb : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), ∀ a, (k0_off51 v133) a + S160x4096.size a ≤ S256x4096.size a := fun arg22 arg26 v131 v133 v136 k0_hw17 k0_h7 => k0_hw17.2.1.2.2.2.2.2.2.2.1 k0_h7
theorem k0_off52_inb : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), ∀ a, (k0_off52 arg26) a + S1x4096x512.size a ≤ S16x4096x512.size a := fun arg22 arg26 v131 v133 v136 k0_hw17 k0_h7 => k0_hw17.2.1.2.2.2.2.2.2.2.2.1 k0_h7
theorem k0_mult19_dvd : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), 512 ∣ (k0_mult19 arg22).toNat := fun arg22 arg26 v131 v133 v136 k0_hw17 k0_h7 => k0_hw17.2.1.2.2.2.2.2.2.2.2.2.1 k0_h7
theorem k0_off53_inb : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), ∀ a, (k0_off53 v131) a + S1.size a ≤ S6.size a := fun arg22 arg26 v131 v133 v136 k0_hw17 k0_h7 => k0_hw17.2.1.2.2.2.2.2.2.2.2.2.2.1 k0_h7
theorem k0_off54_inb : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), ∀ a, (k0_off54 arg22 v131) a + S1x512.size a ≤ S6x14336.size a := fun arg22 arg26 v131 v133 v136 k0_hw17 k0_h7 => k0_hw17.2.1.2.2.2.2.2.2.2.2.2.2.2.1 k0_h7
theorem k0_off55_inb : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), ∀ a, (k0_off55 arg22 v133) a + S1x32x512.size a ≤ S2x256x512.size a := fun arg22 arg26 v131 v133 v136 k0_hw17 k0_h7 => k0_hw17.2.1.2.2.2.2.2.2.2.2.2.2.2.2.1 k0_h7
theorem k0_off55_packedbf16 : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), (Rect.unit (s := S2x256x512) (k0_off55 arg22 v133) S1x32x512.size (k0_off55_inb arg22 arg26 v131 v133 v136 k0_hw17 k0_h7)).PackedRows (EltTy.packing .bf16) := fun arg22 arg26 v131 v133 v136 k0_hw17 k0_h7 => k0_hw17.2.1.2.2.2.2.2.2.2.2.2.2.2.2.2.1 k0_h7 (k0_off55_inb arg22 arg26 v131 v133 v136 k0_hw17 k0_h7)
theorem k0_off56_inb : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), ∀ a, (k0_off56 arg22 v133) a + S1x128x512.size a ≤ S2x256x512.size a := fun arg22 arg26 v131 v133 v136 k0_hw17 k0_h7 => k0_hw17.2.1.2.2.2.2.2.2.2.2.2.2.2.2.2.2.1 k0_h7
theorem k0_off56_packedbf16 : ∀ (arg22 : BitVec 32) (arg26 : BitVec 32) (v131 : BitVec 32) (v133 : BitVec 32) (v136 : BitVec 32) (k0_hw17 : k0_chk17 arg22 arg26 v131 v133 v136), ∀ (k0_h7 : k0_cond7 v133 v136 = 1#1), (Rect.unit (s := S2x256x512) (k0_off56 arg22 v133) S1x128x512.size (k0_off56_inb arg22 arg26 v131 v133 v136 k0_hw17 k0_h7)).PackedRows (EltTy.packing .bf16) := fun arg22 arg26 v131 v133 v136 k0_hw17 k0_h7 => k0_hw17.2.1.2.2.2.2.2.2.2.2.2.2.2.2.2.2.2.1 k0_h7 (k0_off56_inb arg22 arg26 v131 v133 v136 k0_hw17 k0_h7)
theorem k0_mult20_dvd : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), 32 ∣ (k0_mult20 v133).toNat := fun arg22 arg26 v131 v133 v136 k0_hw17 k0_h8 => k0_hw17.2.1.2.2.2.2.2.2.2.2.2.2.2.2.2.2.2.2.1 k0_h8
theorem k0_off57_inb : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), ∀ a, (k0_off57 v133) a + S192x4096.size a ≤ S256x4096.size a := fun arg22 arg26 v131 v133 v136 k0_hw17 k0_h8 => k0_hw17.2.1.2.2.2.2.2.2.2.2.2.2.2.2.2.2.2.2.2.1 k0_h8
theorem k0_off58_inb : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), ∀ a, (k0_off58 arg26) a + S1x4096x512.size a ≤ S16x4096x512.size a := fun arg22 arg26 v131 v133 v136 k0_hw17 k0_h8 => k0_hw17.2.1.2.2.2.2.2.2.2.2.2.2.2.2.2.2.2.2.2.2.1 k0_h8
theorem k0_mult21_dvd : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), 512 ∣ (k0_mult21 arg22).toNat := fun arg22 arg26 v131 v133 v136 k0_hw17 k0_h8 => k0_hw17.2.1.2.2.2.2.2.2.2.2.2.2.2.2.2.2.2.2.2.2.2.1 k0_h8
theorem k0_off59_inb : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), ∀ a, (k0_off59 v131) a + S1.size a ≤ S6.size a := fun arg22 arg26 v131 v133 v136 k0_hw17 k0_h8 => k0_hw17.2.1.2.2.2.2.2.2.2.2.2.2.2.2.2.2.2.2.2.2.2.2.1 k0_h8
theorem k0_off60_inb : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), ∀ a, (k0_off60 arg22 v131) a + S1x512.size a ≤ S6x14336.size a := fun arg22 arg26 v131 v133 v136 k0_hw17 k0_h8 => k0_hw17.2.1.2.2.2.2.2.2.2.2.2.2.2.2.2.2.2.2.2.2.2.2.2.1 k0_h8
theorem k0_off61_inb : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), ∀ a, (k0_off61 arg22 v133) a + S1x32x512.size a ≤ S2x256x512.size a := fun arg22 arg26 v131 v133 v136 k0_hw17 k0_h8 => k0_hw17.2.1.2.2.2.2.2.2.2.2.2.2.2.2.2.2.2.2.2.2.2.2.2.2.1 k0_h8
theorem k0_off61_packedbf16 : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), (Rect.unit (s := S2x256x512) (k0_off61 arg22 v133) S1x32x512.size (k0_off61_inb arg22 arg26 v131 v133 v136 k0_hw17 k0_h8)).PackedRows (EltTy.packing .bf16) := fun arg22 arg26 v131 v133 v136 k0_hw17 k0_h8 => k0_hw17.2.1.2.2.2.2.2.2.2.2.2.2.2.2.2.2.2.2.2.2.2.2.2.2.2.1 k0_h8 (k0_off61_inb arg22 arg26 v131 v133 v136 k0_hw17 k0_h8)
theorem k0_off62_inb : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), ∀ a, (k0_off62 arg22 v133) a + S1x160x512.size a ≤ S2x256x512.size a := fun arg22 arg26 v131 v133 v136 k0_hw17 k0_h8 => k0_hw17.2.1.2.2.2.2.2.2.2.2.2.2.2.2.2.2.2.2.2.2.2.2.2.2.2.2.1 k0_h8
theorem k0_off62_packedbf16 : ∀ (arg22 : BitVec 32) (arg26 : BitVec 32) (v131 : BitVec 32) (v133 : BitVec 32) (v136 : BitVec 32) (k0_hw17 : k0_chk17 arg22 arg26 v131 v133 v136), ∀ (k0_h8 : k0_cond8 v133 v136 = 1#1), (Rect.unit (s := S2x256x512) (k0_off62 arg22 v133) S1x160x512.size (k0_off62_inb arg22 arg26 v131 v133 v136 k0_hw17 k0_h8)).PackedRows (EltTy.packing .bf16) := fun arg22 arg26 v131 v133 v136 k0_hw17 k0_h8 => k0_hw17.2.1.2.2.2.2.2.2.2.2.2.2.2.2.2.2.2.2.2.2.2.2.2.2.2.2.2.1 k0_h8 (k0_off62_inb arg22 arg26 v131 v133 v136 k0_hw17 k0_h8)
theorem k0_mult22_dvd : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), 32 ∣ (k0_mult22 v133).toNat := fun arg22 arg26 v131 v133 v136 k0_hw17 k0_h9 => k0_hw17.2.1.2.2.2.2.2.2.2.2.2.2.2.2.2.2.2.2.2.2.2.2.2.2.2.2.2.2.1 k0_h9
theorem k0_off63_inb : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), ∀ a, (k0_off63 v133) a + S224x4096.size a ≤ S256x4096.size a := fun arg22 arg26 v131 v133 v136 k0_hw17 k0_h9 => k0_hw17.2.1.2.2.2.2.2.2.2.2.2.2.2.2.2.2.2.2.2.2.2.2.2.2.2.2.2.2.2.1 k0_h9
theorem k0_off64_inb : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), ∀ a, (k0_off64 arg26) a + S1x4096x512.size a ≤ S16x4096x512.size a := fun arg22 arg26 v131 v133 v136 k0_hw17 k0_h9 => k0_hw17.2.1.2.2.2.2.2.2.2.2.2.2.2.2.2.2.2.2.2.2.2.2.2.2.2.2.2.2.2.2.1 k0_h9
theorem k0_mult23_dvd : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), 512 ∣ (k0_mult23 arg22).toNat := fun arg22 arg26 v131 v133 v136 k0_hw17 k0_h9 => k0_hw17.2.1.2.2.2.2.2.2.2.2.2.2.2.2.2.2.2.2.2.2.2.2.2.2.2.2.2.2.2.2.2.1 k0_h9
theorem k0_off65_inb : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), ∀ a, (k0_off65 v131) a + S1.size a ≤ S6.size a := fun arg22 arg26 v131 v133 v136 k0_hw17 k0_h9 => k0_hw17.2.1.2.2.2.2.2.2.2.2.2.2.2.2.2.2.2.2.2.2.2.2.2.2.2.2.2.2.2.2.2.2.1 k0_h9
theorem k0_off66_inb : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), ∀ a, (k0_off66 arg22 v131) a + S1x512.size a ≤ S6x14336.size a := fun arg22 arg26 v131 v133 v136 k0_hw17 k0_h9 => k0_hw17.2.1.2.2.2.2.2.2.2.2.2.2.2.2.2.2.2.2.2.2.2.2.2.2.2.2.2.2.2.2.2.2.2 k0_h9
theorem k0_off67_inb : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), ∀ a, (k0_off67 arg22 v133) a + S1x32x512.size a ≤ S2x256x512.size a := fun arg22 arg26 v131 v133 v136 k0_hw17 k0_h9 => k0_hw17.2.2.1 k0_h9
theorem k0_off67_packedbf16 : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), (Rect.unit (s := S2x256x512) (k0_off67 arg22 v133) S1x32x512.size (k0_off67_inb arg22 arg26 v131 v133 v136 k0_hw17 k0_h9)).PackedRows (EltTy.packing .bf16) := fun arg22 arg26 v131 v133 v136 k0_hw17 k0_h9 => k0_hw17.2.2.2.1 k0_h9 (k0_off67_inb arg22 arg26 v131 v133 v136 k0_hw17 k0_h9)
theorem k0_off68_inb : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), ∀ a, (k0_off68 arg22 v133) a + S1x192x512.size a ≤ S2x256x512.size a := fun arg22 arg26 v131 v133 v136 k0_hw17 k0_h9 => k0_hw17.2.2.2.2.1 k0_h9
theorem k0_off68_packedbf16 : ∀ (arg22 : BitVec 32) (arg26 : BitVec 32) (v131 : BitVec 32) (v133 : BitVec 32) (v136 : BitVec 32) (k0_hw17 : k0_chk17 arg22 arg26 v131 v133 v136), ∀ (k0_h9 : k0_cond9 v133 v136 = 1#1), (Rect.unit (s := S2x256x512) (k0_off68 arg22 v133) S1x192x512.size (k0_off68_inb arg22 arg26 v131 v133 v136 k0_hw17 k0_h9)).PackedRows (EltTy.packing .bf16) := fun arg22 arg26 v131 v133 v136 k0_hw17 k0_h9 => k0_hw17.2.2.2.2.2.1 k0_h9 (k0_off68_inb arg22 arg26 v131 v133 v136 k0_hw17 k0_h9)
theorem k0_mult24_dvd : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), 32 ∣ (k0_mult24 v133).toNat := fun arg22 arg26 v131 v133 v136 k0_hw17 k0_h10 => k0_hw17.2.2.2.2.2.2.1 k0_h10
theorem k0_off69_inb : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), ∀ a, (k0_off69 v133) a + S256x4096.size a ≤ S256x4096.size a := fun arg22 arg26 v131 v133 v136 k0_hw17 k0_h10 => k0_hw17.2.2.2.2.2.2.2.1 k0_h10
theorem k0_off70_inb : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), ∀ a, (k0_off70 arg26) a + S1x4096x512.size a ≤ S16x4096x512.size a := fun arg22 arg26 v131 v133 v136 k0_hw17 k0_h10 => k0_hw17.2.2.2.2.2.2.2.2.1 k0_h10
theorem k0_mult25_dvd : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), 512 ∣ (k0_mult25 arg22).toNat := fun arg22 arg26 v131 v133 v136 k0_hw17 k0_h10 => k0_hw17.2.2.2.2.2.2.2.2.2.1 k0_h10
theorem k0_off71_inb : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), ∀ a, (k0_off71 v131) a + S1.size a ≤ S6.size a := fun arg22 arg26 v131 v133 v136 k0_hw17 k0_h10 => k0_hw17.2.2.2.2.2.2.2.2.2.2.1 k0_h10
theorem k0_off72_inb : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), ∀ a, (k0_off72 arg22 v131) a + S1x512.size a ≤ S6x14336.size a := fun arg22 arg26 v131 v133 v136 k0_hw17 k0_h10 => k0_hw17.2.2.2.2.2.2.2.2.2.2.2.1 k0_h10
theorem k0_off73_inb : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), ∀ a, (k0_off73 arg22 v133) a + S1x32x512.size a ≤ S2x256x512.size a := fun arg22 arg26 v131 v133 v136 k0_hw17 k0_h10 => k0_hw17.2.2.2.2.2.2.2.2.2.2.2.2.1 k0_h10
theorem k0_off73_packedbf16 : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), (Rect.unit (s := S2x256x512) (k0_off73 arg22 v133) S1x32x512.size (k0_off73_inb arg22 arg26 v131 v133 v136 k0_hw17 k0_h10)).PackedRows (EltTy.packing .bf16) := fun arg22 arg26 v131 v133 v136 k0_hw17 k0_h10 => k0_hw17.2.2.2.2.2.2.2.2.2.2.2.2.2.1 k0_h10 (k0_off73_inb arg22 arg26 v131 v133 v136 k0_hw17 k0_h10)
theorem k0_off74_inb : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), ∀ a, (k0_off74 arg22 v133) a + S1x224x512.size a ≤ S2x256x512.size a := fun arg22 arg26 v131 v133 v136 k0_hw17 k0_h10 => k0_hw17.2.2.2.2.2.2.2.2.2.2.2.2.2.2.1 k0_h10
theorem k0_off74_packedbf16 : ∀ (arg22 : BitVec 32) (arg26 : BitVec 32) (v131 : BitVec 32) (v133 : BitVec 32) (v136 : BitVec 32) (k0_hw17 : k0_chk17 arg22 arg26 v131 v133 v136), ∀ (k0_h10 : k0_cond10 v133 v136 = 1#1), (Rect.unit (s := S2x256x512) (k0_off74 arg22 v133) S1x224x512.size (k0_off74_inb arg22 arg26 v131 v133 v136 k0_hw17 k0_h10)).PackedRows (EltTy.packing .bf16) := fun arg22 arg26 v131 v133 v136 k0_hw17 k0_h10 => k0_hw17.2.2.2.2.2.2.2.2.2.2.2.2.2.2.2 k0_h10 (k0_off74_inb arg22 arg26 v131 v133 v136 k0_hw17 k0_h10)

def k0_mult26 (arg24 : BitVec 32) : BitVec 32 :=
  let c512_i32_93 : BitVec 32 := 512#32
  let v206 : BitVec 32 := Scalar.muli arg24 c512_i32_93
  v206
def k0_cond11 (v2 : BitVec 32) (v11 : BitVec 32) (v20 : BitVec 32) (v29 : BitVec 32) (v38 : BitVec 32) (v47 : BitVec 32) (k0_t4 : Fin (k0_t4_loop v2 v11 v20 v29 v38 v47).trips) : BitVec 1 :=
  let c0_i32_32 : BitVec 32 := 0#32
  let c1_i32_37 : BitVec 32 := 1#32
  let arg21 : BitVec 32 := Scf.iv c0_i32_32 c1_i32_37 k0_t4
  let c16_i32_79 : BitVec 32 := 16#32
  let v186 : BitVec 32 := Scalar.addi arg21 c16_i32_79
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let c28_i32 : BitVec 32 := 28#32
  let v54 : BitVec 32 := Scalar.muli v50 c28_i32
  let v187 : BitVec 1 := Scalar.cmpi .slt v186 v54
  let v188 : BitVec 32 := Scalar.extui v187
  let c0_i32_80 : BitVec 32 := 0#32
  let v189 : BitVec 1 := Scalar.cmpi .ne v188 c0_i32_80
  v189

def k0_chk18 (v2 : BitVec 32) (v11 : BitVec 32) (v20 : BitVec 32) (v29 : BitVec 32) (v38 : BitVec 32) (v47 : BitVec 32) (k0_t4 : Fin (k0_t4_loop v2 v11 v20 v29 v38 v47).trips) (arg24 : BitVec 32) : Prop :=
  (∀ (k0_h11 : k0_cond11 v2 v11 v20 v29 v38 v47 k0_t4 = 1#1), 512 ∣ (k0_mult26 arg24).toNat)
theorem k0_mult26_dvd : ∀ (v2 : BitVec 32) (v11 : BitVec 32) (v20 : BitVec 32) (v29 : BitVec 32) (v38 : BitVec 32) (v47 : BitVec 32) (k0_t4 : Fin (k0_t4_loop v2 v11 v20 v29 v38 v47).trips) (arg24 : BitVec 32) (k0_hw18 : k0_chk18 v2 v11 v20 v29 v38 v47 k0_t4 arg24), ∀ (k0_h11 : k0_cond11 v2 v11 v20 v29 v38 v47 k0_t4 = 1#1), 512 ∣ (k0_mult26 arg24).toNat := fun v2 v11 v20 v29 v38 v47 k0_t4 arg24 k0_hw18 k0_h11 => k0_hw18 k0_h11

def k0_off75 (arg25 : BitVec 32) : Fin 1 → Nat :=
  let v208 : Index := Scalar.indexCast arg25
  ![v208.toNat]

def k0_chk19 (v2 : BitVec 32) (v11 : BitVec 32) (v20 : BitVec 32) (v29 : BitVec 32) (v38 : BitVec 32) (v47 : BitVec 32) (k0_t4 : Fin (k0_t4_loop v2 v11 v20 v29 v38 v47).trips) (arg25 : BitVec 32) : Prop :=
  (∀ (k0_h11 : k0_cond11 v2 v11 v20 v29 v38 v47 k0_t4 = 1#1), ∀ a, (k0_off75 arg25) a + S1.size a ≤ S7.size a)
theorem k0_off75_inb : ∀ (v2 : BitVec 32) (v11 : BitVec 32) (v20 : BitVec 32) (v29 : BitVec 32) (v38 : BitVec 32) (v47 : BitVec 32) (k0_t4 : Fin (k0_t4_loop v2 v11 v20 v29 v38 v47).trips) (arg25 : BitVec 32) (k0_hw19 : k0_chk19 v2 v11 v20 v29 v38 v47 k0_t4 arg25), ∀ (k0_h11 : k0_cond11 v2 v11 v20 v29 v38 v47 k0_t4 = 1#1), ∀ a, (k0_off75 arg25) a + S1.size a ≤ S7.size a := fun v2 v11 v20 v29 v38 v47 k0_t4 arg25 k0_hw19 k0_h11 => k0_hw19 k0_h11

def k0_off76 (arg26 : BitVec 32) : Fin 1 → Nat :=
  ![arg26.toNat]
def k0_off77 (arg26 : BitVec 32) : Fin 3 → Nat :=
  let c0_i32_94 : BitVec 32 := 0#32
  let c0_i32_95 : BitVec 32 := 0#32
  ![arg26.toNat, 0, 0]
def k0_off78 (arg24 : BitVec 32) (v209 : BitVec 32) : Fin 3 → Nat :=
  let c0_i32_96 : BitVec 32 := 0#32
  let c512_i32_93 : BitVec 32 := 512#32
  let v206 : BitVec 32 := Scalar.muli arg24 c512_i32_93
  let v207 : BitVec 32 := v206
  ![v209.toNat, 0, v207.toNat]

def k0_chk20 (v2 : BitVec 32) (v11 : BitVec 32) (v20 : BitVec 32) (v29 : BitVec 32) (v38 : BitVec 32) (v47 : BitVec 32) (k0_t4 : Fin (k0_t4_loop v2 v11 v20 v29 v38 v47).trips) (arg24 : BitVec 32) (v209 : BitVec 32) : Prop :=
  (∀ (k0_h11 : k0_cond11 v2 v11 v20 v29 v38 v47 k0_t4 = 1#1), ∀ a, (k0_off78 arg24 v209) a + S1x4096x512.size a ≤ S6x4096x14336.size a) ∧
  (∀ (k0_h11 : k0_cond11 v2 v11 v20 v29 v38 v47 k0_t4 = 1#1), ∀ (hinb : ∀ a, (k0_off78 arg24 v209) a + S1x4096x512.size a ≤ S6x4096x14336.size a), (Rect.unit (s := S6x4096x14336) (k0_off78 arg24 v209) S1x4096x512.size hinb).WholeWords (EltTy.packing .fp8e4m3))
theorem k0_off78_inb : ∀ (v2 : BitVec 32) (v11 : BitVec 32) (v20 : BitVec 32) (v29 : BitVec 32) (v38 : BitVec 32) (v47 : BitVec 32) (k0_t4 : Fin (k0_t4_loop v2 v11 v20 v29 v38 v47).trips) (arg24 : BitVec 32) (v209 : BitVec 32) (k0_hw20 : k0_chk20 v2 v11 v20 v29 v38 v47 k0_t4 arg24 v209), ∀ (k0_h11 : k0_cond11 v2 v11 v20 v29 v38 v47 k0_t4 = 1#1), ∀ a, (k0_off78 arg24 v209) a + S1x4096x512.size a ≤ S6x4096x14336.size a := fun v2 v11 v20 v29 v38 v47 k0_t4 arg24 v209 k0_hw20 k0_h11 => k0_hw20.1 k0_h11
theorem k0_off78_wordsfp8e4m3 : ∀ (v2 : BitVec 32) (v11 : BitVec 32) (v20 : BitVec 32) (v29 : BitVec 32) (v38 : BitVec 32) (v47 : BitVec 32) (k0_t4 : Fin (k0_t4_loop v2 v11 v20 v29 v38 v47).trips) (arg24 : BitVec 32) (v209 : BitVec 32) (k0_hw20 : k0_chk20 v2 v11 v20 v29 v38 v47 k0_t4 arg24 v209), ∀ (k0_h11 : k0_cond11 v2 v11 v20 v29 v38 v47 k0_t4 = 1#1), (Rect.unit (s := S6x4096x14336) (k0_off78 arg24 v209) S1x4096x512.size (k0_off78_inb v2 v11 v20 v29 v38 v47 k0_t4 arg24 v209 k0_hw20 k0_h11)).WholeWords (EltTy.packing .fp8e4m3) := fun v2 v11 v20 v29 v38 v47 k0_t4 arg24 v209 k0_hw20 k0_h11 => k0_hw20.2 k0_h11 (k0_off78_inb v2 v11 v20 v29 v38 v47 k0_t4 arg24 v209 k0_hw20 k0_h11)

def k0_chk15 (v2 : BitVec 32) (v11 : BitVec 32) (v20 : BitVec 32) (v29 : BitVec 32) (v38 : BitVec 32) (v47 : BitVec 32) (k0_t4 : Fin (k0_t4_loop v2 v11 v20 v29 v38 v47).trips) (arg26 : BitVec 32) : Prop :=
  (∀ a, (k0_off19 arg26) a + S1.size a ≤ S16.size a) ∧
  (∀ a, (k0_off20 arg26) a + S1x4096x512.size a ≤ S16x4096x512.size a) ∧
  (∀ (hinb : ∀ a, (k0_off20 arg26) a + S1x4096x512.size a ≤ S16x4096x512.size a), (Rect.unit (s := S16x4096x512) (k0_off20 arg26) S1x4096x512.size hinb).WholeWords (EltTy.packing .fp8e4m3)) ∧
  (∀ (k0_h11 : k0_cond11 v2 v11 v20 v29 v38 v47 k0_t4 = 1#1), ∀ a, (k0_off76 arg26) a + S1.size a ≤ S16.size a) ∧
  (∀ (k0_h11 : k0_cond11 v2 v11 v20 v29 v38 v47 k0_t4 = 1#1), ∀ a, (k0_off77 arg26) a + S1x4096x512.size a ≤ S16x4096x512.size a) ∧
  (∀ (k0_h11 : k0_cond11 v2 v11 v20 v29 v38 v47 k0_t4 = 1#1), ∀ (hinb : ∀ a, (k0_off77 arg26) a + S1x4096x512.size a ≤ S16x4096x512.size a), (Rect.unit (s := S16x4096x512) (k0_off77 arg26) S1x4096x512.size hinb).WholeWords (EltTy.packing .fp8e4m3))
theorem k0_off19_inb : ∀ (v2 : BitVec 32) (v11 : BitVec 32) (v20 : BitVec 32) (v29 : BitVec 32) (v38 : BitVec 32) (v47 : BitVec 32) (k0_t4 : Fin (k0_t4_loop v2 v11 v20 v29 v38 v47).trips) (arg26 : BitVec 32) (k0_hw15 : k0_chk15 v2 v11 v20 v29 v38 v47 k0_t4 arg26), ∀ a, (k0_off19 arg26) a + S1.size a ≤ S16.size a := fun v2 v11 v20 v29 v38 v47 k0_t4 arg26 k0_hw15 => k0_hw15.1
theorem k0_off20_inb : ∀ (v2 : BitVec 32) (v11 : BitVec 32) (v20 : BitVec 32) (v29 : BitVec 32) (v38 : BitVec 32) (v47 : BitVec 32) (k0_t4 : Fin (k0_t4_loop v2 v11 v20 v29 v38 v47).trips) (arg26 : BitVec 32) (k0_hw15 : k0_chk15 v2 v11 v20 v29 v38 v47 k0_t4 arg26), ∀ a, (k0_off20 arg26) a + S1x4096x512.size a ≤ S16x4096x512.size a := fun v2 v11 v20 v29 v38 v47 k0_t4 arg26 k0_hw15 => k0_hw15.2.1
theorem k0_off20_wordsfp8e4m3 : ∀ (v2 : BitVec 32) (v11 : BitVec 32) (v20 : BitVec 32) (v29 : BitVec 32) (v38 : BitVec 32) (v47 : BitVec 32) (k0_t4 : Fin (k0_t4_loop v2 v11 v20 v29 v38 v47).trips) (arg26 : BitVec 32) (k0_hw15 : k0_chk15 v2 v11 v20 v29 v38 v47 k0_t4 arg26), (Rect.unit (s := S16x4096x512) (k0_off20 arg26) S1x4096x512.size (k0_off20_inb v2 v11 v20 v29 v38 v47 k0_t4 arg26 k0_hw15)).WholeWords (EltTy.packing .fp8e4m3) := fun v2 v11 v20 v29 v38 v47 k0_t4 arg26 k0_hw15 => k0_hw15.2.2.1 (k0_off20_inb v2 v11 v20 v29 v38 v47 k0_t4 arg26 k0_hw15)
theorem k0_off76_inb : ∀ (v2 : BitVec 32) (v11 : BitVec 32) (v20 : BitVec 32) (v29 : BitVec 32) (v38 : BitVec 32) (v47 : BitVec 32) (k0_t4 : Fin (k0_t4_loop v2 v11 v20 v29 v38 v47).trips) (arg26 : BitVec 32) (k0_hw15 : k0_chk15 v2 v11 v20 v29 v38 v47 k0_t4 arg26), ∀ (k0_h11 : k0_cond11 v2 v11 v20 v29 v38 v47 k0_t4 = 1#1), ∀ a, (k0_off76 arg26) a + S1.size a ≤ S16.size a := fun v2 v11 v20 v29 v38 v47 k0_t4 arg26 k0_hw15 k0_h11 => k0_hw15.2.2.2.1 k0_h11
theorem k0_off77_inb : ∀ (v2 : BitVec 32) (v11 : BitVec 32) (v20 : BitVec 32) (v29 : BitVec 32) (v38 : BitVec 32) (v47 : BitVec 32) (k0_t4 : Fin (k0_t4_loop v2 v11 v20 v29 v38 v47).trips) (arg26 : BitVec 32) (k0_hw15 : k0_chk15 v2 v11 v20 v29 v38 v47 k0_t4 arg26), ∀ (k0_h11 : k0_cond11 v2 v11 v20 v29 v38 v47 k0_t4 = 1#1), ∀ a, (k0_off77 arg26) a + S1x4096x512.size a ≤ S16x4096x512.size a := fun v2 v11 v20 v29 v38 v47 k0_t4 arg26 k0_hw15 k0_h11 => k0_hw15.2.2.2.2.1 k0_h11
theorem k0_off77_wordsfp8e4m3 : ∀ (v2 : BitVec 32) (v11 : BitVec 32) (v20 : BitVec 32) (v29 : BitVec 32) (v38 : BitVec 32) (v47 : BitVec 32) (k0_t4 : Fin (k0_t4_loop v2 v11 v20 v29 v38 v47).trips) (arg26 : BitVec 32) (k0_hw15 : k0_chk15 v2 v11 v20 v29 v38 v47 k0_t4 arg26), ∀ (k0_h11 : k0_cond11 v2 v11 v20 v29 v38 v47 k0_t4 = 1#1), (Rect.unit (s := S16x4096x512) (k0_off77 arg26) S1x4096x512.size (k0_off77_inb v2 v11 v20 v29 v38 v47 k0_t4 arg26 k0_hw15 k0_h11)).WholeWords (EltTy.packing .fp8e4m3) := fun v2 v11 v20 v29 v38 v47 k0_t4 arg26 k0_hw15 k0_h11 => k0_hw15.2.2.2.2.2 k0_h11 (k0_off77_inb v2 v11 v20 v29 v38 v47 k0_t4 arg26 k0_hw15 k0_h11)

@[reducible] def k0_t5_loop (v2 : BitVec 32) (v11 : BitVec 32) (v20 : BitVec 32) (v29 : BitVec 32) (v38 : BitVec 32) (v47 : BitVec 32) : Scf.Loop 32 :=
  let c0_i32_32 : BitVec 32 := 0#32
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let c28_i32 : BitVec 32 := 28#32
  let v54 : BitVec 32 := Scalar.muli v50 c28_i32
  let v102 : BitVec 32 := Scalar.subi v54 c0_i32_32
  let c1_i32_36 : BitVec 32 := 1#32
  let v104 : BitVec 32 := Scalar.divsi v102 c1_i32_36
  let v105 : BitVec 32 := Scalar.muli v104 c1_i32_36
  let v106 : BitVec 32 := Scalar.addi c0_i32_32 v105
  let v103 : BitVec 32 := Scalar.addi c0_i32_32 v102
  let c1_i32_38 : BitVec 32 := 1#32
  ⟨v106, v103, c1_i32_38⟩

def k0_chk6 (v2 : BitVec 32) (v11 : BitVec 32) (v20 : BitVec 32) (v29 : BitVec 32) (v38 : BitVec 32) (v47 : BitVec 32) : Prop :=
  (∀ a, (k0_off6 v2 v11 v20 v29 v38 v47) a + S1.size a ≤ S7.size a) ∧
  ((k0_t1_loop v2 v11 v20 v29 v38 v47).OK) ∧
  (∀ k0_t1 : Fin (k0_t1_loop v2 v11 v20 v29 v38 v47).trips, ∀ a, (k0_off8 v2 v11 v20 v29 v38 v47 k0_t1) a + S1.size a ≤ S16.size a) ∧
  (∀ k0_t1 : Fin (k0_t1_loop v2 v11 v20 v29 v38 v47).trips, ∀ a, (k0_off9 v2 v11 v20 v29 v38 v47 k0_t1) a + S1x4096x512.size a ≤ S16x4096x512.size a) ∧
  (∀ k0_t1 : Fin (k0_t1_loop v2 v11 v20 v29 v38 v47).trips, ∀ (hinb : ∀ a, (k0_off9 v2 v11 v20 v29 v38 v47 k0_t1) a + S1x4096x512.size a ≤ S16x4096x512.size a), (Rect.unit (s := S16x4096x512) (k0_off9 v2 v11 v20 v29 v38 v47 k0_t1) S1x4096x512.size hinb).WholeWords (EltTy.packing .fp8e4m3)) ∧
  ((k0_t2_loop v2 v11 v20 v29 v38 v47).OK) ∧
  (∀ k0_t2 : Fin (k0_t2_loop v2 v11 v20 v29 v38 v47).trips, ∀ a, (k0_off12 v2 v11 v20 v29 v38 v47 k0_t2) a + S1.size a ≤ S16.size a) ∧
  (∀ k0_t2 : Fin (k0_t2_loop v2 v11 v20 v29 v38 v47).trips, ∀ a, (k0_off13 v2 v11 v20 v29 v38 v47 k0_t2) a + S1x4096x512.size a ≤ S16x4096x512.size a) ∧
  (∀ k0_t2 : Fin (k0_t2_loop v2 v11 v20 v29 v38 v47).trips, ∀ (hinb : ∀ a, (k0_off13 v2 v11 v20 v29 v38 v47 k0_t2) a + S1x4096x512.size a ≤ S16x4096x512.size a), (Rect.unit (s := S16x4096x512) (k0_off13 v2 v11 v20 v29 v38 v47 k0_t2) S1x4096x512.size hinb).WholeWords (EltTy.packing .fp8e4m3)) ∧
  ((k0_t4_loop v2 v11 v20 v29 v38 v47).OK) ∧
  ((k0_t5_loop v2 v11 v20 v29 v38 v47).OK)
theorem k0_off6_inb : ∀ (v2 : BitVec 32) (v11 : BitVec 32) (v20 : BitVec 32) (v29 : BitVec 32) (v38 : BitVec 32) (v47 : BitVec 32) (k0_hw6 : k0_chk6 v2 v11 v20 v29 v38 v47), ∀ a, (k0_off6 v2 v11 v20 v29 v38 v47) a + S1.size a ≤ S7.size a := fun v2 v11 v20 v29 v38 v47 k0_hw6 => k0_hw6.1
theorem k0_t1_ok : ∀ (v2 : BitVec 32) (v11 : BitVec 32) (v20 : BitVec 32) (v29 : BitVec 32) (v38 : BitVec 32) (v47 : BitVec 32) (k0_hw6 : k0_chk6 v2 v11 v20 v29 v38 v47), (k0_t1_loop v2 v11 v20 v29 v38 v47).OK := fun v2 v11 v20 v29 v38 v47 k0_hw6 => k0_hw6.2.1
theorem k0_off8_inb : ∀ (v2 : BitVec 32) (v11 : BitVec 32) (v20 : BitVec 32) (v29 : BitVec 32) (v38 : BitVec 32) (v47 : BitVec 32) (k0_hw6 : k0_chk6 v2 v11 v20 v29 v38 v47) (k0_t1 : Fin (k0_t1_loop v2 v11 v20 v29 v38 v47).trips), ∀ a, (k0_off8 v2 v11 v20 v29 v38 v47 k0_t1) a + S1.size a ≤ S16.size a := fun v2 v11 v20 v29 v38 v47 k0_hw6 k0_t1 => k0_hw6.2.2.1 k0_t1
theorem k0_off9_inb : ∀ (v2 : BitVec 32) (v11 : BitVec 32) (v20 : BitVec 32) (v29 : BitVec 32) (v38 : BitVec 32) (v47 : BitVec 32) (k0_hw6 : k0_chk6 v2 v11 v20 v29 v38 v47) (k0_t1 : Fin (k0_t1_loop v2 v11 v20 v29 v38 v47).trips), ∀ a, (k0_off9 v2 v11 v20 v29 v38 v47 k0_t1) a + S1x4096x512.size a ≤ S16x4096x512.size a := fun v2 v11 v20 v29 v38 v47 k0_hw6 k0_t1 => k0_hw6.2.2.2.1 k0_t1
theorem k0_off9_wordsfp8e4m3 : ∀ (v2 : BitVec 32) (v11 : BitVec 32) (v20 : BitVec 32) (v29 : BitVec 32) (v38 : BitVec 32) (v47 : BitVec 32) (k0_hw6 : k0_chk6 v2 v11 v20 v29 v38 v47) (k0_t1 : Fin (k0_t1_loop v2 v11 v20 v29 v38 v47).trips), (Rect.unit (s := S16x4096x512) (k0_off9 v2 v11 v20 v29 v38 v47 k0_t1) S1x4096x512.size (k0_off9_inb v2 v11 v20 v29 v38 v47 k0_hw6 k0_t1)).WholeWords (EltTy.packing .fp8e4m3) := fun v2 v11 v20 v29 v38 v47 k0_hw6 k0_t1 => k0_hw6.2.2.2.2.1 k0_t1 (k0_off9_inb v2 v11 v20 v29 v38 v47 k0_hw6 k0_t1)
theorem k0_t2_ok : ∀ (v2 : BitVec 32) (v11 : BitVec 32) (v20 : BitVec 32) (v29 : BitVec 32) (v38 : BitVec 32) (v47 : BitVec 32) (k0_hw6 : k0_chk6 v2 v11 v20 v29 v38 v47), (k0_t2_loop v2 v11 v20 v29 v38 v47).OK := fun v2 v11 v20 v29 v38 v47 k0_hw6 => k0_hw6.2.2.2.2.2.1
theorem k0_off12_inb : ∀ (v2 : BitVec 32) (v11 : BitVec 32) (v20 : BitVec 32) (v29 : BitVec 32) (v38 : BitVec 32) (v47 : BitVec 32) (k0_hw6 : k0_chk6 v2 v11 v20 v29 v38 v47) (k0_t2 : Fin (k0_t2_loop v2 v11 v20 v29 v38 v47).trips), ∀ a, (k0_off12 v2 v11 v20 v29 v38 v47 k0_t2) a + S1.size a ≤ S16.size a := fun v2 v11 v20 v29 v38 v47 k0_hw6 k0_t2 => k0_hw6.2.2.2.2.2.2.1 k0_t2
theorem k0_off13_inb : ∀ (v2 : BitVec 32) (v11 : BitVec 32) (v20 : BitVec 32) (v29 : BitVec 32) (v38 : BitVec 32) (v47 : BitVec 32) (k0_hw6 : k0_chk6 v2 v11 v20 v29 v38 v47) (k0_t2 : Fin (k0_t2_loop v2 v11 v20 v29 v38 v47).trips), ∀ a, (k0_off13 v2 v11 v20 v29 v38 v47 k0_t2) a + S1x4096x512.size a ≤ S16x4096x512.size a := fun v2 v11 v20 v29 v38 v47 k0_hw6 k0_t2 => k0_hw6.2.2.2.2.2.2.2.1 k0_t2
theorem k0_off13_wordsfp8e4m3 : ∀ (v2 : BitVec 32) (v11 : BitVec 32) (v20 : BitVec 32) (v29 : BitVec 32) (v38 : BitVec 32) (v47 : BitVec 32) (k0_hw6 : k0_chk6 v2 v11 v20 v29 v38 v47) (k0_t2 : Fin (k0_t2_loop v2 v11 v20 v29 v38 v47).trips), (Rect.unit (s := S16x4096x512) (k0_off13 v2 v11 v20 v29 v38 v47 k0_t2) S1x4096x512.size (k0_off13_inb v2 v11 v20 v29 v38 v47 k0_hw6 k0_t2)).WholeWords (EltTy.packing .fp8e4m3) := fun v2 v11 v20 v29 v38 v47 k0_hw6 k0_t2 => k0_hw6.2.2.2.2.2.2.2.2.1 k0_t2 (k0_off13_inb v2 v11 v20 v29 v38 v47 k0_hw6 k0_t2)
theorem k0_t4_ok : ∀ (v2 : BitVec 32) (v11 : BitVec 32) (v20 : BitVec 32) (v29 : BitVec 32) (v38 : BitVec 32) (v47 : BitVec 32) (k0_hw6 : k0_chk6 v2 v11 v20 v29 v38 v47), (k0_t4_loop v2 v11 v20 v29 v38 v47).OK := fun v2 v11 v20 v29 v38 v47 k0_hw6 => k0_hw6.2.2.2.2.2.2.2.2.2.1
theorem k0_t5_ok : ∀ (v2 : BitVec 32) (v11 : BitVec 32) (v20 : BitVec 32) (v29 : BitVec 32) (v38 : BitVec 32) (v47 : BitVec 32) (k0_hw6 : k0_chk6 v2 v11 v20 v29 v38 v47), (k0_t5_loop v2 v11 v20 v29 v38 v47).OK := fun v2 v11 v20 v29 v38 v47 k0_hw6 => k0_hw6.2.2.2.2.2.2.2.2.2.2

def k0_off79 (arg23 : BitVec 32) : Fin 1 → Nat :=
  let v130 : Index := Scalar.indexCast arg23
  ![v130.toNat]

def k0_off80 (arg23 : BitVec 32) : Fin 1 → Nat :=
  let c1_i32_53 : BitVec 32 := 1#32
  let v134 : BitVec 32 := Scalar.addi arg23 c1_i32_53
  let v135 : Index := Scalar.indexCast v134
  ![v135.toNat]
def k0_mult27 (arg22 : BitVec 32) : BitVec 32 :=
  let c512_i32 : BitVec 32 := 512#32
  let v142 : BitVec 32 := Scalar.muli arg22 c512_i32
  v142

def k0_chk22 (arg22 : BitVec 32) : Prop :=
  (512 ∣ (k0_mult27 arg22).toNat)
theorem k0_mult27_dvd : ∀ (arg22 : BitVec 32) (k0_hw22 : k0_chk22 arg22), 512 ∣ (k0_mult27 arg22).toNat := fun arg22 k0_hw22 => k0_hw22

def k0_off81 (arg23 : BitVec 32) : Fin 1 → Nat :=
  let v144 : Index := Scalar.indexCast arg23
  ![v144.toNat]
def k0_off82 (arg26 : BitVec 32) : Fin 1 → Nat :=
  ![arg26.toNat]

def k0_off83 (arg26 : BitVec 32) : Fin 3 → Nat :=
  let c0_i32_56 : BitVec 32 := 0#32
  let c0_i32_57 : BitVec 32 := 0#32
  ![arg26.toNat, 0, 0]
def k0_off84 (arg22 : BitVec 32) (v145 : BitVec 32) : Fin 3 → Nat :=
  let c0_i32_58 : BitVec 32 := 0#32
  let c512_i32 : BitVec 32 := 512#32
  let v142 : BitVec 32 := Scalar.muli arg22 c512_i32
  let v143 : BitVec 32 := v142
  ![v145.toNat, 0, v143.toNat]

def k0_chk24 (arg22 : BitVec 32) (v145 : BitVec 32) : Prop :=
  (∀ a, (k0_off84 arg22 v145) a + S1x4096x512.size a ≤ S6x4096x14336.size a) ∧
  (∀ (hinb : ∀ a, (k0_off84 arg22 v145) a + S1x4096x512.size a ≤ S6x4096x14336.size a), (Rect.unit (s := S6x4096x14336) (k0_off84 arg22 v145) S1x4096x512.size hinb).WholeWords (EltTy.packing .fp8e4m3))
theorem k0_off84_inb : ∀ (arg22 : BitVec 32) (v145 : BitVec 32) (k0_hw24 : k0_chk24 arg22 v145), ∀ a, (k0_off84 arg22 v145) a + S1x4096x512.size a ≤ S6x4096x14336.size a := fun arg22 v145 k0_hw24 => k0_hw24.1
theorem k0_off84_wordsfp8e4m3 : ∀ (arg22 : BitVec 32) (v145 : BitVec 32) (k0_hw24 : k0_chk24 arg22 v145), (Rect.unit (s := S6x4096x14336) (k0_off84 arg22 v145) S1x4096x512.size (k0_off84_inb arg22 v145 k0_hw24)).WholeWords (EltTy.packing .fp8e4m3) := fun arg22 v145 k0_hw24 => k0_hw24.2 (k0_off84_inb arg22 v145 k0_hw24)

def k0_mult28 (arg22 : BitVec 32) : BitVec 32 :=
  let c1_i32_93 : BitVec 32 := 1#32
  let v206 : BitVec 32 := Scalar.subi arg22 c1_i32_93
  let c512_i32_94 : BitVec 32 := 512#32
  let v207 : BitVec 32 := Scalar.muli v206 c512_i32_94
  v207
def k0_cond12 (arg22 : BitVec 32) (arg23 : BitVec 32) : BitVec 1 :=
  let c0_i32_59 : BitVec 32 := 0#32
  let v152 : BitVec 1 := Scalar.cmpi .eq arg23 c0_i32_59
  let c1_i32_60 : BitVec 32 := 1#32
  let v153 : BitVec 1 := Scalar.cmpi .sge arg22 c1_i32_60
  let v154 : BitVec 1 := Scalar.andi v152 v153
  let v155 : BitVec 32 := Scalar.extui v154
  let c0_i32_61 : BitVec 32 := 0#32
  let v156 : BitVec 1 := Scalar.cmpi .ne v155 c0_i32_61
  v156

def k0_off85 (arg22 : BitVec 32) : Fin 1 → Nat :=
  let c1_i32_93 : BitVec 32 := 1#32
  let v206 : BitVec 32 := Scalar.subi arg22 c1_i32_93
  let c2_i32_95 : BitVec 32 := 2#32
  let v209 : BitVec 32 := Scalar.remsi v206 c2_i32_95
  ![v209.toNat]
def k0_off86 (arg22 : BitVec 32) : Fin 2 → Nat :=
  let c0_i32_96 : BitVec 32 := 0#32
  let c1_i32_93 : BitVec 32 := 1#32
  let v206 : BitVec 32 := Scalar.subi arg22 c1_i32_93
  let c512_i32_94 : BitVec 32 := 512#32
  let v207 : BitVec 32 := Scalar.muli v206 c512_i32_94
  let v208 : BitVec 32 := v207
  ![0, v208.toNat]
def k0_off87 (arg22 : BitVec 32) : Fin 3 → Nat :=
  let c1_i32_93 : BitVec 32 := 1#32
  let v206 : BitVec 32 := Scalar.subi arg22 c1_i32_93
  let c2_i32_95 : BitVec 32 := 2#32
  let v209 : BitVec 32 := Scalar.remsi v206 c2_i32_95
  let c0_i32_97 : BitVec 32 := 0#32
  let c0_i32_98 : BitVec 32 := 0#32
  ![v209.toNat, 0, 0]
def k0_mult29 (arg22 : BitVec 32) : BitVec 32 :=
  let c2_i32_93 : BitVec 32 := 2#32
  let v206 : BitVec 32 := Scalar.subi arg22 c2_i32_93
  let c512_i32_94 : BitVec 32 := 512#32
  let v207 : BitVec 32 := Scalar.muli v206 c512_i32_94
  v207
def k0_cond13 (arg22 : BitVec 32) (arg23 : BitVec 32) : BitVec 1 :=
  let c0_i32_62 : BitVec 32 := 0#32
  let v157 : BitVec 1 := Scalar.cmpi .eq arg23 c0_i32_62
  let c2_i32_63 : BitVec 32 := 2#32
  let v158 : BitVec 1 := Scalar.cmpi .sge arg22 c2_i32_63
  let v159 : BitVec 1 := Scalar.andi v157 v158
  let v160 : BitVec 32 := Scalar.extui v159
  let c0_i32_64 : BitVec 32 := 0#32
  let v161 : BitVec 1 := Scalar.cmpi .ne v160 c0_i32_64
  v161

def k0_off88 (arg22 : BitVec 32) : Fin 1 → Nat :=
  let c2_i32_93 : BitVec 32 := 2#32
  let v206 : BitVec 32 := Scalar.subi arg22 c2_i32_93
  let c2_i32_95 : BitVec 32 := 2#32
  let v209 : BitVec 32 := Scalar.remsi v206 c2_i32_95
  ![v209.toNat]
def k0_off89 (arg22 : BitVec 32) : Fin 2 → Nat :=
  let c0_i32_96 : BitVec 32 := 0#32
  let c2_i32_93 : BitVec 32 := 2#32
  let v206 : BitVec 32 := Scalar.subi arg22 c2_i32_93
  let c512_i32_94 : BitVec 32 := 512#32
  let v207 : BitVec 32 := Scalar.muli v206 c512_i32_94
  let v208 : BitVec 32 := v207
  ![0, v208.toNat]
def k0_off90 (arg22 : BitVec 32) : Fin 3 → Nat :=
  let c2_i32_93 : BitVec 32 := 2#32
  let v206 : BitVec 32 := Scalar.subi arg22 c2_i32_93
  let c2_i32_95 : BitVec 32 := 2#32
  let v209 : BitVec 32 := Scalar.remsi v206 c2_i32_95
  let c0_i32_97 : BitVec 32 := 0#32
  let c0_i32_98 : BitVec 32 := 0#32
  ![v209.toNat, 0, 0]

def k0_chk21 (arg22 : BitVec 32) (arg23 : BitVec 32) : Prop :=
  (∀ a, (k0_off79 arg23) a + S1.size a ≤ S7.size a) ∧
  (∀ a, (k0_off80 arg23) a + S1.size a ≤ S7.size a) ∧
  (∀ a, (k0_off81 arg23) a + S1.size a ≤ S7.size a) ∧
  (∀ (k0_h12 : k0_cond12 arg22 arg23 = 1#1), 512 ∣ (k0_mult28 arg22).toNat) ∧
  (∀ (k0_h12 : k0_cond12 arg22 arg23 = 1#1), ∀ a, (k0_off85 arg22) a + S1.size a ≤ S2.size a) ∧
  (∀ (k0_h12 : k0_cond12 arg22 arg23 = 1#1), ∀ a, (k0_off86 arg22) a + S256x512.size a ≤ S256x14336.size a) ∧
  (∀ (k0_h12 : k0_cond12 arg22 arg23 = 1#1), ∀ a, (k0_off87 arg22) a + S1x256x512.size a ≤ S2x256x512.size a) ∧
  (∀ (k0_h12 : k0_cond12 arg22 arg23 = 1#1), ∀ (hinb : ∀ a, (k0_off87 arg22) a + S1x256x512.size a ≤ S2x256x512.size a), (Rect.unit (s := S2x256x512) (k0_off87 arg22) S1x256x512.size hinb).WholeWords (EltTy.packing .bf16)) ∧
  (∀ (k0_h12 : k0_cond12 arg22 arg23 = 1#1), ∀ (hinb : ∀ a, (k0_off86 arg22) a + S256x512.size a ≤ S256x14336.size a), (Rect.unit (s := S256x14336) (k0_off86 arg22) S256x512.size hinb).WholeWords (EltTy.packing .bf16)) ∧
  (∀ (k0_h13 : k0_cond13 arg22 arg23 = 1#1), 512 ∣ (k0_mult29 arg22).toNat) ∧
  (∀ (k0_h13 : k0_cond13 arg22 arg23 = 1#1), ∀ a, (k0_off88 arg22) a + S1.size a ≤ S2.size a) ∧
  (∀ (k0_h13 : k0_cond13 arg22 arg23 = 1#1), ∀ a, (k0_off89 arg22) a + S256x512.size a ≤ S256x14336.size a) ∧
  (∀ (k0_h13 : k0_cond13 arg22 arg23 = 1#1), ∀ a, (k0_off90 arg22) a + S1x256x512.size a ≤ S2x256x512.size a) ∧
  (∀ (k0_h13 : k0_cond13 arg22 arg23 = 1#1), ∀ (hinb : ∀ a, (k0_off90 arg22) a + S1x256x512.size a ≤ S2x256x512.size a), (Rect.unit (s := S2x256x512) (k0_off90 arg22) S1x256x512.size hinb).WholeWords (EltTy.packing .bf16)) ∧
  (∀ (k0_h13 : k0_cond13 arg22 arg23 = 1#1), ∀ (hinb : ∀ a, (k0_off89 arg22) a + S256x512.size a ≤ S256x14336.size a), (Rect.unit (s := S256x14336) (k0_off89 arg22) S256x512.size hinb).WholeWords (EltTy.packing .bf16))
theorem k0_off79_inb : ∀ (arg22 : BitVec 32) (arg23 : BitVec 32) (k0_hw21 : k0_chk21 arg22 arg23), ∀ a, (k0_off79 arg23) a + S1.size a ≤ S7.size a := fun arg22 arg23 k0_hw21 => k0_hw21.1
theorem k0_off80_inb : ∀ (arg22 : BitVec 32) (arg23 : BitVec 32) (k0_hw21 : k0_chk21 arg22 arg23), ∀ a, (k0_off80 arg23) a + S1.size a ≤ S7.size a := fun arg22 arg23 k0_hw21 => k0_hw21.2.1
theorem k0_off81_inb : ∀ (arg22 : BitVec 32) (arg23 : BitVec 32) (k0_hw21 : k0_chk21 arg22 arg23), ∀ a, (k0_off81 arg23) a + S1.size a ≤ S7.size a := fun arg22 arg23 k0_hw21 => k0_hw21.2.2.1
theorem k0_mult28_dvd : ∀ (arg22 : BitVec 32) (arg23 : BitVec 32) (k0_hw21 : k0_chk21 arg22 arg23), ∀ (k0_h12 : k0_cond12 arg22 arg23 = 1#1), 512 ∣ (k0_mult28 arg22).toNat := fun arg22 arg23 k0_hw21 k0_h12 => k0_hw21.2.2.2.1 k0_h12
theorem k0_off85_inb : ∀ (arg22 : BitVec 32) (arg23 : BitVec 32) (k0_hw21 : k0_chk21 arg22 arg23), ∀ (k0_h12 : k0_cond12 arg22 arg23 = 1#1), ∀ a, (k0_off85 arg22) a + S1.size a ≤ S2.size a := fun arg22 arg23 k0_hw21 k0_h12 => k0_hw21.2.2.2.2.1 k0_h12
theorem k0_off86_inb : ∀ (arg22 : BitVec 32) (arg23 : BitVec 32) (k0_hw21 : k0_chk21 arg22 arg23), ∀ (k0_h12 : k0_cond12 arg22 arg23 = 1#1), ∀ a, (k0_off86 arg22) a + S256x512.size a ≤ S256x14336.size a := fun arg22 arg23 k0_hw21 k0_h12 => k0_hw21.2.2.2.2.2.1 k0_h12
theorem k0_off87_inb : ∀ (arg22 : BitVec 32) (arg23 : BitVec 32) (k0_hw21 : k0_chk21 arg22 arg23), ∀ (k0_h12 : k0_cond12 arg22 arg23 = 1#1), ∀ a, (k0_off87 arg22) a + S1x256x512.size a ≤ S2x256x512.size a := fun arg22 arg23 k0_hw21 k0_h12 => k0_hw21.2.2.2.2.2.2.1 k0_h12
theorem k0_off87_wordsbf16 : ∀ (arg22 : BitVec 32) (arg23 : BitVec 32) (k0_hw21 : k0_chk21 arg22 arg23), ∀ (k0_h12 : k0_cond12 arg22 arg23 = 1#1), (Rect.unit (s := S2x256x512) (k0_off87 arg22) S1x256x512.size (k0_off87_inb arg22 arg23 k0_hw21 k0_h12)).WholeWords (EltTy.packing .bf16) := fun arg22 arg23 k0_hw21 k0_h12 => k0_hw21.2.2.2.2.2.2.2.1 k0_h12 (k0_off87_inb arg22 arg23 k0_hw21 k0_h12)
theorem k0_off86_wordsbf16 : ∀ (arg22 : BitVec 32) (arg23 : BitVec 32) (k0_hw21 : k0_chk21 arg22 arg23), ∀ (k0_h12 : k0_cond12 arg22 arg23 = 1#1), (Rect.unit (s := S256x14336) (k0_off86 arg22) S256x512.size (k0_off86_inb arg22 arg23 k0_hw21 k0_h12)).WholeWords (EltTy.packing .bf16) := fun arg22 arg23 k0_hw21 k0_h12 => k0_hw21.2.2.2.2.2.2.2.2.1 k0_h12 (k0_off86_inb arg22 arg23 k0_hw21 k0_h12)
theorem k0_mult29_dvd : ∀ (arg22 : BitVec 32) (arg23 : BitVec 32) (k0_hw21 : k0_chk21 arg22 arg23), ∀ (k0_h13 : k0_cond13 arg22 arg23 = 1#1), 512 ∣ (k0_mult29 arg22).toNat := fun arg22 arg23 k0_hw21 k0_h13 => k0_hw21.2.2.2.2.2.2.2.2.2.1 k0_h13
theorem k0_off88_inb : ∀ (arg22 : BitVec 32) (arg23 : BitVec 32) (k0_hw21 : k0_chk21 arg22 arg23), ∀ (k0_h13 : k0_cond13 arg22 arg23 = 1#1), ∀ a, (k0_off88 arg22) a + S1.size a ≤ S2.size a := fun arg22 arg23 k0_hw21 k0_h13 => k0_hw21.2.2.2.2.2.2.2.2.2.2.1 k0_h13
theorem k0_off89_inb : ∀ (arg22 : BitVec 32) (arg23 : BitVec 32) (k0_hw21 : k0_chk21 arg22 arg23), ∀ (k0_h13 : k0_cond13 arg22 arg23 = 1#1), ∀ a, (k0_off89 arg22) a + S256x512.size a ≤ S256x14336.size a := fun arg22 arg23 k0_hw21 k0_h13 => k0_hw21.2.2.2.2.2.2.2.2.2.2.2.1 k0_h13
theorem k0_off90_inb : ∀ (arg22 : BitVec 32) (arg23 : BitVec 32) (k0_hw21 : k0_chk21 arg22 arg23), ∀ (k0_h13 : k0_cond13 arg22 arg23 = 1#1), ∀ a, (k0_off90 arg22) a + S1x256x512.size a ≤ S2x256x512.size a := fun arg22 arg23 k0_hw21 k0_h13 => k0_hw21.2.2.2.2.2.2.2.2.2.2.2.2.1 k0_h13
theorem k0_off90_wordsbf16 : ∀ (arg22 : BitVec 32) (arg23 : BitVec 32) (k0_hw21 : k0_chk21 arg22 arg23), ∀ (k0_h13 : k0_cond13 arg22 arg23 = 1#1), (Rect.unit (s := S2x256x512) (k0_off90 arg22) S1x256x512.size (k0_off90_inb arg22 arg23 k0_hw21 k0_h13)).WholeWords (EltTy.packing .bf16) := fun arg22 arg23 k0_hw21 k0_h13 => k0_hw21.2.2.2.2.2.2.2.2.2.2.2.2.2.1 k0_h13 (k0_off90_inb arg22 arg23 k0_hw21 k0_h13)
theorem k0_off89_wordsbf16 : ∀ (arg22 : BitVec 32) (arg23 : BitVec 32) (k0_hw21 : k0_chk21 arg22 arg23), ∀ (k0_h13 : k0_cond13 arg22 arg23 = 1#1), (Rect.unit (s := S256x14336) (k0_off89 arg22) S256x512.size (k0_off89_inb arg22 arg23 k0_hw21 k0_h13)).WholeWords (EltTy.packing .bf16) := fun arg22 arg23 k0_hw21 k0_h13 => k0_hw21.2.2.2.2.2.2.2.2.2.2.2.2.2.2 k0_h13 (k0_off89_inb arg22 arg23 k0_hw21 k0_h13)

def k0_mult30 (v133 : BitVec 32) : BitVec 32 :=
  let c_m32_i32 : BitVec 32 := 4294967264#32
  let v137 : BitVec 32 := Scalar.andi v133 c_m32_i32
  v137
def k0_cond14 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c1_i32_65 : BitVec 32 := 1#32
  let v162 : BitVec 1 := Scalar.cmpi .eq v140 c1_i32_65
  let v163 : BitVec 32 := Scalar.extui v162
  let c0_i32_66 : BitVec 32 := 0#32
  let v164 : BitVec 1 := Scalar.cmpi .ne v163 c0_i32_66
  v164

def k0_off91 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off92 (arg26 : BitVec 32) : Fin 3 → Nat :=
  let v214 : Index := Scalar.indexCast arg26
  let c0_94 : Index := 0#32
  let c0_95 : Index := 0#32
  ![v214.toNat, 0, 0]
def k0_mult31 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off93 (v131 : BitVec 32) : Fin 1 → Nat :=
  let v221 : Index := Scalar.indexCast v131
  ![v221.toNat]
def k0_off94 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off95 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_mult32 (v133 : BitVec 32) : BitVec 32 :=
  let c_m32_i32 : BitVec 32 := 4294967264#32
  let v137 : BitVec 32 := Scalar.andi v133 c_m32_i32
  v137
def k0_cond15 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c2_i32_67 : BitVec 32 := 2#32
  let v165 : BitVec 1 := Scalar.cmpi .eq v140 c2_i32_67
  let v166 : BitVec 32 := Scalar.extui v165
  let c0_i32_68 : BitVec 32 := 0#32
  let v167 : BitVec 1 := Scalar.cmpi .ne v166 c0_i32_68
  v167

def k0_off96 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off97 (arg26 : BitVec 32) : Fin 3 → Nat :=
  let v214 : Index := Scalar.indexCast arg26
  let c0_94 : Index := 0#32
  let c0_95 : Index := 0#32
  ![v214.toNat, 0, 0]
def k0_mult33 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off98 (v131 : BitVec 32) : Fin 1 → Nat :=
  let v221 : Index := Scalar.indexCast v131
  ![v221.toNat]
def k0_off99 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off100 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off101 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult34 (v133 : BitVec 32) : BitVec 32 :=
  let c_m32_i32 : BitVec 32 := 4294967264#32
  let v137 : BitVec 32 := Scalar.andi v133 c_m32_i32
  v137
def k0_cond16 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c3_i32_69 : BitVec 32 := 3#32
  let v168 : BitVec 1 := Scalar.cmpi .eq v140 c3_i32_69
  let v169 : BitVec 32 := Scalar.extui v168
  let c0_i32_70 : BitVec 32 := 0#32
  let v170 : BitVec 1 := Scalar.cmpi .ne v169 c0_i32_70
  v170

def k0_off102 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off103 (arg26 : BitVec 32) : Fin 3 → Nat :=
  let v214 : Index := Scalar.indexCast arg26
  let c0_94 : Index := 0#32
  let c0_95 : Index := 0#32
  ![v214.toNat, 0, 0]
def k0_mult35 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off104 (v131 : BitVec 32) : Fin 1 → Nat :=
  let v221 : Index := Scalar.indexCast v131
  ![v221.toNat]
def k0_off105 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off106 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off107 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult36 (v133 : BitVec 32) : BitVec 32 :=
  let c_m32_i32 : BitVec 32 := 4294967264#32
  let v137 : BitVec 32 := Scalar.andi v133 c_m32_i32
  v137
def k0_cond17 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c4_i32_71 : BitVec 32 := 4#32
  let v171 : BitVec 1 := Scalar.cmpi .eq v140 c4_i32_71
  let v172 : BitVec 32 := Scalar.extui v171
  let c0_i32_72 : BitVec 32 := 0#32
  let v173 : BitVec 1 := Scalar.cmpi .ne v172 c0_i32_72
  v173

def k0_off108 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off109 (arg26 : BitVec 32) : Fin 3 → Nat :=
  let v214 : Index := Scalar.indexCast arg26
  let c0_94 : Index := 0#32
  let c0_95 : Index := 0#32
  ![v214.toNat, 0, 0]
def k0_mult37 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off110 (v131 : BitVec 32) : Fin 1 → Nat :=
  let v221 : Index := Scalar.indexCast v131
  ![v221.toNat]
def k0_off111 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off112 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off113 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult38 (v133 : BitVec 32) : BitVec 32 :=
  let c_m32_i32 : BitVec 32 := 4294967264#32
  let v137 : BitVec 32 := Scalar.andi v133 c_m32_i32
  v137
def k0_cond18 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c5_i32_73 : BitVec 32 := 5#32
  let v174 : BitVec 1 := Scalar.cmpi .eq v140 c5_i32_73
  let v175 : BitVec 32 := Scalar.extui v174
  let c0_i32_74 : BitVec 32 := 0#32
  let v176 : BitVec 1 := Scalar.cmpi .ne v175 c0_i32_74
  v176

def k0_off114 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off115 (arg26 : BitVec 32) : Fin 3 → Nat :=
  let v214 : Index := Scalar.indexCast arg26
  let c0_94 : Index := 0#32
  let c0_95 : Index := 0#32
  ![v214.toNat, 0, 0]
def k0_mult39 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off116 (v131 : BitVec 32) : Fin 1 → Nat :=
  let v221 : Index := Scalar.indexCast v131
  ![v221.toNat]
def k0_off117 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off118 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off119 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult40 (v133 : BitVec 32) : BitVec 32 :=
  let c_m32_i32 : BitVec 32 := 4294967264#32
  let v137 : BitVec 32 := Scalar.andi v133 c_m32_i32
  v137
def k0_cond19 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c6_i32 : BitVec 32 := 6#32
  let v177 : BitVec 1 := Scalar.cmpi .eq v140 c6_i32
  let v178 : BitVec 32 := Scalar.extui v177
  let c0_i32_75 : BitVec 32 := 0#32
  let v179 : BitVec 1 := Scalar.cmpi .ne v178 c0_i32_75
  v179

def k0_off120 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off121 (arg26 : BitVec 32) : Fin 3 → Nat :=
  let v214 : Index := Scalar.indexCast arg26
  let c0_94 : Index := 0#32
  let c0_95 : Index := 0#32
  ![v214.toNat, 0, 0]
def k0_mult41 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off122 (v131 : BitVec 32) : Fin 1 → Nat :=
  let v221 : Index := Scalar.indexCast v131
  ![v221.toNat]
def k0_off123 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off124 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off125 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult42 (v133 : BitVec 32) : BitVec 32 :=
  let c_m32_i32 : BitVec 32 := 4294967264#32
  let v137 : BitVec 32 := Scalar.andi v133 c_m32_i32
  v137
def k0_cond20 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c7_i32 : BitVec 32 := 7#32
  let v180 : BitVec 1 := Scalar.cmpi .eq v140 c7_i32
  let v181 : BitVec 32 := Scalar.extui v180
  let c0_i32_76 : BitVec 32 := 0#32
  let v182 : BitVec 1 := Scalar.cmpi .ne v181 c0_i32_76
  v182

def k0_off126 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off127 (arg26 : BitVec 32) : Fin 3 → Nat :=
  let v214 : Index := Scalar.indexCast arg26
  let c0_94 : Index := 0#32
  let c0_95 : Index := 0#32
  ![v214.toNat, 0, 0]
def k0_mult43 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off128 (v131 : BitVec 32) : Fin 1 → Nat :=
  let v221 : Index := Scalar.indexCast v131
  ![v221.toNat]
def k0_off129 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off130 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off131 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]
def k0_mult44 (v133 : BitVec 32) : BitVec 32 :=
  let c_m32_i32 : BitVec 32 := 4294967264#32
  let v137 : BitVec 32 := Scalar.andi v133 c_m32_i32
  v137
def k0_cond21 (v133 : BitVec 32) (v136 : BitVec 32) : BitVec 1 :=
  let c_m32_i32 : BitVec 32 := 4294967264#32
  let v137 : BitVec 32 := Scalar.andi v133 c_m32_i32
  let v138 : BitVec 32 := Scalar.subi v136 v137
  let c31_i32 : BitVec 32 := 31#32
  let v139 : BitVec 32 := Scalar.addi v138 c31_i32
  let c5_i32_54 : BitVec 32 := 5#32
  let v140 : BitVec 32 := Scalar.shrsi v139 c5_i32_54
  let c8_i32_77 : BitVec 32 := 8#32
  let v183 : BitVec 1 := Scalar.cmpi .eq v140 c8_i32_77
  let v184 : BitVec 32 := Scalar.extui v183
  let c0_i32_78 : BitVec 32 := 0#32
  let v185 : BitVec 1 := Scalar.cmpi .ne v184 c0_i32_78
  v185

def k0_off132 (v133 : BitVec 32) : Fin 2 → Nat :=
  let c_m32_i32 : BitVec 32 := 4294967264#32
  let v137 : BitVec 32 := Scalar.andi v133 c_m32_i32
  let v206 : BitVec 32 := v137
  let v212 : Index := Scalar.indexCast v206
  let c0_93 : Index := 0#32
  ![v212.toNat, 0]
def k0_off133 (arg26 : BitVec 32) : Fin 3 → Nat :=
  let v214 : Index := Scalar.indexCast arg26
  let c0_94 : Index := 0#32
  let c0_95 : Index := 0#32
  ![v214.toNat, 0, 0]
def k0_mult45 (arg22 : BitVec 32) : BitVec 32 :=
  let c512_i32_96 : BitVec 32 := 512#32
  let v218 : BitVec 32 := Scalar.muli arg22 c512_i32_96
  let c0_i32_97 : BitVec 32 := 0#32
  let v219 : BitVec 32 := Scalar.addi v218 c0_i32_97
  v219
def k0_off134 (v131 : BitVec 32) : Fin 1 → Nat :=
  let v221 : Index := Scalar.indexCast v131
  ![v221.toNat]
def k0_off135 (arg22 : BitVec 32) (v131 : BitVec 32) : Fin 2 → Nat :=
  let v223 : Index := Scalar.indexCast v131
  let c512_i32_96 : BitVec 32 := 512#32
  let v218 : BitVec 32 := Scalar.muli arg22 c512_i32_96
  let c0_i32_97 : BitVec 32 := 0#32
  let v219 : BitVec 32 := Scalar.addi v218 c0_i32_97
  let v220 : BitVec 32 := v219
  let v224 : Index := Scalar.indexCast v220
  ![v223.toNat, v224.toNat]
def k0_off136 (arg22 : BitVec 32) (v133 : BitVec 32) : Fin 3 → Nat :=
  let c2_i32_55 : BitVec 32 := 2#32
  let v141 : BitVec 32 := Scalar.remsi arg22 c2_i32_55
  let v231 : Index := Scalar.indexCast v141
  let c_m32_i32 : BitVec 32 := 4294967264#32
  let v137 : BitVec 32 := Scalar.andi v133 c_m32_i32
  let v206 : BitVec 32 := v137
  let v232 : Index := Scalar.indexCast v206
  let c0_98 : Index := 0#32
  ![v231.toNat, v232.toNat, 0]
def k0_off137 (arg22 : BitVec 32) (v133 : BitVec 32) : Fin 3 → Nat :=
  let c2_i32_55 : BitVec 32 := 2#32
  let v141 : BitVec 32 := Scalar.remsi arg22 c2_i32_55
  let v247 : Index := Scalar.indexCast v141
  let c_m32_i32 : BitVec 32 := 4294967264#32
  let v137 : BitVec 32 := Scalar.andi v133 c_m32_i32
  let v206 : BitVec 32 := v137
  let c32_i32 : BitVec 32 := 32#32
  let v246 : BitVec 32 := Scalar.addi v206 c32_i32
  let v248 : Index := Scalar.indexCast v246
  let c0_100 : Index := 0#32
  ![v247.toNat, v248.toNat, 0]

def k0_chk25_0 (arg22 : BitVec 32) (arg26 : BitVec 32) (v131 : BitVec 32) (v133 : BitVec 32) (v136 : BitVec 32) : Prop :=
  (∀ (k0_h14 : k0_cond14 v133 v136 = 1#1), 32 ∣ (k0_mult30 v133).toNat) ∧
  (∀ (k0_h14 : k0_cond14 v133 v136 = 1#1), ∀ a, (k0_off91 v133) a + S32x4096.size a ≤ S256x4096.size a) ∧
  (∀ (k0_h14 : k0_cond14 v133 v136 = 1#1), ∀ a, (k0_off92 arg26) a + S1x4096x512.size a ≤ S16x4096x512.size a) ∧
  (∀ (k0_h14 : k0_cond14 v133 v136 = 1#1), 512 ∣ (k0_mult31 arg22).toNat) ∧
  (∀ (k0_h14 : k0_cond14 v133 v136 = 1#1), ∀ a, (k0_off93 v131) a + S1.size a ≤ S6.size a) ∧
  (∀ (k0_h14 : k0_cond14 v133 v136 = 1#1), ∀ a, (k0_off94 arg22 v131) a + S1x512.size a ≤ S6x14336.size a) ∧
  (∀ (k0_h14 : k0_cond14 v133 v136 = 1#1), ∀ a, (k0_off95 arg22 v133) a + S1x32x512.size a ≤ S2x256x512.size a) ∧
  (∀ (k0_h14 : k0_cond14 v133 v136 = 1#1), ∀ (hinb : ∀ a, (k0_off95 arg22 v133) a + S1x32x512.size a ≤ S2x256x512.size a), (Rect.unit (s := S2x256x512) (k0_off95 arg22 v133) S1x32x512.size hinb).PackedRows (EltTy.packing .bf16)) ∧
  (∀ (k0_h15 : k0_cond15 v133 v136 = 1#1), 32 ∣ (k0_mult32 v133).toNat) ∧
  (∀ (k0_h15 : k0_cond15 v133 v136 = 1#1), ∀ a, (k0_off96 v133) a + S64x4096.size a ≤ S256x4096.size a) ∧
  (∀ (k0_h15 : k0_cond15 v133 v136 = 1#1), ∀ a, (k0_off97 arg26) a + S1x4096x512.size a ≤ S16x4096x512.size a) ∧
  (∀ (k0_h15 : k0_cond15 v133 v136 = 1#1), 512 ∣ (k0_mult33 arg22).toNat) ∧
  (∀ (k0_h15 : k0_cond15 v133 v136 = 1#1), ∀ a, (k0_off98 v131) a + S1.size a ≤ S6.size a) ∧
  (∀ (k0_h15 : k0_cond15 v133 v136 = 1#1), ∀ a, (k0_off99 arg22 v131) a + S1x512.size a ≤ S6x14336.size a) ∧
  (∀ (k0_h15 : k0_cond15 v133 v136 = 1#1), ∀ a, (k0_off100 arg22 v133) a + S1x32x512.size a ≤ S2x256x512.size a) ∧
  (∀ (k0_h15 : k0_cond15 v133 v136 = 1#1), ∀ (hinb : ∀ a, (k0_off100 arg22 v133) a + S1x32x512.size a ≤ S2x256x512.size a), (Rect.unit (s := S2x256x512) (k0_off100 arg22 v133) S1x32x512.size hinb).PackedRows (EltTy.packing .bf16)) ∧
  (∀ (k0_h15 : k0_cond15 v133 v136 = 1#1), ∀ a, (k0_off101 arg22 v133) a + S1x32x512.size a ≤ S2x256x512.size a) ∧
  (∀ (k0_h15 : k0_cond15 v133 v136 = 1#1), ∀ (hinb : ∀ a, (k0_off101 arg22 v133) a + S1x32x512.size a ≤ S2x256x512.size a), (Rect.unit (s := S2x256x512) (k0_off101 arg22 v133) S1x32x512.size hinb).PackedRows (EltTy.packing .bf16)) ∧
  (∀ (k0_h16 : k0_cond16 v133 v136 = 1#1), 32 ∣ (k0_mult34 v133).toNat) ∧
  (∀ (k0_h16 : k0_cond16 v133 v136 = 1#1), ∀ a, (k0_off102 v133) a + S96x4096.size a ≤ S256x4096.size a) ∧
  (∀ (k0_h16 : k0_cond16 v133 v136 = 1#1), ∀ a, (k0_off103 arg26) a + S1x4096x512.size a ≤ S16x4096x512.size a) ∧
  (∀ (k0_h16 : k0_cond16 v133 v136 = 1#1), 512 ∣ (k0_mult35 arg22).toNat) ∧
  (∀ (k0_h16 : k0_cond16 v133 v136 = 1#1), ∀ a, (k0_off104 v131) a + S1.size a ≤ S6.size a) ∧
  (∀ (k0_h16 : k0_cond16 v133 v136 = 1#1), ∀ a, (k0_off105 arg22 v131) a + S1x512.size a ≤ S6x14336.size a) ∧
  (∀ (k0_h16 : k0_cond16 v133 v136 = 1#1), ∀ a, (k0_off106 arg22 v133) a + S1x32x512.size a ≤ S2x256x512.size a) ∧
  (∀ (k0_h16 : k0_cond16 v133 v136 = 1#1), ∀ (hinb : ∀ a, (k0_off106 arg22 v133) a + S1x32x512.size a ≤ S2x256x512.size a), (Rect.unit (s := S2x256x512) (k0_off106 arg22 v133) S1x32x512.size hinb).PackedRows (EltTy.packing .bf16)) ∧
  (∀ (k0_h16 : k0_cond16 v133 v136 = 1#1), ∀ a, (k0_off107 arg22 v133) a + S1x64x512.size a ≤ S2x256x512.size a) ∧
  (∀ (k0_h16 : k0_cond16 v133 v136 = 1#1), ∀ (hinb : ∀ a, (k0_off107 arg22 v133) a + S1x64x512.size a ≤ S2x256x512.size a), (Rect.unit (s := S2x256x512) (k0_off107 arg22 v133) S1x64x512.size hinb).PackedRows (EltTy.packing .bf16)) ∧
  (∀ (k0_h17 : k0_cond17 v133 v136 = 1#1), 32 ∣ (k0_mult36 v133).toNat) ∧
  (∀ (k0_h17 : k0_cond17 v133 v136 = 1#1), ∀ a, (k0_off108 v133) a + S128x4096.size a ≤ S256x4096.size a) ∧
  (∀ (k0_h17 : k0_cond17 v133 v136 = 1#1), ∀ a, (k0_off109 arg26) a + S1x4096x512.size a ≤ S16x4096x512.size a) ∧
  (∀ (k0_h17 : k0_cond17 v133 v136 = 1#1), 512 ∣ (k0_mult37 arg22).toNat)
def k0_chk25_1 (arg22 : BitVec 32) (arg26 : BitVec 32) (v131 : BitVec 32) (v133 : BitVec 32) (v136 : BitVec 32) : Prop :=
  (∀ (k0_h17 : k0_cond17 v133 v136 = 1#1), ∀ a, (k0_off110 v131) a + S1.size a ≤ S6.size a) ∧
  (∀ (k0_h17 : k0_cond17 v133 v136 = 1#1), ∀ a, (k0_off111 arg22 v131) a + S1x512.size a ≤ S6x14336.size a) ∧
  (∀ (k0_h17 : k0_cond17 v133 v136 = 1#1), ∀ a, (k0_off112 arg22 v133) a + S1x32x512.size a ≤ S2x256x512.size a) ∧
  (∀ (k0_h17 : k0_cond17 v133 v136 = 1#1), ∀ (hinb : ∀ a, (k0_off112 arg22 v133) a + S1x32x512.size a ≤ S2x256x512.size a), (Rect.unit (s := S2x256x512) (k0_off112 arg22 v133) S1x32x512.size hinb).PackedRows (EltTy.packing .bf16)) ∧
  (∀ (k0_h17 : k0_cond17 v133 v136 = 1#1), ∀ a, (k0_off113 arg22 v133) a + S1x96x512.size a ≤ S2x256x512.size a) ∧
  (∀ (k0_h17 : k0_cond17 v133 v136 = 1#1), ∀ (hinb : ∀ a, (k0_off113 arg22 v133) a + S1x96x512.size a ≤ S2x256x512.size a), (Rect.unit (s := S2x256x512) (k0_off113 arg22 v133) S1x96x512.size hinb).PackedRows (EltTy.packing .bf16)) ∧
  (∀ (k0_h18 : k0_cond18 v133 v136 = 1#1), 32 ∣ (k0_mult38 v133).toNat) ∧
  (∀ (k0_h18 : k0_cond18 v133 v136 = 1#1), ∀ a, (k0_off114 v133) a + S160x4096.size a ≤ S256x4096.size a) ∧
  (∀ (k0_h18 : k0_cond18 v133 v136 = 1#1), ∀ a, (k0_off115 arg26) a + S1x4096x512.size a ≤ S16x4096x512.size a) ∧
  (∀ (k0_h18 : k0_cond18 v133 v136 = 1#1), 512 ∣ (k0_mult39 arg22).toNat) ∧
  (∀ (k0_h18 : k0_cond18 v133 v136 = 1#1), ∀ a, (k0_off116 v131) a + S1.size a ≤ S6.size a) ∧
  (∀ (k0_h18 : k0_cond18 v133 v136 = 1#1), ∀ a, (k0_off117 arg22 v131) a + S1x512.size a ≤ S6x14336.size a) ∧
  (∀ (k0_h18 : k0_cond18 v133 v136 = 1#1), ∀ a, (k0_off118 arg22 v133) a + S1x32x512.size a ≤ S2x256x512.size a) ∧
  (∀ (k0_h18 : k0_cond18 v133 v136 = 1#1), ∀ (hinb : ∀ a, (k0_off118 arg22 v133) a + S1x32x512.size a ≤ S2x256x512.size a), (Rect.unit (s := S2x256x512) (k0_off118 arg22 v133) S1x32x512.size hinb).PackedRows (EltTy.packing .bf16)) ∧
  (∀ (k0_h18 : k0_cond18 v133 v136 = 1#1), ∀ a, (k0_off119 arg22 v133) a + S1x128x512.size a ≤ S2x256x512.size a) ∧
  (∀ (k0_h18 : k0_cond18 v133 v136 = 1#1), ∀ (hinb : ∀ a, (k0_off119 arg22 v133) a + S1x128x512.size a ≤ S2x256x512.size a), (Rect.unit (s := S2x256x512) (k0_off119 arg22 v133) S1x128x512.size hinb).PackedRows (EltTy.packing .bf16)) ∧
  (∀ (k0_h19 : k0_cond19 v133 v136 = 1#1), 32 ∣ (k0_mult40 v133).toNat) ∧
  (∀ (k0_h19 : k0_cond19 v133 v136 = 1#1), ∀ a, (k0_off120 v133) a + S192x4096.size a ≤ S256x4096.size a) ∧
  (∀ (k0_h19 : k0_cond19 v133 v136 = 1#1), ∀ a, (k0_off121 arg26) a + S1x4096x512.size a ≤ S16x4096x512.size a) ∧
  (∀ (k0_h19 : k0_cond19 v133 v136 = 1#1), 512 ∣ (k0_mult41 arg22).toNat) ∧
  (∀ (k0_h19 : k0_cond19 v133 v136 = 1#1), ∀ a, (k0_off122 v131) a + S1.size a ≤ S6.size a) ∧
  (∀ (k0_h19 : k0_cond19 v133 v136 = 1#1), ∀ a, (k0_off123 arg22 v131) a + S1x512.size a ≤ S6x14336.size a) ∧
  (∀ (k0_h19 : k0_cond19 v133 v136 = 1#1), ∀ a, (k0_off124 arg22 v133) a + S1x32x512.size a ≤ S2x256x512.size a) ∧
  (∀ (k0_h19 : k0_cond19 v133 v136 = 1#1), ∀ (hinb : ∀ a, (k0_off124 arg22 v133) a + S1x32x512.size a ≤ S2x256x512.size a), (Rect.unit (s := S2x256x512) (k0_off124 arg22 v133) S1x32x512.size hinb).PackedRows (EltTy.packing .bf16)) ∧
  (∀ (k0_h19 : k0_cond19 v133 v136 = 1#1), ∀ a, (k0_off125 arg22 v133) a + S1x160x512.size a ≤ S2x256x512.size a) ∧
  (∀ (k0_h19 : k0_cond19 v133 v136 = 1#1), ∀ (hinb : ∀ a, (k0_off125 arg22 v133) a + S1x160x512.size a ≤ S2x256x512.size a), (Rect.unit (s := S2x256x512) (k0_off125 arg22 v133) S1x160x512.size hinb).PackedRows (EltTy.packing .bf16)) ∧
  (∀ (k0_h20 : k0_cond20 v133 v136 = 1#1), 32 ∣ (k0_mult42 v133).toNat) ∧
  (∀ (k0_h20 : k0_cond20 v133 v136 = 1#1), ∀ a, (k0_off126 v133) a + S224x4096.size a ≤ S256x4096.size a) ∧
  (∀ (k0_h20 : k0_cond20 v133 v136 = 1#1), ∀ a, (k0_off127 arg26) a + S1x4096x512.size a ≤ S16x4096x512.size a) ∧
  (∀ (k0_h20 : k0_cond20 v133 v136 = 1#1), 512 ∣ (k0_mult43 arg22).toNat) ∧
  (∀ (k0_h20 : k0_cond20 v133 v136 = 1#1), ∀ a, (k0_off128 v131) a + S1.size a ≤ S6.size a) ∧
  (∀ (k0_h20 : k0_cond20 v133 v136 = 1#1), ∀ a, (k0_off129 arg22 v131) a + S1x512.size a ≤ S6x14336.size a)
def k0_chk25_2 (arg22 : BitVec 32) (arg26 : BitVec 32) (v131 : BitVec 32) (v133 : BitVec 32) (v136 : BitVec 32) : Prop :=
  (∀ (k0_h20 : k0_cond20 v133 v136 = 1#1), ∀ a, (k0_off130 arg22 v133) a + S1x32x512.size a ≤ S2x256x512.size a) ∧
  (∀ (k0_h20 : k0_cond20 v133 v136 = 1#1), ∀ (hinb : ∀ a, (k0_off130 arg22 v133) a + S1x32x512.size a ≤ S2x256x512.size a), (Rect.unit (s := S2x256x512) (k0_off130 arg22 v133) S1x32x512.size hinb).PackedRows (EltTy.packing .bf16)) ∧
  (∀ (k0_h20 : k0_cond20 v133 v136 = 1#1), ∀ a, (k0_off131 arg22 v133) a + S1x192x512.size a ≤ S2x256x512.size a) ∧
  (∀ (k0_h20 : k0_cond20 v133 v136 = 1#1), ∀ (hinb : ∀ a, (k0_off131 arg22 v133) a + S1x192x512.size a ≤ S2x256x512.size a), (Rect.unit (s := S2x256x512) (k0_off131 arg22 v133) S1x192x512.size hinb).PackedRows (EltTy.packing .bf16)) ∧
  (∀ (k0_h21 : k0_cond21 v133 v136 = 1#1), 32 ∣ (k0_mult44 v133).toNat) ∧
  (∀ (k0_h21 : k0_cond21 v133 v136 = 1#1), ∀ a, (k0_off132 v133) a + S256x4096.size a ≤ S256x4096.size a) ∧
  (∀ (k0_h21 : k0_cond21 v133 v136 = 1#1), ∀ a, (k0_off133 arg26) a + S1x4096x512.size a ≤ S16x4096x512.size a) ∧
  (∀ (k0_h21 : k0_cond21 v133 v136 = 1#1), 512 ∣ (k0_mult45 arg22).toNat) ∧
  (∀ (k0_h21 : k0_cond21 v133 v136 = 1#1), ∀ a, (k0_off134 v131) a + S1.size a ≤ S6.size a) ∧
  (∀ (k0_h21 : k0_cond21 v133 v136 = 1#1), ∀ a, (k0_off135 arg22 v131) a + S1x512.size a ≤ S6x14336.size a) ∧
  (∀ (k0_h21 : k0_cond21 v133 v136 = 1#1), ∀ a, (k0_off136 arg22 v133) a + S1x32x512.size a ≤ S2x256x512.size a) ∧
  (∀ (k0_h21 : k0_cond21 v133 v136 = 1#1), ∀ (hinb : ∀ a, (k0_off136 arg22 v133) a + S1x32x512.size a ≤ S2x256x512.size a), (Rect.unit (s := S2x256x512) (k0_off136 arg22 v133) S1x32x512.size hinb).PackedRows (EltTy.packing .bf16)) ∧
  (∀ (k0_h21 : k0_cond21 v133 v136 = 1#1), ∀ a, (k0_off137 arg22 v133) a + S1x224x512.size a ≤ S2x256x512.size a) ∧
  (∀ (k0_h21 : k0_cond21 v133 v136 = 1#1), ∀ (hinb : ∀ a, (k0_off137 arg22 v133) a + S1x224x512.size a ≤ S2x256x512.size a), (Rect.unit (s := S2x256x512) (k0_off137 arg22 v133) S1x224x512.size hinb).PackedRows (EltTy.packing .bf16))
def k0_chk25 (arg22 : BitVec 32) (arg26 : BitVec 32) (v131 : BitVec 32) (v133 : BitVec 32) (v136 : BitVec 32) : Prop :=
  k0_chk25_0 arg22 arg26 v131 v133 v136 ∧
  k0_chk25_1 arg22 arg26 v131 v133 v136 ∧
  k0_chk25_2 arg22 arg26 v131 v133 v136
theorem k0_mult30_dvd : ∀ (arg22 : BitVec 32) (arg26 : BitVec 32) (v131 : BitVec 32) (v133 : BitVec 32) (v136 : BitVec 32) (k0_hw25 : k0_chk25 arg22 arg26 v131 v133 v136), ∀ (k0_h14 : k0_cond14 v133 v136 = 1#1), 32 ∣ (k0_mult30 v133).toNat := fun arg22 arg26 v131 v133 v136 k0_hw25 k0_h14 => k0_hw25.1.1 k0_h14
theorem k0_off91_inb : ∀ (arg22 : BitVec 32) (arg26 : BitVec 32) (v131 : BitVec 32) (v133 : BitVec 32) (v136 : BitVec 32) (k0_hw25 : k0_chk25 arg22 arg26 v131 v133 v136), ∀ (k0_h14 : k0_cond14 v133 v136 = 1#1), ∀ a, (k0_off91 v133) a + S32x4096.size a ≤ S256x4096.size a := fun arg22 arg26 v131 v133 v136 k0_hw25 k0_h14 => k0_hw25.1.2.1 k0_h14
theorem k0_off92_inb : ∀ (arg22 : BitVec 32) (arg26 : BitVec 32) (v131 : BitVec 32) (v133 : BitVec 32) (v136 : BitVec 32) (k0_hw25 : k0_chk25 arg22 arg26 v131 v133 v136), ∀ (k0_h14 : k0_cond14 v133 v136 = 1#1), ∀ a, (k0_off92 arg26) a + S1x4096x512.size a ≤ S16x4096x512.size a := fun arg22 arg26 v131 v133 v136 k0_hw25 k0_h14 => k0_hw25.1.2.2.1 k0_h14
theorem k0_mult31_dvd : ∀ (arg22 : BitVec 32) (arg26 : BitVec 32) (v131 : BitVec 32) (v133 : BitVec 32) (v136 : BitVec 32) (k0_hw25 : k0_chk25 arg22 arg26 v131 v133 v136), ∀ (k0_h14 : k0_cond14 v133 v136 = 1#1), 512 ∣ (k0_mult31 arg22).toNat := fun arg22 arg26 v131 v133 v136 k0_hw25 k0_h14 => k0_hw25.1.2.2.2.1 k0_h14
theorem k0_off93_inb : ∀ (arg22 : BitVec 32) (arg26 : BitVec 32) (v131 : BitVec 32) (v133 : BitVec 32) (v136 : BitVec 32) (k0_hw25 : k0_chk25 arg22 arg26 v131 v133 v136), ∀ (k0_h14 : k0_cond14 v133 v136 = 1#1), ∀ a, (k0_off93 v131) a + S1.size a ≤ S6.size a := fun arg22 arg26 v131 v133 v136 k0_hw25 k0_h14 => k0_hw25.1.2.2.2.2.1 k0_h14
theorem k0_off94_inb : ∀ (arg22 : BitVec 32) (arg26 : BitVec 32) (v131 : BitVec 32) (v133 : BitVec 32) (v136 : BitVec 32) (k0_hw25 : k0_chk25 arg22 arg26 v131 v133 v136), ∀ (k0_h14 : k0_cond14 v133 v136 = 1#1), ∀ a, (k0_off94 arg22 v131) a + S1x512.size a ≤ S6x14336.size a := fun arg22 arg26 v131 v133 v136 k0_hw25 k0_h14 => k0_hw25.1.2.2.2.2.2.1 k0_h14
theorem k0_off95_inb : ∀ (arg22 : BitVec 32) (arg26 : BitVec 32) (v131 : BitVec 32) (v133 : BitVec 32) (v136 : BitVec 32) (k0_hw25 : k0_chk25 arg22 arg26 v131 v133 v136), ∀ (k0_h14 : k0_cond14 v133 v136 = 1#1), ∀ a, (k0_off95 arg22 v133) a + S1x32x512.size a ≤ S2x256x512.size a := fun arg22 arg26 v131 v133 v136 k0_hw25 k0_h14 => k0_hw25.1.2.2.2.2.2.2.1 k0_h14
theorem k0_off95_packedbf16 : ∀ (arg22 : BitVec 32) (arg26 : BitVec 32) (v131 : BitVec 32) (v133 : BitVec 32) (v136 : BitVec 32) (k0_hw25 : k0_chk25 arg22 arg26 v131 v133 v136), ∀ (k0_h14 : k0_cond14 v133 v136 = 1#1), (Rect.unit (s := S2x256x512) (k0_off95 arg22 v133) S1x32x512.size (k0_off95_inb arg22 arg26 v131 v133 v136 k0_hw25 k0_h14)).PackedRows (EltTy.packing .bf16) := fun arg22 arg26 v131 v133 v136 k0_hw25 k0_h14 => k0_hw25.1.2.2.2.2.2.2.2.1 k0_h14 (k0_off95_inb arg22 arg26 v131 v133 v136 k0_hw25 k0_h14)
theorem k0_mult32_dvd : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), 32 ∣ (k0_mult32 v133).toNat := fun arg22 arg26 v131 v133 v136 k0_hw25 k0_h15 => k0_hw25.1.2.2.2.2.2.2.2.2.1 k0_h15
theorem k0_off96_inb : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), ∀ a, (k0_off96 v133) a + S64x4096.size a ≤ S256x4096.size a := fun arg22 arg26 v131 v133 v136 k0_hw25 k0_h15 => k0_hw25.1.2.2.2.2.2.2.2.2.2.1 k0_h15
theorem k0_off97_inb : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), ∀ a, (k0_off97 arg26) a + S1x4096x512.size a ≤ S16x4096x512.size a := fun arg22 arg26 v131 v133 v136 k0_hw25 k0_h15 => k0_hw25.1.2.2.2.2.2.2.2.2.2.2.1 k0_h15
theorem k0_mult33_dvd : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), 512 ∣ (k0_mult33 arg22).toNat := fun arg22 arg26 v131 v133 v136 k0_hw25 k0_h15 => k0_hw25.1.2.2.2.2.2.2.2.2.2.2.2.1 k0_h15
theorem k0_off98_inb : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), ∀ a, (k0_off98 v131) a + S1.size a ≤ S6.size a := fun arg22 arg26 v131 v133 v136 k0_hw25 k0_h15 => k0_hw25.1.2.2.2.2.2.2.2.2.2.2.2.2.1 k0_h15
theorem k0_off99_inb : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), ∀ a, (k0_off99 arg22 v131) a + S1x512.size a ≤ S6x14336.size a := fun arg22 arg26 v131 v133 v136 k0_hw25 k0_h15 => k0_hw25.1.2.2.2.2.2.2.2.2.2.2.2.2.2.1 k0_h15
theorem k0_off100_inb : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), ∀ a, (k0_off100 arg22 v133) a + S1x32x512.size a ≤ S2x256x512.size a := fun arg22 arg26 v131 v133 v136 k0_hw25 k0_h15 => k0_hw25.1.2.2.2.2.2.2.2.2.2.2.2.2.2.2.1 k0_h15
theorem k0_off100_packedbf16 : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), (Rect.unit (s := S2x256x512) (k0_off100 arg22 v133) S1x32x512.size (k0_off100_inb arg22 arg26 v131 v133 v136 k0_hw25 k0_h15)).PackedRows (EltTy.packing .bf16) := fun arg22 arg26 v131 v133 v136 k0_hw25 k0_h15 => k0_hw25.1.2.2.2.2.2.2.2.2.2.2.2.2.2.2.2.1 k0_h15 (k0_off100_inb arg22 arg26 v131 v133 v136 k0_hw25 k0_h15)
theorem k0_off101_inb : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), ∀ a, (k0_off101 arg22 v133) a + S1x32x512.size a ≤ S2x256x512.size a := fun arg22 arg26 v131 v133 v136 k0_hw25 k0_h15 => k0_hw25.1.2.2.2.2.2.2.2.2.2.2.2.2.2.2.2.2.1 k0_h15
theorem k0_off101_packedbf16 : ∀ (arg22 : BitVec 32) (arg26 : BitVec 32) (v131 : BitVec 32) (v133 : BitVec 32) (v136 : BitVec 32) (k0_hw25 : k0_chk25 arg22 arg26 v131 v133 v136), ∀ (k0_h15 : k0_cond15 v133 v136 = 1#1), (Rect.unit (s := S2x256x512) (k0_off101 arg22 v133) S1x32x512.size (k0_off101_inb arg22 arg26 v131 v133 v136 k0_hw25 k0_h15)).PackedRows (EltTy.packing .bf16) := fun arg22 arg26 v131 v133 v136 k0_hw25 k0_h15 => k0_hw25.1.2.2.2.2.2.2.2.2.2.2.2.2.2.2.2.2.2.1 k0_h15 (k0_off101_inb arg22 arg26 v131 v133 v136 k0_hw25 k0_h15)
theorem k0_mult34_dvd : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), 32 ∣ (k0_mult34 v133).toNat := fun arg22 arg26 v131 v133 v136 k0_hw25 k0_h16 => k0_hw25.1.2.2.2.2.2.2.2.2.2.2.2.2.2.2.2.2.2.2.1 k0_h16
theorem k0_off102_inb : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), ∀ a, (k0_off102 v133) a + S96x4096.size a ≤ S256x4096.size a := fun arg22 arg26 v131 v133 v136 k0_hw25 k0_h16 => k0_hw25.1.2.2.2.2.2.2.2.2.2.2.2.2.2.2.2.2.2.2.2.1 k0_h16
theorem k0_off103_inb : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), ∀ a, (k0_off103 arg26) a + S1x4096x512.size a ≤ S16x4096x512.size a := fun arg22 arg26 v131 v133 v136 k0_hw25 k0_h16 => k0_hw25.1.2.2.2.2.2.2.2.2.2.2.2.2.2.2.2.2.2.2.2.2.1 k0_h16
theorem k0_mult35_dvd : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), 512 ∣ (k0_mult35 arg22).toNat := fun arg22 arg26 v131 v133 v136 k0_hw25 k0_h16 => k0_hw25.1.2.2.2.2.2.2.2.2.2.2.2.2.2.2.2.2.2.2.2.2.2.1 k0_h16
theorem k0_off104_inb : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), ∀ a, (k0_off104 v131) a + S1.size a ≤ S6.size a := fun arg22 arg26 v131 v133 v136 k0_hw25 k0_h16 => k0_hw25.1.2.2.2.2.2.2.2.2.2.2.2.2.2.2.2.2.2.2.2.2.2.2.1 k0_h16
theorem k0_off105_inb : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), ∀ a, (k0_off105 arg22 v131) a + S1x512.size a ≤ S6x14336.size a := fun arg22 arg26 v131 v133 v136 k0_hw25 k0_h16 => k0_hw25.1.2.2.2.2.2.2.2.2.2.2.2.2.2.2.2.2.2.2.2.2.2.2.2.1 k0_h16
theorem k0_off106_inb : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), ∀ a, (k0_off106 arg22 v133) a + S1x32x512.size a ≤ S2x256x512.size a := fun arg22 arg26 v131 v133 v136 k0_hw25 k0_h16 => k0_hw25.1.2.2.2.2.2.2.2.2.2.2.2.2.2.2.2.2.2.2.2.2.2.2.2.2.1 k0_h16
theorem k0_off106_packedbf16 : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), (Rect.unit (s := S2x256x512) (k0_off106 arg22 v133) S1x32x512.size (k0_off106_inb arg22 arg26 v131 v133 v136 k0_hw25 k0_h16)).PackedRows (EltTy.packing .bf16) := fun arg22 arg26 v131 v133 v136 k0_hw25 k0_h16 => k0_hw25.1.2.2.2.2.2.2.2.2.2.2.2.2.2.2.2.2.2.2.2.2.2.2.2.2.2.1 k0_h16 (k0_off106_inb arg22 arg26 v131 v133 v136 k0_hw25 k0_h16)
theorem k0_off107_inb : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), ∀ a, (k0_off107 arg22 v133) a + S1x64x512.size a ≤ S2x256x512.size a := fun arg22 arg26 v131 v133 v136 k0_hw25 k0_h16 => k0_hw25.1.2.2.2.2.2.2.2.2.2.2.2.2.2.2.2.2.2.2.2.2.2.2.2.2.2.2.1 k0_h16
theorem k0_off107_packedbf16 : ∀ (arg22 : BitVec 32) (arg26 : BitVec 32) (v131 : BitVec 32) (v133 : BitVec 32) (v136 : BitVec 32) (k0_hw25 : k0_chk25 arg22 arg26 v131 v133 v136), ∀ (k0_h16 : k0_cond16 v133 v136 = 1#1), (Rect.unit (s := S2x256x512) (k0_off107 arg22 v133) S1x64x512.size (k0_off107_inb arg22 arg26 v131 v133 v136 k0_hw25 k0_h16)).PackedRows (EltTy.packing .bf16) := fun arg22 arg26 v131 v133 v136 k0_hw25 k0_h16 => k0_hw25.1.2.2.2.2.2.2.2.2.2.2.2.2.2.2.2.2.2.2.2.2.2.2.2.2.2.2.2.1 k0_h16 (k0_off107_inb arg22 arg26 v131 v133 v136 k0_hw25 k0_h16)
theorem k0_mult36_dvd : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), 32 ∣ (k0_mult36 v133).toNat := fun arg22 arg26 v131 v133 v136 k0_hw25 k0_h17 => k0_hw25.1.2.2.2.2.2.2.2.2.2.2.2.2.2.2.2.2.2.2.2.2.2.2.2.2.2.2.2.2.1 k0_h17
theorem k0_off108_inb : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), ∀ a, (k0_off108 v133) a + S128x4096.size a ≤ S256x4096.size a := fun arg22 arg26 v131 v133 v136 k0_hw25 k0_h17 => k0_hw25.1.2.2.2.2.2.2.2.2.2.2.2.2.2.2.2.2.2.2.2.2.2.2.2.2.2.2.2.2.2.1 k0_h17
theorem k0_off109_inb : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), ∀ a, (k0_off109 arg26) a + S1x4096x512.size a ≤ S16x4096x512.size a := fun arg22 arg26 v131 v133 v136 k0_hw25 k0_h17 => k0_hw25.1.2.2.2.2.2.2.2.2.2.2.2.2.2.2.2.2.2.2.2.2.2.2.2.2.2.2.2.2.2.2.1 k0_h17
theorem k0_mult37_dvd : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), 512 ∣ (k0_mult37 arg22).toNat := fun arg22 arg26 v131 v133 v136 k0_hw25 k0_h17 => k0_hw25.1.2.2.2.2.2.2.2.2.2.2.2.2.2.2.2.2.2.2.2.2.2.2.2.2.2.2.2.2.2.2.2 k0_h17
theorem k0_off110_inb : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), ∀ a, (k0_off110 v131) a + S1.size a ≤ S6.size a := fun arg22 arg26 v131 v133 v136 k0_hw25 k0_h17 => k0_hw25.2.1.1 k0_h17
theorem k0_off111_inb : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), ∀ a, (k0_off111 arg22 v131) a + S1x512.size a ≤ S6x14336.size a := fun arg22 arg26 v131 v133 v136 k0_hw25 k0_h17 => k0_hw25.2.1.2.1 k0_h17
theorem k0_off112_inb : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), ∀ a, (k0_off112 arg22 v133) a + S1x32x512.size a ≤ S2x256x512.size a := fun arg22 arg26 v131 v133 v136 k0_hw25 k0_h17 => k0_hw25.2.1.2.2.1 k0_h17
theorem k0_off112_packedbf16 : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), (Rect.unit (s := S2x256x512) (k0_off112 arg22 v133) S1x32x512.size (k0_off112_inb arg22 arg26 v131 v133 v136 k0_hw25 k0_h17)).PackedRows (EltTy.packing .bf16) := fun arg22 arg26 v131 v133 v136 k0_hw25 k0_h17 => k0_hw25.2.1.2.2.2.1 k0_h17 (k0_off112_inb arg22 arg26 v131 v133 v136 k0_hw25 k0_h17)
theorem k0_off113_inb : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), ∀ a, (k0_off113 arg22 v133) a + S1x96x512.size a ≤ S2x256x512.size a := fun arg22 arg26 v131 v133 v136 k0_hw25 k0_h17 => k0_hw25.2.1.2.2.2.2.1 k0_h17
theorem k0_off113_packedbf16 : ∀ (arg22 : BitVec 32) (arg26 : BitVec 32) (v131 : BitVec 32) (v133 : BitVec 32) (v136 : BitVec 32) (k0_hw25 : k0_chk25 arg22 arg26 v131 v133 v136), ∀ (k0_h17 : k0_cond17 v133 v136 = 1#1), (Rect.unit (s := S2x256x512) (k0_off113 arg22 v133) S1x96x512.size (k0_off113_inb arg22 arg26 v131 v133 v136 k0_hw25 k0_h17)).PackedRows (EltTy.packing .bf16) := fun arg22 arg26 v131 v133 v136 k0_hw25 k0_h17 => k0_hw25.2.1.2.2.2.2.2.1 k0_h17 (k0_off113_inb arg22 arg26 v131 v133 v136 k0_hw25 k0_h17)
theorem k0_mult38_dvd : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), 32 ∣ (k0_mult38 v133).toNat := fun arg22 arg26 v131 v133 v136 k0_hw25 k0_h18 => k0_hw25.2.1.2.2.2.2.2.2.1 k0_h18
theorem k0_off114_inb : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), ∀ a, (k0_off114 v133) a + S160x4096.size a ≤ S256x4096.size a := fun arg22 arg26 v131 v133 v136 k0_hw25 k0_h18 => k0_hw25.2.1.2.2.2.2.2.2.2.1 k0_h18
theorem k0_off115_inb : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), ∀ a, (k0_off115 arg26) a + S1x4096x512.size a ≤ S16x4096x512.size a := fun arg22 arg26 v131 v133 v136 k0_hw25 k0_h18 => k0_hw25.2.1.2.2.2.2.2.2.2.2.1 k0_h18
theorem k0_mult39_dvd : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), 512 ∣ (k0_mult39 arg22).toNat := fun arg22 arg26 v131 v133 v136 k0_hw25 k0_h18 => k0_hw25.2.1.2.2.2.2.2.2.2.2.2.1 k0_h18
theorem k0_off116_inb : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), ∀ a, (k0_off116 v131) a + S1.size a ≤ S6.size a := fun arg22 arg26 v131 v133 v136 k0_hw25 k0_h18 => k0_hw25.2.1.2.2.2.2.2.2.2.2.2.2.1 k0_h18
theorem k0_off117_inb : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), ∀ a, (k0_off117 arg22 v131) a + S1x512.size a ≤ S6x14336.size a := fun arg22 arg26 v131 v133 v136 k0_hw25 k0_h18 => k0_hw25.2.1.2.2.2.2.2.2.2.2.2.2.2.1 k0_h18
theorem k0_off118_inb : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), ∀ a, (k0_off118 arg22 v133) a + S1x32x512.size a ≤ S2x256x512.size a := fun arg22 arg26 v131 v133 v136 k0_hw25 k0_h18 => k0_hw25.2.1.2.2.2.2.2.2.2.2.2.2.2.2.1 k0_h18
theorem k0_off118_packedbf16 : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), (Rect.unit (s := S2x256x512) (k0_off118 arg22 v133) S1x32x512.size (k0_off118_inb arg22 arg26 v131 v133 v136 k0_hw25 k0_h18)).PackedRows (EltTy.packing .bf16) := fun arg22 arg26 v131 v133 v136 k0_hw25 k0_h18 => k0_hw25.2.1.2.2.2.2.2.2.2.2.2.2.2.2.2.1 k0_h18 (k0_off118_inb arg22 arg26 v131 v133 v136 k0_hw25 k0_h18)
theorem k0_off119_inb : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), ∀ a, (k0_off119 arg22 v133) a + S1x128x512.size a ≤ S2x256x512.size a := fun arg22 arg26 v131 v133 v136 k0_hw25 k0_h18 => k0_hw25.2.1.2.2.2.2.2.2.2.2.2.2.2.2.2.2.1 k0_h18
theorem k0_off119_packedbf16 : ∀ (arg22 : BitVec 32) (arg26 : BitVec 32) (v131 : BitVec 32) (v133 : BitVec 32) (v136 : BitVec 32) (k0_hw25 : k0_chk25 arg22 arg26 v131 v133 v136), ∀ (k0_h18 : k0_cond18 v133 v136 = 1#1), (Rect.unit (s := S2x256x512) (k0_off119 arg22 v133) S1x128x512.size (k0_off119_inb arg22 arg26 v131 v133 v136 k0_hw25 k0_h18)).PackedRows (EltTy.packing .bf16) := fun arg22 arg26 v131 v133 v136 k0_hw25 k0_h18 => k0_hw25.2.1.2.2.2.2.2.2.2.2.2.2.2.2.2.2.2.1 k0_h18 (k0_off119_inb arg22 arg26 v131 v133 v136 k0_hw25 k0_h18)
theorem k0_mult40_dvd : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), 32 ∣ (k0_mult40 v133).toNat := fun arg22 arg26 v131 v133 v136 k0_hw25 k0_h19 => k0_hw25.2.1.2.2.2.2.2.2.2.2.2.2.2.2.2.2.2.2.1 k0_h19
theorem k0_off120_inb : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), ∀ a, (k0_off120 v133) a + S192x4096.size a ≤ S256x4096.size a := fun arg22 arg26 v131 v133 v136 k0_hw25 k0_h19 => k0_hw25.2.1.2.2.2.2.2.2.2.2.2.2.2.2.2.2.2.2.2.1 k0_h19
theorem k0_off121_inb : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), ∀ a, (k0_off121 arg26) a + S1x4096x512.size a ≤ S16x4096x512.size a := fun arg22 arg26 v131 v133 v136 k0_hw25 k0_h19 => k0_hw25.2.1.2.2.2.2.2.2.2.2.2.2.2.2.2.2.2.2.2.2.1 k0_h19
theorem k0_mult41_dvd : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), 512 ∣ (k0_mult41 arg22).toNat := fun arg22 arg26 v131 v133 v136 k0_hw25 k0_h19 => k0_hw25.2.1.2.2.2.2.2.2.2.2.2.2.2.2.2.2.2.2.2.2.2.1 k0_h19
theorem k0_off122_inb : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), ∀ a, (k0_off122 v131) a + S1.size a ≤ S6.size a := fun arg22 arg26 v131 v133 v136 k0_hw25 k0_h19 => k0_hw25.2.1.2.2.2.2.2.2.2.2.2.2.2.2.2.2.2.2.2.2.2.2.1 k0_h19
theorem k0_off123_inb : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), ∀ a, (k0_off123 arg22 v131) a + S1x512.size a ≤ S6x14336.size a := fun arg22 arg26 v131 v133 v136 k0_hw25 k0_h19 => k0_hw25.2.1.2.2.2.2.2.2.2.2.2.2.2.2.2.2.2.2.2.2.2.2.2.1 k0_h19
theorem k0_off124_inb : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), ∀ a, (k0_off124 arg22 v133) a + S1x32x512.size a ≤ S2x256x512.size a := fun arg22 arg26 v131 v133 v136 k0_hw25 k0_h19 => k0_hw25.2.1.2.2.2.2.2.2.2.2.2.2.2.2.2.2.2.2.2.2.2.2.2.2.1 k0_h19
theorem k0_off124_packedbf16 : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), (Rect.unit (s := S2x256x512) (k0_off124 arg22 v133) S1x32x512.size (k0_off124_inb arg22 arg26 v131 v133 v136 k0_hw25 k0_h19)).PackedRows (EltTy.packing .bf16) := fun arg22 arg26 v131 v133 v136 k0_hw25 k0_h19 => k0_hw25.2.1.2.2.2.2.2.2.2.2.2.2.2.2.2.2.2.2.2.2.2.2.2.2.2.1 k0_h19 (k0_off124_inb arg22 arg26 v131 v133 v136 k0_hw25 k0_h19)
theorem k0_off125_inb : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), ∀ a, (k0_off125 arg22 v133) a + S1x160x512.size a ≤ S2x256x512.size a := fun arg22 arg26 v131 v133 v136 k0_hw25 k0_h19 => k0_hw25.2.1.2.2.2.2.2.2.2.2.2.2.2.2.2.2.2.2.2.2.2.2.2.2.2.2.1 k0_h19
theorem k0_off125_packedbf16 : ∀ (arg22 : BitVec 32) (arg26 : BitVec 32) (v131 : BitVec 32) (v133 : BitVec 32) (v136 : BitVec 32) (k0_hw25 : k0_chk25 arg22 arg26 v131 v133 v136), ∀ (k0_h19 : k0_cond19 v133 v136 = 1#1), (Rect.unit (s := S2x256x512) (k0_off125 arg22 v133) S1x160x512.size (k0_off125_inb arg22 arg26 v131 v133 v136 k0_hw25 k0_h19)).PackedRows (EltTy.packing .bf16) := fun arg22 arg26 v131 v133 v136 k0_hw25 k0_h19 => k0_hw25.2.1.2.2.2.2.2.2.2.2.2.2.2.2.2.2.2.2.2.2.2.2.2.2.2.2.2.1 k0_h19 (k0_off125_inb arg22 arg26 v131 v133 v136 k0_hw25 k0_h19)
theorem k0_mult42_dvd : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), 32 ∣ (k0_mult42 v133).toNat := fun arg22 arg26 v131 v133 v136 k0_hw25 k0_h20 => k0_hw25.2.1.2.2.2.2.2.2.2.2.2.2.2.2.2.2.2.2.2.2.2.2.2.2.2.2.2.2.1 k0_h20
theorem k0_off126_inb : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), ∀ a, (k0_off126 v133) a + S224x4096.size a ≤ S256x4096.size a := fun arg22 arg26 v131 v133 v136 k0_hw25 k0_h20 => k0_hw25.2.1.2.2.2.2.2.2.2.2.2.2.2.2.2.2.2.2.2.2.2.2.2.2.2.2.2.2.2.1 k0_h20
theorem k0_off127_inb : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), ∀ a, (k0_off127 arg26) a + S1x4096x512.size a ≤ S16x4096x512.size a := fun arg22 arg26 v131 v133 v136 k0_hw25 k0_h20 => k0_hw25.2.1.2.2.2.2.2.2.2.2.2.2.2.2.2.2.2.2.2.2.2.2.2.2.2.2.2.2.2.2.1 k0_h20
theorem k0_mult43_dvd : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), 512 ∣ (k0_mult43 arg22).toNat := fun arg22 arg26 v131 v133 v136 k0_hw25 k0_h20 => k0_hw25.2.1.2.2.2.2.2.2.2.2.2.2.2.2.2.2.2.2.2.2.2.2.2.2.2.2.2.2.2.2.2.1 k0_h20
theorem k0_off128_inb : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), ∀ a, (k0_off128 v131) a + S1.size a ≤ S6.size a := fun arg22 arg26 v131 v133 v136 k0_hw25 k0_h20 => k0_hw25.2.1.2.2.2.2.2.2.2.2.2.2.2.2.2.2.2.2.2.2.2.2.2.2.2.2.2.2.2.2.2.2.1 k0_h20
theorem k0_off129_inb : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), ∀ a, (k0_off129 arg22 v131) a + S1x512.size a ≤ S6x14336.size a := fun arg22 arg26 v131 v133 v136 k0_hw25 k0_h20 => k0_hw25.2.1.2.2.2.2.2.2.2.2.2.2.2.2.2.2.2.2.2.2.2.2.2.2.2.2.2.2.2.2.2.2.2 k0_h20
theorem k0_off130_inb : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), ∀ a, (k0_off130 arg22 v133) a + S1x32x512.size a ≤ S2x256x512.size a := fun arg22 arg26 v131 v133 v136 k0_hw25 k0_h20 => k0_hw25.2.2.1 k0_h20
theorem k0_off130_packedbf16 : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), (Rect.unit (s := S2x256x512) (k0_off130 arg22 v133) S1x32x512.size (k0_off130_inb arg22 arg26 v131 v133 v136 k0_hw25 k0_h20)).PackedRows (EltTy.packing .bf16) := fun arg22 arg26 v131 v133 v136 k0_hw25 k0_h20 => k0_hw25.2.2.2.1 k0_h20 (k0_off130_inb arg22 arg26 v131 v133 v136 k0_hw25 k0_h20)
theorem k0_off131_inb : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), ∀ a, (k0_off131 arg22 v133) a + S1x192x512.size a ≤ S2x256x512.size a := fun arg22 arg26 v131 v133 v136 k0_hw25 k0_h20 => k0_hw25.2.2.2.2.1 k0_h20
theorem k0_off131_packedbf16 : ∀ (arg22 : BitVec 32) (arg26 : BitVec 32) (v131 : BitVec 32) (v133 : BitVec 32) (v136 : BitVec 32) (k0_hw25 : k0_chk25 arg22 arg26 v131 v133 v136), ∀ (k0_h20 : k0_cond20 v133 v136 = 1#1), (Rect.unit (s := S2x256x512) (k0_off131 arg22 v133) S1x192x512.size (k0_off131_inb arg22 arg26 v131 v133 v136 k0_hw25 k0_h20)).PackedRows (EltTy.packing .bf16) := fun arg22 arg26 v131 v133 v136 k0_hw25 k0_h20 => k0_hw25.2.2.2.2.2.1 k0_h20 (k0_off131_inb arg22 arg26 v131 v133 v136 k0_hw25 k0_h20)
theorem k0_mult44_dvd : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), 32 ∣ (k0_mult44 v133).toNat := fun arg22 arg26 v131 v133 v136 k0_hw25 k0_h21 => k0_hw25.2.2.2.2.2.2.1 k0_h21
theorem k0_off132_inb : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), ∀ a, (k0_off132 v133) a + S256x4096.size a ≤ S256x4096.size a := fun arg22 arg26 v131 v133 v136 k0_hw25 k0_h21 => k0_hw25.2.2.2.2.2.2.2.1 k0_h21
theorem k0_off133_inb : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), ∀ a, (k0_off133 arg26) a + S1x4096x512.size a ≤ S16x4096x512.size a := fun arg22 arg26 v131 v133 v136 k0_hw25 k0_h21 => k0_hw25.2.2.2.2.2.2.2.2.1 k0_h21
theorem k0_mult45_dvd : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), 512 ∣ (k0_mult45 arg22).toNat := fun arg22 arg26 v131 v133 v136 k0_hw25 k0_h21 => k0_hw25.2.2.2.2.2.2.2.2.2.1 k0_h21
theorem k0_off134_inb : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), ∀ a, (k0_off134 v131) a + S1.size a ≤ S6.size a := fun arg22 arg26 v131 v133 v136 k0_hw25 k0_h21 => k0_hw25.2.2.2.2.2.2.2.2.2.2.1 k0_h21
theorem k0_off135_inb : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), ∀ a, (k0_off135 arg22 v131) a + S1x512.size a ≤ S6x14336.size a := fun arg22 arg26 v131 v133 v136 k0_hw25 k0_h21 => k0_hw25.2.2.2.2.2.2.2.2.2.2.2.1 k0_h21
theorem k0_off136_inb : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), ∀ a, (k0_off136 arg22 v133) a + S1x32x512.size a ≤ S2x256x512.size a := fun arg22 arg26 v131 v133 v136 k0_hw25 k0_h21 => k0_hw25.2.2.2.2.2.2.2.2.2.2.2.2.1 k0_h21
theorem k0_off136_packedbf16 : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), (Rect.unit (s := S2x256x512) (k0_off136 arg22 v133) S1x32x512.size (k0_off136_inb arg22 arg26 v131 v133 v136 k0_hw25 k0_h21)).PackedRows (EltTy.packing .bf16) := fun arg22 arg26 v131 v133 v136 k0_hw25 k0_h21 => k0_hw25.2.2.2.2.2.2.2.2.2.2.2.2.2.1 k0_h21 (k0_off136_inb arg22 arg26 v131 v133 v136 k0_hw25 k0_h21)
theorem k0_off137_inb : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), ∀ a, (k0_off137 arg22 v133) a + S1x224x512.size a ≤ S2x256x512.size a := fun arg22 arg26 v131 v133 v136 k0_hw25 k0_h21 => k0_hw25.2.2.2.2.2.2.2.2.2.2.2.2.2.2.1 k0_h21
theorem k0_off137_packedbf16 : ∀ (arg22 : BitVec 32) (arg26 : BitVec 32) (v131 : BitVec 32) (v133 : BitVec 32) (v136 : BitVec 32) (k0_hw25 : k0_chk25 arg22 arg26 v131 v133 v136), ∀ (k0_h21 : k0_cond21 v133 v136 = 1#1), (Rect.unit (s := S2x256x512) (k0_off137 arg22 v133) S1x224x512.size (k0_off137_inb arg22 arg26 v131 v133 v136 k0_hw25 k0_h21)).PackedRows (EltTy.packing .bf16) := fun arg22 arg26 v131 v133 v136 k0_hw25 k0_h21 => k0_hw25.2.2.2.2.2.2.2.2.2.2.2.2.2.2.2 k0_h21 (k0_off137_inb arg22 arg26 v131 v133 v136 k0_hw25 k0_h21)

def k0_mult46 (arg24 : BitVec 32) : BitVec 32 :=
  let c512_i32_93 : BitVec 32 := 512#32
  let v206 : BitVec 32 := Scalar.muli arg24 c512_i32_93
  v206
def k0_cond22 (v2 : BitVec 32) (v11 : BitVec 32) (v20 : BitVec 32) (v29 : BitVec 32) (v38 : BitVec 32) (v47 : BitVec 32) (k0_t5 : Fin (k0_t5_loop v2 v11 v20 v29 v38 v47).trips) : BitVec 1 :=
  let c0_i32_32 : BitVec 32 := 0#32
  let c0_i32_4 : BitVec 32 := 0#32
  let c0_i32_3 : BitVec 32 := 0#32
  let v3 : BitVec 1 := Scalar.cmpi .sgt v2 c0_i32_3
  let v4 : BitVec 32 := Scalar.extui v3
  let v5 : BitVec 32 := Scalar.addi c0_i32_4 v4
  let c0_i32_6 : BitVec 32 := 0#32
  let v12 : BitVec 1 := Scalar.cmpi .sgt v11 c0_i32_6
  let v13 : BitVec 32 := Scalar.extui v12
  let v14 : BitVec 32 := Scalar.addi v5 v13
  let c0_i32_7 : BitVec 32 := 0#32
  let v21 : BitVec 1 := Scalar.cmpi .sgt v20 c0_i32_7
  let v22 : BitVec 32 := Scalar.extui v21
  let v23 : BitVec 32 := Scalar.addi v14 v22
  let c0_i32_8 : BitVec 32 := 0#32
  let v30 : BitVec 1 := Scalar.cmpi .sgt v29 c0_i32_8
  let v31 : BitVec 32 := Scalar.extui v30
  let v32 : BitVec 32 := Scalar.addi v23 v31
  let c0_i32_9 : BitVec 32 := 0#32
  let v39 : BitVec 1 := Scalar.cmpi .sgt v38 c0_i32_9
  let v40 : BitVec 32 := Scalar.extui v39
  let v41 : BitVec 32 := Scalar.addi v32 v40
  let c0_i32_10 : BitVec 32 := 0#32
  let v48 : BitVec 1 := Scalar.cmpi .sgt v47 c0_i32_10
  let v49 : BitVec 32 := Scalar.extui v48
  let v50 : BitVec 32 := Scalar.addi v41 v49
  let c28_i32 : BitVec 32 := 28#32
  let v54 : BitVec 32 := Scalar.muli v50 c28_i32
  let v102 : BitVec 32 := Scalar.subi v54 c0_i32_32
  let c1_i32_36 : BitVec 32 := 1#32
  let v104 : BitVec 32 := Scalar.divsi v102 c1_i32_36
  let v105 : BitVec 32 := Scalar.muli v104 c1_i32_36
  let v106 : BitVec 32 := Scalar.addi c0_i32_32 v105
  let c1_i32_38 : BitVec 32 := 1#32
  let arg21 : BitVec 32 := Scf.iv v106 c1_i32_38 k0_t5
  let c16_i32_79 : BitVec 32 := 16#32
  let v186 : BitVec 32 := Scalar.addi arg21 c16_i32_79
  let v187 : BitVec 1 := Scalar.cmpi .slt v186 v54
  let v188 : BitVec 32 := Scalar.extui v187
  let c0_i32_80 : BitVec 32 := 0#32
  let v189 : BitVec 1 := Scalar.cmpi .ne v188 c0_i32_80
  v189

def k0_chk26 (v2 : BitVec 32) (v11 : BitVec 32) (v20 : BitVec 32) (v29 : BitVec 32) (v38 : BitVec 32) (v47 : BitVec 32) (k0_t5 : Fin (k0_t5_loop v2 v11 v20 v29 v38 v47).trips) (arg24 : BitVec 32) : Prop :=
  (∀ (k0_h22 : k0_cond22 v2 v11 v20 v29 v38 v47 k0_t5 = 1#1), 512 ∣ (k0_mult46 arg24).toNat)
theorem k0_mult46_dvd : ∀ (v2 : BitVec 32) (v11 : BitVec 32) (v20 : BitVec 32) (v29 : BitVec 32) (v38 : BitVec 32) (v47 : BitVec 32) (k0_t5 : Fin (k0_t5_loop v2 v11 v20 v29 v38 v47).trips) (arg24 : BitVec 32) (k0_hw26 : k0_chk26 v2 v11 v20 v29 v38 v47 k0_t5 arg24), ∀ (k0_h22 : k0_cond22 v2 v11 v20 v29 v38 v47 k0_t5 = 1#1), 512 ∣ (k0_mult46 arg24).toNat := fun v2 v11 v20 v29 v38 v47 k0_t5 arg24 k0_hw26 k0_h22 => k0_hw26 k0_h22

def k0_off138 (arg25 : BitVec 32) : Fin 1 → Nat :=
  let v208 : Index := Scalar.indexCast arg25
  ![v208.toNat]

def k0_chk27 (v2 : BitVec 32) (v11 : BitVec 32) (v20 : BitVec 32) (v29 : BitVec 32) (v38 : BitVec 32) (v47 : BitVec 32) (k0_t5 : Fin (k0_t5_loop v2 v11 v20 v29 v38 v47).trips) (arg25 : BitVec 32) : Prop :=
  (∀ (k0_h22 : k0_cond22 v2 v11 v20 v29 v38 v47 k0_t5 = 1#1), ∀ a, (k0_off138 arg25) a + S1.size a ≤ S7.size a)
theorem k0_off138_inb : ∀ (v2 : BitVec 32) (v11 : BitVec 32) (v20 : BitVec 32) (v29 : BitVec 32) (v38 : BitVec 32) (v47 : BitVec 32) (k0_t5 : Fin (k0_t5_loop v2 v11 v20 v29 v38 v47).trips) (arg25 : BitVec 32) (k0_hw27 : k0_chk27 v2 v11 v20 v29 v38 v47 k0_t5 arg25), ∀ (k0_h22 : k0_cond22 v2 v11 v20 v29 v38 v47 k0_t5 = 1#1), ∀ a, (k0_off138 arg25) a + S1.size a ≤ S7.size a := fun v2 v11 v20 v29 v38 v47 k0_t5 arg25 k0_hw27 k0_h22 => k0_hw27 k0_h22

def k0_off139 (arg26 : BitVec 32) : Fin 1 → Nat :=
  ![arg26.toNat]
def k0_off140 (arg26 : BitVec 32) : Fin 3 → Nat :=
  let c0_i32_94 : BitVec 32 := 0#32
  let c0_i32_95 : BitVec 32 := 0#32
  ![arg26.toNat, 0, 0]
def k0_off141 (arg24 : BitVec 32) (v209 : BitVec 32) : Fin 3 → Nat :=
  let c0_i32_96 : BitVec 32 := 0#32
  let c512_i32_93 : BitVec 32 := 512#32
  let v206 : BitVec 32 := Scalar.muli arg24 c512_i32_93
  let v207 : BitVec 32 := v206
  ![v209.toNat, 0, v207.toNat]

def k0_chk28 (v2 : BitVec 32) (v11 : BitVec 32) (v20 : BitVec 32) (v29 : BitVec 32) (v38 : BitVec 32) (v47 : BitVec 32) (k0_t5 : Fin (k0_t5_loop v2 v11 v20 v29 v38 v47).trips) (arg24 : BitVec 32) (v209 : BitVec 32) : Prop :=
  (∀ (k0_h22 : k0_cond22 v2 v11 v20 v29 v38 v47 k0_t5 = 1#1), ∀ a, (k0_off141 arg24 v209) a + S1x4096x512.size a ≤ S6x4096x14336.size a) ∧
  (∀ (k0_h22 : k0_cond22 v2 v11 v20 v29 v38 v47 k0_t5 = 1#1), ∀ (hinb : ∀ a, (k0_off141 arg24 v209) a + S1x4096x512.size a ≤ S6x4096x14336.size a), (Rect.unit (s := S6x4096x14336) (k0_off141 arg24 v209) S1x4096x512.size hinb).WholeWords (EltTy.packing .fp8e4m3))
theorem k0_off141_inb : ∀ (v2 : BitVec 32) (v11 : BitVec 32) (v20 : BitVec 32) (v29 : BitVec 32) (v38 : BitVec 32) (v47 : BitVec 32) (k0_t5 : Fin (k0_t5_loop v2 v11 v20 v29 v38 v47).trips) (arg24 : BitVec 32) (v209 : BitVec 32) (k0_hw28 : k0_chk28 v2 v11 v20 v29 v38 v47 k0_t5 arg24 v209), ∀ (k0_h22 : k0_cond22 v2 v11 v20 v29 v38 v47 k0_t5 = 1#1), ∀ a, (k0_off141 arg24 v209) a + S1x4096x512.size a ≤ S6x4096x14336.size a := fun v2 v11 v20 v29 v38 v47 k0_t5 arg24 v209 k0_hw28 k0_h22 => k0_hw28.1 k0_h22
theorem k0_off141_wordsfp8e4m3 : ∀ (v2 : BitVec 32) (v11 : BitVec 32) (v20 : BitVec 32) (v29 : BitVec 32) (v38 : BitVec 32) (v47 : BitVec 32) (k0_t5 : Fin (k0_t5_loop v2 v11 v20 v29 v38 v47).trips) (arg24 : BitVec 32) (v209 : BitVec 32) (k0_hw28 : k0_chk28 v2 v11 v20 v29 v38 v47 k0_t5 arg24 v209), ∀ (k0_h22 : k0_cond22 v2 v11 v20 v29 v38 v47 k0_t5 = 1#1), (Rect.unit (s := S6x4096x14336) (k0_off141 arg24 v209) S1x4096x512.size (k0_off141_inb v2 v11 v20 v29 v38 v47 k0_t5 arg24 v209 k0_hw28 k0_h22)).WholeWords (EltTy.packing .fp8e4m3) := fun v2 v11 v20 v29 v38 v47 k0_t5 arg24 v209 k0_hw28 k0_h22 => k0_hw28.2 k0_h22 (k0_off141_inb v2 v11 v20 v29 v38 v47 k0_t5 arg24 v209 k0_hw28 k0_h22)

def k0_chk23 (v2 : BitVec 32) (v11 : BitVec 32) (v20 : BitVec 32) (v29 : BitVec 32) (v38 : BitVec 32) (v47 : BitVec 32) (k0_t5 : Fin (k0_t5_loop v2 v11 v20 v29 v38 v47).trips) (arg26 : BitVec 32) : Prop :=
  (∀ a, (k0_off82 arg26) a + S1.size a ≤ S16.size a) ∧
  (∀ a, (k0_off83 arg26) a + S1x4096x512.size a ≤ S16x4096x512.size a) ∧
  (∀ (hinb : ∀ a, (k0_off83 arg26) a + S1x4096x512.size a ≤ S16x4096x512.size a), (Rect.unit (s := S16x4096x512) (k0_off83 arg26) S1x4096x512.size hinb).WholeWords (EltTy.packing .fp8e4m3)) ∧
  (∀ (k0_h22 : k0_cond22 v2 v11 v20 v29 v38 v47 k0_t5 = 1#1), ∀ a, (k0_off139 arg26) a + S1.size a ≤ S16.size a) ∧
  (∀ (k0_h22 : k0_cond22 v2 v11 v20 v29 v38 v47 k0_t5 = 1#1), ∀ a, (k0_off140 arg26) a + S1x4096x512.size a ≤ S16x4096x512.size a) ∧
  (∀ (k0_h22 : k0_cond22 v2 v11 v20 v29 v38 v47 k0_t5 = 1#1), ∀ (hinb : ∀ a, (k0_off140 arg26) a + S1x4096x512.size a ≤ S16x4096x512.size a), (Rect.unit (s := S16x4096x512) (k0_off140 arg26) S1x4096x512.size hinb).WholeWords (EltTy.packing .fp8e4m3))
theorem k0_off82_inb : ∀ (v2 : BitVec 32) (v11 : BitVec 32) (v20 : BitVec 32) (v29 : BitVec 32) (v38 : BitVec 32) (v47 : BitVec 32) (k0_t5 : Fin (k0_t5_loop v2 v11 v20 v29 v38 v47).trips) (arg26 : BitVec 32) (k0_hw23 : k0_chk23 v2 v11 v20 v29 v38 v47 k0_t5 arg26), ∀ a, (k0_off82 arg26) a + S1.size a ≤ S16.size a := fun v2 v11 v20 v29 v38 v47 k0_t5 arg26 k0_hw23 => k0_hw23.1
theorem k0_off83_inb : ∀ (v2 : BitVec 32) (v11 : BitVec 32) (v20 : BitVec 32) (v29 : BitVec 32) (v38 : BitVec 32) (v47 : BitVec 32) (k0_t5 : Fin (k0_t5_loop v2 v11 v20 v29 v38 v47).trips) (arg26 : BitVec 32) (k0_hw23 : k0_chk23 v2 v11 v20 v29 v38 v47 k0_t5 arg26), ∀ a, (k0_off83 arg26) a + S1x4096x512.size a ≤ S16x4096x512.size a := fun v2 v11 v20 v29 v38 v47 k0_t5 arg26 k0_hw23 => k0_hw23.2.1
theorem k0_off83_wordsfp8e4m3 : ∀ (v2 : BitVec 32) (v11 : BitVec 32) (v20 : BitVec 32) (v29 : BitVec 32) (v38 : BitVec 32) (v47 : BitVec 32) (k0_t5 : Fin (k0_t5_loop v2 v11 v20 v29 v38 v47).trips) (arg26 : BitVec 32) (k0_hw23 : k0_chk23 v2 v11 v20 v29 v38 v47 k0_t5 arg26), (Rect.unit (s := S16x4096x512) (k0_off83 arg26) S1x4096x512.size (k0_off83_inb v2 v11 v20 v29 v38 v47 k0_t5 arg26 k0_hw23)).WholeWords (EltTy.packing .fp8e4m3) := fun v2 v11 v20 v29 v38 v47 k0_t5 arg26 k0_hw23 => k0_hw23.2.2.1 (k0_off83_inb v2 v11 v20 v29 v38 v47 k0_t5 arg26 k0_hw23)
theorem k0_off139_inb : ∀ (v2 : BitVec 32) (v11 : BitVec 32) (v20 : BitVec 32) (v29 : BitVec 32) (v38 : BitVec 32) (v47 : BitVec 32) (k0_t5 : Fin (k0_t5_loop v2 v11 v20 v29 v38 v47).trips) (arg26 : BitVec 32) (k0_hw23 : k0_chk23 v2 v11 v20 v29 v38 v47 k0_t5 arg26), ∀ (k0_h22 : k0_cond22 v2 v11 v20 v29 v38 v47 k0_t5 = 1#1), ∀ a, (k0_off139 arg26) a + S1.size a ≤ S16.size a := fun v2 v11 v20 v29 v38 v47 k0_t5 arg26 k0_hw23 k0_h22 => k0_hw23.2.2.2.1 k0_h22
theorem k0_off140_inb : ∀ (v2 : BitVec 32) (v11 : BitVec 32) (v20 : BitVec 32) (v29 : BitVec 32) (v38 : BitVec 32) (v47 : BitVec 32) (k0_t5 : Fin (k0_t5_loop v2 v11 v20 v29 v38 v47).trips) (arg26 : BitVec 32) (k0_hw23 : k0_chk23 v2 v11 v20 v29 v38 v47 k0_t5 arg26), ∀ (k0_h22 : k0_cond22 v2 v11 v20 v29 v38 v47 k0_t5 = 1#1), ∀ a, (k0_off140 arg26) a + S1x4096x512.size a ≤ S16x4096x512.size a := fun v2 v11 v20 v29 v38 v47 k0_t5 arg26 k0_hw23 k0_h22 => k0_hw23.2.2.2.2.1 k0_h22
theorem k0_off140_wordsfp8e4m3 : ∀ (v2 : BitVec 32) (v11 : BitVec 32) (v20 : BitVec 32) (v29 : BitVec 32) (v38 : BitVec 32) (v47 : BitVec 32) (k0_t5 : Fin (k0_t5_loop v2 v11 v20 v29 v38 v47).trips) (arg26 : BitVec 32) (k0_hw23 : k0_chk23 v2 v11 v20 v29 v38 v47 k0_t5 arg26), ∀ (k0_h22 : k0_cond22 v2 v11 v20 v29 v38 v47 k0_t5 = 1#1), (Rect.unit (s := S16x4096x512) (k0_off140 arg26) S1x4096x512.size (k0_off140_inb v2 v11 v20 v29 v38 v47 k0_t5 arg26 k0_hw23 k0_h22)).WholeWords (EltTy.packing .fp8e4m3) := fun v2 v11 v20 v29 v38 v47 k0_t5 arg26 k0_hw23 k0_h22 => k0_hw23.2.2.2.2.2 k0_h22 (k0_off140_inb v2 v11 v20 v29 v38 v47 k0_t5 arg26 k0_hw23 k0_h22)

def k0_mult47 : BitVec 32 :=
  let c13824_i32 : BitVec 32 := 13824#32
  c13824_i32
def k0_off142 (c27_i32 : BitVec 32) : Fin 1 → Nat :=
  let c2_i32_39 : BitVec 32 := 2#32
  let v110 : BitVec 32 := Scalar.remsi c27_i32 c2_i32_39
  ![v110.toNat]
def k0_off143 (c27_i32 : BitVec 32) : Fin 3 → Nat :=
  let c2_i32_39 : BitVec 32 := 2#32
  let v110 : BitVec 32 := Scalar.remsi c27_i32 c2_i32_39
  let c0_i32_41 : BitVec 32 := 0#32
  let c0_i32_42 : BitVec 32 := 0#32
  ![v110.toNat, 0, 0]
def k0_mult48 : BitVec 32 :=
  let c13312_i32 : BitVec 32 := 13312#32
  c13312_i32
def k0_mult49 : BitVec 32 :=
  let c13824_i32_47 : BitVec 32 := 13824#32
  c13824_i32_47
-- ==== ReferenceIdeal.lean ====
abbrev S256x4096 : Shape := ⟨2, ![256, 4096]⟩
abbrev S6 : Shape := ⟨1, ![6]⟩
abbrev S6x4096x14336 : Shape := ⟨3, ![6, 4096, 14336]⟩
abbrev S6x14336 : Shape := ⟨2, ![6, 14336]⟩
abbrev S256x14336 : Shape := ⟨2, ![256, 14336]⟩
abbrev S256x1 : Shape := ⟨2, ![256, 1]⟩
abbrev S1 : Shape := ⟨1, ![1]⟩
abbrev S1x4096x14336 : Shape := ⟨3, ![1, 4096, 14336]⟩
abbrev S4096x14336 : Shape := ⟨2, ![4096, 14336]⟩
abbrev S1x14336 : Shape := ⟨2, ![1, 14336]⟩

abbrev nBuf : Space → Nat
  | .hbm => 6
  | .vmem => 4
  | .smem => 2
  | _ => 0

abbrev bufTy : (tb : Table) → Fin (tcTables nBuf tb) → BufTy
  | .hbm, ⟨0, _⟩ => ⟨S256x4096, .bf16⟩
  | .hbm, ⟨1, _⟩ => ⟨S6, .i32⟩
  | .hbm, ⟨2, _⟩ => ⟨S6, .f32⟩
  | .hbm, ⟨3, _⟩ => ⟨S6x4096x14336, .fp8e4m3⟩
  | .hbm, ⟨4, _⟩ => ⟨S6x14336, .f32⟩
  | .hbm, ⟨5, _⟩ => ⟨S256x14336, .bf16⟩
  | .local _ .vmem, ⟨0, _⟩ => ⟨S256x4096, .bf16⟩
  | .local _ .vmem, ⟨1, _⟩ => ⟨S6x4096x14336, .fp8e4m3⟩
  | .local _ .vmem, ⟨2, _⟩ => ⟨S6x14336, .f32⟩
  | .local _ .vmem, ⟨3, _⟩ => ⟨S256x14336, .bf16⟩
  | .local _ .smem, ⟨0, _⟩ => ⟨S6, .i32⟩
  | .local _ .smem, ⟨1, _⟩ => ⟨S6, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S6 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x14336 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Base.lean ====
module
public import proofs.«01_k».proof.Proof.Gen.Kernel.Frame
public import proofs.«01_k».proof.Proof.Gen.Kernel.Loops
public import proofs.«01_k».proof.Proof.Gen.Kernel.Skeleton
public import Idealize.ShloMosaic.Lib.Scf
public import Idealize.ShloMosaic.Lib.Ring
/-!
The kernel's buffers by name, the element sets its transfers move, and one rule per kind of operation
(assume, load, store, start of a transfer, wait), each stated for the operation standing alone so that a
proof can walk a program one bound operation at a time.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

abbrev gsH : Memref sig .tc .hbm S6 .i32 := Memref.whole main_arg1
abbrev xsH : Memref sig .tc .hbm S6 .f32 := Memref.whole main_arg2
abbrev xH : Memref sig .tc .hbm S256x4096 .bf16 := Memref.whole main_arg0
abbrev wH : Memref sig .tc .hbm S6x4096x14336 .fp8e4m3 := Memref.whole main_arg3
abbrev wsH : Memref sig .tc .hbm S6x14336 .f32 := Memref.whole main_arg4
abbrev outH : Memref sig .tc .hbm S256x14336 .bf16 := Memref.whole main_v0
abbrev gsM : Memref sig .tc .smem S6 .i32 := Memref.whole cc0_scratch0
abbrev xsM : Memref sig .tc .smem S6 .f32 := Memref.whole cc0_scratch1
abbrev xM : Memref sig .tc .vmem S256x4096 .bf16 := Memref.whole cc0_scratch2
abbrev codeM : Memref sig .tc .vmem S256x4096 .fp8e4m3 := Memref.whole cc0_scratch3
abbrev wsM : Memref sig .tc .vmem S6x14336 .f32 := Memref.whole cc0_scratch4
abbrev wM : Memref sig .tc .vmem S16x4096x512 .fp8e4m3 := Memref.whole cc0_scratch5
abbrev oM : Memref sig .tc .vmem S2x256x512 .bf16 := Memref.whole cc0_scratch6
abbrev actM : Memref sig .tc .smem S7 .i32 := Memref.whole cc0_scratch7
abbrev startM : Memref sig .tc .smem S7 .i32 := Memref.whole cc0_scratch8

/-- The weakest precondition of a program of the kernel's thread. -/
abbrev W (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The counters' place in the resources: what a flight's ghost state lives in. -/
abbrev EC : UEmb Counters 𝕄 := countersEmb

variable (c : Dev nD)

/-- An assumed proposition that holds costs nothing. -/
theorem l_assume {P : Prop} {d : Decidable P} (h : P) {Q : PLift P → sProp 𝕄} :
    Q ⟨h⟩ ⊢ W (F := F) c (Prog.lift (.assume P d)) Q :=
  (le_wp_ret _ _ _ _ Q).trans (wp_assume _ _ _ _ (k := .ret) h)

/-- A returned value. -/
theorem l_pure {α : Type} {a : α} {Q : α → sProp 𝕄} : Q a ⊢ W (F := F) c (Pure.pure a) Q := le_wp_ret _ _ _ _ Q

/-- A vector load. -/
theorem l_load {cs : CoreSpace} {s : Shape} {e : EltTy} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))}
    {Q : _ → sProp 𝕄} (hS : (m.access r).set ⊆ S) :
    ((m.access r).loc (c : Thread nD τ) ↦[S]{q} f)
      ⊢ iprop((((m.access r).loc (c : Thread nD τ) ↦[S]{q} f) -∗ Q ((m.access r).read (Elt F) f)) -∗ W (F := F) c (Prog.lift (.load m r.toLoadRect hl)) Q) := by
  iintro H Hk
  iapply (wp_load_rect (c := (c : Thread nD τ)) Variants.none none Set.univ (k := .ret) hS) $$ H
  iintro H
  iapply (le_wp_ret (M := 𝕄))
  iapply Hk $$ H

/-- A load of one word of scalar memory. -/
theorem l_smem {s : Shape} {e : EltTy} {m : Memref sig .tc .smem s e} {r : Rect s} {hw : (m.access r).Loads} {x : r.shape.Idx}
    {S : Finset (Idx ((m.access r).loc (c : Thread nD τ)))} {q : PosShare TreeShare} {f : Buf (Elt F) ((m.access r).loc (c : Thread nD τ))}
    {Q : _ → sProp 𝕄} (hS : (m.access r).set ⊆ S) :
    ((m.access r).loc (c : Thread nD τ) ↦[S]{q} f)
      ⊢ iprop((((m.access r).loc (c : Thread nD τ) ↦[S]{q} f) -∗ Q ((m.access r).read (Elt F) f x)) -∗ W (F := F) c (smemLoadElt m r hw x Prog.ret) Q) := by
  iintro H Hk
  iapply (wp_smemLoadElt (c := (c : Thread nD τ)) Variants.none none Set.univ (k := .ret) hS) $$ H
  iintro H
  iapply (le_wp_ret (M := 𝕄))
  iapply Hk $$ H

/-- A vector store of every lane. -/
theorem l_store {cs : CoreSpace} {s : Shape} {e : EltTy} {m : Memref sig .tc cs s e} {r : Rect s} {w : r.shape.Idx → Elt F e}
    {hx : (m.access r).Stores Finset.univ} {hm : Finset.univ = (Finset.univ : Finset r.shape.Idx) ∨ ∀ a, r.stride a = 1}
    {S : Finset (Idx ((m.access r).loc (c : Thread nD τ)))} {f : Buf (Elt F) ((m.access r).loc (c : Thread nD τ))}
    {Q : PUnit → sProp 𝕄} (hS : (m.access r).setOn Finset.univ ⊆ S) :
    ((m.access r).loc (c : Thread nD τ) ↦[S]{fullShare} f)
      ⊢ iprop((((m.access r).loc (c : Thread nD τ) ↦[S]{fullShare} ((m.access r).write (Elt F) f w Finset.univ)) -∗ Q ⟨⟩) -∗ W (F := F) c (Prog.lift (.store m r w Finset.univ hx hm)) Q) := by
  iintro H Hk
  iapply (wp_store (c := (c : Thread nD τ)) Variants.none none Set.univ (k := .ret) hS) $$ H
  iintro H
  iapply (le_wp_ret (M := 𝕄))
  iapply Hk $$ H

/-- The start of a transfer between two buffers of this device: the flight delivers the destination holding what
    the source holds, and the source. -/
theorem l_enq {sp sp' : Space} {s : Shape} {e : EltTy} {src : Memref sig .tc sp s e} {dst : Memref sig .tc sp' s e} {sm : SemLoc sig}
    {hsrc : src.view.WordExact} {hdst : dst.view.WordExact} {hsem : DmaTarget.Typed (p := .tc) (nD := nD) sp sm (.here dst)}
    {q : PosShare TreeShare} {fs : Buf (Elt F) (src.view.loc (c : Thread nD τ))}
    {Ss : Finset (Idx (src.view.loc (c : Thread nD τ)))}
    {Sd : Finset (Idx (dst.view.loc (c : Thread nD τ)))} {fd : Buf (Elt F) (dst.view.loc (c : Thread nD τ))}
    {Q : PUnit → sProp 𝕄} (N : ℕ) (hN : dst.view.amount sm = N) (hN0 : 0 < N) (hSs : src.view.set = Ss) (hSd : dst.view.set ⊆ Sd)
    {D : sProp 𝕄}
    (hD : iprop((dst.view.loc (c : Thread nD τ) ↦[Sd]{fullShare} (dst.view.write (Elt F) fd (src.view.read (Elt F) fs) Finset.univ)) ∗ (src.view.loc (c : Thread nD τ) ↦[Ss]{q} fs)) ⊢ D) :
    iprop((src.view.loc (c : Thread nD τ) ↦[Ss]{q} fs) ∗ (dst.view.loc (c : Thread nD τ) ↦[Sd]{fullShare} fd) ∗ semVal ((c : Thread nD τ), sm) 0)
      ⊢ iprop((Flight EC (c : Thread nD τ) sm () N D -∗ Q ⟨⟩)
         -∗ W (F := F) c (Prog.lift (.enqueueDma src (.here dst) sm hsrc hdst hsem)) Q) := by
  subst hSs
  iintro H Hk
  iapply (wp_dmaLocal EC (c := (c : Thread nD τ)) Variants.none none (k := .ret) () N hN hN0 hSd) $$ H
  iintro H
  iapply (le_wp_ret (M := 𝕄))
  iapply Hk
  iapply (Flight_mono _ _ hD) $$ H

/-- A wait for a transfer in flight: what it delivers, and its semaphore back at zero. -/
theorem l_wait {sp sp' : Space} {s s' : Shape} {e e' : EltTy} {sem : DmaSem sig}
    {srcw : Memref sig .tc sp' s' e'} {dstw : Memref sig .tc sp s e} {hsrc : srcw.view.WordExact} {hdst : dstw.view.WordExact}
    {Q : PUnit → sProp 𝕄} {N : ℕ} (hN : dstw.view.dmaCredit = N) {D : sProp 𝕄} :
    iprop(Flight EC (c : Thread nD τ) (.dma sem) () N D ∗ (∃ w, owes (c : Thread nD τ) 0 w))
      ⊢ iprop((iprop(D ∗ semVal ((c : Thread nD τ), .dma sem) 0 ∗ (∃ w, owes (c : Thread nD τ) 0 w)) -∗ Q ⟨⟩)
         -∗ W (F := F) c (Prog.lift (.waitDma2 sem srcw dstw hsrc hdst)) Q) := by
  iintro ⟨H, ⟨%w, Ho⟩⟩ Hk
  iapply (wp_waitLocal EC (c := (c : Thread nD τ)) Variants.none none (k := .ret) () hN) $$ [H Ho]
  · isplitl [H] <;> iassumption
  iintro ⟨HD, Hs, Ho⟩
  iapply (le_wp_ret (M := 𝕄))
  iapply Hk
  isplitl [HD]; · iexact HD
  isplitl [Hs]; · iexact Hs
  iexists _; iexact Ho

end Cert.Kernel.Hand
end
-- ==== Proof.K.Words.lean ====
module
public import proofs.«01_k».proof.Proof.K.Base
/-!
The integer words the kernel computes: loop bounds, offsets, conditions and side conditions, each as a
natural number under the ranges the loop counters keep.
-/
@[expose] public section
noncomputable section
namespace Cert.Kernel.Hand
open Cert.Kernel Cert.Kernel.Gen
open Idealize.ShloMosaic Idealize.ShloMosaic.TcCoe

/-- The 32-bit word of a natural number. -/
abbrev wd (n : ℕ) : BitVec 32 := BitVec.ofNat 32 n

theorem toNat_wd {n : ℕ} (h : n < 4294967296) : (wd n).toNat = n := by
  simp [wd, BitVec.toNat_ofNat, Nat.mod_eq_of_lt h]
theorem idx_wd {n : ℕ} (h : n < 2147483648) : (Scalar.indexCast (wd n)).toNat = n := by
  first | exact toNat_wd (by omega) | (unfold Scalar.indexCast; simp [wd]; omega)
theorem addi_wd (a b : ℕ) : Scalar.addi (wd a) (wd b) = wd (a + b) := (BitVec.ofNat_add _ _).symm

/-! ## The number of experts with a row -/

/-- One if the word is positive. -/
def pos (s : BitVec 32) : ℕ := if s = 0#32 then 0 else 1

theorem extui_sgt {s : BitVec 32} (h : s.toNat ≤ 256) : (Scalar.extui (Scalar.cmpi .sgt s 0#32) : BitVec 32) = wd (pos s) := by
  obtain ⟨n, hn, rfl⟩ : ∃ n : Fin 257, ∃ _ : True, s = wd n := ⟨⟨s.toNat, by omega⟩, trivial, by simp [wd]⟩
  revert n; decide +kernel

/-- The kernel's running count after the six sizes. -/
def nA (v2 v11 v20 v29 v38 v47 : BitVec 32) : BitVec 32 :=
  Scalar.addi (Scalar.addi (Scalar.addi (Scalar.addi (Scalar.addi (Scalar.addi 0#32
    (Scalar.extui (Scalar.cmpi .sgt v2 0#32))) (Scalar.extui (Scalar.cmpi .sgt v11 0#32)))
    (Scalar.extui (Scalar.cmpi .sgt v20 0#32))) (Scalar.extui (Scalar.cmpi .sgt v29 0#32)))
    (Scalar.extui (Scalar.cmpi .sgt v38 0#32))) (Scalar.extui (Scalar.cmpi .sgt v47 0#32))

section Loops
variable {v2 v11 v20 v29 v38 v47 : BitVec 32} {m : ℕ}

/-- The priming loop's upper bound as a function of the count. -/
def ub1 (v : BitVec 32) : BitVec 32 :=
  Scalar.addi 0#32 (Scalar.muli (Scalar.divsi (Scalar.subi (Scalar.minsi (Scalar.muli v 28#32) 16#32) 0#32) 1#32) 1#32)
/-- The item loop's upper bound as a function of the count. -/
def ub4 (v : BitVec 32) : BitVec 32 :=
  Scalar.addi 0#32 (Scalar.muli (Scalar.divsi (Scalar.subi (Scalar.muli v 28#32) 0#32) 1#32) 1#32)
/-- The remainder loops' final bounds. -/
def ub2 (v : BitVec 32) : BitVec 32 := Scalar.addi 0#32 (Scalar.subi (Scalar.minsi (Scalar.muli v 28#32) 16#32) 0#32)
def ub5 (v : BitVec 32) : BitVec 32 := Scalar.addi 0#32 (Scalar.subi (Scalar.muli v 28#32) 0#32)

theorem t1_loop_eq : k0_t1_loop v2 v11 v20 v29 v38 v47 = ⟨0#32, ub1 (nA v2 v11 v20 v29 v38 v47), 1#32⟩ := rfl
theorem t2_loop_eq : k0_t2_loop v2 v11 v20 v29 v38 v47 = ⟨ub1 (nA v2 v11 v20 v29 v38 v47), ub2 (nA v2 v11 v20 v29 v38 v47), 1#32⟩ := rfl
theorem t4_loop_eq : k0_t4_loop v2 v11 v20 v29 v38 v47 = ⟨0#32, ub4 (nA v2 v11 v20 v29 v38 v47), 1#32⟩ := rfl
theorem t5_loop_eq : k0_t5_loop v2 v11 v20 v29 v38 v47 = ⟨ub4 (nA v2 v11 v20 v29 v38 v47), ub5 (nA v2 v11 v20 v29 v38 v47), 1#32⟩ := rfl

theorem loops_dec : ∀ m : Fin 7, 1 ≤ m.val →
    (Scf.trips 0#32 (ub1 (wd m)) 1#32 = 16 ∧ Scf.OK 0#32 (ub1 (wd m)) 1#32)
    ∧ (Scf.trips (ub1 (wd m)) (ub2 (wd m)) 1#32 = 0 ∧ Scf.OK (ub1 (wd m)) (ub2 (wd m)) 1#32)
    ∧ (Scf.trips 0#32 (ub4 (wd m)) 1#32 = 28 * m ∧ Scf.OK 0#32 (ub4 (wd m)) 1#32)
    ∧ (Scf.trips (ub4 (wd m)) (ub5 (wd m)) 1#32 = 0 ∧ Scf.OK (ub4 (wd m)) (ub5 (wd m)) 1#32) := by
  decide +kernel

theorem t1_trips (hm : nA v2 v11 v20 v29 v38 v47 = wd m) (h1 : 1 ≤ m) (h6 : m ≤ 6) : (k0_t1_loop v2 v11 v20 v29 v38 v47).trips = 16 := by
  rw [t1_loop_eq, hm]; exact (loops_dec ⟨m, by omega⟩ h1).1.1
theorem t2_trips (hm : nA v2 v11 v20 v29 v38 v47 = wd m) (h1 : 1 ≤ m) (h6 : m ≤ 6) : (k0_t2_loop v2 v11 v20 v29 v38 v47).trips = 0 := by
  rw [t2_loop_eq, hm]; exact (loops_dec ⟨m, by omega⟩ h1).2.1.1
theorem t4_trips (hm : nA v2 v11 v20 v29 v38 v47 = wd m) (h1 : 1 ≤ m) (h6 : m ≤ 6) : (k0_t4_loop v2 v11 v20 v29 v38 v47).trips = 28 * m := by
  rw [t4_loop_eq, hm]; exact (loops_dec ⟨m, by omega⟩ h1).2.2.1.1
theorem t5_trips (hm : nA v2 v11 v20 v29 v38 v47 = wd m) (h1 : 1 ≤ m) (h6 : m ≤ 6) : (k0_t5_loop v2 v11 v20 v29 v38 v47).trips = 0 := by
  rw [t5_loop_eq, hm]; exact (loops_dec ⟨m, by omega⟩ h1).2.2.2.1

theorem iv_wd (k : ℕ) : Scf.iv 0#32 1#32 k = wd k := by
  simp [Scf.iv, wd]

theorem off8_eq (k : Fin (k0_t1_loop v2 v11 v20 v29 v38 v47).trips) (hk : k.val < 2147483648) : k0_off8 v2 v11 v20 v29 v38 v47 k = ![k.val] := by
  show ![(Scf.iv 0#32 1#32 k.val).toNat] = _
  rw [iv_wd, toNat_wd (by omega)]
theorem off9_eq (k : Fin (k0_t1_loop v2 v11 v20 v29 v38 v47).trips) (hk : k.val < 2147483648) : k0_off9 v2 v11 v20 v29 v38 v47 k = ![k.val, 0, 0] := by
  show ![(Scf.iv 0#32 1#32 k.val).toNat, 0, 0] = _
  rw [iv_wd, toNat_wd (by omega)]

/-- A word-aligned slot of the weight ring: whole rows and lanes from row zero. -/
theorem ww_w {off : Fin 3 → ℕ} {inb} (h : off 1 = 0) : (Rect.unit (s := S16x4096x512) off S1x4096x512.size inb).WholeWords (EltTy.packing .fp8e4m3) :=
  Or.inr ⟨by decide, rfl, h, rfl⟩
theorem ww_h {off : Fin 3 → ℕ} {inb} (h : off 1 = 0) : (Rect.unit (s := S6x4096x14336) off S1x4096x512.size inb).WholeWords (EltTy.packing .fp8e4m3) :=
  Or.inr ⟨by decide, rfl, h, rfl⟩
theorem ww_o {off : Fin 3 → ℕ} {inb} (h : off 1 = 0) : (Rect.unit (s := S2x256x512) off S1x256x512.size inb).WholeWords (EltTy.packing .bf16) :=
  Or.inr ⟨by decide, rfl, h, rfl⟩
theorem ww_out {off : Fin 2 → ℕ} {inb} (h : off 0 = 0) : (Rect.unit (s := S256x14336) off S256x512.size inb).WholeWords (EltTy.packing .bf16) :=
  Or.inr ⟨by decide, rfl, h, rfl⟩

theorem inb1 {N k : ℕ} (h : k + 1 ≤ N) : ∀ a : Fin 1, (![k] : Fin 1 → ℕ) a + (![1] : Fin 1 → ℕ) a ≤ (![N] : Fin 1 → ℕ) a := by
  intro a; fin_cases a; simpa using h
theorem inb2 {a0 a1 s0 s1 n0 n1 : ℕ} (h0 : a0 + s0 ≤ n0) (h1 : a1 + s1 ≤ n1) :
    ∀ a : Fin 2, (![a0, a1] : Fin 2 → ℕ) a + (![s0, s1] : Fin 2 → ℕ) a ≤ (![n0, n1] : Fin 2 → ℕ) a := by
  intro a; fin_cases a <;> simpa
theorem inb3 {a0 a1 a2 s0 s1 s2 n0 n1 n2 : ℕ} (h0 : a0 + s0 ≤ n0) (h1 : a1 + s1 ≤ n1) (h2 : a2 + s2 ≤ n2) :
    ∀ a : Fin 3, (![a0, a1, a2] : Fin 3 → ℕ) a + (![s0, s1, s2] : Fin 3 → ℕ) a ≤ (![n0, n1, n2] : Fin 3 → ℕ) a := by
  intro a; fin_cases a <;> simpa

theorem chk6_of (hm : nA v2 v11 v20 v29 v38 v47 = wd m) (h1 : 1 ≤ m) (h6 : m ≤ 6) : k0_chk6 v2 v11 v20 v29 v38 v47 := by
  have H := loops_dec ⟨m, by omega⟩ h1
  have ht1 := t1_trips hm h1 h6
  have ht2 := t2_trips hm h1 h6
  refine ⟨?_, ?_, ?_, ?_, ?_, ?_, ?_, ?_, ?_, ?_, ?_⟩
  · show ∀ a : Fin 1, (![(Scalar.indexCast (nA v2 v11 v20 v29 v38 v47)).toNat] : Fin 1 → ℕ) a + _ ≤ _
    rw [hm, idx_wd (by omega)]
    exact inb1 (N := 7) (by omega)
  · rw [t1_loop_eq, hm]; exact H.1.2
  · intro k
    have hk : k.val < 16 := by have := k.isLt; omega
    rw [off8_eq k (by omega)]
    exact inb1 (N := 16) (by omega)
  · intro k
    have hk : k.val < 16 := by have := k.isLt; omega
    rw [off9_eq k (by omega)]
    exact inb3 (n0 := 16) (n1 := 4096) (n2 := 512) (by omega) (by omega) (by omega)
  · intro k hinb
    exact ww_w rfl
  · rw [t2_loop_eq, hm]; exact H.2.1.2
  · intro k; exact absurd k.isLt (by omega)
  · intro k; exact absurd k.isLt (by omega)
  · intro k; exact absurd k.isLt (by omega)
  · rw [t4_loop_eq, hm]; exact H.2.2.1.2
  · rw [t5_loop_eq, hm]; exact H.2.2.2.2

/-- More items remain to be started exactly while the item sixteen ahead exists. -/
theorem cond11_iff (hm : nA v2 v11 v20 v29 v38 v47 = wd m) (h1 : 1 ≤ m) (h6 : m ≤ 6) (k : Fin (k0_t4_loop v2 v11 v20 v29 v38 v47).trips) :
    k0_cond11 v2 v11 v20 v29 v38 v47 k = 1#1 ↔ k.val + 16 < 28 * m := by
  have hk : k.val < 28 * m := lt_of_lt_of_eq k.isLt (t4_trips hm h1 h6)
  have hc : k0_cond11 v2 v11 v20 v29 v38 v47 k
      = Scalar.cmpi .ne (Scalar.extui (Scalar.cmpi .slt (Scalar.addi (Scf.iv 0#32 1#32 k.val) 16#32) (Scalar.muli (nA v2 v11 v20 v29 v38 v47) 28#32)) : BitVec 32) 0#32 := rfl
  rw [hc, hm, iv_wd]
  have hD : ∀ m' : Fin 7, ∀ k' : Fin 168, (Scalar.cmpi .ne (Scalar.extui (Scalar.cmpi .slt (Scalar.addi (wd k'.val) 16#32) (Scalar.muli (wd m'.val) 28#32)) : BitVec 32) 0#32 = 1#1 ↔ k'.val + 16 < 28 * m'.val) := by
    decide +kernel
  exact hD ⟨m, by omega⟩ ⟨k.val, by omega⟩
end Loops

/-! ## The carried words of an item -/

theorem off7_eq {j : ℕ} (h : j < 2147483648) : k0_off7 (wd j) = ![j] := by
  show ![(Scalar.indexCast (wd j)).toNat] = _; rw [idx_wd h]
theorem off75_eq {j : ℕ} (h : j < 2147483648) : k0_off75 (wd j) = ![j] := off7_eq h
theorem off16_eq {j : ℕ} (h : j < 2147483648) : k0_off16 (wd j) = ![j] := off7_eq h
theorem off18_eq {j : ℕ} (h : j < 2147483648) : k0_off18 (wd j) = ![j] := off7_eq h
theorem off17_eq {j : ℕ} (h : j < 2147483647) : k0_off17 (wd j) = ![j + 1] := by
  show ![(Scalar.indexCast (Scalar.addi (wd j) (wd 1))).toNat] = _; rw [addi_wd, idx_wd (by omega)]

theorem muli512 {n : ℕ} (h : n < 28) : (Scalar.muli (wd n) 512#32).toNat = 512 * n := by
  have : ∀ n : Fin 28, (Scalar.muli (wd n.val) 512#32).toNat = 512 * n.val := by decide +kernel
  exact this ⟨n, h⟩
theorem off10_eq {n e : ℕ} (h : n < 28) (he : e < 6) : k0_off10 (wd n) (wd e) = ![e, 0, 512 * n] := by
  show ![(wd e).toNat, 0, (Scalar.muli (wd n) 512#32).toNat] = _
  rw [muli512 h, toNat_wd (by omega)]
theorem off21_eq {n e : ℕ} (h : n < 28) (he : e < 6) : k0_off21 (wd n) (wd e) = ![e, 0, 512 * n] := off10_eq h he
theorem off78_eq {n e : ℕ} (h : n < 28) (he : e < 6) : k0_off78 (wd n) (wd e) = ![e, 0, 512 * n] := off10_eq h he
theorem off19_eq {k : ℕ} (h : k < 16) : k0_off19 (wd k) = ![k] := by
  show ![(wd k).toNat] = _; rw [toNat_wd (by omega)]
theorem off76_eq {k : ℕ} (h : k < 16) : k0_off76 (wd k) = ![k] := off19_eq h
theorem off20_eq {k : ℕ} (h : k < 16) : k0_off20 (wd k) = ![k, 0, 0] := by
  show ![(wd k).toNat, 0, 0] = _; rw [toNat_wd (by omega)]
theorem off77_eq {k : ℕ} (h : k < 16) : k0_off77 (wd k) = ![k, 0, 0] := off20_eq h

theorem chk7_of {n : ℕ} (h : n < 28) : k0_chk7 (wd n) := by
  show 512 ∣ (Scalar.muli (wd n) 512#32).toNat; rw [muli512 h]; exact ⟨n, rfl⟩
theorem chk14_of {n : ℕ} (h : n < 28) : k0_chk14 (wd n) := chk7_of h
theorem chk8_of {j : ℕ} (h : j < 7) : k0_chk8 (wd j) := by
  show ∀ a, (k0_off7 (wd j)) a + _ ≤ _; rw [off7_eq (by omega)]; exact inb1 (N := 7) (by omega)
theorem chk9_of {n e : ℕ} (h : n < 28) (he : e < 6) : k0_chk9 (wd n) (wd e) := by
  refine ⟨?_, fun _ => ww_h rfl⟩
  rw [off10_eq h he]; exact inb3 (n0 := 6) (n1 := 4096) (n2 := 14336) (by omega) (by omega) (by omega)
theorem chk16_of {n e : ℕ} (h : n < 28) (he : e < 6) : k0_chk16 (wd n) (wd e) := chk9_of h he

section T4
variable {v2 v11 v20 v29 v38 v47 : BitVec 32} (t : Fin (k0_t4_loop v2 v11 v20 v29 v38 v47).trips)

theorem chk19_of {j : ℕ} (h : j < 7) : k0_chk19 v2 v11 v20 v29 v38 v47 t (wd j) := fun _ => chk8_of h
theorem chk18_of {n : ℕ} (h : k0_cond11 v2 v11 v20 v29 v38 v47 t = 1#1 → n < 28) : k0_chk18 v2 v11 v20 v29 v38 v47 t (wd n) := fun hc => chk7_of (h hc)
theorem chk20_of {n e : ℕ} (h : n < 28) (he : e < 6) : k0_chk20 v2 v11 v20 v29 v38 v47 t (wd n) (wd e) := ⟨fun _ => (chk9_of h he).1, fun _ => (chk9_of h he).2⟩
theorem chk15_of {k : ℕ} (h : k < 16) : k0_chk15 v2 v11 v20 v29 v38 v47 t (wd k) := by
  have h1 : ∀ a, (k0_off19 (wd k)) a + S1.size a ≤ S16.size a := by rw [off19_eq h]; exact inb1 (N := 16) (by omega)
  have h2 : ∀ a, (k0_off20 (wd k)) a + S1x4096x512.size a ≤ S16x4096x512.size a := by
    rw [off20_eq h]; exact inb3 (n0 := 16) (n1 := 4096) (n2 := 512) (by omega) (by omega) (by omega)
  exact ⟨h1, h2, fun _ => ww_w rfl, fun _ => h1, fun _ => h2, fun _ _ => ww_w rfl⟩
end T4

/-! ## The output block's words -/

theorem cond1_iff {n j : ℕ} (hn : n < 28) (hj : j < 6) : k0_cond1 (wd n) (wd j) = 1#1 ↔ (j = 0 ∧ 1 ≤ n) := by
  have : ∀ n : Fin 28, ∀ j : Fin 6, k0_cond1 (wd n.val) (wd j.val) = 1#1 ↔ (j.val = 0 ∧ 1 ≤ n.val) := by decide +kernel
  exact this ⟨n, hn⟩ ⟨j, hj⟩
theorem cond2_iff {n j : ℕ} (hn : n < 28) (hj : j < 6) : k0_cond2 (wd n) (wd j) = 1#1 ↔ (j = 0 ∧ 2 ≤ n) := by
  have : ∀ n : Fin 28, ∀ j : Fin 6, k0_cond2 (wd n.val) (wd j.val) = 1#1 ↔ (j.val = 0 ∧ 2 ≤ n.val) := by decide +kernel
  exact this ⟨n, hn⟩ ⟨j, hj⟩
theorem off22_eq {n : ℕ} (hn : n < 28) (h : 1 ≤ n) : k0_off22 (wd n) = ![(n - 1) % 2] := by
  have : ∀ n : Fin 28, 1 ≤ n.val → k0_off22 (wd n.val) = ![(n.val - 1) % 2] := by decide +kernel
  exact this ⟨n, hn⟩ h
theorem off23_eq {n : ℕ} (hn : n < 28) (h : 1 ≤ n) : k0_off23 (wd n) = ![0, 512 * (n - 1)] := by
  have : ∀ n : Fin 28, 1 ≤ n.val → k0_off23 (wd n.val) = ![0, 512 * (n.val - 1)] := by decide +kernel
  exact this ⟨n, hn⟩ h
theorem off24_eq {n : ℕ} (hn : n < 28) (h : 1 ≤ n) : k0_off24 (wd n) = ![(n - 1) % 2, 0, 0] := by
  have : ∀ n : Fin 28, 1 ≤ n.val → k0_off24 (wd n.val) = ![(n.val - 1) % 2, 0, 0] := by decide +kernel
  exact this ⟨n, hn⟩ h
theorem off25_eq {n : ℕ} (hn : n < 28) (h : 2 ≤ n) : k0_off25 (wd n) = ![(n - 2) % 2] := by
  have : ∀ n : Fin 28, 2 ≤ n.val → k0_off25 (wd n.val) = ![(n.val - 2) % 2] := by decide +kernel
  exact this ⟨n, hn⟩ h
theorem off26_eq {n : ℕ} (hn : n < 28) (h : 2 ≤ n) : k0_off26 (wd n) = ![0, 512 * (n - 2)] := by
  have : ∀ n : Fin 28, 2 ≤ n.val → k0_off26 (wd n.val) = ![0, 512 * (n.val - 2)] := by decide +kernel
  exact this ⟨n, hn⟩ h
theorem off27_eq {n : ℕ} (hn : n < 28) (h : 2 ≤ n) : k0_off27 (wd n) = ![(n - 2) % 2, 0, 0] := by
  have : ∀ n : Fin 28, 2 ≤ n.val → k0_off27 (wd n.val) = ![(n.val - 2) % 2, 0, 0] := by decide +kernel
  exact this ⟨n, hn⟩ h

theorem chk13_of {n j : ℕ} (hn : n < 28) (hj : j < 6) : k0_chk13 (wd n) (wd j) := by
  have c1 := cond1_iff hn hj
  have c2 := cond2_iff hn hj
  have m8 : ∀ n : Fin 28, 512 ∣ (k0_mult8 (wd n.val)).toNat := by decide +kernel
  have m9 : ∀ n : Fin 28, 512 ∣ (k0_mult9 (wd n.val)).toNat := by decide +kernel
  refine ⟨chk8_of (by omega), ?_, chk8_of (by omega), fun h => m8 ⟨n, hn⟩, fun h => ?_, fun h => ?_, fun h => ?_, fun h _ => ww_o rfl, fun h _ => ww_out rfl,
    fun h => m9 ⟨n, hn⟩, fun h => ?_, fun h => ?_, fun h => ?_, fun h _ => ww_o rfl, fun h _ => ww_out rfl⟩
  · rw [off17_eq (by omega)]; exact inb1 (N := 7) (by omega)
  · rw [off22_eq hn (c1.1 h).2]; exact inb1 (N := 2) (by omega)
  · rw [off23_eq hn (c1.1 h).2]; exact inb2 (n0 := 256) (n1 := 14336) (by omega) (by omega)
  · rw [off24_eq hn (c1.1 h).2]; exact inb3 (n0 := 2) (n1 := 256) (n2 := 512) (by omega) (by omega) (by omega)
  · rw [off25_eq hn (c2.1 h).2]; exact inb1 (N := 2) (by omega)
  · rw [off26_eq hn (c2.1 h).2]; exact inb2 (n0 := 256) (n1 := 14336) (by omega) (by omega)
  · rw [off27_eq hn (c2.1 h).2]; exact inb3 (n0 := 2) (n1 := 256) (n2 := 512) (by omega) (by omega) (by omega)

/-! ## The tiles of one expert's rows -/

/-- The start of an expert's rows rounded down to a multiple of 32, as the kernel computes it. -/
def bw (v : BitVec 32) : BitVec 32 := Scalar.andi v 4294967264#32
theorem bw_wd {S : ℕ} (h : S ≤ 256) : bw (wd S) = wd (S / 32 * 32) := by
  have : ∀ S : Fin 257, bw (wd S.val) = wd (S.val / 32 * 32) := by decide +kernel
  exact this ⟨S, by omega⟩
theorem bwi {S : ℕ} (h : S ≤ 256) : (Scalar.indexCast (bw (wd S))).toNat = S / 32 * 32 := by
  rw [bw_wd h, idx_wd (by omega)]
theorem bwi32 {S : ℕ} (h : S ≤ 256) : (Scalar.indexCast (Scalar.addi (bw (wd S)) 32#32)).toNat = S / 32 * 32 + 32 := by
  rw [bw_wd h, show (32#32 : BitVec 32) = wd 32 from rfl, addi_wd, idx_wd (by omega)]
theorem nmod {n : ℕ} (h : n < 28) : (Scalar.indexCast (Scalar.remsi (wd n) 2#32)).toNat = n % 2 := by
  have : ∀ n : Fin 28, (Scalar.indexCast (Scalar.remsi (wd n.val) 2#32)).toNat = n.val % 2 := by decide +kernel
  exact this ⟨n, h⟩
theorem mul0 {n : ℕ} (h : n < 28) : (Scalar.indexCast (Scalar.addi (Scalar.muli (wd n) 512#32) 0#32)).toNat = 512 * n := by
  have : ∀ n : Fin 28, (Scalar.indexCast (Scalar.addi (Scalar.muli (wd n.val) 512#32) 0#32)).toNat = 512 * n.val := by decide +kernel
  exact this ⟨n, h⟩

/-- The kernel's test that an expert's rows take exactly `t` tiles. -/
def condT (t v v' : BitVec 32) : BitVec 1 :=
  Scalar.cmpi .ne (Scalar.extui (Scalar.cmpi .eq (Scalar.shrsi (Scalar.addi (Scalar.subi v' (bw v)) 31#32) 5#32) t) : BitVec 32) 0#32

theorem condT_iff {S S' t : ℕ} (h : S < S') (h' : S' ≤ 256) (ht : t < 9) : condT (wd t) (wd S) (wd S') = 1#1 ↔ (S' - S / 32 * 32 + 31) / 32 = t := by
  have hs : Scalar.addi (Scalar.subi (wd S') (bw (wd S))) 31#32 = wd (S' - S / 32 * 32 + 31) := by
    rw [bw_wd (by omega)]
    have : Scalar.subi (wd S') (wd (S / 32 * 32)) = wd (S' - S / 32 * 32) := by
      apply BitVec.eq_of_toNat_eq
      show (wd S' - wd (S / 32 * 32)).toNat = _
      rw [BitVec.toNat_sub, toNat_wd (by omega), toNat_wd (by omega), toNat_wd (by omega)]
      omega
    rw [this]; exact addi_wd _ 31
  have hD : ∀ x : Fin 320, ∀ t : Fin 9, (Scalar.cmpi .ne (Scalar.extui (Scalar.cmpi .eq (Scalar.shrsi (wd x.val) 5#32) (wd t.val)) : BitVec 32) 0#32 = 1#1 ↔ x.val / 32 = t.val) := by
    decide +kernel
  unfold condT
  rw [hs]
  exact hD ⟨_, by omega⟩ ⟨t, ht⟩

theorem inbX {R b : ℕ} (h : b + R ≤ 256) : ∀ a : Fin 2, (![b, 0] : Fin 2 → ℕ) a + (![R, 4096] : Fin 2 → ℕ) a ≤ (![256, 4096] : Fin 2 → ℕ) a := inb2 h (by omega)
theorem inbO {R s b : ℕ} (hs : s < 2) (h : b + R ≤ 256) : ∀ a : Fin 3, (![s, b, 0] : Fin 3 → ℕ) a + (![1, R, 512] : Fin 3 → ℕ) a ≤ (![2, 256, 512] : Fin 3 → ℕ) a :=
  inb3 (by omega) h (by omega)
/-- An even row offset and an even number of rows keep the packed pairs of rows together. -/
theorem pr_o {off size : Fin 3 → ℕ} {inb} (h : 2 ∣ off 1) (h' : 2 ∣ size 1) : (Rect.unit (s := S2x256x512) off size inb).PackedRows (EltTy.packing .bf16) :=
  Or.inr ⟨by decide, rfl, Or.inl ⟨h, h'⟩⟩

theorem chk17_of {n k e S S' : ℕ} (hn : n < 28) (hk : k < 16) (he : e < 6) (h : S < S') (h' : S' ≤ 256) : k0_chk17 (wd n) (wd k) (wd e) (wd S) (wd S') := by
  have hS : S ≤ 256 := by omega
  have mul : 32 ∣ (bw (wd S)).toNat := by rw [bw_wd hS, toNat_wd (by omega)]; omega
  have mul512 : 512 ∣ (Scalar.addi (Scalar.muli (wd n) 512#32) 0#32).toNat := by
    have : ∀ n : Fin 28, 512 ∣ (Scalar.addi (Scalar.muli (wd n.val) 512#32) 0#32).toNat := by decide +kernel
    exact this ⟨n, hn⟩
  have hx : ∀ R, S / 32 * 32 + R ≤ 256 → ∀ a : Fin 2, (![(Scalar.indexCast (bw (wd S))).toNat, 0] : Fin 2 → ℕ) a + (![R, 4096] : Fin 2 → ℕ) a ≤ (![256, 4096] : Fin 2 → ℕ) a := by
    intro R hR; rw [bwi hS]; exact inbX hR
  have hw : ∀ a : Fin 3, (![(Scalar.indexCast (wd k)).toNat, 0, 0] : Fin 3 → ℕ) a + (![1, 4096, 512] : Fin 3 → ℕ) a ≤ (![16, 4096, 512] : Fin 3 → ℕ) a := by
    rw [idx_wd (by omega)]; exact inb3 (by omega) (by omega) (by omega)
  have hxs : ∀ a : Fin 1, (![(Scalar.indexCast (wd e)).toNat] : Fin 1 → ℕ) a + (![1] : Fin 1 → ℕ) a ≤ (![6] : Fin 1 → ℕ) a := by
    rw [idx_wd (by omega)]; exact inb1 (by omega)
  have hws : ∀ a : Fin 2, (![(Scalar.indexCast (wd e)).toNat, (Scalar.indexCast (Scalar.addi (Scalar.muli (wd n) 512#32) 0#32)).toNat] : Fin 2 → ℕ) a + (![1, 512] : Fin 2 → ℕ) a ≤ (![6, 14336] : Fin 2 → ℕ) a := by
    rw [idx_wd (by omega), mul0 hn]; exact inb2 (by omega) (by omega)
  have ho : ∀ R, S / 32 * 32 + R ≤ 256 → ∀ a : Fin 3, (![(Scalar.indexCast (Scalar.remsi (wd n) 2#32)).toNat, (Scalar.indexCast (bw (wd S))).toNat, 0] : Fin 3 → ℕ) a + (![1, R, 512] : Fin 3 → ℕ) a ≤ (![2, 256, 512] : Fin 3 → ℕ) a := by
    intro R hR; rw [bwi hS, nmod hn]; exact inbO (by omega) hR
  have ho32 : ∀ R, S / 32 * 32 + 32 + R ≤ 256 → ∀ a : Fin 3, (![(Scalar.indexCast (Scalar.remsi (wd n) 2#32)).toNat, (Scalar.indexCast (Scalar.addi (bw (wd S)) 32#32)).toNat, 0] : Fin 3 → ℕ) a + (![1, R, 512] : Fin 3 → ℕ) a ≤ (![2, 256, 512] : Fin 3 → ℕ) a := by
    intro R hR; rw [bwi32 hS, nmod hn]; exact inbO (by omega) hR
  have ev : 2 ∣ (Scalar.indexCast (bw (wd S))).toNat := by rw [bwi hS]; omega
  have ev32 : 2 ∣ (Scalar.indexCast (Scalar.addi (bw (wd S)) 32#32)).toNat := by rw [bwi32 hS]; omega
  have hT : ∀ t, t < 9 → condT (wd t) (wd S) (wd S') = 1#1 → S / 32 * 32 + 32 * t ≤ 256 := by
    intro t ht hc; have := (condT_iff h h' ht).1 hc; omega
  exact ⟨⟨fun _ => mul,
      fun c => hx 32 (hT 1 (by decide) c),
      fun _ => hw,
      fun _ => mul512,
      fun _ => hxs,
      fun _ => hws,
      fun c => ho 32 (by have := (hT 1 (by decide) c); omega),
      fun _ _ => pr_o ev (by decide),
      fun _ => mul,
      fun c => hx 64 (hT 2 (by decide) c),
      fun _ => hw,
      fun _ => mul512,
      fun _ => hxs,
      fun _ => hws,
      fun c => ho 32 (by have := (hT 2 (by decide) c); omega),
      fun _ _ => pr_o ev (by decide),
      fun c => ho32 32 (by have := (hT 2 (by decide) c); omega),
      fun _ _ => pr_o ev32 (by decide),
      fun _ => mul,
      fun c => hx 96 (hT 3 (by decide) c),
      fun _ => hw,
      fun _ => mul512,
      fun _ => hxs,
      fun _ => hws,
      fun c => ho 32 (by have := (hT 3 (by decide) c); omega),
      fun _ _ => pr_o ev (by decide),
      fun c => ho32 64 (by have := (hT 3 (by decide) c); omega),
      fun _ _ => pr_o ev32 (by decide),
      fun _ => mul,
      fun c => hx 128 (hT 4 (by decide) c),
      fun _ => hw,
      fun _ => mul512⟩,
    ⟨fun _ => hxs,
      fun _ => hws,
      fun c => ho 32 (by have := (hT 4 (by decide) c); omega),
      fun _ _ => pr_o ev (by decide),
      fun c => ho32 96 (by have := (hT 4 (by decide) c); omega),
      fun _ _ => pr_o ev32 (by decide),
      fun _ => mul,
      fun c => hx 160 (hT 5 (by decide) c),
      fun _ => hw,
      fun _ => mul512,
      fun _ => hxs,
      fun _ => hws,
      fun c => ho 32 (by have := (hT 5 (by decide) c); omega),
      fun _ _ => pr_o ev (by decide),
      fun c => ho32 128 (by have := (hT 5 (by decide) c); omega),
      fun _ _ => pr_o ev32 (by decide),
      fun _ => mul,
      fun c => hx 192 (hT 6 (by decide) c),
      fun _ => hw,
      fun _ => mul512,
      fun _ => hxs,
      fun _ => hws,
      fun c => ho 32 (by have := (hT 6 (by decide) c); omega),
      fun _ _ => pr_o ev (by decide),
      fun c => ho32 160 (by have := (hT 6 (by decide) c); omega),
      fun _ _ => pr_o ev32 (by decide),
      fun _ => mul,
      fun c => hx 224 (hT 7 (by decide) c),
      fun _ => hw,
      fun _ => mul512,
      fun _ => hxs,
      fun _ => hws⟩,
    ⟨fun c => ho 32 (by have := (hT 7 (by decide) c); omega),
      fun _ _ => pr_o ev (by decide),
      fun c => ho32 192 (by have := (hT 7 (by decide) c); omega),
      fun _ _ => pr_o ev32 (by decide),
      fun _ => mul,
      fun c => hx 256 (hT 8 (by decide) c),
      fun _ => hw,
      fun _ => mul512,
      fun _ => hxs,
      fun _ => hws,
      fun c => ho 32 (by have := (hT 8 (by decide) c); omega),
      fun _ _ => pr_o ev (by decide),
      fun c => ho32 224 (by have := (hT 8 (by decide) c); omega),
      fun _ _ => pr_o ev32 (by decide)⟩⟩

/-! ## Advancing the carried words -/

theorem adv_n {n j m : ℕ} (hj : j < m) (hm : m ≤ 6) (hn : n < 100) :
    Scalar.select (Scalar.cmpi .eq (Scalar.addi (wd j) 1#32) (wd m)) (Scalar.addi (wd n) 1#32) (wd n) = wd (if j + 1 = m then n + 1 else n) := by
  have : ∀ m : Fin 7, ∀ j : Fin 6, Scalar.cmpi .eq (Scalar.addi (wd j.val) 1#32) (wd m.val) = if j.val + 1 = m.val then 1#1 else 0#1 := by decide +kernel
  rw [this ⟨m, by omega⟩ ⟨j, by omega⟩]
  show Scalar.select (if j + 1 = m then 1#1 else 0#1) _ _ = _
  by_cases h : j + 1 = m
  · rw [if_pos h, if_pos h]; exact addi_wd n 1
  · rw [if_neg h, if_neg h]; rfl
theorem adv_j {j m : ℕ} (hj : j < m) (hm : m ≤ 6) :
    Scalar.select (Scalar.cmpi .eq (Scalar.addi (wd j) 1#32) (wd m)) 0#32 (Scalar.addi (wd j) 1#32) = wd (if j + 1 = m then 0 else j + 1) := by
  have : ∀ m : Fin 7, ∀ j : Fin 6, Scalar.select (Scalar.cmpi .eq (Scalar.addi (wd j.val) 1#32) (wd m.val)) 0#32 (Scalar.addi (wd j.val) 1#32) = wd (if j.val + 1 = m.val then 0 else j.val + 1) := by decide +kernel
  exact this ⟨m, by omega⟩ ⟨j, by omega⟩
theorem adv_k {k : ℕ} (hk : k < 16) :
    Scalar.select (Scalar.cmpi .eq (Scalar.addi (wd k) 1#32) 16#32) 0#32 (Scalar.addi (wd k) 1#32) = wd ((k + 1) % 16) := by
  have : ∀ k : Fin 16, Scalar.select (Scalar.cmpi .eq (Scalar.addi (wd k.val) 1#32) 16#32) 0#32 (Scalar.addi (wd k.val) 1#32) = wd ((k.val + 1) % 16) := by decide +kernel
  exact this ⟨k, hk⟩
theorem div_succ {i m : ℕ} (hm : 1 ≤ m) : (i + 1) / m = if i % m + 1 = m then i / m + 1 else i / m := by
  rw [Nat.succ_div]
  have := Nat.mod_lt i hm
  by_cases h : i % m + 1 = m
  · rw [if_pos h, if_pos (Nat.dvd_of_mod_eq_zero (by rw [Nat.add_mod]; by_cases h1 : m = 1; · subst h1; simp [Nat.mod_one]
                                                     rw [Nat.mod_eq_of_lt (show 1 < m by omega), h, Nat.mod_self]))]
  · rw [if_neg h, if_neg]
    · rfl
    · intro hd
      have h0 := Nat.mod_eq_zero_of_dvd hd
      rw [Nat.add_mod] at h0
      by_cases h1 : m = 1
      · subst h1; omega
      rw [Nat.mod_eq_of_lt (show 1 < m by omega), Nat.mod_eq_of_lt (by omega)] at h0
      omega
theorem mod_succ {i m : ℕ} (hm : 1 ≤ m) : (i + 1) % m = if i % m + 1 = m then 0 else i % m + 1 := by
  have := Nat.mod_lt i hm
  rw [Nat.add_mod]
  by_cases h1 : m = 1
  · subst h1; simp [Nat.mod_one]
  rw [Nat.mod_eq_of_lt (show 1 < m by omega)]
  by_cases h : i % m + 1 = m
  · rw [if_pos h, h, Nat.mod_self]
  · rw [if_neg h, Nat.mod_eq_of_lt (by omega)]

end Cert.Kernel.Hand
end
-- ==== Proof.K.Tables.lean ====
module
public import proofs.«01_k».proof.Proof.K.Words
public import Idealize.ShloMosaic.Lib.ValueIdxCore
/-!
The two tables the kernel builds in scalar memory — the experts that have a row, and where each one's rows
start — and the invariant of the code that fills them.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

/-- The index of place `j` of a table of seven. -/
def i7 (j : ℕ) : S7.Idx := ix1 (⟨j % 7, Nat.mod_lt _ (by decide)⟩ : Fin 7)
/-- The index of place `j` of a table of six. -/
def i6 (j : ℕ) : S6.Idx := ix1 (⟨j % 6, Nat.mod_lt _ (by decide)⟩ : Fin 6)

/-- A table of seven with one place replaced. -/
def set7 (f : S7.Idx → BitVec 32) (j : ℕ) (v : BitVec 32) : S7.Idx → BitVec 32 := fun i => if (i 0).val = j then v else f i
theorem set7_same {f : S7.Idx → BitVec 32} {j : ℕ} (v : BitVec 32) (h : j < 7) : set7 f j v (i7 j) = v := by
  unfold set7 i7; rw [if_pos]; exact Nat.mod_eq_of_lt h
theorem set7_ne {f : S7.Idx → BitVec 32} {j k : ℕ} (v : BitVec 32) (h : k < 7) (hne : k ≠ j) : set7 f j v (i7 k) = f (i7 k) := by
  unfold set7; rw [if_neg]; show ¬ k % 7 = j; rw [Nat.mod_eq_of_lt h]; exact hne

variable (c : Dev nD)

/-- The one index of a single-element shape is zero. -/
theorem first_zero (j : ℕ) {h : 0 < S1.numel} : j + 1 * (Shape.Idx.first h (0 : Fin 1)).val = j := by
  have : (Shape.Idx.first h (0 : Fin 1)).val < 1 := (Shape.Idx.first h (0 : Fin 1)).isLt
  omega

/-- Reading place `j` of the table of experts. -/
theorem l_act {o : Fin 1 → ℕ} {inb} {h1} {h2} {j : ℕ} (ho : o = ![j]) {f : S7.Idx → BitVec 32} {Q : BitVec 32 → sProp 𝕄} :
    ((actM.view.loc (c : Thread nD τ)) ↦[Finset.univ]{fullShare} f)
      ⊢ iprop((((actM.view.loc (c : Thread nD τ)) ↦[Finset.univ]{fullShare} f) -∗ Q (f (i7 j)))
        -∗ W (F := F) c (smemLoad actM (Rect.unit (s := S7) o S1.size inb) h1 h2) Q) := by
  subst ho
  have hj : j < 7 := by have := inb 0; exact this
  have H := l_smem (F := F) c (m := actM) (r := Rect.unit (s := S7) ![j] S1.size inb) (hw := View.loads_smem_one h2 h1)
    (x := Shape.Idx.first (h1.symm ▸ Nat.one_pos)) (S := Finset.univ) (q := fullShare) (f := f) (Q := Q) (Finset.subset_univ _)
  have e : (actM.access (Rect.unit (s := S7) ![j] S1.size inb)).read (Elt F) f (Shape.Idx.first (h1.symm ▸ Nat.one_pos)) = f (i7 j) := by
    show f _ = f _
    congr 1; funext a; fin_cases a; apply Fin.ext
    show j + 1 * _ = j % 7
    rw [Nat.mod_eq_of_lt hj]; exact first_zero j
  rw [e] at H
  exact H
/-- Reading place `j` of the table of row starts. -/
theorem l_start {o : Fin 1 → ℕ} {inb} {h1} {h2} {j : ℕ} (ho : o = ![j]) {f : S7.Idx → BitVec 32} {Q : BitVec 32 → sProp 𝕄} :
    ((startM.view.loc (c : Thread nD τ)) ↦[Finset.univ]{fullShare} f)
      ⊢ iprop((((startM.view.loc (c : Thread nD τ)) ↦[Finset.univ]{fullShare} f) -∗ Q (f (i7 j)))
        -∗ W (F := F) c (smemLoad startM (Rect.unit (s := S7) o S1.size inb) h1 h2) Q) := by
  subst ho
  have hj : j < 7 := by have := inb 0; exact this
  have H := l_smem (F := F) c (m := startM) (r := Rect.unit (s := S7) ![j] S1.size inb) (hw := View.loads_smem_one h2 h1)
    (x := Shape.Idx.first (h1.symm ▸ Nat.one_pos)) (S := Finset.univ) (q := fullShare) (f := f) (Q := Q) (Finset.subset_univ _)
  have e : (startM.access (Rect.unit (s := S7) ![j] S1.size inb)).read (Elt F) f (Shape.Idx.first (h1.symm ▸ Nat.one_pos)) = f (i7 j) := by
    show f _ = f _
    congr 1; funext a; fin_cases a; apply Fin.ext
    show j + 1 * _ = j % 7
    rw [Nat.mod_eq_of_lt hj]; exact first_zero j
  rw [e] at H
  exact H
/-- Reading size `j`. -/
theorem l_gs {o : Fin 1 → ℕ} {inb} {h1} {h2} {j : ℕ} (ho : o = ![j]) {f : S6.Idx → BitVec 32} {Q : BitVec 32 → sProp 𝕄} :
    ((gsM.view.loc (c : Thread nD τ)) ↦[Finset.univ]{fullShare} f)
      ⊢ iprop((((gsM.view.loc (c : Thread nD τ)) ↦[Finset.univ]{fullShare} f) -∗ Q (f (i6 j)))
        -∗ W (F := F) c (smemLoad gsM (Rect.unit (s := S6) o S1.size inb) h1 h2) Q) := by
  subst ho
  have hj : j < 6 := by have := inb 0; exact this
  have H := l_smem (F := F) c (m := gsM) (r := Rect.unit (s := S6) ![j] S1.size inb) (hw := View.loads_smem_one h2 h1)
    (x := Shape.Idx.first (h1.symm ▸ Nat.one_pos)) (S := Finset.univ) (q := fullShare) (f := f) (Q := Q) (Finset.subset_univ _)
  have e : (gsM.access (Rect.unit (s := S6) ![j] S1.size inb)).read (Elt F) f (Shape.Idx.first (h1.symm ▸ Nat.one_pos)) = f (i6 j) := by
    show f _ = f _
    congr 1; funext a; fin_cases a; apply Fin.ext
    show j + 1 * _ = j % 6
    rw [Nat.mod_eq_of_lt hj]; exact first_zero j
  rw [e] at H
  exact H
/-- Reading activation scale `j`. -/
theorem l_xs {o : Fin 1 → ℕ} {inb} {h1} {h2} {j : ℕ} (ho : o = ![j]) {f : S6.Idx → F .f32} {Q : F .f32 → sProp 𝕄} :
    ((xsM.view.loc (c : Thread nD τ)) ↦[Finset.univ]{fullShare} f)
      ⊢ iprop((((xsM.view.loc (c : Thread nD τ)) ↦[Finset.univ]{fullShare} f) -∗ Q (f (i6 j)))
        -∗ W (F := F) c (smemLoad xsM (Rect.unit (s := S6) o S1.size inb) h1 h2) Q) := by
  subst ho
  have hj : j < 6 := by have := inb 0; exact this
  have H := l_smem (F := F) c (m := xsM) (r := Rect.unit (s := S6) ![j] S1.size inb) (hw := View.loads_smem_one h2 h1)
    (x := Shape.Idx.first (h1.symm ▸ Nat.one_pos)) (S := Finset.univ) (q := fullShare) (f := f) (Q := Q) (Finset.subset_univ _)
  have e : (xsM.access (Rect.unit (s := S6) ![j] S1.size inb)).read (Elt F) f (Shape.Idx.first (h1.symm ▸ Nat.one_pos)) = f (i6 j) := by
    show f _ = f _
    congr 1; funext a; fin_cases a; apply Fin.ext
    show j + 1 * _ = j % 6
    rw [Nat.mod_eq_of_lt hj]; exact first_zero j
  rw [e] at H
  exact H

/-- What a store of one word into a table of seven leaves. -/
theorem set7_of {o : Fin 1 → ℕ} {inb} {j : ℕ} (ho : o = ![j]) (f : S7.Idx → BitVec 32) (v : BitVec 32) :
    (actM.access (Rect.unit (s := S7) o S1.size inb)).write (Elt F) f (fun _ => v) Finset.univ = set7 f j v := by
  subst ho
  funext i
  by_cases h : (i 0).val = j
  · have hi : i = (actM.access (Rect.unit (s := S7) ![j] S1.size inb)).emb (ix1 (0 : Fin 1)) := by
      funext a; fin_cases a; apply Fin.ext; show (i 0).val = j + 1 * 0; omega
    rw [show set7 f j v i = v from if_pos h]
    rw [hi]
    exact View.write_emb_of_mem _ _ (Finset.mem_univ _)
  · rw [show set7 f j v i = f i from if_neg h]
    refine View.write_of_not_mem _ _ _ ?_
    intro hm
    apply h
    obtain ⟨x, -, e⟩ := Finset.mem_map.mp hm
    rw [← e]
    show j + 1 * (x 0).val = j
    have : (x 0).val < 1 := (x 0).isLt
    omega

/-- The same for the table of row starts. -/
theorem set7_of' {o : Fin 1 → ℕ} {inb} {j : ℕ} (ho : o = ![j]) (f : S7.Idx → BitVec 32) (v : BitVec 32) :
    (startM.access (Rect.unit (s := S7) o S1.size inb)).write (Elt F) f (fun _ => v) Finset.univ = set7 f j v := by
  subst ho
  funext i
  by_cases h : (i 0).val = j
  · have hi : i = (startM.access (Rect.unit (s := S7) ![j] S1.size inb)).emb (ix1 (0 : Fin 1)) := by
      funext a; fin_cases a; apply Fin.ext; show (i 0).val = j + 1 * 0; omega
    rw [show set7 f j v i = v from if_pos h]
    rw [hi]
    exact View.write_emb_of_mem _ _ (Finset.mem_univ _)
  · rw [show set7 f j v i = f i from if_neg h]
    refine View.write_of_not_mem _ _ _ ?_
    intro hm
    apply h
    obtain ⟨x, -, e⟩ := Finset.mem_map.mp hm
    rw [← e]
    show j + 1 * (x 0).val = j
    have : (x 0).val < 1 := (x 0).isLt
    omega

/-- Writing place `j` of the table of experts. -/
theorem s_act {o : Fin 1 → ℕ} {inb} {h1} {h2} {j : ℕ} (ho : o = ![j]) {f : S7.Idx → BitVec 32} {v : BitVec 32} {Q : PUnit → sProp 𝕄} :
    ((actM.view.loc (c : Thread nD τ)) ↦[Finset.univ]{fullShare} f)
      ⊢ iprop((((actM.view.loc (c : Thread nD τ)) ↦[Finset.univ]{fullShare} (set7 f j v)) -∗ Q ⟨⟩)
        -∗ W (F := F) c (Prog.lift (.store actM (Rect.unit (s := S7) o S1.size inb) (fun _ => v) Finset.univ h1 h2)) Q) := by
  have H := l_store (F := F) c (m := actM) (r := Rect.unit (s := S7) o S1.size inb) (w := fun _ => v) (hx := h1) (hm := h2)
    (S := Finset.univ) (f := f) (Q := Q) (Finset.subset_univ _)
  have e : (actM.access (Rect.unit (s := S7) o S1.size inb)).write (Elt F) f (fun _ => v) Finset.univ = set7 f j v := set7_of (F := F) ho f v
  rw [e] at H
  exact H
/-- Writing place `j` of the table of row starts. -/
theorem s_start {o : Fin 1 → ℕ} {inb} {h1} {h2} {j : ℕ} (ho : o = ![j]) {f : S7.Idx → BitVec 32} {v : BitVec 32} {Q : PUnit → sProp 𝕄} :
    ((startM.view.loc (c : Thread nD τ)) ↦[Finset.univ]{fullShare} f)
      ⊢ iprop((((startM.view.loc (c : Thread nD τ)) ↦[Finset.univ]{fullShare} (set7 f j v)) -∗ Q ⟨⟩)
        -∗ W (F := F) c (Prog.lift (.store startM (Rect.unit (s := S7) o S1.size inb) (fun _ => v) Finset.univ h1 h2)) Q) := by
  have H := l_store (F := F) c (m := startM) (r := Rect.unit (s := S7) o S1.size inb) (w := fun _ => v) (hx := h1) (hm := h2)
    (S := Finset.univ) (f := f) (Q := Q) (Finset.subset_univ _)
  have e : (startM.access (Rect.unit (s := S7) o S1.size inb)).write (Elt F) f (fun _ => v) Finset.univ = set7 f j v := set7_of' (F := F) ho f v
  rw [e] at H
  exact H

/-! ## What the tables hold -/

/-- The number of the first `e` experts with a row. -/
def nAct (g : ℕ → ℕ) : ℕ → ℕ
  | 0 => 0
  | e + 1 => nAct g e + (if g e = 0 then 0 else 1)
/-- The number of rows of the first `e` experts. -/
def nRow (g : ℕ → ℕ) : ℕ → ℕ
  | 0 => 0
  | e + 1 => nRow g e + g e

theorem nAct_le (g : ℕ → ℕ) : ∀ e, nAct g e ≤ e
  | 0 => le_rfl
  | e + 1 => by have := nAct_le g e; simp only [nAct]; split <;> omega
theorem nRow_zero {g : ℕ → ℕ} : ∀ {e}, nAct g e = 0 → nRow g e = 0
  | 0, _ => rfl
  | e + 1, h => by
      simp only [nAct] at h
      split at h
      · rename_i h0; simp only [nRow]; rw [h0, nRow_zero (e := e) (by omega)]
      · omega

/-- After the first `e` experts: each expert with a row has its place, holding its number, where its rows start
    and (in the next place) where they end; the next free place is written with what comes next. -/
structure TabInv (g : ℕ → ℕ) (e : ℕ) (fa fs : S7.Idx → BitVec 32) : Prop where
  done : ∀ j, j < nAct g e → ∃ e' < e, 0 < g e' ∧ nAct g e' = j ∧ fa (i7 j) = wd e' ∧ fs (i7 j) = wd (nRow g e') ∧ fs (i7 (j + 1)) = wd (nRow g (e' + 1))
  cur : fs (i7 (nAct g e)) = wd (nRow g e)
  act : e < 6 → fa (i7 (nAct g e)) = wd e
  zero : fs (i7 0) = wd 0

theorem TabInv.init (g : ℕ → ℕ) (fa fs : S7.Idx → BitVec 32) : TabInv g 0 (set7 fa 0 (wd 0)) (set7 fs 0 (wd 0)) where
  done := fun j hj => absurd hj (Nat.not_lt_zero _)
  cur := set7_same _ (by decide)
  act := fun _ => set7_same _ (by decide)
  zero := set7_same _ (by decide)

/-- One expert's step; the last expert does not write the table of experts. -/
theorem TabInv.step {g : ℕ → ℕ} {e : ℕ} {fa fs : S7.Idx → BitVec 32} (h : TabInv g e fa fs) (he : e < 6) {fa' : S7.Idx → BitVec 32}
    (hfa : fa' = set7 fa (nAct g (e + 1)) (wd (e + 1)) ∨ (e = 5 ∧ fa' = fa)) :
    TabInv g (e + 1) fa' (set7 fs (nAct g (e + 1)) (wd (nRow g (e + 1)))) := by
  have hle := nAct_le g e
  have hle' := nAct_le g (e + 1)
  have hfa_lt : ∀ j, j < nAct g (e + 1) → fa' (i7 j) = fa (i7 j) := by
    intro j hj
    rcases hfa with rfl | ⟨_, rfl⟩
    · exact set7_ne _ (by omega) (by omega)
    · rfl
  refine ⟨?_, set7_same _ (by omega), ?_, ?_⟩
  · intro j hj
    by_cases hj' : j < nAct g e
    · obtain ⟨e', he', hg, hA, ha, hs, hs'⟩ := h.done j hj'
      refine ⟨e', by omega, hg, hA, by rw [hfa_lt j hj]; exact ha, ?_, ?_⟩
      · rw [set7_ne _ (by omega) (by omega)]; exact hs
      · by_cases hj1 : j + 1 = nAct g (e + 1)
        · rw [hj1, set7_same _ (by omega)]
          have hg0 : g e = 0 := by
            by_contra hc; simp only [nAct, if_neg hc] at hj1; omega
          have hn : nAct g (e + 1) = nAct g e := by simp only [nAct, if_pos hg0]; omega
          have hc := h.cur
          rw [← hn, ← hj1, hs'] at hc
          rw [hc]; simp only [nRow]; rw [hg0]; rfl
        · rw [set7_ne _ (by omega) hj1]; exact hs'
    · have hge : g e ≠ 0 := by
        intro hc; simp only [nAct, if_pos hc] at hj; omega
      have hn : nAct g (e + 1) = nAct g e + 1 := by simp only [nAct, if_neg hge]
      have hjj : j = nAct g e := by omega
      subst hjj
      refine ⟨e, by omega, by omega, rfl, by rw [hfa_lt _ hj]; exact h.act he, ?_, ?_⟩
      · rw [set7_ne _ (by omega) (by omega)]; exact h.cur
      · rw [← hn, set7_same _ (by omega)]
  · intro he6
    rcases hfa with rfl | ⟨h5, _⟩
    · exact set7_same _ (by omega)
    · omega
  · by_cases h0 : nAct g (e + 1) = 0
    · rw [h0, nRow_zero h0]; exact set7_same _ (by omega)
    · rw [set7_ne _ (by omega) (by omega)]; exact h.zero

/-- The finished tables: `m` experts have a row, place `j` names expert `E j`, whose rows are `S j … S (j+1)`. -/
structure Tab (g : ℕ → ℕ) (fa fs : S7.Idx → BitVec 32) (m : ℕ) (E S : ℕ → ℕ) : Prop where
  one : 1 ≤ m
  six : m ≤ 6
  fa : ∀ j, j < m → fa (i7 j) = wd (E j)
  fs : ∀ j, j ≤ m → fs (i7 j) = wd (S j)
  E_lt : ∀ j, j < m → E j < 6
  S_zero : S 0 = 0
  S_last : S m = 256
  S_lt : ∀ j, j < m → S j < S (j + 1)
  S_le : ∀ j, j ≤ m → S j ≤ 256
  lo : ∀ j, j < m → S j = nRow g (E j)
  hi : ∀ j, j < m → S (j + 1) = nRow g (E j + 1)

theorem nRow_mono {g : ℕ → ℕ} {a b : ℕ} (h : a ≤ b) : nRow g a ≤ nRow g b := by
  induction b, h using Nat.le_induction with
  | base => exact le_rfl
  | succ b _ ih => exact ih.trans (Nat.le_add_right _ _)

theorem TabInv.final {g : ℕ → ℕ} {fa fs : S7.Idx → BitVec 32} (h : TabInv g 6 fa fs) (hsum : nRow g 6 = 256) :
    Tab g fa fs (nAct g 6) (fun j => (fa (i7 j)).toNat) (fun j => (fs (i7 j)).toNat) := by
  have hm6 := nAct_le g 6
  have hw : ∀ x : BitVec 32, x = wd x.toNat := fun x => by simp [wd]
  have hmono : ∀ e, e ≤ 6 → nRow g e ≤ 256 := fun e he => hsum ▸ nRow_mono he
  have hS : ∀ j, j < nAct g 6 → ∃ e' < 6, 0 < g e' ∧ (fa (i7 j)).toNat = e' ∧ (fs (i7 j)).toNat = nRow g e' ∧ (fs (i7 (j + 1))).toNat = nRow g (e' + 1) := by
    intro j hj
    obtain ⟨e', he', hg, hA, ha, hs, hs'⟩ := h.done j hj
    refine ⟨e', he', hg, ?_, ?_, ?_⟩
    · rw [ha, toNat_wd (by omega)]
    · rw [hs, toNat_wd (by have := hmono e' (by omega); omega)]
    · rw [hs', toNat_wd (by have := hmono (e' + 1) (by omega); omega)]
  have hlast : (fs (i7 (nAct g 6))).toNat = 256 := by rw [h.cur, hsum, toNat_wd (by omega)]
  refine ⟨?_, hm6, fun j _ => hw _, fun j _ => hw _, ?_, ?_, hlast, ?_, ?_, ?_, ?_⟩
  · by_contra hc
    have := nRow_zero (g := g) (e := 6) (by omega)
    omega
  · intro j hj; obtain ⟨e', he', _, h1, _⟩ := hS j hj; omega
  · show (fs (i7 0)).toNat = 0; rw [h.zero]; rfl
  · intro j hj
    obtain ⟨e', he', hg, _, h2, h3⟩ := hS j hj
    show (fs (i7 j)).toNat < (fs (i7 (j + 1))).toNat
    rw [h2, h3]; simp only [nRow]; omega
  · intro j hj
    rcases Nat.lt_or_ge j (nAct g 6) with hj' | hj'
    · obtain ⟨e', he', hg, _, h2, h3⟩ := hS j hj'
      show (fs (i7 j)).toNat ≤ 256
      rw [h2]; exact hmono e' (by omega)
    · have : j = nAct g 6 := by omega
      subst this; exact hlast.le
  · intro j hj; obtain ⟨e', he', _, h1, h2, _⟩ := hS j hj
    show (fs (i7 j)).toNat = nRow g (fa (i7 j)).toNat
    rw [h1, h2]
  · intro j hj; obtain ⟨e', he', _, h1, _, h3⟩ := hS j hj
    show (fs (i7 (j + 1))).toNat = nRow g ((fa (i7 j)).toNat + 1)
    rw [h1, h3]

end Cert.Kernel.Hand
end
-- ==== Proof.K.Dma.lean ====
module
public import proofs.«01_k».proof.Proof.K.Tables
public import Idealize.ShloMosaic.Lib.ValueLayout
/-!
The kernel's own transfers: one slot of the weight ring filled from one block of one expert's weights, and one
finished output block drained to the result. Each is stated by what it needs and what it delivers.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

/-- Slot `k` of the weight ring. -/
def wslot (k : ℕ) : Finset S16x4096x512.Idx := Finset.univ.filter fun i => (i 0).val = k
/-- Column block `n` of expert `e`'s weights. -/
def wblk (e n : ℕ) : Finset S6x4096x14336.Idx := Finset.univ.filter fun i => (i 0).val = e ∧ 512 * n ≤ (i 2).val ∧ (i 2).val < 512 * n + 512
/-- Slot `s` of the output double buffer. -/
def oslot (s : ℕ) : Finset S2x256x512.Idx := Finset.univ.filter fun i => (i 0).val = s
/-- Column block `n` of the result. -/
def oblk (n : ℕ) : Finset S256x14336.Idx := Finset.univ.filter fun i => 512 * n ≤ (i 1).val ∧ (i 1).val < 512 * n + 512

/-- The index of expert `e`'s weight at row `a`, column `b`. -/
def wix (e : ℕ) (a : Fin 4096) (b : ℕ) : S6x4096x14336.Idx := ix3 (⟨e % 6, Nat.mod_lt _ (by decide)⟩ : Fin 6) a (⟨b % 14336, Nat.mod_lt _ (by decide)⟩ : Fin 14336)
/-- The index of the result at row `a`, column `b`. -/
def oix (a : Fin 256) (b : ℕ) : S256x14336.Idx := ix2 a (⟨b % 14336, Nat.mod_lt _ (by decide)⟩ : Fin 14336)

/-- Slot `k` of the ring holds block `n` of expert `e`. -/
def IsW (fw : S6x4096x14336.Idx → Elt F .fp8e4m3) (k e n : ℕ) (f : S16x4096x512.Idx → Elt F .fp8e4m3) : Prop :=
  ∀ i : S16x4096x512.Idx, (i 0).val = k → f i = fw (wix e (i 1) (512 * n + (i 2).val))
/-- Rows below `R` of slot `s` of the output buffer are good for block `n`. -/
def IsO (Good : S256x14336.Idx → Elt F .bf16 → Prop) (s n R : ℕ) (f : S2x256x512.Idx → Elt F .bf16) : Prop :=
  ∀ i : S2x256x512.Idx, (i 0).val = s → (i 1).val < R → Good (oix (i 1) (512 * n + (i 2).val)) (f i)

/-- The semaphore of ring slot `k`. -/
abbrev wcell (k : Fin 16) : DmaSem sig := ((cc0_scratch13.slice (Rect.unit (s := S16) ![k.val] S1.size (inb1 (N := 16) k.isLt))).squeeze S_ squeezes_S1_S_).sem
/-- The semaphore of output slot `s`. -/
abbrev ocell (s : Fin 2) : DmaSem sig := ((cc0_scratch14.slice (Rect.unit (s := S2) ![s.val] S1.size (inb1 (N := 2) s.isLt))).squeeze S_ squeezes_S1_S_).sem

theorem inbW (k : Fin 16) : ∀ a, (![k.val, 0, 0] : Fin 3 → ℕ) a + S1x4096x512.size a ≤ S16x4096x512.size a :=
  inb3 (n0 := 16) (n1 := 4096) (n2 := 512) k.isLt (by omega) (by omega)
theorem inbWH {e n : ℕ} (he : e < 6) (hn : n < 28) : ∀ a, (![e, 0, 512 * n] : Fin 3 → ℕ) a + S1x4096x512.size a ≤ S6x4096x14336.size a :=
  inb3 (n0 := 6) (n1 := 4096) (n2 := 14336) he (by omega) (by omega)

/-- Ring slot `k` as a matrix. -/
abbrev wdst {o : Fin 3 → ℕ} (h : ∀ a, o a + S1x4096x512.size a ≤ S16x4096x512.size a) : Memref sig .tc .vmem S4096x512 .fp8e4m3 :=
  (wM.slice (Rect.unit (s := S16x4096x512) o S1x4096x512.size h) (fun _ => rfl)).squeeze S4096x512 squeezes_S1x4096x512_S4096x512
/-- A block of an expert's weights as a matrix. -/
abbrev wsrc {o : Fin 3 → ℕ} (h : ∀ a, o a + S1x4096x512.size a ≤ S6x4096x14336.size a) : Memref sig .tc .hbm S4096x512 .fp8e4m3 :=
  (wH.slice (Rect.unit (s := S6x4096x14336) o S1x4096x512.size h) (fun _ => rfl)).squeeze S4096x512 squeezes_S1x4096x512_S4096x512
/-- Output slot `s` as a matrix. -/
abbrev osrc {o : Fin 3 → ℕ} (h : ∀ a, o a + S1x256x512.size a ≤ S2x256x512.size a) : Memref sig .tc .vmem S256x512 .bf16 :=
  (oM.slice (Rect.unit (s := S2x256x512) o S1x256x512.size h) (fun _ => rfl)).squeeze S256x512 squeezes_S1x256x512_S256x512
/-- A block of the result. -/
abbrev odst {o : Fin 2 → ℕ} (h : ∀ a, o a + S256x512.size a ≤ S256x14336.size a) : Memref sig .tc .hbm S256x512 .bf16 :=
  outH.slice (Rect.unit (s := S256x14336) o S256x512.size h) (fun _ => rfl)

theorem wdst_set {k : ℕ} (h) : (wdst (o := ![k, 0, 0]) h).view.set = wslot k := by
  refine (View.set_reshape _ _).trans ((View.set_slice_whole _ _).trans ?_)
  ext i
  rw [Rect.mem_set_unit]
  simp only [wslot, Finset.mem_filter, Finset.mem_univ, _root_.true_and]
  have h1 : (i 1).val < 4096 := (i 1).isLt
  have h2 : (i 2).val < 512 := (i 2).isLt
  constructor
  · intro H
    have := H 0
    have a1 : k ≤ (i 0).val := this.1
    have a2 : (i 0).val < k + 1 := this.2
    omega
  · intro H a
    fin_cases a
    · exact ⟨(by show k ≤ (i 0).val; omega), (by show (i 0).val < k + 1; omega)⟩
    · exact ⟨Nat.zero_le _, (by show (i 1).val < 0 + 4096; omega)⟩
    · exact ⟨Nat.zero_le _, (by show (i 2).val < 0 + 512; omega)⟩
theorem wsrc_set {e n : ℕ} (h) : (wsrc (o := ![e, 0, 512 * n]) h).view.set = wblk e n := by
  refine (View.set_reshape _ _).trans ((View.set_slice_whole _ _).trans ?_)
  ext i
  rw [Rect.mem_set_unit]
  simp only [wblk, Finset.mem_filter, Finset.mem_univ, _root_.true_and]
  have h1 : (i 1).val < 4096 := (i 1).isLt
  constructor
  · intro H
    have a1 : e ≤ (i 0).val := (H 0).1
    have a2 : (i 0).val < e + 1 := (H 0).2
    have b1 : 512 * n ≤ (i 2).val := (H 2).1
    have b2 : (i 2).val < 512 * n + 512 := (H 2).2
    omega
  · intro H a
    fin_cases a
    · exact ⟨(by show e ≤ (i 0).val; omega), (by show (i 0).val < e + 1; omega)⟩
    · exact ⟨Nat.zero_le _, (by show (i 1).val < 0 + 4096; omega)⟩
    · exact ⟨(by show 512 * n ≤ (i 2).val; omega), (by show (i 2).val < 512 * n + 512; omega)⟩
theorem osrc_set {s : ℕ} (h) : (osrc (o := ![s, 0, 0]) h).view.set = oslot s := by
  refine (View.set_reshape _ _).trans ((View.set_slice_whole _ _).trans ?_)
  ext i
  rw [Rect.mem_set_unit]
  simp only [oslot, Finset.mem_filter, Finset.mem_univ, _root_.true_and]
  have h1 : (i 1).val < 256 := (i 1).isLt
  have h2 : (i 2).val < 512 := (i 2).isLt
  constructor
  · intro H
    have a1 : s ≤ (i 0).val := (H 0).1
    have a2 : (i 0).val < s + 1 := (H 0).2
    omega
  · intro H a
    fin_cases a
    · exact ⟨(by show s ≤ (i 0).val; omega), (by show (i 0).val < s + 1; omega)⟩
    · exact ⟨Nat.zero_le _, (by show (i 1).val < 0 + 256; omega)⟩
    · exact ⟨Nat.zero_le _, (by show (i 2).val < 0 + 512; omega)⟩
theorem odst_set {n : ℕ} (h) : (odst (o := ![0, 512 * n]) h).view.set = oblk n := by
  refine (View.set_slice_whole _ _).trans ?_
  ext i
  rw [Rect.mem_set_unit]
  simp only [oblk, Finset.mem_filter, Finset.mem_univ, _root_.true_and]
  have h0 : (i 0).val < 256 := (i 0).isLt
  constructor
  · intro H
    have b1 : 512 * n ≤ (i 1).val := (H 1).1
    have b2 : (i 1).val < 512 * n + 512 := (H 1).2
    omega
  · intro H a
    fin_cases a
    · exact ⟨Nat.zero_le _, (by show (i 0).val < 0 + 256; omega)⟩
    · exact ⟨(by show 512 * n ≤ (i 1).val; omega), (by show (i 1).val < 512 * n + 512; omega)⟩

theorem wdst_emb {k : Fin 16} (h) (x : Fin 4096) (y : Fin 512) : (wdst (o := ![k.val, 0, 0]) h).view.emb (ix2 x y) = ix3 k x y := by
  show (Rect.unit (s := S16x4096x512) ![k.val, 0, 0] S1x4096x512.size h).emb (Shape.reshapeEquiv _ (ix2 x y)) = _
  rw [reshapeEquiv_ix2_1ab]
  funext a
  fin_cases a
  · apply Fin.ext; show k.val + 1 * 0 = k.val; omega
  · apply Fin.ext; show 0 + 1 * x.val = x.val; omega
  · apply Fin.ext; show 0 + 1 * y.val = y.val; omega
theorem wsrc_emb {e n : ℕ} (he : e < 6) (hn : n < 28) (h) (x : Fin 4096) (y : Fin 512) : (wsrc (o := ![e, 0, 512 * n]) h).view.emb (ix2 x y) = wix e x (512 * n + y.val) := by
  show (Rect.unit (s := S6x4096x14336) ![e, 0, 512 * n] S1x4096x512.size h).emb (Shape.reshapeEquiv _ (ix2 x y)) = _
  rw [reshapeEquiv_ix2_1ab]
  funext a
  have hy := y.isLt
  fin_cases a
  · apply Fin.ext; show e + 1 * 0 = e % 6; rw [Nat.mod_eq_of_lt he]; omega
  · apply Fin.ext; show 0 + 1 * x.val = x.val; omega
  · apply Fin.ext; show 512 * n + 1 * y.val = (512 * n + y.val) % 14336; rw [Nat.mod_eq_of_lt (by omega)]; omega
theorem osrc_emb {s : Fin 2} (h) (x : Fin 256) (y : Fin 512) : (osrc (o := ![s.val, 0, 0]) h).view.emb (ix2 x y) = ix3 s x y := by
  show (Rect.unit (s := S2x256x512) ![s.val, 0, 0] S1x256x512.size h).emb (Shape.reshapeEquiv _ (ix2 x y)) = _
  rw [reshapeEquiv_ix2_1ab]
  funext a
  fin_cases a
  · apply Fin.ext; show s.val + 1 * 0 = s.val; omega
  · apply Fin.ext; show 0 + 1 * x.val = x.val; omega
  · apply Fin.ext; show 0 + 1 * y.val = y.val; omega
theorem odst_emb {n : ℕ} (hn : n < 28) (h) (x : Fin 256) (y : Fin 512) : (odst (o := ![0, 512 * n]) h).view.emb (ix2 x y) = oix x (512 * n + y.val) := by
  have hy := y.isLt
  funext a
  fin_cases a
  · apply Fin.ext; show 0 + 1 * x.val = x.val; omega
  · apply Fin.ext; show 512 * n + 1 * y.val = (512 * n + y.val) % 14336; rw [Nat.mod_eq_of_lt (by omega)]; omega

/-- A filled slot holds the block it was filled from. -/
theorem isW_of (fw : S6x4096x14336.Idx → Elt F .fp8e4m3) {k : Fin 16} {e n : ℕ} (he : e < 6) (hn : n < 28) (h h') (f : S16x4096x512.Idx → Elt F .fp8e4m3) :
    IsW fw k.val e n ((wdst (o := ![k.val, 0, 0]) h).view.write (Elt F) f ((wsrc (o := ![e, 0, 512 * n]) h').view.read (Elt F) fw) Finset.univ) := by
  intro i hi
  let x : Fin 4096 := i 1
  let y : Fin 512 := i 2
  have hx : i = (wdst (o := ![k.val, 0, 0]) h).view.emb (ix2 x y) := by
    refine Eq.trans ?_ (wdst_emb h x y).symm
    funext a
    fin_cases a
    · exact Fin.ext hi
    · rfl
    · rfl
  refine (congrArg ((wdst (o := ![k.val, 0, 0]) h).view.write (Elt F) f ((wsrc (o := ![e, 0, 512 * n]) h').view.read (Elt F) fw) Finset.univ) hx).trans ?_
  refine (View.write_emb_of_mem (v := (wdst (o := ![k.val, 0, 0]) h).view) f _ (Finset.mem_univ (ix2 x y))).trans ?_
  exact congrArg fw (wsrc_emb he hn h' x y)
/-- A drained block holds what the output slot held. -/
theorem good_of {Good : S256x14336.Idx → Elt F .bf16 → Prop} {s : Fin 2} {n : ℕ} (hn : n < 28)
    (h : ∀ a, (![0, 512 * n] : Fin 2 → ℕ) a + S256x512.size a ≤ S256x14336.size a) (h' : ∀ a, (![s.val, 0, 0] : Fin 3 → ℕ) a + S1x256x512.size a ≤ S2x256x512.size a) {f : S2x256x512.Idx → Elt F .bf16}
    (hf : IsO (F := F) Good s.val n 256 f) (g : S256x14336.Idx → Elt F .bf16) :
    ∀ i : S256x14336.Idx, i ∈ oblk n →
      Good i ((show S256x14336.Idx → Elt F .bf16 from (odst (o := ![0, 512 * n]) h).view.write (Elt F) g ((osrc (o := ![s.val, 0, 0]) h').view.read (Elt F) f) Finset.univ) i) := by
  intro i hi
  have hi' := (Finset.mem_filter.mp hi).2
  let x : Fin 256 := i 0
  let y : Fin 512 := ⟨(i 1).val - 512 * n, by omega⟩
  have hy : y.val = (i 1).val - 512 * n := rfl
  have h1 : (i 1).val < 14336 := (i 1).isLt
  have hio : i = oix x (512 * n + y.val) := by
    funext a
    fin_cases a
    · rfl
    · apply Fin.ext; show (i 1).val = (512 * n + y.val) % 14336; rw [Nat.mod_eq_of_lt (by omega)]; omega
  have hx : i = (odst (o := ![0, 512 * n]) h).view.emb (ix2 x y) := hio.trans (odst_emb hn h x y).symm
  have e1 : (show S256x14336.Idx → Elt F .bf16 from (odst (o := ![0, 512 * n]) h).view.write (Elt F) g ((osrc (o := ![s.val, 0, 0]) h').view.read (Elt F) f) Finset.univ) i = f (ix3 s x y) := by
    refine (congrArg ((odst (o := ![0, 512 * n]) h).view.write (Elt F) g ((osrc (o := ![s.val, 0, 0]) h').view.read (Elt F) f) Finset.univ) hx).trans ?_
    refine (View.write_emb_of_mem (v := (odst (o := ![0, 512 * n]) h).view) g _ (Finset.mem_univ (ix2 x y))).trans ?_
    exact congrArg f (osrc_emb h' x y)
  refine Eq.subst (motive := fun v => Good i v) e1.symm ?_
  have := hf (ix3 s x y) rfl x.isLt
  rw [hio]
  exact this

/-! ## The weight ring's slots -/

/-- What one transfer into the ring counts. -/
def NW : ℕ := (wdst (inbW 0)).view.dmaCredit
theorem NW_pos : 0 < NW := View.dmaCredit_pos _ (by decide)
/-- What one transfer out of the output buffer counts. -/
def NO : ℕ := (odst (o := ![0, 0]) (inb2 (n0 := 256) (n1 := 14336) (by omega) (by omega))).view.dmaCredit
theorem NO_pos : 0 < NO := View.dmaCredit_pos _ (by decide)

variable (c : Dev nD) (fw : S6x4096x14336.Idx → Elt F .fp8e4m3)

/-- A share of the weights over the elements `s`, the `k`-th of sixteen. -/
abbrev wShare (k : Fin 16) (s : Finset S6x4096x14336.Idx) : sProp 𝕄 := (wH.view.loc (c : Thread nD τ) ↦[s]{shareTok fullShare 16 k} fw)

/-- A slot at rest: its semaphore at zero, its contents whatever, and its share of the weights. -/
def freeW (k : Fin 16) : sProp 𝕄 :=
  iprop(semVal ((c : Thread nD τ), .dma (wcell k)) 0 ∗ (∃ f, (wM.view.loc (c : Thread nD τ) ↦[wslot k.val]{fullShare} f)) ∗ wShare c fw k Finset.univ)
/-- A slot at rest holding block `n` of expert `e`. -/
def holdW (k : Fin 16) (e n : ℕ) : sProp 𝕄 :=
  iprop(semVal ((c : Thread nD τ), .dma (wcell k)) 0 ∗ (∃ f, (wM.view.loc (c : Thread nD τ) ↦[wslot k.val]{fullShare} f) ∗ ⌜IsW fw k.val e n f⌝) ∗ wShare c fw k Finset.univ)
/-- A slot being filled with block `n` of expert `e`. -/
def inflW (k : Fin 16) (e n : ℕ) : sProp 𝕄 :=
  iprop(Flight EC (c : Thread nD τ) (.dma (wcell k)) () NW iprop((∃ f, (wM.view.loc (c : Thread nD τ) ↦[wslot k.val]{fullShare} f) ∗ ⌜IsW fw k.val e n f⌝) ∗ wShare c fw k (wblk e n))
    ∗ wShare c fw k (Finset.univ \ wblk e n))

theorem holdW_free (k : Fin 16) (e n : ℕ) : holdW c fw k e n ⊢ freeW c fw k := by
  unfold holdW freeW
  iintro ⟨Hs, ⟨%f, H, _⟩, Hw⟩
  isplitl [Hs]; · iexact Hs
  isplitl [H]
  · iexists f; iexact H
  · iexact Hw

/-- Starting a slot's transfer. -/
theorem w_enq {k : Fin 16} {e n : ℕ} (he : e < 6) (hn : n < 28) {o8 : Fin 1 → ℕ} {o9 o10 : Fin 3 → ℕ} {h8 h9 h10} {hsrc hdst hsem}
    (e8 : o8 = ![k.val]) (e9 : o9 = ![k.val, 0, 0]) (e10 : o10 = ![e, 0, 512 * n]) {Q : PUnit → sProp 𝕄} :
    freeW c fw k ⊢ iprop((inflW c fw k e n -∗ Q ⟨⟩)
      -∗ W (F := F) c (Prog.lift (.enqueueDma (wsrc (o := o10) h10) (.here (wdst (o := o9) h9))
          (.dma ((cc0_scratch13.slice (Rect.unit (s := S16) o8 S1.size h8)).squeeze S_ squeezes_S1_S_).sem) hsrc hdst hsem)) Q) := by
  subst e8 e9 e10
  unfold freeW inflW
  iintro ⟨Hs, ⟨%f, H⟩, Hw⟩ Hk
  ihave Hw2 := (show wShare c fw k Finset.univ ⊢ iprop(wShare c fw k (wblk e n) ∗ wShare c fw k (Finset.univ \ wblk e n)) from (pointsTo_split_subset (Finset.subset_univ _)).1) $$ Hw
  icases Hw2 with ⟨Hb, Hr⟩
  iapply (l_enq (F := F) c (src := wsrc (o := ![e, 0, 512 * n]) h10) (dst := wdst (o := ![k.val, 0, 0]) h9) (sm := .dma (wcell k)) NW rfl NW_pos (wsrc_set h10) (subset_of_eq (wdst_set h9))
    (q := shareTok fullShare 16 k) (fs := fw) (fd := f)
    (D := iprop((∃ f, (wM.view.loc (c : Thread nD τ) ↦[wslot k.val]{fullShare} f) ∗ ⌜IsW fw k.val e n f⌝) ∗ wShare c fw k (wblk e n))) ?_) $$ [Hb H Hs]
  · iintro ⟨H1, H2⟩
    isplitl [H1]
    · iexists _
      isplitl [H1]; · iexact H1
      ipureintro
      exact isW_of fw he hn h9 h10 f
    · iexact H2
  · isplitl [Hb]; · iexact Hb
    isplitl [H]; · iexact H
    iexact Hs
  iintro HF
  iapply Hk
  isplitl [HF]; · iexact HF
  iexact Hr

/-- Waiting for a slot's transfer. -/
theorem w_wait {k : Fin 16} {e n : ℕ} {o8 : Fin 1 → ℕ} {o9 o10 : Fin 3 → ℕ} {h8 h9 h10} {hsrc hdst}
    (e8 : o8 = ![k.val]) (e9 : o9 = ![k.val, 0, 0]) {Q : PUnit → sProp 𝕄} :
    iprop(inflW c fw k e n ∗ (∃ w, owes (c : Thread nD τ) 0 w)) ⊢ iprop((iprop(holdW c fw k e n ∗ (∃ w, owes (c : Thread nD τ) 0 w)) -∗ Q ⟨⟩)
      -∗ W (F := F) c (Prog.lift (.waitDma2 ((cc0_scratch13.slice (Rect.unit (s := S16) o8 S1.size h8)).squeeze S_ squeezes_S1_S_).sem
          (wsrc (o := o10) h10) (wdst (o := o9) h9) hsrc hdst)) Q) := by
  subst e8 e9
  unfold holdW inflW
  iintro ⟨⟨HF, Hr⟩, Ho⟩ Hk
  iapply (l_wait (F := F) c (srcw := wsrc (o := o10) h10) (dstw := wdst (o := ![k.val, 0, 0]) h9) (hsrc := hsrc) (hdst := hdst) (N := NW) rfl) $$ [HF Ho]
  · isplitl [HF]; · iexact HF
    iexact Ho
  iintro ⟨⟨Hf, Hb⟩, Hs, Ho⟩
  iapply Hk
  isplitr [Ho]
  · isplitl [Hs]; · iexact Hs
    isplitl [Hf]; · iexact Hf
    iapply (show iprop(wShare c fw k (wblk e n) ∗ wShare c fw k (Finset.univ \ wblk e n)) ⊢ wShare c fw k Finset.univ from (pointsTo_split_subset (Finset.subset_univ _)).2)
    isplitl [Hb]; · iexact Hb
    iexact Hr
  · iexact Ho

/-! ## The output buffer's slots -/

/-- An output slot in hand, its contents whatever. -/
abbrev oAny (s : ℕ) : sProp 𝕄 := iprop(∃ f, (oM.view.loc (c : Thread nD τ) ↦[oslot s]{fullShare} f))
/-- A set of result elements, each good. -/
def outGood (Good : S256x14336.Idx → Elt F .bf16 → Prop) (s : Finset S256x14336.Idx) : sProp 𝕄 :=
  iprop(∃ g, (outH.view.loc (c : Thread nD τ) ↦[s]{fullShare} g) ∗ ⌜∀ i ∈ s, Good i (g i)⌝)
/-- Block `n` on its way from slot `s` to the result. -/
def inflO (Good : S256x14336.Idx → Elt F .bf16 → Prop) (s : Fin 2) (n : ℕ) : sProp 𝕄 :=
  Flight EC (c : Thread nD τ) (.dma (ocell s)) () NO iprop(outGood c Good (oblk n) ∗ oAny c s.val)

/-- Starting an output block's transfer. -/
theorem o_enq {Good : S256x14336.Idx → Elt F .bf16 → Prop} {s : Fin 2} {n : ℕ} (hn : n < 28) {o8 : Fin 1 → ℕ} {o9 : Fin 3 → ℕ} {o10 : Fin 2 → ℕ} {h8 h9 h10} {hsrc hdst hsem}
    (e8 : o8 = ![s.val]) (e9 : o9 = ![s.val, 0, 0]) (e10 : o10 = ![0, 512 * n]) {f : S2x256x512.Idx → Elt F .bf16} {g : S256x14336.Idx → Elt F .bf16}
    (hf : IsO (F := F) Good s.val n 256 f) {Q : PUnit → sProp 𝕄} :
    iprop((oM.view.loc (c : Thread nD τ) ↦[oslot s.val]{fullShare} f) ∗ (outH.view.loc (c : Thread nD τ) ↦[oblk n]{fullShare} g) ∗ semVal ((c : Thread nD τ), .dma (ocell s)) 0)
      ⊢ iprop((inflO (F := F) c Good s n -∗ Q ⟨⟩)
      -∗ W (F := F) c (Prog.lift (.enqueueDma (osrc (o := o9) h9) (.here (odst (o := o10) h10))
          (.dma ((cc0_scratch14.slice (Rect.unit (s := S2) o8 S1.size h8)).squeeze S_ squeezes_S1_S_).sem) hsrc hdst hsem)) Q) := by
  subst e8 e9 e10
  unfold inflO outGood
  iintro ⟨H, Hg, Hs⟩ Hk
  iapply (l_enq (F := F) c (src := osrc (o := ![s.val, 0, 0]) h9) (dst := odst (o := ![0, 512 * n]) h10) (sm := .dma (ocell s)) NO rfl NO_pos (osrc_set h9) (subset_of_eq (odst_set h10))
    (q := fullShare) (fs := f) (fd := g)
    (D := iprop((∃ g, (outH.view.loc (c : Thread nD τ) ↦[oblk n]{fullShare} g) ∗ ⌜∀ i ∈ oblk n, Good i (g i)⌝) ∗ oAny c s.val)) ?_) $$ [H Hg Hs]
  · iintro ⟨H1, H2⟩
    isplitl [H1]
    · iexists _
      isplitl [H1]; · iexact H1
      ipureintro
      exact good_of hn h10 h9 hf g
    · iexists _; iexact H2
  · isplitl [H]; · iexact H
    isplitl [Hg]; · iexact Hg
    iexact Hs
  iintro HF
  iapply Hk
  iexact HF

/-- Waiting for an output block's transfer. -/
theorem o_wait {Good : S256x14336.Idx → Elt F .bf16 → Prop} {s : Fin 2} {n : ℕ} {o8 : Fin 1 → ℕ} {o9 : Fin 3 → ℕ} {o10 : Fin 2 → ℕ} {h8 h9 h10} {hsrc hdst}
    (e8 : o8 = ![s.val]) {Q : PUnit → sProp 𝕄} :
    iprop(inflO (F := F) c Good s n ∗ (∃ w, owes (c : Thread nD τ) 0 w))
      ⊢ iprop((iprop(outGood c Good (oblk n) ∗ oAny c s.val ∗ semVal ((c : Thread nD τ), .dma (ocell s)) 0 ∗ (∃ w, owes (c : Thread nD τ) 0 w)) -∗ Q ⟨⟩)
      -∗ W (F := F) c (Prog.lift (.waitDma2 ((cc0_scratch14.slice (Rect.unit (s := S2) o8 S1.size h8)).squeeze S_ squeezes_S1_S_).sem
          (osrc (o := o9) h9) (odst (o := o10) h10) hsrc hdst)) Q) := by
  subst e8
  unfold inflO
  iintro ⟨HF, Ho⟩ Hk
  iapply (l_wait (F := F) c (srcw := osrc (o := o9) h9) (dstw := odst (o := o10) h10) (hsrc := hsrc) (hdst := hdst) (N := NO) rfl) $$ [HF Ho]
  · isplitl [HF]; · iexact HF
    iexact Ho
  iintro ⟨⟨Hf, Hb⟩, Hs, Ho⟩
  iapply Hk
  isplitl [Hf]; · iexact Hf
  isplitl [Hb]; · iexact Hb
  isplitl [Hs]; · iexact Hs
  iexact Ho

end Cert.Kernel.Hand
end
-- ==== Proof.K.Prime.lean ====
module
public import proofs.«01_k».proof.Proof.K.Dma
/-!
The weight ring as a whole, and the loop that starts its first sixteen transfers.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (c : Dev nD) (fw : S6x4096x14336.Idx → Elt F .fp8e4m3) (E : ℕ → ℕ) (m : ℕ)

/-- What ring slot `k` holds: nothing in flight, or the transfer of item `i` (block `i / m` of the expert at place `i % m`). -/
def ringΦ (k : Fin 16) : Option ℕ → sProp 𝕄
  | none => freeW c fw k
  | some i => inflW c fw k (E (i % m)) (i / m)

/-- One slot of the ring set apart. -/
theorem ring_take (st : Fin 16 → Option ℕ) (k : Fin 16) (x : Option ℕ) (hx : st k = x) :
    AtW (ringΦ c fw E m) st ⊢ iprop(ringΦ c fw E m k x ∗ restW (ringΦ c fw E m) st k) := by
  subst hx
  rw [AtW_focus (ringΦ c fw E m) st k]
/-- One slot of the ring put back in a new state. -/
theorem ring_put (st st' : Fin 16 → Option ℕ) (k : Fin 16) (x : Option ℕ) (hx : st' = Function.update st k x) :
    iprop(ringΦ c fw E m k x ∗ restW (ringΦ c fw E m) st k) ⊢ AtW (ringΦ c fw E m) st' := by
  subst hx
  exact AtW_update (ringΦ c fw E m) st k x

/-- The ring while the first transfers are being started. -/
def primed (t : ℕ) (k : Fin 16) : Option ℕ := if k.val < t then some k.val else none

variable {m} {g : ℕ → ℕ} {fa fs : S7.Idx → BitVec 32} {S : ℕ → ℕ}
variable {v2 v11 v20 v29 v38 v47 : BitVec 32}

/-- The table of experts, whole. -/
abbrev actPt (fa : S7.Idx → BitVec 32) : sProp 𝕄 := (actM.view.loc (c : Thread nD τ) ↦[Finset.univ]{fullShare} fa)
/-- The table of row starts, whole. -/
abbrev startPt (fs : S7.Idx → BitVec 32) : sProp 𝕄 := (startM.view.loc (c : Thread nD τ) ↦[Finset.univ]{fullShare} fs)

/-- Before trip `t` of the priming loop. -/
def primeInv (m : ℕ) (fa : S7.Idx → BitVec 32) (t : ℕ) (acc : BitVec 32 × BitVec 32) : sProp 𝕄 :=
  iprop(⌜acc = (wd (t / m), wd (t % m))⌝ ∗ actPt c fa ∗ AtW (ringΦ c fw E m) (primed t))

theorem div_lt28 {i m : ℕ} (hm : 1 ≤ m) (h : i < 28 * m) : i / m < 28 := Nat.div_lt_of_lt_mul (by rw [Nat.mul_comm]; exact h)

theorem prime_step (T : Tab g fa fs m E S) (hm : nA v2 v11 v20 v29 v38 v47 = wd m) (v23 v24 : BitVec 32) (hw6 : k0_chk6 v2 v11 v20 v29 v38 v47)
    (k : Fin (k0_t1_loop v2 v11 v20 v29 v38 v47).trips) (acc : BitVec 32 × BitVec 32) :
    primeInv c fw E m fa k.val acc
      ⊢ W (F := F) c (k0_t1_body gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 v2 v11 v20 v23 v24 v29 v38 v47 hw6 (wd m) k acc) (primeInv c fw E m fa (k.val + 1)) := by
  have h1 := T.one
  have h6 := T.six
  have hk : k.val < 16 := lt_of_lt_of_eq k.isLt (t1_trips hm h1 h6)
  have hj : k.val % m < m := Nat.mod_lt _ h1
  have hn : k.val / m < 28 := div_lt28 h1 (by omega)
  have hn' : k.val / m < 100 := by omega
  unfold primeInv
  iintro ⟨%hacc, Ha, HR⟩
  subst hacc
  unfold k0_t1_body
  dsimp only
  simp only [wp_bind]
  iapply (l_assume (F := F) c (chk8_of (by omega)))
  iapply (l_assume (F := F) c (chk7_of hn))
  iapply (l_act (F := F) c (off7_eq (by omega))) $$ Ha
  iintro Ha
  rw [T.fa _ hj]
  have hE := T.E_lt _ hj
  iapply (l_assume (F := F) c (chk9_of hn hE))
  ihave HR2 := (ring_take c fw E m _ (⟨k.val, hk⟩ : Fin 16) none (if_neg (Nat.lt_irrefl k.val))) $$ HR
  icases HR2 with ⟨H0, HR⟩
  iapply (w_enq (F := F) c fw (k := ⟨k.val, hk⟩) hE hn (off8_eq k (by omega)) (off9_eq k (by omega)) (off10_eq hn hE)) $$ [H0]
  · iapply (show ringΦ c fw E m (⟨k.val, hk⟩ : Fin 16) none ⊢ freeW c fw ⟨k.val, hk⟩ from .rfl) $$ H0
  iintro HF
  iapply (l_pure (F := F) c)
  isplitr
  · ipureintro
    rw [adv_n hj h6 hn', adv_j hj h6, div_succ h1, mod_succ h1]
  isplitl [Ha]; · iexact Ha
  have e : primed (k.val + 1) = Function.update (primed k.val) (⟨k.val, hk⟩ : Fin 16) (some k.val) := by
    funext s
    by_cases hs : s = ⟨k.val, hk⟩
    · subst hs; rw [Function.update_self]; exact if_pos (Nat.lt_succ_self _)
    · rw [Function.update_of_ne hs]
      have : s.val ≠ k.val := fun h => hs (Fin.ext h)
      unfold primed
      by_cases h : s.val < k.val
      · rw [if_pos h, if_pos (by omega)]
      · rw [if_neg h, if_neg (by omega)]
  iapply (ring_put c fw E m (primed k.val) (primed (k.val + 1)) (⟨k.val, hk⟩ : Fin 16) (some k.val) e)
  isplitl [HF]
  · iapply (show inflW c fw ⟨k.val, hk⟩ (E (k.val % m)) (k.val / m) ⊢ ringΦ c fw E m (⟨k.val, hk⟩ : Fin 16) (some k.val) from .rfl) $$ HF
  · iexact HR

end Cert.Kernel.Hand
end
-- ==== Proof.K.Tile.lean ====
module
public import proofs.«01_k».proof.Proof.K.Prime
/-!
One tile of one item: the rows of an expert, rounded out to whole groups of 32, multiplied by one block of its
weights and stored into the output slot, keeping in the first group the rows that belong to earlier experts.
The lemma is stated once for any number of rows; the kernel's eight branches are its instances.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

/-- Rows `b …` of the codes. -/
abbrev codeAt (fcode : S256x4096.Idx → Elt F .fp8e4m3) (a : ℕ) (k : Fin 4096) : Elt F .fp8e4m3 :=
  fcode (ix2 (⟨a % 256, Nat.mod_lt _ (by decide)⟩ : Fin 256) k)
/-- Weight scale of expert `e`, column `b`. -/
abbrev wsAt (fws : S6x14336.Idx → Elt F .f32) (e b : ℕ) : Elt F .f32 :=
  fws (ix2 (⟨e % 6, Nat.mod_lt _ (by decide)⟩ : Fin 6) (⟨b % 14336, Nat.mod_lt _ (by decide)⟩ : Fin 14336))
/-- A row of the result by number. -/
abbrev rowIx (a : ℕ) : Fin 256 := ⟨a % 256, Nat.mod_lt _ (by decide)⟩

section Pay
variable (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) (g : ℕ → ℕ)

/-- What a tile's loads hold: `R` rows of codes from the expert's rounded-down start, the weight block, and the two scales. -/
structure TileIn (R : ℕ) (e n S S' : ℕ) (x : Vec F (⟨2, ![R, 4096]⟩ : Shape) .fp8e4m3) (w : Vec F S1x4096x512 .fp8e4m3) (xs : Elt F .f32)
    (ws : Vec F S1x512 .f32) : Prop where
  he : e < 6
  hn : n < 28
  lo : S = nRow g e
  hi : S' = nRow g (e + 1)
  lt : S < S'
  fits : S' ≤ S / 32 * 32 + R
  inb : S / 32 * 32 + R ≤ 256
  x : ∀ (a : Fin R) (k : Fin 4096), x (ix2 a k) = codeAt fcode (S / 32 * 32 + a.val) k
  w : ∀ (k : Fin 4096) (b : Fin 512), w (ix3 (0 : Fin 1) k b) = fw (wix e k (512 * n + b.val))
  xs : xs = fxs (i6 e)
  ws : ∀ b : Fin 512, ws (ix2 (0 : Fin 1) b) = wsAt fws e (512 * n + b.val)

/-- The first 32 rows a tile stores are good: earlier experts' rows because they were, this expert's because they are its products. -/
def FirstOK (R : ℕ) (p : BitVec 32 → BitVec 32 → Vec F (⟨2, ![R, 4096]⟩ : Shape) .fp8e4m3 → Vec F S1x4096x512 .fp8e4m3 → Elt F .f32 → Vec F S1x512 .f32
    → Vec F S1x32x512 .bf16 → Vec F S1x32x512 .bf16) : Prop :=
  ∀ (e n S S' : ℕ) x w xs ws (old : Vec F S1x32x512 .bf16), TileIn fcode fw fxs fws g R e n S S' x w xs ws → ∀ (a : Fin 32) (b : Fin 512), S / 32 * 32 + a.val < S' →
    (S / 32 * 32 + a.val < S → Good (oix (rowIx (S / 32 * 32 + a.val)) (512 * n + b.val)) (old (ix3 (0 : Fin 1) a b))) →
    Good (oix (rowIx (S / 32 * 32 + a.val)) (512 * n + b.val)) (p (wd S) (bw (wd S)) x w xs ws old (ix3 (0 : Fin 1) a b))
/-- The remaining rows a tile stores are good. -/
def RestOK (R R' : ℕ) (p : Vec F (⟨2, ![R, 4096]⟩ : Shape) .fp8e4m3 → Vec F S1x4096x512 .fp8e4m3 → Elt F .f32 → Vec F S1x512 .f32
    → Vec F (⟨3, ![1, R', 512]⟩ : Shape) .bf16) : Prop :=
  ∀ (e n S S' : ℕ) x w xs ws, TileIn fcode fw fxs fws g R e n S S' x w xs ws → ∀ (a : Fin R') (b : Fin 512), S / 32 * 32 + 32 + a.val < S' →
    Good (oix (rowIx (S / 32 * 32 + 32 + a.val)) (512 * n + b.val)) (p x w xs ws (ix3 (0 : Fin 1) a b))
end Pay

/-! ## Elements of the rectangles -/

theorem oRect_emb {s : Fin 2} {b R : ℕ} (h : ∀ a, (![s.val, b, 0] : Fin 3 → ℕ) a + (![1, R, 512] : Fin 3 → ℕ) a ≤ S2x256x512.size a) (x : Fin R) (y : Fin 512) (r : Fin 256)
    (hr : r.val = b + x.val) : (oM.access (Rect.unit (s := S2x256x512) ![s.val, b, 0] ![1, R, 512] h)).emb (ix3 (0 : Fin 1) x y) = ix3 s r y := by
  funext a
  fin_cases a
  · apply Fin.ext; show s.val + 1 * 0 = s.val; omega
  · apply Fin.ext; show b + 1 * x.val = r.val; omega
  · apply Fin.ext; show 0 + 1 * y.val = y.val; omega
theorem oRect_set {s : Fin 2} {b R : ℕ} (h : ∀ a, (![s.val, b, 0] : Fin 3 → ℕ) a + (![1, R, 512] : Fin 3 → ℕ) a ≤ S2x256x512.size a) (i : S2x256x512.Idx) :
    i ∈ (oM.access (Rect.unit (s := S2x256x512) ![s.val, b, 0] ![1, R, 512] h)).set ↔ (i 0).val = s.val ∧ b ≤ (i 1).val ∧ (i 1).val < b + R := by
  rw [show (oM.access (Rect.unit (s := S2x256x512) ![s.val, b, 0] ![1, R, 512] h)).set = (Rect.unit (s := S2x256x512) ![s.val, b, 0] ![1, R, 512] h).set from View.set_slice_whole _ _]
  rw [Rect.mem_set_unit]
  have h2 : (i 2).val < 512 := (i 2).isLt
  constructor
  · intro H
    have a1 : s.val ≤ (i 0).val := (H 0).1
    have a2 : (i 0).val < s.val + 1 := (H 0).2
    have b1 : b ≤ (i 1).val := (H 1).1
    have b2 : (i 1).val < b + R := (H 1).2
    omega
  · intro H a
    fin_cases a
    · exact ⟨(by show s.val ≤ (i 0).val; omega), (by show (i 0).val < s.val + 1; omega)⟩
    · exact ⟨(by show b ≤ (i 1).val; omega), (by show (i 1).val < b + R; omega)⟩
    · exact ⟨Nat.zero_le _, (by show (i 2).val < 0 + 512; omega)⟩
theorem oRect_sub {s : Fin 2} {b R : ℕ} (h : ∀ a, (![s.val, b, 0] : Fin 3 → ℕ) a + (![1, R, 512] : Fin 3 → ℕ) a ≤ S2x256x512.size a) :
    (oM.access (Rect.unit (s := S2x256x512) ![s.val, b, 0] ![1, R, 512] h)).set ⊆ oslot s.val := by
  intro i hi
  exact Finset.mem_filter.mpr ⟨Finset.mem_univ _, ((oRect_set h i).mp hi).1⟩

/-- The output buffer with rows `b … b+R` of slot `s` overwritten. -/
theorem oWrite {s : Fin 2} {b R : ℕ} (h : ∀ a, (![s.val, b, 0] : Fin 3 → ℕ) a + (![1, R, 512] : Fin 3 → ℕ) a ≤ S2x256x512.size a) (f : S2x256x512.Idx → Elt F .bf16)
    (v : Vec F (⟨3, ![1, R, 512]⟩ : Shape) .bf16) (i : S2x256x512.Idx) (hi : (i 0).val = s.val) :
    (show S2x256x512.Idx → Elt F .bf16 from (oM.access (Rect.unit (s := S2x256x512) ![s.val, b, 0] ![1, R, 512] h)).write (Elt F) f v Finset.univ) i
      = if h : b ≤ (i 1).val ∧ (i 1).val - b < R then v (ix3 (0 : Fin 1) (⟨(i 1).val - b, h.2⟩ : Fin R) (i 2 : Fin 512)) else f i := by
  split
  · rename_i hb
    have hx : (oM.access (Rect.unit (s := S2x256x512) ![s.val, b, 0] ![1, R, 512] h)).emb (ix3 (0 : Fin 1) (⟨(i 1).val - b, hb.2⟩ : Fin R) (i 2 : Fin 512)) = i := by
      refine (oRect_emb h _ _ (i 1) (by show (i 1).val = b + ((i 1).val - b); omega)).trans ?_
      funext a
      fin_cases a
      · exact (Fin.ext hi).symm
      · rfl
      · rfl
    refine (congrArg ((oM.access (Rect.unit (s := S2x256x512) ![s.val, b, 0] ![1, R, 512] h)).write (Elt F) f v Finset.univ) hx.symm).trans ?_
    exact View.write_emb_of_mem (v := oM.access (Rect.unit (s := S2x256x512) ![s.val, b, 0] ![1, R, 512] h)) f v (Finset.mem_univ _)
  · rename_i hb
    refine View.write_of_not_mem (v := oM.access (Rect.unit (s := S2x256x512) ![s.val, b, 0] ![1, R, 512] h)) f v Finset.univ ?_
    intro hm
    have := (oRect_set h i).mp hm
    omega

theorem oRect_sub' {s : Fin 2} {b R : ℕ} (h : ∀ a, (![s.val, b, 0] : Fin 3 → ℕ) a + (![1, R, 512] : Fin 3 → ℕ) a ≤ S2x256x512.size a) :
    (oM.access (Rect.unit (s := S2x256x512) ![s.val, b, 0] ![1, R, 512] h)).setOn Finset.univ ⊆ oslot s.val := by
  intro i hi
  obtain ⟨x, _, hx⟩ := Finset.mem_map.mp hi
  exact oRect_sub h (hx ▸ View.emb_mem_set _ x)
theorem row_of {b : ℕ} {r : Fin 256} (h : b ≤ r.val) : r = rowIx (b + (r.val - b)) := by
  apply Fin.ext
  show r.val = (b + (r.val - b)) % 256
  have := r.isLt
  omega
theorem wRect_sub {k : Fin 16} (h : ∀ a, (![k.val, 0, 0] : Fin 3 → ℕ) a + S1x4096x512.size a ≤ S16x4096x512.size a) :
    (wM.access (Rect.unit (s := S16x4096x512) ![k.val, 0, 0] S1x4096x512.size h)).set ⊆ wslot k.val := by
  rw [show (wM.access (Rect.unit (s := S16x4096x512) ![k.val, 0, 0] S1x4096x512.size h)).set = (Rect.unit (s := S16x4096x512) ![k.val, 0, 0] S1x4096x512.size h).set from View.set_slice_whole _ _]
  intro i hi
  rw [Rect.mem_set_unit] at hi
  have h1 : k.val ≤ (i 0).val := (hi 0).1
  have h2 : (i 0).val < k.val + 1 := (hi 0).2
  exact Finset.mem_filter.mpr ⟨Finset.mem_univ _, by omega⟩

/-- Reading rows of the codes. -/
theorem code_read {b R : ℕ} (h : ∀ a, (![b, 0] : Fin 2 → ℕ) a + (![R, 4096] : Fin 2 → ℕ) a ≤ S256x4096.size a) (f : S256x4096.Idx → Elt F .fp8e4m3) (hR : b + R ≤ 256) (a : Fin R) (k : Fin 4096) :
    (codeM.access (Rect.unit (s := S256x4096) ![b, 0] ![R, 4096] h)).read (Elt F) f (ix2 a k) = codeAt f (b + a.val) k := by
  refine congrArg f ?_
  have := a.isLt
  funext x
  fin_cases x
  · apply Fin.ext; show b + 1 * a.val = (b + a.val) % 256; omega
  · apply Fin.ext; show 0 + 1 * k.val = k.val; omega
/-- Reading a ring slot. -/
theorem wslot_read {k : Fin 16} {e n : ℕ} {fw : S6x4096x14336.Idx → Elt F .fp8e4m3} (h : ∀ a, (![k.val, 0, 0] : Fin 3 → ℕ) a + S1x4096x512.size a ≤ S16x4096x512.size a) {f : S16x4096x512.Idx → Elt F .fp8e4m3}
    (hf : IsW fw k.val e n f) (a : Fin 4096) (b : Fin 512) :
    (wM.access (Rect.unit (s := S16x4096x512) ![k.val, 0, 0] S1x4096x512.size h)).read (Elt F) f (ix3 (0 : Fin 1) a b) = fw (wix e a (512 * n + b.val)) := by
  have hx : (wM.access (Rect.unit (s := S16x4096x512) ![k.val, 0, 0] S1x4096x512.size h)).emb (ix3 (0 : Fin 1) a b) = ix3 k a b := by
    funext x
    fin_cases x
    · apply Fin.ext; show k.val + 1 * 0 = k.val; omega
    · apply Fin.ext; show 0 + 1 * a.val = a.val; omega
    · apply Fin.ext; show 0 + 1 * b.val = b.val; omega
  exact (congrArg f hx).trans (hf (ix3 k a b) rfl)
/-- Reading a block of an expert's weight scales. -/
theorem ws_read {e n : ℕ} (he : e < 6) (hn : n < 28) (h : ∀ a, (![e, 512 * n] : Fin 2 → ℕ) a + S1x512.size a ≤ S6x14336.size a) (f : S6x14336.Idx → Elt F .f32) (b : Fin 512) :
    (wsM.access (Rect.unit (s := S6x14336) ![e, 512 * n] S1x512.size h)).read (Elt F) f (ix2 (0 : Fin 1) b) = wsAt f e (512 * n + b.val) := by
  refine congrArg f ?_
  have := b.isLt
  funext x
  fin_cases x
  · apply Fin.ext; show e + 1 * 0 = e % 6; omega
  · apply Fin.ext; show 512 * n + 1 * b.val = (512 * n + b.val) % 14336; omega

/-- How many groups of 32 rows a tile takes. -/
def tiles (S S' : ℕ) : ℕ := (S' - S / 32 * 32 + 31) / 32
/-- An item: an expert with rows, and a block of columns. -/
structure Item (g : ℕ → ℕ) (e n S S' : ℕ) : Prop where
  he : e < 6
  hn : n < 28
  lo : S = nRow g e
  hi : S' = nRow g (e + 1)
  lt : S < S'
  le : S' ≤ 256

variable (c : Dev nD) (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) (g : ℕ → ℕ)

/-- What the items read besides the weights: the codes and the two scales. -/
def datas : sProp 𝕄 :=
  iprop((codeM.view.loc (c : Thread nD τ) ↦[Finset.univ]{fullShare} fcode) ∗ (xsM.view.loc (c : Thread nD τ) ↦[Finset.univ]{fullShare} fxs)
    ∗ (wsM.view.loc (c : Thread nD τ) ↦[Finset.univ]{fullShare} fws))
/-- Slot `s` of the output buffer, its rows below `R` good for block `n`. -/
def obuf (s n R : ℕ) : sProp 𝕄 := iprop(∃ f, (oM.view.loc (c : Thread nD τ) ↦[oslot s]{fullShare} f) ∗ ⌜IsO (F := F) Good s n R f⌝)

variable {fcode fw fxs fws g Good}
/-- After the first store of a tile the rows outside the rest are good. -/
theorem first_good {R e n S S' : ℕ} {s : Fin 2} {p1} (h1 : FirstOK Good fcode fw fxs fws g R p1) {x w xs ws} (T : TileIn fcode fw fxs fws g R e n S S' x w xs ws)
    (h32 : ∀ a, (![s.val, S / 32 * 32, 0] : Fin 3 → ℕ) a + (![1, 32, 512] : Fin 3 → ℕ) a ≤ S2x256x512.size a) {f : S2x256x512.Idx → Elt F .bf16} (hf : IsO (F := F) Good s.val n S f)
    {i : S2x256x512.Idx} (hi : (i 0).val = s.val) (hr : (i 1).val < S') (hlt : (i 1).val < S / 32 * 32 + 32) :
    Good (oix (i 1) (512 * n + (i 2).val)) ((show S2x256x512.Idx → Elt F .bf16 from (oM.access (Rect.unit (s := S2x256x512) ![s.val, S / 32 * 32, 0] ![1, 32, 512] h32)).write (Elt F) f
      (p1 (wd S) (bw (wd S)) x w xs ws ((oM.access (Rect.unit (s := S2x256x512) ![s.val, S / 32 * 32, 0] ![1, 32, 512] h32)).read (Elt F) f)) Finset.univ) i) := by
  rw [oWrite h32 _ _ i hi]
  split
  · rename_i hb
    have hrow : (i 1) = rowIx (S / 32 * 32 + ((i 1).val - S / 32 * 32)) := row_of hb.1
    refine (congrArg (fun r => Good (oix r (512 * n + (i 2).val)) _) hrow).mpr ?_
    refine h1 e n S S' x w xs ws _ T ⟨(i 1).val - S / 32 * 32, hb.2⟩ (i 2) (by show S / 32 * 32 + ((i 1).val - S / 32 * 32) < S'; omega) ?_
    intro hS
    have hS' : (i 1).val < S := by
      have : S / 32 * 32 + ((i 1).val - S / 32 * 32) < S := hS
      omega
    have hx : (oM.access (Rect.unit (s := S2x256x512) ![s.val, S / 32 * 32, 0] ![1, 32, 512] h32)).emb (ix3 (0 : Fin 1) (⟨(i 1).val - S / 32 * 32, hb.2⟩ : Fin 32) (i 2 : Fin 512)) = i := by
      refine (oRect_emb h32 _ _ (i 1) (by show (i 1).val = S / 32 * 32 + ((i 1).val - S / 32 * 32); omega)).trans ?_
      funext a
      fin_cases a
      · exact (Fin.ext hi).symm
      · rfl
      · rfl
    have := hf i hi hS'
    refine (congrArg (fun r => Good (oix r (512 * n + (i 2).val)) _) hrow).mp ?_
    exact (congrArg (fun y => Good (oix (i 1) (512 * n + (i 2).val)) (f y)) hx).mpr this
  · rename_i hb
    refine hf i hi ?_
    omega
variable (fcode fw fxs fws g Good)

theorem tile_one {R t e n S S' : ℕ} {s : Fin 2} {k : Fin 16} (hR : R = 32 * t) (ht : t < 9) (ht1 : t = 1) (I : Item g e n S S')
    {p1 : BitVec 32 → BitVec 32 → Vec F (⟨2, ![R, 4096]⟩ : Shape) .fp8e4m3 → Vec F S1x4096x512 .fp8e4m3 → Elt F .f32 → Vec F S1x512 .f32 → Vec F S1x32x512 .bf16 → Vec F S1x32x512 .bf16}
    (h1 : FirstOK Good fcode fw fxs fws g R p1)
    {cnd : BitVec 1} (hc : cnd = condT (wd t) (wd S) (wd S')) {o28 o31 : Fin 2 → ℕ} {o29 o32 : Fin 3 → ℕ} {o30 : Fin 1 → ℕ}
    (e28 : o28 = ![S / 32 * 32, 0]) (e29 : o29 = ![k.val, 0, 0]) (e30 : o30 = ![e]) (e31 : o31 = ![e, 512 * n]) (e32 : o32 = ![s.val, S / 32 * 32, 0])
    {i28 : cnd = 1#1 → ∀ a, o28 a + (![R, 4096] : Fin 2 → ℕ) a ≤ S256x4096.size a} {i29 : cnd = 1#1 → ∀ a, o29 a + S1x4096x512.size a ≤ S16x4096x512.size a}
    {i30 : cnd = 1#1 → ∀ a, o30 a + S1.size a ≤ S6.size a} {i31 : cnd = 1#1 → ∀ a, o31 a + S1x512.size a ≤ S6x14336.size a}
    {i32 : cnd = 1#1 → ∀ a, o32 a + S1x32x512.size a ≤ S2x256x512.size a}
    {l28 : ∀ h, codeM.view.LoadsAt (Rect.unit (s := S256x4096) o28 ![R, 4096] (i28 h)).toLoadRect}
    {l29 : ∀ h, wM.view.LoadsAt (Rect.unit (s := S16x4096x512) o29 S1x4096x512.size (i29 h)).toLoadRect}
    {l31 : ∀ h, wsM.view.LoadsAt (Rect.unit (s := S6x14336) o31 S1x512.size (i31 h)).toLoadRect}
    {l32 : ∀ h, oM.view.LoadsAt (Rect.unit (s := S2x256x512) o32 S1x32x512.size (i32 h)).toLoadRect}
    {x32 : ∀ h, (oM.access (Rect.unit (s := S2x256x512) o32 S1x32x512.size (i32 h))).Stores Finset.univ}
    {α : Type} {K : Prog (TpuEff nD τ sig (Elt F) Λ₀ .tc) α} {Q : α → sProp 𝕄} :
    iprop(datas c fcode fxs fws ∗ holdW c fw k e n ∗ obuf c Good s.val n (if tiles S S' < t then S' else S))
      ⊢ iprop((datas c fcode fxs fws ∗ holdW c fw k e n ∗ obuf c Good s.val n (if tiles S S' < t + 1 then S' else S) -∗ W (F := F) c K Q)
        -∗ W (F := F) c (if h : cnd = 1#1 then (do
      let v213 : Vec F (⟨2, ![R, 4096]⟩ : Shape) .fp8e4m3 ← Prog.lift (.load codeM (Rect.unit (s := S256x4096) o28 ![R, 4096] (i28 h)).toLoadRect (l28 h))
      let v215 : Vec F S1x4096x512 .fp8e4m3 ← Prog.lift (.load wM (Rect.unit (s := S16x4096x512) o29 S1x4096x512.size (i29 h)).toLoadRect (l29 h))
      let v222 : Elt F .f32 ← smemLoad xsM (Rect.unit (s := S6) o30 S1.size (i30 h)) numel1_S1 rfl
      let v225 : Vec F S1x512 .f32 ← Prog.lift (.load wsM (Rect.unit (s := S6x14336) o31 S1x512.size (i31 h)).toLoadRect (l31 h))
      let v233 : Vec F S1x32x512 .bf16 ← Prog.lift (.load oM (Rect.unit (s := S2x256x512) o32 S1x32x512.size (i32 h)).toLoadRect (l32 h))
      let _v : Vec F S1x32x512 .bf16 ← Prog.lift (.load oM (Rect.unit (s := S2x256x512) o32 S1x32x512.size (i32 h)).toLoadRect (l32 h))
      Prog.lift (.store oM (Rect.unit (s := S2x256x512) o32 S1x32x512.size (i32 h)) (p1 (wd S) (bw (wd S)) v213 v215 v222 v225 v233) Finset.univ (x32 h) (.inl rfl))
      K : Prog (TpuEff nD τ sig (Elt F) Λ₀ .tc) α) else K) Q) := by
  have hci : cnd = 1#1 ↔ tiles S S' = t := by rw [hc]; exact condT_iff I.lt I.le ht
  subst e28 e29 e30 e31 e32
  by_cases h : cnd = 1#1
  · rw [dif_pos h]
    have hq : tiles S S' = t := hci.mp h
    have hfit : S' ≤ S / 32 * 32 + R ∧ S / 32 * 32 + R ≤ 256 := by
      have h1 := I.lt; have h2 := I.le; unfold tiles at hq; omega
    rw [if_neg (by omega), if_pos (by omega)]
    unfold datas holdW obuf
    simp only [wp_bind]
    iintro ⟨⟨Hc, Hx, Hw⟩, ⟨Hs, ⟨%fb, Hb, %hb⟩, Hsh⟩, ⟨%f, Ho, %hf⟩⟩ Hk
    iapply (l_load (F := F) c (m := codeM) (r := Rect.unit (s := S256x4096) ![S / 32 * 32, 0] ![R, 4096] (i28 h)) (f := fcode) (S := Finset.univ) (Finset.subset_univ _)) $$ Hc
    iintro Hc
    iapply (l_load (F := F) c (m := wM) (r := Rect.unit (s := S16x4096x512) ![k.val, 0, 0] S1x4096x512.size (i29 h)) (f := fb) (S := wslot k.val) (wRect_sub (i29 h))) $$ Hb
    iintro Hb
    iapply (l_xs (F := F) c rfl) $$ Hx
    iintro Hx
    iapply (l_load (F := F) c (m := wsM) (r := Rect.unit (s := S6x14336) ![e, 512 * n] S1x512.size (i31 h)) (f := fws) (S := Finset.univ) (Finset.subset_univ _)) $$ Hw
    iintro Hw
    iapply (l_load (F := F) c (m := oM) (r := Rect.unit (s := S2x256x512) ![s.val, S / 32 * 32, 0] S1x32x512.size (i32 h)) (S := oslot s.val) (oRect_sub (i32 h))) $$ Ho
    iintro Ho
    iapply (l_load (F := F) c (m := oM) (r := Rect.unit (s := S2x256x512) ![s.val, S / 32 * 32, 0] S1x32x512.size (i32 h)) (S := oslot s.val) (oRect_sub (i32 h))) $$ Ho
    iintro Ho
    iapply (l_store (F := F) c (m := oM) (r := Rect.unit (s := S2x256x512) ![s.val, S / 32 * 32, 0] S1x32x512.size (i32 h)) (S := oslot s.val) (oRect_sub' (i32 h))) $$ Ho
    iintro Ho
    iapply Hk
    isplitl [Hc Hx Hw]
    · isplitl [Hc]; · iexact Hc
      isplitl [Hx]; · iexact Hx
      iexact Hw
    isplitl [Hs Hb Hsh]
    · isplitl [Hs]; · iexact Hs
      isplitl [Hb]
      · iexists fb
        isplitl [Hb]; · iexact Hb
        ipureintro; exact hb
      iexact Hsh
    iexists _
    isplitl [Ho]; · iexact Ho
    ipureintro
    have T : TileIn fcode fw fxs fws g R e n S S' (codeM.access (Rect.unit (s := S256x4096) ![S / 32 * 32, 0] ![R, 4096] (i28 h)) |>.read (Elt F) fcode)
        ((wM.access (Rect.unit (s := S16x4096x512) ![k.val, 0, 0] S1x4096x512.size (i29 h))).read (Elt F) fb) (fxs (i6 e))
        ((wsM.access (Rect.unit (s := S6x14336) ![e, 512 * n] S1x512.size (i31 h))).read (Elt F) fws) :=
      ⟨I.he, I.hn, I.lo, I.hi, I.lt, hfit.1, hfit.2, code_read (i28 h) fcode hfit.2, wslot_read (i29 h) hb, rfl, ws_read I.he I.hn (i31 h) fws⟩
    intro i hi hr
    exact first_good (s := s) h1 T (i32 h) hf hi hr (by omega)
  · rw [dif_neg h]
    have hq : tiles S S' ≠ t := fun h' => h (hci.mpr h')
    have : (if tiles S S' < t + 1 then S' else S) = (if tiles S S' < t then S' else S) := by
      split <;> split <;> first | rfl | omega
    rw [this]
    iintro H Hk
    iapply Hk $$ H

theorem tile_more {R R' t e n S S' : ℕ} {s : Fin 2} {k : Fin 16} (hR : R = 32 * t) (hR' : R' + 32 = R) (ht : t < 9) (I : Item g e n S S')
    {p1 : BitVec 32 → BitVec 32 → Vec F (⟨2, ![R, 4096]⟩ : Shape) .fp8e4m3 → Vec F S1x4096x512 .fp8e4m3 → Elt F .f32 → Vec F S1x512 .f32 → Vec F S1x32x512 .bf16 → Vec F S1x32x512 .bf16}
    (h1 : FirstOK Good fcode fw fxs fws g R p1)
    {p2 : Vec F (⟨2, ![R, 4096]⟩ : Shape) .fp8e4m3 → Vec F S1x4096x512 .fp8e4m3 → Elt F .f32 → Vec F S1x512 .f32 → Vec F (⟨3, ![1, R', 512]⟩ : Shape) .bf16}
    (h2 : RestOK Good fcode fw fxs fws g R R' p2)
    {cnd : BitVec 1} (hc : cnd = condT (wd t) (wd S) (wd S')) {o28 o31 : Fin 2 → ℕ} {o29 o32 o38 : Fin 3 → ℕ} {o30 : Fin 1 → ℕ}
    (e28 : o28 = ![S / 32 * 32, 0]) (e29 : o29 = ![k.val, 0, 0]) (e30 : o30 = ![e]) (e31 : o31 = ![e, 512 * n]) (e32 : o32 = ![s.val, S / 32 * 32, 0])
    (e38 : o38 = ![s.val, S / 32 * 32 + 32, 0])
    {i28 : cnd = 1#1 → ∀ a, o28 a + (![R, 4096] : Fin 2 → ℕ) a ≤ S256x4096.size a} {i29 : cnd = 1#1 → ∀ a, o29 a + S1x4096x512.size a ≤ S16x4096x512.size a}
    {i30 : cnd = 1#1 → ∀ a, o30 a + S1.size a ≤ S6.size a} {i31 : cnd = 1#1 → ∀ a, o31 a + S1x512.size a ≤ S6x14336.size a}
    {i32 : cnd = 1#1 → ∀ a, o32 a + S1x32x512.size a ≤ S2x256x512.size a}
    {l28 : ∀ h, codeM.view.LoadsAt (Rect.unit (s := S256x4096) o28 ![R, 4096] (i28 h)).toLoadRect}
    {l29 : ∀ h, wM.view.LoadsAt (Rect.unit (s := S16x4096x512) o29 S1x4096x512.size (i29 h)).toLoadRect}
    {l31 : ∀ h, wsM.view.LoadsAt (Rect.unit (s := S6x14336) o31 S1x512.size (i31 h)).toLoadRect}
    {l32 : ∀ h, oM.view.LoadsAt (Rect.unit (s := S2x256x512) o32 S1x32x512.size (i32 h)).toLoadRect}
    {x32 : ∀ h, (oM.access (Rect.unit (s := S2x256x512) o32 S1x32x512.size (i32 h))).Stores Finset.univ}
    {i38 : cnd = 1#1 → ∀ a, o38 a + (![1, R', 512] : Fin 3 → ℕ) a ≤ S2x256x512.size a}
    {l38 : ∀ h, oM.view.LoadsAt (Rect.unit (s := S2x256x512) o38 ![1, R', 512] (i38 h)).toLoadRect}
    {x38 : ∀ h, (oM.access (Rect.unit (s := S2x256x512) o38 ![1, R', 512] (i38 h))).Stores Finset.univ}
    {α : Type} {K : Prog (TpuEff nD τ sig (Elt F) Λ₀ .tc) α} {Q : α → sProp 𝕄} :
    iprop(datas c fcode fxs fws ∗ holdW c fw k e n ∗ obuf c Good s.val n (if tiles S S' < t then S' else S))
      ⊢ iprop((datas c fcode fxs fws ∗ holdW c fw k e n ∗ obuf c Good s.val n (if tiles S S' < t + 1 then S' else S) -∗ W (F := F) c K Q)
        -∗ W (F := F) c (if h : cnd = 1#1 then (do
      let v213 : Vec F (⟨2, ![R, 4096]⟩ : Shape) .fp8e4m3 ← Prog.lift (.load codeM (Rect.unit (s := S256x4096) o28 ![R, 4096] (i28 h)).toLoadRect (l28 h))
      let v215 : Vec F S1x4096x512 .fp8e4m3 ← Prog.lift (.load wM (Rect.unit (s := S16x4096x512) o29 S1x4096x512.size (i29 h)).toLoadRect (l29 h))
      let v222 : Elt F .f32 ← smemLoad xsM (Rect.unit (s := S6) o30 S1.size (i30 h)) numel1_S1 rfl
      let v225 : Vec F S1x512 .f32 ← Prog.lift (.load wsM (Rect.unit (s := S6x14336) o31 S1x512.size (i31 h)).toLoadRect (l31 h))
      let v233 : Vec F S1x32x512 .bf16 ← Prog.lift (.load oM (Rect.unit (s := S2x256x512) o32 S1x32x512.size (i32 h)).toLoadRect (l32 h))
      let _v : Vec F S1x32x512 .bf16 ← Prog.lift (.load oM (Rect.unit (s := S2x256x512) o32 S1x32x512.size (i32 h)).toLoadRect (l32 h))
      Prog.lift (.store oM (Rect.unit (s := S2x256x512) o32 S1x32x512.size (i32 h)) (p1 (wd S) (bw (wd S)) v213 v215 v222 v225 v233) Finset.univ (x32 h) (.inl rfl))
      let _v : Vec F (⟨3, ![1, R', 512]⟩ : Shape) .bf16 ← Prog.lift (.load oM (Rect.unit (s := S2x256x512) o38 ![1, R', 512] (i38 h)).toLoadRect (l38 h))
      Prog.lift (.store oM (Rect.unit (s := S2x256x512) o38 ![1, R', 512] (i38 h)) (p2 v213 v215 v222 v225) Finset.univ (x38 h) (.inl rfl))
      K : Prog (TpuEff nD τ sig (Elt F) Λ₀ .tc) α) else K) Q) := by
  have hci : cnd = 1#1 ↔ tiles S S' = t := by rw [hc]; exact condT_iff I.lt I.le ht
  subst e28 e29 e30 e31 e32 e38
  by_cases h : cnd = 1#1
  · rw [dif_pos h]
    have hq : tiles S S' = t := hci.mp h
    have hfit : S' ≤ S / 32 * 32 + R ∧ S / 32 * 32 + R ≤ 256 := by
      have h1 := I.lt; have h2 := I.le; unfold tiles at hq; omega
    rw [if_neg (by omega), if_pos (by omega)]
    unfold datas holdW obuf
    simp only [wp_bind]
    iintro ⟨⟨Hc, Hx, Hw⟩, ⟨Hs, ⟨%fb, Hb, %hb⟩, Hsh⟩, ⟨%f, Ho, %hf⟩⟩ Hk
    iapply (l_load (F := F) c (m := codeM) (r := Rect.unit (s := S256x4096) ![S / 32 * 32, 0] ![R, 4096] (i28 h)) (f := fcode) (S := Finset.univ) (Finset.subset_univ _)) $$ Hc
    iintro Hc
    iapply (l_load (F := F) c (m := wM) (r := Rect.unit (s := S16x4096x512) ![k.val, 0, 0] S1x4096x512.size (i29 h)) (f := fb) (S := wslot k.val) (wRect_sub (i29 h))) $$ Hb
    iintro Hb
    iapply (l_xs (F := F) c rfl) $$ Hx
    iintro Hx
    iapply (l_load (F := F) c (m := wsM) (r := Rect.unit (s := S6x14336) ![e, 512 * n] S1x512.size (i31 h)) (f := fws) (S := Finset.univ) (Finset.subset_univ _)) $$ Hw
    iintro Hw
    iapply (l_load (F := F) c (m := oM) (r := Rect.unit (s := S2x256x512) ![s.val, S / 32 * 32, 0] S1x32x512.size (i32 h)) (S := oslot s.val) (oRect_sub (i32 h))) $$ Ho
    iintro Ho
    iapply (l_load (F := F) c (m := oM) (r := Rect.unit (s := S2x256x512) ![s.val, S / 32 * 32, 0] S1x32x512.size (i32 h)) (S := oslot s.val) (oRect_sub (i32 h))) $$ Ho
    iintro Ho
    iapply (l_store (F := F) c (m := oM) (r := Rect.unit (s := S2x256x512) ![s.val, S / 32 * 32, 0] S1x32x512.size (i32 h)) (S := oslot s.val) (oRect_sub' (i32 h))) $$ Ho
    iintro Ho
    iapply (l_load (F := F) c (m := oM) (r := Rect.unit (s := S2x256x512) ![s.val, S / 32 * 32 + 32, 0] ![1, R', 512] (i38 h)) (S := oslot s.val) (oRect_sub (i38 h))) $$ Ho
    iintro Ho
    iapply (l_store (F := F) c (m := oM) (r := Rect.unit (s := S2x256x512) ![s.val, S / 32 * 32 + 32, 0] ![1, R', 512] (i38 h)) (S := oslot s.val) (oRect_sub' (i38 h))) $$ Ho
    iintro Ho
    iapply Hk
    isplitl [Hc Hx Hw]
    · isplitl [Hc]; · iexact Hc
      isplitl [Hx]; · iexact Hx
      iexact Hw
    isplitl [Hs Hb Hsh]
    · isplitl [Hs]; · iexact Hs
      isplitl [Hb]
      · iexists fb
        isplitl [Hb]; · iexact Hb
        ipureintro; exact hb
      iexact Hsh
    iexists _
    isplitl [Ho]; · iexact Ho
    ipureintro
    have T : TileIn fcode fw fxs fws g R e n S S' (codeM.access (Rect.unit (s := S256x4096) ![S / 32 * 32, 0] ![R, 4096] (i28 h)) |>.read (Elt F) fcode)
        ((wM.access (Rect.unit (s := S16x4096x512) ![k.val, 0, 0] S1x4096x512.size (i29 h))).read (Elt F) fb) (fxs (i6 e))
        ((wsM.access (Rect.unit (s := S6x14336) ![e, 512 * n] S1x512.size (i31 h))).read (Elt F) fws) :=
      ⟨I.he, I.hn, I.lo, I.hi, I.lt, hfit.1, hfit.2, code_read (i28 h) fcode hfit.2, wslot_read (i29 h) hb, rfl, ws_read I.he I.hn (i31 h) fws⟩
    intro i hi hr
    refine (congrArg (fun y => Good (oix (i 1) (512 * n + (i 2).val)) y) (oWrite (i38 h) _ _ i hi)).mpr ?_
    split
    · rename_i h38
      have hrow : (i 1) = rowIx (S / 32 * 32 + 32 + ((i 1).val - (S / 32 * 32 + 32))) := row_of h38.1
      refine (congrArg (fun r => Good (oix r (512 * n + (i 2).val)) _) hrow).mpr ?_
      exact h2 e n S S' _ _ _ _ T ⟨(i 1).val - (S / 32 * 32 + 32), h38.2⟩ (i 2) (by show S / 32 * 32 + 32 + ((i 1).val - (S / 32 * 32 + 32)) < S'; omega)
    · rename_i h38
      exact first_good (s := s) h1 T (i32 h) hf hi hr (by omega)
  · rw [dif_neg h]
    have hq : tiles S S' ≠ t := fun h' => h (hci.mpr h')
    have : (if tiles S S' < t + 1 then S' else S) = (if tiles S S' < t then S' else S) := by
      split <;> split <;> first | rfl | omega
    rw [this]
    iintro H Hk
    iapply Hk $$ H

end Cert.Kernel.Hand
end
-- ==== Proof.K.Out.lean ====
module
public import proofs.«01_k».proof.Proof.K.Tile
/-!
The output side of the ring: the block being filled sits in one slot of the double buffer, the block before it is on its way
to the result, the earlier ones have arrived.  The two transfers at the start of a block.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

/-- The output slot of block `n`. -/
def osl (n : ℕ) : Fin 2 := ⟨n % 2, Nat.mod_lt _ (by decide)⟩
/-- The columns of the blocks before `n`. -/
def doneBlk (n : ℕ) : Finset S256x14336.Idx := Finset.univ.filter fun i => (i 1).val < 512 * n
/-- The columns of the blocks from `n` on. -/
def todoBlk (n : ℕ) : Finset S256x14336.Idx := Finset.univ.filter fun i => 512 * n ≤ (i 1).val

theorem todo_sub (n : ℕ) : oblk n ⊆ todoBlk n := by
  intro i hi
  have := (Finset.mem_filter.mp hi).2
  exact Finset.mem_filter.mpr ⟨Finset.mem_univ _, this.1⟩
theorem todo_diff (n : ℕ) : todoBlk n \ oblk n = todoBlk (n + 1) := by
  ext i
  simp only [Finset.mem_sdiff, todoBlk, oblk, Finset.mem_filter, Finset.mem_univ, _root_.true_and]
  omega
theorem done_union (n : ℕ) : doneBlk n ∪ oblk n = doneBlk (n + 1) := by
  ext i
  simp only [Finset.mem_union, doneBlk, oblk, Finset.mem_filter, Finset.mem_univ, _root_.true_and]
  omega
theorem done_disj (n : ℕ) : Disjoint (doneBlk n) (oblk n) := by
  rw [Finset.disjoint_left]
  intro i hi hj
  have h1 := (Finset.mem_filter.mp hi).2
  have h2 := (Finset.mem_filter.mp hj).2.1
  omega

variable (c : Dev nD) (Good : S256x14336.Idx → Elt F .bf16 → Prop)

/-- Two good sets of result elements are one. -/
theorem outGood_join {s t : Finset S256x14336.Idx} (h : Disjoint s t) : iprop(outGood c Good s ∗ outGood c Good t) ⊢ outGood c Good (s ∪ t) := by
  unfold outGood
  iintro ⟨⟨%f, Hf, %hf⟩, ⟨%g, Hg, %hg⟩⟩
  iexists (t.piecewise g f)
  isplitl [Hf Hg]
  · iapply (pointsTo_join h) $$ [Hf Hg]
    isplitl [Hf]; · iexact Hf
    iexact Hg
  ipureintro
  intro i hi
  by_cases ht : i ∈ t
  · rw [Finset.piecewise_eq_of_mem _ _ _ ht]; exact hg i ht
  · rw [Finset.piecewise_eq_of_notMem _ _ _ ht]
    exact hf i ((Finset.mem_union.mp hi).resolve_right ht)
theorem outGood_done (n : ℕ) : iprop(outGood c Good (doneBlk n) ∗ outGood c Good (oblk n)) ⊢ outGood c Good (doneBlk (n + 1)) := by
  rw [← done_union]; exact outGood_join c Good (done_disj n)

/-- An output slot at rest. -/
def oFree (s : Fin 2) : sProp 𝕄 := iprop(oAny c s.val ∗ semVal ((c : Thread nD τ), .dma (ocell s)) 0)
/-- The block before `n`: nothing before the first, otherwise on its way. -/
def prevO : ℕ → sProp 𝕄
  | 0 => oFree c 1
  | n + 1 => inflO c Good (osl n) n
/-- The columns not yet started. -/
def todo (n : ℕ) : sProp 𝕄 := iprop(∃ g, (outH.view.loc (c : Thread nD τ) ↦[todoBlk n]{fullShare} g))
/-- Block `n` being filled: its rows below `R` are good. -/
def StB (n R : ℕ) : sProp 𝕄 :=
  iprop(obuf c Good (osl n).val n R ∗ semVal ((c : Thread nD τ), .dma (ocell (osl n))) 0 ∗ prevO c Good n ∗ outGood c Good (doneBlk (n - 1)) ∗ todo c n)
/-- Block `n` complete and on its way, the one before it not yet waited for. -/
def StE (n : ℕ) : sProp 𝕄 :=
  iprop(prevO c Good n ∗ inflO c Good (osl n) n ∗ outGood c Good (doneBlk (n - 1)) ∗ todo c (n + 1))
/-- Before the first item of block `n`. -/
def StZ : ℕ → sProp 𝕄
  | 0 => StB c Good 0 0
  | n + 1 => StB c Good n 256
/-- After the start of block `n`'s predecessor's transfer. -/
def StM : ℕ → sProp 𝕄
  | 0 => StB c Good 0 0
  | n + 1 => StE c Good n
/-- Before item `j` of block `n`, whose experts before `j` fill the rows below `R`. -/
def StI (n j R : ℕ) : sProp 𝕄 := if j = 0 then StZ c Good n else StB c Good n R
/-- Between the two transfers. -/
def StJ (n j R : ℕ) : sProp 𝕄 := if j = 0 then StM c Good n else StB c Good n R

/-- Starting block `n`'s transfer. -/
theorem start_block {n : ℕ} (hn : n < 28) {o8 : Fin 1 → ℕ} {o9 : Fin 3 → ℕ} {o10 : Fin 2 → ℕ} {h8 h9 h10} {hsrc hdst hsem}
    (e8 : o8 = ![n % 2]) (e9 : o9 = ![n % 2, 0, 0]) (e10 : o10 = ![0, 512 * n]) {Q : PUnit → sProp 𝕄} :
    StB c Good n 256 ⊢ iprop((StE c Good n -∗ Q ⟨⟩)
      -∗ W (F := F) c (Prog.lift (.enqueueDma (osrc (o := o9) h9) (.here (odst (o := o10) h10))
          (.dma ((cc0_scratch14.slice (Rect.unit (s := S2) o8 S1.size h8)).squeeze S_ squeezes_S1_S_).sem) hsrc hdst hsem)) Q) := by
  unfold StB StE obuf todo
  iintro ⟨⟨%f, Hf, %hf⟩, Hs, Hp, Hd, ⟨%g, Hg⟩⟩ Hk
  ihave Hg2 := (show (outH.view.loc (c : Thread nD τ) ↦[todoBlk n]{fullShare} g)
      ⊢ iprop((outH.view.loc (c : Thread nD τ) ↦[oblk n]{fullShare} g) ∗ (outH.view.loc (c : Thread nD τ) ↦[todoBlk (n + 1)]{fullShare} g)) from by
    rw [← todo_diff]; exact (pointsTo_split_subset (todo_sub n)).1) $$ Hg
  icases Hg2 with ⟨Hb, Hr⟩
  iapply (o_enq (F := F) c (s := osl n) hn e8 e9 e10 hf) $$ [Hf Hb Hs]
  · isplitl [Hf]; · iexact Hf
    isplitl [Hb]; · iexact Hb
    iexact Hs
  iintro HF
  iapply Hk
  isplitl [Hp]; · iexact Hp
  isplitl [HF]; · iexact HF
  isplitl [Hd]; · iexact Hd
  iexists g
  iexact Hr

/-- A slot at rest takes block `n`. -/
theorem open_block (n : ℕ) : iprop(oFree c (osl n) ∗ prevO c Good n ∗ outGood c Good (doneBlk (n - 1)) ∗ todo c n) ⊢ StB c Good n 0 := by
  unfold StB oFree obuf
  iintro ⟨⟨⟨%f, Hf⟩, Hs⟩, Hp, Hd, Ht⟩
  isplitl [Hf]
  · iexists f
    isplitl [Hf]; · iexact Hf
    ipureintro
    intro i _ hi
    exact absurd hi (Nat.not_lt_zero _)
  isplitl [Hs]; · iexact Hs
  isplitl [Hp]; · iexact Hp
  isplitl [Hd]; · iexact Hd
  iexact Ht

/-- Waiting for block `n`, the one after it on its way. -/
theorem wait_block {n : ℕ} {o8 : Fin 1 → ℕ} {o9 : Fin 3 → ℕ} {o10 : Fin 2 → ℕ} {h8 h9 h10} {hsrc hdst}
    (e8 : o8 = ![n % 2]) {Q : PUnit → sProp 𝕄} :
    iprop(StE c Good (n + 1) ∗ (∃ w, owes (c : Thread nD τ) 0 w))
      ⊢ iprop((iprop(StB c Good (n + 2) 0 ∗ (∃ w, owes (c : Thread nD τ) 0 w)) -∗ Q ⟨⟩)
      -∗ W (F := F) c (Prog.lift (.waitDma2 ((cc0_scratch14.slice (Rect.unit (s := S2) o8 S1.size h8)).squeeze S_ squeezes_S1_S_).sem
          (osrc (o := o9) h9) (odst (o := o10) h10) hsrc hdst)) Q) := by
  unfold StE
  iintro ⟨⟨Hp, HF, Hd, Ht⟩, Ho⟩ Hk
  iapply (o_wait (F := F) c (Good := Good) (s := osl n) (n := n) e8) $$ [Hp Ho]
  · isplitl [Hp]
    · iapply (show prevO c Good (n + 1) ⊢ inflO c Good (osl n) n from .rfl) $$ Hp
    iexact Ho
  iintro ⟨Hg, Ha, Hs, Ho⟩
  iapply Hk
  isplitr [Ho]
  · iapply (open_block c Good (n + 2))
    isplitl [Ha Hs]
    · iapply (show iprop(oAny c (osl n).val ∗ semVal ((c : Thread nD τ), .dma (ocell (osl n))) 0) ⊢ oFree c (osl (n + 2)) from by
        rw [show osl (n + 2) = osl n from Fin.ext (by show (n + 2) % 2 = n % 2; omega)]; exact .rfl)
      isplitl [Ha]; · iexact Ha
      iexact Hs
    isplitl [HF]
    · iapply (show inflO c Good (osl (n + 1)) (n + 1) ⊢ prevO c Good (n + 2) from .rfl) $$ HF
    isplitl [Hd Hg]
    · iapply (show iprop(outGood c Good (doneBlk n) ∗ outGood c Good (oblk n)) ⊢ outGood c Good (doneBlk (n + 2 - 1)) from outGood_done c Good n)
      isplitl [Hd]; · iexact Hd
      iexact Hg
    iexact Ht
  · iexact Ho

/-- The second block finds its slot unused. -/
theorem second_block : StE c Good 0 ⊢ StB c Good 1 0 := by
  unfold StE
  iintro ⟨Hp, HF, Hd, Ht⟩
  iapply (open_block c Good 1)
  isplitl [Hp]; · iapply (show prevO c Good 0 ⊢ oFree c (osl 1) from .rfl) $$ Hp
  isplitl [HF]; · iapply (show inflO c Good (osl 0) 0 ⊢ prevO c Good 1 from .rfl) $$ HF
  isplitl [Hd]; · iexact Hd
  iexact Ht

/-- The first of a block's two transfers: the block before it starts on its way. -/
theorem out_start {n j R : ℕ} (hn : n < 28) (hj : j < 6) {i22 : k0_cond1 (wd n) (wd j) = 1#1 → ∀ a, k0_off22 (wd n) a + S1.size a ≤ S2.size a}
    {i23 : k0_cond1 (wd n) (wd j) = 1#1 → ∀ a, k0_off23 (wd n) a + S256x512.size a ≤ S256x14336.size a}
    {i24 : k0_cond1 (wd n) (wd j) = 1#1 → ∀ a, k0_off24 (wd n) a + S1x256x512.size a ≤ S2x256x512.size a}
    {hsrc : ∀ _ : k0_cond1 (wd n) (wd j) = 1#1, _} {hdst : ∀ _ : k0_cond1 (wd n) (wd j) = 1#1, _} {hsem : ∀ _ : k0_cond1 (wd n) (wd j) = 1#1, _} {α : Type} {K : Prog (TpuEff nD τ sig (Elt F) Λ₀ .tc) α} {Q : α → sProp 𝕄} :
    StI c Good n j R ⊢ iprop((StJ c Good n j R -∗ W (F := F) c K Q) -∗ W (F := F) c (if h : k0_cond1 (wd n) (wd j) = 1#1 then (do
      Prog.lift (.enqueueDma (osrc (o := k0_off24 (wd n)) (i24 h)) (.here (odst (o := k0_off23 (wd n)) (i23 h)))
          (.dma ((cc0_scratch14.slice (Rect.unit (s := S2) (k0_off22 (wd n)) S1.size (i22 h))).squeeze S_ squeezes_S1_S_).sem) (hsrc h) (hdst h) (hsem h))
      K : Prog (TpuEff nD τ sig (Elt F) Λ₀ .tc) α) else K) Q) := by
  by_cases h : k0_cond1 (wd n) (wd j) = 1#1
  · rw [dif_pos h]
    obtain ⟨h0, h1⟩ := (cond1_iff hn hj).mp h
    obtain ⟨n', rfl⟩ : ∃ n', n = n' + 1 := ⟨n - 1, by omega⟩
    subst h0
    unfold StI StJ
    rw [if_pos rfl, if_pos rfl]
    simp only [wp_bind]
    iintro H Hk
    iapply (start_block (F := F) c Good (n := n') (by omega) (off22_eq hn h1) (off24_eq hn h1) (off23_eq hn h1)) $$ [H]
    · iapply (show StZ c Good (n' + 1) ⊢ StB c Good n' 256 from .rfl) $$ H
    iintro H
    iapply Hk
    iapply (show StE c Good n' ⊢ StM c Good (n' + 1) from .rfl) $$ H
  · rw [dif_neg h]
    have hh : StI c Good n j R = StJ c Good n j R := by
      unfold StI StJ
      by_cases hj0 : j = 0
      · rw [if_pos hj0, if_pos hj0]
        have : n = 0 := by
          by_contra hn0
          exact h ((cond1_iff hn hj).mpr ⟨hj0, by omega⟩)
        subst this
        rfl
      · rw [if_neg hj0, if_neg hj0]
    rw [hh]
    iintro H Hk
    iapply Hk $$ H

/-- The second: the block before that has arrived, and its slot is free for this one. -/
theorem out_wait {n j R : ℕ} (hn : n < 28) (hj : j < 6) (hR : j = 0 → R = 0) {i25 : k0_cond2 (wd n) (wd j) = 1#1 → ∀ a, k0_off25 (wd n) a + S1.size a ≤ S2.size a}
    {i26 : k0_cond2 (wd n) (wd j) = 1#1 → ∀ a, k0_off26 (wd n) a + S256x512.size a ≤ S256x14336.size a}
    {i27 : k0_cond2 (wd n) (wd j) = 1#1 → ∀ a, k0_off27 (wd n) a + S1x256x512.size a ≤ S2x256x512.size a}
    {hsrc : ∀ _ : k0_cond2 (wd n) (wd j) = 1#1, _} {hdst : ∀ _ : k0_cond2 (wd n) (wd j) = 1#1, _} {α : Type} {K : Prog (TpuEff nD τ sig (Elt F) Λ₀ .tc) α} {Q : α → sProp 𝕄} :
    iprop(StJ c Good n j R ∗ (∃ w, owes (c : Thread nD τ) 0 w)) ⊢ iprop((iprop(StB c Good n R ∗ (∃ w, owes (c : Thread nD τ) 0 w)) -∗ W (F := F) c K Q)
      -∗ W (F := F) c (if h : k0_cond2 (wd n) (wd j) = 1#1 then (do
      Prog.lift (.waitDma2 ((cc0_scratch14.slice (Rect.unit (s := S2) (k0_off25 (wd n)) S1.size (i25 h))).squeeze S_ squeezes_S1_S_).sem
          (osrc (o := k0_off27 (wd n)) (i27 h)) (odst (o := k0_off26 (wd n)) (i26 h)) (hsrc h) (hdst h))
      K : Prog (TpuEff nD τ sig (Elt F) Λ₀ .tc) α) else K) Q) := by
  by_cases h : k0_cond2 (wd n) (wd j) = 1#1
  · rw [dif_pos h]
    obtain ⟨h0, h1⟩ := (cond2_iff hn hj).mp h
    obtain ⟨n', rfl⟩ : ∃ n', n = n' + 2 := ⟨n - 2, by omega⟩
    have := hR h0
    subst h0 this
    unfold StJ
    rw [if_pos rfl]
    simp only [wp_bind]
    iintro ⟨H, Ho⟩ Hk
    iapply (wait_block (F := F) c Good (n := n') (off25_eq hn h1)) $$ [H Ho]
    · isplitl [H]
      · iapply (show StM c Good (n' + 2) ⊢ StE c Good (n' + 1) from .rfl) $$ H
      iexact Ho
    iintro H
    iapply Hk $$ H
  · rw [dif_neg h]
    have hh : StJ c Good n j R ⊢ StB c Good n R := by
      unfold StJ
      by_cases hj0 : j = 0
      · rw [if_pos hj0, hR hj0]
        have : n < 2 := by
          by_contra hn0
          exact h ((cond2_iff hn hj).mpr ⟨hj0, by omega⟩)
        match n, this with
        | 0, _ => exact .rfl
        | 1, _ => exact second_block c Good
      · rw [if_neg hj0]
    iintro ⟨H, Ho⟩ Hk
    iapply Hk
    isplitl [H]; · iapply hh $$ H
    iexact Ho

end Cert.Kernel.Hand
end
-- ==== Proof.K.ItemA.lean ====
module
public import proofs.«01_k».proof.Proof.K.Out
/-!
One item of the ring: its weight block is waited for, the output slot made ready, its tile computed, and the slot's next
block started.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

section Pays
variable (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) (g : ℕ → ℕ)
/-- Every tile's stored values are good. -/
structure Pays : Prop where
  a1 : FirstOK Good fcode fw fxs fws g 32 k0_pay5
  a2 : FirstOK Good fcode fw fxs fws g 64 k0_pay7
  a3 : FirstOK Good fcode fw fxs fws g 96 k0_pay10
  a4 : FirstOK Good fcode fw fxs fws g 128 k0_pay13
  a5 : FirstOK Good fcode fw fxs fws g 160 k0_pay16
  a6 : FirstOK Good fcode fw fxs fws g 192 k0_pay19
  a7 : FirstOK Good fcode fw fxs fws g 224 k0_pay22
  a8 : FirstOK Good fcode fw fxs fws g 256 k0_pay25
  b2 : RestOK Good fcode fw fxs fws g 64 32 k0_pay8
  b3 : RestOK Good fcode fw fxs fws g 96 64 k0_pay11
  b4 : RestOK Good fcode fw fxs fws g 128 96 k0_pay14
  b5 : RestOK Good fcode fw fxs fws g 160 128 k0_pay17
  b6 : RestOK Good fcode fw fxs fws g 192 160 k0_pay20
  b7 : RestOK Good fcode fw fxs fws g 224 192 k0_pay23
  b8 : RestOK Good fcode fw fxs fws g 256 224 k0_pay26
end Pays

/-! ## Where a tile's accesses start -/

theorem tX {S : ℕ} (h : S ≤ 256) : (![(Scalar.indexCast (bw (wd S))).toNat, 0] : Fin 2 → ℕ) = ![S / 32 * 32, 0] := by rw [bwi h]
theorem tW {k : ℕ} (h : k < 16) : (![(Scalar.indexCast (wd k)).toNat, 0, 0] : Fin 3 → ℕ) = ![k, 0, 0] := by rw [idx_wd (by omega)]
theorem tE {e : ℕ} (h : e < 6) : (![(Scalar.indexCast (wd e)).toNat] : Fin 1 → ℕ) = ![e] := by rw [idx_wd (by omega)]
theorem tS {n e : ℕ} (hn : n < 28) (h : e < 6) : (![(Scalar.indexCast (wd e)).toNat, (Scalar.indexCast (Scalar.addi (Scalar.muli (wd n) 512#32) 0#32)).toNat] : Fin 2 → ℕ) = ![e, 512 * n] := by
  rw [idx_wd (by omega), mul0 hn]
theorem tO {n S : ℕ} (hn : n < 28) (h : S ≤ 256) : (![(Scalar.indexCast (Scalar.remsi (wd n) 2#32)).toNat, (Scalar.indexCast (bw (wd S))).toNat, 0] : Fin 3 → ℕ) = ![(osl n).val, S / 32 * 32, 0] := by
  rw [nmod hn, bwi h]; rfl
theorem tO' {n S : ℕ} (hn : n < 28) (h : S ≤ 256) :
    (![(Scalar.indexCast (Scalar.remsi (wd n) 2#32)).toNat, (Scalar.indexCast (Scalar.addi (bw (wd S)) 32#32)).toNat, 0] : Fin 3 → ℕ) = ![(osl n).val, S / 32 * 32 + 32, 0] := by
  rw [nmod hn, bwi32 h]; rfl

variable (c : Dev nD) (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) {g : ℕ → ℕ} {v2 v11 v20 v29 v38 v47 : BitVec 32} {m : ℕ} {E S : ℕ → ℕ} {fa fs : S7.Idx → BitVec 32}

/-- The item at position `j` of block `n`. -/
theorem Tab.item (T : Tab g fa fs m E S) {n j : ℕ} (hn : n < 28) (hj : j < m) : Item g (E j) n (S j) (S (j + 1)) :=
  ⟨T.E_lt j hj, hn, T.lo j hj, T.hi j hj, T.S_lt j hj, T.S_le (j + 1) hj⟩

/-- The first half of an item: wait for its weights and ready the output slot. -/
theorem item_wait (T : Tab g fa fs m E S) (t : Fin (k0_t4_loop v2 v11 v20 v29 v38 v47).trips) {n j pn pj : ℕ} {k : Fin 16}
    (hn : n < 28) (hj : j < m) (hpn : k0_cond11 v2 v11 v20 v29 v38 v47 t = 1#1 → pn < 28) (hpj : pj < m)
    (h19 : k0_chk19 v2 v11 v20 v29 v38 v47 t (wd pj)) (h15 : k0_chk15 v2 v11 v20 v29 v38 v47 t (wd k.val)) (h17 : k0_chk17 (wd n) (wd k.val) (wd (E j)) (wd (S j)) (wd (S (j + 1))))
    {Q : _ → sProp 𝕄} :
    iprop(actPt c fa ∗ startPt c fs ∗ inflW c fw k (E j) n ∗ StI c Good n j (S j) ∗ (∃ w, owes (c : Thread nD τ) 0 w))
      ⊢ iprop((iprop(actPt c fa ∗ startPt c fs ∗ holdW c fw k (E j) n ∗ StB c Good n (S j) ∗ (∃ w, owes (c : Thread nD τ) 0 w))
          -∗ Q ⟨h19, h15, Scf.iv 0#32 1#32 t, wd (E j), wd (S j), wd (S (j + 1)), h17, Scalar.andi (wd (S j)) 4294967264#32, Scalar.shrsi (Scalar.addi (Scalar.subi (wd (S (j + 1))) (Scalar.andi (wd (S j)) 4294967264#32)) 31#32) 5#32, Scalar.remsi (wd n) 2#32,
            Scalar.cmpi .eq (Scalar.shrsi (Scalar.addi (Scalar.subi (wd (S (j + 1))) (Scalar.andi (wd (S j)) 4294967264#32)) 31#32) 5#32) 1#32⟩)
        -∗ W (F := F) c (k0_part2_skel gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 v2 v11 v20 v29 v38 v47 0#32 1#32 t (wd n) (wd j) (wd pn) (wd pj) (wd k.val)) Q) := by
  have h1 := T.one
  have h6 := T.six
  have hE := T.E_lt j hj
  have hS1 := T.S_le (j + 1) hj
  have hS := T.S_lt j hj
  unfold k0_part2_skel
  dsimp only
  simp only [wp_bind]
  iintro ⟨Ha, Hst, HF, HO, Ho⟩ Hk
  iapply (l_assume (F := F) c (chk19_of t (by omega)))
  iapply (l_assume (F := F) c (chk18_of t hpn))
  iapply (l_assume (F := F) c (chk15_of t k.isLt))
  iapply (l_assume (F := F) c (chk14_of hn))
  iapply (l_assume (F := F) c (chk13_of hn (by omega)))
  iapply (l_act (F := F) c (off16_eq (by omega))) $$ Ha
  iintro Ha
  iapply (l_start (F := F) c (off16_eq (by omega))) $$ Hst
  iintro Hst
  iapply (l_start (F := F) c (off17_eq (by omega))) $$ Hst
  iintro Hst
  rw [T.fa j hj, T.fs j (by omega), T.fs (j + 1) (by omega)]
  iapply (l_assume (F := F) c (chk17_of hn k.isLt hE hS hS1))
  iapply (l_act (F := F) c (off18_eq (by omega))) $$ Ha
  iintro Ha
  rw [T.fa j hj]
  iapply (l_assume (F := F) c (chk16_of hn hE))
  iapply (w_wait (F := F) c fw (k := k) (e := E j) (n := n) (off19_eq k.isLt) (off20_eq k.isLt)) $$ [HF Ho]
  · isplitl [HF]; · iexact HF
    iexact Ho
  iintro ⟨HF, Ho⟩
  iapply (out_start (F := F) c Good (n := n) (j := j) (R := S j) hn (by omega)) $$ HO
  iintro HO
  iapply (out_wait (F := F) c Good (n := n) (j := j) (R := S j) hn (by omega) (fun h => h ▸ T.S_zero)) $$ [HO Ho]
  · isplitl [HO]; · iexact HO
    iexact Ho
  iintro ⟨HO, Ho⟩
  iapply (l_pure (F := F) c)
  iapply Hk
  isplitl [Ha]; · iexact Ha
  isplitl [Hst]; · iexact Hst
  isplitl [HF]; · iexact HF
  isplitl [HO]; · iexact HO
  iexact Ho

theorem w_if_pos {cnd : BitVec 1} {α : Type} {A : cnd = 1#1 → Prog (TpuEff nD τ sig (Elt F) Λ₀ .tc) α} {B : ¬ cnd = 1#1 → Prog (TpuEff nD τ sig (Elt F) Λ₀ .tc) α} {Q : α → sProp 𝕄}
    (h : cnd = 1#1) : W (F := F) c (A h) Q ⊢ W (F := F) c (dite (cnd = 1#1) A B) Q := by
  rw [dif_pos h]
theorem w_if_neg {cnd : BitVec 1} {α : Type} {A : cnd = 1#1 → Prog (TpuEff nD τ sig (Elt F) Λ₀ .tc) α} {B : ¬ cnd = 1#1 → Prog (TpuEff nD τ sig (Elt F) Λ₀ .tc) α} {Q : α → sProp 𝕄}
    (h : ¬ cnd = 1#1) : W (F := F) c (B h) Q ⊢ W (F := F) c (dite (cnd = 1#1) A B) Q := by
  rw [dif_neg h]

set_option maxHeartbeats 4000000 in
/-- The second half of an item: its tile, and the start of the slot's next block. -/
theorem item_tile (P : Pays Good fcode fw fxs fws g) (T : Tab g fa fs m E S) (hm : nA v2 v11 v20 v29 v38 v47 = wd m)
    (t : Fin (k0_t4_loop v2 v11 v20 v29 v38 v47).trips) {n j pn pj : ℕ} {k : Fin 16}
    (hn : n < 28) (hj : j < m) (hpn : k0_cond11 v2 v11 v20 v29 v38 v47 t = 1#1 → pn < 28) (hpj : pj < m) (x54 : BitVec 32) (x162 : BitVec 1)
    (h19 : k0_chk19 v2 v11 v20 v29 v38 v47 t (wd pj)) (h15 : k0_chk15 v2 v11 v20 v29 v38 v47 t (wd k.val)) (h17 : k0_chk17 (wd n) (wd k.val) (wd (E j)) (wd (S j)) (wd (S (j + 1))))
    {a21 v140 v141 : BitVec 32} {Q : _ → sProp 𝕄} :
    iprop(actPt c fa ∗ datas c fcode fxs fws ∗ holdW c fw k (E j) n ∗ StB c Good n (S j))
      ⊢ iprop((iprop(actPt c fa ∗ datas c fcode fxs fws ∗ StB c Good n (S (j + 1))
          ∗ (if k0_cond11 v2 v11 v20 v29 v38 v47 t = 1#1 then inflW c fw k (E pj) pn else freeW c fw k))
          -∗ Q ⟨Scalar.cmpi .eq (Scalar.addi (wd j) 1#32) (wd m), Scalar.select (Scalar.cmpi .eq (Scalar.addi (wd j) 1#32) (wd m)) (Scalar.addi (wd n) 1#32) (wd n), 1#32⟩)
        -∗ W (F := F) c (k0_part3_skel gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 v2 v11 v20 v29 v38 v47 (wd m) x54 t (wd n) (wd j) (wd pn) (wd pj) (wd k.val) h19 h15 a21 (wd (E j)) (wd (S j)) (wd (S (j + 1))) h17
            (Scalar.andi (wd (S j)) 4294967264#32) v140 v141 x162) Q) := by
  have h1 := T.one
  have h6 := T.six
  have hE := T.E_lt j hj
  have hS1 := T.S_le (j + 1) hj
  have hS := T.S_lt j hj
  have hS0 : S j ≤ 256 := by omega
  have I := T.item hn hj
  have ht0 : ¬ tiles (S j) (S (j + 1)) < 1 := by unfold tiles; omega
  have ht9 : tiles (S j) (S (j + 1)) < 8 + 1 := by unfold tiles; omega
  iintro ⟨Ha, Hd, HF, HB⟩ Hk
  ihave HB2 := (show StB c Good n (S j) ⊢ iprop(obuf c Good (osl n).val n (if tiles (S j) (S (j + 1)) < 1 then S (j + 1) else S j)
      ∗ semVal ((c : Thread nD τ), .dma (ocell (osl n))) 0 ∗ prevO c Good n ∗ outGood c Good (doneBlk (n - 1)) ∗ todo c n) from by
    rw [if_neg ht0]; exact .rfl) $$ HB
  icases HB2 with ⟨HB, HR⟩
  unfold k0_part3_skel
  iapply (tile_one (F := F) c Good fcode fw fxs fws g (t := 1) (k := k) (s := osl n) (S := S j) (S' := S (j + 1)) (n := n) (e := E j) (R := 32) rfl (by decide) rfl I P.a1 (cnd := k0_cond3 (wd (S j)) (wd (S (j + 1)))) rfl (tX hS0) (tW k.isLt) (tE hE) (tS hn hE) (tO hn hS0)) $$ [Hd HF HB]
  · isplitl [Hd]; · iexact Hd
    isplitl [HF]; · iexact HF
    iexact HB
  iintro ⟨Hd, HF, HB⟩
  iapply (tile_more (F := F) c Good fcode fw fxs fws g (t := 2) (k := k) (s := osl n) (S := S j) (S' := S (j + 1)) (n := n) (e := E j) (R := 64) (R' := 32) rfl rfl (by decide) I P.a2 P.b2 (cnd := k0_cond4 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 3) (k := k) (s := osl n) (S := S j) (S' := S (j + 1)) (n := n) (e := E j) (R := 96) (R' := 64) rfl rfl (by decide) I P.a3 P.b3 (cnd := k0_cond5 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 4) (k := k) (s := osl n) (S := S j) (S' := S (j + 1)) (n := n) (e := E j) (R := 128) (R' := 96) rfl rfl (by decide) I P.a4 P.b4 (cnd := k0_cond6 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 5) (k := k) (s := osl n) (S := S j) (S' := S (j + 1)) (n := n) (e := E j) (R := 160) (R' := 128) rfl rfl (by decide) I P.a5 P.b5 (cnd := k0_cond7 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 6) (k := k) (s := osl n) (S := S j) (S' := S (j + 1)) (n := n) (e := E j) (R := 192) (R' := 160) rfl rfl (by decide) I P.a6 P.b6 (cnd := k0_cond8 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 7) (k := k) (s := osl n) (S := S j) (S' := S (j + 1)) (n := n) (e := E j) (R := 224) (R' := 192) rfl rfl (by decide) I P.a7 P.b7 (cnd := k0_cond9 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 8) (k := k) (s := osl n) (S := S j) (S' := S (j + 1)) (n := n) (e := E j) (R := 256) (R' := 224) rfl rfl (by decide) I P.a8 P.b8 (cnd := k0_cond10 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  ihave HB3 := (show iprop(obuf c Good (osl n).val n (if tiles (S j) (S (j + 1)) < 8 + 1 then S (j + 1) else S j)
      ∗ semVal ((c : Thread nD τ), .dma (ocell (osl n))) 0 ∗ prevO c Good n ∗ outGood c Good (doneBlk (n - 1)) ∗ todo c n) ⊢ StB c Good n (S (j + 1)) from by
    rw [if_pos ht9]; exact .rfl) $$ [HB HR]
  · isplitl [HB]; · iexact HB
    iexact HR
  ihave HF2 := (holdW_free c fw k (E j) n) $$ HF
  by_cases h11 : k0_cond11 v2 v11 v20 v29 v38 v47 t = 1#1
  · rw [if_pos h11]
    have hpE := T.E_lt pj hpj
    iapply (w_if_pos (F := F) c h11)
    dsimp only
    simp only [wp_bind]
    iapply (l_act (F := F) c (off75_eq (by omega))) $$ Ha
    iintro Ha
    rw [T.fa pj hpj]
    iapply (l_assume (F := F) c (chk20_of t (hpn h11) hpE))
    iapply (w_enq (F := F) c fw (k := k) hpE (hpn h11) (off76_eq k.isLt) (off77_eq k.isLt) (off78_eq (hpn h11) hpE)) $$ HF2
    iintro HF
    iapply (l_pure (F := F) c)
    iapply Hk
    isplitl [Ha]; · iexact Ha
    isplitl [Hd]; · iexact Hd
    isplitl [HB3]; · iexact HB3
    iexact HF
  · rw [if_neg h11]
    iapply (w_if_neg (F := F) c h11)
    dsimp only
    iapply (l_pure (F := F) c)
    iapply Hk
    isplitl [Ha]; · iexact Ha
    isplitl [Hd]; · iexact Hd
    isplitl [HB3]; · iexact HB3
    iexact HF2

end Cert.Kernel.Hand
end
-- ==== Proof.K.Items.lean ====
module
public import proofs.«01_k».proof.Proof.K.ItemA
/-!
The ring's main loop: what holds before each item, and that one trip keeps it.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

/-- The ring before item `i` of `28·m`: slot `k` holds the first item from `i` on that falls to it. -/
def ringSt (m i : ℕ) (k : Fin 16) : Option ℕ :=
  if i + (k.val + 16 - i % 16) % 16 < 28 * m then some (i + (k.val + 16 - i % 16) % 16) else none
/-- The slot of item `i`. -/
def rsl (i : ℕ) : Fin 16 := ⟨i % 16, Nat.mod_lt _ (by decide)⟩

theorem ringSt_here {m i : ℕ} (h : i < 28 * m) : ringSt m i (rsl i) = some i := by
  have : (i % 16 + 16 - i % 16) % 16 = 0 := by omega
  show (if i + (i % 16 + 16 - i % 16) % 16 < 28 * m then some (i + (i % 16 + 16 - i % 16) % 16) else none) = some i
  rw [this, Nat.add_zero, if_pos h]
theorem ringSt_next (m i : ℕ) : ringSt m (i + 1) = Function.update (ringSt m i) (rsl i) (if i + 16 < 28 * m then some (i + 16) else none) := by
  funext k
  by_cases hk : k = rsl i
  · subst hk
    rw [Function.update_self]
    have : i + 1 + (i % 16 + 16 - (i + 1) % 16) % 16 = i + 16 := by omega
    show (if i + 1 + (i % 16 + 16 - (i + 1) % 16) % 16 < 28 * m then some (i + 1 + (i % 16 + 16 - (i + 1) % 16) % 16) else none) = _
    rw [this]
  · rw [Function.update_of_ne hk]
    have h1 : k.val ≠ i % 16 := fun h => hk (Fin.ext h)
    have h2 := k.isLt
    have : i + 1 + (k.val + 16 - (i + 1) % 16) % 16 = i + (k.val + 16 - i % 16) % 16 := by omega
    unfold ringSt
    rw [this]
theorem ringSt_zero {m : ℕ} (h : 1 ≤ m) : ringSt m 0 = primed 16 := by
  funext k
  have := k.isLt
  have e : 0 + (k.val + 16 - 0 % 16) % 16 = k.val := by omega
  unfold ringSt primed
  rw [e, if_pos (by omega), if_pos this]
theorem ringSt_end (m : ℕ) : ringSt m (28 * m) = fun _ => none := by
  funext k
  unfold ringSt
  rw [if_neg (by omega)]

variable (c : Dev nD) (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) {g : ℕ → ℕ} {v2 v11 v20 v29 v38 v47 : BitVec 32} {m : ℕ} {E S : ℕ → ℕ} {fa fs : S7.Idx → BitVec 32}

/-- Before item `i`. -/
def itemInv (m : ℕ) (E S : ℕ → ℕ) (fa fs : S7.Idx → BitVec 32) (i : ℕ) (acc : BitVec 32 × BitVec 32 × BitVec 32 × BitVec 32 × BitVec 32) : sProp 𝕄 :=
  iprop(⌜acc = (wd (i / m), wd (i % m), wd ((i + 16) / m), wd ((i + 16) % m), wd (i % 16))⌝ ∗ actPt c fa ∗ startPt c fs ∗ datas c fcode fxs fws
    ∗ AtW (ringΦ c fw E m) (ringSt m i) ∗ StI c Good (i / m) (i % m) (S (i % m)) ∗ (∃ w, owes (c : Thread nD τ) 0 w))

/-- After an item's tile the output side is as before the next item. -/
theorem StI_next (T : Tab g fa fs m E S) (i : ℕ) : StB c Good (i / m) (S (i % m + 1)) ⊢ StI c Good ((i + 1) / m) ((i + 1) % m) (S ((i + 1) % m)) := by
  rw [div_succ T.one, mod_succ T.one]
  unfold StI
  by_cases h : i % m + 1 = m
  · rw [if_pos h, if_pos h, if_pos rfl, h, T.S_last]
    exact .rfl
  · rw [if_neg h, if_neg h, if_neg (Nat.succ_ne_zero _)]

theorem item_step (P : Pays Good fcode fw fxs fws g) (T : Tab g fa fs m E S) (hm : nA v2 v11 v20 v29 v38 v47 = wd m) (hw6 : k0_chk6 v2 v11 v20 v29 v38 v47) (x54 : BitVec 32)
    (t : Fin (k0_t4_loop v2 v11 v20 v29 v38 v47).trips) (acc : BitVec 32 × BitVec 32 × BitVec 32 × BitVec 32 × BitVec 32) :
    itemInv c Good fcode fw fxs fws m E S fa fs t.val acc
      ⊢ W (F := F) c (k0_t4_body gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 v2 v11 v20 v29 v38 v47 hw6 (wd m) x54 0#32 t acc) (itemInv c Good fcode fw fxs fws m E S fa fs (t.val + 1)) := by
  have h1 := T.one
  have h6 := T.six
  have ht : t.val < 28 * m := lt_of_lt_of_eq t.isLt (t4_trips hm h1 h6)
  have hj : t.val % m < m := Nat.mod_lt _ h1
  have hpj : (t.val + 16) % m < m := Nat.mod_lt _ h1
  have hn : t.val / m < 28 := div_lt28 h1 ht
  have hc := cond11_iff hm h1 h6 t
  have hpn : k0_cond11 v2 v11 v20 v29 v38 v47 t = 1#1 → (t.val + 16) / m < 28 := fun h => div_lt28 h1 (hc.mp h)
  have hpn' : (t.val + 16) / m < 100 := by
    have : (t.val + 16) / m ≤ (28 * m + 16) / m := Nat.div_le_div_right (by omega)
    have h2 : (28 * m + 16) / m < 100 := Nat.div_lt_of_lt_mul (by omega)
    omega
  have hE := T.E_lt _ hj
  have h19 := chk19_of (v2 := v2) (v11 := v11) (v20 := v20) (v29 := v29) (v38 := v38) (v47 := v47) t (j := (t.val + 16) % m) (by omega)
  have h15 := chk15_of (v2 := v2) (v11 := v11) (v20 := v20) (v29 := v29) (v38 := v38) (v47 := v47) t (k := (rsl t.val).val) (rsl t.val).isLt
  have h17 := chk17_of (n := t.val / m) (k := (rsl t.val).val) hn (rsl t.val).isLt hE (T.S_lt _ hj) (T.S_le _ hj)
  unfold itemInv
  iintro ⟨%hacc, Ha, Hs, Hd, HR, HO, Ho⟩
  subst hacc
  unfold k0_t4_body
  rw [k0_part2_eq_skeleton, k0_part3_eq_skeleton]
  dsimp only
  simp only [wp_bind]
  ihave HR2 := (ring_take c fw E m _ (rsl t.val) (some t.val) (ringSt_here ht)) $$ HR
  icases HR2 with ⟨H0, HR⟩
  iapply (item_wait (F := F) c Good fw T t (n := t.val / m) (j := t.val % m) (pn := (t.val + 16) / m) (pj := (t.val + 16) % m) (k := rsl t.val) hn hj hpn hpj h19 h15 h17) $$ [Ha Hs H0 HO Ho]
  · isplitl [Ha]; · iexact Ha
    isplitl [Hs]; · iexact Hs
    isplitl [H0]
    · iapply (show ringΦ c fw E m (rsl t.val) (some t.val) ⊢ inflW c fw (rsl t.val) (E (t.val % m)) (t.val / m) from .rfl) $$ H0
    isplitl [HO]; · iexact HO
    iexact Ho
  iintro ⟨Ha, Hs, HF, HB, Ho⟩
  iapply (item_tile (F := F) c Good fcode fw fxs fws P T hm t (n := t.val / m) (j := t.val % m) (pn := (t.val + 16) / m) (pj := (t.val + 16) % m) (k := rsl t.val) hn hj hpn hpj x54 _ h19 h15 h17) $$ [Ha Hd HF HB]
  · isplitl [Ha]; · iexact Ha
    isplitl [Hd]; · iexact Hd
    isplitl [HF]; · iexact HF
    iexact HB
  iintro ⟨Ha, Hd, HB, HF⟩
  iapply (l_pure (F := F) c)
  isplitr
  · ipureintro
    dsimp only
    have ek := adv_k (rsl t.val).isLt
    rw [adv_n hj h6 (by omega), adv_j hj h6, adv_n hpj h6 hpn', adv_j hpj h6, ← div_succ (i := t.val) h1, ← mod_succ (i := t.val) h1,
      ← div_succ (i := t.val + 16) h1, ← mod_succ (i := t.val + 16) h1, show t.val + 16 + 1 = t.val + 1 + 16 from by omega]
    have e16 : ((rsl t.val).val + 1) % 16 = (t.val + 1) % 16 := by show (t.val % 16 + 1) % 16 = (t.val + 1) % 16; omega
    exact congrArg (fun x => (wd ((t.val + 1) / m), wd ((t.val + 1) % m), wd ((t.val + 1 + 16) / m), wd ((t.val + 1 + 16) % m), x)) (ek.trans (congrArg wd e16))
  isplitl [Ha]; · iexact Ha
  isplitl [Hs]; · iexact Hs
  isplitl [Hd]; · iexact Hd
  isplitl [HR HF]
  · iapply (ring_put c fw E m (ringSt m t.val) (ringSt m (t.val + 1)) (rsl t.val) _ (ringSt_next m t.val))
    isplitl [HF]
    · iapply (show (if k0_cond11 v2 v11 v20 v29 v38 v47 t = 1#1 then inflW c fw (rsl t.val) (E ((t.val + 16) % m)) ((t.val + 16) / m) else freeW c fw (rsl t.val))
          ⊢ ringΦ c fw E m (rsl t.val) (if t.val + 16 < 28 * m then some (t.val + 16) else none) from by
        by_cases h : t.val + 16 < 28 * m
        · rw [if_pos (hc.mpr h), if_pos h]; exact .rfl
        · rw [if_neg (fun h' => h (hc.mp h')), if_neg h]; exact .rfl) $$ HF
    · iexact HR
  isplitl [HB]
  · iapply (StI_next (F := F) c Good T t.val) $$ HB
  · iexact Ho

end Cert.Kernel.Hand
end
-- ==== Proof.K.Codes.lean ====
module
public import proofs.«01_k».proof.Proof.K.Items
/-!
# Quantising the activations: the loop over column groups

Each trip reads four groups of 128 columns of the activations and writes their codes.  What a code must
be is a parameter `GoodC`; what is proved here is that after the loop every code is good.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (c : Dev nD)

/-- Column `k`. -/
def colIx (k : ℕ) : Fin 4096 := ⟨k % 4096, Nat.mod_lt _ (by decide)⟩
/-- The index of the activations at row `a`, column `k`. -/
abbrev cix (a : Fin 256) (k : ℕ) : S256x4096.Idx := ix2 a (colIx k)

/-- The rectangle of 128 columns from `b` holds, at `(a, y)`, column `b + y` of row `a`. -/
theorem col_emb {b : ℕ} (hb : b + 128 ≤ 4096) (inb) (i : S256x128.Idx) :
    (Rect.unit (s := S256x4096) ![0, b] S256x128.size inb).emb i = cix (i 0) (b + (i 1).val) := by
  have h1 : (i 1).val < 128 := (i 1).isLt
  funext a
  fin_cases a
  · apply Fin.ext; show 0 + 1 * (i 0).val = (i 0).val; omega
  · apply Fin.ext; show b + 1 * (i 1).val = (b + (i 1).val) % 4096; rw [Nat.mod_eq_of_lt (by omega)]; omega

/-- The codes of the columns below `n` are good. -/
def ColsOK (GoodC : S256x4096.Idx → Elt F .fp8e4m3 → Prop) (n : ℕ) (f : S256x4096.Idx → Elt F .fp8e4m3) : Prop :=
  ∀ i : S256x4096.Idx, (i 1).val < n → GoodC i (f i)

/-- What is asked of the function that makes the codes of 128 columns. -/
def ColOK (GoodC : S256x4096.Idx → Elt F .fp8e4m3 → Prop) (fx : S256x4096.Idx → Elt F .bf16)
    (p : Vec F S256x128 .bf16 → Vec F S256x128 .fp8e4m3) : Prop :=
  ∀ b, b + 128 ≤ 4096 → ∀ x : Vec F S256x128 .bf16, (∀ i, x i = fx (cix (i 0) (b + (i 1).val))) → ∀ i, GoodC (cix (i 0) (b + (i 1).val)) (p x i)

/-- The codes, those of the columns below `n` good. -/
def codes (GoodC : S256x4096.Idx → Elt F .fp8e4m3 → Prop) (n : ℕ) : sProp 𝕄 :=
  iprop(∃ f : S256x4096.Idx → Elt F .fp8e4m3, ((codeM.view.loc (c : Thread nD τ)) ↦[Finset.univ]{fullShare} f) ∗ ⌜ColsOK GoodC n f⌝)

variable (GoodC : S256x4096.Idx → Elt F .fp8e4m3 → Prop) (fx : S256x4096.Idx → Elt F .bf16)

/-- Storing the good codes of 128 columns. -/
theorem cols_write {b : ℕ} (hb : b + 128 ≤ 4096) (inb) {f : S256x4096.Idx → Elt F .fp8e4m3} {w : Vec F S256x128 .fp8e4m3}
    (hf : ColsOK GoodC b f) (hw : ∀ i : S256x128.Idx, GoodC (cix (i 0) (b + (i 1).val)) (w i)) :
    ColsOK GoodC (b + 128) ((codeM.access (Rect.unit (s := S256x4096) ![0, b] S256x128.size inb)).write (Elt F) f w Finset.univ) := by
  intro i hi
  by_cases h : (i 1).val < b
  · have : i ∉ (codeM.access (Rect.unit (s := S256x4096) ![0, b] S256x128.size inb)).setOn Finset.univ := by
      intro hm
      obtain ⟨x, -, e⟩ := Finset.mem_map.mp hm
      have e1 : b + 1 * (x 1).val = (i 1).val := congrArg Fin.val (congrFun e 1)
      omega
    rw [View.write_of_not_mem _ _ _ this]
    exact hf i h
  · let y : Fin 128 := ⟨(i 1).val - b, by omega⟩
    have h1 : (i 1).val < 4096 := (i 1).isLt
    let a : Fin 256 := i 0
    have hi' : i = cix a (b + y.val) := by
      funext d
      fin_cases d
      · rfl
      · apply Fin.ext; show (i 1).val = (b + ((i 1).val - b)) % 4096; rw [Nat.mod_eq_of_lt (by omega)]; omega
    have he : (codeM.access (Rect.unit (s := S256x4096) ![0, b] S256x128.size inb)).emb (ix2 a y) = i := (col_emb hb inb (ix2 a y)).trans hi'.symm
    have hv : (codeM.access (Rect.unit (s := S256x4096) ![0, b] S256x128.size inb)).write (Elt F) f w Finset.univ i = w (ix2 a y) := by
      rw [← he]
      exact View.write_emb_of_mem _ _ (Finset.mem_univ _)
    rw [hv, hi']
    exact hw (ix2 a y)

/-- One group of 128 columns: read, made into codes, stored. -/
theorem col_load {b : ℕ} {o : Fin 2 → ℕ} (ho : o = ![0, b]) {inb} {hl} {Q : Vec F S256x128 .bf16 → sProp 𝕄} (hb : b + 128 ≤ 4096) :
    ((xM.view.loc (c : Thread nD τ)) ↦[Finset.univ]{fullShare} fx)
      ⊢ iprop((∀ x : Vec F S256x128 .bf16, iprop(⌜∀ i : S256x128.Idx, x i = fx (cix (i 0) (b + (i 1).val))⌝ ∗ ((xM.view.loc (c : Thread nD τ)) ↦[Finset.univ]{fullShare} fx)) -∗ Q x)
        -∗ W (F := F) c (Prog.lift (.load xM (Rect.unit (s := S256x4096) o S256x128.size inb).toLoadRect hl)) Q) := by
  subst ho
  iintro H HK
  iapply (l_load (F := F) c (m := xM) (r := Rect.unit (s := S256x4096) ![0, b] S256x128.size inb) (f := fx) (S := Finset.univ) (Finset.subset_univ _)) $$ H
  iintro H
  iapply HK
  isplitr
  · ipureintro
    intro i
    exact congrArg fx (col_emb hb inb i)
  · iexact H
/-- The codes read before they are written: what they are does not matter. -/
theorem code_load {n : ℕ} {o : Fin 2 → ℕ} {inb} {hl} {Q : Vec F S256x128 .fp8e4m3 → sProp 𝕄} :
    codes c GoodC n ⊢ iprop((∀ x : Vec F S256x128 .fp8e4m3, codes c GoodC n -∗ Q x)
        -∗ W (F := F) c (Prog.lift (.load codeM (Rect.unit (s := S256x4096) o S256x128.size inb).toLoadRect hl)) Q) := by
  unfold codes
  iintro ⟨%f, H, %hf⟩ HK
  iapply (l_load (F := F) c (m := codeM) (r := Rect.unit (s := S256x4096) o S256x128.size inb) (f := f) (S := Finset.univ) (Finset.subset_univ _)) $$ H
  iintro H
  iapply HK
  iexists f
  isplitl [H]; · iexact H
  ipureintro; exact hf
/-- The codes of 128 columns stored. -/
theorem code_store {b : ℕ} {o : Fin 2 → ℕ} (ho : o = ![0, b]) {inb} {h1} {h2} {w : Vec F S256x128 .fp8e4m3} {Q : PUnit → sProp 𝕄} (hb : b + 128 ≤ 4096)
    (hw : ∀ i : S256x128.Idx, GoodC (cix (i 0) (b + (i 1).val)) (w i)) :
    codes c GoodC b ⊢ iprop((codes c GoodC (b + 128) -∗ Q ⟨⟩)
        -∗ W (F := F) c (Prog.lift (.store codeM (Rect.unit (s := S256x4096) o S256x128.size inb) w Finset.univ h1 h2)) Q) := by
  subst ho
  unfold codes
  iintro ⟨%f, H, %hf⟩ HK
  iapply (l_store (F := F) c (m := codeM) (r := Rect.unit (s := S256x4096) ![0, b] S256x128.size inb) (f := f) (S := Finset.univ) (Finset.subset_univ _)) $$ H
  iintro H
  iapply HK
  iexists _
  isplitl [H]; · iexact H
  ipureintro; exact cols_write GoodC hb inb hf hw

theorem t3_trips : k0_t3_loop.trips = 8 := by decide +kernel
/-- Where the column group of a trip is. -/
theorem off15_eq (k : Fin k0_t3_loop.trips) (r : ℕ) (hr : r < 4) : k0_off15 k (BitVec.ofNat 32 (128 * r)) = ![0, 512 * k.val + 128 * r] := by
  have hk : k.val < 8 := lt_of_lt_of_eq k.isLt t3_trips
  show ![0, (Scalar.indexCast (Scalar.addi (Scalar.muli (Scf.iv 0#32 1#32 k.val) 512#32) (wd (128 * r)))).toNat] = _
  have e : Scalar.muli (Scf.iv 0#32 1#32 k.val) 512#32 = wd (512 * k.val) := by
    rw [iv_wd, Nat.mul_comm]; exact (BitVec.ofNat_mul _ _).symm
  rw [e, addi_wd, idx_wd (by omega)]

/-- The scale of each row, as the kernel selects it from the sizes and the scales. -/
abbrev scales (fxs : S6.Idx → F .f32) (fgs : S6.Idx → BitVec 32) : FVec F S256x128 .f32 :=
  k0_pay49 (F := F) (fxs (i6 0)) (fgs (i6 0)) (fxs (i6 1)) (fgs (i6 1)) (fxs (i6 2)) (fgs (i6 2)) (fxs (i6 3)) (fgs (i6 3)) (fxs (i6 4)) (fgs (i6 4)) (fxs (i6 5))

/-- What is asked of the four functions that make codes. -/
structure CPays (fxs : S6.Idx → F .f32) (fgs : S6.Idx → BitVec 32) : Prop where
  p0 : ColOK GoodC fx (k0_pay1 (scales fxs fgs))
  p1 : ColOK GoodC fx (k0_pay2 (scales fxs fgs))
  p2 : ColOK GoodC fx (fun x => k0_pay50 (k0_pay3 (scales fxs fgs) x) (Scalar.ofBits .f32 0x43E00000#32) k0_pay4)
  p3 : ColOK GoodC fx (k0_pay51 (fxs (i6 0)) (fgs (i6 0)) (fxs (i6 1)) (fgs (i6 1)) (fxs (i6 2)) (fgs (i6 2)) (fxs (i6 3)) (fgs (i6 3)) (fxs (i6 4)) (fgs (i6 4)) (fxs (i6 5)))

/-- Before trip `t` of the loop over column groups. -/
def codeInv (t : ℕ) (_ : Unit) : sProp 𝕄 :=
  iprop(((xM.view.loc (c : Thread nD τ)) ↦[Finset.univ]{fullShare} fx) ∗ codes c GoodC (512 * t))

set_option maxHeartbeats 2000000 in
theorem code_step {fxs : S6.Idx → F .f32} {fgs : S6.Idx → BitVec 32} (CP : CPays GoodC fx fxs fgs) (k : Fin k0_t3_loop.trips) (acc : Unit) :
    codeInv c GoodC fx k.val acc
      ⊢ W (F := F) c (k0_t3_body gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 (fxs (i6 0)) (fgs (i6 0)) (fxs (i6 1)) (fgs (i6 1)) (fxs (i6 2)) (fgs (i6 2)) (fxs (i6 3)) (fgs (i6 3)) (fxs (i6 4)) (fgs (i6 4)) (fxs (i6 5)) k acc)
          (codeInv c GoodC fx (k.val + 1)) := by
  have hk : k.val < 8 := lt_of_lt_of_eq k.isLt t3_trips
  unfold codeInv
  iintro ⟨Hx, Hc⟩
  unfold k0_t3_body
  rw [k0_part1_eq_skeleton]
  unfold k0_part1_skel
  dsimp only
  simp only [wp_bind]
  iapply (col_load (F := F) c fx (b := 512 * k.val) (off15_eq k 0 (by omega)) (by omega)) $$ Hx
  iintro %x ⟨%hx, Hx⟩
  iapply (code_load (F := F) c GoodC) $$ Hc
  iintro %_ Hc
  iapply (code_store (F := F) c GoodC (b := 512 * k.val) (off15_eq k 0 (by omega)) (by omega) (CP.p0 _ (by omega) _ hx)) $$ Hc
  iintro Hc
  iapply (col_load (F := F) c fx (b := 512 * k.val + 128) (off15_eq k 1 (by omega)) (by omega)) $$ Hx
  iintro %x ⟨%hx, Hx⟩
  iapply (code_load (F := F) c GoodC) $$ Hc
  iintro %_ Hc
  iapply (code_store (F := F) c GoodC (b := 512 * k.val + 128) (off15_eq k 1 (by omega)) (by omega) (CP.p1 _ (by omega) _ hx)) $$ Hc
  iintro Hc
  iapply (col_load (F := F) c fx (b := 512 * k.val + 128 + 128) (off15_eq k 2 (by omega)) (by omega)) $$ Hx
  iintro %x ⟨%hx, Hx⟩
  iapply (l_pure (F := F) c)
  iapply (code_load (F := F) c GoodC) $$ Hc
  iintro %_ Hc
  iapply (code_store (F := F) c GoodC (b := 512 * k.val + 128 + 128) (off15_eq k 2 (by omega)) (by omega) (CP.p2 _ (by omega) _ hx)) $$ Hc
  iintro Hc
  iapply (col_load (F := F) c fx (b := 512 * k.val + 128 + 128 + 128) (off15_eq k 3 (by omega)) (by omega)) $$ Hx
  iintro %x ⟨%hx, Hx⟩
  iapply (code_load (F := F) c GoodC) $$ Hc
  iintro %_ Hc
  iapply (code_store (F := F) c GoodC (b := 512 * k.val + 128 + 128 + 128) (off15_eq k 3 (by omega)) (by omega) (CP.p3 _ (by omega) _ hx)) $$ Hc
  iintro Hc
  iapply (l_pure (F := F) c)
  isplitl [Hx]; · iexact Hx
  iapply (show codes c GoodC (512 * k.val + 128 + 128 + 128 + 128) ⊢ codes c GoodC (512 * (k.val + 1)) from .rfl) $$ Hc

/-- A counted loop, by its invariant. -/
theorem l_for {σ : Type} (L : Scf.Loop 32) (hok : L.OK) (init : σ) (body : Fin L.trips → σ → Prog (TpuEff nD τ sig (Elt F) Λ₀ .tc) σ)
    (I : ℕ → σ → sProp 𝕄) (hbody : ∀ k acc, I k.val acc ⊢ W (F := F) c (body k acc) (I (k.val + 1))) {Q : σ → sProp 𝕄} :
    I 0 init ⊢ iprop((∀ acc, I L.trips acc -∗ Q acc) -∗ W (F := F) c (Scf.Loop.for L hok init body) Q) := by
  iintro H HK
  iapply (Scf.wp_for frame _ _ L.lb L.ub L.st hok init body I hbody)
  isplitl [H]; · iexact H
  iexact HK

end Cert.Kernel.Hand
end
-- ==== Proof.K.Front.lean ====
module
public import proofs.«01_k».proof.Proof.K.Codes
/-!
# The statements before the main loop

The first copies, the two tables of the experts that have rows, the first sixteen weight transfers, and
the codes of the activations.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (c : Dev nD)

/-! ## A whole array copied -/

/-- A whole copy in flight: it will deliver the destination with what the source holds, and the source. -/
def copyFl {sp sp' : Space} {s : Shape} {e : EltTy} (src : Memref sig .tc sp s e) (dst : Memref sig .tc sp' s e) (sem : DmaSem sig)
    (fs : Buf (Elt F) (src.view.loc (c : Thread nD τ))) (fd : Buf (Elt F) (dst.view.loc (c : Thread nD τ))) : sProp 𝕄 :=
  Flight EC (c : Thread nD τ) (.dma sem) () dst.view.dmaCredit
    iprop((dst.view.loc (c : Thread nD τ) ↦[Finset.univ]{fullShare} fd) ∗ (src.view.loc (c : Thread nD τ) ↦[Finset.univ]{fullShare} fs))

theorem copy_start {sp sp' : Space} {s : Shape} {e : EltTy} {src : Memref sig .tc sp s e} {dst : Memref sig .tc sp' s e} {sem : DmaSem sig}
    {hsrc : src.view.WordExact} {hdst : dst.view.WordExact} {hsem : DmaTarget.Typed (p := .tc) (nD := nD) sp (.dma sem) (.here dst)}
    {fs : Buf (Elt F) (src.view.loc (c : Thread nD τ))} (fd : Buf (Elt F) (dst.view.loc (c : Thread nD τ)))
    (hs : src.view.set = Finset.univ) (hw : ∀ f, dst.view.write (Elt F) f (src.view.read (Elt F) fs) Finset.univ = fd) (hn : 0 < s.numel)
    {Q : PUnit → sProp 𝕄} :
    iprop((src.view.loc (c : Thread nD τ) ↦[Finset.univ]{fullShare} fs) ∗ (∃ f, dst.view.loc (c : Thread nD τ) ↦[Finset.univ]{fullShare} f)
        ∗ semVal ((c : Thread nD τ), .dma sem) 0)
      ⊢ iprop((copyFl c src dst sem fs fd -∗ Q ⟨⟩) -∗ W (F := F) c (Prog.lift (.enqueueDma src (.here dst) (.dma sem) hsrc hdst hsem)) Q) := by
  iintro ⟨Hs, ⟨%f, Hd⟩, Hv⟩ HK
  iapply (l_enq (F := F) c (src := src) (dst := dst) (sm := .dma sem) dst.view.dmaCredit rfl (View.dmaCredit_pos _ hn) hs (Finset.subset_univ _)
    (q := fullShare) (fs := fs) (fd := f)
    (D := iprop((dst.view.loc (c : Thread nD τ) ↦[Finset.univ]{fullShare} fd) ∗ (src.view.loc (c : Thread nD τ) ↦[Finset.univ]{fullShare} fs))) ?_) $$ [Hs Hd Hv]
  · rw [hw f]
  · isplitl [Hs]; · iexact Hs
    isplitl [Hd]; · iexact Hd
    iexact Hv
  iintro HF
  iapply HK
  unfold copyFl
  iexact HF

theorem copy_wait {sp sp' : Space} {s : Shape} {e : EltTy} {src : Memref sig .tc sp s e} {dst : Memref sig .tc sp' s e} {sem : DmaSem sig}
    {hsrc : src.view.WordExact} {hdst : dst.view.WordExact}
    {fs : Buf (Elt F) (src.view.loc (c : Thread nD τ))} {fd : Buf (Elt F) (dst.view.loc (c : Thread nD τ))} {Q : PUnit → sProp 𝕄} :
    iprop(copyFl c src dst sem fs fd ∗ (∃ w, owes (c : Thread nD τ) 0 w))
      ⊢ iprop((iprop((dst.view.loc (c : Thread nD τ) ↦[Finset.univ]{fullShare} fd) ∗ (src.view.loc (c : Thread nD τ) ↦[Finset.univ]{fullShare} fs)
            ∗ semVal ((c : Thread nD τ), .dma sem) 0 ∗ (∃ w, owes (c : Thread nD τ) 0 w)) -∗ Q ⟨⟩)
         -∗ W (F := F) c (Prog.lift (.waitDma2 sem src dst hsrc hdst)) Q) := by
  unfold copyFl
  iintro ⟨HF, Ho⟩ HK
  iapply (l_wait (F := F) c (srcw := src) (dstw := dst) (hsrc := hsrc) (hdst := hdst) (N := dst.view.dmaCredit) rfl) $$ [HF Ho]
  · isplitl [HF]; · iexact HF
    iexact Ho
  iintro ⟨⟨Hd, Hs⟩, Hv, Ho⟩
  iapply HK
  isplitl [Hd]; · iexact Hd
  isplitl [Hs]; · iexact Hs
  isplitl [Hv]; · iexact Hv
  iexact Ho

/-! ## The two tables -/

variable (fgs : S6.Idx → BitVec 32)

/-- The size of expert `e`'s group. -/
def gsz (e : ℕ) : ℕ := (fgs (i6 e)).toNat
/-- The kernel's running count of the experts with rows. -/
def cnt : ℕ → BitVec 32
  | 0 => 0#32
  | e + 1 => Scalar.addi (cnt e) (Scalar.extui (Scalar.cmpi .sgt (fgs (i6 e)) 0#32))
/-- The kernel's running count of rows. -/
def rowW : ℕ → BitVec 32
  | 0 => 0#32
  | e + 1 => Scalar.addi (rowW e) (fgs (i6 e))

theorem cnt_eq (hg : ∀ e, e < 6 → gsz fgs e ≤ 256) : ∀ e, e ≤ 6 → cnt fgs e = wd (nAct (gsz fgs) e)
  | 0, _ => rfl
  | e + 1, h => by
      show Scalar.addi (cnt fgs e) _ = _
      rw [cnt_eq hg e (by omega), extui_sgt (hg e (by omega)), addi_wd]
      have : pos (fgs (i6 e)) = if gsz fgs e = 0 then 0 else 1 := by
        unfold pos gsz
        by_cases h0 : fgs (i6 e) = 0#32
        · rw [if_pos h0, if_pos (by rw [h0]; rfl)]
        · have hn : ¬ (fgs (i6 e)).toNat = 0 := fun h1 => h0 (BitVec.eq_of_toNat_eq h1)
          rw [if_neg h0, if_neg hn]
      rw [this]; rfl
theorem rowW_eq : ∀ e, rowW fgs e = wd (nRow (gsz fgs) e)
  | 0 => rfl
  | e + 1 => by
      show Scalar.addi (rowW fgs e) _ = _
      have : fgs (i6 e) = wd (gsz fgs e) := by simp [wd, gsz]
      rw [rowW_eq e, this, addi_wd]; rfl
theorem off_cnt (hg : ∀ e, e < 6 → gsz fgs e ≤ 256) {e : ℕ} (h : e ≤ 6) : ![(Scalar.indexCast (cnt fgs e)).toNat] = ![nAct (gsz fgs) e] := by
  have := nAct_le (gsz fgs) e
  rw [cnt_eq fgs hg e h, idx_wd (by omega)]
theorem off_inb {o : Fin 1 → ℕ} {g : ℕ → ℕ} {e : ℕ} (ho : o = ![nAct g e]) (h : e ≤ 6) : ∀ a, o a + S1.size a ≤ S7.size a := by
  subst ho
  have := nAct_le g e
  exact inb1 (N := 7) (by omega)

/-- The two tables after the first `e` experts. -/
def TabSt (g : ℕ → ℕ) (e : ℕ) : sProp 𝕄 := iprop(∃ fa fs, actPt c fa ∗ startPt c fs ∗ ⌜TabInv g e fa fs⌝)

/-- One expert's entry: where its rows end, and what comes after. -/
theorem tab_row {g : ℕ → ℕ} {e : ℕ} (he : e < 6) {o : Fin 1 → ℕ} (ho : o = ![nAct g (e + 1)]) {v v' : BitVec 32} (hv : v = wd (nRow g (e + 1))) (hv' : v' = wd (e + 1))
    {inb} {h1 h1'} {h2 h2'} {h3 h3'} {h4 h4'} {R : sProp 𝕄} :
    TabSt c g e ⊢ iprop((TabSt c g (e + 1) -∗ R) -∗
      W (F := F) c (smemLoad startM (Rect.unit (s := S7) o S1.size inb) h1 h1') (fun _ =>
        W (F := F) c (Prog.lift (.store startM (Rect.unit (s := S7) o S1.size inb) (fun _ => v) Finset.univ h2 h2')) (fun _ =>
          W (F := F) c (smemLoad actM (Rect.unit (s := S7) o S1.size inb) h3 h3') (fun _ =>
            W (F := F) c (Prog.lift (.store actM (Rect.unit (s := S7) o S1.size inb) (fun _ => v') Finset.univ h4 h4')) (fun _ => R))))) := by
  subst hv hv'
  unfold TabSt
  iintro ⟨%fa, %fs, Ha, Hs, %hT⟩ HK
  iapply (l_start (F := F) c ho) $$ Hs
  iintro Hs
  iapply (s_start (F := F) c ho) $$ Hs
  iintro Hs
  iapply (l_act (F := F) c ho) $$ Ha
  iintro Ha
  iapply (s_act (F := F) c ho) $$ Ha
  iintro Ha
  iapply HK
  iexists _, _
  isplitl [Ha]; · iexact Ha
  isplitl [Hs]; · iexact Hs
  ipureintro
  exact hT.step he (Or.inl rfl)
/-- The last expert's entry: only where its rows end. -/
theorem tab_last {g : ℕ → ℕ} {o : Fin 1 → ℕ} (ho : o = ![nAct g 6]) {v : BitVec 32} (hv : v = wd (nRow g 6))
    {inb} {h1 h1'} {h2 h2'} {R : sProp 𝕄} :
    TabSt c g 5 ⊢ iprop((TabSt c g 6 -∗ R) -∗
      W (F := F) c (smemLoad startM (Rect.unit (s := S7) o S1.size inb) h1 h1') (fun _ =>
        W (F := F) c (Prog.lift (.store startM (Rect.unit (s := S7) o S1.size inb) (fun _ => v) Finset.univ h2 h2')) (fun _ => R))) := by
  subst hv
  unfold TabSt
  iintro ⟨%fa, %fs, Ha, Hs, %hT⟩ HK
  iapply (l_start (F := F) c ho) $$ Hs
  iintro Hs
  iapply (s_start (F := F) c ho) $$ Hs
  iintro Hs
  iapply HK
  iexists _, _
  isplitl [Ha]; · iexact Ha
  isplitl [Hs]; · iexact Hs
  ipureintro
  exact hT.step (e := 5) (by omega) (Or.inr ⟨rfl, rfl⟩)

/-! ## The first part: copies and the first three experts -/

variable (fxs : S6.Idx → F .f32) (fx : S256x4096.Idx → Elt F .bf16) (fws : S6x14336.Idx → F .f32)

/-- The four inputs that are copied whole, as the kernel finds them. -/
def inputs : sProp 𝕄 :=
  iprop(((gsH.view.loc (c : Thread nD τ)) ↦[Finset.univ]{fullShare} fgs) ∗ ((xsH.view.loc (c : Thread nD τ)) ↦[Finset.univ]{fullShare} fxs)
    ∗ ((xH.view.loc (c : Thread nD τ)) ↦[Finset.univ]{fullShare} fx) ∗ ((wsH.view.loc (c : Thread nD τ)) ↦[Finset.univ]{fullShare} fws))
/-- Their places in the kernel's own memory, holding anything. -/
def places : sProp 𝕄 :=
  iprop((∃ f, (gsM.view.loc (c : Thread nD τ)) ↦[Finset.univ]{fullShare} f) ∗ (∃ f, (xsM.view.loc (c : Thread nD τ)) ↦[Finset.univ]{fullShare} f)
    ∗ (∃ f, (xM.view.loc (c : Thread nD τ)) ↦[Finset.univ]{fullShare} f) ∗ (∃ f, (wsM.view.loc (c : Thread nD τ)) ↦[Finset.univ]{fullShare} f))
/-- The four semaphores of those copies at rest. -/
def sems4 : sProp 𝕄 :=
  iprop(semVal ((c : Thread nD τ), .dma cc0_scratch9.sem) 0 ∗ semVal ((c : Thread nD τ), .dma cc0_scratch10.sem) 0
    ∗ semVal ((c : Thread nD τ), .dma cc0_scratch11.sem) 0 ∗ semVal ((c : Thread nD τ), .dma cc0_scratch12.sem) 0)
/-- The group sizes at hand. -/
def haveGs : sProp 𝕄 :=
  iprop(((gsM.view.loc (c : Thread nD τ)) ↦[Finset.univ]{fullShare} fgs) ∗ ((gsH.view.loc (c : Thread nD τ)) ↦[Finset.univ]{fullShare} fgs)
    ∗ semVal ((c : Thread nD τ), .dma cc0_scratch9.sem) 0)
/-- The activation scales at hand. -/
def haveXs : sProp 𝕄 :=
  iprop(((xsM.view.loc (c : Thread nD τ)) ↦[Finset.univ]{fullShare} fxs) ∗ ((xsH.view.loc (c : Thread nD τ)) ↦[Finset.univ]{fullShare} fxs)
    ∗ semVal ((c : Thread nD τ), .dma cc0_scratch10.sem) 0)
/-- The activations at hand. -/
def haveX : sProp 𝕄 :=
  iprop(((xM.view.loc (c : Thread nD τ)) ↦[Finset.univ]{fullShare} fx) ∗ ((xH.view.loc (c : Thread nD τ)) ↦[Finset.univ]{fullShare} fx)
    ∗ semVal ((c : Thread nD τ), .dma cc0_scratch11.sem) 0)
/-- The weight scales at hand. -/
def haveWs : sProp 𝕄 :=
  iprop(((wsM.view.loc (c : Thread nD τ)) ↦[Finset.univ]{fullShare} fws) ∗ ((wsH.view.loc (c : Thread nD τ)) ↦[Finset.univ]{fullShare} fws)
    ∗ semVal ((c : Thread nD τ), .dma cc0_scratch12.sem) 0)
/-- The activation scales on their way. -/
abbrev xsFl : sProp 𝕄 := copyFl c xsH xsM cc0_scratch10.sem fxs fxs
/-- The activations on their way. -/
abbrev xFl : sProp 𝕄 := copyFl c xH xM cc0_scratch11.sem fx fx
/-- The weight scales on their way. -/
abbrev wsFl : sProp 𝕄 := copyFl c wsH wsM cc0_scratch12.sem fws fws

set_option maxHeartbeats 4000000 in
theorem part6 (hg : ∀ e, e < 6 → gsz fgs e ≤ 256) {Q : _ → sProp 𝕄} :
    iprop(inputs c fgs fxs fx fws ∗ places c ∗ sems4 c ∗ (∃ f, actPt c f) ∗ (∃ f, startPt c f) ∗ (∃ w, owes (c : Thread nD τ) 0 w))
      ⊢ iprop((iprop(haveGs c fgs ∗ xsFl c fxs ∗ xFl c fx ∗ wsFl c fws ∗ TabSt c (gsz fgs) 3 ∗ (∃ w, owes (c : Thread nD τ) 0 w))
            -∗ Q ⟨fgs (i6 0), fgs (i6 1), fgs (i6 2), cnt fgs 3, rowW fgs 3⟩)
         -∗ W (F := F) c (k0_part6 gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14) Q) := by
  have o1 : k0_off1 (fgs (i6 0)) = ![nAct (gsz fgs) 1] := off_cnt fgs hg (e := 1) (by omega)
  have o2 : k0_off2 (fgs (i6 0)) (fgs (i6 1)) = ![nAct (gsz fgs) 2] := off_cnt fgs hg (e := 2) (by omega)
  have o3 : k0_off3 (fgs (i6 0)) (fgs (i6 1)) (fgs (i6 2)) = ![nAct (gsz fgs) 3] := off_cnt fgs hg (e := 3) (by omega)
  unfold inputs places sems4
  simp only [cnt, rowW]
  iintro ⟨⟨Hgs, Hxs, Hx, Hws⟩, ⟨Pgs, Pxs, Px, Pws⟩, ⟨S9, S10, S11, S12⟩, ⟨%fa, Ha⟩, ⟨%fs, Hs⟩, Ho⟩ HK
  rw [k0_part6_eq_skeleton]
  unfold k0_part6_skel
  dsimp only
  simp only [wp_bind]
  iapply (copy_start (F := F) c (src := gsH) (dst := gsM) (fs := fgs) fgs (View.set_whole _) (fun f => View.write_whole_univ _ _ _) (by decide)) $$ [Hgs Pgs S9]
  · isplitl [Hgs]; · iexact Hgs
    isplitl [Pgs]; · iexact Pgs
    iexact S9
  iintro Fgs
  iapply (copy_start (F := F) c (src := xsH) (dst := xsM) (fs := fxs) fxs (View.set_whole _) (fun f => View.write_whole_univ _ _ _) (by decide)) $$ [Hxs Pxs S10]
  · isplitl [Hxs]; · iexact Hxs
    isplitl [Pxs]; · iexact Pxs
    iexact S10
  iintro Fxs
  iapply (copy_start (F := F) c (src := xH) (dst := xM) (fs := fx) fx (View.set_whole _) (fun f => View.write_whole_univ _ _ _) (by decide)) $$ [Hx Px S11]
  · isplitl [Hx]; · iexact Hx
    isplitl [Px]; · iexact Px
    iexact S11
  iintro Fx
  iapply (copy_start (F := F) c (src := wsH) (dst := wsM) (fs := fws) fws (View.set_whole _) (fun f => View.write_whole_univ _ _ _) (by decide)) $$ [Hws Pws S12]
  · isplitl [Hws]; · iexact Hws
    isplitl [Pws]; · iexact Pws
    iexact S12
  iintro Fws
  iapply (copy_wait (F := F) c (src := gsH) (dst := gsM) (fs := fgs) (fd := fgs)) $$ [Fgs Ho]
  · isplitl [Fgs]; · iexact Fgs
    iexact Ho
  iintro ⟨Pgs, Hgs, S9, Ho⟩
  iapply (l_start (F := F) c (j := 0) rfl) $$ Hs
  iintro Hs
  iapply (s_start (F := F) c (j := 0) rfl) $$ Hs
  iintro Hs
  iapply (l_act (F := F) c (j := 0) rfl) $$ Ha
  iintro Ha
  iapply (s_act (F := F) c (j := 0) rfl) $$ Ha
  iintro Ha
  ihave HT := (show iprop(actPt c (set7 fa 0 0#32) ∗ startPt c (set7 fs 0 0#32)) ⊢ TabSt c (gsz fgs) 0 from by
    unfold TabSt
    iintro ⟨Ha, Hs⟩
    iexists _, _
    isplitl [Ha]; · iexact Ha
    isplitl [Hs]; · iexact Hs
    ipureintro
    exact TabInv.init (gsz fgs) fa fs) $$ [Ha Hs]
  · isplitl [Ha]; · iexact Ha
    iexact Hs
  iapply (l_gs (F := F) c (j := 0) rfl) $$ Pgs
  iintro Pgs
  iapply (l_assume (F := F) c (show k0_chk1 (fgs (i6 0)) from off_inb o1 (by omega)))
  iapply (tab_row (F := F) c (g := gsz fgs) (e := 0) (by omega) o1 (rowW_eq fgs 1) rfl) $$ HT
  iintro HT
  iapply (l_gs (F := F) c (j := 1) rfl) $$ Pgs
  iintro Pgs
  iapply (l_assume (F := F) c (show k0_chk2 (fgs (i6 0)) (fgs (i6 1)) from off_inb o2 (by omega)))
  iapply (tab_row (F := F) c (g := gsz fgs) (e := 1) (by omega) o2 (rowW_eq fgs 2) rfl) $$ HT
  iintro HT
  iapply (l_gs (F := F) c (j := 2) rfl) $$ Pgs
  iintro Pgs
  iapply (l_assume (F := F) c (show k0_chk3 (fgs (i6 0)) (fgs (i6 1)) (fgs (i6 2)) from off_inb o3 (by omega)))
  iapply (tab_row (F := F) c (g := gsz fgs) (e := 2) (by omega) o3 (rowW_eq fgs 3) rfl) $$ HT
  iintro HT
  iapply (l_pure (F := F) c)
  iapply HK
  unfold haveGs
  isplitl [Pgs Hgs S9]
  · isplitl [Pgs]; · iexact Pgs
    isplitl [Hgs]; · iexact Hgs
    iexact S9
  isplitl [Fxs]; · iexact Fxs
  isplitl [Fx]; · iexact Fx
  isplitl [Fws]; · iexact Fws
  isplitl [HT]; · iexact HT
  iexact Ho

/-! ## The second part: the other three experts, the first transfers, and the scales and activations arrived -/

set_option maxHeartbeats 4000000 in
theorem part7 (fw : S6x4096x14336.Idx → Elt F .fp8e4m3) (hg : ∀ e, e < 6 → gsz fgs e ≤ 256) (hsum : nRow (gsz fgs) 6 = 256) (hw6 : k0_chk6 (fgs (i6 0)) (fgs (i6 1)) (fgs (i6 2)) (fgs (i6 3)) (fgs (i6 4)) (fgs (i6 5)))
    {Q : _ → sProp 𝕄} :
    iprop(haveGs c fgs ∗ xsFl c fxs ∗ xFl c fx ∗ TabSt c (gsz fgs) 3 ∗ (∀ E m, AtW (ringΦ c fw E m) (primed 0)) ∗ (∃ w, owes (c : Thread nD τ) 0 w))
      ⊢ iprop((∀ fa fs E S, ⌜Tab (gsz fgs) fa fs (nAct (gsz fgs) 6) E S⌝ -∗
              iprop(haveGs c fgs ∗ haveXs c fxs ∗ haveX c fx ∗ actPt c fa ∗ startPt c fs ∗ AtW (ringΦ c fw E (nAct (gsz fgs) 6)) (primed 16) ∗ (∃ w, owes (c : Thread nD τ) 0 w))
            -∗ Q ⟨fgs (i6 3), fgs (i6 4), fgs (i6 5), hw6, wd (nAct (gsz fgs) 6), Scalar.muli (wd (nAct (gsz fgs) 6)) 28#32, wd (16 / nAct (gsz fgs) 6), wd (16 % nAct (gsz fgs) 6)⟩)
         -∗ W (F := F) c (k0_part7 gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 (fgs (i6 0)) (fgs (i6 1)) (fgs (i6 2)) (cnt fgs 3) (rowW fgs 3)) Q) := by
  have o4 : k0_off4 (fgs (i6 0)) (fgs (i6 1)) (fgs (i6 2)) (fgs (i6 3)) = ![nAct (gsz fgs) 4] := off_cnt fgs hg (e := 4) (by omega)
  have o5 : k0_off5 (fgs (i6 0)) (fgs (i6 1)) (fgs (i6 2)) (fgs (i6 3)) (fgs (i6 4)) = ![nAct (gsz fgs) 5] := off_cnt fgs hg (e := 5) (by omega)
  have o6 : k0_off6 (fgs (i6 0)) (fgs (i6 1)) (fgs (i6 2)) (fgs (i6 3)) (fgs (i6 4)) (fgs (i6 5)) = ![nAct (gsz fgs) 6] := off_cnt fgs hg (e := 6) (by omega)
  have hm : nA (fgs (i6 0)) (fgs (i6 1)) (fgs (i6 2)) (fgs (i6 3)) (fgs (i6 4)) (fgs (i6 5)) = wd (nAct (gsz fgs) 6) := cnt_eq fgs hg 6 le_rfl
  have hm' : Scalar.addi (Scalar.addi (Scalar.addi (cnt fgs 3) (Scalar.extui (Scalar.cmpi .sgt (fgs (i6 3)) 0#32))) (Scalar.extui (Scalar.cmpi .sgt (fgs (i6 4)) 0#32)))
      (Scalar.extui (Scalar.cmpi .sgt (fgs (i6 5)) 0#32)) = wd (nAct (gsz fgs) 6) := cnt_eq fgs hg 6 le_rfl
  unfold haveGs
  iintro ⟨⟨Pgs, Hgs, S9⟩, Fxs, Fx, HT, HR, Ho⟩ HK
  rw [k0_part7_eq_skeleton]
  unfold k0_part7_skel
  dsimp only
  simp only [wp_bind]
  iapply (l_gs (F := F) c (j := 3) rfl) $$ Pgs
  iintro Pgs
  iapply (l_assume (F := F) c (show k0_chk4 (fgs (i6 0)) (fgs (i6 1)) (fgs (i6 2)) (fgs (i6 3)) from off_inb o4 (by omega)))
  iapply (tab_row (F := F) c (g := gsz fgs) (e := 3) (by omega) o4 (rowW_eq fgs 4) rfl) $$ HT
  iintro HT
  iapply (l_gs (F := F) c (j := 4) rfl) $$ Pgs
  iintro Pgs
  iapply (l_assume (F := F) c (show k0_chk5 (fgs (i6 0)) (fgs (i6 1)) (fgs (i6 2)) (fgs (i6 3)) (fgs (i6 4)) from off_inb o5 (by omega)))
  iapply (tab_row (F := F) c (g := gsz fgs) (e := 4) (by omega) o5 (rowW_eq fgs 5) rfl) $$ HT
  iintro HT
  iapply (l_gs (F := F) c (j := 5) rfl) $$ Pgs
  iintro Pgs
  iapply (l_assume (F := F) c hw6)
  iapply (tab_last (F := F) c (g := gsz fgs) o6 (rowW_eq fgs 6)) $$ HT
  iintro HT
  ihave HT2 := (show TabSt c (gsz fgs) 6 ⊢ iprop(∃ fa fs, actPt c fa ∗ startPt c fs ∗ ⌜TabInv (gsz fgs) 6 fa fs⌝) from .rfl) $$ HT
  icases HT2 with ⟨%fa, %fs, Ha, Hs, %hT⟩
  have T := hT.final hsum
  have h1 := T.one
  have h6 := T.six
  rw [hm']
  ihave HR0 := HR $$ %(fun j => (fa (i7 j)).toNat) %(nAct (gsz fgs) 6)
  iapply (l_for (F := F) c _ _ _ _ (primeInv c fw (fun j => (fa (i7 j)).toNat) (nAct (gsz fgs) 6) fa) (prime_step (F := F) c fw _ T hm _ _ hw6)) $$ [Ha HR0]
  · unfold primeInv
    isplitr
    · ipureintro
      rw [Nat.zero_div, Nat.zero_mod]
    isplitl [Ha]; · iexact Ha
    iexact HR0
  iintro %acc HI
  rw [t1_trips hm h1 h6]
  iapply (l_for (F := F) c _ _ _ _ (fun _ acc => primeInv c fw (fun j => (fa (i7 j)).toNat) (nAct (gsz fgs) 6) fa 16 acc)
    (fun k _ => absurd (lt_of_lt_of_eq k.isLt (t2_trips hm h1 h6)) (Nat.not_lt_zero _))) $$ [HI]
  · iexact HI
  iintro %acc2 HI
  unfold primeInv
  icases HI with ⟨%hacc, Ha, HR⟩
  subst hacc
  iapply (copy_wait (F := F) c (src := xsH) (dst := xsM) (fs := fxs) (fd := fxs)) $$ [Fxs Ho]
  · isplitl [Fxs]; · iexact Fxs
    iexact Ho
  iintro ⟨Pxs, Hxs, S10, Ho⟩
  iapply (copy_wait (F := F) c (src := xH) (dst := xM) (fs := fx) (fd := fx)) $$ [Fx Ho]
  · isplitl [Fx]; · iexact Fx
    iexact Ho
  iintro ⟨Px, Hx, S11, Ho⟩
  iapply (l_pure (F := F) c)
  iapply HK $$ %fa %fs %(fun j => (fa (i7 j)).toNat) %(fun j => (fs (i7 j)).toNat) %T
  unfold haveXs haveX
  isplitl [Pgs Hgs S9]
  · isplitl [Pgs]; · iexact Pgs
    isplitl [Hgs]; · iexact Hgs
    iexact S9
  isplitl [Pxs Hxs S10]
  · isplitl [Pxs]; · iexact Pxs
    isplitl [Hxs]; · iexact Hxs
    iexact S10
  isplitl [Px Hx S11]
  · isplitl [Px]; · iexact Px
    isplitl [Hx]; · iexact Hx
    iexact S11
  isplitl [Ha]; · iexact Ha
  isplitl [Hs]; · iexact Hs
  isplitl [HR]; · iexact HR
  iexact Ho

/-! ## The third part: the codes -/

set_option maxHeartbeats 4000000 in
theorem part8 {GoodC : S256x4096.Idx → Elt F .fp8e4m3 → Prop} (CP : CPays GoodC fx fxs fgs) {Q : _ → sProp 𝕄} :
    iprop(haveGs c fgs ∗ haveXs c fxs ∗ haveX c fx ∗ wsFl c fws ∗ (∃ f, (codeM.view.loc (c : Thread nD τ)) ↦[Finset.univ]{fullShare} f) ∗ (∃ w, owes (c : Thread nD τ) 0 w))
      ⊢ iprop((iprop(haveGs c fgs ∗ haveXs c fxs ∗ haveX c fx ∗ haveWs c fws ∗ codes c GoodC 4096 ∗ (∃ w, owes (c : Thread nD τ) 0 w)) -∗ Q ⟨0#32, 0#32, 0#32⟩)
         -∗ W (F := F) c (k0_part8 gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14) Q) := by
  unfold haveGs haveXs haveX
  iintro ⟨⟨Pgs, Hgs, S9⟩, ⟨Pxs, Hxs, S10⟩, ⟨Px, Hx, S11⟩, Fws, ⟨%fc, Hc⟩, Ho⟩ HK
  rw [k0_part8_eq_skeleton]
  unfold k0_part8_skel
  dsimp only
  simp only [wp_bind]
  iapply (l_xs (F := F) c (j := 0) rfl) $$ Pxs
  iintro Pxs
  iapply (l_gs (F := F) c (j := 0) rfl) $$ Pgs
  iintro Pgs
  iapply (l_xs (F := F) c (j := 1) rfl) $$ Pxs
  iintro Pxs
  iapply (l_gs (F := F) c (j := 1) rfl) $$ Pgs
  iintro Pgs
  iapply (l_xs (F := F) c (j := 2) rfl) $$ Pxs
  iintro Pxs
  iapply (l_gs (F := F) c (j := 2) rfl) $$ Pgs
  iintro Pgs
  iapply (l_xs (F := F) c (j := 3) rfl) $$ Pxs
  iintro Pxs
  iapply (l_gs (F := F) c (j := 3) rfl) $$ Pgs
  iintro Pgs
  iapply (l_xs (F := F) c (j := 4) rfl) $$ Pxs
  iintro Pxs
  iapply (l_gs (F := F) c (j := 4) rfl) $$ Pgs
  iintro Pgs
  iapply (l_xs (F := F) c (j := 5) rfl) $$ Pxs
  iintro Pxs
  iapply (l_for (F := F) c _ _ _ _ (codeInv c GoodC fx) (code_step (F := F) c GoodC fx CP)) $$ [Px Hc]
  · unfold codeInv codes
    isplitl [Px]; · iexact Px
    iexists fc
    isplitl [Hc]; · iexact Hc
    ipureintro
    intro i hi
    exact absurd hi (Nat.not_lt_zero _)
  iintro %acc HI
  rw [t3_trips]
  unfold codeInv
  icases HI with ⟨Px, Hc⟩
  iapply (copy_wait (F := F) c (src := wsH) (dst := wsM) (fs := fws) (fd := fws)) $$ [Fws Ho]
  · isplitl [Fws]; · iexact Fws
    iexact Ho
  iintro ⟨Pws, Hws, S12, Ho⟩
  iapply (l_pure (F := F) c)
  iapply HK
  unfold haveWs
  isplitl [Pgs Hgs S9]
  · isplitl [Pgs]; · iexact Pgs
    isplitl [Hgs]; · iexact Hgs
    iexact S9
  isplitl [Pxs Hxs S10]
  · isplitl [Pxs]; · iexact Pxs
    isplitl [Hxs]; · iexact Hxs
    iexact S10
  isplitl [Px Hx S11]
  · isplitl [Px]; · iexact Px
    isplitl [Hx]; · iexact Hx
    iexact S11
  isplitl [Pws Hws S12]
  · isplitl [Pws]; · iexact Pws
    isplitl [Hws]; · iexact Hws
    iexact S12
  isplitl [Hc]; · iapply (show codes c GoodC (512 * 8) ⊢ codes c GoodC 4096 from .rfl) $$ Hc
  iexact Ho

end Cert.Kernel.Hand
end
-- ==== Proof.K.Body.lean ====
module
public import proofs.«01_k».proof.Proof.K.Front
/-!
# The whole body

From the arrays as the call finds them and every own semaphore at zero, to the same arrays unchanged, the
result good everywhere, and every own semaphore at zero again.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (c : Dev nD) (fgs : S6.Idx → BitVec 32) (fxs : S6.Idx → F .f32) (fx : S256x4096.Idx → Elt F .bf16) (fws : S6x14336.Idx → F .f32)
  (fw : S6x4096x14336.Idx → Elt F .fp8e4m3)

/-! ## The weight ring taken apart and put together -/

/-- The sixteen semaphores of the ring at rest. -/
def sems16 : sProp 𝕄 := bigSep Finset.univ fun k : Fin 16 => semVal ((c : Thread nD τ), .dma (wcell k)) 0
/-- The ring with every slot free. -/
def ring0 : sProp 𝕄 := bigSep Finset.univ fun k : Fin 16 => freeW c fw k
/-- What is left of the weights when sixteen shares are dealt. -/
def wLeft : sProp 𝕄 := (wH.view.loc (c : Thread nD τ)) ↦[Finset.univ]{shareDrop fullShare 16} fw

theorem wslot_disj : ∀ t ∈ (Finset.univ : Finset (Fin 16)), ∀ t' ∈ (Finset.univ : Finset (Fin 16)), t ≠ t' → Disjoint (wslot t.val) (wslot t'.val) := by
  intro t _ t' _ h
  rw [Finset.disjoint_left]
  intro i hi hi'
  have h1 := (Finset.mem_filter.mp hi).2
  have h2 := (Finset.mem_filter.mp hi').2
  exact h (Fin.ext (h1.symm.trans h2))
theorem wslot_all : (Finset.univ : Finset (Fin 16)).biUnion (fun k => wslot k.val) = Finset.univ := by
  ext i
  simp only [Finset.mem_biUnion, Finset.mem_univ, _root_.true_and, iff_true]
  exact ⟨i 0, Finset.mem_filter.mpr ⟨Finset.mem_univ _, rfl⟩⟩

theorem ring_slot (k : Fin 16) (f : Buf (Elt F) (wM.view.loc (c : Thread nD τ))) : ((wM.view.loc (c : Thread nD τ)) ↦[wslot k.val]{fullShare} f)
    ⊢ (iprop(∃ f, (wM.view.loc (c : Thread nD τ)) ↦[wslot k.val]{fullShare} f) : sProp 𝕄) := by
  iintro H
  iexists f
  iexact H
theorem ring_open : iprop((∃ f, (wM.view.loc (c : Thread nD τ)) ↦[Finset.univ]{fullShare} f) ∗ sems16 c ∗ ((wH.view.loc (c : Thread nD τ)) ↦[Finset.univ]{fullShare} fw))
    ⊢ iprop(ring0 c fw ∗ wLeft c fw) := by
  iintro ⟨⟨%f, Hm⟩, Hs, Hw⟩
  ihave Hw2 := (pointsTo_toks_split (ℓ := wH.view.loc (c : Thread nD τ)) (f := fw) (S := Finset.univ) fullShare 16) $$ Hw
  icases Hw2 with ⟨Hl, Ht⟩
  ihave Hm2 := (show ((wM.view.loc (c : Thread nD τ)) ↦[Finset.univ]{fullShare} f)
      ⊢ bigSep Finset.univ fun k : Fin 16 => iprop(∃ f, (wM.view.loc (c : Thread nD τ)) ↦[wslot k.val]{fullShare} f) from by
    rw [← wslot_all, pointsTo_biUnion _ _ wslot_disj]
    exact BI.bigSep_mono fun k _ => ring_slot c k f) $$ Hm
  isplitl [Hm2 Hs Ht]
  · unfold ring0 freeW sems16
    rw [BI.bigSep_sep', BI.bigSep_sep']
    isplitl [Hs]; · iexact Hs
    isplitl [Hm2]; · iexact Hm2
    iexact Ht
  · unfold wLeft; iexact Hl
theorem ring_close : iprop(ring0 c fw ∗ wLeft c fw)
    ⊢ iprop((∃ f, (wM.view.loc (c : Thread nD τ)) ↦[Finset.univ]{fullShare} f) ∗ sems16 c ∗ ((wH.view.loc (c : Thread nD τ)) ↦[Finset.univ]{fullShare} fw)) := by
  unfold ring0 freeW sems16 wLeft
  rw [BI.bigSep_sep', BI.bigSep_sep']
  iintro ⟨⟨Hs, Hm, Ht⟩, Hl⟩
  isplitl [Hm]
  · ihave Hm2 := (BI.bigSep_exists_pi (Y := fun _ : Fin 16 => Buf (Elt F) (wM.view.loc (c : Thread nD τ))) Finset.univ
      (fun k f => ((wM.view.loc (c : Thread nD τ)) ↦[wslot k.val]{fullShare} f : sProp 𝕄))) $$ Hm
    icases Hm2 with ⟨%fs, Hm⟩
    ihave Hm3 := (pointsTo_biUnion_join (q := fullShare) Finset.univ (fun k : Fin 16 => wslot k.val) fs (fs 0) wslot_disj) $$ Hm
    icases Hm3 with ⟨%g, -, Hm⟩
    iexists g
    iapply (show ((wM.view.loc (c : Thread nD τ)) ↦[(Finset.univ : Finset (Fin 16)).biUnion fun k => wslot k.val]{fullShare} g)
      ⊢ ((wM.view.loc (c : Thread nD τ)) ↦[Finset.univ]{fullShare} g) from by rw [wslot_all]) $$ Hm
  isplitl [Hs]; · iexact Hs
  iapply (pointsTo_toks_join (ℓ := wH.view.loc (c : Thread nD τ)) (f := fw) (S := Finset.univ) fullShare 16)
  isplitl [Hl]; · iexact Hl
  iexact Ht
theorem ring_start : ring0 c fw ⊢ (iprop(∀ E m, AtW (ringΦ c fw E m) (primed 0)) : sProp 𝕄) := by
  iintro H %E %m
  iapply (show ring0 c fw ⊢ AtW (ringΦ c fw E m) (primed 0) from .rfl) $$ H
theorem ring_stop (E : ℕ → ℕ) (m : ℕ) : AtW (ringΦ c fw E m) (ringSt m (28 * m)) ⊢ ring0 c fw := by
  rw [ringSt_end]; exact .rfl

/-! ## The output buffer and the result taken apart and put together -/

theorem oslot_disj : Disjoint (oslot 0) (oslot 1) := by
  rw [Finset.disjoint_left]
  intro i hi hi'
  have h1 := (Finset.mem_filter.mp hi).2
  have h2 := (Finset.mem_filter.mp hi').2
  omega
theorem oslot_all : oslot 0 ∪ oslot 1 = Finset.univ := by
  ext i
  have h := (i 0).isLt
  have h' : (i 0).val < 2 := h
  simp only [Finset.mem_union, oslot, Finset.mem_filter, Finset.mem_univ, _root_.true_and, iff_true]
  omega
theorem out_open (Good : S256x14336.Idx → Elt F .bf16 → Prop) :
    iprop((∃ f, (oM.view.loc (c : Thread nD τ)) ↦[Finset.univ]{fullShare} f) ∗ semVal ((c : Thread nD τ), .dma (ocell 0)) 0 ∗ semVal ((c : Thread nD τ), .dma (ocell 1)) 0
        ∗ (∃ f, (outH.view.loc (c : Thread nD τ)) ↦[Finset.univ]{fullShare} f)) ⊢ StB c Good 0 0 := by
  iintro ⟨⟨%f, Ho⟩, S0, S1, ⟨%g, Hg⟩⟩
  ihave Ho2 := (show ((oM.view.loc (c : Thread nD τ)) ↦[Finset.univ]{fullShare} f)
      ⊢ iprop(((oM.view.loc (c : Thread nD τ)) ↦[oslot 0]{fullShare} f) ∗ ((oM.view.loc (c : Thread nD τ)) ↦[oslot 1]{fullShare} f)) from by
    rw [← oslot_all]; exact (pointsTo_union oslot_disj).1) $$ Ho
  icases Ho2 with ⟨O0, O1⟩
  iapply (open_block c Good 0)
  unfold oFree
  isplitl [O0 S0]
  · isplitl [O0]
    · iexists f; iexact O0
    · iexact S0
  isplitl [O1 S1]
  · iapply (show iprop(oAny c 1 ∗ semVal ((c : Thread nD τ), .dma (ocell 1)) 0) ⊢ prevO c Good 0 from .rfl)
    isplitl [O1]
    · iexists f; iexact O1
    · iexact S1
  ihave Hg2 := (show ((outH.view.loc (c : Thread nD τ)) ↦[Finset.univ]{fullShare} g)
      ⊢ iprop(((outH.view.loc (c : Thread nD τ)) ↦[doneBlk 0]{fullShare} g) ∗ ((outH.view.loc (c : Thread nD τ)) ↦[todoBlk 0]{fullShare} g)) from by
    have hd : Disjoint (doneBlk 0) (todoBlk 0) := by
      rw [Finset.disjoint_left]
      intro i hi _
      exact absurd (Finset.mem_filter.mp hi).2 (Nat.not_lt_zero _)
    have hu : doneBlk 0 ∪ todoBlk 0 = Finset.univ := by
      ext i
      simp only [Finset.mem_union, todoBlk, Finset.mem_filter, Finset.mem_univ, _root_.true_and, iff_true]
      exact Or.inr (Nat.zero_le _)
    rw [← hu]; exact (pointsTo_union hd).1) $$ Hg
  icases Hg2 with ⟨G0, G1⟩
  isplitl [G0]
  · unfold outGood
    iexists g
    isplitl [G0]; · iexact G0
    ipureintro
    intro i hi
    exact absurd (Finset.mem_filter.mp hi).2 (Nat.not_lt_zero _)
  · unfold todo; iexists g; iexact G1
theorem done_all : doneBlk 28 = Finset.univ := by
  ext i
  have h : (i 1).val < 14336 := (i 1).isLt
  simp only [doneBlk, Finset.mem_filter, Finset.mem_univ, _root_.true_and, iff_true]
  omega

/-! ## The last transfers -/

theorem off142_27 : k0_off142 27#32 = ![27 % 2] := by
  show ![(Scalar.remsi 27#32 2#32).toNat] = _
  rw [show (Scalar.remsi 27#32 2#32).toNat = 27 % 2 from by decide +kernel]
theorem off142_26 : k0_off142 26#32 = ![26 % 2] := by
  show ![(Scalar.remsi 26#32 2#32).toNat] = _
  rw [show (Scalar.remsi 26#32 2#32).toNat = 26 % 2 from by decide +kernel]
theorem off143_27 : k0_off143 27#32 = ![27 % 2, 0, 0] := by
  show ![(Scalar.remsi 27#32 2#32).toNat, 0, 0] = _
  rw [show (Scalar.remsi 27#32 2#32).toNat = 27 % 2 from by decide +kernel]

/-! ## The body -/

/-- Everything the kernel holds before and after its run, apart from the result. -/
def world : sProp 𝕄 :=
  iprop(inputs c fgs fxs fx fws ∗ ((wH.view.loc (c : Thread nD τ)) ↦[Finset.univ]{fullShare} fw) ∗ places c
    ∗ (∃ f, actPt c f) ∗ (∃ f, startPt c f) ∗ (∃ f, (codeM.view.loc (c : Thread nD τ)) ↦[Finset.univ]{fullShare} f)
    ∗ (∃ f, (wM.view.loc (c : Thread nD τ)) ↦[Finset.univ]{fullShare} f) ∗ (∃ f, (oM.view.loc (c : Thread nD τ)) ↦[Finset.univ]{fullShare} f)
    ∗ sems4 c ∗ sems16 c ∗ semVal ((c : Thread nD τ), .dma (ocell 0)) 0 ∗ semVal ((c : Thread nD τ), .dma (ocell 1)) 0)

set_option maxHeartbeats 4000000 in
theorem body_run (Good : S256x14336.Idx → Elt F .bf16 → Prop) (GoodC : S256x4096.Idx → Elt F .fp8e4m3 → Prop)
    (hg : ∀ e, e < 6 → gsz fgs e ≤ 256) (hsum : nRow (gsz fgs) 6 = 256) (CP : CPays GoodC fx fxs fgs)
    (hP : ∀ fcode : S256x4096.Idx → Elt F .fp8e4m3, (∀ i, GoodC i (fcode i)) → Pays Good fcode fw fxs fws (gsz fgs)) :
    iprop(world c fgs fxs fx fws fw ∗ (∃ f, (outH.view.loc (c : Thread nD τ)) ↦[Finset.univ]{fullShare} f) ∗ (∃ w, owes (c : Thread nD τ) 0 w))
      ⊢ W (F := F) c (cc0_moe_fp8_stream gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14) (fun _ => iprop(world c fgs fxs fx fws fw ∗ outGood c Good Finset.univ ∗ (∃ w, owes (c : Thread nD τ) 0 w))) := by
  unfold world
  iintro ⟨⟨Hin, Hw, Hpl, Ha, Hs, Hc, Hm, Ho, S4, S16, SO0, SO1⟩, Hout, Hz⟩
  ihave HR := (ring_open c fw) $$ [Hm S16 Hw]
  · isplitl [Hm]; · iexact Hm
    isplitl [S16]; · iexact S16
    iexact Hw
  icases HR with ⟨HR, HL⟩
  ihave HB := (out_open c Good) $$ [Ho SO0 SO1 Hout]
  · isplitl [Ho]; · iexact Ho
    isplitl [SO0]; · iexact SO0
    isplitl [SO1]; · iexact SO1
    iexact Hout
  rw [cc0_moe_fp8_stream_eq_skeleton]
  unfold cc0_moe_fp8_stream_skel
  dsimp only
  simp only [wp_bind]
  iapply (part6 (F := F) c fgs fxs fx fws hg) $$ [Hin Hpl S4 Ha Hs Hz]
  · isplitl [Hin]; · iexact Hin
    isplitl [Hpl]; · iexact Hpl
    isplitl [S4]; · iexact S4
    isplitl [Ha]; · iexact Ha
    isplitl [Hs]; · iexact Hs
    iexact Hz
  iintro ⟨Hgs, Fxs, Fx, Fws, HT, Hz⟩
  have hm : nA (fgs (i6 0)) (fgs (i6 1)) (fgs (i6 2)) (fgs (i6 3)) (fgs (i6 4)) (fgs (i6 5)) = wd (nAct (gsz fgs) 6) := cnt_eq fgs hg 6 le_rfl
  have hone : 1 ≤ nAct (gsz fgs) 6 := by
    by_contra h
    have := nRow_zero (g := gsz fgs) (e := 6) (by omega)
    omega
  have hsix : nAct (gsz fgs) 6 ≤ 6 := nAct_le _ _
  have hw6 := chk6_of hm hone hsix
  ihave HR := (ring_start c fw) $$ HR
  iapply (part7 (F := F) c fgs fxs fx fw hg hsum hw6) $$ [Hgs Fxs Fx HT HR Hz]
  · isplitl [Hgs]; · iexact Hgs
    isplitl [Fxs]; · iexact Fxs
    isplitl [Fx]; · iexact Fx
    isplitl [HT]; · iexact HT
    isplitl [HR]; · iexact HR
    iexact Hz
  iintro %fa %fs %E %S %T ⟨Hgs, Hxs, Hx, Ha, Hs, HR, Hz⟩
  iapply (part8 (F := F) c fgs fxs fx fws CP) $$ [Hgs Hxs Hx Fws Hc Hz]
  · isplitl [Hgs]; · iexact Hgs
    isplitl [Hxs]; · iexact Hxs
    isplitl [Hx]; · iexact Hx
    isplitl [Fws]; · iexact Fws
    isplitl [Hc]; · iexact Hc
    iexact Hz
  iintro ⟨Hgs, Hxs, Hx, Hws, Hc, Hz⟩
  unfold codes haveXs haveWs
  icases Hxs with ⟨Pxs, Hxs, S10⟩
  icases Hws with ⟨Pws, Hws, S12⟩
  icases Hc with ⟨%fcode, Hc, %hcode⟩
  have P := hP fcode (fun i => hcode i (i 1).isLt)
  iapply (l_for (F := F) c _ _ _ _ (itemInv c Good fcode fw fxs fws (nAct (gsz fgs) 6) E S fa fs)
    (item_step (F := F) c Good fcode fw fxs fws P T hm hw6 _)) $$ [Ha Hs Hc Pxs Pws HR HB Hz]
  · unfold itemInv datas
    isplitr
    · ipureintro
      rw [Nat.zero_div, Nat.zero_mod, Nat.zero_add, Nat.zero_mod]
    isplitl [Ha]; · iexact Ha
    isplitl [Hs]; · iexact Hs
    isplitl [Hc Pxs Pws]
    · isplitl [Hc]; · iexact Hc
      isplitl [Pxs]; · iexact Pxs
      iexact Pws
    isplitl [HR]
    · rw [ringSt_zero hone]; iexact HR
    isplitl [HB]
    · rw [Nat.zero_div, Nat.zero_mod]
      iapply (show StB c Good 0 0 ⊢ StI c Good 0 0 (S 0) from .rfl) $$ HB
    iexact Hz
  iintro %acc HI
  rw [t4_trips hm hone hsix]
  iapply (l_for (F := F) c _ _ _ _ (fun _ acc => itemInv c Good fcode fw fxs fws (nAct (gsz fgs) 6) E S fa fs (28 * nAct (gsz fgs) 6) acc)
    (fun k _ => absurd (lt_of_lt_of_eq k.isLt (t5_trips hm hone hsix)) (Nat.not_lt_zero _))) $$ [HI]
  · iexact HI
  iintro %acc2 HI
  unfold itemInv datas
  icases HI with ⟨-, Ha, Hs, ⟨Hc, Pxs, Pws⟩, HR, HB, Hz⟩
  ihave HB2 := (show StI c Good (28 * nAct (gsz fgs) 6 / nAct (gsz fgs) 6) (28 * nAct (gsz fgs) 6 % nAct (gsz fgs) 6) (S (28 * nAct (gsz fgs) 6 % nAct (gsz fgs) 6)) ⊢ StB c Good 27 256 from by
    rw [Nat.mul_div_cancel _ hone, Nat.mul_mod_left]; exact .rfl) $$ HB
  iapply (start_block (F := F) c Good (n := 27) (by omega) off142_27 off143_27 rfl) $$ HB2
  iintro HB
  iapply (wait_block (F := F) c Good (n := 26) off142_26) $$ [HB Hz]
  · isplitl [HB]; · iexact HB
    iexact Hz
  iintro ⟨HB, Hz⟩
  unfold StB obuf
  icases HB with ⟨⟨%f0, O0, -⟩, SO0, HF, HD, -⟩
  iapply (o_wait (F := F) c (Good := Good) (s := osl 27) (n := 27) off142_27) $$ [HF Hz]
  · isplitl [HF]
    · iapply (show prevO c Good (26 + 2) ⊢ inflO c Good (osl 27) 27 from .rfl) $$ HF
    iexact Hz
  iintro ⟨HG, ⟨%f1, O1⟩, SO1, Hz⟩
  iapply (l_pure (F := F) c)
  ihave HW := (ring_close c fw) $$ [HR HL]
  · isplitl [HR]
    · iapply (ring_stop c fw E (nAct (gsz fgs) 6)) $$ HR
    iexact HL
  icases HW with ⟨Hm, S16, Hw⟩
  unfold haveGs haveX inputs places sems4
  icases Hgs with ⟨Pgs, Hgs, S9⟩
  icases Hx with ⟨Px, Hx, S11⟩
  isplitr [HG HD Hz]
  · isplitl [Hgs Hxs Hx Hws]
    · isplitl [Hgs]; · iexact Hgs
      isplitl [Hxs]; · iexact Hxs
      isplitl [Hx]; · iexact Hx
      iexact Hws
    isplitl [Hw]; · iexact Hw
    isplitl [Pgs Pxs Px Pws]
    · isplitl [Pgs]; · iexists _; iexact Pgs
      isplitl [Pxs]; · iexists _; iexact Pxs
      isplitl [Px]; · iexists _; iexact Px
      iexists _; iexact Pws
    isplitl [Ha]; · iexists _; iexact Ha
    isplitl [Hs]; · iexists _; iexact Hs
    isplitl [Hc]; · iexists _; iexact Hc
    isplitl [Hm]; · iexact Hm
    isplitl [O0 O1]
    · iexists _
      iapply (show iprop(((oM.view.loc (c : Thread nD τ)) ↦[oslot 0]{fullShare} f0) ∗ ((oM.view.loc (c : Thread nD τ)) ↦[oslot 1]{fullShare} f1))
        ⊢ ((oM.view.loc (c : Thread nD τ)) ↦[Finset.univ]{fullShare} ((oslot 1).piecewise f1 f0)) from by
          rw [← oslot_all]; exact pointsTo_join oslot_disj)
      isplitl [O0]; · iexact O0
      iexact O1
    isplitl [S9 S10 S11 S12]
    · isplitl [S9]; · iexact S9
      isplitl [S10]; · iexact S10
      isplitl [S11]; · iexact S11
      iexact S12
    isplitl [S16]; · iexact S16
    isplitl [SO0]; · iexact SO0
    iexact SO1
  isplitr [Hz]
  · rw [← done_all]
    iapply (outGood_done c Good 27)
    isplitl [HD]; · iexact HD
    iexact HG
  · iexact Hz

end Cert.Kernel.Hand
end
-- ==== Proof.K.Launch.lean ====
module
public import proofs.«01_k».proof.Proof.K.Body
public import proofs.«01_k».proof.Proof.Gen.Kernel.Launch
public import proofs.«01_k».proof.Proof.Gen.Kernel.Points
public import Idealize.ShloMosaic.Lib.Pipeline.FrameBody
public import Idealize.ShloMosaic.Lib.Pipeline.KitQuiescent
/-!
# The launch

The body's run as the program's: what the call is handed, what it hands back, and what that says of the memory at
the end: the five arguments unchanged, the result good everywhere, every semaphore at zero.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The buffers as the call finds them: as launched. -/
abbrev V (c : Dev nD) (b : Ref sig .tc) : Buf (Elt F) ((c : Thread nD τ).loc b) := m ((c : Thread nD τ).loc b)
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The kernel's own semaphores: four for the arrays read whole, sixteen of the ring, two of the output. -/
def osem0 : Fin 22 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 22 → SemLoc sig) j
theorem ownSemFacts0 : Pipeline.OwnSemFacts (cfgs 0).spec osem0 := by decide

theorem ownSems0_open (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0) := by
  rw [Pipeline.ownSems0_eq_of_list c osem0 [0, 1, 2, 3, 4, 5, 6, 7, 8, 9, 10, 11, 12, 13, 14, 15, 16, 17, 18, 19, 20, 21] (by decide) (by decide)]
  rfl
theorem sems16_open (c : Dev nD) :
    (sems16 (F := F) c : sProp 𝕄)
      = iprop(semVal ((c : Thread nD τ), .dma (wcell 0)) 0 ∗ semVal ((c : Thread nD τ), .dma (wcell 1)) 0 ∗ semVal ((c : Thread nD τ), .dma (wcell 2)) 0 ∗ semVal ((c : Thread nD τ), .dma (wcell 3)) 0 ∗ semVal ((c : Thread nD τ), .dma (wcell 4)) 0 ∗ semVal ((c : Thread nD τ), .dma (wcell 5)) 0 ∗ semVal ((c : Thread nD τ), .dma (wcell 6)) 0 ∗ semVal ((c : Thread nD τ), .dma (wcell 7)) 0 ∗ semVal ((c : Thread nD τ), .dma (wcell 8)) 0 ∗ semVal ((c : Thread nD τ), .dma (wcell 9)) 0 ∗ semVal ((c : Thread nD τ), .dma (wcell 10)) 0 ∗ semVal ((c : Thread nD τ), .dma (wcell 11)) 0 ∗ semVal ((c : Thread nD τ), .dma (wcell 12)) 0 ∗ semVal ((c : Thread nD τ), .dma (wcell 13)) 0 ∗ semVal ((c : Thread nD τ), .dma (wcell 14)) 0 ∗ semVal ((c : Thread nD τ), .dma (wcell 15)) 0) := by
  unfold sems16
  rw [BI.bigSep_univ_eq_bigSepL [0, 1, 2, 3, 4, 5, 6, 7, 8, 9, 10, 11, 12, 13, 14, 15] (by decide) (by decide)]
  rfl

/-- The own semaphores grouped as the body names them. -/
def semsAll (c : Dev nD) : sProp 𝕄 :=
  iprop(sems4 c ∗ sems16 c ∗ semVal ((c : Thread nD τ), .dma (ocell 0)) 0 ∗ semVal ((c : Thread nD τ), .dma (ocell 1)) 0)
theorem semsAll_intro (c : Dev nD) :
    iprop(sems4 c ∗ sems16 c ∗ semVal ((c : Thread nD τ), .dma (ocell 0)) 0 ∗ semVal ((c : Thread nD τ), .dma (ocell 1)) 0) ⊢ (semsAll c : sProp 𝕄) := .rfl
theorem semsAll_elim (c : Dev nD) :
    (semsAll c : sProp 𝕄) ⊢ iprop(sems4 c ∗ sems16 c ∗ semVal ((c : Thread nD τ), .dma (ocell 0)) 0 ∗ semVal ((c : Thread nD τ), .dma (ocell 1)) 0) := .rfl
theorem sems_in (c : Dev nD) : (Pipeline.ownSems0 (Ix := Unit) (Name := ℕ) (U := Pipeline.UD sig nD τ) (Lvl := ℕ) (Val := Elt F) (τ := τ) osem0 c : sProp 𝕄)
    ⊢ semsAll c := by
  unfold semsAll
  rw [ownSems0_open, sems16_open]
  unfold sems4
  iintro ⟨s0, s1, s2, s3, w0, w1, w2, w3, w4, w5, w6, w7, w8, w9, w10, w11, w12, w13, w14, w15, o0, o1⟩
  isplitl [s0 s1 s2 s3]
  · isplitl [s0]; · iexact s0
    isplitl [s1]; · iexact s1
    isplitl [s2]; · iexact s2
    iexact s3
  isplitl [w0 w1 w2 w3 w4 w5 w6 w7 w8 w9 w10 w11 w12 w13 w14 w15]
  · skip
    isplitl [w0]; · iexact w0
    isplitl [w1]; · iexact w1
    isplitl [w2]; · iexact w2
    isplitl [w3]; · iexact w3
    isplitl [w4]; · iexact w4
    isplitl [w5]; · iexact w5
    isplitl [w6]; · iexact w6
    isplitl [w7]; · iexact w7
    isplitl [w8]; · iexact w8
    isplitl [w9]; · iexact w9
    isplitl [w10]; · iexact w10
    isplitl [w11]; · iexact w11
    isplitl [w12]; · iexact w12
    isplitl [w13]; · iexact w13
    isplitl [w14]; · iexact w14
    iexact w15
  isplitl [o0]; · iexact o0
  iexact o1
theorem sems_out (c : Dev nD) : semsAll c
    ⊢ (Pipeline.ownSems0 (Ix := Unit) (Name := ℕ) (U := Pipeline.UD sig nD τ) (Lvl := ℕ) (Val := Elt F) (τ := τ) osem0 c : sProp 𝕄) := by
  unfold semsAll
  rw [ownSems0_open, sems16_open]
  unfold sems4
  iintro ⟨⟨s0, s1, s2, s3⟩, ⟨w0, w1, w2, w3, w4, w5, w6, w7, w8, w9, w10, w11, w12, w13, w14, w15⟩, o0, o1⟩
  isplitl [s0]; · iexact s0
  isplitl [s1]; · iexact s1
  isplitl [s2]; · iexact s2
  isplitl [s3]; · iexact s3
  isplitl [w0]; · iexact w0
  isplitl [w1]; · iexact w1
  isplitl [w2]; · iexact w2
  isplitl [w3]; · iexact w3
  isplitl [w4]; · iexact w4
  isplitl [w5]; · iexact w5
  isplitl [w6]; · iexact w6
  isplitl [w7]; · iexact w7
  isplitl [w8]; · iexact w8
  isplitl [w9]; · iexact w9
  isplitl [w10]; · iexact w10
  isplitl [w11]; · iexact w11
  isplitl [w12]; · iexact w12
  isplitl [w13]; · iexact w13
  isplitl [w14]; · iexact w14
  isplitl [w15]; · iexact w15
  isplitl [o0]; · iexact o0
  iexact o1

variable (Good : Dev nD → S256x14336.Idx → Elt F .bf16 → Prop)

/-- What the call holds, with the arrays as launched. -/
def held (c : Dev nD) : sProp 𝕄 := world c (V m c main_arg1) (V m c main_arg2) (V m c main_arg0) (V m c main_arg4) (V m c main_arg3)

/-- The proof data of the one call: before its one point the result holds anything, after it the result is good. -/
def dats (_ : Fin 1) (c : Dev nD) : Dat τ (Elt F) Unit ℕ (Pipeline.UD sig nD τ) ℕ cfg0 c where
  A w := w.elim0
  after w t := w.elim0
  Φ t := if t.val = 0 then iprop(held m c ∗ (∃ f, (outH.view.loc (c : Thread nD τ)) ↦[Finset.univ]{fullShare} f))
    else iprop(held m c ∗ outGood c (Good c) Finset.univ)
  q _ := fullShare
  owed _ := 0

theorem phi_first (c : Dev nD) (t : Fin (cfg0.N + 1)) (h : t.val = 0) :
    (dats m Good 0 c).Φ t = iprop(held m c ∗ (∃ f, (outH.view.loc (c : Thread nD τ)) ↦[Finset.univ]{fullShare} f)) := if_pos h
theorem phi_last (c : Dev nD) (t : Fin (cfg0.N + 1)) (h : t.val ≠ 0) :
    (dats m Good 0 c).Φ t = iprop(held m c ∗ outGood c (Good c) Finset.univ) := if_neg h

theorem defs₀_row (t : Fin cfg0.N) : defs₀ (F := F) .tc cfg0.body (cfg0.bodyArgs t (cfg0.slots t)) = bodyAt0 t := by
  unfold defs₀; rw [Defs.onTc_tc]

/-- What is asked of the claim made of every element of the result, on every device. -/
structure Sound : Prop where
  size : ∀ c e, e < 6 → gsz (V m c main_arg1) e ≤ 256
  total : ∀ c, nRow (gsz (V m c main_arg1)) 6 = 256
  pays : ∀ c, ∃ GoodC : S256x4096.Idx → Elt F .fp8e4m3 → Prop, CPays GoodC (V m c main_arg0) (V m c main_arg2) (V m c main_arg1)
    ∧ ∀ fcode : S256x4096.Idx → Elt F .fp8e4m3, (∀ i, GoodC i (fcode i)) →
      Pays (Good c) fcode (V m c main_arg3) (V m c main_arg2) (V m c main_arg4) (gsz (V m c main_arg1))

/-- What a run leaves: the arguments as launched, the result good. -/
def Left (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ ∀ i, Good c i (s.mem ((c.tc : Thread nD τ).loc main_v0) i)

variable (hS : Sound m Good)
include hS

theorem sound_body (c : Dev nD) (t : Fin cfg0.N) :
    iprop((dats m Good 0 c).Φ t.castSucc ∗ (dats m Good 0 c).owesAt () t.castSucc)
      ⊢ wp frame (wpE (defs₀ (F := F)) Variants.none c none) Set.univ (bodyAt0 t)
          (fun _ => iprop((dats m Good 0 c).Φ t.succ ∗ (dats m Good 0 c).owesAt () t.succ)) := by
  have ht : t.val = 0 := congrArg Fin.val (fin_N0 t)
  rw [phi_first m Good c t.castSucc ht, phi_last m Good c t.succ (Nat.succ_ne_zero _)]
  unfold bodyAt0 held Dat.owesAt Pipeline.owesWithin
  rw [show (dats m Good 0 c).owed t.castSucc = 0 from rfl, show (dats m Good 0 c).owed t.succ = 0 from rfl]
  obtain ⟨GoodC, CP, hP⟩ := hS.pays c
  refine triple_restated (body_run (F := F) c _ _ _ _ _ (Good c) GoodC (hS.size c) (hS.total c) CP hP) rfl ?_ (fun _ => ?_)
  · iintro ⟨⟨HW, HO⟩, ⟨%w, -, Hz⟩⟩
    isplitl [HW]; · iexact HW
    isplitl [HO]; · iexact HO
    iexists w; iexact Hz
  · iintro ⟨HW, HO, ⟨%w, Hz⟩⟩
    isplitl [HW HO]
    · isplitl [HW]; · iexact HW
      iexact HO
    iexists w; isplitr; · ipureintro; exact fun _ _ => Or.inl trivial
    iexact Hz

theorem body_obligation (c : Dev nD) : BodyObligation (dats m Good 0 c) (defs₀ (F := F)) Variants.none () Set.univ := fun t => by
  rw [defs₀_row]
  refine triple_restated (sound_body m Good hS c t) rfl ?_ (fun _ => ?_)
  · iintro ⟨HP, Hz, -⟩
    isplitl [HP]; · iexact HP
    iexact Hz
  · iintro ⟨HP, Hz⟩
    isplitl [HP]; · iexact HP
    isplitl [Hz]; · iexact Hz
    rw [show (Finset.univ : Finset (Fin cfg0.W)) = ∅ from Finset.univ_eq_empty (α := Fin 0), BI.bigSep_empty]
    iempintro

omit hS in
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := Pipeline.UD sig nD τ) (Lvl := ℕ) ({()} : Finset Unit) (fun _ => ℓ) (fun _ => f) s'
  rw [BI.bigSep_singleton] at h
  refine h.trans ?_
  iintro ⟨%h, H⟩
  isplitr; · ipureintro; exact h () (Finset.mem_singleton_self _)
  iexact H

omit hS in
theorem read_left (c : Dev nD) (s' : Phys nD τ sig (Elt F)) :
    iprop((iprop(inputs c (V m c main_arg1) (V m c main_arg2) (V m c main_arg0) (V m c main_arg4)
        ∗ ((wH.view.loc (c : Thread nD τ)) ↦[Finset.univ]{fullShare} V m c main_arg3) ∗ outGood c (Good c) Finset.univ) : sProp 𝕄) ∗ SI s')
      ⊢ iprop(⌜Left m Good c s'.mem⌝ ∗ SI s') := by
  unfold inputs outGood
  iintro ⟨⟨⟨H1, H2, H0, H4⟩, H3, ⟨%g, H5, %hg⟩⟩, S⟩
  ihave S := (read_one _ _ s') $$ [H0 S]
  · isplitl [H0]; · iexact H0
    iexact S
  icases S with ⟨%h0, S⟩
  ihave S := (read_one _ _ s') $$ [H1 S]
  · isplitl [H1]; · iexact H1
    iexact S
  icases S with ⟨%h1, S⟩
  ihave S := (read_one _ _ s') $$ [H2 S]
  · isplitl [H2]; · iexact H2
    iexact S
  icases S with ⟨%h2, S⟩
  ihave S := (read_one _ _ s') $$ [H3 S]
  · isplitl [H3]; · iexact H3
    iexact S
  icases S with ⟨%h3, S⟩
  ihave S := (read_one _ _ s') $$ [H4 S]
  · isplitl [H4]; · iexact H4
    iexact S
  icases S with ⟨%h4, S⟩
  ihave S := (read_one _ _ s') $$ [H5 S]
  · isplitl [H5]; · iexact H5
    iexact S
  icases S with ⟨%h5, S⟩
  isplitr
  · ipureintro
    refine ⟨h0, h1, h2, h3, h4, fun i => ?_⟩
    have := congrFun h5 i
    exact this ▸ hg i (Finset.mem_univ i)
  · iexact S

set_option backward.isDefEq.respectTransparency.types false in
/-- The program runs to the end from any memory the claim is sound of, and leaves what `Left` says and every semaphore at zero. -/
theorem run_main : θ_run defs (onTc (τ := τ) (main (F := F))) ⟨m, fun _ => 0, ρ⟩
    (fun r => (∀ c : Dev nD, Left m Good c r.2) ∧ r.2.sem = fun _ => 0) := by
  classical
  exact Pipeline.θ_run_region_kit_quiescent (Q := fun r => (∀ c : Dev nD, Left m Good c r.2) ∧ r.2.sem = fun _ => 0)
    cfgs (dats m Good) () (0 : Fin 1) launch0 ownSemFacts0 embL defs₀ Variants.none m ρ main
    (hbody := fun c => (body_obligation m Good hS c).loose) (hshare := fun c w => w.elim0) (howed := fun _ _ => rfl)
    (G := fun _ => iprop(emp)) (u₀ := (initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m Variants.none) (hA := fun c w => w.elim0)
    (X := fun c => iprop(Pipeline.unscopedRest (Ix := Unit) (Name := ℕ) (U := Pipeline.UD sig nD τ) (Lvl := ℕ) spec0 c (V m c)
      ∗ Pipeline.ownSems0 (Ix := Unit) (Name := ℕ) (U := Pipeline.UD sig nD τ) (Lvl := ℕ) (Val := Elt F) (τ := τ) osem0 c))
    (Y := fun c => iprop(inputs c (V m c main_arg1) (V m c main_arg2) (V m c main_arg0) (V m c main_arg4)
        ∗ ((wH.view.loc (c : Thread nD τ)) ↦[Finset.univ]{fullShare} V m c main_arg3) ∗ outGood c (Good c) Finset.univ))
    (Z := fun _ => iprop(emp))
    (hX := fun c => by
      iintro ⟨HU, HS, -⟩; imodintro
      isplitl [HU HS]
      · isplitl [HU]; · iexact HU
        iexact HS
      · iempintro)
    (hin := fun c => by
      rw [phi_first m Good c 0 rfl]
      refine (show _ ⊢ iprop((Pipeline.unscopedRest (Ix := Unit) (Name := ℕ) (U := Pipeline.UD sig nD τ) (Lvl := ℕ) (cfg0.spec) c (V m c)
        ∗ Pipeline.ownSems0 (Ix := Unit) (Name := ℕ) (U := Pipeline.UD sig nD τ) (Lvl := ℕ) (Val := Elt F) (τ := τ) osem0 c)
        ∗ Pipeline.scopedRest (Ix := Unit) (Name := ℕ) (U := Pipeline.UD sig nD τ) (Lvl := ℕ) (Val := Elt F) (cfg0.spec) c) from .rfl).trans ?_
      rw [unscopedRest0_eq, scopedRest0_eq]
      unfold held world inputs places
      iintro ⟨⟨⟨H0, H1, H2, H3, H4, H5⟩, HS⟩, ⟨B2, B3, B4, B5, B6, B0, B1, B7, B8⟩⟩
      ihave HS := (sems_in (F := F) c) $$ HS
      isplitr [H5]
      · isplitl [H0 H1 H2 H4]
        · isplitl [H1]; · iexact H1
          isplitl [H2]; · iexact H2
          isplitl [H0]; · iexact H0
          iexact H4
        isplitl [H3]; · iexact H3
        isplitl [B0 B1 B2 B4]
        · isplitl [B0]; · iexact B0
          isplitl [B1]; · iexact B1
          isplitl [B2]; · iexact B2
          iexact B4
        isplitl [B7]; · iexact B7
        isplitl [B8]; · iexact B8
        isplitl [B3]; · iexact B3
        isplitl [B5]; · iexact B5
        isplitl [B6]; · iexact B6
        iapply (semsAll_elim (F := F) c) $$ HS
      · iexists _; iexact H5)
    (hout := fun c => by
      rw [phi_last m Good c (Fin.last _) (by decide)]
      rw [show (Pipeline.scopedRest (Ix := Unit) (Name := ℕ) (U := Pipeline.UD sig nD τ) (Lvl := ℕ) (Val := Elt F) ((cfgs 0).spec) c : sProp 𝕄) = _ from scopedRest0_eq c]
      unfold held world places
      iintro ⟨⟨HI, H3, ⟨B0, B1, B2, B4⟩, B7, B8, B3, B5, B6, HS⟩, H5⟩
      isplitl [HI H3 H5]
      · isplitl [HI]; · iexact HI
        isplitl [H3]; · iexact H3
        iexact H5
      isplitl [HS]
      · iapply (sems_out (F := F) c)
        iapply (semsAll_intro (F := F) c) $$ HS
      isplitl [B2]; · iexact B2
      isplitl [B3]; · iexact B3
      isplitl [B4]; · iexact B4
      isplitl [B5]; · iexact B5
      isplitl [B6]; · iexact B6
      isplitl [B0]; · iexact B0
      isplitl [B1]; · iexact B1
      isplitl [B7]; · iexact B7
      iexact B8)
    (QY := fun c s => Left m Good c s)
    (hY := fun c s' => by
      iintro ⟨HY, -, HSI⟩
      imodintro
      iapply (read_left (F := F) m Good c s')
      isplitl [HY]; · iexact HY
      iexact HSI)
    (hQ := fun s h hz => ⟨fun c => (h c).2, hz⟩)

end Cert.Kernel.Hand
end
-- ==== Proof.Sizes.lean ====
module
public import proofs.«01_k».proof.Proof.Gen.Pre_sizes_partition_rows
public import Idealize.ShloMosaic.Lib.ReduceAll
public import Idealize.ShloMosaic.Lib.WordCmp
public import Idealize.ShloMosaic.Lib.Pointwise.Index
public import Idealize.ShloMosaic.Lib.Routing.Ops
/-!
# What the precondition says of the group sizes

The precondition is a word computed from the group sizes: that it is one says that every size, read as a natural
number, is at most 256, and that the six words add up to 256.
-/
@[expose] public section
noncomputable section
namespace Cert.Sizes
open Idealize.ShloMosaic Cert.Pre_sizes_partition_rows

variable {F : FTy → Type} [FloatOps F]

/-- The index `e` of a vector of six. -/
def ix (e : Fin 6) : S6.Idx := ix1 e

/-- A word that is at least zero and at most 256, both signed, is at most 256 as a natural number. -/
theorem le_of_signed (w : BitVec 32) (h0 : IntOp.cmpi .sge w 0#32 = 1#1) (h1 : IntOp.cmpi .sle w 256#32 = 1#1) : w.toNat ≤ 256 := by
  have h0' : (BitVec.sle 0#32 w) = true := by
    by_contra hc
    rw [Bool.not_eq_true] at hc
    simp [IntOp.cmpi, hc] at h0
  have h1' : (BitVec.sle w 256#32) = true := by
    by_contra hc
    rw [Bool.not_eq_true] at hc
    simp [IntOp.cmpi, hc] at h1
  rw [BitVec.sle_eq_decide] at h0' h1'
  simp only [decide_eq_true_eq, BitVec.toInt_eq_toNat_cond] at h0' h1'
  have := w.isLt
  simp only [BitVec.toNat_ofNat] at h0' h1'
  split at h1' <;> split at h0' <;> omega

/-- A sum over all six words, one after the other. -/
theorem sum_six (gs : IVec S6 32) (z : IVec S_ 32) (h : S6.ReducesTo [0] S_) (hu : 0 < S_.numel) (j : S_.Idx) :
    Host.reduce IntOp.addi gs z h hu j
      = ((((((z (Shape.Idx.first hu) + gs (ix 0)) + gs (ix 1)) + gs (ix 2)) + gs (ix 3)) + gs (ix 4)) + gs (ix 5)) := by
  unfold Host.reduce
  have hf : ((List.finRange S6.numel).filter fun n => h.drop (S6.rowMajor.symm n) = j) = List.finRange S6.numel := by
    rw [List.filter_eq_self]
    intro n _
    exact decide_eq_true (funext fun k => k.elim0)
  rw [hf]
  have hx : ∀ n : Fin 6, S6.rowMajor.symm (⟨n.val, n.isLt⟩ : Fin S6.numel) = ix n := fun n => Routing.symm1 (N := 6) _
  have hl : List.finRange S6.numel = [(⟨0, by decide⟩ : Fin S6.numel), ⟨1, by decide⟩, ⟨2, by decide⟩, ⟨3, by decide⟩, ⟨4, by decide⟩, ⟨5, by decide⟩] := by decide
  rw [hl]
  simp only [List.foldl_cons, List.foldl_nil]
  rw [show S6.rowMajor.symm (⟨0, by decide⟩ : Fin S6.numel) = ix 0 from hx 0, show S6.rowMajor.symm (⟨1, by decide⟩ : Fin S6.numel) = ix 1 from hx 1,
    show S6.rowMajor.symm (⟨2, by decide⟩ : Fin S6.numel) = ix 2 from hx 2, show S6.rowMajor.symm (⟨3, by decide⟩ : Fin S6.numel) = ix 3 from hx 3,
    show S6.rowMajor.symm (⟨4, by decide⟩ : Fin S6.numel) = ix 4 from hx 4, show S6.rowMajor.symm (⟨5, by decide⟩ : Fin S6.numel) = ix 5 from hx 5]
  rfl

/-- The precondition, read: every size at most 256, the six sizes 256 together. -/
theorem sizes (x : FVec F S256x4096 .bf16) (gs : IVec S6 32) (xs : FVec F S6 .f32) (w : FVec F S6x4096x14336 .fp8e4m3) (ws : FVec F S6x14336 .f32)
    (h : fn (F := F) x gs xs w ws = fun _ => 1#1) :
    (∀ e : Fin 6, (gs (ix e)).toNat ≤ 256)
    ∧ (gs (ix 0)).toNat + (gs (ix 1)).toNat + (gs (ix 2)).toNat + (gs (ix 3)).toNat + (gs (ix 4)).toNat + (gs (ix 5)).toNat = 256 := by
  have h0 := congrFun h (fun k => k.elim0)
  unfold fn at h0
  have split : ∀ a b : BitVec 1, a &&& b = 1#1 → a = 1#1 ∧ b = 1#1 := by decide
  obtain ⟨h1, h3⟩ := split _ _ h0
  obtain ⟨h1, h2⟩ := split _ _ h1
  have hle : ∀ e : Fin 6, (gs (ix e)).toNat ≤ 256 := fun e =>
    le_of_signed _ (Host.reduce_andi_all _ _ _ _ _ h1 (ix e)) (Host.reduce_andi_all _ _ _ _ _ h2 (ix e))
  refine ⟨hle, ?_⟩
  have h4 : Host.reduce IntOp.addi gs (constantI S_ 32 0#32) Facts.reducesTo_S6_S_d0 Facts.h_S_ (fun k => k.elim0) = 256#32 := by
    by_contra hc
    have h3' : IntOp.cmpi .eq (Host.reduce IntOp.addi gs (constantI S_ 32 0#32) Facts.reducesTo_S6_S_d0 Facts.h_S_ (fun k => k.elim0)) 256#32 = 1#1 := h3
    have hb : (Host.reduce IntOp.addi gs (constantI S_ 32 0#32) Facts.reducesTo_S6_S_d0 Facts.h_S_ (fun k => k.elim0) == 256#32) = false := beq_eq_false_iff_ne.mpr hc
    exact absurd (h3'.symm.trans (congrArg BitVec.ofBool hb)) (by decide)
  rw [sum_six] at h4
  have h5 := congrArg BitVec.toNat h4
  have z0 : (constantI S_ 32 0#32 (Shape.Idx.first Facts.h_S_)).toNat = 0 := rfl
  simp only [BitVec.toNat_add, z0, BitVec.toNat_ofNat] at h5
  have e0 := hle 0; have e1 := hle 1; have e2 := hle 2; have e3 := hle 3; have e4 := hle 4; have e5 := hle 5
  omega

end Cert.Sizes
end
-- ==== Proof.K.Frame.lean ====
module
public import proofs.«01_k».proof.Proof.K.Launch
public import proofs.«01_k».proof.Proof.Sizes
/-!
# The frame

What the precondition gives the launch, and the run with nothing said of the result.
-/
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The precondition at the launch's memory. -/
def PreAt : Prop := ∀ c : Dev nD, Cert.Pre_sizes_partition_rows.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) = fun _ => 1#1

theorem size_of (h : PreAt m) (c : Dev nD) (e : ℕ) (he : e < 6) : gsz (V m c main_arg1) e ≤ 256 := by
  have hs := (Cert.Sizes.sizes (F := F) _ _ _ _ _ (h c)).1 ⟨e, he⟩
  have hi : i6 e = Cert.Sizes.ix ⟨e, he⟩ := congrArg (Idealize.ShloMosaic.ix1 (n0 := 6)) (Fin.ext (Nat.mod_eq_of_lt he) : (⟨e % 6, Nat.mod_lt _ (by decide)⟩ : Fin 6) = ⟨e, he⟩)
  unfold gsz
  rw [hi]; exact hs
theorem total_of (h : PreAt m) (c : Dev nD) : nRow (gsz (V m c main_arg1)) 6 = 256 := by
  have hs := (Cert.Sizes.sizes (F := F) _ _ _ _ _ (h c)).2
  show (((((0 + gsz (V m c main_arg1) 0) + gsz (V m c main_arg1) 1) + gsz (V m c main_arg1) 2) + gsz (V m c main_arg1) 3) + gsz (V m c main_arg1) 4) + gsz (V m c main_arg1) 5 = 256
  rw [Nat.zero_add]
  exact hs

/-- Nothing asked of the result. -/
theorem sound_true (h : PreAt m) : Sound m (fun _ _ _ => True) where
  size := size_of m h
  total := total_of m h
  pays c := ⟨fun _ _ => True, by
    constructor <;> exact fun _ _ _ _ _ => trivial, fun _ _ => by
    constructor <;> first | exact fun _ _ _ _ _ _ _ _ _ _ _ _ _ _ => trivial | exact fun _ _ _ _ _ _ _ _ _ _ _ _ => trivial⟩

/-- The program runs to the end, its arguments unchanged and every semaphore at zero. -/
theorem frame (h : PreAt m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩)
    (run_main m ρ (fun _ _ _ => True) (sound_true m h))

end Cert.Kernel.Hand
end
-- ==== Proof.KI.Base.lean ====
module
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Scf
public import Idealize.ShloMosaic.Lib.Ring
/-!
The kernel's buffers by name, the element sets its transfers move, and one rule per kind of operation
(assume, load, store, start of a transfer, wait), each stated for the operation standing alone so that a
proof can walk a program one bound operation at a time.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

abbrev gsH : Memref sig .tc .hbm S6 .i32 := Memref.whole main_arg1
abbrev xsH : Memref sig .tc .hbm S6 .f32 := Memref.whole main_arg2
abbrev xH : Memref sig .tc .hbm S256x4096 .bf16 := Memref.whole main_arg0
abbrev wH : Memref sig .tc .hbm S6x4096x14336 .fp8e4m3 := Memref.whole main_arg3
abbrev wsH : Memref sig .tc .hbm S6x14336 .f32 := Memref.whole main_arg4
abbrev outH : Memref sig .tc .hbm S256x14336 .bf16 := Memref.whole main_v0
abbrev gsM : Memref sig .tc .smem S6 .i32 := Memref.whole cc0_scratch0
abbrev xsM : Memref sig .tc .smem S6 .f32 := Memref.whole cc0_scratch1
abbrev xM : Memref sig .tc .vmem S256x4096 .bf16 := Memref.whole cc0_scratch2
abbrev codeM : Memref sig .tc .vmem S256x4096 .fp8e4m3 := Memref.whole cc0_scratch3
abbrev wsM : Memref sig .tc .vmem S6x14336 .f32 := Memref.whole cc0_scratch4
abbrev wM : Memref sig .tc .vmem S16x4096x512 .fp8e4m3 := Memref.whole cc0_scratch5
abbrev oM : Memref sig .tc .vmem S2x256x512 .bf16 := Memref.whole cc0_scratch6
abbrev actM : Memref sig .tc .smem S7 .i32 := Memref.whole cc0_scratch7
abbrev startM : Memref sig .tc .smem S7 .i32 := Memref.whole cc0_scratch8

/-- The weakest precondition of a program of the kernel's thread. -/
abbrev W (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The counters' place in the resources: what a flight's ghost state lives in. -/
abbrev EC : UEmb Counters 𝕄 := countersEmb

variable (c : Dev nD)

/-- An assumed proposition that holds costs nothing. -/
theorem l_assume {P : Prop} {d : Decidable P} (h : P) {Q : PLift P → sProp 𝕄} :
    Q ⟨h⟩ ⊢ W (F := F) c (Prog.lift (.assume P d)) Q :=
  (le_wp_ret _ _ _ _ Q).trans (wp_assume _ _ _ _ (k := .ret) h)

/-- A returned value. -/
theorem l_pure {α : Type} {a : α} {Q : α → sProp 𝕄} : Q a ⊢ W (F := F) c (Pure.pure a) Q := le_wp_ret _ _ _ _ Q

/-- A vector load. -/
theorem l_load {cs : CoreSpace} {s : Shape} {e : EltTy} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))}
    {Q : _ → sProp 𝕄} (hS : (m.access r).set ⊆ S) :
    ((m.access r).loc (c : Thread nD τ) ↦[S]{q} f)
      ⊢ iprop((((m.access r).loc (c : Thread nD τ) ↦[S]{q} f) -∗ Q ((m.access r).read (Elt F) f)) -∗ W (F := F) c (Prog.lift (.load m r.toLoadRect hl)) Q) := by
  iintro H Hk
  iapply (wp_load_rect (c := (c : Thread nD τ)) Variants.none none Set.univ (k := .ret) hS) $$ H
  iintro H
  iapply (le_wp_ret (M := 𝕄))
  iapply Hk $$ H

/-- A load of one word of scalar memory. -/
theorem l_smem {s : Shape} {e : EltTy} {m : Memref sig .tc .smem s e} {r : Rect s} {hw : (m.access r).Loads} {x : r.shape.Idx}
    {S : Finset (Idx ((m.access r).loc (c : Thread nD τ)))} {q : PosShare TreeShare} {f : Buf (Elt F) ((m.access r).loc (c : Thread nD τ))}
    {Q : _ → sProp 𝕄} (hS : (m.access r).set ⊆ S) :
    ((m.access r).loc (c : Thread nD τ) ↦[S]{q} f)
      ⊢ iprop((((m.access r).loc (c : Thread nD τ) ↦[S]{q} f) -∗ Q ((m.access r).read (Elt F) f x)) -∗ W (F := F) c (smemLoadElt m r hw x Prog.ret) Q) := by
  iintro H Hk
  iapply (wp_smemLoadElt (c := (c : Thread nD τ)) Variants.none none Set.univ (k := .ret) hS) $$ H
  iintro H
  iapply (le_wp_ret (M := 𝕄))
  iapply Hk $$ H

/-- A vector store of every lane. -/
theorem l_store {cs : CoreSpace} {s : Shape} {e : EltTy} {m : Memref sig .tc cs s e} {r : Rect s} {w : r.shape.Idx → Elt F e}
    {hx : (m.access r).Stores Finset.univ} {hm : Finset.univ = (Finset.univ : Finset r.shape.Idx) ∨ ∀ a, r.stride a = 1}
    {S : Finset (Idx ((m.access r).loc (c : Thread nD τ)))} {f : Buf (Elt F) ((m.access r).loc (c : Thread nD τ))}
    {Q : PUnit → sProp 𝕄} (hS : (m.access r).setOn Finset.univ ⊆ S) :
    ((m.access r).loc (c : Thread nD τ) ↦[S]{fullShare} f)
      ⊢ iprop((((m.access r).loc (c : Thread nD τ) ↦[S]{fullShare} ((m.access r).write (Elt F) f w Finset.univ)) -∗ Q ⟨⟩) -∗ W (F := F) c (Prog.lift (.store m r w Finset.univ hx hm)) Q) := by
  iintro H Hk
  iapply (wp_store (c := (c : Thread nD τ)) Variants.none none Set.univ (k := .ret) hS) $$ H
  iintro H
  iapply (le_wp_ret (M := 𝕄))
  iapply Hk $$ H

/-- The start of a transfer between two buffers of this device: the flight delivers the destination holding what
    the source holds, and the source. -/
theorem l_enq {sp sp' : Space} {s : Shape} {e : EltTy} {src : Memref sig .tc sp s e} {dst : Memref sig .tc sp' s e} {sm : SemLoc sig}
    {hsrc : src.view.WordExact} {hdst : dst.view.WordExact} {hsem : DmaTarget.Typed (p := .tc) (nD := nD) sp sm (.here dst)}
    {q : PosShare TreeShare} {fs : Buf (Elt F) (src.view.loc (c : Thread nD τ))}
    {Ss : Finset (Idx (src.view.loc (c : Thread nD τ)))}
    {Sd : Finset (Idx (dst.view.loc (c : Thread nD τ)))} {fd : Buf (Elt F) (dst.view.loc (c : Thread nD τ))}
    {Q : PUnit → sProp 𝕄} (N : ℕ) (hN : dst.view.amount sm = N) (hN0 : 0 < N) (hSs : src.view.set = Ss) (hSd : dst.view.set ⊆ Sd)
    {D : sProp 𝕄}
    (hD : iprop((dst.view.loc (c : Thread nD τ) ↦[Sd]{fullShare} (dst.view.write (Elt F) fd (src.view.read (Elt F) fs) Finset.univ)) ∗ (src.view.loc (c : Thread nD τ) ↦[Ss]{q} fs)) ⊢ D) :
    iprop((src.view.loc (c : Thread nD τ) ↦[Ss]{q} fs) ∗ (dst.view.loc (c : Thread nD τ) ↦[Sd]{fullShare} fd) ∗ semVal ((c : Thread nD τ), sm) 0)
      ⊢ iprop((Flight EC (c : Thread nD τ) sm () N D -∗ Q ⟨⟩)
         -∗ W (F := F) c (Prog.lift (.enqueueDma src (.here dst) sm hsrc hdst hsem)) Q) := by
  subst hSs
  iintro H Hk
  iapply (wp_dmaLocal EC (c := (c : Thread nD τ)) Variants.none none (k := .ret) () N hN hN0 hSd) $$ H
  iintro H
  iapply (le_wp_ret (M := 𝕄))
  iapply Hk
  iapply (Flight_mono _ _ hD) $$ H

/-- A wait for a transfer in flight: what it delivers, and its semaphore back at zero. -/
theorem l_wait {sp sp' : Space} {s s' : Shape} {e e' : EltTy} {sem : DmaSem sig}
    {srcw : Memref sig .tc sp' s' e'} {dstw : Memref sig .tc sp s e} {hsrc : srcw.view.WordExact} {hdst : dstw.view.WordExact}
    {Q : PUnit → sProp 𝕄} {N : ℕ} (hN : dstw.view.dmaCredit = N) {D : sProp 𝕄} :
    iprop(Flight EC (c : Thread nD τ) (.dma sem) () N D ∗ (∃ w, owes (c : Thread nD τ) 0 w))
      ⊢ iprop((iprop(D ∗ semVal ((c : Thread nD τ), .dma sem) 0 ∗ (∃ w, owes (c : Thread nD τ) 0 w)) -∗ Q ⟨⟩)
         -∗ W (F := F) c (Prog.lift (.waitDma2 sem srcw dstw hsrc hdst)) Q) := by
  iintro ⟨H, ⟨%w, Ho⟩⟩ Hk
  iapply (wp_waitLocal EC (c := (c : Thread nD τ)) Variants.none none (k := .ret) () hN) $$ [H Ho]
  · isplitl [H] <;> iassumption
  iintro ⟨HD, Hs, Ho⟩
  iapply (le_wp_ret (M := 𝕄))
  iapply Hk
  isplitl [HD]; · iexact HD
  isplitl [Hs]; · iexact Hs
  iexists _; iexact Ho

end Cert.KernelIdeal.Hand
end
-- ==== Proof.KI.Words.lean ====
module
public import proofs.«01_k».proof.Proof.KI.Base
/-!
The integer words the kernel computes: loop bounds, offsets, conditions and side conditions, each as a
natural number under the ranges the loop counters keep.
-/
@[expose] public section
noncomputable section
namespace Cert.KernelIdeal.Hand
open Cert.KernelIdeal Cert.KernelIdeal.Gen
open Idealize.ShloMosaic Idealize.ShloMosaic.TcCoe

/-- The 32-bit word of a natural number. -/
abbrev wd (n : ℕ) : BitVec 32 := BitVec.ofNat 32 n

theorem toNat_wd {n : ℕ} (h : n < 4294967296) : (wd n).toNat = n := by
  simp [wd, BitVec.toNat_ofNat, Nat.mod_eq_of_lt h]
theorem idx_wd {n : ℕ} (h : n < 2147483648) : (Scalar.indexCast (wd n)).toNat = n := by
  first | exact toNat_wd (by omega) | (unfold Scalar.indexCast; simp [wd]; omega)
theorem addi_wd (a b : ℕ) : Scalar.addi (wd a) (wd b) = wd (a + b) := (BitVec.ofNat_add _ _).symm

/-! ## The number of experts with a row -/

/-- One if the word is positive. -/
def pos (s : BitVec 32) : ℕ := if s = 0#32 then 0 else 1

theorem extui_sgt {s : BitVec 32} (h : s.toNat ≤ 256) : (Scalar.extui (Scalar.cmpi .sgt s 0#32) : BitVec 32) = wd (pos s) := by
  obtain ⟨n, hn, rfl⟩ : ∃ n : Fin 257, ∃ _ : True, s = wd n := ⟨⟨s.toNat, by omega⟩, trivial, by simp [wd]⟩
  revert n; decide +kernel

/-- The kernel's running count after the six sizes. -/
def nA (v2 v11 v20 v29 v38 v47 : BitVec 32) : BitVec 32 :=
  Scalar.addi (Scalar.addi (Scalar.addi (Scalar.addi (Scalar.addi (Scalar.addi 0#32
    (Scalar.extui (Scalar.cmpi .sgt v2 0#32))) (Scalar.extui (Scalar.cmpi .sgt v11 0#32)))
    (Scalar.extui (Scalar.cmpi .sgt v20 0#32))) (Scalar.extui (Scalar.cmpi .sgt v29 0#32)))
    (Scalar.extui (Scalar.cmpi .sgt v38 0#32))) (Scalar.extui (Scalar.cmpi .sgt v47 0#32))

section Loops
variable {v2 v11 v20 v29 v38 v47 : BitVec 32} {m : ℕ}

/-- The priming loop's upper bound as a function of the count. -/
def ub1 (v : BitVec 32) : BitVec 32 :=
  Scalar.addi 0#32 (Scalar.muli (Scalar.divsi (Scalar.subi (Scalar.minsi (Scalar.muli v 28#32) 16#32) 0#32) 1#32) 1#32)
/-- The item loop's upper bound as a function of the count. -/
def ub4 (v : BitVec 32) : BitVec 32 :=
  Scalar.addi 0#32 (Scalar.muli (Scalar.divsi (Scalar.subi (Scalar.muli v 28#32) 0#32) 1#32) 1#32)
/-- The remainder loops' final bounds. -/
def ub2 (v : BitVec 32) : BitVec 32 := Scalar.addi 0#32 (Scalar.subi (Scalar.minsi (Scalar.muli v 28#32) 16#32) 0#32)
def ub5 (v : BitVec 32) : BitVec 32 := Scalar.addi 0#32 (Scalar.subi (Scalar.muli v 28#32) 0#32)

theorem t1_loop_eq : k0_t1_loop v2 v11 v20 v29 v38 v47 = ⟨0#32, ub1 (nA v2 v11 v20 v29 v38 v47), 1#32⟩ := rfl
theorem t2_loop_eq : k0_t2_loop v2 v11 v20 v29 v38 v47 = ⟨ub1 (nA v2 v11 v20 v29 v38 v47), ub2 (nA v2 v11 v20 v29 v38 v47), 1#32⟩ := rfl
theorem t4_loop_eq : k0_t4_loop v2 v11 v20 v29 v38 v47 = ⟨0#32, ub4 (nA v2 v11 v20 v29 v38 v47), 1#32⟩ := rfl
theorem t5_loop_eq : k0_t5_loop v2 v11 v20 v29 v38 v47 = ⟨ub4 (nA v2 v11 v20 v29 v38 v47), ub5 (nA v2 v11 v20 v29 v38 v47), 1#32⟩ := rfl

theorem loops_dec : ∀ m : Fin 7, 1 ≤ m.val →
    (Scf.trips 0#32 (ub1 (wd m)) 1#32 = 16 ∧ Scf.OK 0#32 (ub1 (wd m)) 1#32)
    ∧ (Scf.trips (ub1 (wd m)) (ub2 (wd m)) 1#32 = 0 ∧ Scf.OK (ub1 (wd m)) (ub2 (wd m)) 1#32)
    ∧ (Scf.trips 0#32 (ub4 (wd m)) 1#32 = 28 * m ∧ Scf.OK 0#32 (ub4 (wd m)) 1#32)
    ∧ (Scf.trips (ub4 (wd m)) (ub5 (wd m)) 1#32 = 0 ∧ Scf.OK (ub4 (wd m)) (ub5 (wd m)) 1#32) := by
  decide +kernel

theorem t1_trips (hm : nA v2 v11 v20 v29 v38 v47 = wd m) (h1 : 1 ≤ m) (h6 : m ≤ 6) : (k0_t1_loop v2 v11 v20 v29 v38 v47).trips = 16 := by
  rw [t1_loop_eq, hm]; exact (loops_dec ⟨m, by omega⟩ h1).1.1
theorem t2_trips (hm : nA v2 v11 v20 v29 v38 v47 = wd m) (h1 : 1 ≤ m) (h6 : m ≤ 6) : (k0_t2_loop v2 v11 v20 v29 v38 v47).trips = 0 := by
  rw [t2_loop_eq, hm]; exact (loops_dec ⟨m, by omega⟩ h1).2.1.1
theorem t4_trips (hm : nA v2 v11 v20 v29 v38 v47 = wd m) (h1 : 1 ≤ m) (h6 : m ≤ 6) : (k0_t4_loop v2 v11 v20 v29 v38 v47).trips = 28 * m := by
  rw [t4_loop_eq, hm]; exact (loops_dec ⟨m, by omega⟩ h1).2.2.1.1
theorem t5_trips (hm : nA v2 v11 v20 v29 v38 v47 = wd m) (h1 : 1 ≤ m) (h6 : m ≤ 6) : (k0_t5_loop v2 v11 v20 v29 v38 v47).trips = 0 := by
  rw [t5_loop_eq, hm]; exact (loops_dec ⟨m, by omega⟩ h1).2.2.2.1

theorem iv_wd (k : ℕ) : Scf.iv 0#32 1#32 k = wd k := by
  simp [Scf.iv, wd]

theorem off8_eq (k : Fin (k0_t1_loop v2 v11 v20 v29 v38 v47).trips) (hk : k.val < 2147483648) : k0_off8 v2 v11 v20 v29 v38 v47 k = ![k.val] := by
  show ![(Scf.iv 0#32 1#32 k.val).toNat] = _
  rw [iv_wd, toNat_wd (by omega)]
theorem off9_eq (k : Fin (k0_t1_loop v2 v11 v20 v29 v38 v47).trips) (hk : k.val < 2147483648) : k0_off9 v2 v11 v20 v29 v38 v47 k = ![k.val, 0, 0] := by
  show ![(Scf.iv 0#32 1#32 k.val).toNat, 0, 0] = _
  rw [iv_wd, toNat_wd (by omega)]

/-- A word-aligned slot of the weight ring: whole rows and lanes from row zero. -/
theorem ww_w {off : Fin 3 → ℕ} {inb} (h : off 1 = 0) : (Rect.unit (s := S16x4096x512) off S1x4096x512.size inb).WholeWords (EltTy.packing .fp8e4m3) :=
  Or.inr ⟨by decide, rfl, h, rfl⟩
theorem ww_h {off : Fin 3 → ℕ} {inb} (h : off 1 = 0) : (Rect.unit (s := S6x4096x14336) off S1x4096x512.size inb).WholeWords (EltTy.packing .fp8e4m3) :=
  Or.inr ⟨by decide, rfl, h, rfl⟩
theorem ww_o {off : Fin 3 → ℕ} {inb} (h : off 1 = 0) : (Rect.unit (s := S2x256x512) off S1x256x512.size inb).WholeWords (EltTy.packing .bf16) :=
  Or.inr ⟨by decide, rfl, h, rfl⟩
theorem ww_out {off : Fin 2 → ℕ} {inb} (h : off 0 = 0) : (Rect.unit (s := S256x14336) off S256x512.size inb).WholeWords (EltTy.packing .bf16) :=
  Or.inr ⟨by decide, rfl, h, rfl⟩

theorem inb1 {N k : ℕ} (h : k + 1 ≤ N) : ∀ a : Fin 1, (![k] : Fin 1 → ℕ) a + (![1] : Fin 1 → ℕ) a ≤ (![N] : Fin 1 → ℕ) a := by
  intro a; fin_cases a; simpa using h
theorem inb2 {a0 a1 s0 s1 n0 n1 : ℕ} (h0 : a0 + s0 ≤ n0) (h1 : a1 + s1 ≤ n1) :
    ∀ a : Fin 2, (![a0, a1] : Fin 2 → ℕ) a + (![s0, s1] : Fin 2 → ℕ) a ≤ (![n0, n1] : Fin 2 → ℕ) a := by
  intro a; fin_cases a <;> simpa
theorem inb3 {a0 a1 a2 s0 s1 s2 n0 n1 n2 : ℕ} (h0 : a0 + s0 ≤ n0) (h1 : a1 + s1 ≤ n1) (h2 : a2 + s2 ≤ n2) :
    ∀ a : Fin 3, (![a0, a1, a2] : Fin 3 → ℕ) a + (![s0, s1, s2] : Fin 3 → ℕ) a ≤ (![n0, n1, n2] : Fin 3 → ℕ) a := by
  intro a; fin_cases a <;> simpa

theorem chk6_of (hm : nA v2 v11 v20 v29 v38 v47 = wd m) (h1 : 1 ≤ m) (h6 : m ≤ 6) : k0_chk6 v2 v11 v20 v29 v38 v47 := by
  have H := loops_dec ⟨m, by omega⟩ h1
  have ht1 := t1_trips hm h1 h6
  have ht2 := t2_trips hm h1 h6
  refine ⟨?_, ?_, ?_, ?_, ?_, ?_, ?_, ?_, ?_, ?_, ?_⟩
  · show ∀ a : Fin 1, (![(Scalar.indexCast (nA v2 v11 v20 v29 v38 v47)).toNat] : Fin 1 → ℕ) a + _ ≤ _
    rw [hm, idx_wd (by omega)]
    exact inb1 (N := 7) (by omega)
  · rw [t1_loop_eq, hm]; exact H.1.2
  · intro k
    have hk : k.val < 16 := by have := k.isLt; omega
    rw [off8_eq k (by omega)]
    exact inb1 (N := 16) (by omega)
  · intro k
    have hk : k.val < 16 := by have := k.isLt; omega
    rw [off9_eq k (by omega)]
    exact inb3 (n0 := 16) (n1 := 4096) (n2 := 512) (by omega) (by omega) (by omega)
  · intro k hinb
    exact ww_w rfl
  · rw [t2_loop_eq, hm]; exact H.2.1.2
  · intro k; exact absurd k.isLt (by omega)
  · intro k; exact absurd k.isLt (by omega)
  · intro k; exact absurd k.isLt (by omega)
  · rw [t4_loop_eq, hm]; exact H.2.2.1.2
  · rw [t5_loop_eq, hm]; exact H.2.2.2.2

/-- More items remain to be started exactly while the item sixteen ahead exists. -/
theorem cond11_iff (hm : nA v2 v11 v20 v29 v38 v47 = wd m) (h1 : 1 ≤ m) (h6 : m ≤ 6) (k : Fin (k0_t4_loop v2 v11 v20 v29 v38 v47).trips) :
    k0_cond11 v2 v11 v20 v29 v38 v47 k = 1#1 ↔ k.val + 16 < 28 * m := by
  have hk : k.val < 28 * m := lt_of_lt_of_eq k.isLt (t4_trips hm h1 h6)
  have hc : k0_cond11 v2 v11 v20 v29 v38 v47 k
      = Scalar.cmpi .ne (Scalar.extui (Scalar.cmpi .slt (Scalar.addi (Scf.iv 0#32 1#32 k.val) 16#32) (Scalar.muli (nA v2 v11 v20 v29 v38 v47) 28#32)) : BitVec 32) 0#32 := rfl
  rw [hc, hm, iv_wd]
  have hD : ∀ m' : Fin 7, ∀ k' : Fin 168, (Scalar.cmpi .ne (Scalar.extui (Scalar.cmpi .slt (Scalar.addi (wd k'.val) 16#32) (Scalar.muli (wd m'.val) 28#32)) : BitVec 32) 0#32 = 1#1 ↔ k'.val + 16 < 28 * m'.val) := by
    decide +kernel
  exact hD ⟨m, by omega⟩ ⟨k.val, by omega⟩
end Loops

/-! ## The carried words of an item -/

theorem off7_eq {j : ℕ} (h : j < 2147483648) : k0_off7 (wd j) = ![j] := by
  show ![(Scalar.indexCast (wd j)).toNat] = _; rw [idx_wd h]
theorem off75_eq {j : ℕ} (h : j < 2147483648) : k0_off75 (wd j) = ![j] := off7_eq h
theorem off16_eq {j : ℕ} (h : j < 2147483648) : k0_off16 (wd j) = ![j] := off7_eq h
theorem off18_eq {j : ℕ} (h : j < 2147483648) : k0_off18 (wd j) = ![j] := off7_eq h
theorem off17_eq {j : ℕ} (h : j < 2147483647) : k0_off17 (wd j) = ![j + 1] := by
  show ![(Scalar.indexCast (Scalar.addi (wd j) (wd 1))).toNat] = _; rw [addi_wd, idx_wd (by omega)]

theorem muli512 {n : ℕ} (h : n < 28) : (Scalar.muli (wd n) 512#32).toNat = 512 * n := by
  have : ∀ n : Fin 28, (Scalar.muli (wd n.val) 512#32).toNat = 512 * n.val := by decide +kernel
  exact this ⟨n, h⟩
theorem off10_eq {n e : ℕ} (h : n < 28) (he : e < 6) : k0_off10 (wd n) (wd e) = ![e, 0, 512 * n] := by
  show ![(wd e).toNat, 0, (Scalar.muli (wd n) 512#32).toNat] = _
  rw [muli512 h, toNat_wd (by omega)]
theorem off21_eq {n e : ℕ} (h : n < 28) (he : e < 6) : k0_off21 (wd n) (wd e) = ![e, 0, 512 * n] := off10_eq h he
theorem off78_eq {n e : ℕ} (h : n < 28) (he : e < 6) : k0_off78 (wd n) (wd e) = ![e, 0, 512 * n] := off10_eq h he
theorem off19_eq {k : ℕ} (h : k < 16) : k0_off19 (wd k) = ![k] := by
  show ![(wd k).toNat] = _; rw [toNat_wd (by omega)]
theorem off76_eq {k : ℕ} (h : k < 16) : k0_off76 (wd k) = ![k] := off19_eq h
theorem off20_eq {k : ℕ} (h : k < 16) : k0_off20 (wd k) = ![k, 0, 0] := by
  show ![(wd k).toNat, 0, 0] = _; rw [toNat_wd (by omega)]
theorem off77_eq {k : ℕ} (h : k < 16) : k0_off77 (wd k) = ![k, 0, 0] := off20_eq h

theorem chk7_of {n : ℕ} (h : n < 28) : k0_chk7 (wd n) := by
  show 512 ∣ (Scalar.muli (wd n) 512#32).toNat; rw [muli512 h]; exact ⟨n, rfl⟩
theorem chk14_of {n : ℕ} (h : n < 28) : k0_chk14 (wd n) := chk7_of h
theorem chk8_of {j : ℕ} (h : j < 7) : k0_chk8 (wd j) := by
  show ∀ a, (k0_off7 (wd j)) a + _ ≤ _; rw [off7_eq (by omega)]; exact inb1 (N := 7) (by omega)
theorem chk9_of {n e : ℕ} (h : n < 28) (he : e < 6) : k0_chk9 (wd n) (wd e) := by
  refine ⟨?_, fun _ => ww_h rfl⟩
  rw [off10_eq h he]; exact inb3 (n0 := 6) (n1 := 4096) (n2 := 14336) (by omega) (by omega) (by omega)
theorem chk16_of {n e : ℕ} (h : n < 28) (he : e < 6) : k0_chk16 (wd n) (wd e) := chk9_of h he

section T4
variable {v2 v11 v20 v29 v38 v47 : BitVec 32} (t : Fin (k0_t4_loop v2 v11 v20 v29 v38 v47).trips)

theorem chk19_of {j : ℕ} (h : j < 7) : k0_chk19 v2 v11 v20 v29 v38 v47 t (wd j) := fun _ => chk8_of h
theorem chk18_of {n : ℕ} (h : k0_cond11 v2 v11 v20 v29 v38 v47 t = 1#1 → n < 28) : k0_chk18 v2 v11 v20 v29 v38 v47 t (wd n) := fun hc => chk7_of (h hc)
theorem chk20_of {n e : ℕ} (h : n < 28) (he : e < 6) : k0_chk20 v2 v11 v20 v29 v38 v47 t (wd n) (wd e) := ⟨fun _ => (chk9_of h he).1, fun _ => (chk9_of h he).2⟩
theorem chk15_of {k : ℕ} (h : k < 16) : k0_chk15 v2 v11 v20 v29 v38 v47 t (wd k) := by
  have h1 : ∀ a, (k0_off19 (wd k)) a + S1.size a ≤ S16.size a := by rw [off19_eq h]; exact inb1 (N := 16) (by omega)
  have h2 : ∀ a, (k0_off20 (wd k)) a + S1x4096x512.size a ≤ S16x4096x512.size a := by
    rw [off20_eq h]; exact inb3 (n0 := 16) (n1 := 4096) (n2 := 512) (by omega) (by omega) (by omega)
  exact ⟨h1, h2, fun _ => ww_w rfl, fun _ => h1, fun _ => h2, fun _ _ => ww_w rfl⟩
end T4

/-! ## The output block's words -/

theorem cond1_iff {n j : ℕ} (hn : n < 28) (hj : j < 6) : k0_cond1 (wd n) (wd j) = 1#1 ↔ (j = 0 ∧ 1 ≤ n) := by
  have : ∀ n : Fin 28, ∀ j : Fin 6, k0_cond1 (wd n.val) (wd j.val) = 1#1 ↔ (j.val = 0 ∧ 1 ≤ n.val) := by decide +kernel
  exact this ⟨n, hn⟩ ⟨j, hj⟩
theorem cond2_iff {n j : ℕ} (hn : n < 28) (hj : j < 6) : k0_cond2 (wd n) (wd j) = 1#1 ↔ (j = 0 ∧ 2 ≤ n) := by
  have : ∀ n : Fin 28, ∀ j : Fin 6, k0_cond2 (wd n.val) (wd j.val) = 1#1 ↔ (j.val = 0 ∧ 2 ≤ n.val) := by decide +kernel
  exact this ⟨n, hn⟩ ⟨j, hj⟩
theorem off22_eq {n : ℕ} (hn : n < 28) (h : 1 ≤ n) : k0_off22 (wd n) = ![(n - 1) % 2] := by
  have : ∀ n : Fin 28, 1 ≤ n.val → k0_off22 (wd n.val) = ![(n.val - 1) % 2] := by decide +kernel
  exact this ⟨n, hn⟩ h
theorem off23_eq {n : ℕ} (hn : n < 28) (h : 1 ≤ n) : k0_off23 (wd n) = ![0, 512 * (n - 1)] := by
  have : ∀ n : Fin 28, 1 ≤ n.val → k0_off23 (wd n.val) = ![0, 512 * (n.val - 1)] := by decide +kernel
  exact this ⟨n, hn⟩ h
theorem off24_eq {n : ℕ} (hn : n < 28) (h : 1 ≤ n) : k0_off24 (wd n) = ![(n - 1) % 2, 0, 0] := by
  have : ∀ n : Fin 28, 1 ≤ n.val → k0_off24 (wd n.val) = ![(n.val - 1) % 2, 0, 0] := by decide +kernel
  exact this ⟨n, hn⟩ h
theorem off25_eq {n : ℕ} (hn : n < 28) (h : 2 ≤ n) : k0_off25 (wd n) = ![(n - 2) % 2] := by
  have : ∀ n : Fin 28, 2 ≤ n.val → k0_off25 (wd n.val) = ![(n.val - 2) % 2] := by decide +kernel
  exact this ⟨n, hn⟩ h
theorem off26_eq {n : ℕ} (hn : n < 28) (h : 2 ≤ n) : k0_off26 (wd n) = ![0, 512 * (n - 2)] := by
  have : ∀ n : Fin 28, 2 ≤ n.val → k0_off26 (wd n.val) = ![0, 512 * (n.val - 2)] := by decide +kernel
  exact this ⟨n, hn⟩ h
theorem off27_eq {n : ℕ} (hn : n < 28) (h : 2 ≤ n) : k0_off27 (wd n) = ![(n - 2) % 2, 0, 0] := by
  have : ∀ n : Fin 28, 2 ≤ n.val → k0_off27 (wd n.val) = ![(n.val - 2) % 2, 0, 0] := by decide +kernel
  exact this ⟨n, hn⟩ h

theorem chk13_of {n j : ℕ} (hn : n < 28) (hj : j < 6) : k0_chk13 (wd n) (wd j) := by
  have c1 := cond1_iff hn hj
  have c2 := cond2_iff hn hj
  have m8 : ∀ n : Fin 28, 512 ∣ (k0_mult8 (wd n.val)).toNat := by decide +kernel
  have m9 : ∀ n : Fin 28, 512 ∣ (k0_mult9 (wd n.val)).toNat := by decide +kernel
  refine ⟨chk8_of (by omega), ?_, chk8_of (by omega), fun h => m8 ⟨n, hn⟩, fun h => ?_, fun h => ?_, fun h => ?_, fun h _ => ww_o rfl, fun h _ => ww_out rfl,
    fun h => m9 ⟨n, hn⟩, fun h => ?_, fun h => ?_, fun h => ?_, fun h _ => ww_o rfl, fun h _ => ww_out rfl⟩
  · rw [off17_eq (by omega)]; exact inb1 (N := 7) (by omega)
  · rw [off22_eq hn (c1.1 h).2]; exact inb1 (N := 2) (by omega)
  · rw [off23_eq hn (c1.1 h).2]; exact inb2 (n0 := 256) (n1 := 14336) (by omega) (by omega)
  · rw [off24_eq hn (c1.1 h).2]; exact inb3 (n0 := 2) (n1 := 256) (n2 := 512) (by omega) (by omega) (by omega)
  · rw [off25_eq hn (c2.1 h).2]; exact inb1 (N := 2) (by omega)
  · rw [off26_eq hn (c2.1 h).2]; exact inb2 (n0 := 256) (n1 := 14336) (by omega) (by omega)
  · rw [off27_eq hn (c2.1 h).2]; exact inb3 (n0 := 2) (n1 := 256) (n2 := 512) (by omega) (by omega) (by omega)

/-! ## The tiles of one expert's rows -/

/-- The start of an expert's rows rounded down to a multiple of 32, as the kernel computes it. -/
def bw (v : BitVec 32) : BitVec 32 := Scalar.andi v 4294967264#32
theorem bw_wd {S : ℕ} (h : S ≤ 256) : bw (wd S) = wd (S / 32 * 32) := by
  have : ∀ S : Fin 257, bw (wd S.val) = wd (S.val / 32 * 32) := by decide +kernel
  exact this ⟨S, by omega⟩
theorem bwi {S : ℕ} (h : S ≤ 256) : (Scalar.indexCast (bw (wd S))).toNat = S / 32 * 32 := by
  rw [bw_wd h, idx_wd (by omega)]
theorem bwi32 {S : ℕ} (h : S ≤ 256) : (Scalar.indexCast (Scalar.addi (bw (wd S)) 32#32)).toNat = S / 32 * 32 + 32 := by
  rw [bw_wd h, show (32#32 : BitVec 32) = wd 32 from rfl, addi_wd, idx_wd (by omega)]
theorem nmod {n : ℕ} (h : n < 28) : (Scalar.indexCast (Scalar.remsi (wd n) 2#32)).toNat = n % 2 := by
  have : ∀ n : Fin 28, (Scalar.indexCast (Scalar.remsi (wd n.val) 2#32)).toNat = n.val % 2 := by decide +kernel
  exact this ⟨n, h⟩
theorem mul0 {n : ℕ} (h : n < 28) : (Scalar.indexCast (Scalar.addi (Scalar.muli (wd n) 512#32) 0#32)).toNat = 512 * n := by
  have : ∀ n : Fin 28, (Scalar.indexCast (Scalar.addi (Scalar.muli (wd n.val) 512#32) 0#32)).toNat = 512 * n.val := by decide +kernel
  exact this ⟨n, h⟩

/-- The kernel's test that an expert's rows take exactly `t` tiles. -/
def condT (t v v' : BitVec 32) : BitVec 1 :=
  Scalar.cmpi .ne (Scalar.extui (Scalar.cmpi .eq (Scalar.shrsi (Scalar.addi (Scalar.subi v' (bw v)) 31#32) 5#32) t) : BitVec 32) 0#32

theorem condT_iff {S S' t : ℕ} (h : S < S') (h' : S' ≤ 256) (ht : t < 9) : condT (wd t) (wd S) (wd S') = 1#1 ↔ (S' - S / 32 * 32 + 31) / 32 = t := by
  have hs : Scalar.addi (Scalar.subi (wd S') (bw (wd S))) 31#32 = wd (S' - S / 32 * 32 + 31) := by
    rw [bw_wd (by omega)]
    have : Scalar.subi (wd S') (wd (S / 32 * 32)) = wd (S' - S / 32 * 32) := by
      apply BitVec.eq_of_toNat_eq
      show (wd S' - wd (S / 32 * 32)).toNat = _
      rw [BitVec.toNat_sub, toNat_wd (by omega), toNat_wd (by omega), toNat_wd (by omega)]
      omega
    rw [this]; exact addi_wd _ 31
  have hD : ∀ x : Fin 320, ∀ t : Fin 9, (Scalar.cmpi .ne (Scalar.extui (Scalar.cmpi .eq (Scalar.shrsi (wd x.val) 5#32) (wd t.val)) : BitVec 32) 0#32 = 1#1 ↔ x.val / 32 = t.val) := by
    decide +kernel
  unfold condT
  rw [hs]
  exact hD ⟨_, by omega⟩ ⟨t, ht⟩

theorem inbX {R b : ℕ} (h : b + R ≤ 256) : ∀ a : Fin 2, (![b, 0] : Fin 2 → ℕ) a + (![R, 4096] : Fin 2 → ℕ) a ≤ (![256, 4096] : Fin 2 → ℕ) a := inb2 h (by omega)
theorem inbO {R s b : ℕ} (hs : s < 2) (h : b + R ≤ 256) : ∀ a : Fin 3, (![s, b, 0] : Fin 3 → ℕ) a + (![1, R, 512] : Fin 3 → ℕ) a ≤ (![2, 256, 512] : Fin 3 → ℕ) a :=
  inb3 (by omega) h (by omega)
/-- An even row offset and an even number of rows keep the packed pairs of rows together. -/
theorem pr_o {off size : Fin 3 → ℕ} {inb} (h : 2 ∣ off 1) (h' : 2 ∣ size 1) : (Rect.unit (s := S2x256x512) off size inb).PackedRows (EltTy.packing .bf16) :=
  Or.inr ⟨by decide, rfl, Or.inl ⟨h, h'⟩⟩

theorem chk17_of {n k e S S' : ℕ} (hn : n < 28) (hk : k < 16) (he : e < 6) (h : S < S') (h' : S' ≤ 256) : k0_chk17 (wd n) (wd k) (wd e) (wd S) (wd S') := by
  have hS : S ≤ 256 := by omega
  have mul : 32 ∣ (bw (wd S)).toNat := by rw [bw_wd hS, toNat_wd (by omega)]; omega
  have mul512 : 512 ∣ (Scalar.addi (Scalar.muli (wd n) 512#32) 0#32).toNat := by
    have : ∀ n : Fin 28, 512 ∣ (Scalar.addi (Scalar.muli (wd n.val) 512#32) 0#32).toNat := by decide +kernel
    exact this ⟨n, hn⟩
  have hx : ∀ R, S / 32 * 32 + R ≤ 256 → ∀ a : Fin 2, (![(Scalar.indexCast (bw (wd S))).toNat, 0] : Fin 2 → ℕ) a + (![R, 4096] : Fin 2 → ℕ) a ≤ (![256, 4096] : Fin 2 → ℕ) a := by
    intro R hR; rw [bwi hS]; exact inbX hR
  have hw : ∀ a : Fin 3, (![(Scalar.indexCast (wd k)).toNat, 0, 0] : Fin 3 → ℕ) a + (![1, 4096, 512] : Fin 3 → ℕ) a ≤ (![16, 4096, 512] : Fin 3 → ℕ) a := by
    rw [idx_wd (by omega)]; exact inb3 (by omega) (by omega) (by omega)
  have hxs : ∀ a : Fin 1, (![(Scalar.indexCast (wd e)).toNat] : Fin 1 → ℕ) a + (![1] : Fin 1 → ℕ) a ≤ (![6] : Fin 1 → ℕ) a := by
    rw [idx_wd (by omega)]; exact inb1 (by omega)
  have hws : ∀ a : Fin 2, (![(Scalar.indexCast (wd e)).toNat, (Scalar.indexCast (Scalar.addi (Scalar.muli (wd n) 512#32) 0#32)).toNat] : Fin 2 → ℕ) a + (![1, 512] : Fin 2 → ℕ) a ≤ (![6, 14336] : Fin 2 → ℕ) a := by
    rw [idx_wd (by omega), mul0 hn]; exact inb2 (by omega) (by omega)
  have ho : ∀ R, S / 32 * 32 + R ≤ 256 → ∀ a : Fin 3, (![(Scalar.indexCast (Scalar.remsi (wd n) 2#32)).toNat, (Scalar.indexCast (bw (wd S))).toNat, 0] : Fin 3 → ℕ) a + (![1, R, 512] : Fin 3 → ℕ) a ≤ (![2, 256, 512] : Fin 3 → ℕ) a := by
    intro R hR; rw [bwi hS, nmod hn]; exact inbO (by omega) hR
  have ho32 : ∀ R, S / 32 * 32 + 32 + R ≤ 256 → ∀ a : Fin 3, (![(Scalar.indexCast (Scalar.remsi (wd n) 2#32)).toNat, (Scalar.indexCast (Scalar.addi (bw (wd S)) 32#32)).toNat, 0] : Fin 3 → ℕ) a + (![1, R, 512] : Fin 3 → ℕ) a ≤ (![2, 256, 512] : Fin 3 → ℕ) a := by
    intro R hR; rw [bwi32 hS, nmod hn]; exact inbO (by omega) hR
  have ev : 2 ∣ (Scalar.indexCast (bw (wd S))).toNat := by rw [bwi hS]; omega
  have ev32 : 2 ∣ (Scalar.indexCast (Scalar.addi (bw (wd S)) 32#32)).toNat := by rw [bwi32 hS]; omega
  have hT : ∀ t, t < 9 → condT (wd t) (wd S) (wd S') = 1#1 → S / 32 * 32 + 32 * t ≤ 256 := by
    intro t ht hc; have := (condT_iff h h' ht).1 hc; omega
  exact ⟨⟨fun _ => mul,
      fun c => hx 32 (hT 1 (by decide) c),
      fun _ => hw,
      fun _ => mul512,
      fun _ => hxs,
      fun _ => hws,
      fun c => ho 32 (by have := (hT 1 (by decide) c); omega),
      fun _ _ => pr_o ev (by decide),
      fun _ => mul,
      fun c => hx 64 (hT 2 (by decide) c),
      fun _ => hw,
      fun _ => mul512,
      fun _ => hxs,
      fun _ => hws,
      fun c => ho 32 (by have := (hT 2 (by decide) c); omega),
      fun _ _ => pr_o ev (by decide),
      fun c => ho32 32 (by have := (hT 2 (by decide) c); omega),
      fun _ _ => pr_o ev32 (by decide),
      fun _ => mul,
      fun c => hx 96 (hT 3 (by decide) c),
      fun _ => hw,
      fun _ => mul512,
      fun _ => hxs,
      fun _ => hws,
      fun c => ho 32 (by have := (hT 3 (by decide) c); omega),
      fun _ _ => pr_o ev (by decide),
      fun c => ho32 64 (by have := (hT 3 (by decide) c); omega),
      fun _ _ => pr_o ev32 (by decide),
      fun _ => mul,
      fun c => hx 128 (hT 4 (by decide) c),
      fun _ => hw,
      fun _ => mul512⟩,
    ⟨fun _ => hxs,
      fun _ => hws,
      fun c => ho 32 (by have := (hT 4 (by decide) c); omega),
      fun _ _ => pr_o ev (by decide),
      fun c => ho32 96 (by have := (hT 4 (by decide) c); omega),
      fun _ _ => pr_o ev32 (by decide),
      fun _ => mul,
      fun c => hx 160 (hT 5 (by decide) c),
      fun _ => hw,
      fun _ => mul512,
      fun _ => hxs,
      fun _ => hws,
      fun c => ho 32 (by have := (hT 5 (by decide) c); omega),
      fun _ _ => pr_o ev (by decide),
      fun c => ho32 128 (by have := (hT 5 (by decide) c); omega),
      fun _ _ => pr_o ev32 (by decide),
      fun _ => mul,
      fun c => hx 192 (hT 6 (by decide) c),
      fun _ => hw,
      fun _ => mul512,
      fun _ => hxs,
      fun _ => hws,
      fun c => ho 32 (by have := (hT 6 (by decide) c); omega),
      fun _ _ => pr_o ev (by decide),
      fun c => ho32 160 (by have := (hT 6 (by decide) c); omega),
      fun _ _ => pr_o ev32 (by decide),
      fun _ => mul,
      fun c => hx 224 (hT 7 (by decide) c),
      fun _ => hw,
      fun _ => mul512,
      fun _ => hxs,
      fun _ => hws⟩,
    ⟨fun c => ho 32 (by have := (hT 7 (by decide) c); omega),
      fun _ _ => pr_o ev (by decide),
      fun c => ho32 192 (by have := (hT 7 (by decide) c); omega),
      fun _ _ => pr_o ev32 (by decide),
      fun _ => mul,
      fun c => hx 256 (hT 8 (by decide) c),
      fun _ => hw,
      fun _ => mul512,
      fun _ => hxs,
      fun _ => hws,
      fun c => ho 32 (by have := (hT 8 (by decide) c); omega),
      fun _ _ => pr_o ev (by decide),
      fun c => ho32 224 (by have := (hT 8 (by decide) c); omega),
      fun _ _ => pr_o ev32 (by decide)⟩⟩

/-! ## Advancing the carried words -/

theorem adv_n {n j m : ℕ} (hj : j < m) (hm : m ≤ 6) (hn : n < 100) :
    Scalar.select (Scalar.cmpi .eq (Scalar.addi (wd j) 1#32) (wd m)) (Scalar.addi (wd n) 1#32) (wd n) = wd (if j + 1 = m then n + 1 else n) := by
  have : ∀ m : Fin 7, ∀ j : Fin 6, Scalar.cmpi .eq (Scalar.addi (wd j.val) 1#32) (wd m.val) = if j.val + 1 = m.val then 1#1 else 0#1 := by decide +kernel
  rw [this ⟨m, by omega⟩ ⟨j, by omega⟩]
  show Scalar.select (if j + 1 = m then 1#1 else 0#1) _ _ = _
  by_cases h : j + 1 = m
  · rw [if_pos h, if_pos h]; exact addi_wd n 1
  · rw [if_neg h, if_neg h]; rfl
theorem adv_j {j m : ℕ} (hj : j < m) (hm : m ≤ 6) :
    Scalar.select (Scalar.cmpi .eq (Scalar.addi (wd j) 1#32) (wd m)) 0#32 (Scalar.addi (wd j) 1#32) = wd (if j + 1 = m then 0 else j + 1) := by
  have : ∀ m : Fin 7, ∀ j : Fin 6, Scalar.select (Scalar.cmpi .eq (Scalar.addi (wd j.val) 1#32) (wd m.val)) 0#32 (Scalar.addi (wd j.val) 1#32) = wd (if j.val + 1 = m.val then 0 else j.val + 1) := by decide +kernel
  exact this ⟨m, by omega⟩ ⟨j, by omega⟩
theorem adv_k {k : ℕ} (hk : k < 16) :
    Scalar.select (Scalar.cmpi .eq (Scalar.addi (wd k) 1#32) 16#32) 0#32 (Scalar.addi (wd k) 1#32) = wd ((k + 1) % 16) := by
  have : ∀ k : Fin 16, Scalar.select (Scalar.cmpi .eq (Scalar.addi (wd k.val) 1#32) 16#32) 0#32 (Scalar.addi (wd k.val) 1#32) = wd ((k.val + 1) % 16) := by decide +kernel
  exact this ⟨k, hk⟩
theorem div_succ {i m : ℕ} (hm : 1 ≤ m) : (i + 1) / m = if i % m + 1 = m then i / m + 1 else i / m := by
  rw [Nat.succ_div]
  have := Nat.mod_lt i hm
  by_cases h : i % m + 1 = m
  · rw [if_pos h, if_pos (Nat.dvd_of_mod_eq_zero (by rw [Nat.add_mod]; by_cases h1 : m = 1; · subst h1; simp [Nat.mod_one]
                                                     rw [Nat.mod_eq_of_lt (show 1 < m by omega), h, Nat.mod_self]))]
  · rw [if_neg h, if_neg]
    · rfl
    · intro hd
      have h0 := Nat.mod_eq_zero_of_dvd hd
      rw [Nat.add_mod] at h0
      by_cases h1 : m = 1
      · subst h1; omega
      rw [Nat.mod_eq_of_lt (show 1 < m by omega), Nat.mod_eq_of_lt (by omega)] at h0
      omega
theorem mod_succ {i m : ℕ} (hm : 1 ≤ m) : (i + 1) % m = if i % m + 1 = m then 0 else i % m + 1 := by
  have := Nat.mod_lt i hm
  rw [Nat.add_mod]
  by_cases h1 : m = 1
  · subst h1; simp [Nat.mod_one]
  rw [Nat.mod_eq_of_lt (show 1 < m by omega)]
  by_cases h : i % m + 1 = m
  · rw [if_pos h, h, Nat.mod_self]
  · rw [if_neg h, Nat.mod_eq_of_lt (by omega)]

end Cert.KernelIdeal.Hand
end
-- ==== Proof.KI.Tables.lean ====
module
public import proofs.«01_k».proof.Proof.KI.Words
public import Idealize.ShloMosaic.Lib.ValueIdxCore
/-!
The two tables the kernel builds in scalar memory — the experts that have a row, and where each one's rows
start — and the invariant of the code that fills them.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

/-- The index of place `j` of a table of seven. -/
def i7 (j : ℕ) : S7.Idx := ix1 (⟨j % 7, Nat.mod_lt _ (by decide)⟩ : Fin 7)
/-- The index of place `j` of a table of six. -/
def i6 (j : ℕ) : S6.Idx := ix1 (⟨j % 6, Nat.mod_lt _ (by decide)⟩ : Fin 6)

/-- A table of seven with one place replaced. -/
def set7 (f : S7.Idx → BitVec 32) (j : ℕ) (v : BitVec 32) : S7.Idx → BitVec 32 := fun i => if (i 0).val = j then v else f i
theorem set7_same {f : S7.Idx → BitVec 32} {j : ℕ} (v : BitVec 32) (h : j < 7) : set7 f j v (i7 j) = v := by
  unfold set7 i7; rw [if_pos]; exact Nat.mod_eq_of_lt h
theorem set7_ne {f : S7.Idx → BitVec 32} {j k : ℕ} (v : BitVec 32) (h : k < 7) (hne : k ≠ j) : set7 f j v (i7 k) = f (i7 k) := by
  unfold set7; rw [if_neg]; show ¬ k % 7 = j; rw [Nat.mod_eq_of_lt h]; exact hne

variable (c : Dev nD)

/-- The one index of a single-element shape is zero. -/
theorem first_zero (j : ℕ) {h : 0 < S1.numel} : j + 1 * (Shape.Idx.first h (0 : Fin 1)).val = j := by
  have : (Shape.Idx.first h (0 : Fin 1)).val < 1 := (Shape.Idx.first h (0 : Fin 1)).isLt
  omega

/-- Reading place `j` of the table of experts. -/
theorem l_act {o : Fin 1 → ℕ} {inb} {h1} {h2} {j : ℕ} (ho : o = ![j]) {f : S7.Idx → BitVec 32} {Q : BitVec 32 → sProp 𝕄} :
    ((actM.view.loc (c : Thread nD τ)) ↦[Finset.univ]{fullShare} f)
      ⊢ iprop((((actM.view.loc (c : Thread nD τ)) ↦[Finset.univ]{fullShare} f) -∗ Q (f (i7 j)))
        -∗ W (F := F) c (smemLoad actM (Rect.unit (s := S7) o S1.size inb) h1 h2) Q) := by
  subst ho
  have hj : j < 7 := by have := inb 0; exact this
  have H := l_smem (F := F) c (m := actM) (r := Rect.unit (s := S7) ![j] S1.size inb) (hw := View.loads_smem_one h2 h1)
    (x := Shape.Idx.first (h1.symm ▸ Nat.one_pos)) (S := Finset.univ) (q := fullShare) (f := f) (Q := Q) (Finset.subset_univ _)
  have e : (actM.access (Rect.unit (s := S7) ![j] S1.size inb)).read (Elt F) f (Shape.Idx.first (h1.symm ▸ Nat.one_pos)) = f (i7 j) := by
    show f _ = f _
    congr 1; funext a; fin_cases a; apply Fin.ext
    show j + 1 * _ = j % 7
    rw [Nat.mod_eq_of_lt hj]; exact first_zero j
  rw [e] at H
  exact H
/-- Reading place `j` of the table of row starts. -/
theorem l_start {o : Fin 1 → ℕ} {inb} {h1} {h2} {j : ℕ} (ho : o = ![j]) {f : S7.Idx → BitVec 32} {Q : BitVec 32 → sProp 𝕄} :
    ((startM.view.loc (c : Thread nD τ)) ↦[Finset.univ]{fullShare} f)
      ⊢ iprop((((startM.view.loc (c : Thread nD τ)) ↦[Finset.univ]{fullShare} f) -∗ Q (f (i7 j)))
        -∗ W (F := F) c (smemLoad startM (Rect.unit (s := S7) o S1.size inb) h1 h2) Q) := by
  subst ho
  have hj : j < 7 := by have := inb 0; exact this
  have H := l_smem (F := F) c (m := startM) (r := Rect.unit (s := S7) ![j] S1.size inb) (hw := View.loads_smem_one h2 h1)
    (x := Shape.Idx.first (h1.symm ▸ Nat.one_pos)) (S := Finset.univ) (q := fullShare) (f := f) (Q := Q) (Finset.subset_univ _)
  have e : (startM.access (Rect.unit (s := S7) ![j] S1.size inb)).read (Elt F) f (Shape.Idx.first (h1.symm ▸ Nat.one_pos)) = f (i7 j) := by
    show f _ = f _
    congr 1; funext a; fin_cases a; apply Fin.ext
    show j + 1 * _ = j % 7
    rw [Nat.mod_eq_of_lt hj]; exact first_zero j
  rw [e] at H
  exact H
/-- Reading size `j`. -/
theorem l_gs {o : Fin 1 → ℕ} {inb} {h1} {h2} {j : ℕ} (ho : o = ![j]) {f : S6.Idx → BitVec 32} {Q : BitVec 32 → sProp 𝕄} :
    ((gsM.view.loc (c : Thread nD τ)) ↦[Finset.univ]{fullShare} f)
      ⊢ iprop((((gsM.view.loc (c : Thread nD τ)) ↦[Finset.univ]{fullShare} f) -∗ Q (f (i6 j)))
        -∗ W (F := F) c (smemLoad gsM (Rect.unit (s := S6) o S1.size inb) h1 h2) Q) := by
  subst ho
  have hj : j < 6 := by have := inb 0; exact this
  have H := l_smem (F := F) c (m := gsM) (r := Rect.unit (s := S6) ![j] S1.size inb) (hw := View.loads_smem_one h2 h1)
    (x := Shape.Idx.first (h1.symm ▸ Nat.one_pos)) (S := Finset.univ) (q := fullShare) (f := f) (Q := Q) (Finset.subset_univ _)
  have e : (gsM.access (Rect.unit (s := S6) ![j] S1.size inb)).read (Elt F) f (Shape.Idx.first (h1.symm ▸ Nat.one_pos)) = f (i6 j) := by
    show f _ = f _
    congr 1; funext a; fin_cases a; apply Fin.ext
    show j + 1 * _ = j % 6
    rw [Nat.mod_eq_of_lt hj]; exact first_zero j
  rw [e] at H
  exact H
/-- Reading activation scale `j`. -/
theorem l_xs {o : Fin 1 → ℕ} {inb} {h1} {h2} {j : ℕ} (ho : o = ![j]) {f : S6.Idx → F .f32} {Q : F .f32 → sProp 𝕄} :
    ((xsM.view.loc (c : Thread nD τ)) ↦[Finset.univ]{fullShare} f)
      ⊢ iprop((((xsM.view.loc (c : Thread nD τ)) ↦[Finset.univ]{fullShare} f) -∗ Q (f (i6 j)))
        -∗ W (F := F) c (smemLoad xsM (Rect.unit (s := S6) o S1.size inb) h1 h2) Q) := by
  subst ho
  have hj : j < 6 := by have := inb 0; exact this
  have H := l_smem (F := F) c (m := xsM) (r := Rect.unit (s := S6) ![j] S1.size inb) (hw := View.loads_smem_one h2 h1)
    (x := Shape.Idx.first (h1.symm ▸ Nat.one_pos)) (S := Finset.univ) (q := fullShare) (f := f) (Q := Q) (Finset.subset_univ _)
  have e : (xsM.access (Rect.unit (s := S6) ![j] S1.size inb)).read (Elt F) f (Shape.Idx.first (h1.symm ▸ Nat.one_pos)) = f (i6 j) := by
    show f _ = f _
    congr 1; funext a; fin_cases a; apply Fin.ext
    show j + 1 * _ = j % 6
    rw [Nat.mod_eq_of_lt hj]; exact first_zero j
  rw [e] at H
  exact H

/-- What a store of one word into a table of seven leaves. -/
theorem set7_of {o : Fin 1 → ℕ} {inb} {j : ℕ} (ho : o = ![j]) (f : S7.Idx → BitVec 32) (v : BitVec 32) :
    (actM.access (Rect.unit (s := S7) o S1.size inb)).write (Elt F) f (fun _ => v) Finset.univ = set7 f j v := by
  subst ho
  funext i
  by_cases h : (i 0).val = j
  · have hi : i = (actM.access (Rect.unit (s := S7) ![j] S1.size inb)).emb (ix1 (0 : Fin 1)) := by
      funext a; fin_cases a; apply Fin.ext; show (i 0).val = j + 1 * 0; omega
    rw [show set7 f j v i = v from if_pos h]
    rw [hi]
    exact View.write_emb_of_mem _ _ (Finset.mem_univ _)
  · rw [show set7 f j v i = f i from if_neg h]
    refine View.write_of_not_mem _ _ _ ?_
    intro hm
    apply h
    obtain ⟨x, -, e⟩ := Finset.mem_map.mp hm
    rw [← e]
    show j + 1 * (x 0).val = j
    have : (x 0).val < 1 := (x 0).isLt
    omega

/-- The same for the table of row starts. -/
theorem set7_of' {o : Fin 1 → ℕ} {inb} {j : ℕ} (ho : o = ![j]) (f : S7.Idx → BitVec 32) (v : BitVec 32) :
    (startM.access (Rect.unit (s := S7) o S1.size inb)).write (Elt F) f (fun _ => v) Finset.univ = set7 f j v := by
  subst ho
  funext i
  by_cases h : (i 0).val = j
  · have hi : i = (startM.access (Rect.unit (s := S7) ![j] S1.size inb)).emb (ix1 (0 : Fin 1)) := by
      funext a; fin_cases a; apply Fin.ext; show (i 0).val = j + 1 * 0; omega
    rw [show set7 f j v i = v from if_pos h]
    rw [hi]
    exact View.write_emb_of_mem _ _ (Finset.mem_univ _)
  · rw [show set7 f j v i = f i from if_neg h]
    refine View.write_of_not_mem _ _ _ ?_
    intro hm
    apply h
    obtain ⟨x, -, e⟩ := Finset.mem_map.mp hm
    rw [← e]
    show j + 1 * (x 0).val = j
    have : (x 0).val < 1 := (x 0).isLt
    omega

/-- Writing place `j` of the table of experts. -/
theorem s_act {o : Fin 1 → ℕ} {inb} {h1} {h2} {j : ℕ} (ho : o = ![j]) {f : S7.Idx → BitVec 32} {v : BitVec 32} {Q : PUnit → sProp 𝕄} :
    ((actM.view.loc (c : Thread nD τ)) ↦[Finset.univ]{fullShare} f)
      ⊢ iprop((((actM.view.loc (c : Thread nD τ)) ↦[Finset.univ]{fullShare} (set7 f j v)) -∗ Q ⟨⟩)
        -∗ W (F := F) c (Prog.lift (.store actM (Rect.unit (s := S7) o S1.size inb) (fun _ => v) Finset.univ h1 h2)) Q) := by
  have H := l_store (F := F) c (m := actM) (r := Rect.unit (s := S7) o S1.size inb) (w := fun _ => v) (hx := h1) (hm := h2)
    (S := Finset.univ) (f := f) (Q := Q) (Finset.subset_univ _)
  have e : (actM.access (Rect.unit (s := S7) o S1.size inb)).write (Elt F) f (fun _ => v) Finset.univ = set7 f j v := set7_of (F := F) ho f v
  rw [e] at H
  exact H
/-- Writing place `j` of the table of row starts. -/
theorem s_start {o : Fin 1 → ℕ} {inb} {h1} {h2} {j : ℕ} (ho : o = ![j]) {f : S7.Idx → BitVec 32} {v : BitVec 32} {Q : PUnit → sProp 𝕄} :
    ((startM.view.loc (c : Thread nD τ)) ↦[Finset.univ]{fullShare} f)
      ⊢ iprop((((startM.view.loc (c : Thread nD τ)) ↦[Finset.univ]{fullShare} (set7 f j v)) -∗ Q ⟨⟩)
        -∗ W (F := F) c (Prog.lift (.store startM (Rect.unit (s := S7) o S1.size inb) (fun _ => v) Finset.univ h1 h2)) Q) := by
  have H := l_store (F := F) c (m := startM) (r := Rect.unit (s := S7) o S1.size inb) (w := fun _ => v) (hx := h1) (hm := h2)
    (S := Finset.univ) (f := f) (Q := Q) (Finset.subset_univ _)
  have e : (startM.access (Rect.unit (s := S7) o S1.size inb)).write (Elt F) f (fun _ => v) Finset.univ = set7 f j v := set7_of' (F := F) ho f v
  rw [e] at H
  exact H

/-! ## What the tables hold -/

/-- The number of the first `e` experts with a row. -/
def nAct (g : ℕ → ℕ) : ℕ → ℕ
  | 0 => 0
  | e + 1 => nAct g e + (if g e = 0 then 0 else 1)
/-- The number of rows of the first `e` experts. -/
def nRow (g : ℕ → ℕ) : ℕ → ℕ
  | 0 => 0
  | e + 1 => nRow g e + g e

theorem nAct_le (g : ℕ → ℕ) : ∀ e, nAct g e ≤ e
  | 0 => le_rfl
  | e + 1 => by have := nAct_le g e; simp only [nAct]; split <;> omega
theorem nRow_zero {g : ℕ → ℕ} : ∀ {e}, nAct g e = 0 → nRow g e = 0
  | 0, _ => rfl
  | e + 1, h => by
      simp only [nAct] at h
      split at h
      · rename_i h0; simp only [nRow]; rw [h0, nRow_zero (e := e) (by omega)]
      · omega

/-- After the first `e` experts: each expert with a row has its place, holding its number, where its rows start
    and (in the next place) where they end; the next free place is written with what comes next. -/
structure TabInv (g : ℕ → ℕ) (e : ℕ) (fa fs : S7.Idx → BitVec 32) : Prop where
  done : ∀ j, j < nAct g e → ∃ e' < e, 0 < g e' ∧ nAct g e' = j ∧ fa (i7 j) = wd e' ∧ fs (i7 j) = wd (nRow g e') ∧ fs (i7 (j + 1)) = wd (nRow g (e' + 1))
  cur : fs (i7 (nAct g e)) = wd (nRow g e)
  act : e < 6 → fa (i7 (nAct g e)) = wd e
  zero : fs (i7 0) = wd 0

theorem TabInv.init (g : ℕ → ℕ) (fa fs : S7.Idx → BitVec 32) : TabInv g 0 (set7 fa 0 (wd 0)) (set7 fs 0 (wd 0)) where
  done := fun j hj => absurd hj (Nat.not_lt_zero _)
  cur := set7_same _ (by decide)
  act := fun _ => set7_same _ (by decide)
  zero := set7_same _ (by decide)

/-- One expert's step; the last expert does not write the table of experts. -/
theorem TabInv.step {g : ℕ → ℕ} {e : ℕ} {fa fs : S7.Idx → BitVec 32} (h : TabInv g e fa fs) (he : e < 6) {fa' : S7.Idx → BitVec 32}
    (hfa : fa' = set7 fa (nAct g (e + 1)) (wd (e + 1)) ∨ (e = 5 ∧ fa' = fa)) :
    TabInv g (e + 1) fa' (set7 fs (nAct g (e + 1)) (wd (nRow g (e + 1)))) := by
  have hle := nAct_le g e
  have hle' := nAct_le g (e + 1)
  have hfa_lt : ∀ j, j < nAct g (e + 1) → fa' (i7 j) = fa (i7 j) := by
    intro j hj
    rcases hfa with rfl | ⟨_, rfl⟩
    · exact set7_ne _ (by omega) (by omega)
    · rfl
  refine ⟨?_, set7_same _ (by omega), ?_, ?_⟩
  · intro j hj
    by_cases hj' : j < nAct g e
    · obtain ⟨e', he', hg, hA, ha, hs, hs'⟩ := h.done j hj'
      refine ⟨e', by omega, hg, hA, by rw [hfa_lt j hj]; exact ha, ?_, ?_⟩
      · rw [set7_ne _ (by omega) (by omega)]; exact hs
      · by_cases hj1 : j + 1 = nAct g (e + 1)
        · rw [hj1, set7_same _ (by omega)]
          have hg0 : g e = 0 := by
            by_contra hc; simp only [nAct, if_neg hc] at hj1; omega
          have hn : nAct g (e + 1) = nAct g e := by simp only [nAct, if_pos hg0]; omega
          have hc := h.cur
          rw [← hn, ← hj1, hs'] at hc
          rw [hc]; simp only [nRow]; rw [hg0]; rfl
        · rw [set7_ne _ (by omega) hj1]; exact hs'
    · have hge : g e ≠ 0 := by
        intro hc; simp only [nAct, if_pos hc] at hj; omega
      have hn : nAct g (e + 1) = nAct g e + 1 := by simp only [nAct, if_neg hge]
      have hjj : j = nAct g e := by omega
      subst hjj
      refine ⟨e, by omega, by omega, rfl, by rw [hfa_lt _ hj]; exact h.act he, ?_, ?_⟩
      · rw [set7_ne _ (by omega) (by omega)]; exact h.cur
      · rw [← hn, set7_same _ (by omega)]
  · intro he6
    rcases hfa with rfl | ⟨h5, _⟩
    · exact set7_same _ (by omega)
    · omega
  · by_cases h0 : nAct g (e + 1) = 0
    · rw [h0, nRow_zero h0]; exact set7_same _ (by omega)
    · rw [set7_ne _ (by omega) (by omega)]; exact h.zero

/-- The finished tables: `m` experts have a row, place `j` names expert `E j`, whose rows are `S j … S (j+1)`. -/
structure Tab (g : ℕ → ℕ) (fa fs : S7.Idx → BitVec 32) (m : ℕ) (E S : ℕ → ℕ) : Prop where
  one : 1 ≤ m
  six : m ≤ 6
  fa : ∀ j, j < m → fa (i7 j) = wd (E j)
  fs : ∀ j, j ≤ m → fs (i7 j) = wd (S j)
  E_lt : ∀ j, j < m → E j < 6
  S_zero : S 0 = 0
  S_last : S m = 256
  S_lt : ∀ j, j < m → S j < S (j + 1)
  S_le : ∀ j, j ≤ m → S j ≤ 256
  lo : ∀ j, j < m → S j = nRow g (E j)
  hi : ∀ j, j < m → S (j + 1) = nRow g (E j + 1)

theorem nRow_mono {g : ℕ → ℕ} {a b : ℕ} (h : a ≤ b) : nRow g a ≤ nRow g b := by
  induction b, h using Nat.le_induction with
  | base => exact le_rfl
  | succ b _ ih => exact ih.trans (Nat.le_add_right _ _)

theorem TabInv.final {g : ℕ → ℕ} {fa fs : S7.Idx → BitVec 32} (h : TabInv g 6 fa fs) (hsum : nRow g 6 = 256) :
    Tab g fa fs (nAct g 6) (fun j => (fa (i7 j)).toNat) (fun j => (fs (i7 j)).toNat) := by
  have hm6 := nAct_le g 6
  have hw : ∀ x : BitVec 32, x = wd x.toNat := fun x => by simp [wd]
  have hmono : ∀ e, e ≤ 6 → nRow g e ≤ 256 := fun e he => hsum ▸ nRow_mono he
  have hS : ∀ j, j < nAct g 6 → ∃ e' < 6, 0 < g e' ∧ (fa (i7 j)).toNat = e' ∧ (fs (i7 j)).toNat = nRow g e' ∧ (fs (i7 (j + 1))).toNat = nRow g (e' + 1) := by
    intro j hj
    obtain ⟨e', he', hg, hA, ha, hs, hs'⟩ := h.done j hj
    refine ⟨e', he', hg, ?_, ?_, ?_⟩
    · rw [ha, toNat_wd (by omega)]
    · rw [hs, toNat_wd (by have := hmono e' (by omega); omega)]
    · rw [hs', toNat_wd (by have := hmono (e' + 1) (by omega); omega)]
  have hlast : (fs (i7 (nAct g 6))).toNat = 256 := by rw [h.cur, hsum, toNat_wd (by omega)]
  refine ⟨?_, hm6, fun j _ => hw _, fun j _ => hw _, ?_, ?_, hlast, ?_, ?_, ?_, ?_⟩
  · by_contra hc
    have := nRow_zero (g := g) (e := 6) (by omega)
    omega
  · intro j hj; obtain ⟨e', he', _, h1, _⟩ := hS j hj; omega
  · show (fs (i7 0)).toNat = 0; rw [h.zero]; rfl
  · intro j hj
    obtain ⟨e', he', hg, _, h2, h3⟩ := hS j hj
    show (fs (i7 j)).toNat < (fs (i7 (j + 1))).toNat
    rw [h2, h3]; simp only [nRow]; omega
  · intro j hj
    rcases Nat.lt_or_ge j (nAct g 6) with hj' | hj'
    · obtain ⟨e', he', hg, _, h2, h3⟩ := hS j hj'
      show (fs (i7 j)).toNat ≤ 256
      rw [h2]; exact hmono e' (by omega)
    · have : j = nAct g 6 := by omega
      subst this; exact hlast.le
  · intro j hj; obtain ⟨e', he', _, h1, h2, _⟩ := hS j hj
    show (fs (i7 j)).toNat = nRow g (fa (i7 j)).toNat
    rw [h1, h2]
  · intro j hj; obtain ⟨e', he', _, h1, _, h3⟩ := hS j hj
    show (fs (i7 (j + 1))).toNat = nRow g ((fa (i7 j)).toNat + 1)
    rw [h1, h3]

end Cert.KernelIdeal.Hand
end
-- ==== Proof.KI.Dma.lean ====
module
public import proofs.«01_k».proof.Proof.KI.Tables
public import Idealize.ShloMosaic.Lib.ValueLayout
/-!
The kernel's own transfers: one slot of the weight ring filled from one block of one expert's weights, and one
finished output block drained to the result. Each is stated by what it needs and what it delivers.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

/-- Slot `k` of the weight ring. -/
def wslot (k : ℕ) : Finset S16x4096x512.Idx := Finset.univ.filter fun i => (i 0).val = k
/-- Column block `n` of expert `e`'s weights. -/
def wblk (e n : ℕ) : Finset S6x4096x14336.Idx := Finset.univ.filter fun i => (i 0).val = e ∧ 512 * n ≤ (i 2).val ∧ (i 2).val < 512 * n + 512
/-- Slot `s` of the output double buffer. -/
def oslot (s : ℕ) : Finset S2x256x512.Idx := Finset.univ.filter fun i => (i 0).val = s
/-- Column block `n` of the result. -/
def oblk (n : ℕ) : Finset S256x14336.Idx := Finset.univ.filter fun i => 512 * n ≤ (i 1).val ∧ (i 1).val < 512 * n + 512

/-- The index of expert `e`'s weight at row `a`, column `b`. -/
def wix (e : ℕ) (a : Fin 4096) (b : ℕ) : S6x4096x14336.Idx := ix3 (⟨e % 6, Nat.mod_lt _ (by decide)⟩ : Fin 6) a (⟨b % 14336, Nat.mod_lt _ (by decide)⟩ : Fin 14336)
/-- The index of the result at row `a`, column `b`. -/
def oix (a : Fin 256) (b : ℕ) : S256x14336.Idx := ix2 a (⟨b % 14336, Nat.mod_lt _ (by decide)⟩ : Fin 14336)

/-- Slot `k` of the ring holds block `n` of expert `e`. -/
def IsW (fw : S6x4096x14336.Idx → Elt F .fp8e4m3) (k e n : ℕ) (f : S16x4096x512.Idx → Elt F .fp8e4m3) : Prop :=
  ∀ i : S16x4096x512.Idx, (i 0).val = k → f i = fw (wix e (i 1) (512 * n + (i 2).val))
/-- Rows below `R` of slot `s` of the output buffer are good for block `n`. -/
def IsO (Good : S256x14336.Idx → Elt F .bf16 → Prop) (s n R : ℕ) (f : S2x256x512.Idx → Elt F .bf16) : Prop :=
  ∀ i : S2x256x512.Idx, (i 0).val = s → (i 1).val < R → Good (oix (i 1) (512 * n + (i 2).val)) (f i)

/-- The semaphore of ring slot `k`. -/
abbrev wcell (k : Fin 16) : DmaSem sig := ((cc0_scratch13.slice (Rect.unit (s := S16) ![k.val] S1.size (inb1 (N := 16) k.isLt))).squeeze S_ squeezes_S1_S_).sem
/-- The semaphore of output slot `s`. -/
abbrev ocell (s : Fin 2) : DmaSem sig := ((cc0_scratch14.slice (Rect.unit (s := S2) ![s.val] S1.size (inb1 (N := 2) s.isLt))).squeeze S_ squeezes_S1_S_).sem

theorem inbW (k : Fin 16) : ∀ a, (![k.val, 0, 0] : Fin 3 → ℕ) a + S1x4096x512.size a ≤ S16x4096x512.size a :=
  inb3 (n0 := 16) (n1 := 4096) (n2 := 512) k.isLt (by omega) (by omega)
theorem inbWH {e n : ℕ} (he : e < 6) (hn : n < 28) : ∀ a, (![e, 0, 512 * n] : Fin 3 → ℕ) a + S1x4096x512.size a ≤ S6x4096x14336.size a :=
  inb3 (n0 := 6) (n1 := 4096) (n2 := 14336) he (by omega) (by omega)

/-- Ring slot `k` as a matrix. -/
abbrev wdst {o : Fin 3 → ℕ} (h : ∀ a, o a + S1x4096x512.size a ≤ S16x4096x512.size a) : Memref sig .tc .vmem S4096x512 .fp8e4m3 :=
  (wM.slice (Rect.unit (s := S16x4096x512) o S1x4096x512.size h) (fun _ => rfl)).squeeze S4096x512 squeezes_S1x4096x512_S4096x512
/-- A block of an expert's weights as a matrix. -/
abbrev wsrc {o : Fin 3 → ℕ} (h : ∀ a, o a + S1x4096x512.size a ≤ S6x4096x14336.size a) : Memref sig .tc .hbm S4096x512 .fp8e4m3 :=
  (wH.slice (Rect.unit (s := S6x4096x14336) o S1x4096x512.size h) (fun _ => rfl)).squeeze S4096x512 squeezes_S1x4096x512_S4096x512
/-- Output slot `s` as a matrix. -/
abbrev osrc {o : Fin 3 → ℕ} (h : ∀ a, o a + S1x256x512.size a ≤ S2x256x512.size a) : Memref sig .tc .vmem S256x512 .bf16 :=
  (oM.slice (Rect.unit (s := S2x256x512) o S1x256x512.size h) (fun _ => rfl)).squeeze S256x512 squeezes_S1x256x512_S256x512
/-- A block of the result. -/
abbrev odst {o : Fin 2 → ℕ} (h : ∀ a, o a + S256x512.size a ≤ S256x14336.size a) : Memref sig .tc .hbm S256x512 .bf16 :=
  outH.slice (Rect.unit (s := S256x14336) o S256x512.size h) (fun _ => rfl)

theorem wdst_set {k : ℕ} (h) : (wdst (o := ![k, 0, 0]) h).view.set = wslot k := by
  refine (View.set_reshape _ _).trans ((View.set_slice_whole _ _).trans ?_)
  ext i
  rw [Rect.mem_set_unit]
  simp only [wslot, Finset.mem_filter, Finset.mem_univ, _root_.true_and]
  have h1 : (i 1).val < 4096 := (i 1).isLt
  have h2 : (i 2).val < 512 := (i 2).isLt
  constructor
  · intro H
    have := H 0
    have a1 : k ≤ (i 0).val := this.1
    have a2 : (i 0).val < k + 1 := this.2
    omega
  · intro H a
    fin_cases a
    · exact ⟨(by show k ≤ (i 0).val; omega), (by show (i 0).val < k + 1; omega)⟩
    · exact ⟨Nat.zero_le _, (by show (i 1).val < 0 + 4096; omega)⟩
    · exact ⟨Nat.zero_le _, (by show (i 2).val < 0 + 512; omega)⟩
theorem wsrc_set {e n : ℕ} (h) : (wsrc (o := ![e, 0, 512 * n]) h).view.set = wblk e n := by
  refine (View.set_reshape _ _).trans ((View.set_slice_whole _ _).trans ?_)
  ext i
  rw [Rect.mem_set_unit]
  simp only [wblk, Finset.mem_filter, Finset.mem_univ, _root_.true_and]
  have h1 : (i 1).val < 4096 := (i 1).isLt
  constructor
  · intro H
    have a1 : e ≤ (i 0).val := (H 0).1
    have a2 : (i 0).val < e + 1 := (H 0).2
    have b1 : 512 * n ≤ (i 2).val := (H 2).1
    have b2 : (i 2).val < 512 * n + 512 := (H 2).2
    omega
  · intro H a
    fin_cases a
    · exact ⟨(by show e ≤ (i 0).val; omega), (by show (i 0).val < e + 1; omega)⟩
    · exact ⟨Nat.zero_le _, (by show (i 1).val < 0 + 4096; omega)⟩
    · exact ⟨(by show 512 * n ≤ (i 2).val; omega), (by show (i 2).val < 512 * n + 512; omega)⟩
theorem osrc_set {s : ℕ} (h) : (osrc (o := ![s, 0, 0]) h).view.set = oslot s := by
  refine (View.set_reshape _ _).trans ((View.set_slice_whole _ _).trans ?_)
  ext i
  rw [Rect.mem_set_unit]
  simp only [oslot, Finset.mem_filter, Finset.mem_univ, _root_.true_and]
  have h1 : (i 1).val < 256 := (i 1).isLt
  have h2 : (i 2).val < 512 := (i 2).isLt
  constructor
  · intro H
    have a1 : s ≤ (i 0).val := (H 0).1
    have a2 : (i 0).val < s + 1 := (H 0).2
    omega
  · intro H a
    fin_cases a
    · exact ⟨(by show s ≤ (i 0).val; omega), (by show (i 0).val < s + 1; omega)⟩
    · exact ⟨Nat.zero_le _, (by show (i 1).val < 0 + 256; omega)⟩
    · exact ⟨Nat.zero_le _, (by show (i 2).val < 0 + 512; omega)⟩
theorem odst_set {n : ℕ} (h) : (odst (o := ![0, 512 * n]) h).view.set = oblk n := by
  refine (View.set_slice_whole _ _).trans ?_
  ext i
  rw [Rect.mem_set_unit]
  simp only [oblk, Finset.mem_filter, Finset.mem_univ, _root_.true_and]
  have h0 : (i 0).val < 256 := (i 0).isLt
  constructor
  · intro H
    have b1 : 512 * n ≤ (i 1).val := (H 1).1
    have b2 : (i 1).val < 512 * n + 512 := (H 1).2
    omega
  · intro H a
    fin_cases a
    · exact ⟨Nat.zero_le _, (by show (i 0).val < 0 + 256; omega)⟩
    · exact ⟨(by show 512 * n ≤ (i 1).val; omega), (by show (i 1).val < 512 * n + 512; omega)⟩

theorem wdst_emb {k : Fin 16} (h) (x : Fin 4096) (y : Fin 512) : (wdst (o := ![k.val, 0, 0]) h).view.emb (ix2 x y) = ix3 k x y := by
  show (Rect.unit (s := S16x4096x512) ![k.val, 0, 0] S1x4096x512.size h).emb (Shape.reshapeEquiv _ (ix2 x y)) = _
  rw [reshapeEquiv_ix2_1ab]
  funext a
  fin_cases a
  · apply Fin.ext; show k.val + 1 * 0 = k.val; omega
  · apply Fin.ext; show 0 + 1 * x.val = x.val; omega
  · apply Fin.ext; show 0 + 1 * y.val = y.val; omega
theorem wsrc_emb {e n : ℕ} (he : e < 6) (hn : n < 28) (h) (x : Fin 4096) (y : Fin 512) : (wsrc (o := ![e, 0, 512 * n]) h).view.emb (ix2 x y) = wix e x (512 * n + y.val) := by
  show (Rect.unit (s := S6x4096x14336) ![e, 0, 512 * n] S1x4096x512.size h).emb (Shape.reshapeEquiv _ (ix2 x y)) = _
  rw [reshapeEquiv_ix2_1ab]
  funext a
  have hy := y.isLt
  fin_cases a
  · apply Fin.ext; show e + 1 * 0 = e % 6; rw [Nat.mod_eq_of_lt he]; omega
  · apply Fin.ext; show 0 + 1 * x.val = x.val; omega
  · apply Fin.ext; show 512 * n + 1 * y.val = (512 * n + y.val) % 14336; rw [Nat.mod_eq_of_lt (by omega)]; omega
theorem osrc_emb {s : Fin 2} (h) (x : Fin 256) (y : Fin 512) : (osrc (o := ![s.val, 0, 0]) h).view.emb (ix2 x y) = ix3 s x y := by
  show (Rect.unit (s := S2x256x512) ![s.val, 0, 0] S1x256x512.size h).emb (Shape.reshapeEquiv _ (ix2 x y)) = _
  rw [reshapeEquiv_ix2_1ab]
  funext a
  fin_cases a
  · apply Fin.ext; show s.val + 1 * 0 = s.val; omega
  · apply Fin.ext; show 0 + 1 * x.val = x.val; omega
  · apply Fin.ext; show 0 + 1 * y.val = y.val; omega
theorem odst_emb {n : ℕ} (hn : n < 28) (h) (x : Fin 256) (y : Fin 512) : (odst (o := ![0, 512 * n]) h).view.emb (ix2 x y) = oix x (512 * n + y.val) := by
  have hy := y.isLt
  funext a
  fin_cases a
  · apply Fin.ext; show 0 + 1 * x.val = x.val; omega
  · apply Fin.ext; show 512 * n + 1 * y.val = (512 * n + y.val) % 14336; rw [Nat.mod_eq_of_lt (by omega)]; omega

/-- A filled slot holds the block it was filled from. -/
theorem isW_of (fw : S6x4096x14336.Idx → Elt F .fp8e4m3) {k : Fin 16} {e n : ℕ} (he : e < 6) (hn : n < 28) (h h') (f : S16x4096x512.Idx → Elt F .fp8e4m3) :
    IsW fw k.val e n ((wdst (o := ![k.val, 0, 0]) h).view.write (Elt F) f ((wsrc (o := ![e, 0, 512 * n]) h').view.read (Elt F) fw) Finset.univ) := by
  intro i hi
  let x : Fin 4096 := i 1
  let y : Fin 512 := i 2
  have hx : i = (wdst (o := ![k.val, 0, 0]) h).view.emb (ix2 x y) := by
    refine Eq.trans ?_ (wdst_emb h x y).symm
    funext a
    fin_cases a
    · exact Fin.ext hi
    · rfl
    · rfl
  refine (congrArg ((wdst (o := ![k.val, 0, 0]) h).view.write (Elt F) f ((wsrc (o := ![e, 0, 512 * n]) h').view.read (Elt F) fw) Finset.univ) hx).trans ?_
  refine (View.write_emb_of_mem (v := (wdst (o := ![k.val, 0, 0]) h).view) f _ (Finset.mem_univ (ix2 x y))).trans ?_
  exact congrArg fw (wsrc_emb he hn h' x y)
/-- A drained block holds what the output slot held. -/
theorem good_of {Good : S256x14336.Idx → Elt F .bf16 → Prop} {s : Fin 2} {n : ℕ} (hn : n < 28)
    (h : ∀ a, (![0, 512 * n] : Fin 2 → ℕ) a + S256x512.size a ≤ S256x14336.size a) (h' : ∀ a, (![s.val, 0, 0] : Fin 3 → ℕ) a + S1x256x512.size a ≤ S2x256x512.size a) {f : S2x256x512.Idx → Elt F .bf16}
    (hf : IsO (F := F) Good s.val n 256 f) (g : S256x14336.Idx → Elt F .bf16) :
    ∀ i : S256x14336.Idx, i ∈ oblk n →
      Good i ((show S256x14336.Idx → Elt F .bf16 from (odst (o := ![0, 512 * n]) h).view.write (Elt F) g ((osrc (o := ![s.val, 0, 0]) h').view.read (Elt F) f) Finset.univ) i) := by
  intro i hi
  have hi' := (Finset.mem_filter.mp hi).2
  let x : Fin 256 := i 0
  let y : Fin 512 := ⟨(i 1).val - 512 * n, by omega⟩
  have hy : y.val = (i 1).val - 512 * n := rfl
  have h1 : (i 1).val < 14336 := (i 1).isLt
  have hio : i = oix x (512 * n + y.val) := by
    funext a
    fin_cases a
    · rfl
    · apply Fin.ext; show (i 1).val = (512 * n + y.val) % 14336; rw [Nat.mod_eq_of_lt (by omega)]; omega
  have hx : i = (odst (o := ![0, 512 * n]) h).view.emb (ix2 x y) := hio.trans (odst_emb hn h x y).symm
  have e1 : (show S256x14336.Idx → Elt F .bf16 from (odst (o := ![0, 512 * n]) h).view.write (Elt F) g ((osrc (o := ![s.val, 0, 0]) h').view.read (Elt F) f) Finset.univ) i = f (ix3 s x y) := by
    refine (congrArg ((odst (o := ![0, 512 * n]) h).view.write (Elt F) g ((osrc (o := ![s.val, 0, 0]) h').view.read (Elt F) f) Finset.univ) hx).trans ?_
    refine (View.write_emb_of_mem (v := (odst (o := ![0, 512 * n]) h).view) g _ (Finset.mem_univ (ix2 x y))).trans ?_
    exact congrArg f (osrc_emb h' x y)
  refine Eq.subst (motive := fun v => Good i v) e1.symm ?_
  have := hf (ix3 s x y) rfl x.isLt
  rw [hio]
  exact this

/-! ## The weight ring's slots -/

/-- What one transfer into the ring counts. -/
def NW : ℕ := (wdst (inbW 0)).view.dmaCredit
theorem NW_pos : 0 < NW := View.dmaCredit_pos _ (by decide)
/-- What one transfer out of the output buffer counts. -/
def NO : ℕ := (odst (o := ![0, 0]) (inb2 (n0 := 256) (n1 := 14336) (by omega) (by omega))).view.dmaCredit
theorem NO_pos : 0 < NO := View.dmaCredit_pos _ (by decide)

variable (c : Dev nD) (fw : S6x4096x14336.Idx → Elt F .fp8e4m3)

/-- A share of the weights over the elements `s`, the `k`-th of sixteen. -/
abbrev wShare (k : Fin 16) (s : Finset S6x4096x14336.Idx) : sProp 𝕄 := (wH.view.loc (c : Thread nD τ) ↦[s]{shareTok fullShare 16 k} fw)

/-- A slot at rest: its semaphore at zero, its contents whatever, and its share of the weights. -/
def freeW (k : Fin 16) : sProp 𝕄 :=
  iprop(semVal ((c : Thread nD τ), .dma (wcell k)) 0 ∗ (∃ f, (wM.view.loc (c : Thread nD τ) ↦[wslot k.val]{fullShare} f)) ∗ wShare c fw k Finset.univ)
/-- A slot at rest holding block `n` of expert `e`. -/
def holdW (k : Fin 16) (e n : ℕ) : sProp 𝕄 :=
  iprop(semVal ((c : Thread nD τ), .dma (wcell k)) 0 ∗ (∃ f, (wM.view.loc (c : Thread nD τ) ↦[wslot k.val]{fullShare} f) ∗ ⌜IsW fw k.val e n f⌝) ∗ wShare c fw k Finset.univ)
/-- A slot being filled with block `n` of expert `e`. -/
def inflW (k : Fin 16) (e n : ℕ) : sProp 𝕄 :=
  iprop(Flight EC (c : Thread nD τ) (.dma (wcell k)) () NW iprop((∃ f, (wM.view.loc (c : Thread nD τ) ↦[wslot k.val]{fullShare} f) ∗ ⌜IsW fw k.val e n f⌝) ∗ wShare c fw k (wblk e n))
    ∗ wShare c fw k (Finset.univ \ wblk e n))

theorem holdW_free (k : Fin 16) (e n : ℕ) : holdW c fw k e n ⊢ freeW c fw k := by
  unfold holdW freeW
  iintro ⟨Hs, ⟨%f, H, _⟩, Hw⟩
  isplitl [Hs]; · iexact Hs
  isplitl [H]
  · iexists f; iexact H
  · iexact Hw

/-- Starting a slot's transfer. -/
theorem w_enq {k : Fin 16} {e n : ℕ} (he : e < 6) (hn : n < 28) {o8 : Fin 1 → ℕ} {o9 o10 : Fin 3 → ℕ} {h8 h9 h10} {hsrc hdst hsem}
    (e8 : o8 = ![k.val]) (e9 : o9 = ![k.val, 0, 0]) (e10 : o10 = ![e, 0, 512 * n]) {Q : PUnit → sProp 𝕄} :
    freeW c fw k ⊢ iprop((inflW c fw k e n -∗ Q ⟨⟩)
      -∗ W (F := F) c (Prog.lift (.enqueueDma (wsrc (o := o10) h10) (.here (wdst (o := o9) h9))
          (.dma ((cc0_scratch13.slice (Rect.unit (s := S16) o8 S1.size h8)).squeeze S_ squeezes_S1_S_).sem) hsrc hdst hsem)) Q) := by
  subst e8 e9 e10
  unfold freeW inflW
  iintro ⟨Hs, ⟨%f, H⟩, Hw⟩ Hk
  ihave Hw2 := (show wShare c fw k Finset.univ ⊢ iprop(wShare c fw k (wblk e n) ∗ wShare c fw k (Finset.univ \ wblk e n)) from (pointsTo_split_subset (Finset.subset_univ _)).1) $$ Hw
  icases Hw2 with ⟨Hb, Hr⟩
  iapply (l_enq (F := F) c (src := wsrc (o := ![e, 0, 512 * n]) h10) (dst := wdst (o := ![k.val, 0, 0]) h9) (sm := .dma (wcell k)) NW rfl NW_pos (wsrc_set h10) (subset_of_eq (wdst_set h9))
    (q := shareTok fullShare 16 k) (fs := fw) (fd := f)
    (D := iprop((∃ f, (wM.view.loc (c : Thread nD τ) ↦[wslot k.val]{fullShare} f) ∗ ⌜IsW fw k.val e n f⌝) ∗ wShare c fw k (wblk e n))) ?_) $$ [Hb H Hs]
  · iintro ⟨H1, H2⟩
    isplitl [H1]
    · iexists _
      isplitl [H1]; · iexact H1
      ipureintro
      exact isW_of fw he hn h9 h10 f
    · iexact H2
  · isplitl [Hb]; · iexact Hb
    isplitl [H]; · iexact H
    iexact Hs
  iintro HF
  iapply Hk
  isplitl [HF]; · iexact HF
  iexact Hr

/-- Waiting for a slot's transfer. -/
theorem w_wait {k : Fin 16} {e n : ℕ} {o8 : Fin 1 → ℕ} {o9 o10 : Fin 3 → ℕ} {h8 h9 h10} {hsrc hdst}
    (e8 : o8 = ![k.val]) (e9 : o9 = ![k.val, 0, 0]) {Q : PUnit → sProp 𝕄} :
    iprop(inflW c fw k e n ∗ (∃ w, owes (c : Thread nD τ) 0 w)) ⊢ iprop((iprop(holdW c fw k e n ∗ (∃ w, owes (c : Thread nD τ) 0 w)) -∗ Q ⟨⟩)
      -∗ W (F := F) c (Prog.lift (.waitDma2 ((cc0_scratch13.slice (Rect.unit (s := S16) o8 S1.size h8)).squeeze S_ squeezes_S1_S_).sem
          (wsrc (o := o10) h10) (wdst (o := o9) h9) hsrc hdst)) Q) := by
  subst e8 e9
  unfold holdW inflW
  iintro ⟨⟨HF, Hr⟩, Ho⟩ Hk
  iapply (l_wait (F := F) c (srcw := wsrc (o := o10) h10) (dstw := wdst (o := ![k.val, 0, 0]) h9) (hsrc := hsrc) (hdst := hdst) (N := NW) rfl) $$ [HF Ho]
  · isplitl [HF]; · iexact HF
    iexact Ho
  iintro ⟨⟨Hf, Hb⟩, Hs, Ho⟩
  iapply Hk
  isplitr [Ho]
  · isplitl [Hs]; · iexact Hs
    isplitl [Hf]; · iexact Hf
    iapply (show iprop(wShare c fw k (wblk e n) ∗ wShare c fw k (Finset.univ \ wblk e n)) ⊢ wShare c fw k Finset.univ from (pointsTo_split_subset (Finset.subset_univ _)).2)
    isplitl [Hb]; · iexact Hb
    iexact Hr
  · iexact Ho

/-! ## The output buffer's slots -/

/-- An output slot in hand, its contents whatever. -/
abbrev oAny (s : ℕ) : sProp 𝕄 := iprop(∃ f, (oM.view.loc (c : Thread nD τ) ↦[oslot s]{fullShare} f))
/-- A set of result elements, each good. -/
def outGood (Good : S256x14336.Idx → Elt F .bf16 → Prop) (s : Finset S256x14336.Idx) : sProp 𝕄 :=
  iprop(∃ g, (outH.view.loc (c : Thread nD τ) ↦[s]{fullShare} g) ∗ ⌜∀ i ∈ s, Good i (g i)⌝)
/-- Block `n` on its way from slot `s` to the result. -/
def inflO (Good : S256x14336.Idx → Elt F .bf16 → Prop) (s : Fin 2) (n : ℕ) : sProp 𝕄 :=
  Flight EC (c : Thread nD τ) (.dma (ocell s)) () NO iprop(outGood c Good (oblk n) ∗ oAny c s.val)

/-- Starting an output block's transfer. -/
theorem o_enq {Good : S256x14336.Idx → Elt F .bf16 → Prop} {s : Fin 2} {n : ℕ} (hn : n < 28) {o8 : Fin 1 → ℕ} {o9 : Fin 3 → ℕ} {o10 : Fin 2 → ℕ} {h8 h9 h10} {hsrc hdst hsem}
    (e8 : o8 = ![s.val]) (e9 : o9 = ![s.val, 0, 0]) (e10 : o10 = ![0, 512 * n]) {f : S2x256x512.Idx → Elt F .bf16} {g : S256x14336.Idx → Elt F .bf16}
    (hf : IsO (F := F) Good s.val n 256 f) {Q : PUnit → sProp 𝕄} :
    iprop((oM.view.loc (c : Thread nD τ) ↦[oslot s.val]{fullShare} f) ∗ (outH.view.loc (c : Thread nD τ) ↦[oblk n]{fullShare} g) ∗ semVal ((c : Thread nD τ), .dma (ocell s)) 0)
      ⊢ iprop((inflO (F := F) c Good s n -∗ Q ⟨⟩)
      -∗ W (F := F) c (Prog.lift (.enqueueDma (osrc (o := o9) h9) (.here (odst (o := o10) h10))
          (.dma ((cc0_scratch14.slice (Rect.unit (s := S2) o8 S1.size h8)).squeeze S_ squeezes_S1_S_).sem) hsrc hdst hsem)) Q) := by
  subst e8 e9 e10
  unfold inflO outGood
  iintro ⟨H, Hg, Hs⟩ Hk
  iapply (l_enq (F := F) c (src := osrc (o := ![s.val, 0, 0]) h9) (dst := odst (o := ![0, 512 * n]) h10) (sm := .dma (ocell s)) NO rfl NO_pos (osrc_set h9) (subset_of_eq (odst_set h10))
    (q := fullShare) (fs := f) (fd := g)
    (D := iprop((∃ g, (outH.view.loc (c : Thread nD τ) ↦[oblk n]{fullShare} g) ∗ ⌜∀ i ∈ oblk n, Good i (g i)⌝) ∗ oAny c s.val)) ?_) $$ [H Hg Hs]
  · iintro ⟨H1, H2⟩
    isplitl [H1]
    · iexists _
      isplitl [H1]; · iexact H1
      ipureintro
      exact good_of hn h10 h9 hf g
    · iexists _; iexact H2
  · isplitl [H]; · iexact H
    isplitl [Hg]; · iexact Hg
    iexact Hs
  iintro HF
  iapply Hk
  iexact HF

/-- Waiting for an output block's transfer. -/
theorem o_wait {Good : S256x14336.Idx → Elt F .bf16 → Prop} {s : Fin 2} {n : ℕ} {o8 : Fin 1 → ℕ} {o9 : Fin 3 → ℕ} {o10 : Fin 2 → ℕ} {h8 h9 h10} {hsrc hdst}
    (e8 : o8 = ![s.val]) {Q : PUnit → sProp 𝕄} :
    iprop(inflO (F := F) c Good s n ∗ (∃ w, owes (c : Thread nD τ) 0 w))
      ⊢ iprop((iprop(outGood c Good (oblk n) ∗ oAny c s.val ∗ semVal ((c : Thread nD τ), .dma (ocell s)) 0 ∗ (∃ w, owes (c : Thread nD τ) 0 w)) -∗ Q ⟨⟩)
      -∗ W (F := F) c (Prog.lift (.waitDma2 ((cc0_scratch14.slice (Rect.unit (s := S2) o8 S1.size h8)).squeeze S_ squeezes_S1_S_).sem
          (osrc (o := o9) h9) (odst (o := o10) h10) hsrc hdst)) Q) := by
  subst e8
  unfold inflO
  iintro ⟨HF, Ho⟩ Hk
  iapply (l_wait (F := F) c (srcw := osrc (o := o9) h9) (dstw := odst (o := o10) h10) (hsrc := hsrc) (hdst := hdst) (N := NO) rfl) $$ [HF Ho]
  · isplitl [HF]; · iexact HF
    iexact Ho
  iintro ⟨⟨Hf, Hb⟩, Hs, Ho⟩
  iapply Hk
  isplitl [Hf]; · iexact Hf
  isplitl [Hb]; · iexact Hb
  isplitl [Hs]; · iexact Hs
  iexact Ho

end Cert.KernelIdeal.Hand
end
-- ==== Proof.KI.Prime.lean ====
module
public import proofs.«01_k».proof.Proof.KI.Dma
/-!
The weight ring as a whole, and the loop that starts its first sixteen transfers.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (c : Dev nD) (fw : S6x4096x14336.Idx → Elt F .fp8e4m3) (E : ℕ → ℕ) (m : ℕ)

/-- What ring slot `k` holds: nothing in flight, or the transfer of item `i` (block `i / m` of the expert at place `i % m`). -/
def ringΦ (k : Fin 16) : Option ℕ → sProp 𝕄
  | none => freeW c fw k
  | some i => inflW c fw k (E (i % m)) (i / m)

/-- One slot of the ring set apart. -/
theorem ring_take (st : Fin 16 → Option ℕ) (k : Fin 16) (x : Option ℕ) (hx : st k = x) :
    AtW (ringΦ c fw E m) st ⊢ iprop(ringΦ c fw E m k x ∗ restW (ringΦ c fw E m) st k) := by
  subst hx
  rw [AtW_focus (ringΦ c fw E m) st k]
/-- One slot of the ring put back in a new state. -/
theorem ring_put (st st' : Fin 16 → Option ℕ) (k : Fin 16) (x : Option ℕ) (hx : st' = Function.update st k x) :
    iprop(ringΦ c fw E m k x ∗ restW (ringΦ c fw E m) st k) ⊢ AtW (ringΦ c fw E m) st' := by
  subst hx
  exact AtW_update (ringΦ c fw E m) st k x

/-- The ring while the first transfers are being started. -/
def primed (t : ℕ) (k : Fin 16) : Option ℕ := if k.val < t then some k.val else none

variable {m} {g : ℕ → ℕ} {fa fs : S7.Idx → BitVec 32} {S : ℕ → ℕ}
variable {v2 v11 v20 v29 v38 v47 : BitVec 32}

/-- The table of experts, whole. -/
abbrev actPt (fa : S7.Idx → BitVec 32) : sProp 𝕄 := (actM.view.loc (c : Thread nD τ) ↦[Finset.univ]{fullShare} fa)
/-- The table of row starts, whole. -/
abbrev startPt (fs : S7.Idx → BitVec 32) : sProp 𝕄 := (startM.view.loc (c : Thread nD τ) ↦[Finset.univ]{fullShare} fs)

/-- Before trip `t` of the priming loop. -/
def primeInv (m : ℕ) (fa : S7.Idx → BitVec 32) (t : ℕ) (acc : BitVec 32 × BitVec 32) : sProp 𝕄 :=
  iprop(⌜acc = (wd (t / m), wd (t % m))⌝ ∗ actPt c fa ∗ AtW (ringΦ c fw E m) (primed t))

theorem div_lt28 {i m : ℕ} (hm : 1 ≤ m) (h : i < 28 * m) : i / m < 28 := Nat.div_lt_of_lt_mul (by rw [Nat.mul_comm]; exact h)

theorem prime_step (T : Tab g fa fs m E S) (hm : nA v2 v11 v20 v29 v38 v47 = wd m) (v23 v24 : BitVec 32) (hw6 : k0_chk6 v2 v11 v20 v29 v38 v47)
    (k : Fin (k0_t1_loop v2 v11 v20 v29 v38 v47).trips) (acc : BitVec 32 × BitVec 32) :
    primeInv c fw E m fa k.val acc
      ⊢ W (F := F) c (k0_t1_body gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 v2 v11 v20 v23 v24 v29 v38 v47 hw6 (wd m) k acc) (primeInv c fw E m fa (k.val + 1)) := by
  have h1 := T.one
  have h6 := T.six
  have hk : k.val < 16 := lt_of_lt_of_eq k.isLt (t1_trips hm h1 h6)
  have hj : k.val % m < m := Nat.mod_lt _ h1
  have hn : k.val / m < 28 := div_lt28 h1 (by omega)
  have hn' : k.val / m < 100 := by omega
  unfold primeInv
  iintro ⟨%hacc, Ha, HR⟩
  subst hacc
  unfold k0_t1_body
  dsimp only
  simp only [wp_bind]
  iapply (l_assume (F := F) c (chk8_of (by omega)))
  iapply (l_assume (F := F) c (chk7_of hn))
  iapply (l_act (F := F) c (off7_eq (by omega))) $$ Ha
  iintro Ha
  rw [T.fa _ hj]
  have hE := T.E_lt _ hj
  iapply (l_assume (F := F) c (chk9_of hn hE))
  ihave HR2 := (ring_take c fw E m _ (⟨k.val, hk⟩ : Fin 16) none (if_neg (Nat.lt_irrefl k.val))) $$ HR
  icases HR2 with ⟨H0, HR⟩
  iapply (w_enq (F := F) c fw (k := ⟨k.val, hk⟩) hE hn (off8_eq k (by omega)) (off9_eq k (by omega)) (off10_eq hn hE)) $$ [H0]
  · iapply (show ringΦ c fw E m (⟨k.val, hk⟩ : Fin 16) none ⊢ freeW c fw ⟨k.val, hk⟩ from .rfl) $$ H0
  iintro HF
  iapply (l_pure (F := F) c)
  isplitr
  · ipureintro
    rw [adv_n hj h6 hn', adv_j hj h6, div_succ h1, mod_succ h1]
  isplitl [Ha]; · iexact Ha
  have e : primed (k.val + 1) = Function.update (primed k.val) (⟨k.val, hk⟩ : Fin 16) (some k.val) := by
    funext s
    by_cases hs : s = ⟨k.val, hk⟩
    · subst hs; rw [Function.update_self]; exact if_pos (Nat.lt_succ_self _)
    · rw [Function.update_of_ne hs]
      have : s.val ≠ k.val := fun h => hs (Fin.ext h)
      unfold primed
      by_cases h : s.val < k.val
      · rw [if_pos h, if_pos (by omega)]
      · rw [if_neg h, if_neg (by omega)]
  iapply (ring_put c fw E m (primed k.val) (primed (k.val + 1)) (⟨k.val, hk⟩ : Fin 16) (some k.val) e)
  isplitl [HF]
  · iapply (show inflW c fw ⟨k.val, hk⟩ (E (k.val % m)) (k.val / m) ⊢ ringΦ c fw E m (⟨k.val, hk⟩ : Fin 16) (some k.val) from .rfl) $$ HF
  · iexact HR

end Cert.KernelIdeal.Hand
end
-- ==== Proof.KI.Tile.lean ====
module
public import proofs.«01_k».proof.Proof.KI.Prime
/-!
One tile of one item: the rows of an expert, rounded out to whole groups of 32, multiplied by one block of its
weights and stored into the output slot, keeping in the first group the rows that belong to earlier experts.
The lemma is stated once for any number of rows; the kernel's eight branches are its instances.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

/-- Rows `b …` of the codes. -/
abbrev codeAt (fcode : S256x4096.Idx → Elt F .fp8e4m3) (a : ℕ) (k : Fin 4096) : Elt F .fp8e4m3 :=
  fcode (ix2 (⟨a % 256, Nat.mod_lt _ (by decide)⟩ : Fin 256) k)
/-- Weight scale of expert `e`, column `b`. -/
abbrev wsAt (fws : S6x14336.Idx → Elt F .f32) (e b : ℕ) : Elt F .f32 :=
  fws (ix2 (⟨e % 6, Nat.mod_lt _ (by decide)⟩ : Fin 6) (⟨b % 14336, Nat.mod_lt _ (by decide)⟩ : Fin 14336))
/-- A row of the result by number. -/
abbrev rowIx (a : ℕ) : Fin 256 := ⟨a % 256, Nat.mod_lt _ (by decide)⟩

section Pay
variable (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) (g : ℕ → ℕ)

/-- What a tile's loads hold: `R` rows of codes from the expert's rounded-down start, the weight block, and the two scales. -/
structure TileIn (R : ℕ) (e n S S' : ℕ) (x : Vec F (⟨2, ![R, 4096]⟩ : Shape) .fp8e4m3) (w : Vec F S1x4096x512 .fp8e4m3) (xs : Elt F .f32)
    (ws : Vec F S1x512 .f32) : Prop where
  he : e < 6
  hn : n < 28
  lo : S = nRow g e
  hi : S' = nRow g (e + 1)
  lt : S < S'
  fits : S' ≤ S / 32 * 32 + R
  inb : S / 32 * 32 + R ≤ 256
  x : ∀ (a : Fin R) (k : Fin 4096), x (ix2 a k) = codeAt fcode (S / 32 * 32 + a.val) k
  w : ∀ (k : Fin 4096) (b : Fin 512), w (ix3 (0 : Fin 1) k b) = fw (wix e k (512 * n + b.val))
  xs : xs = fxs (i6 e)
  ws : ∀ b : Fin 512, ws (ix2 (0 : Fin 1) b) = wsAt fws e (512 * n + b.val)

/-- The first 32 rows a tile stores are good: earlier experts' rows because they were, this expert's because they are its products. -/
def FirstOK (R : ℕ) (p : BitVec 32 → BitVec 32 → Vec F (⟨2, ![R, 4096]⟩ : Shape) .fp8e4m3 → Vec F S1x4096x512 .fp8e4m3 → Elt F .f32 → Vec F S1x512 .f32
    → Vec F S1x32x512 .bf16 → Vec F S1x32x512 .bf16) : Prop :=
  ∀ (e n S S' : ℕ) x w xs ws (old : Vec F S1x32x512 .bf16), TileIn fcode fw fxs fws g R e n S S' x w xs ws → ∀ (a : Fin 32) (b : Fin 512), S / 32 * 32 + a.val < S' →
    (S / 32 * 32 + a.val < S → Good (oix (rowIx (S / 32 * 32 + a.val)) (512 * n + b.val)) (old (ix3 (0 : Fin 1) a b))) →
    Good (oix (rowIx (S / 32 * 32 + a.val)) (512 * n + b.val)) (p (wd S) (bw (wd S)) x w xs ws old (ix3 (0 : Fin 1) a b))
/-- The remaining rows a tile stores are good. -/
def RestOK (R R' : ℕ) (p : Vec F (⟨2, ![R, 4096]⟩ : Shape) .fp8e4m3 → Vec F S1x4096x512 .fp8e4m3 → Elt F .f32 → Vec F S1x512 .f32
    → Vec F (⟨3, ![1, R', 512]⟩ : Shape) .bf16) : Prop :=
  ∀ (e n S S' : ℕ) x w xs ws, TileIn fcode fw fxs fws g R e n S S' x w xs ws → ∀ (a : Fin R') (b : Fin 512), S / 32 * 32 + 32 + a.val < S' →
    Good (oix (rowIx (S / 32 * 32 + 32 + a.val)) (512 * n + b.val)) (p x w xs ws (ix3 (0 : Fin 1) a b))
end Pay

/-! ## Elements of the rectangles -/

theorem oRect_emb {s : Fin 2} {b R : ℕ} (h : ∀ a, (![s.val, b, 0] : Fin 3 → ℕ) a + (![1, R, 512] : Fin 3 → ℕ) a ≤ S2x256x512.size a) (x : Fin R) (y : Fin 512) (r : Fin 256)
    (hr : r.val = b + x.val) : (oM.access (Rect.unit (s := S2x256x512) ![s.val, b, 0] ![1, R, 512] h)).emb (ix3 (0 : Fin 1) x y) = ix3 s r y := by
  funext a
  fin_cases a
  · apply Fin.ext; show s.val + 1 * 0 = s.val; omega
  · apply Fin.ext; show b + 1 * x.val = r.val; omega
  · apply Fin.ext; show 0 + 1 * y.val = y.val; omega
theorem oRect_set {s : Fin 2} {b R : ℕ} (h : ∀ a, (![s.val, b, 0] : Fin 3 → ℕ) a + (![1, R, 512] : Fin 3 → ℕ) a ≤ S2x256x512.size a) (i : S2x256x512.Idx) :
    i ∈ (oM.access (Rect.unit (s := S2x256x512) ![s.val, b, 0] ![1, R, 512] h)).set ↔ (i 0).val = s.val ∧ b ≤ (i 1).val ∧ (i 1).val < b + R := by
  rw [show (oM.access (Rect.unit (s := S2x256x512) ![s.val, b, 0] ![1, R, 512] h)).set = (Rect.unit (s := S2x256x512) ![s.val, b, 0] ![1, R, 512] h).set from View.set_slice_whole _ _]
  rw [Rect.mem_set_unit]
  have h2 : (i 2).val < 512 := (i 2).isLt
  constructor
  · intro H
    have a1 : s.val ≤ (i 0).val := (H 0).1
    have a2 : (i 0).val < s.val + 1 := (H 0).2
    have b1 : b ≤ (i 1).val := (H 1).1
    have b2 : (i 1).val < b + R := (H 1).2
    omega
  · intro H a
    fin_cases a
    · exact ⟨(by show s.val ≤ (i 0).val; omega), (by show (i 0).val < s.val + 1; omega)⟩
    · exact ⟨(by show b ≤ (i 1).val; omega), (by show (i 1).val < b + R; omega)⟩
    · exact ⟨Nat.zero_le _, (by show (i 2).val < 0 + 512; omega)⟩
theorem oRect_sub {s : Fin 2} {b R : ℕ} (h : ∀ a, (![s.val, b, 0] : Fin 3 → ℕ) a + (![1, R, 512] : Fin 3 → ℕ) a ≤ S2x256x512.size a) :
    (oM.access (Rect.unit (s := S2x256x512) ![s.val, b, 0] ![1, R, 512] h)).set ⊆ oslot s.val := by
  intro i hi
  exact Finset.mem_filter.mpr ⟨Finset.mem_univ _, ((oRect_set h i).mp hi).1⟩

/-- The output buffer with rows `b … b+R` of slot `s` overwritten. -/
theorem oWrite {s : Fin 2} {b R : ℕ} (h : ∀ a, (![s.val, b, 0] : Fin 3 → ℕ) a + (![1, R, 512] : Fin 3 → ℕ) a ≤ S2x256x512.size a) (f : S2x256x512.Idx → Elt F .bf16)
    (v : Vec F (⟨3, ![1, R, 512]⟩ : Shape) .bf16) (i : S2x256x512.Idx) (hi : (i 0).val = s.val) :
    (show S2x256x512.Idx → Elt F .bf16 from (oM.access (Rect.unit (s := S2x256x512) ![s.val, b, 0] ![1, R, 512] h)).write (Elt F) f v Finset.univ) i
      = if h : b ≤ (i 1).val ∧ (i 1).val - b < R then v (ix3 (0 : Fin 1) (⟨(i 1).val - b, h.2⟩ : Fin R) (i 2 : Fin 512)) else f i := by
  split
  · rename_i hb
    have hx : (oM.access (Rect.unit (s := S2x256x512) ![s.val, b, 0] ![1, R, 512] h)).emb (ix3 (0 : Fin 1) (⟨(i 1).val - b, hb.2⟩ : Fin R) (i 2 : Fin 512)) = i := by
      refine (oRect_emb h _ _ (i 1) (by show (i 1).val = b + ((i 1).val - b); omega)).trans ?_
      funext a
      fin_cases a
      · exact (Fin.ext hi).symm
      · rfl
      · rfl
    refine (congrArg ((oM.access (Rect.unit (s := S2x256x512) ![s.val, b, 0] ![1, R, 512] h)).write (Elt F) f v Finset.univ) hx.symm).trans ?_
    exact View.write_emb_of_mem (v := oM.access (Rect.unit (s := S2x256x512) ![s.val, b, 0] ![1, R, 512] h)) f v (Finset.mem_univ _)
  · rename_i hb
    refine View.write_of_not_mem (v := oM.access (Rect.unit (s := S2x256x512) ![s.val, b, 0] ![1, R, 512] h)) f v Finset.univ ?_
    intro hm
    have := (oRect_set h i).mp hm
    omega

theorem oRect_sub' {s : Fin 2} {b R : ℕ} (h : ∀ a, (![s.val, b, 0] : Fin 3 → ℕ) a + (![1, R, 512] : Fin 3 → ℕ) a ≤ S2x256x512.size a) :
    (oM.access (Rect.unit (s := S2x256x512) ![s.val, b, 0] ![1, R, 512] h)).setOn Finset.univ ⊆ oslot s.val := by
  intro i hi
  obtain ⟨x, _, hx⟩ := Finset.mem_map.mp hi
  exact oRect_sub h (hx ▸ View.emb_mem_set _ x)
theorem row_of {b : ℕ} {r : Fin 256} (h : b ≤ r.val) : r = rowIx (b + (r.val - b)) := by
  apply Fin.ext
  show r.val = (b + (r.val - b)) % 256
  have := r.isLt
  omega
theorem wRect_sub {k : Fin 16} (h : ∀ a, (![k.val, 0, 0] : Fin 3 → ℕ) a + S1x4096x512.size a ≤ S16x4096x512.size a) :
    (wM.access (Rect.unit (s := S16x4096x512) ![k.val, 0, 0] S1x4096x512.size h)).set ⊆ wslot k.val := by
  rw [show (wM.access (Rect.unit (s := S16x4096x512) ![k.val, 0, 0] S1x4096x512.size h)).set = (Rect.unit (s := S16x4096x512) ![k.val, 0, 0] S1x4096x512.size h).set from View.set_slice_whole _ _]
  intro i hi
  rw [Rect.mem_set_unit] at hi
  have h1 : k.val ≤ (i 0).val := (hi 0).1
  have h2 : (i 0).val < k.val + 1 := (hi 0).2
  exact Finset.mem_filter.mpr ⟨Finset.mem_univ _, by omega⟩

/-- Reading rows of the codes. -/
theorem code_read {b R : ℕ} (h : ∀ a, (![b, 0] : Fin 2 → ℕ) a + (![R, 4096] : Fin 2 → ℕ) a ≤ S256x4096.size a) (f : S256x4096.Idx → Elt F .fp8e4m3) (hR : b + R ≤ 256) (a : Fin R) (k : Fin 4096) :
    (codeM.access (Rect.unit (s := S256x4096) ![b, 0] ![R, 4096] h)).read (Elt F) f (ix2 a k) = codeAt f (b + a.val) k := by
  refine congrArg f ?_
  have := a.isLt
  funext x
  fin_cases x
  · apply Fin.ext; show b + 1 * a.val = (b + a.val) % 256; omega
  · apply Fin.ext; show 0 + 1 * k.val = k.val; omega
/-- Reading a ring slot. -/
theorem wslot_read {k : Fin 16} {e n : ℕ} {fw : S6x4096x14336.Idx → Elt F .fp8e4m3} (h : ∀ a, (![k.val, 0, 0] : Fin 3 → ℕ) a + S1x4096x512.size a ≤ S16x4096x512.size a) {f : S16x4096x512.Idx → Elt F .fp8e4m3}
    (hf : IsW fw k.val e n f) (a : Fin 4096) (b : Fin 512) :
    (wM.access (Rect.unit (s := S16x4096x512) ![k.val, 0, 0] S1x4096x512.size h)).read (Elt F) f (ix3 (0 : Fin 1) a b) = fw (wix e a (512 * n + b.val)) := by
  have hx : (wM.access (Rect.unit (s := S16x4096x512) ![k.val, 0, 0] S1x4096x512.size h)).emb (ix3 (0 : Fin 1) a b) = ix3 k a b := by
    funext x
    fin_cases x
    · apply Fin.ext; show k.val + 1 * 0 = k.val; omega
    · apply Fin.ext; show 0 + 1 * a.val = a.val; omega
    · apply Fin.ext; show 0 + 1 * b.val = b.val; omega
  exact (congrArg f hx).trans (hf (ix3 k a b) rfl)
/-- Reading a block of an expert's weight scales. -/
theorem ws_read {e n : ℕ} (he : e < 6) (hn : n < 28) (h : ∀ a, (![e, 512 * n] : Fin 2 → ℕ) a + S1x512.size a ≤ S6x14336.size a) (f : S6x14336.Idx → Elt F .f32) (b : Fin 512) :
    (wsM.access (Rect.unit (s := S6x14336) ![e, 512 * n] S1x512.size h)).read (Elt F) f (ix2 (0 : Fin 1) b) = wsAt f e (512 * n + b.val) := by
  refine congrArg f ?_
  have := b.isLt
  funext x
  fin_cases x
  · apply Fin.ext; show e + 1 * 0 = e % 6; omega
  · apply Fin.ext; show 512 * n + 1 * b.val = (512 * n + b.val) % 14336; omega

/-- How many groups of 32 rows a tile takes. -/
def tiles (S S' : ℕ) : ℕ := (S' - S / 32 * 32 + 31) / 32
/-- An item: an expert with rows, and a block of columns. -/
structure Item (g : ℕ → ℕ) (e n S S' : ℕ) : Prop where
  he : e < 6
  hn : n < 28
  lo : S = nRow g e
  hi : S' = nRow g (e + 1)
  lt : S < S'
  le : S' ≤ 256

variable (c : Dev nD) (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) (g : ℕ → ℕ)

/-- What the items read besides the weights: the codes and the two scales. -/
def datas : sProp 𝕄 :=
  iprop((codeM.view.loc (c : Thread nD τ) ↦[Finset.univ]{fullShare} fcode) ∗ (xsM.view.loc (c : Thread nD τ) ↦[Finset.univ]{fullShare} fxs)
    ∗ (wsM.view.loc (c : Thread nD τ) ↦[Finset.univ]{fullShare} fws))
/-- Slot `s` of the output buffer, its rows below `R` good for block `n`. -/
def obuf (s n R : ℕ) : sProp 𝕄 := iprop(∃ f, (oM.view.loc (c : Thread nD τ) ↦[oslot s]{fullShare} f) ∗ ⌜IsO (F := F) Good s n R f⌝)

variable {fcode fw fxs fws g Good}
/-- After the first store of a tile the rows outside the rest are good. -/
theorem first_good {R e n S S' : ℕ} {s : Fin 2} {p1} (h1 : FirstOK Good fcode fw fxs fws g R p1) {x w xs ws} (T : TileIn fcode fw fxs fws g R e n S S' x w xs ws)
    (h32 : ∀ a, (![s.val, S / 32 * 32, 0] : Fin 3 → ℕ) a + (![1, 32, 512] : Fin 3 → ℕ) a ≤ S2x256x512.size a) {f : S2x256x512.Idx → Elt F .bf16} (hf : IsO (F := F) Good s.val n S f)
    {i : S2x256x512.Idx} (hi : (i 0).val = s.val) (hr : (i 1).val < S') (hlt : (i 1).val < S / 32 * 32 + 32) :
    Good (oix (i 1) (512 * n + (i 2).val)) ((show S2x256x512.Idx → Elt F .bf16 from (oM.access (Rect.unit (s := S2x256x512) ![s.val, S / 32 * 32, 0] ![1, 32, 512] h32)).write (Elt F) f
      (p1 (wd S) (bw (wd S)) x w xs ws ((oM.access (Rect.unit (s := S2x256x512) ![s.val, S / 32 * 32, 0] ![1, 32, 512] h32)).read (Elt F) f)) Finset.univ) i) := by
  rw [oWrite h32 _ _ i hi]
  split
  · rename_i hb
    have hrow : (i 1) = rowIx (S / 32 * 32 + ((i 1).val - S / 32 * 32)) := row_of hb.1
    refine (congrArg (fun r => Good (oix r (512 * n + (i 2).val)) _) hrow).mpr ?_
    refine h1 e n S S' x w xs ws _ T ⟨(i 1).val - S / 32 * 32, hb.2⟩ (i 2) (by show S / 32 * 32 + ((i 1).val - S / 32 * 32) < S'; omega) ?_
    intro hS
    have hS' : (i 1).val < S := by
      have : S / 32 * 32 + ((i 1).val - S / 32 * 32) < S := hS
      omega
    have hx : (oM.access (Rect.unit (s := S2x256x512) ![s.val, S / 32 * 32, 0] ![1, 32, 512] h32)).emb (ix3 (0 : Fin 1) (⟨(i 1).val - S / 32 * 32, hb.2⟩ : Fin 32) (i 2 : Fin 512)) = i := by
      refine (oRect_emb h32 _ _ (i 1) (by show (i 1).val = S / 32 * 32 + ((i 1).val - S / 32 * 32); omega)).trans ?_
      funext a
      fin_cases a
      · exact (Fin.ext hi).symm
      · rfl
      · rfl
    have := hf i hi hS'
    refine (congrArg (fun r => Good (oix r (512 * n + (i 2).val)) _) hrow).mp ?_
    exact (congrArg (fun y => Good (oix (i 1) (512 * n + (i 2).val)) (f y)) hx).mpr this
  · rename_i hb
    refine hf i hi ?_
    omega
variable (fcode fw fxs fws g Good)

theorem tile_one {R t e n S S' : ℕ} {s : Fin 2} {k : Fin 16} (hR : R = 32 * t) (ht : t < 9) (ht1 : t = 1) (I : Item g e n S S')
    {p1 : BitVec 32 → BitVec 32 → Vec F (⟨2, ![R, 4096]⟩ : Shape) .fp8e4m3 → Vec F S1x4096x512 .fp8e4m3 → Elt F .f32 → Vec F S1x512 .f32 → Vec F S1x32x512 .bf16 → Vec F S1x32x512 .bf16}
    (h1 : FirstOK Good fcode fw fxs fws g R p1)
    {cnd : BitVec 1} (hc : cnd = condT (wd t) (wd S) (wd S')) {o28 o31 : Fin 2 → ℕ} {o29 o32 : Fin 3 → ℕ} {o30 : Fin 1 → ℕ}
    (e28 : o28 = ![S / 32 * 32, 0]) (e29 : o29 = ![k.val, 0, 0]) (e30 : o30 = ![e]) (e31 : o31 = ![e, 512 * n]) (e32 : o32 = ![s.val, S / 32 * 32, 0])
    {i28 : cnd = 1#1 → ∀ a, o28 a + (![R, 4096] : Fin 2 → ℕ) a ≤ S256x4096.size a} {i29 : cnd = 1#1 → ∀ a, o29 a + S1x4096x512.size a ≤ S16x4096x512.size a}
    {i30 : cnd = 1#1 → ∀ a, o30 a + S1.size a ≤ S6.size a} {i31 : cnd = 1#1 → ∀ a, o31 a + S1x512.size a ≤ S6x14336.size a}
    {i32 : cnd = 1#1 → ∀ a, o32 a + S1x32x512.size a ≤ S2x256x512.size a}
    {l28 : ∀ h, codeM.view.LoadsAt (Rect.unit (s := S256x4096) o28 ![R, 4096] (i28 h)).toLoadRect}
    {l29 : ∀ h, wM.view.LoadsAt (Rect.unit (s := S16x4096x512) o29 S1x4096x512.size (i29 h)).toLoadRect}
    {l31 : ∀ h, wsM.view.LoadsAt (Rect.unit (s := S6x14336) o31 S1x512.size (i31 h)).toLoadRect}
    {l32 : ∀ h, oM.view.LoadsAt (Rect.unit (s := S2x256x512) o32 S1x32x512.size (i32 h)).toLoadRect}
    {x32 : ∀ h, (oM.access (Rect.unit (s := S2x256x512) o32 S1x32x512.size (i32 h))).Stores Finset.univ}
    {α : Type} {K : Prog (TpuEff nD τ sig (Elt F) Λ₀ .tc) α} {Q : α → sProp 𝕄} :
    iprop(datas c fcode fxs fws ∗ holdW c fw k e n ∗ obuf c Good s.val n (if tiles S S' < t then S' else S))
      ⊢ iprop((datas c fcode fxs fws ∗ holdW c fw k e n ∗ obuf c Good s.val n (if tiles S S' < t + 1 then S' else S) -∗ W (F := F) c K Q)
        -∗ W (F := F) c (if h : cnd = 1#1 then (do
      let v213 : Vec F (⟨2, ![R, 4096]⟩ : Shape) .fp8e4m3 ← Prog.lift (.load codeM (Rect.unit (s := S256x4096) o28 ![R, 4096] (i28 h)).toLoadRect (l28 h))
      let v215 : Vec F S1x4096x512 .fp8e4m3 ← Prog.lift (.load wM (Rect.unit (s := S16x4096x512) o29 S1x4096x512.size (i29 h)).toLoadRect (l29 h))
      let v222 : Elt F .f32 ← smemLoad xsM (Rect.unit (s := S6) o30 S1.size (i30 h)) numel1_S1 rfl
      let v225 : Vec F S1x512 .f32 ← Prog.lift (.load wsM (Rect.unit (s := S6x14336) o31 S1x512.size (i31 h)).toLoadRect (l31 h))
      let v233 : Vec F S1x32x512 .bf16 ← Prog.lift (.load oM (Rect.unit (s := S2x256x512) o32 S1x32x512.size (i32 h)).toLoadRect (l32 h))
      let _v : Vec F S1x32x512 .bf16 ← Prog.lift (.load oM (Rect.unit (s := S2x256x512) o32 S1x32x512.size (i32 h)).toLoadRect (l32 h))
      Prog.lift (.store oM (Rect.unit (s := S2x256x512) o32 S1x32x512.size (i32 h)) (p1 (wd S) (bw (wd S)) v213 v215 v222 v225 v233) Finset.univ (x32 h) (.inl rfl))
      K : Prog (TpuEff nD τ sig (Elt F) Λ₀ .tc) α) else K) Q) := by
  have hci : cnd = 1#1 ↔ tiles S S' = t := by rw [hc]; exact condT_iff I.lt I.le ht
  subst e28 e29 e30 e31 e32
  by_cases h : cnd = 1#1
  · rw [dif_pos h]
    have hq : tiles S S' = t := hci.mp h
    have hfit : S' ≤ S / 32 * 32 + R ∧ S / 32 * 32 + R ≤ 256 := by
      have h1 := I.lt; have h2 := I.le; unfold tiles at hq; omega
    rw [if_neg (by omega), if_pos (by omega)]
    unfold datas holdW obuf
    simp only [wp_bind]
    iintro ⟨⟨Hc, Hx, Hw⟩, ⟨Hs, ⟨%fb, Hb, %hb⟩, Hsh⟩, ⟨%f, Ho, %hf⟩⟩ Hk
    iapply (l_load (F := F) c (m := codeM) (r := Rect.unit (s := S256x4096) ![S / 32 * 32, 0] ![R, 4096] (i28 h)) (f := fcode) (S := Finset.univ) (Finset.subset_univ _)) $$ Hc
    iintro Hc
    iapply (l_load (F := F) c (m := wM) (r := Rect.unit (s := S16x4096x512) ![k.val, 0, 0] S1x4096x512.size (i29 h)) (f := fb) (S := wslot k.val) (wRect_sub (i29 h))) $$ Hb
    iintro Hb
    iapply (l_xs (F := F) c rfl) $$ Hx
    iintro Hx
    iapply (l_load (F := F) c (m := wsM) (r := Rect.unit (s := S6x14336) ![e, 512 * n] S1x512.size (i31 h)) (f := fws) (S := Finset.univ) (Finset.subset_univ _)) $$ Hw
    iintro Hw
    iapply (l_load (F := F) c (m := oM) (r := Rect.unit (s := S2x256x512) ![s.val, S / 32 * 32, 0] S1x32x512.size (i32 h)) (S := oslot s.val) (oRect_sub (i32 h))) $$ Ho
    iintro Ho
    iapply (l_load (F := F) c (m := oM) (r := Rect.unit (s := S2x256x512) ![s.val, S / 32 * 32, 0] S1x32x512.size (i32 h)) (S := oslot s.val) (oRect_sub (i32 h))) $$ Ho
    iintro Ho
    iapply (l_store (F := F) c (m := oM) (r := Rect.unit (s := S2x256x512) ![s.val, S / 32 * 32, 0] S1x32x512.size (i32 h)) (S := oslot s.val) (oRect_sub' (i32 h))) $$ Ho
    iintro Ho
    iapply Hk
    isplitl [Hc Hx Hw]
    · isplitl [Hc]; · iexact Hc
      isplitl [Hx]; · iexact Hx
      iexact Hw
    isplitl [Hs Hb Hsh]
    · isplitl [Hs]; · iexact Hs
      isplitl [Hb]
      · iexists fb
        isplitl [Hb]; · iexact Hb
        ipureintro; exact hb
      iexact Hsh
    iexists _
    isplitl [Ho]; · iexact Ho
    ipureintro
    have T : TileIn fcode fw fxs fws g R e n S S' (codeM.access (Rect.unit (s := S256x4096) ![S / 32 * 32, 0] ![R, 4096] (i28 h)) |>.read (Elt F) fcode)
        ((wM.access (Rect.unit (s := S16x4096x512) ![k.val, 0, 0] S1x4096x512.size (i29 h))).read (Elt F) fb) (fxs (i6 e))
        ((wsM.access (Rect.unit (s := S6x14336) ![e, 512 * n] S1x512.size (i31 h))).read (Elt F) fws) :=
      ⟨I.he, I.hn, I.lo, I.hi, I.lt, hfit.1, hfit.2, code_read (i28 h) fcode hfit.2, wslot_read (i29 h) hb, rfl, ws_read I.he I.hn (i31 h) fws⟩
    intro i hi hr
    exact first_good (s := s) h1 T (i32 h) hf hi hr (by omega)
  · rw [dif_neg h]
    have hq : tiles S S' ≠ t := fun h' => h (hci.mpr h')
    have : (if tiles S S' < t + 1 then S' else S) = (if tiles S S' < t then S' else S) := by
      split <;> split <;> first | rfl | omega
    rw [this]
    iintro H Hk
    iapply Hk $$ H

theorem tile_more {R R' t e n S S' : ℕ} {s : Fin 2} {k : Fin 16} (hR : R = 32 * t) (hR' : R' + 32 = R) (ht : t < 9) (I : Item g e n S S')
    {p1 : BitVec 32 → BitVec 32 → Vec F (⟨2, ![R, 4096]⟩ : Shape) .fp8e4m3 → Vec F S1x4096x512 .fp8e4m3 → Elt F .f32 → Vec F S1x512 .f32 → Vec F S1x32x512 .bf16 → Vec F S1x32x512 .bf16}
    (h1 : FirstOK Good fcode fw fxs fws g R p1)
    {p2 : Vec F (⟨2, ![R, 4096]⟩ : Shape) .fp8e4m3 → Vec F S1x4096x512 .fp8e4m3 → Elt F .f32 → Vec F S1x512 .f32 → Vec F (⟨3, ![1, R', 512]⟩ : Shape) .bf16}
    (h2 : RestOK Good fcode fw fxs fws g R R' p2)
    {cnd : BitVec 1} (hc : cnd = condT (wd t) (wd S) (wd S')) {o28 o31 : Fin 2 → ℕ} {o29 o32 o38 : Fin 3 → ℕ} {o30 : Fin 1 → ℕ}
    (e28 : o28 = ![S / 32 * 32, 0]) (e29 : o29 = ![k.val, 0, 0]) (e30 : o30 = ![e]) (e31 : o31 = ![e, 512 * n]) (e32 : o32 = ![s.val, S / 32 * 32, 0])
    (e38 : o38 = ![s.val, S / 32 * 32 + 32, 0])
    {i28 : cnd = 1#1 → ∀ a, o28 a + (![R, 4096] : Fin 2 → ℕ) a ≤ S256x4096.size a} {i29 : cnd = 1#1 → ∀ a, o29 a + S1x4096x512.size a ≤ S16x4096x512.size a}
    {i30 : cnd = 1#1 → ∀ a, o30 a + S1.size a ≤ S6.size a} {i31 : cnd = 1#1 → ∀ a, o31 a + S1x512.size a ≤ S6x14336.size a}
    {i32 : cnd = 1#1 → ∀ a, o32 a + S1x32x512.size a ≤ S2x256x512.size a}
    {l28 : ∀ h, codeM.view.LoadsAt (Rect.unit (s := S256x4096) o28 ![R, 4096] (i28 h)).toLoadRect}
    {l29 : ∀ h, wM.view.LoadsAt (Rect.unit (s := S16x4096x512) o29 S1x4096x512.size (i29 h)).toLoadRect}
    {l31 : ∀ h, wsM.view.LoadsAt (Rect.unit (s := S6x14336) o31 S1x512.size (i31 h)).toLoadRect}
    {l32 : ∀ h, oM.view.LoadsAt (Rect.unit (s := S2x256x512) o32 S1x32x512.size (i32 h)).toLoadRect}
    {x32 : ∀ h, (oM.access (Rect.unit (s := S2x256x512) o32 S1x32x512.size (i32 h))).Stores Finset.univ}
    {i38 : cnd = 1#1 → ∀ a, o38 a + (![1, R', 512] : Fin 3 → ℕ) a ≤ S2x256x512.size a}
    {l38 : ∀ h, oM.view.LoadsAt (Rect.unit (s := S2x256x512) o38 ![1, R', 512] (i38 h)).toLoadRect}
    {x38 : ∀ h, (oM.access (Rect.unit (s := S2x256x512) o38 ![1, R', 512] (i38 h))).Stores Finset.univ}
    {α : Type} {K : Prog (TpuEff nD τ sig (Elt F) Λ₀ .tc) α} {Q : α → sProp 𝕄} :
    iprop(datas c fcode fxs fws ∗ holdW c fw k e n ∗ obuf c Good s.val n (if tiles S S' < t then S' else S))
      ⊢ iprop((datas c fcode fxs fws ∗ holdW c fw k e n ∗ obuf c Good s.val n (if tiles S S' < t + 1 then S' else S) -∗ W (F := F) c K Q)
        -∗ W (F := F) c (if h : cnd = 1#1 then (do
      let v213 : Vec F (⟨2, ![R, 4096]⟩ : Shape) .fp8e4m3 ← Prog.lift (.load codeM (Rect.unit (s := S256x4096) o28 ![R, 4096] (i28 h)).toLoadRect (l28 h))
      let v215 : Vec F S1x4096x512 .fp8e4m3 ← Prog.lift (.load wM (Rect.unit (s := S16x4096x512) o29 S1x4096x512.size (i29 h)).toLoadRect (l29 h))
      let v222 : Elt F .f32 ← smemLoad xsM (Rect.unit (s := S6) o30 S1.size (i30 h)) numel1_S1 rfl
      let v225 : Vec F S1x512 .f32 ← Prog.lift (.load wsM (Rect.unit (s := S6x14336) o31 S1x512.size (i31 h)).toLoadRect (l31 h))
      let v233 : Vec F S1x32x512 .bf16 ← Prog.lift (.load oM (Rect.unit (s := S2x256x512) o32 S1x32x512.size (i32 h)).toLoadRect (l32 h))
      let _v : Vec F S1x32x512 .bf16 ← Prog.lift (.load oM (Rect.unit (s := S2x256x512) o32 S1x32x512.size (i32 h)).toLoadRect (l32 h))
      Prog.lift (.store oM (Rect.unit (s := S2x256x512) o32 S1x32x512.size (i32 h)) (p1 (wd S) (bw (wd S)) v213 v215 v222 v225 v233) Finset.univ (x32 h) (.inl rfl))
      let _v : Vec F (⟨3, ![1, R', 512]⟩ : Shape) .bf16 ← Prog.lift (.load oM (Rect.unit (s := S2x256x512) o38 ![1, R', 512] (i38 h)).toLoadRect (l38 h))
      Prog.lift (.store oM (Rect.unit (s := S2x256x512) o38 ![1, R', 512] (i38 h)) (p2 v213 v215 v222 v225) Finset.univ (x38 h) (.inl rfl))
      K : Prog (TpuEff nD τ sig (Elt F) Λ₀ .tc) α) else K) Q) := by
  have hci : cnd = 1#1 ↔ tiles S S' = t := by rw [hc]; exact condT_iff I.lt I.le ht
  subst e28 e29 e30 e31 e32 e38
  by_cases h : cnd = 1#1
  · rw [dif_pos h]
    have hq : tiles S S' = t := hci.mp h
    have hfit : S' ≤ S / 32 * 32 + R ∧ S / 32 * 32 + R ≤ 256 := by
      have h1 := I.lt; have h2 := I.le; unfold tiles at hq; omega
    rw [if_neg (by omega), if_pos (by omega)]
    unfold datas holdW obuf
    simp only [wp_bind]
    iintro ⟨⟨Hc, Hx, Hw⟩, ⟨Hs, ⟨%fb, Hb, %hb⟩, Hsh⟩, ⟨%f, Ho, %hf⟩⟩ Hk
    iapply (l_load (F := F) c (m := codeM) (r := Rect.unit (s := S256x4096) ![S / 32 * 32, 0] ![R, 4096] (i28 h)) (f := fcode) (S := Finset.univ) (Finset.subset_univ _)) $$ Hc
    iintro Hc
    iapply (l_load (F := F) c (m := wM) (r := Rect.unit (s := S16x4096x512) ![k.val, 0, 0] S1x4096x512.size (i29 h)) (f := fb) (S := wslot k.val) (wRect_sub (i29 h))) $$ Hb
    iintro Hb
    iapply (l_xs (F := F) c rfl) $$ Hx
    iintro Hx
    iapply (l_load (F := F) c (m := wsM) (r := Rect.unit (s := S6x14336) ![e, 512 * n] S1x512.size (i31 h)) (f := fws) (S := Finset.univ) (Finset.subset_univ _)) $$ Hw
    iintro Hw
    iapply (l_load (F := F) c (m := oM) (r := Rect.unit (s := S2x256x512) ![s.val, S / 32 * 32, 0] S1x32x512.size (i32 h)) (S := oslot s.val) (oRect_sub (i32 h))) $$ Ho
    iintro Ho
    iapply (l_load (F := F) c (m := oM) (r := Rect.unit (s := S2x256x512) ![s.val, S / 32 * 32, 0] S1x32x512.size (i32 h)) (S := oslot s.val) (oRect_sub (i32 h))) $$ Ho
    iintro Ho
    iapply (l_store (F := F) c (m := oM) (r := Rect.unit (s := S2x256x512) ![s.val, S / 32 * 32, 0] S1x32x512.size (i32 h)) (S := oslot s.val) (oRect_sub' (i32 h))) $$ Ho
    iintro Ho
    iapply (l_load (F := F) c (m := oM) (r := Rect.unit (s := S2x256x512) ![s.val, S / 32 * 32 + 32, 0] ![1, R', 512] (i38 h)) (S := oslot s.val) (oRect_sub (i38 h))) $$ Ho
    iintro Ho
    iapply (l_store (F := F) c (m := oM) (r := Rect.unit (s := S2x256x512) ![s.val, S / 32 * 32 + 32, 0] ![1, R', 512] (i38 h)) (S := oslot s.val) (oRect_sub' (i38 h))) $$ Ho
    iintro Ho
    iapply Hk
    isplitl [Hc Hx Hw]
    · isplitl [Hc]; · iexact Hc
      isplitl [Hx]; · iexact Hx
      iexact Hw
    isplitl [Hs Hb Hsh]
    · isplitl [Hs]; · iexact Hs
      isplitl [Hb]
      · iexists fb
        isplitl [Hb]; · iexact Hb
        ipureintro; exact hb
      iexact Hsh
    iexists _
    isplitl [Ho]; · iexact Ho
    ipureintro
    have T : TileIn fcode fw fxs fws g R e n S S' (codeM.access (Rect.unit (s := S256x4096) ![S / 32 * 32, 0] ![R, 4096] (i28 h)) |>.read (Elt F) fcode)
        ((wM.access (Rect.unit (s := S16x4096x512) ![k.val, 0, 0] S1x4096x512.size (i29 h))).read (Elt F) fb) (fxs (i6 e))
        ((wsM.access (Rect.unit (s := S6x14336) ![e, 512 * n] S1x512.size (i31 h))).read (Elt F) fws) :=
      ⟨I.he, I.hn, I.lo, I.hi, I.lt, hfit.1, hfit.2, code_read (i28 h) fcode hfit.2, wslot_read (i29 h) hb, rfl, ws_read I.he I.hn (i31 h) fws⟩
    intro i hi hr
    refine (congrArg (fun y => Good (oix (i 1) (512 * n + (i 2).val)) y) (oWrite (i38 h) _ _ i hi)).mpr ?_
    split
    · rename_i h38
      have hrow : (i 1) = rowIx (S / 32 * 32 + 32 + ((i 1).val - (S / 32 * 32 + 32))) := row_of h38.1
      refine (congrArg (fun r => Good (oix r (512 * n + (i 2).val)) _) hrow).mpr ?_
      exact h2 e n S S' _ _ _ _ T ⟨(i 1).val - (S / 32 * 32 + 32), h38.2⟩ (i 2) (by show S / 32 * 32 + 32 + ((i 1).val - (S / 32 * 32 + 32)) < S'; omega)
    · rename_i h38
      exact first_good (s := s) h1 T (i32 h) hf hi hr (by omega)
  · rw [dif_neg h]
    have hq : tiles S S' ≠ t := fun h' => h (hci.mpr h')
    have : (if tiles S S' < t + 1 then S' else S) = (if tiles S S' < t then S' else S) := by
      split <;> split <;> first | rfl | omega
    rw [this]
    iintro H Hk
    iapply Hk $$ H

end Cert.KernelIdeal.Hand
end
-- ==== Proof.KI.Out.lean ====
module
public import proofs.«01_k».proof.Proof.KI.Tile
/-!
The output side of the ring: the block being filled sits in one slot of the double buffer, the block before it is on its way
to the result, the earlier ones have arrived.  The two transfers at the start of a block.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

/-- The output slot of block `n`. -/
def osl (n : ℕ) : Fin 2 := ⟨n % 2, Nat.mod_lt _ (by decide)⟩
/-- The columns of the blocks before `n`. -/
def doneBlk (n : ℕ) : Finset S256x14336.Idx := Finset.univ.filter fun i => (i 1).val < 512 * n
/-- The columns of the blocks from `n` on. -/
def todoBlk (n : ℕ) : Finset S256x14336.Idx := Finset.univ.filter fun i => 512 * n ≤ (i 1).val

theorem todo_sub (n : ℕ) : oblk n ⊆ todoBlk n := by
  intro i hi
  have := (Finset.mem_filter.mp hi).2
  exact Finset.mem_filter.mpr ⟨Finset.mem_univ _, this.1⟩
theorem todo_diff (n : ℕ) : todoBlk n \ oblk n = todoBlk (n + 1) := by
  ext i
  simp only [Finset.mem_sdiff, todoBlk, oblk, Finset.mem_filter, Finset.mem_univ, _root_.true_and]
  omega
theorem done_union (n : ℕ) : doneBlk n ∪ oblk n = doneBlk (n + 1) := by
  ext i
  simp only [Finset.mem_union, doneBlk, oblk, Finset.mem_filter, Finset.mem_univ, _root_.true_and]
  omega
theorem done_disj (n : ℕ) : Disjoint (doneBlk n) (oblk n) := by
  rw [Finset.disjoint_left]
  intro i hi hj
  have h1 := (Finset.mem_filter.mp hi).2
  have h2 := (Finset.mem_filter.mp hj).2.1
  omega

variable (c : Dev nD) (Good : S256x14336.Idx → Elt F .bf16 → Prop)

/-- Two good sets of result elements are one. -/
theorem outGood_join {s t : Finset S256x14336.Idx} (h : Disjoint s t) : iprop(outGood c Good s ∗ outGood c Good t) ⊢ outGood c Good (s ∪ t) := by
  unfold outGood
  iintro ⟨⟨%f, Hf, %hf⟩, ⟨%g, Hg, %hg⟩⟩
  iexists (t.piecewise g f)
  isplitl [Hf Hg]
  · iapply (pointsTo_join h) $$ [Hf Hg]
    isplitl [Hf]; · iexact Hf
    iexact Hg
  ipureintro
  intro i hi
  by_cases ht : i ∈ t
  · rw [Finset.piecewise_eq_of_mem _ _ _ ht]; exact hg i ht
  · rw [Finset.piecewise_eq_of_notMem _ _ _ ht]
    exact hf i ((Finset.mem_union.mp hi).resolve_right ht)
theorem outGood_done (n : ℕ) : iprop(outGood c Good (doneBlk n) ∗ outGood c Good (oblk n)) ⊢ outGood c Good (doneBlk (n + 1)) := by
  rw [← done_union]; exact outGood_join c Good (done_disj n)

/-- An output slot at rest. -/
def oFree (s : Fin 2) : sProp 𝕄 := iprop(oAny c s.val ∗ semVal ((c : Thread nD τ), .dma (ocell s)) 0)
/-- The block before `n`: nothing before the first, otherwise on its way. -/
def prevO : ℕ → sProp 𝕄
  | 0 => oFree c 1
  | n + 1 => inflO c Good (osl n) n
/-- The columns not yet started. -/
def todo (n : ℕ) : sProp 𝕄 := iprop(∃ g, (outH.view.loc (c : Thread nD τ) ↦[todoBlk n]{fullShare} g))
/-- Block `n` being filled: its rows below `R` are good. -/
def StB (n R : ℕ) : sProp 𝕄 :=
  iprop(obuf c Good (osl n).val n R ∗ semVal ((c : Thread nD τ), .dma (ocell (osl n))) 0 ∗ prevO c Good n ∗ outGood c Good (doneBlk (n - 1)) ∗ todo c n)
/-- Block `n` complete and on its way, the one before it not yet waited for. -/
def StE (n : ℕ) : sProp 𝕄 :=
  iprop(prevO c Good n ∗ inflO c Good (osl n) n ∗ outGood c Good (doneBlk (n - 1)) ∗ todo c (n + 1))
/-- Before the first item of block `n`. -/
def StZ : ℕ → sProp 𝕄
  | 0 => StB c Good 0 0
  | n + 1 => StB c Good n 256
/-- After the start of block `n`'s predecessor's transfer. -/
def StM : ℕ → sProp 𝕄
  | 0 => StB c Good 0 0
  | n + 1 => StE c Good n
/-- Before item `j` of block `n`, whose experts before `j` fill the rows below `R`. -/
def StI (n j R : ℕ) : sProp 𝕄 := if j = 0 then StZ c Good n else StB c Good n R
/-- Between the two transfers. -/
def StJ (n j R : ℕ) : sProp 𝕄 := if j = 0 then StM c Good n else StB c Good n R

/-- Starting block `n`'s transfer. -/
theorem start_block {n : ℕ} (hn : n < 28) {o8 : Fin 1 → ℕ} {o9 : Fin 3 → ℕ} {o10 : Fin 2 → ℕ} {h8 h9 h10} {hsrc hdst hsem}
    (e8 : o8 = ![n % 2]) (e9 : o9 = ![n % 2, 0, 0]) (e10 : o10 = ![0, 512 * n]) {Q : PUnit → sProp 𝕄} :
    StB c Good n 256 ⊢ iprop((StE c Good n -∗ Q ⟨⟩)
      -∗ W (F := F) c (Prog.lift (.enqueueDma (osrc (o := o9) h9) (.here (odst (o := o10) h10))
          (.dma ((cc0_scratch14.slice (Rect.unit (s := S2) o8 S1.size h8)).squeeze S_ squeezes_S1_S_).sem) hsrc hdst hsem)) Q) := by
  unfold StB StE obuf todo
  iintro ⟨⟨%f, Hf, %hf⟩, Hs, Hp, Hd, ⟨%g, Hg⟩⟩ Hk
  ihave Hg2 := (show (outH.view.loc (c : Thread nD τ) ↦[todoBlk n]{fullShare} g)
      ⊢ iprop((outH.view.loc (c : Thread nD τ) ↦[oblk n]{fullShare} g) ∗ (outH.view.loc (c : Thread nD τ) ↦[todoBlk (n + 1)]{fullShare} g)) from by
    rw [← todo_diff]; exact (pointsTo_split_subset (todo_sub n)).1) $$ Hg
  icases Hg2 with ⟨Hb, Hr⟩
  iapply (o_enq (F := F) c (s := osl n) hn e8 e9 e10 hf) $$ [Hf Hb Hs]
  · isplitl [Hf]; · iexact Hf
    isplitl [Hb]; · iexact Hb
    iexact Hs
  iintro HF
  iapply Hk
  isplitl [Hp]; · iexact Hp
  isplitl [HF]; · iexact HF
  isplitl [Hd]; · iexact Hd
  iexists g
  iexact Hr

/-- A slot at rest takes block `n`. -/
theorem open_block (n : ℕ) : iprop(oFree c (osl n) ∗ prevO c Good n ∗ outGood c Good (doneBlk (n - 1)) ∗ todo c n) ⊢ StB c Good n 0 := by
  unfold StB oFree obuf
  iintro ⟨⟨⟨%f, Hf⟩, Hs⟩, Hp, Hd, Ht⟩
  isplitl [Hf]
  · iexists f
    isplitl [Hf]; · iexact Hf
    ipureintro
    intro i _ hi
    exact absurd hi (Nat.not_lt_zero _)
  isplitl [Hs]; · iexact Hs
  isplitl [Hp]; · iexact Hp
  isplitl [Hd]; · iexact Hd
  iexact Ht

/-- Waiting for block `n`, the one after it on its way. -/
theorem wait_block {n : ℕ} {o8 : Fin 1 → ℕ} {o9 : Fin 3 → ℕ} {o10 : Fin 2 → ℕ} {h8 h9 h10} {hsrc hdst}
    (e8 : o8 = ![n % 2]) {Q : PUnit → sProp 𝕄} :
    iprop(StE c Good (n + 1) ∗ (∃ w, owes (c : Thread nD τ) 0 w))
      ⊢ iprop((iprop(StB c Good (n + 2) 0 ∗ (∃ w, owes (c : Thread nD τ) 0 w)) -∗ Q ⟨⟩)
      -∗ W (F := F) c (Prog.lift (.waitDma2 ((cc0_scratch14.slice (Rect.unit (s := S2) o8 S1.size h8)).squeeze S_ squeezes_S1_S_).sem
          (osrc (o := o9) h9) (odst (o := o10) h10) hsrc hdst)) Q) := by
  unfold StE
  iintro ⟨⟨Hp, HF, Hd, Ht⟩, Ho⟩ Hk
  iapply (o_wait (F := F) c (Good := Good) (s := osl n) (n := n) e8) $$ [Hp Ho]
  · isplitl [Hp]
    · iapply (show prevO c Good (n + 1) ⊢ inflO c Good (osl n) n from .rfl) $$ Hp
    iexact Ho
  iintro ⟨Hg, Ha, Hs, Ho⟩
  iapply Hk
  isplitr [Ho]
  · iapply (open_block c Good (n + 2))
    isplitl [Ha Hs]
    · iapply (show iprop(oAny c (osl n).val ∗ semVal ((c : Thread nD τ), .dma (ocell (osl n))) 0) ⊢ oFree c (osl (n + 2)) from by
        rw [show osl (n + 2) = osl n from Fin.ext (by show (n + 2) % 2 = n % 2; omega)]; exact .rfl)
      isplitl [Ha]; · iexact Ha
      iexact Hs
    isplitl [HF]
    · iapply (show inflO c Good (osl (n + 1)) (n + 1) ⊢ prevO c Good (n + 2) from .rfl) $$ HF
    isplitl [Hd Hg]
    · iapply (show iprop(outGood c Good (doneBlk n) ∗ outGood c Good (oblk n)) ⊢ outGood c Good (doneBlk (n + 2 - 1)) from outGood_done c Good n)
      isplitl [Hd]; · iexact Hd
      iexact Hg
    iexact Ht
  · iexact Ho

/-- The second block finds its slot unused. -/
theorem second_block : StE c Good 0 ⊢ StB c Good 1 0 := by
  unfold StE
  iintro ⟨Hp, HF, Hd, Ht⟩
  iapply (open_block c Good 1)
  isplitl [Hp]; · iapply (show prevO c Good 0 ⊢ oFree c (osl 1) from .rfl) $$ Hp
  isplitl [HF]; · iapply (show inflO c Good (osl 0) 0 ⊢ prevO c Good 1 from .rfl) $$ HF
  isplitl [Hd]; · iexact Hd
  iexact Ht

/-- The first of a block's two transfers: the block before it starts on its way. -/
theorem out_start {n j R : ℕ} (hn : n < 28) (hj : j < 6) {i22 : k0_cond1 (wd n) (wd j) = 1#1 → ∀ a, k0_off22 (wd n) a + S1.size a ≤ S2.size a}
    {i23 : k0_cond1 (wd n) (wd j) = 1#1 → ∀ a, k0_off23 (wd n) a + S256x512.size a ≤ S256x14336.size a}
    {i24 : k0_cond1 (wd n) (wd j) = 1#1 → ∀ a, k0_off24 (wd n) a + S1x256x512.size a ≤ S2x256x512.size a}
    {hsrc : ∀ _ : k0_cond1 (wd n) (wd j) = 1#1, _} {hdst : ∀ _ : k0_cond1 (wd n) (wd j) = 1#1, _} {hsem : ∀ _ : k0_cond1 (wd n) (wd j) = 1#1, _} {α : Type} {K : Prog (TpuEff nD τ sig (Elt F) Λ₀ .tc) α} {Q : α → sProp 𝕄} :
    StI c Good n j R ⊢ iprop((StJ c Good n j R -∗ W (F := F) c K Q) -∗ W (F := F) c (if h : k0_cond1 (wd n) (wd j) = 1#1 then (do
      Prog.lift (.enqueueDma (osrc (o := k0_off24 (wd n)) (i24 h)) (.here (odst (o := k0_off23 (wd n)) (i23 h)))
          (.dma ((cc0_scratch14.slice (Rect.unit (s := S2) (k0_off22 (wd n)) S1.size (i22 h))).squeeze S_ squeezes_S1_S_).sem) (hsrc h) (hdst h) (hsem h))
      K : Prog (TpuEff nD τ sig (Elt F) Λ₀ .tc) α) else K) Q) := by
  by_cases h : k0_cond1 (wd n) (wd j) = 1#1
  · rw [dif_pos h]
    obtain ⟨h0, h1⟩ := (cond1_iff hn hj).mp h
    obtain ⟨n', rfl⟩ : ∃ n', n = n' + 1 := ⟨n - 1, by omega⟩
    subst h0
    unfold StI StJ
    rw [if_pos rfl, if_pos rfl]
    simp only [wp_bind]
    iintro H Hk
    iapply (start_block (F := F) c Good (n := n') (by omega) (off22_eq hn h1) (off24_eq hn h1) (off23_eq hn h1)) $$ [H]
    · iapply (show StZ c Good (n' + 1) ⊢ StB c Good n' 256 from .rfl) $$ H
    iintro H
    iapply Hk
    iapply (show StE c Good n' ⊢ StM c Good (n' + 1) from .rfl) $$ H
  · rw [dif_neg h]
    have hh : StI c Good n j R = StJ c Good n j R := by
      unfold StI StJ
      by_cases hj0 : j = 0
      · rw [if_pos hj0, if_pos hj0]
        have : n = 0 := by
          by_contra hn0
          exact h ((cond1_iff hn hj).mpr ⟨hj0, by omega⟩)
        subst this
        rfl
      · rw [if_neg hj0, if_neg hj0]
    rw [hh]
    iintro H Hk
    iapply Hk $$ H

/-- The second: the block before that has arrived, and its slot is free for this one. -/
theorem out_wait {n j R : ℕ} (hn : n < 28) (hj : j < 6) (hR : j = 0 → R = 0) {i25 : k0_cond2 (wd n) (wd j) = 1#1 → ∀ a, k0_off25 (wd n) a + S1.size a ≤ S2.size a}
    {i26 : k0_cond2 (wd n) (wd j) = 1#1 → ∀ a, k0_off26 (wd n) a + S256x512.size a ≤ S256x14336.size a}
    {i27 : k0_cond2 (wd n) (wd j) = 1#1 → ∀ a, k0_off27 (wd n) a + S1x256x512.size a ≤ S2x256x512.size a}
    {hsrc : ∀ _ : k0_cond2 (wd n) (wd j) = 1#1, _} {hdst : ∀ _ : k0_cond2 (wd n) (wd j) = 1#1, _} {α : Type} {K : Prog (TpuEff nD τ sig (Elt F) Λ₀ .tc) α} {Q : α → sProp 𝕄} :
    iprop(StJ c Good n j R ∗ (∃ w, owes (c : Thread nD τ) 0 w)) ⊢ iprop((iprop(StB c Good n R ∗ (∃ w, owes (c : Thread nD τ) 0 w)) -∗ W (F := F) c K Q)
      -∗ W (F := F) c (if h : k0_cond2 (wd n) (wd j) = 1#1 then (do
      Prog.lift (.waitDma2 ((cc0_scratch14.slice (Rect.unit (s := S2) (k0_off25 (wd n)) S1.size (i25 h))).squeeze S_ squeezes_S1_S_).sem
          (osrc (o := k0_off27 (wd n)) (i27 h)) (odst (o := k0_off26 (wd n)) (i26 h)) (hsrc h) (hdst h))
      K : Prog (TpuEff nD τ sig (Elt F) Λ₀ .tc) α) else K) Q) := by
  by_cases h : k0_cond2 (wd n) (wd j) = 1#1
  · rw [dif_pos h]
    obtain ⟨h0, h1⟩ := (cond2_iff hn hj).mp h
    obtain ⟨n', rfl⟩ : ∃ n', n = n' + 2 := ⟨n - 2, by omega⟩
    have := hR h0
    subst h0 this
    unfold StJ
    rw [if_pos rfl]
    simp only [wp_bind]
    iintro ⟨H, Ho⟩ Hk
    iapply (wait_block (F := F) c Good (n := n') (off25_eq hn h1)) $$ [H Ho]
    · isplitl [H]
      · iapply (show StM c Good (n' + 2) ⊢ StE c Good (n' + 1) from .rfl) $$ H
      iexact Ho
    iintro H
    iapply Hk $$ H
  · rw [dif_neg h]
    have hh : StJ c Good n j R ⊢ StB c Good n R := by
      unfold StJ
      by_cases hj0 : j = 0
      · rw [if_pos hj0, hR hj0]
        have : n < 2 := by
          by_contra hn0
          exact h ((cond2_iff hn hj).mpr ⟨hj0, by omega⟩)
        match n, this with
        | 0, _ => exact .rfl
        | 1, _ => exact second_block c Good
      · rw [if_neg hj0]
    iintro ⟨H, Ho⟩ Hk
    iapply Hk
    isplitl [H]; · iapply hh $$ H
    iexact Ho

end Cert.KernelIdeal.Hand
end
-- ==== Proof.KI.ItemA.lean ====
module
public import proofs.«01_k».proof.Proof.KI.Out
/-!
One item of the ring: its weight block is waited for, the output slot made ready, its tile computed, and the slot's next
block started.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

section Pays
variable (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) (g : ℕ → ℕ)
/-- Every tile's stored values are good. -/
structure Pays : Prop where
  a1 : FirstOK Good fcode fw fxs fws g 32 k0_pay5
  a2 : FirstOK Good fcode fw fxs fws g 64 k0_pay7
  a3 : FirstOK Good fcode fw fxs fws g 96 k0_pay10
  a4 : FirstOK Good fcode fw fxs fws g 128 k0_pay13
  a5 : FirstOK Good fcode fw fxs fws g 160 k0_pay16
  a6 : FirstOK Good fcode fw fxs fws g 192 k0_pay19
  a7 : FirstOK Good fcode fw fxs fws g 224 k0_pay22
  a8 : FirstOK Good fcode fw fxs fws g 256 k0_pay25
  b2 : RestOK Good fcode fw fxs fws g 64 32 k0_pay8
  b3 : RestOK Good fcode fw fxs fws g 96 64 k0_pay11
  b4 : RestOK Good fcode fw fxs fws g 128 96 k0_pay14
  b5 : RestOK Good fcode fw fxs fws g 160 128 k0_pay17
  b6 : RestOK Good fcode fw fxs fws g 192 160 k0_pay20
  b7 : RestOK Good fcode fw fxs fws g 224 192 k0_pay23
  b8 : RestOK Good fcode fw fxs fws g 256 224 k0_pay26
end Pays

/-! ## Where a tile's accesses start -/

theorem tX {S : ℕ} (h : S ≤ 256) : (![(Scalar.indexCast (bw (wd S))).toNat, 0] : Fin 2 → ℕ) = ![S / 32 * 32, 0] := by rw [bwi h]
theorem tW {k : ℕ} (h : k < 16) : (![(Scalar.indexCast (wd k)).toNat, 0, 0] : Fin 3 → ℕ) = ![k, 0, 0] := by rw [idx_wd (by omega)]
theorem tE {e : ℕ} (h : e < 6) : (![(Scalar.indexCast (wd e)).toNat] : Fin 1 → ℕ) = ![e] := by rw [idx_wd (by omega)]
theorem tS {n e : ℕ} (hn : n < 28) (h : e < 6) : (![(Scalar.indexCast (wd e)).toNat, (Scalar.indexCast (Scalar.addi (Scalar.muli (wd n) 512#32) 0#32)).toNat] : Fin 2 → ℕ) = ![e, 512 * n] := by
  rw [idx_wd (by omega), mul0 hn]
theorem tO {n S : ℕ} (hn : n < 28) (h : S ≤ 256) : (![(Scalar.indexCast (Scalar.remsi (wd n) 2#32)).toNat, (Scalar.indexCast (bw (wd S))).toNat, 0] : Fin 3 → ℕ) = ![(osl n).val, S / 32 * 32, 0] := by
  rw [nmod hn, bwi h]; rfl
theorem tO' {n S : ℕ} (hn : n < 28) (h : S ≤ 256) :
    (![(Scalar.indexCast (Scalar.remsi (wd n) 2#32)).toNat, (Scalar.indexCast (Scalar.addi (bw (wd S)) 32#32)).toNat, 0] : Fin 3 → ℕ) = ![(osl n).val, S / 32 * 32 + 32, 0] := by
  rw [nmod hn, bwi32 h]; rfl

variable (c : Dev nD) (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) {g : ℕ → ℕ} {v2 v11 v20 v29 v38 v47 : BitVec 32} {m : ℕ} {E S : ℕ → ℕ} {fa fs : S7.Idx → BitVec 32}

/-- The item at position `j` of block `n`. -/
theorem Tab.item (T : Tab g fa fs m E S) {n j : ℕ} (hn : n < 28) (hj : j < m) : Item g (E j) n (S j) (S (j + 1)) :=
  ⟨T.E_lt j hj, hn, T.lo j hj, T.hi j hj, T.S_lt j hj, T.S_le (j + 1) hj⟩

/-- The first half of an item: wait for its weights and ready the output slot. -/
theorem item_wait (T : Tab g fa fs m E S) (t : Fin (k0_t4_loop v2 v11 v20 v29 v38 v47).trips) {n j pn pj : ℕ} {k : Fin 16}
    (hn : n < 28) (hj : j < m) (hpn : k0_cond11 v2 v11 v20 v29 v38 v47 t = 1#1 → pn < 28) (hpj : pj < m)
    (h19 : k0_chk19 v2 v11 v20 v29 v38 v47 t (wd pj)) (h15 : k0_chk15 v2 v11 v20 v29 v38 v47 t (wd k.val)) (h17 : k0_chk17 (wd n) (wd k.val) (wd (E j)) (wd (S j)) (wd (S (j + 1))))
    {Q : _ → sProp 𝕄} :
    iprop(actPt c fa ∗ startPt c fs ∗ inflW c fw k (E j) n ∗ StI c Good n j (S j) ∗ (∃ w, owes (c : Thread nD τ) 0 w))
      ⊢ iprop((iprop(actPt c fa ∗ startPt c fs ∗ holdW c fw k (E j) n ∗ StB c Good n (S j) ∗ (∃ w, owes (c : Thread nD τ) 0 w))
          -∗ Q ⟨h19, h15, Scf.iv 0#32 1#32 t, wd (E j), wd (S j), wd (S (j + 1)), h17, Scalar.andi (wd (S j)) 4294967264#32, Scalar.shrsi (Scalar.addi (Scalar.subi (wd (S (j + 1))) (Scalar.andi (wd (S j)) 4294967264#32)) 31#32) 5#32, Scalar.remsi (wd n) 2#32,
            Scalar.cmpi .eq (Scalar.shrsi (Scalar.addi (Scalar.subi (wd (S (j + 1))) (Scalar.andi (wd (S j)) 4294967264#32)) 31#32) 5#32) 1#32⟩)
        -∗ W (F := F) c (k0_part2_skel gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 v2 v11 v20 v29 v38 v47 0#32 1#32 t (wd n) (wd j) (wd pn) (wd pj) (wd k.val)) Q) := by
  have h1 := T.one
  have h6 := T.six
  have hE := T.E_lt j hj
  have hS1 := T.S_le (j + 1) hj
  have hS := T.S_lt j hj
  unfold k0_part2_skel
  dsimp only
  simp only [wp_bind]
  iintro ⟨Ha, Hst, HF, HO, Ho⟩ Hk
  iapply (l_assume (F := F) c (chk19_of t (by omega)))
  iapply (l_assume (F := F) c (chk18_of t hpn))
  iapply (l_assume (F := F) c (chk15_of t k.isLt))
  iapply (l_assume (F := F) c (chk14_of hn))
  iapply (l_assume (F := F) c (chk13_of hn (by omega)))
  iapply (l_act (F := F) c (off16_eq (by omega))) $$ Ha
  iintro Ha
  iapply (l_start (F := F) c (off16_eq (by omega))) $$ Hst
  iintro Hst
  iapply (l_start (F := F) c (off17_eq (by omega))) $$ Hst
  iintro Hst
  rw [T.fa j hj, T.fs j (by omega), T.fs (j + 1) (by omega)]
  iapply (l_assume (F := F) c (chk17_of hn k.isLt hE hS hS1))
  iapply (l_act (F := F) c (off18_eq (by omega))) $$ Ha
  iintro Ha
  rw [T.fa j hj]
  iapply (l_assume (F := F) c (chk16_of hn hE))
  iapply (w_wait (F := F) c fw (k := k) (e := E j) (n := n) (off19_eq k.isLt) (off20_eq k.isLt)) $$ [HF Ho]
  · isplitl [HF]; · iexact HF
    iexact Ho
  iintro ⟨HF, Ho⟩
  iapply (out_start (F := F) c Good (n := n) (j := j) (R := S j) hn (by omega)) $$ HO
  iintro HO
  iapply (out_wait (F := F) c Good (n := n) (j := j) (R := S j) hn (by omega) (fun h => h ▸ T.S_zero)) $$ [HO Ho]
  · isplitl [HO]; · iexact HO
    iexact Ho
  iintro ⟨HO, Ho⟩
  iapply (l_pure (F := F) c)
  iapply Hk
  isplitl [Ha]; · iexact Ha
  isplitl [Hst]; · iexact Hst
  isplitl [HF]; · iexact HF
  isplitl [HO]; · iexact HO
  iexact Ho

theorem w_if_pos {cnd : BitVec 1} {α : Type} {A : cnd = 1#1 → Prog (TpuEff nD τ sig (Elt F) Λ₀ .tc) α} {B : ¬ cnd = 1#1 → Prog (TpuEff nD τ sig (Elt F) Λ₀ .tc) α} {Q : α → sProp 𝕄}
    (h : cnd = 1#1) : W (F := F) c (A h) Q ⊢ W (F := F) c (dite (cnd = 1#1) A B) Q := by
  rw [dif_pos h]
theorem w_if_neg {cnd : BitVec 1} {α : Type} {A : cnd = 1#1 → Prog (TpuEff nD τ sig (Elt F) Λ₀ .tc) α} {B : ¬ cnd = 1#1 → Prog (TpuEff nD τ sig (Elt F) Λ₀ .tc) α} {Q : α → sProp 𝕄}
    (h : ¬ cnd = 1#1) : W (F := F) c (B h) Q ⊢ W (F := F) c (dite (cnd = 1#1) A B) Q := by
  rw [dif_neg h]

set_option maxHeartbeats 4000000 in
/-- The second half of an item: its tile, and the start of the slot's next block. -/
theorem item_tile (P : Pays Good fcode fw fxs fws g) (T : Tab g fa fs m E S) (hm : nA v2 v11 v20 v29 v38 v47 = wd m)
    (t : Fin (k0_t4_loop v2 v11 v20 v29 v38 v47).trips) {n j pn pj : ℕ} {k : Fin 16}
    (hn : n < 28) (hj : j < m) (hpn : k0_cond11 v2 v11 v20 v29 v38 v47 t = 1#1 → pn < 28) (hpj : pj < m) (x54 : BitVec 32) (x162 : BitVec 1)
    (h19 : k0_chk19 v2 v11 v20 v29 v38 v47 t (wd pj)) (h15 : k0_chk15 v2 v11 v20 v29 v38 v47 t (wd k.val)) (h17 : k0_chk17 (wd n) (wd k.val) (wd (E j)) (wd (S j)) (wd (S (j + 1))))
    {a21 v140 v141 : BitVec 32} {Q : _ → sProp 𝕄} :
    iprop(actPt c fa ∗ datas c fcode fxs fws ∗ holdW c fw k (E j) n ∗ StB c Good n (S j))
      ⊢ iprop((iprop(actPt c fa ∗ datas c fcode fxs fws ∗ StB c Good n (S (j + 1))
          ∗ (if k0_cond11 v2 v11 v20 v29 v38 v47 t = 1#1 then inflW c fw k (E pj) pn else freeW c fw k))
          -∗ Q ⟨Scalar.cmpi .eq (Scalar.addi (wd j) 1#32) (wd m), Scalar.select (Scalar.cmpi .eq (Scalar.addi (wd j) 1#32) (wd m)) (Scalar.addi (wd n) 1#32) (wd n), 1#32⟩)
        -∗ W (F := F) c (k0_part3_skel gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 v2 v11 v20 v29 v38 v47 (wd m) x54 t (wd n) (wd j) (wd pn) (wd pj) (wd k.val) h19 h15 a21 (wd (E j)) (wd (S j)) (wd (S (j + 1))) h17
            (Scalar.andi (wd (S j)) 4294967264#32) v140 v141 x162) Q) := by
  have h1 := T.one
  have h6 := T.six
  have hE := T.E_lt j hj
  have hS1 := T.S_le (j + 1) hj
  have hS := T.S_lt j hj
  have hS0 : S j ≤ 256 := by omega
  have I := T.item hn hj
  have ht0 : ¬ tiles (S j) (S (j + 1)) < 1 := by unfold tiles; omega
  have ht9 : tiles (S j) (S (j + 1)) < 8 + 1 := by unfold tiles; omega
  iintro ⟨Ha, Hd, HF, HB⟩ Hk
  ihave HB2 := (show StB c Good n (S j) ⊢ iprop(obuf c Good (osl n).val n (if tiles (S j) (S (j + 1)) < 1 then S (j + 1) else S j)
      ∗ semVal ((c : Thread nD τ), .dma (ocell (osl n))) 0 ∗ prevO c Good n ∗ outGood c Good (doneBlk (n - 1)) ∗ todo c n) from by
    rw [if_neg ht0]; exact .rfl) $$ HB
  icases HB2 with ⟨HB, HR⟩
  unfold k0_part3_skel
  iapply (tile_one (F := F) c Good fcode fw fxs fws g (t := 1) (k := k) (s := osl n) (S := S j) (S' := S (j + 1)) (n := n) (e := E j) (R := 32) rfl (by decide) rfl I P.a1 (cnd := k0_cond3 (wd (S j)) (wd (S (j + 1)))) rfl (tX hS0) (tW k.isLt) (tE hE) (tS hn hE) (tO hn hS0)) $$ [Hd HF HB]
  · isplitl [Hd]; · iexact Hd
    isplitl [HF]; · iexact HF
    iexact HB
  iintro ⟨Hd, HF, HB⟩
  iapply (tile_more (F := F) c Good fcode fw fxs fws g (t := 2) (k := k) (s := osl n) (S := S j) (S' := S (j + 1)) (n := n) (e := E j) (R := 64) (R' := 32) rfl rfl (by decide) I P.a2 P.b2 (cnd := k0_cond4 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 3) (k := k) (s := osl n) (S := S j) (S' := S (j + 1)) (n := n) (e := E j) (R := 96) (R' := 64) rfl rfl (by decide) I P.a3 P.b3 (cnd := k0_cond5 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 4) (k := k) (s := osl n) (S := S j) (S' := S (j + 1)) (n := n) (e := E j) (R := 128) (R' := 96) rfl rfl (by decide) I P.a4 P.b4 (cnd := k0_cond6 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 5) (k := k) (s := osl n) (S := S j) (S' := S (j + 1)) (n := n) (e := E j) (R := 160) (R' := 128) rfl rfl (by decide) I P.a5 P.b5 (cnd := k0_cond7 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 6) (k := k) (s := osl n) (S := S j) (S' := S (j + 1)) (n := n) (e := E j) (R := 192) (R' := 160) rfl rfl (by decide) I P.a6 P.b6 (cnd := k0_cond8 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 7) (k := k) (s := osl n) (S := S j) (S' := S (j + 1)) (n := n) (e := E j) (R := 224) (R' := 192) rfl rfl (by decide) I P.a7 P.b7 (cnd := k0_cond9 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  iapply (tile_more (F := F) c Good fcode fw fxs fws g (t := 8) (k := k) (s := osl n) (S := S j) (S' := S (j + 1)) (n := n) (e := E j) (R := 256) (R' := 224) rfl rfl (by decide) I P.a8 P.b8 (cnd := k0_cond10 (wd (S j)) (wd (S (j + 1)))) rfl (tX hS0) (tW k.isLt) (tE hE) (tS hn hE) (tO hn hS0) (tO' hn hS0)) $$ [Hd HF HB]
  · isplitl [Hd]; · iexact Hd
    isplitl [HF]; · iexact HF
    iexact HB
  iintro ⟨Hd, HF, HB⟩
  ihave HB3 := (show iprop(obuf c Good (osl n).val n (if tiles (S j) (S (j + 1)) < 8 + 1 then S (j + 1) else S j)
      ∗ semVal ((c : Thread nD τ), .dma (ocell (osl n))) 0 ∗ prevO c Good n ∗ outGood c Good (doneBlk (n - 1)) ∗ todo c n) ⊢ StB c Good n (S (j + 1)) from by
    rw [if_pos ht9]; exact .rfl) $$ [HB HR]
  · isplitl [HB]; · iexact HB
    iexact HR
  ihave HF2 := (holdW_free c fw k (E j) n) $$ HF
  by_cases h11 : k0_cond11 v2 v11 v20 v29 v38 v47 t = 1#1
  · rw [if_pos h11]
    have hpE := T.E_lt pj hpj
    iapply (w_if_pos (F := F) c h11)
    dsimp only
    simp only [wp_bind]
    iapply (l_act (F := F) c (off75_eq (by omega))) $$ Ha
    iintro Ha
    rw [T.fa pj hpj]
    iapply (l_assume (F := F) c (chk20_of t (hpn h11) hpE))
    iapply (w_enq (F := F) c fw (k := k) hpE (hpn h11) (off76_eq k.isLt) (off77_eq k.isLt) (off78_eq (hpn h11) hpE)) $$ HF2
    iintro HF
    iapply (l_pure (F := F) c)
    iapply Hk
    isplitl [Ha]; · iexact Ha
    isplitl [Hd]; · iexact Hd
    isplitl [HB3]; · iexact HB3
    iexact HF
  · rw [if_neg h11]
    iapply (w_if_neg (F := F) c h11)
    dsimp only
    iapply (l_pure (F := F) c)
    iapply Hk
    isplitl [Ha]; · iexact Ha
    isplitl [Hd]; · iexact Hd
    isplitl [HB3]; · iexact HB3
    iexact HF2

end Cert.KernelIdeal.Hand
end
-- ==== Proof.KI.Items.lean ====
module
public import proofs.«01_k».proof.Proof.KI.ItemA
/-!
The ring's main loop: what holds before each item, and that one trip keeps it.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

/-- The ring before item `i` of `28·m`: slot `k` holds the first item from `i` on that falls to it. -/
def ringSt (m i : ℕ) (k : Fin 16) : Option ℕ :=
  if i + (k.val + 16 - i % 16) % 16 < 28 * m then some (i + (k.val + 16 - i % 16) % 16) else none
/-- The slot of item `i`. -/
def rsl (i : ℕ) : Fin 16 := ⟨i % 16, Nat.mod_lt _ (by decide)⟩

theorem ringSt_here {m i : ℕ} (h : i < 28 * m) : ringSt m i (rsl i) = some i := by
  have : (i % 16 + 16 - i % 16) % 16 = 0 := by omega
  show (if i + (i % 16 + 16 - i % 16) % 16 < 28 * m then some (i + (i % 16 + 16 - i % 16) % 16) else none) = some i
  rw [this, Nat.add_zero, if_pos h]
theorem ringSt_next (m i : ℕ) : ringSt m (i + 1) = Function.update (ringSt m i) (rsl i) (if i + 16 < 28 * m then some (i + 16) else none) := by
  funext k
  by_cases hk : k = rsl i
  · subst hk
    rw [Function.update_self]
    have : i + 1 + (i % 16 + 16 - (i + 1) % 16) % 16 = i + 16 := by omega
    show (if i + 1 + (i % 16 + 16 - (i + 1) % 16) % 16 < 28 * m then some (i + 1 + (i % 16 + 16 - (i + 1) % 16) % 16) else none) = _
    rw [this]
  · rw [Function.update_of_ne hk]
    have h1 : k.val ≠ i % 16 := fun h => hk (Fin.ext h)
    have h2 := k.isLt
    have : i + 1 + (k.val + 16 - (i + 1) % 16) % 16 = i + (k.val + 16 - i % 16) % 16 := by omega
    unfold ringSt
    rw [this]
theorem ringSt_zero {m : ℕ} (h : 1 ≤ m) : ringSt m 0 = primed 16 := by
  funext k
  have := k.isLt
  have e : 0 + (k.val + 16 - 0 % 16) % 16 = k.val := by omega
  unfold ringSt primed
  rw [e, if_pos (by omega), if_pos this]
theorem ringSt_end (m : ℕ) : ringSt m (28 * m) = fun _ => none := by
  funext k
  unfold ringSt
  rw [if_neg (by omega)]

variable (c : Dev nD) (Good : S256x14336.Idx → Elt F .bf16 → Prop) (fcode : S256x4096.Idx → Elt F .fp8e4m3) (fw : S6x4096x14336.Idx → Elt F .fp8e4m3)
  (fxs : S6.Idx → Elt F .f32) (fws : S6x14336.Idx → Elt F .f32) {g : ℕ → ℕ} {v2 v11 v20 v29 v38 v47 : BitVec 32} {m : ℕ} {E S : ℕ → ℕ} {fa fs : S7.Idx → BitVec 32}

/-- Before item `i`. -/
def itemInv (m : ℕ) (E S : ℕ → ℕ) (fa fs : S7.Idx → BitVec 32) (i : ℕ) (acc : BitVec 32 × BitVec 32 × BitVec 32 × BitVec 32 × BitVec 32) : sProp 𝕄 :=
  iprop(⌜acc = (wd (i / m), wd (i % m), wd ((i + 16) / m), wd ((i + 16) % m), wd (i % 16))⌝ ∗ actPt c fa ∗ startPt c fs ∗ datas c fcode fxs fws
    ∗ AtW (ringΦ c fw E m) (ringSt m i) ∗ StI c Good (i / m) (i % m) (S (i % m)) ∗ (∃ w, owes (c : Thread nD τ) 0 w))

/-- After an item's tile the output side is as before the next item. -/
theorem StI_next (T : Tab g fa fs m E S) (i : ℕ) : StB c Good (i / m) (S (i % m + 1)) ⊢ StI c Good ((i + 1) / m) ((i + 1) % m) (S ((i + 1) % m)) := by
  rw [div_succ T.one, mod_succ T.one]
  unfold StI
  by_cases h : i % m + 1 = m
  · rw [if_pos h, if_pos h, if_pos rfl, h, T.S_last]
    exact .rfl
  · rw [if_neg h, if_neg h, if_neg (Nat.succ_ne_zero _)]

theorem item_step (P : Pays Good fcode fw fxs fws g) (T : Tab g fa fs m E S) (hm : nA v2 v11 v20 v29 v38 v47 = wd m) (hw6 : k0_chk6 v2 v11 v20 v29 v38 v47) (x54 : BitVec 32)
    (t : Fin (k0_t4_loop v2 v11 v20 v29 v38 v47).trips) (acc : BitVec 32 × BitVec 32 × BitVec 32 × BitVec 32 × BitVec 32) :
    itemInv c Good fcode fw fxs fws m E S fa fs t.val acc
      ⊢ W (F := F) c (k0_t4_body gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 v2 v11 v20 v29 v38 v47 hw6 (wd m) x54 0#32 t acc) (itemInv c Good fcode fw fxs fws m E S fa fs (t.val + 1)) := by
  have h1 := T.one
  have h6 := T.six
  have ht : t.val < 28 * m := lt_of_lt_of_eq t.isLt (t4_trips hm h1 h6)
  have hj : t.val % m < m := Nat.mod_lt _ h1
  have hpj : (t.val + 16) % m < m := Nat.mod_lt _ h1
  have hn : t.val / m < 28 := div_lt28 h1 ht
  have hc := cond11_iff hm h1 h6 t
  have hpn : k0_cond11 v2 v11 v20 v29 v38 v47 t = 1#1 → (t.val + 16) / m < 28 := fun h => div_lt28 h1 (hc.mp h)
  have hpn' : (t.val + 16) / m < 100 := by
    have : (t.val + 16) / m ≤ (28 * m + 16) / m := Nat.div_le_div_right (by omega)
    have h2 : (28 * m + 16) / m < 100 := Nat.div_lt_of_lt_mul (by omega)
    omega
  have hE := T.E_lt _ hj
  have h19 := chk19_of (v2 := v2) (v11 := v11) (v20 := v20) (v29 := v29) (v38 := v38) (v47 := v47) t (j := (t.val + 16) % m) (by omega)
  have h15 := chk15_of (v2 := v2) (v11 := v11) (v20 := v20) (v29 := v29) (v38 := v38) (v47 := v47) t (k := (rsl t.val).val) (rsl t.val).isLt
  have h17 := chk17_of (n := t.val / m) (k := (rsl t.val).val) hn (rsl t.val).isLt hE (T.S_lt _ hj) (T.S_le _ hj)
  unfold itemInv
  iintro ⟨%hacc, Ha, Hs, Hd, HR, HO, Ho⟩
  subst hacc
  unfold k0_t4_body
  rw [k0_part2_eq_skeleton, k0_part3_eq_skeleton]
  dsimp only
  simp only [wp_bind]
  ihave HR2 := (ring_take c fw E m _ (rsl t.val) (some t.val) (ringSt_here ht)) $$ HR
  icases HR2 with ⟨H0, HR⟩
  iapply (item_wait (F := F) c Good fw T t (n := t.val / m) (j := t.val % m) (pn := (t.val + 16) / m) (pj := (t.val + 16) % m) (k := rsl t.val) hn hj hpn hpj h19 h15 h17) $$ [Ha Hs H0 HO Ho]
  · isplitl [Ha]; · iexact Ha
    isplitl [Hs]; · iexact Hs
    isplitl [H0]
    · iapply (show ringΦ c fw E m (rsl t.val) (some t.val) ⊢ inflW c fw (rsl t.val) (E (t.val % m)) (t.val / m) from .rfl) $$ H0
    isplitl [HO]; · iexact HO
    iexact Ho
  iintro ⟨Ha, Hs, HF, HB, Ho⟩
  iapply (item_tile (F := F) c Good fcode fw fxs fws P T hm t (n := t.val / m) (j := t.val % m) (pn := (t.val + 16) / m) (pj := (t.val + 16) % m) (k := rsl t.val) hn hj hpn hpj x54 _ h19 h15 h17) $$ [Ha Hd HF HB]
  · isplitl [Ha]; · iexact Ha
    isplitl [Hd]; · iexact Hd
    isplitl [HF]; · iexact HF
    iexact HB
  iintro ⟨Ha, Hd, HB, HF⟩
  iapply (l_pure (F := F) c)
  isplitr
  · ipureintro
    dsimp only
    have ek := adv_k (rsl t.val).isLt
    rw [adv_n hj h6 (by omega), adv_j hj h6, adv_n hpj h6 hpn', adv_j hpj h6, ← div_succ (i := t.val) h1, ← mod_succ (i := t.val) h1,
      ← div_succ (i := t.val + 16) h1, ← mod_succ (i := t.val + 16) h1, show t.val + 16 + 1 = t.val + 1 + 16 from by omega]
    have e16 : ((rsl t.val).val + 1) % 16 = (t.val + 1) % 16 := by show (t.val % 16 + 1) % 16 = (t.val + 1) % 16; omega
    exact congrArg (fun x => (wd ((t.val + 1) / m), wd ((t.val + 1) % m), wd ((t.val + 1 + 16) / m), wd ((t.val + 1 + 16) % m), x)) (ek.trans (congrArg wd e16))
  isplitl [Ha]; · iexact Ha
  isplitl [Hs]; · iexact Hs
  isplitl [Hd]; · iexact Hd
  isplitl [HR HF]
  · iapply (ring_put c fw E m (ringSt m t.val) (ringSt m (t.val + 1)) (rsl t.val) _ (ringSt_next m t.val))
    isplitl [HF]
    · iapply (show (if k0_cond11 v2 v11 v20 v29 v38 v47 t = 1#1 then inflW c fw (rsl t.val) (E ((t.val + 16) % m)) ((t.val + 16) / m) else freeW c fw (rsl t.val))
          ⊢ ringΦ c fw E m (rsl t.val) (if t.val + 16 < 28 * m then some (t.val + 16) else none) from by
        by_cases h : t.val + 16 < 28 * m
        · rw [if_pos (hc.mpr h), if_pos h]; exact .rfl
        · rw [if_neg (fun h' => h (hc.mp h')), if_neg h]; exact .rfl) $$ HF
    · iexact HR
  isplitl [HB]
  · iapply (StI_next (F := F) c Good T t.val) $$ HB
  · iexact Ho

end Cert.KernelIdeal.Hand
end
-- ==== Proof.KI.Codes.lean ====
module
public import proofs.«01_k».proof.Proof.KI.Items
/-!
# Quantising the activations: the loop over column groups

Each trip reads four groups of 128 columns of the activations and writes their codes.  What a code must
be is a parameter `GoodC`; what is proved here is that after the loop every code is good.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (c : Dev nD)

/-- Column `k`. -/
def colIx (k : ℕ) : Fin 4096 := ⟨k % 4096, Nat.mod_lt _ (by decide)⟩
/-- The index of the activations at row `a`, column `k`. -/
abbrev cix (a : Fin 256) (k : ℕ) : S256x4096.Idx := ix2 a (colIx k)

/-- The rectangle of 128 columns from `b` holds, at `(a, y)`, column `b + y` of row `a`. -/
theorem col_emb {b : ℕ} (hb : b + 128 ≤ 4096) (inb) (i : S256x128.Idx) :
    (Rect.unit (s := S256x4096) ![0, b] S256x128.size inb).emb i = cix (i 0) (b + (i 1).val) := by
  have h1 : (i 1).val < 128 := (i 1).isLt
  funext a
  fin_cases a
  · apply Fin.ext; show 0 + 1 * (i 0).val = (i 0).val; omega
  · apply Fin.ext; show b + 1 * (i 1).val = (b + (i 1).val) % 4096; rw [Nat.mod_eq_of_lt (by omega)]; omega

/-- The codes of the columns below `n` are good. -/
def ColsOK (GoodC : S256x4096.Idx → Elt F .fp8e4m3 → Prop) (n : ℕ) (f : S256x4096.Idx → Elt F .fp8e4m3) : Prop :=
  ∀ i : S256x4096.Idx, (i 1).val < n → GoodC i (f i)

/-- What is asked of the function that makes the codes of 128 columns. -/
def ColOK (GoodC : S256x4096.Idx → Elt F .fp8e4m3 → Prop) (fx : S256x4096.Idx → Elt F .bf16)
    (p : Vec F S256x128 .bf16 → Vec F S256x128 .fp8e4m3) : Prop :=
  ∀ b, b + 128 ≤ 4096 → ∀ x : Vec F S256x128 .bf16, (∀ i, x i = fx (cix (i 0) (b + (i 1).val))) → ∀ i, GoodC (cix (i 0) (b + (i 1).val)) (p x i)

/-- The codes, those of the columns below `n` good. -/
def codes (GoodC : S256x4096.Idx → Elt F .fp8e4m3 → Prop) (n : ℕ) : sProp 𝕄 :=
  iprop(∃ f : S256x4096.Idx → Elt F .fp8e4m3, ((codeM.view.loc (c : Thread nD τ)) ↦[Finset.univ]{fullShare} f) ∗ ⌜ColsOK GoodC n f⌝)

variable (GoodC : S256x4096.Idx → Elt F .fp8e4m3 → Prop) (fx : S256x4096.Idx → Elt F .bf16)

/-- Storing the good codes of 128 columns. -/
theorem cols_write {b : ℕ} (hb : b + 128 ≤ 4096) (inb) {f : S256x4096.Idx → Elt F .fp8e4m3} {w : Vec F S256x128 .fp8e4m3}
    (hf : ColsOK GoodC b f) (hw : ∀ i : S256x128.Idx, GoodC (cix (i 0) (b + (i 1).val)) (w i)) :
    ColsOK GoodC (b + 128) ((codeM.access (Rect.unit (s := S256x4096) ![0, b] S256x128.size inb)).write (Elt F) f w Finset.univ) := by
  intro i hi
  by_cases h : (i 1).val < b
  · have : i ∉ (codeM.access (Rect.unit (s := S256x4096) ![0, b] S256x128.size inb)).setOn Finset.univ := by
      intro hm
      obtain ⟨x, -, e⟩ := Finset.mem_map.mp hm
      have e1 : b + 1 * (x 1).val = (i 1).val := congrArg Fin.val (congrFun e 1)
      omega
    rw [View.write_of_not_mem _ _ _ this]
    exact hf i h
  · let y : Fin 128 := ⟨(i 1).val - b, by omega⟩
    have h1 : (i 1).val < 4096 := (i 1).isLt
    let a : Fin 256 := i 0
    have hi' : i = cix a (b + y.val) := by
      funext d
      fin_cases d
      · rfl
      · apply Fin.ext; show (i 1).val = (b + ((i 1).val - b)) % 4096; rw [Nat.mod_eq_of_lt (by omega)]; omega
    have he : (codeM.access (Rect.unit (s := S256x4096) ![0, b] S256x128.size inb)).emb (ix2 a y) = i := (col_emb hb inb (ix2 a y)).trans hi'.symm
    have hv : (codeM.access (Rect.unit (s := S256x4096) ![0, b] S256x128.size inb)).write (Elt F) f w Finset.univ i = w (ix2 a y) := by
      rw [← he]
      exact View.write_emb_of_mem _ _ (Finset.mem_univ _)
    rw [hv, hi']
    exact hw (ix2 a y)

/-- One group of 128 columns: read, made into codes, stored. -/
theorem col_load {b : ℕ} {o : Fin 2 → ℕ} (ho : o = ![0, b]) {inb} {hl} {Q : Vec F S256x128 .bf16 → sProp 𝕄} (hb : b + 128 ≤ 4096) :
    ((xM.view.loc (c : Thread nD τ)) ↦[Finset.univ]{fullShare} fx)
      ⊢ iprop((∀ x : Vec F S256x128 .bf16, iprop(⌜∀ i : S256x128.Idx, x i = fx (cix (i 0) (b + (i 1).val))⌝ ∗ ((xM.view.loc (c : Thread nD τ)) ↦[Finset.univ]{fullShare} fx)) -∗ Q x)
        -∗ W (F := F) c (Prog.lift (.load xM (Rect.unit (s := S256x4096) o S256x128.size inb).toLoadRect hl)) Q) := by
  subst ho
  iintro H HK
  iapply (l_load (F := F) c (m := xM) (r := Rect.unit (s := S256x4096) ![0, b] S256x128.size inb) (f := fx) (S := Finset.univ) (Finset.subset_univ _)) $$ H
  iintro H
  iapply HK
  isplitr
  · ipureintro
    intro i
    exact congrArg fx (col_emb hb inb i)
  · iexact H
/-- The codes read before they are written: what they are does not matter. -/
theorem code_load {n : ℕ} {o : Fin 2 → ℕ} {inb} {hl} {Q : Vec F S256x128 .fp8e4m3 → sProp 𝕄} :
    codes c GoodC n ⊢ iprop((∀ x : Vec F S256x128 .fp8e4m3, codes c GoodC n -∗ Q x)
        -∗ W (F := F) c (Prog.lift (.load codeM (Rect.unit (s := S256x4096) o S256x128.size inb).toLoadRect hl)) Q) := by
  unfold codes
  iintro ⟨%f, H, %hf⟩ HK
  iapply (l_load (F := F) c (m := codeM) (r := Rect.unit (s := S256x4096) o S256x128.size inb) (f := f) (S := Finset.univ) (Finset.subset_univ _)) $$ H
  iintro H
  iapply HK
  iexists f
  isplitl [H]; · iexact H
  ipureintro; exact hf
/-- The codes of 128 columns stored. -/
theorem code_store {b : ℕ} {o : Fin 2 → ℕ} (ho : o = ![0, b]) {inb} {h1} {h2} {w : Vec F S256x128 .fp8e4m3} {Q : PUnit → sProp 𝕄} (hb : b + 128 ≤ 4096)
    (hw : ∀ i : S256x128.Idx, GoodC (cix (i 0) (b + (i 1).val)) (w i)) :
    codes c GoodC b ⊢ iprop((codes c GoodC (b + 128) -∗ Q ⟨⟩)
        -∗ W (F := F) c (Prog.lift (.store codeM (Rect.unit (s := S256x4096) o S256x128.size inb) w Finset.univ h1 h2)) Q) := by
  subst ho
  unfold codes
  iintro ⟨%f, H, %hf⟩ HK
  iapply (l_store (F := F) c (m := codeM) (r := Rect.unit (s := S256x4096) ![0, b] S256x128.size inb) (f := f) (S := Finset.univ) (Finset.subset_univ _)) $$ H
  iintro H
  iapply HK
  iexists _
  isplitl [H]; · iexact H
  ipureintro; exact cols_write GoodC hb inb hf hw

theorem t3_trips : k0_t3_loop.trips = 8 := by decide +kernel
/-- Where the column group of a trip is. -/
theorem off15_eq (k : Fin k0_t3_loop.trips) (r : ℕ) (hr : r < 4) : k0_off15 k (BitVec.ofNat 32 (128 * r)) = ![0, 512 * k.val + 128 * r] := by
  have hk : k.val < 8 := lt_of_lt_of_eq k.isLt t3_trips
  show ![0, (Scalar.indexCast (Scalar.addi (Scalar.muli (Scf.iv 0#32 1#32 k.val) 512#32) (wd (128 * r)))).toNat] = _
  have e : Scalar.muli (Scf.iv 0#32 1#32 k.val) 512#32 = wd (512 * k.val) := by
    rw [iv_wd, Nat.mul_comm]; exact (BitVec.ofNat_mul _ _).symm
  rw [e, addi_wd, idx_wd (by omega)]

/-- The scale of each row, as the kernel selects it from the sizes and the scales. -/
abbrev scales (fxs : S6.Idx → F .f32) (fgs : S6.Idx → BitVec 32) : FVec F S256x128 .f32 :=
  k0_pay49 (F := F) (fxs (i6 0)) (fgs (i6 0)) (fxs (i6 1)) (fgs (i6 1)) (fxs (i6 2)) (fgs (i6 2)) (fxs (i6 3)) (fgs (i6 3)) (fxs (i6 4)) (fgs (i6 4)) (fxs (i6 5))

/-- What is asked of the four functions that make codes. -/
structure CPays (fxs : S6.Idx → F .f32) (fgs : S6.Idx → BitVec 32) : Prop where
  p0 : ColOK GoodC fx (k0_pay1 (scales fxs fgs))
  p1 : ColOK GoodC fx (k0_pay2 (scales fxs fgs))
  p2 : ColOK GoodC fx (fun x => k0_pay50 (k0_pay3 (scales fxs fgs) x) (Scalar.ofBits .f32 0x43E00000#32) k0_pay4)
  p3 : ColOK GoodC fx (k0_pay51 (fxs (i6 0)) (fgs (i6 0)) (fxs (i6 1)) (fgs (i6 1)) (fxs (i6 2)) (fgs (i6 2)) (fxs (i6 3)) (fgs (i6 3)) (fxs (i6 4)) (fgs (i6 4)) (fxs (i6 5)))

/-- Before trip `t` of the loop over column groups. -/
def codeInv (t : ℕ) (_ : Unit) : sProp 𝕄 :=
  iprop(((xM.view.loc (c : Thread nD τ)) ↦[Finset.univ]{fullShare} fx) ∗ codes c GoodC (512 * t))

set_option maxHeartbeats 2000000 in
theorem code_step {fxs : S6.Idx → F .f32} {fgs : S6.Idx → BitVec 32} (CP : CPays GoodC fx fxs fgs) (k : Fin k0_t3_loop.trips) (acc : Unit) :
    codeInv c GoodC fx k.val acc
      ⊢ W (F := F) c (k0_t3_body gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 (fxs (i6 0)) (fgs (i6 0)) (fxs (i6 1)) (fgs (i6 1)) (fxs (i6 2)) (fgs (i6 2)) (fxs (i6 3)) (fgs (i6 3)) (fxs (i6 4)) (fgs (i6 4)) (fxs (i6 5)) k acc)
          (codeInv c GoodC fx (k.val + 1)) := by
  have hk : k.val < 8 := lt_of_lt_of_eq k.isLt t3_trips
  unfold codeInv
  iintro ⟨Hx, Hc⟩
  unfold k0_t3_body
  rw [k0_part1_eq_skeleton]
  unfold k0_part1_skel
  dsimp only
  simp only [wp_bind]
  iapply (col_load (F := F) c fx (b := 512 * k.val) (off15_eq k 0 (by omega)) (by omega)) $$ Hx
  iintro %x ⟨%hx, Hx⟩
  iapply (code_load (F := F) c GoodC) $$ Hc
  iintro %_ Hc
  iapply (code_store (F := F) c GoodC (b := 512 * k.val) (off15_eq k 0 (by omega)) (by omega) (CP.p0 _ (by omega) _ hx)) $$ Hc
  iintro Hc
  iapply (col_load (F := F) c fx (b := 512 * k.val + 128) (off15_eq k 1 (by omega)) (by omega)) $$ Hx
  iintro %x ⟨%hx, Hx⟩
  iapply (code_load (F := F) c GoodC) $$ Hc
  iintro %_ Hc
  iapply (code_store (F := F) c GoodC (b := 512 * k.val + 128) (off15_eq k 1 (by omega)) (by omega) (CP.p1 _ (by omega) _ hx)) $$ Hc
  iintro Hc
  iapply (col_load (F := F) c fx (b := 512 * k.val + 128 + 128) (off15_eq k 2 (by omega)) (by omega)) $$ Hx
  iintro %x ⟨%hx, Hx⟩
  iapply (l_pure (F := F) c)
  iapply (code_load (F := F) c GoodC) $$ Hc
  iintro %_ Hc
  iapply (code_store (F := F) c GoodC (b := 512 * k.val + 128 + 128) (off15_eq k 2 (by omega)) (by omega) (CP.p2 _ (by omega) _ hx)) $$ Hc
  iintro Hc
  iapply (col_load (F := F) c fx (b := 512 * k.val + 128 + 128 + 128) (off15_eq k 3 (by omega)) (by omega)) $$ Hx
  iintro %x ⟨%hx, Hx⟩
  iapply (code_load (F := F) c GoodC) $$ Hc
  iintro %_ Hc
  iapply (code_store (F := F) c GoodC (b := 512 * k.val + 128 + 128 + 128) (off15_eq k 3 (by omega)) (by omega) (CP.p3 _ (by omega) _ hx)) $$ Hc
  iintro Hc
  iapply (l_pure (F := F) c)
  isplitl [Hx]; · iexact Hx
  iapply (show codes c GoodC (512 * k.val + 128 + 128 + 128 + 128) ⊢ codes c GoodC (512 * (k.val + 1)) from .rfl) $$ Hc

/-- A counted loop, by its invariant. -/
theorem l_for {σ : Type} (L : Scf.Loop 32) (hok : L.OK) (init : σ) (body : Fin L.trips → σ → Prog (TpuEff nD τ sig (Elt F) Λ₀ .tc) σ)
    (I : ℕ → σ → sProp 𝕄) (hbody : ∀ k acc, I k.val acc ⊢ W (F := F) c (body k acc) (I (k.val + 1))) {Q : σ → sProp 𝕄} :
    I 0 init ⊢ iprop((∀ acc, I L.trips acc -∗ Q acc) -∗ W (F := F) c (Scf.Loop.for L hok init body) Q) := by
  iintro H HK
  iapply (Scf.wp_for frame _ _ L.lb L.ub L.st hok init body I hbody)
  isplitl [H]; · iexact H
  iexact HK

end Cert.KernelIdeal.Hand
end
-- ==== Proof.KI.Front.lean ====
module
public import proofs.«01_k».proof.Proof.KI.Codes
/-!
# The statements before the main loop

The first copies, the two tables of the experts that have rows, the first sixteen weight transfers, and
the codes of the activations.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (c : Dev nD)

/-! ## A whole array copied -/

/-- A whole copy in flight: it will deliver the destination with what the source holds, and the source. -/
def copyFl {sp sp' : Space} {s : Shape} {e : EltTy} (src : Memref sig .tc sp s e) (dst : Memref sig .tc sp' s e) (sem : DmaSem sig)
    (fs : Buf (Elt F) (src.view.loc (c : Thread nD τ))) (fd : Buf (Elt F) (dst.view.loc (c : Thread nD τ))) : sProp 𝕄 :=
  Flight EC (c : Thread nD τ) (.dma sem) () dst.view.dmaCredit
    iprop((dst.view.loc (c : Thread nD τ) ↦[Finset.univ]{fullShare} fd) ∗ (src.view.loc (c : Thread nD τ) ↦[Finset.univ]{fullShare} fs))

theorem copy_start {sp sp' : Space} {s : Shape} {e : EltTy} {src : Memref sig .tc sp s e} {dst : Memref sig .tc sp' s e} {sem : DmaSem sig}
    {hsrc : src.view.WordExact} {hdst : dst.view.WordExact} {hsem : DmaTarget.Typed (p := .tc) (nD := nD) sp (.dma sem) (.here dst)}
    {fs : Buf (Elt F) (src.view.loc (c : Thread nD τ))} (fd : Buf (Elt F) (dst.view.loc (c : Thread nD τ)))
    (hs : src.view.set = Finset.univ) (hw : ∀ f, dst.view.write (Elt F) f (src.view.read (Elt F) fs) Finset.univ = fd) (hn : 0 < s.numel)
    {Q : PUnit → sProp 𝕄} :
    iprop((src.view.loc (c : Thread nD τ) ↦[Finset.univ]{fullShare} fs) ∗ (∃ f, dst.view.loc (c : Thread nD τ) ↦[Finset.univ]{fullShare} f)
        ∗ semVal ((c : Thread nD τ), .dma sem) 0)
      ⊢ iprop((copyFl c src dst sem fs fd -∗ Q ⟨⟩) -∗ W (F := F) c (Prog.lift (.enqueueDma src (.here dst) (.dma sem) hsrc hdst hsem)) Q) := by
  iintro ⟨Hs, ⟨%f, Hd⟩, Hv⟩ HK
  iapply (l_enq (F := F) c (src := src) (dst := dst) (sm := .dma sem) dst.view.dmaCredit rfl (View.dmaCredit_pos _ hn) hs (Finset.subset_univ _)
    (q := fullShare) (fs := fs) (fd := f)
    (D := iprop((dst.view.loc (c : Thread nD τ) ↦[Finset.univ]{fullShare} fd) ∗ (src.view.loc (c : Thread nD τ) ↦[Finset.univ]{fullShare} fs))) ?_) $$ [Hs Hd Hv]
  · rw [hw f]
  · isplitl [Hs]; · iexact Hs
    isplitl [Hd]; · iexact Hd
    iexact Hv
  iintro HF
  iapply HK
  unfold copyFl
  iexact HF

theorem copy_wait {sp sp' : Space} {s : Shape} {e : EltTy} {src : Memref sig .tc sp s e} {dst : Memref sig .tc sp' s e} {sem : DmaSem sig}
    {hsrc : src.view.WordExact} {hdst : dst.view.WordExact}
    {fs : Buf (Elt F) (src.view.loc (c : Thread nD τ))} {fd : Buf (Elt F) (dst.view.loc (c : Thread nD τ))} {Q : PUnit → sProp 𝕄} :
    iprop(copyFl c src dst sem fs fd ∗ (∃ w, owes (c : Thread nD τ) 0 w))
      ⊢ iprop((iprop((dst.view.loc (c : Thread nD τ) ↦[Finset.univ]{fullShare} fd) ∗ (src.view.loc (c : Thread nD τ) ↦[Finset.univ]{fullShare} fs)
            ∗ semVal ((c : Thread nD τ), .dma sem) 0 ∗ (∃ w, owes (c : Thread nD τ) 0 w)) -∗ Q ⟨⟩)
         -∗ W (F := F) c (Prog.lift (.waitDma2 sem src dst hsrc hdst)) Q) := by
  unfold copyFl
  iintro ⟨HF, Ho⟩ HK
  iapply (l_wait (F := F) c (srcw := src) (dstw := dst) (hsrc := hsrc) (hdst := hdst) (N := dst.view.dmaCredit) rfl) $$ [HF Ho]
  · isplitl [HF]; · iexact HF
    iexact Ho
  iintro ⟨⟨Hd, Hs⟩, Hv, Ho⟩
  iapply HK
  isplitl [Hd]; · iexact Hd
  isplitl [Hs]; · iexact Hs
  isplitl [Hv]; · iexact Hv
  iexact Ho

/-! ## The two tables -/

variable (fgs : S6.Idx → BitVec 32)

/-- The size of expert `e`'s group. -/
def gsz (e : ℕ) : ℕ := (fgs (i6 e)).toNat
/-- The kernel's running count of the experts with rows. -/
def cnt : ℕ → BitVec 32
  | 0 => 0#32
  | e + 1 => Scalar.addi (cnt e) (Scalar.extui (Scalar.cmpi .sgt (fgs (i6 e)) 0#32))
/-- The kernel's running count of rows. -/
def rowW : ℕ → BitVec 32
  | 0 => 0#32
  | e + 1 => Scalar.addi (rowW e) (fgs (i6 e))

theorem cnt_eq (hg : ∀ e, e < 6 → gsz fgs e ≤ 256) : ∀ e, e ≤ 6 → cnt fgs e = wd (nAct (gsz fgs) e)
  | 0, _ => rfl
  | e + 1, h => by
      show Scalar.addi (cnt fgs e) _ = _
      rw [cnt_eq hg e (by omega), extui_sgt (hg e (by omega)), addi_wd]
      have : pos (fgs (i6 e)) = if gsz fgs e = 0 then 0 else 1 := by
        unfold pos gsz
        by_cases h0 : fgs (i6 e) = 0#32
        · rw [if_pos h0, if_pos (by rw [h0]; rfl)]
        · have hn : ¬ (fgs (i6 e)).toNat = 0 := fun h1 => h0 (BitVec.eq_of_toNat_eq h1)
          rw [if_neg h0, if_neg hn]
      rw [this]; rfl
theorem rowW_eq : ∀ e, rowW fgs e = wd (nRow (gsz fgs) e)
  | 0 => rfl
  | e + 1 => by
      show Scalar.addi (rowW fgs e) _ = _
      have : fgs (i6 e) = wd (gsz fgs e) := by simp [wd, gsz]
      rw [rowW_eq e, this, addi_wd]; rfl
theorem off_cnt (hg : ∀ e, e < 6 → gsz fgs e ≤ 256) {e : ℕ} (h : e ≤ 6) : ![(Scalar.indexCast (cnt fgs e)).toNat] = ![nAct (gsz fgs) e] := by
  have := nAct_le (gsz fgs) e
  rw [cnt_eq fgs hg e h, idx_wd (by omega)]
theorem off_inb {o : Fin 1 → ℕ} {g : ℕ → ℕ} {e : ℕ} (ho : o = ![nAct g e]) (h : e ≤ 6) : ∀ a, o a + S1.size a ≤ S7.size a := by
  subst ho
  have := nAct_le g e
  exact inb1 (N := 7) (by omega)

/-- The two tables after the first `e` experts. -/
def TabSt (g : ℕ → ℕ) (e : ℕ) : sProp 𝕄 := iprop(∃ fa fs, actPt c fa ∗ startPt c fs ∗ ⌜TabInv g e fa fs⌝)

/-- One expert's entry: where its rows end, and what comes after. -/
theorem tab_row {g : ℕ → ℕ} {e : ℕ} (he : e < 6) {o : Fin 1 → ℕ} (ho : o = ![nAct g (e + 1)]) {v v' : BitVec 32} (hv : v = wd (nRow g (e + 1))) (hv' : v' = wd (e + 1))
    {inb} {h1 h1'} {h2 h2'} {h3 h3'} {h4 h4'} {R : sProp 𝕄} :
    TabSt c g e ⊢ iprop((TabSt c g (e + 1) -∗ R) -∗
      W (F := F) c (smemLoad startM (Rect.unit (s := S7) o S1.size inb) h1 h1') (fun _ =>
        W (F := F) c (Prog.lift (.store startM (Rect.unit (s := S7) o S1.size inb) (fun _ => v) Finset.univ h2 h2')) (fun _ =>
          W (F := F) c (smemLoad actM (Rect.unit (s := S7) o S1.size inb) h3 h3') (fun _ =>
            W (F := F) c (Prog.lift (.store actM (Rect.unit (s := S7) o S1.size inb) (fun _ => v') Finset.univ h4 h4')) (fun _ => R))))) := by
  subst hv hv'
  unfold TabSt
  iintro ⟨%fa, %fs, Ha, Hs, %hT⟩ HK
  iapply (l_start (F := F) c ho) $$ Hs
  iintro Hs
  iapply (s_start (F := F) c ho) $$ Hs
  iintro Hs
  iapply (l_act (F := F) c ho) $$ Ha
  iintro Ha
  iapply (s_act (F := F) c ho) $$ Ha
  iintro Ha
  iapply HK
  iexists _, _
  isplitl [Ha]; · iexact Ha
  isplitl [Hs]; · iexact Hs
  ipureintro
  exact hT.step he (Or.inl rfl)
/-- The last expert's entry: only where its rows end. -/
theorem tab_last {g : ℕ → ℕ} {o : Fin 1 → ℕ} (ho : o = ![nAct g 6]) {v : BitVec 32} (hv : v = wd (nRow g 6))
    {inb} {h1 h1'} {h2 h2'} {R : sProp 𝕄} :
    TabSt c g 5 ⊢ iprop((TabSt c g 6 -∗ R) -∗
      W (F := F) c (smemLoad startM (Rect.unit (s := S7) o S1.size inb) h1 h1') (fun _ =>
        W (F := F) c (Prog.lift (.store startM (Rect.unit (s := S7) o S1.size inb) (fun _ => v) Finset.univ h2 h2')) (fun _ => R))) := by
  subst hv
  unfold TabSt
  iintro ⟨%fa, %fs, Ha, Hs, %hT⟩ HK
  iapply (l_start (F := F) c ho) $$ Hs
  iintro Hs
  iapply (s_start (F := F) c ho) $$ Hs
  iintro Hs
  iapply HK
  iexists _, _
  isplitl [Ha]; · iexact Ha
  isplitl [Hs]; · iexact Hs
  ipureintro
  exact hT.step (e := 5) (by omega) (Or.inr ⟨rfl, rfl⟩)

/-! ## The first part: copies and the first three experts -/

variable (fxs : S6.Idx → F .f32) (fx : S256x4096.Idx → Elt F .bf16) (fws : S6x14336.Idx → F .f32)

/-- The four inputs that are copied whole, as the kernel finds them. -/
def inputs : sProp 𝕄 :=
  iprop(((gsH.view.loc (c : Thread nD τ)) ↦[Finset.univ]{fullShare} fgs) ∗ ((xsH.view.loc (c : Thread nD τ)) ↦[Finset.univ]{fullShare} fxs)
    ∗ ((xH.view.loc (c : Thread nD τ)) ↦[Finset.univ]{fullShare} fx) ∗ ((wsH.view.loc (c : Thread nD τ)) ↦[Finset.univ]{fullShare} fws))
/-- Their places in the kernel's own memory, holding anything. -/
def places : sProp 𝕄 :=
  iprop((∃ f, (gsM.view.loc (c : Thread nD τ)) ↦[Finset.univ]{fullShare} f) ∗ (∃ f, (xsM.view.loc (c : Thread nD τ)) ↦[Finset.univ]{fullShare} f)
    ∗ (∃ f, (xM.view.loc (c : Thread nD τ)) ↦[Finset.univ]{fullShare} f) ∗ (∃ f, (wsM.view.loc (c : Thread nD τ)) ↦[Finset.univ]{fullShare} f))
/-- The four semaphores of those copies at rest. -/
def sems4 : sProp 𝕄 :=
  iprop(semVal ((c : Thread nD τ), .dma cc0_scratch9.sem) 0 ∗ semVal ((c : Thread nD τ), .dma cc0_scratch10.sem) 0
    ∗ semVal ((c : Thread nD τ), .dma cc0_scratch11.sem) 0 ∗ semVal ((c : Thread nD τ), .dma cc0_scratch12.sem) 0)
/-- The group sizes at hand. -/
def haveGs : sProp 𝕄 :=
  iprop(((gsM.view.loc (c : Thread nD τ)) ↦[Finset.univ]{fullShare} fgs) ∗ ((gsH.view.loc (c : Thread nD τ)) ↦[Finset.univ]{fullShare} fgs)
    ∗ semVal ((c : Thread nD τ), .dma cc0_scratch9.sem) 0)
/-- The activation scales at hand. -/
def haveXs : sProp 𝕄 :=
  iprop(((xsM.view.loc (c : Thread nD τ)) ↦[Finset.univ]{fullShare} fxs) ∗ ((xsH.view.loc (c : Thread nD τ)) ↦[Finset.univ]{fullShare} fxs)
    ∗ semVal ((c : Thread nD τ), .dma cc0_scratch10.sem) 0)
/-- The activations at hand. -/
def haveX : sProp 𝕄 :=
  iprop(((xM.view.loc (c : Thread nD τ)) ↦[Finset.univ]{fullShare} fx) ∗ ((xH.view.loc (c : Thread nD τ)) ↦[Finset.univ]{fullShare} fx)
    ∗ semVal ((c : Thread nD τ), .dma cc0_scratch11.sem) 0)
/-- The weight scales at hand. -/
def haveWs : sProp 𝕄 :=
  iprop(((wsM.view.loc (c : Thread nD τ)) ↦[Finset.univ]{fullShare} fws) ∗ ((wsH.view.loc (c : Thread nD τ)) ↦[Finset.univ]{fullShare} fws)
    ∗ semVal ((c : Thread nD τ), .dma cc0_scratch12.sem) 0)
/-- The activation scales on their way. -/
abbrev xsFl : sProp 𝕄 := copyFl c xsH xsM cc0_scratch10.sem fxs fxs
/-- The activations on their way. -/
abbrev xFl : sProp 𝕄 := copyFl c xH xM cc0_scratch11.sem fx fx
/-- The weight scales on their way. -/
abbrev wsFl : sProp 𝕄 := copyFl c wsH wsM cc0_scratch12.sem fws fws

set_option maxHeartbeats 4000000 in
theorem part6 (hg : ∀ e, e < 6 → gsz fgs e ≤ 256) {Q : _ → sProp 𝕄} :
    iprop(inputs c fgs fxs fx fws ∗ places c ∗ sems4 c ∗ (∃ f, actPt c f) ∗ (∃ f, startPt c f) ∗ (∃ w, owes (c : Thread nD τ) 0 w))
      ⊢ iprop((iprop(haveGs c fgs ∗ xsFl c fxs ∗ xFl c fx ∗ wsFl c fws ∗ TabSt c (gsz fgs) 3 ∗ (∃ w, owes (c : Thread nD τ) 0 w))
            -∗ Q ⟨fgs (i6 0), fgs (i6 1), fgs (i6 2), cnt fgs 3, rowW fgs 3⟩)
         -∗ W (F := F) c (k0_part6 gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14) Q) := by
  have o1 : k0_off1 (fgs (i6 0)) = ![nAct (gsz fgs) 1] := off_cnt fgs hg (e := 1) (by omega)
  have o2 : k0_off2 (fgs (i6 0)) (fgs (i6 1)) = ![nAct (gsz fgs) 2] := off_cnt fgs hg (e := 2) (by omega)
  have o3 : k0_off3 (fgs (i6 0)) (fgs (i6 1)) (fgs (i6 2)) = ![nAct (gsz fgs) 3] := off_cnt fgs hg (e := 3) (by omega)
  unfold inputs places sems4
  simp only [cnt, rowW]
  iintro ⟨⟨Hgs, Hxs, Hx, Hws⟩, ⟨Pgs, Pxs, Px, Pws⟩, ⟨S9, S10, S11, S12⟩, ⟨%fa, Ha⟩, ⟨%fs, Hs⟩, Ho⟩ HK
  rw [k0_part6_eq_skeleton]
  unfold k0_part6_skel
  dsimp only
  simp only [wp_bind]
  iapply (copy_start (F := F) c (src := gsH) (dst := gsM) (fs := fgs) fgs (View.set_whole _) (fun f => View.write_whole_univ _ _ _) (by decide)) $$ [Hgs Pgs S9]
  · isplitl [Hgs]; · iexact Hgs
    isplitl [Pgs]; · iexact Pgs
    iexact S9
  iintro Fgs
  iapply (copy_start (F := F) c (src := xsH) (dst := xsM) (fs := fxs) fxs (View.set_whole _) (fun f => View.write_whole_univ _ _ _) (by decide)) $$ [Hxs Pxs S10]
  · isplitl [Hxs]; · iexact Hxs
    isplitl [Pxs]; · iexact Pxs
    iexact S10
  iintro Fxs
  iapply (copy_start (F := F) c (src := xH) (dst := xM) (fs := fx) fx (View.set_whole _) (fun f => View.write_whole_univ _ _ _) (by decide)) $$ [Hx Px S11]
  · isplitl [Hx]; · iexact Hx
    isplitl [Px]; · iexact Px
    iexact S11
  iintro Fx
  iapply (copy_start (F := F) c (src := wsH) (dst := wsM) (fs := fws) fws (View.set_whole _) (fun f => View.write_whole_univ _ _ _) (by decide)) $$ [Hws Pws S12]
  · isplitl [Hws]; · iexact Hws
    isplitl [Pws]; · iexact Pws
    iexact S12
  iintro Fws
  iapply (copy_wait (F := F) c (src := gsH) (dst := gsM) (fs := fgs) (fd := fgs)) $$ [Fgs Ho]
  · isplitl [Fgs]; · iexact Fgs
    iexact Ho
  iintro ⟨Pgs, Hgs, S9, Ho⟩
  iapply (l_start (F := F) c (j := 0) rfl) $$ Hs
  iintro Hs
  iapply (s_start (F := F) c (j := 0) rfl) $$ Hs
  iintro Hs
  iapply (l_act (F := F) c (j := 0) rfl) $$ Ha
  iintro Ha
  iapply (s_act (F := F) c (j := 0) rfl) $$ Ha
  iintro Ha
  ihave HT := (show iprop(actPt c (set7 fa 0 0#32) ∗ startPt c (set7 fs 0 0#32)) ⊢ TabSt c (gsz fgs) 0 from by
    unfold TabSt
    iintro ⟨Ha, Hs⟩
    iexists _, _
    isplitl [Ha]; · iexact Ha
    isplitl [Hs]; · iexact Hs
    ipureintro
    exact TabInv.init (gsz fgs) fa fs) $$ [Ha Hs]
  · isplitl [Ha]; · iexact Ha
    iexact Hs
  iapply (l_gs (F := F) c (j := 0) rfl) $$ Pgs
  iintro Pgs
  iapply (l_assume (F := F) c (show k0_chk1 (fgs (i6 0)) from off_inb o1 (by omega)))
  iapply (tab_row (F := F) c (g := gsz fgs) (e := 0) (by omega) o1 (rowW_eq fgs 1) rfl) $$ HT
  iintro HT
  iapply (l_gs (F := F) c (j := 1) rfl) $$ Pgs
  iintro Pgs
  iapply (l_assume (F := F) c (show k0_chk2 (fgs (i6 0)) (fgs (i6 1)) from off_inb o2 (by omega)))
  iapply (tab_row (F := F) c (g := gsz fgs) (e := 1) (by omega) o2 (rowW_eq fgs 2) rfl) $$ HT
  iintro HT
  iapply (l_gs (F := F) c (j := 2) rfl) $$ Pgs
  iintro Pgs
  iapply (l_assume (F := F) c (show k0_chk3 (fgs (i6 0)) (fgs (i6 1)) (fgs (i6 2)) from off_inb o3 (by omega)))
  iapply (tab_row (F := F) c (g := gsz fgs) (e := 2) (by omega) o3 (rowW_eq fgs 3) rfl) $$ HT
  iintro HT
  iapply (l_pure (F := F) c)
  iapply HK
  unfold haveGs
  isplitl [Pgs Hgs S9]
  · isplitl [Pgs]; · iexact Pgs
    isplitl [Hgs]; · iexact Hgs
    iexact S9
  isplitl [Fxs]; · iexact Fxs
  isplitl [Fx]; · iexact Fx
  isplitl [Fws]; · iexact Fws
  isplitl [HT]; · iexact HT
  iexact Ho

/-! ## The second part: the other three experts, the first transfers, and the scales and activations arrived -/

set_option maxHeartbeats 4000000 in
theorem part7 (fw : S6x4096x14336.Idx → Elt F .fp8e4m3) (hg : ∀ e, e < 6 → gsz fgs e ≤ 256) (hsum : nRow (gsz fgs) 6 = 256) (hw6 : k0_chk6 (fgs (i6 0)) (fgs (i6 1)) (fgs (i6 2)) (fgs (i6 3)) (fgs (i6 4)) (fgs (i6 5)))
    {Q : _ → sProp 𝕄} :
    iprop(haveGs c fgs ∗ xsFl c fxs ∗ xFl c fx ∗ TabSt c (gsz fgs) 3 ∗ (∀ E m, AtW (ringΦ c fw E m) (primed 0)) ∗ (∃ w, owes (c : Thread nD τ) 0 w))
      ⊢ iprop((∀ fa fs E S, ⌜Tab (gsz fgs) fa fs (nAct (gsz fgs) 6) E S⌝ -∗
              iprop(haveGs c fgs ∗ haveXs c fxs ∗ haveX c fx ∗ actPt c fa ∗ startPt c fs ∗ AtW (ringΦ c fw E (nAct (gsz fgs) 6)) (primed 16) ∗ (∃ w, owes (c : Thread nD τ) 0 w))
            -∗ Q ⟨fgs (i6 3), fgs (i6 4), fgs (i6 5), hw6, wd (nAct (gsz fgs) 6), Scalar.muli (wd (nAct (gsz fgs) 6)) 28#32, wd (16 / nAct (gsz fgs) 6), wd (16 % nAct (gsz fgs) 6)⟩)
         -∗ W (F := F) c (k0_part7 gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14 (fgs (i6 0)) (fgs (i6 1)) (fgs (i6 2)) (cnt fgs 3) (rowW fgs 3)) Q) := by
  have o4 : k0_off4 (fgs (i6 0)) (fgs (i6 1)) (fgs (i6 2)) (fgs (i6 3)) = ![nAct (gsz fgs) 4] := off_cnt fgs hg (e := 4) (by omega)
  have o5 : k0_off5 (fgs (i6 0)) (fgs (i6 1)) (fgs (i6 2)) (fgs (i6 3)) (fgs (i6 4)) = ![nAct (gsz fgs) 5] := off_cnt fgs hg (e := 5) (by omega)
  have o6 : k0_off6 (fgs (i6 0)) (fgs (i6 1)) (fgs (i6 2)) (fgs (i6 3)) (fgs (i6 4)) (fgs (i6 5)) = ![nAct (gsz fgs) 6] := off_cnt fgs hg (e := 6) (by omega)
  have hm : nA (fgs (i6 0)) (fgs (i6 1)) (fgs (i6 2)) (fgs (i6 3)) (fgs (i6 4)) (fgs (i6 5)) = wd (nAct (gsz fgs) 6) := cnt_eq fgs hg 6 le_rfl
  have hm' : Scalar.addi (Scalar.addi (Scalar.addi (cnt fgs 3) (Scalar.extui (Scalar.cmpi .sgt (fgs (i6 3)) 0#32))) (Scalar.extui (Scalar.cmpi .sgt (fgs (i6 4)) 0#32)))
      (Scalar.extui (Scalar.cmpi .sgt (fgs (i6 5)) 0#32)) = wd (nAct (gsz fgs) 6) := cnt_eq fgs hg 6 le_rfl
  unfold haveGs
  iintro ⟨⟨Pgs, Hgs, S9⟩, Fxs, Fx, HT, HR, Ho⟩ HK
  rw [k0_part7_eq_skeleton]
  unfold k0_part7_skel
  dsimp only
  simp only [wp_bind]
  iapply (l_gs (F := F) c (j := 3) rfl) $$ Pgs
  iintro Pgs
  iapply (l_assume (F := F) c (show k0_chk4 (fgs (i6 0)) (fgs (i6 1)) (fgs (i6 2)) (fgs (i6 3)) from off_inb o4 (by omega)))
  iapply (tab_row (F := F) c (g := gsz fgs) (e := 3) (by omega) o4 (rowW_eq fgs 4) rfl) $$ HT
  iintro HT
  iapply (l_gs (F := F) c (j := 4) rfl) $$ Pgs
  iintro Pgs
  iapply (l_assume (F := F) c (show k0_chk5 (fgs (i6 0)) (fgs (i6 1)) (fgs (i6 2)) (fgs (i6 3)) (fgs (i6 4)) from off_inb o5 (by omega)))
  iapply (tab_row (F := F) c (g := gsz fgs) (e := 4) (by omega) o5 (rowW_eq fgs 5) rfl) $$ HT
  iintro HT
  iapply (l_gs (F := F) c (j := 5) rfl) $$ Pgs
  iintro Pgs
  iapply (l_assume (F := F) c hw6)
  iapply (tab_last (F := F) c (g := gsz fgs) o6 (rowW_eq fgs 6)) $$ HT
  iintro HT
  ihave HT2 := (show TabSt c (gsz fgs) 6 ⊢ iprop(∃ fa fs, actPt c fa ∗ startPt c fs ∗ ⌜TabInv (gsz fgs) 6 fa fs⌝) from .rfl) $$ HT
  icases HT2 with ⟨%fa, %fs, Ha, Hs, %hT⟩
  have T := hT.final hsum
  have h1 := T.one
  have h6 := T.six
  rw [hm']
  ihave HR0 := HR $$ %(fun j => (fa (i7 j)).toNat) %(nAct (gsz fgs) 6)
  iapply (l_for (F := F) c _ _ _ _ (primeInv c fw (fun j => (fa (i7 j)).toNat) (nAct (gsz fgs) 6) fa) (prime_step (F := F) c fw _ T hm _ _ hw6)) $$ [Ha HR0]
  · unfold primeInv
    isplitr
    · ipureintro
      rw [Nat.zero_div, Nat.zero_mod]
    isplitl [Ha]; · iexact Ha
    iexact HR0
  iintro %acc HI
  rw [t1_trips hm h1 h6]
  iapply (l_for (F := F) c _ _ _ _ (fun _ acc => primeInv c fw (fun j => (fa (i7 j)).toNat) (nAct (gsz fgs) 6) fa 16 acc)
    (fun k _ => absurd (lt_of_lt_of_eq k.isLt (t2_trips hm h1 h6)) (Nat.not_lt_zero _))) $$ [HI]
  · iexact HI
  iintro %acc2 HI
  unfold primeInv
  icases HI with ⟨%hacc, Ha, HR⟩
  subst hacc
  iapply (copy_wait (F := F) c (src := xsH) (dst := xsM) (fs := fxs) (fd := fxs)) $$ [Fxs Ho]
  · isplitl [Fxs]; · iexact Fxs
    iexact Ho
  iintro ⟨Pxs, Hxs, S10, Ho⟩
  iapply (copy_wait (F := F) c (src := xH) (dst := xM) (fs := fx) (fd := fx)) $$ [Fx Ho]
  · isplitl [Fx]; · iexact Fx
    iexact Ho
  iintro ⟨Px, Hx, S11, Ho⟩
  iapply (l_pure (F := F) c)
  iapply HK $$ %fa %fs %(fun j => (fa (i7 j)).toNat) %(fun j => (fs (i7 j)).toNat) %T
  unfold haveXs haveX
  isplitl [Pgs Hgs S9]
  · isplitl [Pgs]; · iexact Pgs
    isplitl [Hgs]; · iexact Hgs
    iexact S9
  isplitl [Pxs Hxs S10]
  · isplitl [Pxs]; · iexact Pxs
    isplitl [Hxs]; · iexact Hxs
    iexact S10
  isplitl [Px Hx S11]
  · isplitl [Px]; · iexact Px
    isplitl [Hx]; · iexact Hx
    iexact S11
  isplitl [Ha]; · iexact Ha
  isplitl [Hs]; · iexact Hs
  isplitl [HR]; · iexact HR
  iexact Ho

/-! ## The third part: the codes -/

set_option maxHeartbeats 4000000 in
theorem part8 {GoodC : S256x4096.Idx → Elt F .fp8e4m3 → Prop} (CP : CPays GoodC fx fxs fgs) {Q : _ → sProp 𝕄} :
    iprop(haveGs c fgs ∗ haveXs c fxs ∗ haveX c fx ∗ wsFl c fws ∗ (∃ f, (codeM.view.loc (c : Thread nD τ)) ↦[Finset.univ]{fullShare} f) ∗ (∃ w, owes (c : Thread nD τ) 0 w))
      ⊢ iprop((iprop(haveGs c fgs ∗ haveXs c fxs ∗ haveX c fx ∗ haveWs c fws ∗ codes c GoodC 4096 ∗ (∃ w, owes (c : Thread nD τ) 0 w)) -∗ Q ⟨0#32, 0#32, 0#32⟩)
         -∗ W (F := F) c (k0_part8 gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14) Q) := by
  unfold haveGs haveXs haveX
  iintro ⟨⟨Pgs, Hgs, S9⟩, ⟨Pxs, Hxs, S10⟩, ⟨Px, Hx, S11⟩, Fws, ⟨%fc, Hc⟩, Ho⟩ HK
  rw [k0_part8_eq_skeleton]
  unfold k0_part8_skel
  dsimp only
  simp only [wp_bind]
  iapply (l_xs (F := F) c (j := 0) rfl) $$ Pxs
  iintro Pxs
  iapply (l_gs (F := F) c (j := 0) rfl) $$ Pgs
  iintro Pgs
  iapply (l_xs (F := F) c (j := 1) rfl) $$ Pxs
  iintro Pxs
  iapply (l_gs (F := F) c (j := 1) rfl) $$ Pgs
  iintro Pgs
  iapply (l_xs (F := F) c (j := 2) rfl) $$ Pxs
  iintro Pxs
  iapply (l_gs (F := F) c (j := 2) rfl) $$ Pgs
  iintro Pgs
  iapply (l_xs (F := F) c (j := 3) rfl) $$ Pxs
  iintro Pxs
  iapply (l_gs (F := F) c (j := 3) rfl) $$ Pgs
  iintro Pgs
  iapply (l_xs (F := F) c (j := 4) rfl) $$ Pxs
  iintro Pxs
  iapply (l_gs (F := F) c (j := 4) rfl) $$ Pgs
  iintro Pgs
  iapply (l_xs (F := F) c (j := 5) rfl) $$ Pxs
  iintro Pxs
  iapply (l_for (F := F) c _ _ _ _ (codeInv c GoodC fx) (code_step (F := F) c GoodC fx CP)) $$ [Px Hc]
  · unfold codeInv codes
    isplitl [Px]; · iexact Px
    iexists fc
    isplitl [Hc]; · iexact Hc
    ipureintro
    intro i hi
    exact absurd hi (Nat.not_lt_zero _)
  iintro %acc HI
  rw [t3_trips]
  unfold codeInv
  icases HI with ⟨Px, Hc⟩
  iapply (copy_wait (F := F) c (src := wsH) (dst := wsM) (fs := fws) (fd := fws)) $$ [Fws Ho]
  · isplitl [Fws]; · iexact Fws
    iexact Ho
  iintro ⟨Pws, Hws, S12, Ho⟩
  iapply (l_pure (F := F) c)
  iapply HK
  unfold haveWs
  isplitl [Pgs Hgs S9]
  · isplitl [Pgs]; · iexact Pgs
    isplitl [Hgs]; · iexact Hgs
    iexact S9
  isplitl [Pxs Hxs S10]
  · isplitl [Pxs]; · iexact Pxs
    isplitl [Hxs]; · iexact Hxs
    iexact S10
  isplitl [Px Hx S11]
  · isplitl [Px]; · iexact Px
    isplitl [Hx]; · iexact Hx
    iexact S11
  isplitl [Pws Hws S12]
  · isplitl [Pws]; · iexact Pws
    isplitl [Hws]; · iexact Hws
    iexact S12
  isplitl [Hc]; · iapply (show codes c GoodC (512 * 8) ⊢ codes c GoodC 4096 from .rfl) $$ Hc
  iexact Ho

end Cert.KernelIdeal.Hand
end
-- ==== Proof.KI.Body.lean ====
module
public import proofs.«01_k».proof.Proof.KI.Front
/-!
# The whole body

From the arrays as the call finds them and every own semaphore at zero, to the same arrays unchanged, the
result good everywhere, and every own semaphore at zero again.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (c : Dev nD) (fgs : S6.Idx → BitVec 32) (fxs : S6.Idx → F .f32) (fx : S256x4096.Idx → Elt F .bf16) (fws : S6x14336.Idx → F .f32)
  (fw : S6x4096x14336.Idx → Elt F .fp8e4m3)

/-! ## The weight ring taken apart and put together -/

/-- The sixteen semaphores of the ring at rest. -/
def sems16 : sProp 𝕄 := bigSep Finset.univ fun k : Fin 16 => semVal ((c : Thread nD τ), .dma (wcell k)) 0
/-- The ring with every slot free. -/
def ring0 : sProp 𝕄 := bigSep Finset.univ fun k : Fin 16 => freeW c fw k
/-- What is left of the weights when sixteen shares are dealt. -/
def wLeft : sProp 𝕄 := (wH.view.loc (c : Thread nD τ)) ↦[Finset.univ]{shareDrop fullShare 16} fw

theorem wslot_disj : ∀ t ∈ (Finset.univ : Finset (Fin 16)), ∀ t' ∈ (Finset.univ : Finset (Fin 16)), t ≠ t' → Disjoint (wslot t.val) (wslot t'.val) := by
  intro t _ t' _ h
  rw [Finset.disjoint_left]
  intro i hi hi'
  have h1 := (Finset.mem_filter.mp hi).2
  have h2 := (Finset.mem_filter.mp hi').2
  exact h (Fin.ext (h1.symm.trans h2))
theorem wslot_all : (Finset.univ : Finset (Fin 16)).biUnion (fun k => wslot k.val) = Finset.univ := by
  ext i
  simp only [Finset.mem_biUnion, Finset.mem_univ, _root_.true_and, iff_true]
  exact ⟨i 0, Finset.mem_filter.mpr ⟨Finset.mem_univ _, rfl⟩⟩

theorem ring_slot (k : Fin 16) (f : Buf (Elt F) (wM.view.loc (c : Thread nD τ))) : ((wM.view.loc (c : Thread nD τ)) ↦[wslot k.val]{fullShare} f)
    ⊢ (iprop(∃ f, (wM.view.loc (c : Thread nD τ)) ↦[wslot k.val]{fullShare} f) : sProp 𝕄) := by
  iintro H
  iexists f
  iexact H
theorem ring_open : iprop((∃ f, (wM.view.loc (c : Thread nD τ)) ↦[Finset.univ]{fullShare} f) ∗ sems16 c ∗ ((wH.view.loc (c : Thread nD τ)) ↦[Finset.univ]{fullShare} fw))
    ⊢ iprop(ring0 c fw ∗ wLeft c fw) := by
  iintro ⟨⟨%f, Hm⟩, Hs, Hw⟩
  ihave Hw2 := (pointsTo_toks_split (ℓ := wH.view.loc (c : Thread nD τ)) (f := fw) (S := Finset.univ) fullShare 16) $$ Hw
  icases Hw2 with ⟨Hl, Ht⟩
  ihave Hm2 := (show ((wM.view.loc (c : Thread nD τ)) ↦[Finset.univ]{fullShare} f)
      ⊢ bigSep Finset.univ fun k : Fin 16 => iprop(∃ f, (wM.view.loc (c : Thread nD τ)) ↦[wslot k.val]{fullShare} f) from by
    rw [← wslot_all, pointsTo_biUnion _ _ wslot_disj]
    exact BI.bigSep_mono fun k _ => ring_slot c k f) $$ Hm
  isplitl [Hm2 Hs Ht]
  · unfold ring0 freeW sems16
    rw [BI.bigSep_sep', BI.bigSep_sep']
    isplitl [Hs]; · iexact Hs
    isplitl [Hm2]; · iexact Hm2
    iexact Ht
  · unfold wLeft; iexact Hl
theorem ring_close : iprop(ring0 c fw ∗ wLeft c fw)
    ⊢ iprop((∃ f, (wM.view.loc (c : Thread nD τ)) ↦[Finset.univ]{fullShare} f) ∗ sems16 c ∗ ((wH.view.loc (c : Thread nD τ)) ↦[Finset.univ]{fullShare} fw)) := by
  unfold ring0 freeW sems16 wLeft
  rw [BI.bigSep_sep', BI.bigSep_sep']
  iintro ⟨⟨Hs, Hm, Ht⟩, Hl⟩
  isplitl [Hm]
  · ihave Hm2 := (BI.bigSep_exists_pi (Y := fun _ : Fin 16 => Buf (Elt F) (wM.view.loc (c : Thread nD τ))) Finset.univ
      (fun k f => ((wM.view.loc (c : Thread nD τ)) ↦[wslot k.val]{fullShare} f : sProp 𝕄))) $$ Hm
    icases Hm2 with ⟨%fs, Hm⟩
    ihave Hm3 := (pointsTo_biUnion_join (q := fullShare) Finset.univ (fun k : Fin 16 => wslot k.val) fs (fs 0) wslot_disj) $$ Hm
    icases Hm3 with ⟨%g, -, Hm⟩
    iexists g
    iapply (show ((wM.view.loc (c : Thread nD τ)) ↦[(Finset.univ : Finset (Fin 16)).biUnion fun k => wslot k.val]{fullShare} g)
      ⊢ ((wM.view.loc (c : Thread nD τ)) ↦[Finset.univ]{fullShare} g) from by rw [wslot_all]) $$ Hm
  isplitl [Hs]; · iexact Hs
  iapply (pointsTo_toks_join (ℓ := wH.view.loc (c : Thread nD τ)) (f := fw) (S := Finset.univ) fullShare 16)
  isplitl [Hl]; · iexact Hl
  iexact Ht
theorem ring_start : ring0 c fw ⊢ (iprop(∀ E m, AtW (ringΦ c fw E m) (primed 0)) : sProp 𝕄) := by
  iintro H %E %m
  iapply (show ring0 c fw ⊢ AtW (ringΦ c fw E m) (primed 0) from .rfl) $$ H
theorem ring_stop (E : ℕ → ℕ) (m : ℕ) : AtW (ringΦ c fw E m) (ringSt m (28 * m)) ⊢ ring0 c fw := by
  rw [ringSt_end]; exact .rfl

/-! ## The output buffer and the result taken apart and put together -/

theorem oslot_disj : Disjoint (oslot 0) (oslot 1) := by
  rw [Finset.disjoint_left]
  intro i hi hi'
  have h1 := (Finset.mem_filter.mp hi).2
  have h2 := (Finset.mem_filter.mp hi').2
  omega
theorem oslot_all : oslot 0 ∪ oslot 1 = Finset.univ := by
  ext i
  have h := (i 0).isLt
  have h' : (i 0).val < 2 := h
  simp only [Finset.mem_union, oslot, Finset.mem_filter, Finset.mem_univ, _root_.true_and, iff_true]
  omega
theorem out_open (Good : S256x14336.Idx → Elt F .bf16 → Prop) :
    iprop((∃ f, (oM.view.loc (c : Thread nD τ)) ↦[Finset.univ]{fullShare} f) ∗ semVal ((c : Thread nD τ), .dma (ocell 0)) 0 ∗ semVal ((c : Thread nD τ), .dma (ocell 1)) 0
        ∗ (∃ f, (outH.view.loc (c : Thread nD τ)) ↦[Finset.univ]{fullShare} f)) ⊢ StB c Good 0 0 := by
  iintro ⟨⟨%f, Ho⟩, S0, S1, ⟨%g, Hg⟩⟩
  ihave Ho2 := (show ((oM.view.loc (c : Thread nD τ)) ↦[Finset.univ]{fullShare} f)
      ⊢ iprop(((oM.view.loc (c : Thread nD τ)) ↦[oslot 0]{fullShare} f) ∗ ((oM.view.loc (c : Thread nD τ)) ↦[oslot 1]{fullShare} f)) from by
    rw [← oslot_all]; exact (pointsTo_union oslot_disj).1) $$ Ho
  icases Ho2 with ⟨O0, O1⟩
  iapply (open_block c Good 0)
  unfold oFree
  isplitl [O0 S0]
  · isplitl [O0]
    · iexists f; iexact O0
    · iexact S0
  isplitl [O1 S1]
  · iapply (show iprop(oAny c 1 ∗ semVal ((c : Thread nD τ), .dma (ocell 1)) 0) ⊢ prevO c Good 0 from .rfl)
    isplitl [O1]
    · iexists f; iexact O1
    · iexact S1
  ihave Hg2 := (show ((outH.view.loc (c : Thread nD τ)) ↦[Finset.univ]{fullShare} g)
      ⊢ iprop(((outH.view.loc (c : Thread nD τ)) ↦[doneBlk 0]{fullShare} g) ∗ ((outH.view.loc (c : Thread nD τ)) ↦[todoBlk 0]{fullShare} g)) from by
    have hd : Disjoint (doneBlk 0) (todoBlk 0) := by
      rw [Finset.disjoint_left]
      intro i hi _
      exact absurd (Finset.mem_filter.mp hi).2 (Nat.not_lt_zero _)
    have hu : doneBlk 0 ∪ todoBlk 0 = Finset.univ := by
      ext i
      simp only [Finset.mem_union, todoBlk, Finset.mem_filter, Finset.mem_univ, _root_.true_and, iff_true]
      exact Or.inr (Nat.zero_le _)
    rw [← hu]; exact (pointsTo_union hd).1) $$ Hg
  icases Hg2 with ⟨G0, G1⟩
  isplitl [G0]
  · unfold outGood
    iexists g
    isplitl [G0]; · iexact G0
    ipureintro
    intro i hi
    exact absurd (Finset.mem_filter.mp hi).2 (Nat.not_lt_zero _)
  · unfold todo; iexists g; iexact G1
theorem done_all : doneBlk 28 = Finset.univ := by
  ext i
  have h : (i 1).val < 14336 := (i 1).isLt
  simp only [doneBlk, Finset.mem_filter, Finset.mem_univ, _root_.true_and, iff_true]
  omega

/-! ## The last transfers -/

theorem off142_27 : k0_off142 27#32 = ![27 % 2] := by
  show ![(Scalar.remsi 27#32 2#32).toNat] = _
  rw [show (Scalar.remsi 27#32 2#32).toNat = 27 % 2 from by decide +kernel]
theorem off142_26 : k0_off142 26#32 = ![26 % 2] := by
  show ![(Scalar.remsi 26#32 2#32).toNat] = _
  rw [show (Scalar.remsi 26#32 2#32).toNat = 26 % 2 from by decide +kernel]
theorem off143_27 : k0_off143 27#32 = ![27 % 2, 0, 0] := by
  show ![(Scalar.remsi 27#32 2#32).toNat, 0, 0] = _
  rw [show (Scalar.remsi 27#32 2#32).toNat = 27 % 2 from by decide +kernel]

/-! ## The body -/

/-- Everything the kernel holds before and after its run, apart from the result. -/
def world : sProp 𝕄 :=
  iprop(inputs c fgs fxs fx fws ∗ ((wH.view.loc (c : Thread nD τ)) ↦[Finset.univ]{fullShare} fw) ∗ places c
    ∗ (∃ f, actPt c f) ∗ (∃ f, startPt c f) ∗ (∃ f, (codeM.view.loc (c : Thread nD τ)) ↦[Finset.univ]{fullShare} f)
    ∗ (∃ f, (wM.view.loc (c : Thread nD τ)) ↦[Finset.univ]{fullShare} f) ∗ (∃ f, (oM.view.loc (c : Thread nD τ)) ↦[Finset.univ]{fullShare} f)
    ∗ sems4 c ∗ sems16 c ∗ semVal ((c : Thread nD τ), .dma (ocell 0)) 0 ∗ semVal ((c : Thread nD τ), .dma (ocell 1)) 0)

set_option maxHeartbeats 4000000 in
theorem body_run (Good : S256x14336.Idx → Elt F .bf16 → Prop) (GoodC : S256x4096.Idx → Elt F .fp8e4m3 → Prop)
    (hg : ∀ e, e < 6 → gsz fgs e ≤ 256) (hsum : nRow (gsz fgs) 6 = 256) (CP : CPays GoodC fx fxs fgs)
    (hP : ∀ fcode : S256x4096.Idx → Elt F .fp8e4m3, (∀ i, GoodC i (fcode i)) → Pays Good fcode fw fxs fws (gsz fgs)) :
    iprop(world c fgs fxs fx fws fw ∗ (∃ f, (outH.view.loc (c : Thread nD τ)) ↦[Finset.univ]{fullShare} f) ∗ (∃ w, owes (c : Thread nD τ) 0 w))
      ⊢ W (F := F) c (cc0_moe_fp8_stream gsH (Memref.isWhole_whole _) xsH (Memref.isWhole_whole _) xH (Memref.isWhole_whole _) wH (Memref.isWhole_whole _) wsH (Memref.isWhole_whole _) outH (Memref.isWhole_whole _) gsM (Memref.isWhole_whole _) xsM (Memref.isWhole_whole _) xM (Memref.isWhole_whole _) codeM (Memref.isWhole_whole _) wsM (Memref.isWhole_whole _) wM (Memref.isWhole_whole _) oM (Memref.isWhole_whole _) actM (Memref.isWhole_whole _) startM (Memref.isWhole_whole _) cc0_scratch9 cc0_scratch10 cc0_scratch11 cc0_scratch12 cc0_scratch13 cc0_scratch14) (fun _ => iprop(world c fgs fxs fx fws fw ∗ outGood c Good Finset.univ ∗ (∃ w, owes (c : Thread nD τ) 0 w))) := by
  unfold world
  iintro ⟨⟨Hin, Hw, Hpl, Ha, Hs, Hc, Hm, Ho, S4, S16, SO0, SO1⟩, Hout, Hz⟩
  ihave HR := (ring_open c fw) $$ [Hm S16 Hw]
  · isplitl [Hm]; · iexact Hm
    isplitl [S16]; · iexact S16
    iexact Hw
  icases HR with ⟨HR, HL⟩
  ihave HB := (out_open c Good) $$ [Ho SO0 SO1 Hout]
  · isplitl [Ho]; · iexact Ho
    isplitl [SO0]; · iexact SO0
    isplitl [SO1]; · iexact SO1
    iexact Hout
  rw [cc0_moe_fp8_stream_eq_skeleton]
  unfold cc0_moe_fp8_stream_skel
  dsimp only
  simp only [wp_bind]
  iapply (part6 (F := F) c fgs fxs fx fws hg) $$ [Hin Hpl S4 Ha Hs Hz]
  · isplitl [Hin]; · iexact Hin
    isplitl [Hpl]; · iexact Hpl
    isplitl [S4]; · iexact S4
    isplitl [Ha]; · iexact Ha
    isplitl [Hs]; · iexact Hs
    iexact Hz
  iintro ⟨Hgs, Fxs, Fx, Fws, HT, Hz⟩
  have hm : nA (fgs (i6 0)) (fgs (i6 1)) (fgs (i6 2)) (fgs (i6 3)) (fgs (i6 4)) (fgs (i6 5)) = wd (nAct (gsz fgs) 6) := cnt_eq fgs hg 6 le_rfl
  have hone : 1 ≤ nAct (gsz fgs) 6 := by
    by_contra h
    have := nRow_zero (g := gsz fgs) (e := 6) (by omega)
    omega
  have hsix : nAct (gsz fgs) 6 ≤ 6 := nAct_le _ _
  have hw6 := chk6_of hm hone hsix
  ihave HR := (ring_start c fw) $$ HR
  iapply (part7 (F := F) c fgs fxs fx fw hg hsum hw6) $$ [Hgs Fxs Fx HT HR Hz]
  · isplitl [Hgs]; · iexact Hgs
    isplitl [Fxs]; · iexact Fxs
    isplitl [Fx]; · iexact Fx
    isplitl [HT]; · iexact HT
    isplitl [HR]; · iexact HR
    iexact Hz
  iintro %fa %fs %E %S %T ⟨Hgs, Hxs, Hx, Ha, Hs, HR, Hz⟩
  iapply (part8 (F := F) c fgs fxs fx fws CP) $$ [Hgs Hxs Hx Fws Hc Hz]
  · isplitl [Hgs]; · iexact Hgs
    isplitl [Hxs]; · iexact Hxs
    isplitl [Hx]; · iexact Hx
    isplitl [Fws]; · iexact Fws
    isplitl [Hc]; · iexact Hc
    iexact Hz
  iintro ⟨Hgs, Hxs, Hx, Hws, Hc, Hz⟩
  unfold codes haveXs haveWs
  icases Hxs with ⟨Pxs, Hxs, S10⟩
  icases Hws with ⟨Pws, Hws, S12⟩
  icases Hc with ⟨%fcode, Hc, %hcode⟩
  have P := hP fcode (fun i => hcode i (i 1).isLt)
  iapply (l_for (F := F) c _ _ _ _ (itemInv c Good fcode fw fxs fws (nAct (gsz fgs) 6) E S fa fs)
    (item_step (F := F) c Good fcode fw fxs fws P T hm hw6 _)) $$ [Ha Hs Hc Pxs Pws HR HB Hz]
  · unfold itemInv datas
    isplitr
    · ipureintro
      rw [Nat.zero_div, Nat.zero_mod, Nat.zero_add, Nat.zero_mod]
    isplitl [Ha]; · iexact Ha
    isplitl [Hs]; · iexact Hs
    isplitl [Hc Pxs Pws]
    · isplitl [Hc]; · iexact Hc
      isplitl [Pxs]; · iexact Pxs
      iexact Pws
    isplitl [HR]
    · rw [ringSt_zero hone]; iexact HR
    isplitl [HB]
    · rw [Nat.zero_div, Nat.zero_mod]
      iapply (show StB c Good 0 0 ⊢ StI c Good 0 0 (S 0) from .rfl) $$ HB
    iexact Hz
  iintro %acc HI
  rw [t4_trips hm hone hsix]
  iapply (l_for (F := F) c _ _ _ _ (fun _ acc => itemInv c Good fcode fw fxs fws (nAct (gsz fgs) 6) E S fa fs (28 * nAct (gsz fgs) 6) acc)
    (fun k _ => absurd (lt_of_lt_of_eq k.isLt (t5_trips hm hone hsix)) (Nat.not_lt_zero _))) $$ [HI]
  · iexact HI
  iintro %acc2 HI
  unfold itemInv datas
  icases HI with ⟨-, Ha, Hs, ⟨Hc, Pxs, Pws⟩, HR, HB, Hz⟩
  ihave HB2 := (show StI c Good (28 * nAct (gsz fgs) 6 / nAct (gsz fgs) 6) (28 * nAct (gsz fgs) 6 % nAct (gsz fgs) 6) (S (28 * nAct (gsz fgs) 6 % nAct (gsz fgs) 6)) ⊢ StB c Good 27 256 from by
    rw [Nat.mul_div_cancel _ hone, Nat.mul_mod_left]; exact .rfl) $$ HB
  iapply (start_block (F := F) c Good (n := 27) (by omega) off142_27 off143_27 rfl) $$ HB2
  iintro HB
  iapply (wait_block (F := F) c Good (n := 26) off142_26) $$ [HB Hz]
  · isplitl [HB]; · iexact HB
    iexact Hz
  iintro ⟨HB, Hz⟩
  unfold StB obuf
  icases HB with ⟨⟨%f0, O0, -⟩, SO0, HF, HD, -⟩
  iapply (o_wait (F := F) c (Good := Good) (s := osl 27) (n := 27) off142_27) $$ [HF Hz]
  · isplitl [HF]
    · iapply (show prevO c Good (26 + 2) ⊢ inflO c Good (osl 27) 27 from .rfl) $$ HF
    iexact Hz
  iintro ⟨HG, ⟨%f1, O1⟩, SO1, Hz⟩
  iapply (l_pure (F := F) c)
  ihave HW := (ring_close c fw) $$ [HR HL]
  · isplitl [HR]
    · iapply (ring_stop c fw E (nAct (gsz fgs) 6)) $$ HR
    iexact HL
  icases HW with ⟨Hm, S16, Hw⟩
  unfold haveGs haveX inputs places sems4
  icases Hgs with ⟨Pgs, Hgs, S9⟩
  icases Hx with ⟨Px, Hx, S11⟩
  isplitr [HG HD Hz]
  · isplitl [Hgs Hxs Hx Hws]
    · isplitl [Hgs]; · iexact Hgs
      isplitl [Hxs]; · iexact Hxs
      isplitl [Hx]; · iexact Hx
      iexact Hws
    isplitl [Hw]; · iexact Hw
    isplitl [Pgs Pxs Px Pws]
    · isplitl [Pgs]; · iexists _; iexact Pgs
      isplitl [Pxs]; · iexists _; iexact Pxs
      isplitl [Px]; · iexists _; iexact Px
      iexists _; iexact Pws
    isplitl [Ha]; · iexists _; iexact Ha
    isplitl [Hs]; · iexists _; iexact Hs
    isplitl [Hc]; · iexists _; iexact Hc
    isplitl [Hm]; · iexact Hm
    isplitl [O0 O1]
    · iexists _
      iapply (show iprop(((oM.view.loc (c : Thread nD τ)) ↦[oslot 0]{fullShare} f0) ∗ ((oM.view.loc (c : Thread nD τ)) ↦[oslot 1]{fullShare} f1))
        ⊢ ((oM.view.loc (c : Thread nD τ)) ↦[Finset.univ]{fullShare} ((oslot 1).piecewise f1 f0)) from by
          rw [← oslot_all]; exact pointsTo_join oslot_disj)
      isplitl [O0]; · iexact O0
      iexact O1
    isplitl [S9 S10 S11 S12]
    · isplitl [S9]; · iexact S9
      isplitl [S10]; · iexact S10
      isplitl [S11]; · iexact S11
      iexact S12
    isplitl [S16]; · iexact S16
    isplitl [SO0]; · iexact SO0
    iexact SO1
  isplitr [Hz]
  · rw [← done_all]
    iapply (outGood_done c Good 27)
    isplitl [HD]; · iexact HD
    iexact HG
  · iexact Hz

end Cert.KernelIdeal.Hand
end
-- ==== Proof.KI.Launch.lean ====
module
public import proofs.«01_k».proof.Proof.KI.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.KitQuiescent
/-!
# The launch

The body's run as the program's: what the call is handed, what it hands back, and what that says of the memory at
the end: the five arguments unchanged, the result good everywhere, every semaphore at zero.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The buffers as the call finds them: as launched. -/
abbrev V (c : Dev nD) (b : Ref sig .tc) : Buf (Elt F) ((c : Thread nD τ).loc b) := m ((c : Thread nD τ).loc b)
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The kernel's own semaphores: four for the arrays read whole, sixteen of the ring, two of the output. -/
def osem0 : Fin 22 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 22 → SemLoc sig) j
theorem ownSemFacts0 : Pipeline.OwnSemFacts (cfgs 0).spec osem0 := by decide

theorem ownSems0_open (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0) := by
  rw [Pipeline.ownSems0_eq_of_list c osem0 [0, 1, 2, 3, 4, 5, 6, 7, 8, 9, 10, 11, 12, 13, 14, 15, 16, 17, 18, 19, 20, 21] (by decide) (by decide)]
  rfl
theorem sems16_open (c : Dev nD) :
    (sems16 (F := F) c : sProp 𝕄)
      = iprop(semVal ((c : Thread nD τ), .dma (wcell 0)) 0 ∗ semVal ((c : Thread nD τ), .dma (wcell 1)) 0 ∗ semVal ((c : Thread nD τ), .dma (wcell 2)) 0 ∗ semVal ((c : Thread nD τ), .dma (wcell 3)) 0 ∗ semVal ((c : Thread nD τ), .dma (wcell 4)) 0 ∗ semVal ((c : Thread nD τ), .dma (wcell 5)) 0 ∗ semVal ((c : Thread nD τ), .dma (wcell 6)) 0 ∗ semVal ((c : Thread nD τ), .dma (wcell 7)) 0 ∗ semVal ((c : Thread nD τ), .dma (wcell 8)) 0 ∗ semVal ((c : Thread nD τ), .dma (wcell 9)) 0 ∗ semVal ((c : Thread nD τ), .dma (wcell 10)) 0 ∗ semVal ((c : Thread nD τ), .dma (wcell 11)) 0 ∗ semVal ((c : Thread nD τ), .dma (wcell 12)) 0 ∗ semVal ((c : Thread nD τ), .dma (wcell 13)) 0 ∗ semVal ((c : Thread nD τ), .dma (wcell 14)) 0 ∗ semVal ((c : Thread nD τ), .dma (wcell 15)) 0) := by
  unfold sems16
  rw [BI.bigSep_univ_eq_bigSepL [0, 1, 2, 3, 4, 5, 6, 7, 8, 9, 10, 11, 12, 13, 14, 15] (by decide) (by decide)]
  rfl

/-- The own semaphores grouped as the body names them. -/
def semsAll (c : Dev nD) : sProp 𝕄 :=
  iprop(sems4 c ∗ sems16 c ∗ semVal ((c : Thread nD τ), .dma (ocell 0)) 0 ∗ semVal ((c : Thread nD τ), .dma (ocell 1)) 0)
theorem semsAll_intro (c : Dev nD) :
    iprop(sems4 c ∗ sems16 c ∗ semVal ((c : Thread nD τ), .dma (ocell 0)) 0 ∗ semVal ((c : Thread nD τ), .dma (ocell 1)) 0) ⊢ (semsAll c : sProp 𝕄) := .rfl
theorem semsAll_elim (c : Dev nD) :
    (semsAll c : sProp 𝕄) ⊢ iprop(sems4 c ∗ sems16 c ∗ semVal ((c : Thread nD τ), .dma (ocell 0)) 0 ∗ semVal ((c : Thread nD τ), .dma (ocell 1)) 0) := .rfl
theorem sems_in (c : Dev nD) : (Pipeline.ownSems0 (Ix := Unit) (Name := ℕ) (U := Pipeline.UD sig nD τ) (Lvl := ℕ) (Val := Elt F) (τ := τ) osem0 c : sProp 𝕄)
    ⊢ semsAll c := by
  unfold semsAll
  rw [ownSems0_open, sems16_open]
  unfold sems4
  iintro ⟨s0, s1, s2, s3, w0, w1, w2, w3, w4, w5, w6, w7, w8, w9, w10, w11, w12, w13, w14, w15, o0, o1⟩
  isplitl [s0 s1 s2 s3]
  · isplitl [s0]; · iexact s0
    isplitl [s1]; · iexact s1
    isplitl [s2]; · iexact s2
    iexact s3
  isplitl [w0 w1 w2 w3 w4 w5 w6 w7 w8 w9 w10 w11 w12 w13 w14 w15]
  · skip
    isplitl [w0]; · iexact w0
    isplitl [w1]; · iexact w1
    isplitl [w2]; · iexact w2
    isplitl [w3]; · iexact w3
    isplitl [w4]; · iexact w4
    isplitl [w5]; · iexact w5
    isplitl [w6]; · iexact w6
    isplitl [w7]; · iexact w7
    isplitl [w8]; · iexact w8
    isplitl [w9]; · iexact w9
    isplitl [w10]; · iexact w10
    isplitl [w11]; · iexact w11
    isplitl [w12]; · iexact w12
    isplitl [w13]; · iexact w13
    isplitl [w14]; · iexact w14
    iexact w15
  isplitl [o0]; · iexact o0
  iexact o1
theorem sems_out (c : Dev nD) : semsAll c
    ⊢ (Pipeline.ownSems0 (Ix := Unit) (Name := ℕ) (U := Pipeline.UD sig nD τ) (Lvl := ℕ) (Val := Elt F) (τ := τ) osem0 c : sProp 𝕄) := by
  unfold semsAll
  rw [ownSems0_open, sems16_open]
  unfold sems4
  iintro ⟨⟨s0, s1, s2, s3⟩, ⟨w0, w1, w2, w3, w4, w5, w6, w7, w8, w9, w10, w11, w12, w13, w14, w15⟩, o0, o1⟩
  isplitl [s0]; · iexact s0
  isplitl [s1]; · iexact s1
  isplitl [s2]; · iexact s2
  isplitl [s3]; · iexact s3
  isplitl [w0]; · iexact w0
  isplitl [w1]; · iexact w1
  isplitl [w2]; · iexact w2
  isplitl [w3]; · iexact w3
  isplitl [w4]; · iexact w4
  isplitl [w5]; · iexact w5
  isplitl [w6]; · iexact w6
  isplitl [w7]; · iexact w7
  isplitl [w8]; · iexact w8
  isplitl [w9]; · iexact w9
  isplitl [w10]; · iexact w10
  isplitl [w11]; · iexact w11
  isplitl [w12]; · iexact w12
  isplitl [w13]; · iexact w13
  isplitl [w14]; · iexact w14
  isplitl [w15]; · iexact w15
  isplitl [o0]; · iexact o0
  iexact o1

variable (Good : Dev nD → S256x14336.Idx → Elt F .bf16 → Prop)

/-- What the call holds, with the arrays as launched. -/
def held (c : Dev nD) : sProp 𝕄 := world c (V m c main_arg1) (V m c main_arg2) (V m c main_arg0) (V m c main_arg4) (V m c main_arg3)

/-- The proof data of the one call: before its one point the result holds anything, after it the result is good. -/
def dats (_ : Fin 1) (c : Dev nD) : Dat τ (Elt F) Unit ℕ (Pipeline.UD sig nD τ) ℕ cfg0 c where
  A w := w.elim0
  after w t := w.elim0
  Φ t := if t.val = 0 then iprop(held m c ∗ (∃ f, (outH.view.loc (c : Thread nD τ)) ↦[Finset.univ]{fullShare} f))
    else iprop(held m c ∗ outGood c (Good c) Finset.univ)
  q _ := fullShare
  owed _ := 0

theorem phi_first (c : Dev nD) (t : Fin (cfg0.N + 1)) (h : t.val = 0) :
    (dats m Good 0 c).Φ t = iprop(held m c ∗ (∃ f, (outH.view.loc (c : Thread nD τ)) ↦[Finset.univ]{fullShare} f)) := if_pos h
theorem phi_last (c : Dev nD) (t : Fin (cfg0.N + 1)) (h : t.val ≠ 0) :
    (dats m Good 0 c).Φ t = iprop(held m c ∗ outGood c (Good c) Finset.univ) := if_neg h

theorem defs₀_row (t : Fin cfg0.N) : defs₀ (F := F) .tc cfg0.body (cfg0.bodyArgs t (cfg0.slots t)) = bodyAt0 t := by
  unfold defs₀; rw [Defs.onTc_tc]

/-- What is asked of the claim made of every element of the result, on every device. -/
structure Sound : Prop where
  size : ∀ c e, e < 6 → gsz (V m c main_arg1) e ≤ 256
  total : ∀ c, nRow (gsz (V m c main_arg1)) 6 = 256
  pays : ∀ c, ∃ GoodC : S256x4096.Idx → Elt F .fp8e4m3 → Prop, CPays GoodC (V m c main_arg0) (V m c main_arg2) (V m c main_arg1)
    ∧ ∀ fcode : S256x4096.Idx → Elt F .fp8e4m3, (∀ i, GoodC i (fcode i)) →
      Pays (Good c) fcode (V m c main_arg3) (V m c main_arg2) (V m c main_arg4) (gsz (V m c main_arg1))

/-- What a run leaves: the arguments as launched, the result good. -/
def Left (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ ∀ i, Good c i (s.mem ((c.tc : Thread nD τ).loc main_v0) i)

variable (hS : Sound m Good)
include hS

theorem sound_body (c : Dev nD) (t : Fin cfg0.N) :
    iprop((dats m Good 0 c).Φ t.castSucc ∗ (dats m Good 0 c).owesAt () t.castSucc)
      ⊢ wp frame (wpE (defs₀ (F := F)) Variants.none c none) Set.univ (bodyAt0 t)
          (fun _ => iprop((dats m Good 0 c).Φ t.succ ∗ (dats m Good 0 c).owesAt () t.succ)) := by
  have ht : t.val = 0 := congrArg Fin.val (fin_N0 t)
  rw [phi_first m Good c t.castSucc ht, phi_last m Good c t.succ (Nat.succ_ne_zero _)]
  unfold bodyAt0 held Dat.owesAt Pipeline.owesWithin
  rw [show (dats m Good 0 c).owed t.castSucc = 0 from rfl, show (dats m Good 0 c).owed t.succ = 0 from rfl]
  obtain ⟨GoodC, CP, hP⟩ := hS.pays c
  refine triple_restated (body_run (F := F) c _ _ _ _ _ (Good c) GoodC (hS.size c) (hS.total c) CP hP) rfl ?_ (fun _ => ?_)
  · iintro ⟨⟨HW, HO⟩, ⟨%w, -, Hz⟩⟩
    isplitl [HW]; · iexact HW
    isplitl [HO]; · iexact HO
    iexists w; iexact Hz
  · iintro ⟨HW, HO, ⟨%w, Hz⟩⟩
    isplitl [HW HO]
    · isplitl [HW]; · iexact HW
      iexact HO
    iexists w; isplitr; · ipureintro; exact fun _ _ => Or.inl trivial
    iexact Hz

theorem body_obligation (c : Dev nD) : BodyObligation (dats m Good 0 c) (defs₀ (F := F)) Variants.none () Set.univ := fun t => by
  rw [defs₀_row]
  refine triple_restated (sound_body m Good hS c t) rfl ?_ (fun _ => ?_)
  · iintro ⟨HP, Hz, -⟩
    isplitl [HP]; · iexact HP
    iexact Hz
  · iintro ⟨HP, Hz⟩
    isplitl [HP]; · iexact HP
    isplitl [Hz]; · iexact Hz
    rw [show (Finset.univ : Finset (Fin cfg0.W)) = ∅ from Finset.univ_eq_empty (α := Fin 0), BI.bigSep_empty]
    iempintro

omit hS in
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := Pipeline.UD sig nD τ) (Lvl := ℕ) ({()} : Finset Unit) (fun _ => ℓ) (fun _ => f) s'
  rw [BI.bigSep_singleton] at h
  refine h.trans ?_
  iintro ⟨%h, H⟩
  isplitr; · ipureintro; exact h () (Finset.mem_singleton_self _)
  iexact H

omit hS in
theorem read_left (c : Dev nD) (s' : Phys nD τ sig (Elt F)) :
    iprop((iprop(inputs c (V m c main_arg1) (V m c main_arg2) (V m c main_arg0) (V m c main_arg4)
        ∗ ((wH.view.loc (c : Thread nD τ)) ↦[Finset.univ]{fullShare} V m c main_arg3) ∗ outGood c (Good c) Finset.univ) : sProp 𝕄) ∗ SI s')
      ⊢ iprop(⌜Left m Good c s'.mem⌝ ∗ SI s') := by
  unfold inputs outGood
  iintro ⟨⟨⟨H1, H2, H0, H4⟩, H3, ⟨%g, H5, %hg⟩⟩, S⟩
  ihave S := (read_one _ _ s') $$ [H0 S]
  · isplitl [H0]; · iexact H0
    iexact S
  icases S with ⟨%h0, S⟩
  ihave S := (read_one _ _ s') $$ [H1 S]
  · isplitl [H1]; · iexact H1
    iexact S
  icases S with ⟨%h1, S⟩
  ihave S := (read_one _ _ s') $$ [H2 S]
  · isplitl [H2]; · iexact H2
    iexact S
  icases S with ⟨%h2, S⟩
  ihave S := (read_one _ _ s') $$ [H3 S]
  · isplitl [H3]; · iexact H3
    iexact S
  icases S with ⟨%h3, S⟩
  ihave S := (read_one _ _ s') $$ [H4 S]
  · isplitl [H4]; · iexact H4
    iexact S
  icases S with ⟨%h4, S⟩
  ihave S := (read_one _ _ s') $$ [H5 S]
  · isplitl [H5]; · iexact H5
    iexact S
  icases S with ⟨%h5, S⟩
  isplitr
  · ipureintro
    refine ⟨h0, h1, h2, h3, h4, fun i => ?_⟩
    have := congrFun h5 i
    exact this ▸ hg i (Finset.mem_univ i)
  · iexact S

set_option backward.isDefEq.respectTransparency.types false in
/-- The program runs to the end from any memory the claim is sound of, and leaves what `Left` says and every semaphore at zero. -/
theorem run_main : θ_run defs (onTc (τ := τ) (main (F := F))) ⟨m, fun _ => 0, ρ⟩
    (fun r => (∀ c : Dev nD, Left m Good c r.2) ∧ r.2.sem = fun _ => 0) := by
  classical
  exact Pipeline.θ_run_region_kit_quiescent (Q := fun r => (∀ c : Dev nD, Left m Good c r.2) ∧ r.2.sem = fun _ => 0)
    cfgs (dats m Good) () (0 : Fin 1) launch0 ownSemFacts0 embL defs₀ Variants.none m ρ main
    (hbody := fun c => (body_obligation m Good hS c).loose) (hshare := fun c w => w.elim0) (howed := fun _ _ => rfl)
    (G := fun _ => iprop(emp)) (u₀ := (initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m Variants.none) (hA := fun c w => w.elim0)
    (X := fun c => iprop(Pipeline.unscopedRest (Ix := Unit) (Name := ℕ) (U := Pipeline.UD sig nD τ) (Lvl := ℕ) spec0 c (V m c)
      ∗ Pipeline.ownSems0 (Ix := Unit) (Name := ℕ) (U := Pipeline.UD sig nD τ) (Lvl := ℕ) (Val := Elt F) (τ := τ) osem0 c))
    (Y := fun c => iprop(inputs c (V m c main_arg1) (V m c main_arg2) (V m c main_arg0) (V m c main_arg4)
        ∗ ((wH.view.loc (c : Thread nD τ)) ↦[Finset.univ]{fullShare} V m c main_arg3) ∗ outGood c (Good c) Finset.univ))
    (Z := fun _ => iprop(emp))
    (hX := fun c => by
      iintro ⟨HU, HS, -⟩; imodintro
      isplitl [HU HS]
      · isplitl [HU]; · iexact HU
        iexact HS
      · iempintro)
    (hin := fun c => by
      rw [phi_first m Good c 0 rfl]
      refine (show _ ⊢ iprop((Pipeline.unscopedRest (Ix := Unit) (Name := ℕ) (U := Pipeline.UD sig nD τ) (Lvl := ℕ) (cfg0.spec) c (V m c)
        ∗ Pipeline.ownSems0 (Ix := Unit) (Name := ℕ) (U := Pipeline.UD sig nD τ) (Lvl := ℕ) (Val := Elt F) (τ := τ) osem0 c)
        ∗ Pipeline.scopedRest (Ix := Unit) (Name := ℕ) (U := Pipeline.UD sig nD τ) (Lvl := ℕ) (Val := Elt F) (cfg0.spec) c) from .rfl).trans ?_
      rw [unscopedRest0_eq, scopedRest0_eq]
      unfold held world inputs places
      iintro ⟨⟨⟨H0, H1, H2, H3, H4, H5⟩, HS⟩, ⟨B2, B3, B4, B5, B6, B0, B1, B7, B8⟩⟩
      ihave HS := (sems_in (F := F) c) $$ HS
      isplitr [H5]
      · isplitl [H0 H1 H2 H4]
        · isplitl [H1]; · iexact H1
          isplitl [H2]; · iexact H2
          isplitl [H0]; · iexact H0
          iexact H4
        isplitl [H3]; · iexact H3
        isplitl [B0 B1 B2 B4]
        · isplitl [B0]; · iexact B0
          isplitl [B1]; · iexact B1
          isplitl [B2]; · iexact B2
          iexact B4
        isplitl [B7]; · iexact B7
        isplitl [B8]; · iexact B8
        isplitl [B3]; · iexact B3
        isplitl [B5]; · iexact B5
        isplitl [B6]; · iexact B6
        iapply (semsAll_elim (F := F) c) $$ HS
      · iexists _; iexact H5)
    (hout := fun c => by
      rw [phi_last m Good c (Fin.last _) (by decide)]
      rw [show (Pipeline.scopedRest (Ix := Unit) (Name := ℕ) (U := Pipeline.UD sig nD τ) (Lvl := ℕ) (Val := Elt F) ((cfgs 0).spec) c : sProp 𝕄) = _ from scopedRest0_eq c]
      unfold held world places
      iintro ⟨⟨HI, H3, ⟨B0, B1, B2, B4⟩, B7, B8, B3, B5, B6, HS⟩, H5⟩
      isplitl [HI H3 H5]
      · isplitl [HI]; · iexact HI
        isplitl [H3]; · iexact H3
        iexact H5
      isplitl [HS]
      · iapply (sems_out (F := F) c)
        iapply (semsAll_intro (F := F) c) $$ HS
      isplitl [B2]; · iexact B2
      isplitl [B3]; · iexact B3
      isplitl [B4]; · iexact B4
      isplitl [B5]; · iexact B5
      isplitl [B6]; · iexact B6
      isplitl [B0]; · iexact B0
      isplitl [B1]; · iexact B1
      isplitl [B7]; · iexact B7
      iexact B8)
    (QY := fun c s => Left m Good c s)
    (hY := fun c s' => by
      iintro ⟨HY, -, HSI⟩
      imodintro
      iapply (read_left (F := F) m Good c s')
      isplitl [HY]; · iexact HY
      iexact HSI)
    (hQ := fun s h hz => ⟨fun c => (h c).2, hz⟩)

end Cert.KernelIdeal.Hand
end
-- ==== Proof.KI.Frame.lean ====
module
public import proofs.«01_k».proof.Proof.KI.Launch
public import proofs.«01_k».proof.Proof.Sizes
/-!
# The frame

What the precondition gives the launch, and the run with nothing said of the result.
-/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx Idealize.ShloMosaic.Ring

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The precondition at the launch's memory. -/
def PreAt : Prop := ∀ c : Dev nD, Cert.Pre_sizes_partition_rows.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) = fun _ => 1#1

theorem size_of (h : PreAt m) (c : Dev nD) (e : ℕ) (he : e < 6) : gsz (V m c main_arg1) e ≤ 256 := by
  have hs := (Cert.Sizes.sizes (F := F) _ _ _ _ _ (h c)).1 ⟨e, he⟩
  have hi : i6 e = Cert.Sizes.ix ⟨e, he⟩ := congrArg (Idealize.ShloMosaic.ix1 (n0 := 6)) (Fin.ext (Nat.mod_eq_of_lt he) : (⟨e % 6, Nat.mod_lt _ (by decide)⟩ : Fin 6) = ⟨e, he⟩)
  unfold gsz
  rw [hi]; exact hs
theorem total_of (h : PreAt m) (c : Dev nD) : nRow (gsz (V m c main_arg1)) 6 = 256 := by
  have hs := (Cert.Sizes.sizes (F := F) _ _ _ _ _ (h c)).2
  show (((((0 + gsz (V m c main_arg1) 0) + gsz (V m c main_arg1) 1) + gsz (V m c main_arg1) 2) + gsz (V m c main_arg1) 3) + gsz (V m c main_arg1) 4) + gsz (V m c main_arg1) 5 = 256
  rw [Nat.zero_add]
  exact hs

/-- Nothing asked of the result. -/
theorem sound_true (h : PreAt m) : Sound m (fun _ _ _ => True) where
  size := size_of m h
  total := total_of m h
  pays c := ⟨fun _ _ => True, by
    constructor <;> exact fun _ _ _ _ _ => trivial, fun _ _ => by
    constructor <;> first | exact fun _ _ _ _ _ _ _ _ _ _ _ _ _ _ => trivial | exact fun _ _ _ _ _ _ _ _ _ _ _ _ => trivial⟩

/-- The program runs to the end, its arguments unchanged and every semaphore at zero. -/
theorem frame (h : PreAt m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩)
    (run_main m ρ (fun _ _ _ => True) (sound_true m h))

end Cert.KernelIdeal.Hand
end
-- ==== Proof.RefRun.lean ====
module
public import proofs.«01_k».proof.Proof.Gen.ReferenceIdeal.Value
public import Idealize.ShloMosaic.Lib.Pointwise
/-!
# The reference's result as one function of its arguments

The reference is one call without a grid: each window is its whole array, and what the call writes is one store
whose value is read off the run.
-/
@[expose] public section
set_option maxRecDepth 16384
noncomputable section
namespace Cert.RefRun
open Cert.ReferenceIdeal Cert.ReferenceIdeal.Gen Cert.ReferenceIdeal.Value Idealize.ShloMosaic Idealize.ShloMosaic.TcCoe Idealize.SL.Sem

variable {F : FTy → Type} [FloatOps F]

/-- Place `k` of a vector of six. -/
def at6 (k : Fin 6) : S6.Idx := fun a => match a with | ⟨0, _⟩ => k
/-- The weights of expert `e`. -/
def weights (e : Fin 6) (w : Vec F S6x4096x14336 .fp8e4m3) : Vec F S1x4096x14336 .fp8e4m3 := fun i => w (ix3 e (i 1) (i 2))
/-- The weight scales of expert `e`. -/
def wscales (e : Fin 6) (s : Vec F S6x14336 .f32) : Vec F S1x14336 .f32 := fun i => s (ix2 e (i 1))

/-- The expert of each row. -/
def expert (g : Vec F S6 .i32) : IVec S256x1 32 := k0_pay2 (F := F) (g (at6 0)) (g (at6 1)) (g (at6 2)) (g (at6 3)) (g (at6 4))
/-- The activation scale of each row. -/
def rowScale (g : Vec F S6 .i32) (xs : Vec F S6 .f32) : FVec F S256x1 .f32 :=
  k0_pay5 (expert g) (k0_pay3 (g (at6 0)) (g (at6 1)) (g (at6 2)) (g (at6 3)) (g (at6 4)) (xs (at6 0)) (xs (at6 1)))
    (k0_pay4 (F := F) (g (at6 0)) (g (at6 1)) (g (at6 2)) (g (at6 3)) (g (at6 4))) (xs (at6 2)) (xs (at6 3)) (xs (at6 4)) (xs (at6 5))
/-- The codes. -/
def codes (x : Vec F S256x4096 .bf16) (g : Vec F S6 .i32) (xs : Vec F S6 .f32) : FVec F S256x4096 .fp8e4m3 :=
  k0_pay6 (expert g) (k0_pay3 (g (at6 0)) (g (at6 1)) (g (at6 2)) (g (at6 3)) (g (at6 4)) (xs (at6 0)) (xs (at6 1)))
    (k0_pay4 (F := F) (g (at6 0)) (g (at6 1)) (g (at6 2)) (g (at6 3)) (g (at6 4))) (xs (at6 2)) (xs (at6 3)) (xs (at6 4)) (xs (at6 5)) x
/-- The product of expert 0 at its rows, zero elsewhere. -/
def acc0 (x : Vec F S256x4096 .bf16) (g : Vec F S6 .i32) (xs : Vec F S6 .f32) (w : Vec F S6x4096x14336 .fp8e4m3) : FVec F S256x14336 .f32 :=
  k0_pay8 (expert g) (k0_pay3 (g (at6 0)) (g (at6 1)) (g (at6 2)) (g (at6 3)) (g (at6 4)) (xs (at6 0)) (xs (at6 1)))
    (k0_pay4 (F := F) (g (at6 0)) (g (at6 1)) (g (at6 2)) (g (at6 3)) (g (at6 4))) (xs (at6 2)) (xs (at6 3)) (xs (at6 4)) (xs (at6 5)) x (weights 0 w)
/-- The product of each row with its own expert's weights. -/
def acc (x : Vec F S256x4096 .bf16) (g : Vec F S6 .i32) (xs : Vec F S6 .f32) (w : Vec F S6x4096x14336 .fp8e4m3) : FVec F S256x14336 .f32 :=
  k0_pay15 (expert g) (codes x g xs) (k0_pay10 (expert g) (codes x g xs) (acc0 x g xs w) (weights 1 w) (weights 2 w)) (k0_pay12 (expert g))
    (k0_pay13 (weights 3 w)) (weights 4 w) (weights 5 w)
/-- The weight scales of each row but for the last expert's. -/
def colScale (g : Vec F S6 .i32) (ws : Vec F S6x14336 .f32) : FVec F S256x14336 .f32 :=
  k0_pay14 (expert g) (k0_pay11 (expert g) (k0_pay7 (F := F)) (wscales 0 ws) (k0_pay9 (expert g)) (wscales 1 ws) (wscales 2 ws)) (wscales 3 ws) (wscales 4 ws)
/-- The result. -/
def result (x : Vec F S256x4096 .bf16) (g : Vec F S6 .i32) (xs : Vec F S6 .f32) (w : Vec F S6x4096x14336 .fp8e4m3) (ws : Vec F S6x14336 .f32) : Vec F S256x14336 .bf16 :=
  k0_pay1 (rowScale g xs) (colScale g ws) (acc x g xs w) (wscales 5 ws) (k0_pay16 (expert g))

/-- The pair of two zeros is the zero offset. -/
theorem hz : (![0, 0] : Fin 2 → Nat) = fun _ => 0 := funext fun a => by fin_cases a <;> rfl

/-- A scalar load of place `k`. -/
theorem word_ld {η : EltTy} {arg : Memref sig .tc .smem S6 η} (h : arg.IsWhole) (X : Vec F S6 η) (k : Fin 6) {o : Fin 1 → ℕ} (ho : o = ![k.val]) (inb)
    (i : (Rect.unit (s := S6) o ![1] inb).toLoadRect.shape.Idx) :
    View.readAt (Elt F) arg.view (Rect.unit (s := S6) o ![1] inb).toLoadRect (h.unread X) i = X (at6 k) := by
  subst ho
  rw [View.readAt_eq_ld, h.read_unread]
  refine congrArg X (funext fun a => ?_)
  match a with
  | ⟨0, _⟩ => apply Fin.ext; show k.val + 1 * (i 0).val = k.val; have : (i 0).val < 1 := (i 0).isLt; omega
/-- A load of one expert's weights. -/
theorem weights_ld (X : Vec F S6x4096x14336 .fp8e4m3) (e : Fin 6) {o : Fin 3 → ℕ} (ho : o = ![e.val, 0, 0]) (inb) :
    View.ld X (Rect.unit (s := S6x4096x14336) o ![1, 4096, 14336] inb) = weights e X := by
  subst ho
  funext i
  refine congrArg X (funext fun a => ?_)
  match a with
  | ⟨0, _⟩ => apply Fin.ext; show e.val + 1 * (i 0).val = e.val; have : (i 0).val < 1 := (i 0).isLt; omega
  | ⟨1, _⟩ => apply Fin.ext; show 0 + 1 * (i 1).val = (i 1).val; omega
  | ⟨2, _⟩ => apply Fin.ext; show 0 + 1 * (i 2).val = (i 2).val; omega
/-- A load of one expert's weight scales. -/
theorem wscales_ld (X : Vec F S6x14336 .f32) (e : Fin 6) {o : Fin 2 → ℕ} (ho : o = ![e.val, 0]) (inb) :
    View.ld X (Rect.unit (s := S6x14336) o ![1, 14336] inb) = wscales e X := by
  subst ho
  funext i
  refine congrArg X (funext fun a => ?_)
  match a with
  | ⟨0, _⟩ => apply Fin.ext; show e.val + 1 * (i 0).val = e.val; have : (i 0).val < 1 := (i 0).isLt; omega
  | ⟨1, _⟩ => apply Fin.ext; show 0 + 1 * (i 1).val = (i 1).val; omega

/-- What the call leaves in the result's buffer is `result` of the inputs. -/
theorem out_eq (c : Dev nD) (arg0 : Memref sig .tc .vmem S256x4096 .bf16) (h0 : arg0.IsWhole) (arg1 : Memref sig .tc .smem S6 .i32) (h1 : arg1.IsWhole)
    (arg2 : Memref sig .tc .smem S6 .f32) (h2 : arg2.IsWhole) (arg3 : Memref sig .tc .vmem S6x4096x14336 .fp8e4m3) (h3 : arg3.IsWhole)
    (arg4 : Memref sig .tc .vmem S6x14336 .f32) (h4 : arg4.IsWhole) (arg5 : Memref sig .tc .vmem S256x14336 .bf16) (h5 : arg5.IsWhole)
    (x : Vec F S256x4096 .bf16) (g : Vec F S6 .i32) (xs : Vec F S6 .f32) (w : Vec F S6x4096x14336 .fp8e4m3) (ws : Vec F S6x14336 .f32) :
    out0_A_5 c arg0 h0 arg1 h1 arg2 h2 arg3 h3 arg4 h4 arg5 h5 x g xs w ws = result x g xs w ws := by
  unfold out0_A_5
  rw [View.read_writes_junk_eq_canon]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26,
    word_ld h1 _ 0 (o := ![0]) rfl, word_ld h2 _ 0 (o := ![0]) rfl, word_ld h1 _ 1 (o := ![1]) rfl, word_ld h2 _ 1 (o := ![1]) rfl, word_ld h1 _ 2 (o := ![2]) rfl, word_ld h2 _ 2 (o := ![2]) rfl, word_ld h1 _ 3 (o := ![3]) rfl, word_ld h2 _ 3 (o := ![3]) rfl, word_ld h1 _ 4 (o := ![4]) rfl, word_ld h2 _ 4 (o := ![4]) rfl, word_ld h1 _ 5 (o := ![5]) rfl, word_ld h2 _ 5 (o := ![5]) rfl]
  simp only [View.readAt_eq_ld, h0.read_unread, h1.read_unread, h2.read_unread, h3.read_unread, h4.read_unread,
    weights_ld _ 0 (o := ![0, 0, 0]) rfl, weights_ld _ 1 (o := ![1, 0, 0]) rfl, weights_ld _ 2 (o := ![2, 0, 0]) rfl, weights_ld _ 3 (o := ![3, 0, 0]) rfl, weights_ld _ 4 (o := ![4, 0, 0]) rfl, weights_ld _ 5 (o := ![5, 0, 0]) rfl,
    wscales_ld _ 0 (o := ![0, 0]) rfl, wscales_ld _ 1 (o := ![1, 0]) rfl, wscales_ld _ 2 (o := ![2, 0]) rfl, wscales_ld _ 3 (o := ![3, 0]) rfl, wscales_ld _ 4 (o := ![4, 0]) rfl, wscales_ld _ 5 (o := ![5, 0]) rfl]
  rw [View.ld_unit_zero hz]
  unfold result rowScale colScale acc acc0 codes expert
  rfl

variable (m : (ℓ : Loc nD τ sig) → Buf (Elt F) ℓ) (ρ : Dev nD → PrngReg)

/-! Each window's one block is its whole array. -/

/-- The one block of the activations starts at zero. -/
theorem idx_zero0 : ∀ t : Fin cfg0.N, win0_0.index t (0 : Fin 2) = 0 ∧ win0_0.index t (1 : Fin 2) = 0 := (by decide +kernel : ∀ t : Fin grid0.N, _)
/-- An index into the block of the activations is the same index into the whole array. -/
theorem emb0 (t : Fin cfg0.N) (j : S256x4096.Idx) : ((cfg0.win 0).blk t).view.emb j = j := by
  obtain ⟨e0, e1⟩ := idx_zero0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The block of the activations is the whole array. -/
theorem iblk0_eq (c : Dev nD) (t : Fin cfg0.N) : iblk m c 0 t = V m c main_arg0 := by
  funext j; show V m c main_arg0 (((cfg0.win 0).blk t).view.emb j) = V m c main_arg0 j; rw [emb0]
/-- The one block of the group sizes starts at zero. -/
theorem idx_zero1 : ∀ t : Fin cfg0.N, win0_1.index t (0 : Fin 1) = 0 := (by decide +kernel : ∀ t : Fin grid0.N, _)
/-- An index into the block of the group sizes is the same index into the whole array. -/
theorem emb1 (t : Fin cfg0.N) (j : S6.Idx) : ((cfg0.win 1).blk t).view.emb j = j := by
  obtain e0 := idx_zero1 t
  funext a; apply Fin.ext
  match a with
  | ⟨0, _⟩ => show win0_1.index t (0 : Fin 1) * 6 + 1 * (j 0).val = (j 0).val; omega
/-- The block of the group sizes is the whole array. -/
theorem iblk1_eq (c : Dev nD) (t : Fin cfg0.N) : iblk m c 1 t = V m c main_arg1 := by
  funext j; show V m c main_arg1 (((cfg0.win 1).blk t).view.emb j) = V m c main_arg1 j; rw [emb1]
/-- The one block of the activation scales starts at zero. -/
theorem idx_zero2 : ∀ t : Fin cfg0.N, win0_2.index t (0 : Fin 1) = 0 := (by decide +kernel : ∀ t : Fin grid0.N, _)
/-- An index into the block of the activation scales is the same index into the whole array. -/
theorem emb2 (t : Fin cfg0.N) (j : S6.Idx) : ((cfg0.win 2).blk t).view.emb j = j := by
  obtain e0 := idx_zero2 t
  funext a; apply Fin.ext
  match a with
  | ⟨0, _⟩ => show win0_2.index t (0 : Fin 1) * 6 + 1 * (j 0).val = (j 0).val; omega
/-- The block of the activation scales is the whole array. -/
theorem iblk2_eq (c : Dev nD) (t : Fin cfg0.N) : iblk m c 2 t = V m c main_arg2 := by
  funext j; show V m c main_arg2 (((cfg0.win 2).blk t).view.emb j) = V m c main_arg2 j; rw [emb2]
/-- The one block of the weights starts at zero. -/
theorem idx_zero3 : ∀ t : Fin cfg0.N, win0_3.index t (0 : Fin 3) = 0 ∧ win0_3.index t (1 : Fin 3) = 0 ∧ win0_3.index t (2 : Fin 3) = 0 := (by decide +kernel : ∀ t : Fin grid0.N, _)
/-- An index into the block of the weights is the same index into the whole array. -/
theorem emb3 (t : Fin cfg0.N) (j : S6x4096x14336.Idx) : ((cfg0.win 3).blk t).view.emb j = j := by
  obtain ⟨e0, e1, e2⟩ := idx_zero3 t
  funext a; apply Fin.ext
  match a with
  | ⟨0, _⟩ => show win0_3.index t (0 : Fin 3) * 6 + 1 * (j 0).val = (j 0).val; omega
  | ⟨1, _⟩ => show win0_3.index t (1 : Fin 3) * 4096 + 1 * (j 1).val = (j 1).val; omega
  | ⟨2, _⟩ => show win0_3.index t (2 : Fin 3) * 14336 + 1 * (j 2).val = (j 2).val; omega
/-- The block of the weights is the whole array. -/
theorem iblk3_eq (c : Dev nD) (t : Fin cfg0.N) : iblk m c 3 t = V m c main_arg3 := by
  funext j; show V m c main_arg3 (((cfg0.win 3).blk t).view.emb j) = V m c main_arg3 j; rw [emb3]
/-- The one block of the weight scales starts at zero. -/
theorem idx_zero4 : ∀ t : Fin cfg0.N, win0_4.index t (0 : Fin 2) = 0 ∧ win0_4.index t (1 : Fin 2) = 0 := (by decide +kernel : ∀ t : Fin grid0.N, _)
/-- An index into the block of the weight scales is the same index into the whole array. -/
theorem emb4 (t : Fin cfg0.N) (j : S6x14336.Idx) : ((cfg0.win 4).blk t).view.emb j = j := by
  obtain ⟨e0, e1⟩ := idx_zero4 t
  funext a; apply Fin.ext
  match a with
  | ⟨0, _⟩ => show win0_4.index t (0 : Fin 2) * 6 + 1 * (j 0).val = (j 0).val; omega
  | ⟨1, _⟩ => show win0_4.index t (1 : Fin 2) * 14336 + 1 * (j 1).val = (j 1).val; omega
/-- The block of the weight scales is the whole array. -/
theorem iblk4_eq (c : Dev nD) (t : Fin cfg0.N) : iblk m c 4 t = V m c main_arg4 := by
  funext j; show V m c main_arg4 (((cfg0.win 4).blk t).view.emb j) = V m c main_arg4 j; rw [emb4]
/-- The one block of the result starts at zero. -/
theorem idx_zero5 : ∀ t : Fin cfg0.N, win0_5.index t (0 : Fin 2) = 0 ∧ win0_5.index t (1 : Fin 2) = 0 := (by decide +kernel : ∀ t : Fin grid0.N, _)
/-- An index into the block of the result is the same index into the whole array. -/
theorem emb5 (t : Fin cfg0.N) (j : S256x14336.Idx) : ((cfg0.win 5).blk t).view.emb j = j := by
  obtain ⟨e0, e1⟩ := idx_zero5 t
  funext a; apply Fin.ext
  match a with
  | ⟨0, _⟩ => show win0_5.index t (0 : Fin 2) * 256 + 1 * (j 0).val = (j 0).val; omega
  | ⟨1, _⟩ => show win0_5.index t (1 : Fin 2) * 14336 + 1 * (j 1).val = (j 1).val; omega
/-- Cutting the block out of `X` and reading `X` through the block give the same. -/
theorem cut5_eq (t : Fin cfg0.N) (X : Vec F S256x14336 .bf16) :
    (cfg0.win 5).cut (grid0.coords t) X = ((cfg0.win 5).blk t).view.read (Elt F) X := by
  funext j
  show X j = X (((cfg0.win 5).blk t).view.emb j)
  rw [emb5]

/-- What the call writes back is `result` of the arguments. -/
theorem flushed5_eq (c : Dev nD) (t : Fin cfg0.N) :
    (dats m 0 c).flushed 5 t = ((cfg0.win 5).blk t).view.read (Elt F) (result (V m c main_arg0) (V m c main_arg1) (V m c main_arg2) (V m c main_arg3) (V m c main_arg4)) := by
  rw [flushed5_A, out_eq, iblk0_eq, iblk1_eq, iblk2_eq, iblk3_eq, iblk4_eq]
  exact cut5_eq t _

/-- Every element of the result is written back. -/
theorem covered5 (i : S256x14336.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

/-- The result array after the run. -/
theorem final5 (c : Dev nD) : (dats m 0 c).arrAt 5 cfg0.N = result (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (result (V m c main_arg0) (V m c main_arg1) (V m c main_arg2) (V m c main_arg3) (V m c main_arg4)) (fun t _ => flushed5_eq m c t) covered5).trans
    (by rw [V_main_arg0, V_main_arg1, V_main_arg2, V_main_arg3, V_main_arg4])

/-- The reference runs to the end, its result `result` of the arguments and the arguments unchanged. -/
theorem run : θ_run defs (onTc (τ := τ) (main (F := F))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2⟩) (run_blocks m ρ)

end Cert.RefRun
end
-- ==== Proof.Spec.lean ====
module
public import Idealize.ShloMosaic.PureOps.Ideal.Laws
public import Idealize.ShloMosaic.Lib.WordCmp
public import Idealize.ShloMosaic.Lib.Pointwise
/-!
# The mathematics both programs compute

An activation is divided by its expert's scale and clipped to ±448; an element of the result is the inner
product of a row of these codes with a column of the expert's weights, times the product of the two scales.
The operations are those of exact arithmetic on the extended reals.
-/
@[expose] public section
noncomputable section
namespace Cert.Spec
open Idealize.ShloMosaic Idealize.ShloMosaic.WordCmp

/-- The code of an activation `x` under the scale `s`: the quotient, clipped to ±448. -/
def code (x s : EReal) : EReal := min (Ideal.ofBits FTy.f32 0x43E00000#32) (max (Ideal.ofBits FTy.f32 0xC3E00000#32) (Ideal.div x s))

/-- One element of the result: the inner product of codes and weights, times the product of the scales. -/
def entry (xs ws : EReal) (codes weights : Fin 4096 → EReal) : EReal := (∑ k, codes k * weights k) * (xs * ws)

/-- A selection on a signed comparison "at least" of two small words is a choice between their numbers. -/
theorem select_sge {α : Type} {a b : ℕ} (ha : a ≤ 256) (hb : b ≤ 256) (x y : α) :
    Scalar.select (IntOp.cmpi .sge (BitVec.ofNat 32 a) (BitVec.ofNat 32 b)) x y = if b ≤ a then x else y := by
  by_cases h : b ≤ a
  · rw [if_pos h, Scalar.select_of_eq_one ((cmpi_sge_ofNat_eq_one_iff (by omega) (by omega)).2 h)]
  · rw [if_neg h, Scalar.select_of_ne_one fun h' => h ((cmpi_sge_ofNat_eq_one_iff (by omega) (by omega)).1 h')]
/-- A selection on a signed comparison "less than" of two small words is a choice between their numbers. -/
theorem select_slt {α : Type} {a b : ℕ} (ha : a ≤ 512) (hb : b ≤ 512) (x y : α) :
    Scalar.select (IntOp.cmpi .slt (BitVec.ofNat 32 a) (BitVec.ofNat 32 b)) x y = if a < b then x else y := by
  by_cases h : a < b
  · rw [if_pos h, Scalar.select_of_eq_one ((cmpi_slt_ofNat_eq_one_iff (by omega) (by omega)).2 h)]
  · rw [if_neg h, Scalar.select_of_ne_one fun h' => h ((cmpi_slt_ofNat_eq_one_iff (by omega) (by omega)).1 h')]
/-- A selection on the equality of two small words is a choice between their numbers. -/
theorem select_eq {α : Type} {a b : ℕ} (ha : a ≤ 512) (hb : b ≤ 512) (x y : α) :
    Scalar.select (IntOp.cmpi .eq (BitVec.ofNat 32 a) (BitVec.ofNat 32 b)) x y = if a = b then x else y := by
  by_cases h : a = b
  · rw [if_pos h, Scalar.select_of_eq_one ((cmpi_eq_ofNat_eq_one_iff (by omega) (by omega)).2 h)]
  · rw [if_neg h, Scalar.select_of_ne_one fun h' => h ((cmpi_eq_ofNat_eq_one_iff (by omega) (by omega)).1 h')]

end Cert.Spec
end
-- ==== Proof.KI.ValueTile.lean ====
module
public import proofs.«01_k».proof.Proof.KI.Frame
public import proofs.«01_k».proof.Proof.Spec
/-!
# What the kernel's tile functions compute, element by element

Over the extended reals a tile's product, read at one element, is a sum over the 4096 inner positions times
the product of the two scales; the first 32 rows choose between it and what the buffer held.
-/
@[expose] public section
set_option maxRecDepth 16384
noncomputable section
namespace Cert.KernelIdeal.Hand
open Cert.KernelIdeal Cert.KernelIdeal.Gen Idealize.ShloMosaic

/-- The product a tile of `R` rows has at row `a` and column `b`. -/
def prodAt {R : ℕ} (x : Vec Ideal (⟨2, ![R, 4096]⟩ : Shape) .fp8e4m3) (w : Vec Ideal S1x4096x512 .fp8e4m3) (xs : Elt Ideal .f32) (ws : Vec Ideal S1x512 .f32)
    (a : Fin R) (b : Fin 512) : EReal :=
  Spec.entry xs (ws (ValueIdx.ix2 (0 : Fin 1) b)) (fun k => x (ValueIdx.ix2 a k)) (fun k => w (ValueIdx.ix3 (0 : Fin 1) k b))

/-- A function storing a tile's first 32 rows keeps the rows before the start and puts the products elsewhere. -/
def FirstAt (R : ℕ) (hR : 32 ≤ R) (p : BitVec 32 → BitVec 32 → Vec Ideal (⟨2, ![R, 4096]⟩ : Shape) .fp8e4m3 → Vec Ideal S1x4096x512 .fp8e4m3 → Elt Ideal .f32
    → Vec Ideal S1x512 .f32 → Vec Ideal S1x32x512 .bf16 → Vec Ideal S1x32x512 .bf16) : Prop :=
  ∀ s t x w xs ws old (a : Fin 32) (b : Fin 512), p s t x w xs ws old (ValueIdx.ix3 (0 : Fin 1) a b)
    = Scalar.select (IntOp.cmpi .slt (IntOp.addi (BitVec.ofNat 32 a.val) t) s) (old (ValueIdx.ix3 (0 : Fin 1) a b))
        (prodAt x w xs ws (⟨a.val, by omega⟩ : Fin R) b)
/-- A function storing a tile's other rows puts the products. -/
def RestAt (R R' : ℕ) (hR : 32 + R' ≤ R) (p : Vec Ideal (⟨2, ![R, 4096]⟩ : Shape) .fp8e4m3 → Vec Ideal S1x4096x512 .fp8e4m3 → Elt Ideal .f32
    → Vec Ideal S1x512 .f32 → Vec Ideal (⟨3, ![1, R', 512]⟩ : Shape) .bf16) : Prop :=
  ∀ x w xs ws (a : Fin R') (b : Fin 512), p x w xs ws (ValueIdx.ix3 (0 : Fin 1) a b) = prodAt x w xs ws (⟨32 + a.val, by omega⟩ : Fin R) b

/-- The first 32 rows written by the tile of 32 rows, at one element. -/
theorem first1 : FirstAt 32 (by decide) k0_pay5 := by
  intro s t x w xs ws old a b
  unfold k0_pay5 prodAt Spec.entry
  simp only [← ix2_eq_valueIdx, ← ix3_eq_valueIdx]
  pointwise
/-- The first 32 rows written by the tile of 64 rows, at one element. -/
theorem first2 : FirstAt 64 (by decide) k0_pay7 := by
  intro s t x w xs ws old a b
  unfold k0_pay7 k0_pay6 prodAt Spec.entry
  simp only [← ix2_eq_valueIdx, ← ix3_eq_valueIdx]
  pointwise
/-- The first 32 rows written by the tile of 96 rows, at one element. -/
theorem first3 : FirstAt 96 (by decide) k0_pay10 := by
  intro s t x w xs ws old a b
  unfold k0_pay10 k0_pay9 prodAt Spec.entry
  simp only [← ix2_eq_valueIdx, ← ix3_eq_valueIdx]
  pointwise
/-- The first 32 rows written by the tile of 128 rows, at one element. -/
theorem first4 : FirstAt 128 (by decide) k0_pay13 := by
  intro s t x w xs ws old a b
  unfold k0_pay13 k0_pay12 prodAt Spec.entry
  simp only [← ix2_eq_valueIdx, ← ix3_eq_valueIdx]
  pointwise
/-- The first 32 rows written by the tile of 160 rows, at one element. -/
theorem first5 : FirstAt 160 (by decide) k0_pay16 := by
  intro s t x w xs ws old a b
  unfold k0_pay16 k0_pay15 prodAt Spec.entry
  simp only [← ix2_eq_valueIdx, ← ix3_eq_valueIdx]
  pointwise
/-- The first 32 rows written by the tile of 192 rows, at one element. -/
theorem first6 : FirstAt 192 (by decide) k0_pay19 := by
  intro s t x w xs ws old a b
  unfold k0_pay19 k0_pay18 prodAt Spec.entry
  simp only [← ix2_eq_valueIdx, ← ix3_eq_valueIdx]
  pointwise
/-- The first 32 rows written by the tile of 224 rows, at one element. -/
theorem first7 : FirstAt 224 (by decide) k0_pay22 := by
  intro s t x w xs ws old a b
  unfold k0_pay22 k0_pay21 prodAt Spec.entry
  simp only [← ix2_eq_valueIdx, ← ix3_eq_valueIdx]
  pointwise
/-- The first 32 rows written by the tile of 256 rows, at one element. -/
theorem first8 : FirstAt 256 (by decide) k0_pay25 := by
  intro s t x w xs ws old a b
  unfold k0_pay25 k0_pay24 prodAt Spec.entry
  simp only [← ix2_eq_valueIdx, ← ix3_eq_valueIdx]
  pointwise
/-- The rows after the first 32 written by the tile of 64 rows, at one element. -/
theorem rest2 : RestAt 64 32 (by decide) k0_pay8 := by
  intro x w xs ws a b
  unfold k0_pay8 k0_pay6 prodAt Spec.entry
  simp only [← ix2_eq_valueIdx, ← ix3_eq_valueIdx]
  pointwise
/-- The rows after the first 32 written by the tile of 96 rows, at one element. -/
theorem rest3 : RestAt 96 64 (by decide) k0_pay11 := by
  intro x w xs ws a b
  unfold k0_pay11 k0_pay9 prodAt Spec.entry
  simp only [← ix2_eq_valueIdx, ← ix3_eq_valueIdx]
  pointwise
/-- The rows after the first 32 written by the tile of 128 rows, at one element. -/
theorem rest4 : RestAt 128 96 (by decide) k0_pay14 := by
  intro x w xs ws a b
  unfold k0_pay14 k0_pay12 prodAt Spec.entry
  simp only [← ix2_eq_valueIdx, ← ix3_eq_valueIdx]
  pointwise
/-- The rows after the first 32 written by the tile of 160 rows, at one element. -/
theorem rest5 : RestAt 160 128 (by decide) k0_pay17 := by
  intro x w xs ws a b
  unfold k0_pay17 k0_pay15 prodAt Spec.entry
  simp only [← ix2_eq_valueIdx, ← ix3_eq_valueIdx]
  pointwise
/-- The rows after the first 32 written by the tile of 192 rows, at one element. -/
theorem rest6 : RestAt 192 160 (by decide) k0_pay20 := by
  intro x w xs ws a b
  unfold k0_pay20 k0_pay18 prodAt Spec.entry
  simp only [← ix2_eq_valueIdx, ← ix3_eq_valueIdx]
  pointwise
/-- The rows after the first 32 written by the tile of 224 rows, at one element. -/
theorem rest7 : RestAt 224 192 (by decide) k0_pay23 := by
  intro x w xs ws a b
  unfold k0_pay23 k0_pay21 prodAt Spec.entry
  simp only [← ix2_eq_valueIdx, ← ix3_eq_valueIdx]
  pointwise
/-- The rows after the first 32 written by the tile of 256 rows, at one element. -/
theorem rest8 : RestAt 256 224 (by decide) k0_pay26 := by
  intro x w xs ws a b
  unfold k0_pay26 k0_pay24 prodAt Spec.entry
  simp only [← ix2_eq_valueIdx, ← ix3_eq_valueIdx]
  pointwise

/-- The first function that makes codes, at one element. -/
theorem code1 (s : FVec Ideal S256x128 .f32) (x : Vec Ideal S256x128 .bf16) (i : S256x128.Idx) : k0_pay1 s x i = Spec.code (x i) (s i) := by
  unfold k0_pay1 Spec.code; pointwise
/-- The second function that makes codes, at one element. -/
theorem code2 (s : FVec Ideal S256x128 .f32) (x : Vec Ideal S256x128 .bf16) (i : S256x128.Idx) : k0_pay2 s x i = Spec.code (x i) (s i) := by
  unfold k0_pay2 Spec.code; pointwise
/-- The third function that makes codes, at one element. -/
theorem code3 (s : FVec Ideal S256x128 .f32) (x : Vec Ideal S256x128 .bf16) (i : S256x128.Idx) :
    k0_pay50 (k0_pay3 s x) (Scalar.ofBits .f32 0x43E00000#32) k0_pay4 i = Spec.code (x i) (s i) := by
  unfold k0_pay50 k0_pay3 k0_pay4 Spec.code; pointwise
/-- The fourth function that makes codes, at one element. -/
theorem code4 (a0 : Elt Ideal .f32) (b0 : Elt Ideal .i32) (a1 : Elt Ideal .f32) (b1 : Elt Ideal .i32) (a2 : Elt Ideal .f32) (b2 : Elt Ideal .i32)
    (a3 : Elt Ideal .f32) (b3 : Elt Ideal .i32) (a4 : Elt Ideal .f32) (b4 : Elt Ideal .i32) (a5 : Elt Ideal .f32) (x : Vec Ideal S256x128 .bf16) (i : S256x128.Idx) :
    k0_pay51 a0 b0 a1 b1 a2 b2 a3 b3 a4 b4 a5 x i = Spec.code (x i) (k0_pay49 a0 b0 a1 b1 a2 b2 a3 b3 a4 b4 a5 i) := by
  unfold k0_pay51 Spec.code
  generalize k0_pay49 a0 b0 a1 b1 a2 b2 a3 b3 a4 b4 a5 = s
  pointwise

/-- The scale of a row: the last expert whose start is not above the row. -/
theorem scales_at (fxs : S6.Idx → Ideal .f32) (fgs : S6.Idx → BitVec 32) (i : S256x128.Idx) (hs : nRow (gsz fgs) 6 ≤ 256) :
    scales fxs fgs i = if nRow (gsz fgs) 5 ≤ (i 0).val then fxs (i6 5) else if nRow (gsz fgs) 4 ≤ (i 0).val then fxs (i6 4)
      else if nRow (gsz fgs) 3 ≤ (i 0).val then fxs (i6 3) else if nRow (gsz fgs) 2 ≤ (i 0).val then fxs (i6 2)
      else if nRow (gsz fgs) 1 ≤ (i 0).val then fxs (i6 1) else fxs (i6 0) := by
  have hi : (i 0).val ≤ 256 := le_of_lt (i 0).isLt
  have hr : ∀ e, e ≤ 6 → nRow (gsz fgs) e ≤ 256 := fun e he => (nRow_mono he).trans hs
  have e1 : rowW fgs 1 = wd (nRow (gsz fgs) 1) := rowW_eq fgs 1
  have e2 : rowW fgs 2 = wd (nRow (gsz fgs) 2) := rowW_eq fgs 2
  have e3 : rowW fgs 3 = wd (nRow (gsz fgs) 3) := rowW_eq fgs 3
  have e4 : rowW fgs 4 = wd (nRow (gsz fgs) 4) := rowW_eq fgs 4
  have e5 : rowW fgs 5 = wd (nRow (gsz fgs) 5) := rowW_eq fgs 5
  have h : scales fxs fgs i = Scalar.select (IntOp.cmpi .sge (wd (i 0).val) (rowW fgs 5)) (fxs (i6 5))
      (Scalar.select (IntOp.cmpi .sge (wd (i 0).val) (rowW fgs 4)) (fxs (i6 4))
      (Scalar.select (IntOp.cmpi .sge (wd (i 0).val) (rowW fgs 3)) (fxs (i6 3))
      (Scalar.select (IntOp.cmpi .sge (wd (i 0).val) (rowW fgs 2)) (fxs (i6 2))
      (Scalar.select (IntOp.cmpi .sge (wd (i 0).val) (rowW fgs 1)) (fxs (i6 1)) (fxs (i6 0)))))) := by
    have hio : iota .tc S256x128 32 [0] iota_S256x128_d0_w32 i = wd (i 0).val := by pointwise
    rw [← hio]; rfl
  rw [h, e1, e2, e3, e4, e5]
  simp only [wd]
  rw [Spec.select_sge hi (hr 5 (by omega)), Spec.select_sge hi (hr 4 (by omega)), Spec.select_sge hi (hr 3 (by omega)), Spec.select_sge hi (hr 2 (by omega)),
    Spec.select_sge hi (hr 1 (by omega))]

end Cert.KernelIdeal.Hand
end
-- ==== Proof.KI.ValuePays.lean ====
module
public import proofs.«01_k».proof.Proof.KI.ValueTile
/-!
# What the kernel's run leaves, over the extended reals

A row belongs to the expert whose range of rows holds it.  The kernel's codes are the clipped quotients by that
expert's scale, and what it stores is the expert's product: these are the two properties the run is proved for.
-/
@[expose] public section
set_option maxRecDepth 16384
noncomputable section
namespace Cert.KernelIdeal.Hand
open Cert.KernelIdeal Cert.KernelIdeal.Gen
open Idealize.ShloMosaic Idealize.ShloMosaic.TcCoe

variable (fx : S256x4096.Idx → Elt Ideal .bf16) (fgs : S6.Idx → BitVec 32) (fxs : S6.Idx → Elt Ideal .f32)
  (fw : S6x4096x14336.Idx → Elt Ideal .fp8e4m3) (fws : S6x14336.Idx → Elt Ideal .f32)

/-- The code an element of the activations must have. -/
def CodeIs (i : S256x4096.Idx) (v : Elt Ideal .fp8e4m3) : Prop :=
  ∀ e, e < 6 → nRow (gsz fgs) e ≤ (i 0).val → (i 0).val < nRow (gsz fgs) (e + 1) → v = Spec.code (fx i) (fxs (i6 e))
/-- The element of the result that row `r`, column `b` has if the row is expert `e`'s. -/
def entryAt (e : ℕ) (r : Fin 256) (b : ℕ) : EReal :=
  Spec.entry (fxs (i6 e)) (wsAt fws e b) (fun k => Spec.code (fx (ValueIdx.ix2 r k)) (fxs (i6 e))) (fun k => fw (wix e k b))
/-- What an element of the result must be. -/
def OutIs (i : S256x14336.Idx) (v : Elt Ideal .bf16) : Prop :=
  ∀ e, e < 6 → nRow (gsz fgs) e ≤ (i 0).val → (i 0).val < nRow (gsz fgs) (e + 1) → v = entryAt fx fxs fw fws e (i 0) (i 1).val

/-- Two experts whose ranges hold one row are the same. -/
theorem expert_unique {g : ℕ → ℕ} {r e e' : ℕ} (l : nRow g e ≤ r) (u : r < nRow g (e + 1)) (l' : nRow g e' ≤ r) (u' : r < nRow g (e' + 1)) : e' = e := by
  rcases Nat.lt_trichotomy e e' with h | h | h
  · have := nRow_mono (g := g) (show e + 1 ≤ e' from h); omega
  · exact h.symm
  · have := nRow_mono (g := g) (show e' + 1 ≤ e from h); omega

/-- Every row below the total has its expert. -/
theorem expert_exists {g : ℕ → ℕ} {r : ℕ} : ∀ n, r < nRow g n → ∃ e, e < n ∧ nRow g e ≤ r ∧ r < nRow g (e + 1)
  | 0, h => absurd h (Nat.not_lt_zero r)
  | n + 1, h => by
    by_cases hn : nRow g n ≤ r
    · exact ⟨n, by omega, hn, h⟩
    · obtain ⟨e, he, l, u⟩ := expert_exists (g := g) (r := r) n (Nat.lt_of_not_le hn)
      exact ⟨e, by omega, l, u⟩

/-- The scale the kernel selects for a row of expert `e` is the scale of `e`. -/
theorem scales_row (i : S256x128.Idx) (hs : nRow (gsz fgs) 6 ≤ 256) (e : ℕ) (he : e < 6) (lo : nRow (gsz fgs) e ≤ (i 0).val)
    (hi : (i 0).val < nRow (gsz fgs) (e + 1)) : scales (F := Ideal) fxs fgs i = fxs (i6 e) := by
  rw [scales_at fxs fgs i hs]
  have m1 := nRow_mono (g := gsz fgs) (show 1 ≤ 2 by omega)
  have m2 := nRow_mono (g := gsz fgs) (show 2 ≤ 3 by omega)
  have m3 := nRow_mono (g := gsz fgs) (show 3 ≤ 4 by omega)
  have m4 := nRow_mono (g := gsz fgs) (show 4 ≤ 5 by omega)
  have hc : e = 0 ∨ e = 1 ∨ e = 2 ∨ e = 3 ∨ e = 4 ∨ e = 5 := by omega
  rcases hc with rfl | rfl | rfl | rfl | rfl | rfl <;> (simp only [Nat.reduceAdd] at lo hi; split_ifs <;> first | rfl | omega)

/-- A function that clips the quotient by the selected scales makes the codes asked for. -/
theorem col_ok (hs : nRow (gsz fgs) 6 ≤ 256) {p : Vec Ideal S256x128 .bf16 → Vec Ideal S256x128 .fp8e4m3}
    (hp : ∀ x i, p x i = Spec.code (x i) (scales (F := Ideal) fxs fgs i)) : ColOK (CodeIs fx fgs fxs) fx p := by
  intro b hb x hx i e he lo hi
  rw [hp, hx, scales_row fgs fxs i hs e he lo hi]

/-- The four functions that make codes make those asked for. -/
theorem codes_pay (hs : nRow (gsz fgs) 6 ≤ 256) : CPays (CodeIs fx fgs fxs) fx fxs fgs where
  p0 := col_ok fx fgs fxs hs fun x i => code1 _ x i
  p1 := col_ok fx fgs fxs hs fun x i => code2 _ x i
  p2 := col_ok fx fgs fxs hs fun x i => code3 _ x i
  p3 := col_ok fx fgs fxs hs fun x i => code4 _ _ _ _ _ _ _ _ _ _ _ x i

/-- A tile's product at one element is the element asked for. -/
theorem prod_is {fcode : S256x4096.Idx → Elt Ideal .fp8e4m3} (hc : ∀ i, CodeIs fx fgs fxs i (fcode i)) {R e n S S' : ℕ} {x w xs ws}
    (T : TileIn fcode fw fxs fws (gsz fgs) R e n S S' x w xs ws) (a : Fin R) (b : Fin 512) (h1 : S ≤ S / 32 * 32 + a.val) (h2 : S / 32 * 32 + a.val < S') :
    OutIs fx fgs fxs fw fws (oix (rowIx (S / 32 * 32 + a.val)) (512 * n + b.val)) (prodAt x w xs ws a b) := by
  have hn := T.hn; have he := T.he; have hin := T.inb
  have hr : (S / 32 * 32 + a.val) % 256 = S / 32 * 32 + a.val := Nat.mod_eq_of_lt (by have := a.isLt; omega)
  have hb : (512 * n + b.val) % 14336 = 512 * n + b.val := Nat.mod_eq_of_lt (by have := b.isLt; omega)
  intro e' he' lo hi
  have lo2 : nRow (gsz fgs) e' ≤ S / 32 * 32 + a.val := hr ▸ lo
  have hi2 : S / 32 * 32 + a.val < nRow (gsz fgs) (e' + 1) := hr ▸ hi
  obtain rfl : e' = e := expert_unique (T.lo ▸ h1) (T.hi ▸ h2) lo2 hi2
  have hcol : ((oix (rowIx (S / 32 * 32 + a.val)) (512 * n + b.val)) 1).val = 512 * n + b.val := hb
  unfold prodAt entryAt
  rw [hcol]
  congr 1
  · exact T.xs
  · exact T.ws b
  · funext k
    rw [T.x a k]
    exact hc (ValueIdx.ix2 (rowIx (S / 32 * 32 + a.val)) k) e' he lo hi
  · funext k
    exact T.w k b

/-- The first 32 rows of a tile keep what earlier experts left and are the expert's entries from its first row on. -/
theorem first_ok {fcode : S256x4096.Idx → Elt Ideal .fp8e4m3} (hc : ∀ i, CodeIs fx fgs fxs i (fcode i)) {R : ℕ} {hR : 32 ≤ R} {p} (hp : FirstAt R hR p) :
    FirstOK (OutIs fx fgs fxs fw fws) fcode fw fxs fws (gsz fgs) R p := by
  intro e n S S' x w xs ws old T a b hlt hold
  have hin := T.inb
  have ha := a.isLt
  have hS : S ≤ 256 := by omega
  rw [hp, bw_wd hS]
  simp only [wd]
  rw [show IntOp.addi (BitVec.ofNat 32 a.val) (BitVec.ofNat 32 (S / 32 * 32)) = BitVec.ofNat 32 (S / 32 * 32 + a.val) by
      rw [Nat.add_comm]; exact (BitVec.ofNat_add _ _).symm,
    Spec.select_slt (by omega) (by omega)]
  split_ifs with h
  · exact hold h
  · exact prod_is fx fgs fxs fw fws hc T (⟨a.val, by omega⟩ : Fin R) b (by show S ≤ S / 32 * 32 + a.val; omega) hlt

/-- The rows of a tile after the first 32 are the expert's entries, up to its last row. -/
theorem rest_ok {fcode : S256x4096.Idx → Elt Ideal .fp8e4m3} (hc : ∀ i, CodeIs fx fgs fxs i (fcode i)) {R R' : ℕ} {hR : 32 + R' ≤ R} {p} (hp : RestAt R R' hR p) :
    RestOK (OutIs fx fgs fxs fw fws) fcode fw fxs fws (gsz fgs) R R' p := by
  intro e n S S' x w xs ws T a b hlt
  have ha := a.isLt
  rw [hp, show S / 32 * 32 + 32 + a.val = S / 32 * 32 + (32 + a.val) from Nat.add_assoc _ _ _]
  exact prod_is fx fgs fxs fw fws hc T (⟨32 + a.val, by omega⟩ : Fin R) b (by show S ≤ S / 32 * 32 + (32 + a.val); omega)
    (by show S / 32 * 32 + (32 + a.val) < S'; omega)

/-- The tile functions store the elements asked for. -/
theorem tiles_pay {fcode : S256x4096.Idx → Elt Ideal .fp8e4m3} (hc : ∀ i, CodeIs fx fgs fxs i (fcode i)) :
    Pays (OutIs fx fgs fxs fw fws) fcode fw fxs fws (gsz fgs) where
  a1 := first_ok fx fgs fxs fw fws hc first1
  a2 := first_ok fx fgs fxs fw fws hc first2
  a3 := first_ok fx fgs fxs fw fws hc first3
  a4 := first_ok fx fgs fxs fw fws hc first4
  a5 := first_ok fx fgs fxs fw fws hc first5
  a6 := first_ok fx fgs fxs fw fws hc first6
  a7 := first_ok fx fgs fxs fw fws hc first7
  a8 := first_ok fx fgs fxs fw fws hc first8
  b2 := rest_ok fx fgs fxs fw fws hc rest2
  b3 := rest_ok fx fgs fxs fw fws hc rest3
  b4 := rest_ok fx fgs fxs fw fws hc rest4
  b5 := rest_ok fx fgs fxs fw fws hc rest5
  b6 := rest_ok fx fgs fxs fw fws hc rest6
  b7 := rest_ok fx fgs fxs fw fws hc rest7
  b8 := rest_ok fx fgs fxs fw fws hc rest8

/-- The kernel's run, from sizes that partition the rows, leaves at every element what is asked of it. -/
theorem sound_value (m) (h : PreAt (F := Ideal) m) :
    Sound (F := Ideal) m (fun c => OutIs (V m c main_arg0) (V m c main_arg1) (V m c main_arg2) (V m c main_arg3) (V m c main_arg4)) where
  size := fun c e he => size_of m h c e he
  total := fun c => total_of m h c
  pays := fun c => ⟨_, codes_pay _ _ _ (le_of_eq (total_of m h c)), fun _ hc => tiles_pay _ _ _ _ _ hc⟩

end Cert.KernelIdeal.Hand
end
-- ==== Proof.RefValue.lean ====
module
public import proofs.«01_k».proof.Proof.RefRun
public import proofs.«01_k».proof.Proof.KI.ValuePays
/-!
# The reference's result, element by element

The reference counts, for each row, the experts whose range starts at or before it; that count is the row's expert.
Every selection then picks that expert's value, and an element of the result is the expert's inner product times
the two scales.
-/
@[expose] public section
set_option maxRecDepth 16384
noncomputable section
namespace Cert.RefRun
open Cert.ReferenceIdeal Cert.ReferenceIdeal.Gen Idealize.ShloMosaic
open Cert.KernelIdeal.Hand (gsz nRow rowW rowW_eq nRow_mono i6 entryAt)

/-- A chain of six selections on a word: the value at that place. -/
def pick {α : Type} (w : BitVec 32) (f0 f1 f2 f3 f4 f5 z : α) : α :=
  Scalar.select (IntOp.cmpi .eq w 5#32) f5 (Scalar.select (IntOp.cmpi .eq w 4#32) f4 (Scalar.select (IntOp.cmpi .eq w 3#32) f3
    (Scalar.select (IntOp.cmpi .eq w 2#32) f2 (Scalar.select (IntOp.cmpi .eq w 1#32) f1 (Scalar.select (IntOp.cmpi .eq w 0#32) f0 z)))))
/-- The chain at the word of `e` is the value at place `e`. -/
theorem pick_eq {α : Type} {e : ℕ} (he : e < 6) (f : ℕ → α) (z : α) : pick (BitVec.ofNat 32 e) (f 0) (f 1) (f 2) (f 3) (f 4) (f 5) z = f e := by
  unfold pick
  rw [Spec.select_eq (by omega) (by omega), Spec.select_eq (by omega) (by omega), Spec.select_eq (by omega) (by omega), Spec.select_eq (by omega) (by omega),
    Spec.select_eq (by omega) (by omega), Spec.select_eq (by omega) (by omega)]
  have hc : e = 0 ∨ e = 1 ∨ e = 2 ∨ e = 3 ∨ e = 4 ∨ e = 5 := by omega
  rcases hc with rfl | rfl | rfl | rfl | rfl | rfl <;> rfl

/-- The comparison "at least" of two small words, widened: one or zero. -/
theorem ind {a b : ℕ} (ha : a ≤ 256) (hb : b ≤ 256) :
    BitVec.setWidth 32 (IntOp.cmpi .sge (BitVec.ofNat 32 a) (BitVec.ofNat 32 b)) = BitVec.ofNat 32 (if b ≤ a then 1 else 0) := by
  by_cases h : b ≤ a
  · rw [if_pos h, (WordCmp.cmpi_sge_ofNat_eq_one_iff (by omega) (by omega)).2 h]; rfl
  · rw [if_neg h, (WordCmp.cmpi_sge_ofNat_eq_zero_iff (by omega) (by omega)).2 (by omega)]; rfl

variable (x : Vec Ideal S256x4096 .bf16) (g : Vec Ideal S6 .i32) (xs : Vec Ideal S6 .f32) (w : Vec Ideal S6x4096x14336 .fp8e4m3) (ws : Vec Ideal S6x14336 .f32)

/-- A place of a vector of six, in either of its two spellings. -/
theorem at6_eq (k : Fin 6) : at6 k = i6 k.val := by
  funext a
  match a with
  | ⟨0, _⟩ => exact Fin.ext (Nat.mod_eq_of_lt k.isLt).symm

/-- The word the reference computes for a row of expert `e` is `e`. -/
theorem expert_at (i : S256x1.Idx) (hs : nRow (gsz g) 6 ≤ 256) (e : ℕ) (he : e < 6) (lo : nRow (gsz g) e ≤ (i 0).val) (hi : (i 0).val < nRow (gsz g) (e + 1)) :
    expert (F := Ideal) g i = BitVec.ofNat 32 e := by
  have hr : ∀ e, e ≤ 6 → nRow (gsz g) e ≤ 256 := fun e he => (nRow_mono he).trans hs
  have hrow : (i 0).val ≤ 256 := le_of_lt (i 0).isLt
  have h : expert (F := Ideal) g i = IntOp.addi (IntOp.addi (IntOp.addi (IntOp.addi (IntOp.addi 0#32
      (BitVec.setWidth 32 (IntOp.cmpi .sge (BitVec.ofNat 32 (i 0).val) (rowW g 1))))
      (BitVec.setWidth 32 (IntOp.cmpi .sge (BitVec.ofNat 32 (i 0).val) (rowW g 2))))
      (BitVec.setWidth 32 (IntOp.cmpi .sge (BitVec.ofNat 32 (i 0).val) (rowW g 3))))
      (BitVec.setWidth 32 (IntOp.cmpi .sge (BitVec.ofNat 32 (i 0).val) (rowW g 4))))
      (BitVec.setWidth 32 (IntOp.cmpi .sge (BitVec.ofNat 32 (i 0).val) (rowW g 5))) := by
    unfold expert k0_pay2
    simp only [at6_eq]
    pointwise
    rfl
  rw [h, rowW_eq, rowW_eq, rowW_eq, rowW_eq, rowW_eq]
  simp only [Cert.KernelIdeal.Hand.wd]
  rw [ind hrow (hr 1 (by omega)), ind hrow (hr 2 (by omega)), ind hrow (hr 3 (by omega)), ind hrow (hr 4 (by omega)), ind hrow (hr 5 (by omega))]
  have m1 := nRow_mono (g := gsz g) (show 1 ≤ 2 by omega)
  have m2 := nRow_mono (g := gsz g) (show 2 ≤ 3 by omega)
  have m3 := nRow_mono (g := gsz g) (show 3 ≤ 4 by omega)
  have m4 := nRow_mono (g := gsz g) (show 4 ≤ 5 by omega)
  have hc : e = 0 ∨ e = 1 ∨ e = 2 ∨ e = 3 ∨ e = 4 ∨ e = 5 := by omega
  rcases hc with rfl | rfl | rfl | rfl | rfl | rfl <;> (simp only [Nat.reduceAdd] at lo hi; split_ifs <;> first | rfl | omega)

/-- The activation scale of a row of expert `e`. -/
theorem rowScale_at (i : S256x1.Idx) (e : ℕ) (he : e < 6) (hx : expert (F := Ideal) g i = BitVec.ofNat 32 e) : rowScale g xs i = xs (i6 e) := by
  have h : rowScale g xs i = pick (expert (F := Ideal) g i) (xs (i6 0)) (xs (i6 1)) (xs (i6 2)) (xs (i6 3)) (xs (i6 4)) (xs (i6 5)) 0 := by
    unfold rowScale k0_pay5 k0_pay3 k0_pay4 pick
    rw [show k0_pay2 (F := Ideal) (g (at6 0)) (g (at6 1)) (g (at6 2)) (g (at6 3)) (g (at6 4)) = expert g from rfl]
    generalize expert (F := Ideal) g = ex
    simp only [at6_eq]
    pointwise
  rw [h, hx]
  exact pick_eq he (fun e => xs (i6 e)) 0

/-- A code of a row of expert `e`. -/
theorem codes_at (r : Fin 256) (k : Fin 4096) (e : ℕ) (he : e < 6) (hx : expert (F := Ideal) g (ix2 r 0) = BitVec.ofNat 32 e) :
    codes x g xs (ix2 r k) = Spec.code (x (ix2 r k)) (xs (i6 e)) := by
  rw [← rowScale_at g xs (ix2 r 0) e he hx]
  have h : codes x g xs = k0_pay6 (expert g) (k0_pay3 (g (at6 0)) (g (at6 1)) (g (at6 2)) (g (at6 3)) (g (at6 4)) (xs (at6 0)) (xs (at6 1)))
    (k0_pay4 (F := Ideal) (g (at6 0)) (g (at6 1)) (g (at6 2)) (g (at6 3)) (g (at6 4))) (xs (at6 2)) (xs (at6 3)) (xs (at6 4)) (xs (at6 5)) x := rfl
  rw [h]
  unfold k0_pay6
  rw [show k0_pay5 (expert g) (k0_pay3 (g (at6 0)) (g (at6 1)) (g (at6 2)) (g (at6 3)) (g (at6 4)) (xs (at6 0)) (xs (at6 1)))
    (k0_pay4 (F := Ideal) (g (at6 0)) (g (at6 1)) (g (at6 2)) (g (at6 3)) (g (at6 4))) (xs (at6 2)) (xs (at6 3)) (xs (at6 4)) (xs (at6 5)) = rowScale g xs from rfl]
  generalize rowScale g xs = s
  unfold Spec.code
  pointwise

/-- The inner product of a row of expert `e`. -/
theorem acc_at (r : Fin 256) (b : Fin 14336) (e : ℕ) (he : e < 6) (hx : expert (F := Ideal) g (ix2 r 0) = BitVec.ofNat 32 e) :
    acc x g xs w (ix2 r b) = ∑ k : Fin 4096, codes x g xs (ix2 r k) * w (ix3 (⟨e % 6, Nat.mod_lt _ (by decide)⟩ : Fin 6) k b) := by
  have h : acc x g xs w (ix2 r b) = pick (expert (F := Ideal) g (ix2 r 0)) (∑ k : Fin 4096, codes x g xs (ix2 r k) * w (ix3 (0 : Fin 6) k b))
      (∑ k : Fin 4096, codes x g xs (ix2 r k) * w (ix3 (1 : Fin 6) k b)) (∑ k : Fin 4096, codes x g xs (ix2 r k) * w (ix3 (2 : Fin 6) k b))
      (∑ k : Fin 4096, codes x g xs (ix2 r k) * w (ix3 (3 : Fin 6) k b)) (∑ k : Fin 4096, codes x g xs (ix2 r k) * w (ix3 (4 : Fin 6) k b))
      (∑ k : Fin 4096, codes x g xs (ix2 r k) * w (ix3 (5 : Fin 6) k b)) 0 := by
    unfold acc k0_pay15 k0_pay10 acc0 k0_pay8 k0_pay12 k0_pay13 weights pick
    rw [show k0_pay6 (expert g) (k0_pay3 (g (at6 0)) (g (at6 1)) (g (at6 2)) (g (at6 3)) (g (at6 4)) (xs (at6 0)) (xs (at6 1)))
      (k0_pay4 (F := Ideal) (g (at6 0)) (g (at6 1)) (g (at6 2)) (g (at6 3)) (g (at6 4))) (xs (at6 2)) (xs (at6 3)) (xs (at6 4)) (xs (at6 5)) x = codes x g xs from rfl]
    generalize expert (F := Ideal) g = ex
    generalize codes x g xs = cd
    pointwise
  rw [h, hx]
  exact pick_eq he (fun e => ∑ k : Fin 4096, codes x g xs (ix2 r k) * w (ix3 (⟨e % 6, Nat.mod_lt _ (by decide)⟩ : Fin 6) k b)) 0

/-- An element of the result in a row of expert `e`, from the row's word. -/
theorem result_pick (r : Fin 256) (b : Fin 14336) : result x g xs w ws (ix2 r b) = acc x g xs w (ix2 r b) * (rowScale g xs (ix2 r 0) *
    pick (expert (F := Ideal) g (ix2 r 0)) (ws (ix2 (0 : Fin 6) b)) (ws (ix2 (1 : Fin 6) b)) (ws (ix2 (2 : Fin 6) b)) (ws (ix2 (3 : Fin 6) b))
      (ws (ix2 (4 : Fin 6) b)) (ws (ix2 (5 : Fin 6) b)) 0) := by
  unfold result k0_pay1 colScale k0_pay14 k0_pay11 k0_pay7 k0_pay9 k0_pay16 wscales pick
  generalize expert (F := Ideal) g = ex
  generalize acc x g xs w = ac
  generalize rowScale g xs = s
  pointwise

/-- An element of the reference's result in a row of expert `e`. -/
theorem result_at (i : S256x14336.Idx) (hs : nRow (gsz g) 6 ≤ 256) (e : ℕ) (he : e < 6) (lo : nRow (gsz g) e ≤ (i 0).val) (hi : (i 0).val < nRow (gsz g) (e + 1)) :
    result x g xs w ws i = entryAt x xs w ws e (i 0) (i 1).val := by
  obtain ⟨r, b, rfl⟩ : ∃ (r : Fin 256) (b : Fin 14336), i = ix2 r b := ⟨i 0, i 1, by funext a; match a with | ⟨0, _⟩ => rfl | ⟨1, _⟩ => rfl⟩
  have hx : expert (F := Ideal) g (ix2 r 0) = BitVec.ofNat 32 e := expert_at g (ix2 r 0) hs e he lo hi
  have hb : (⟨b.val % 14336, Nat.mod_lt _ (by decide)⟩ : Fin 14336) = b := Fin.ext (Nat.mod_eq_of_lt b.isLt)
  rw [result_pick, acc_at x g xs w r b e he hx, rowScale_at g xs (ix2 r 0) e he hx, hx,
    show pick (BitVec.ofNat 32 e) (ws (ix2 (0 : Fin 6) b)) (ws (ix2 (1 : Fin 6) b)) (ws (ix2 (2 : Fin 6) b)) (ws (ix2 (3 : Fin 6) b)) (ws (ix2 (4 : Fin 6) b))
      (ws (ix2 (5 : Fin 6) b)) 0 = _ from pick_eq he (fun e => ws (ix2 (⟨e % 6, Nat.mod_lt _ (by decide)⟩ : Fin 6) b)) 0]
  unfold entryAt Spec.entry Cert.KernelIdeal.Hand.wix Cert.KernelIdeal.Hand.wsAt
  simp only [ix2_0, ix2_1, hb, ← ix2_eq_valueIdx, ← ix3_eq_valueIdx]
  congr 1
  refine Finset.sum_congr rfl fun k _ => ?_
  rw [codes_at x g xs r k e he hx]

end Cert.RefRun
end
-- ==== Proof.Equation.lean ====
module
public import proofs.«01_k».proof.Defs
public import proofs.«01_k».proof.Proof.RefValue
/-!
# The equation of the two programs

Every row of the result is some expert's, since the sizes add up to the number of rows; in that row both programs
leave the expert's inner products times its two scales.
-/
@[expose] public section
noncomputable section
namespace Cert.Equation
open Cert.KernelIdeal.Hand Idealize.ShloMosaic Idealize.ShloMosaic.TcCoe Idealize.SL.Sem

/-- An array whose every element is what is asked of it is the reference's result. -/
theorem result_unique (x : Cert.KernelIdeal.S256x4096.Idx → Elt Ideal .bf16) (g : Cert.KernelIdeal.S6.Idx → BitVec 32) (xs : Cert.KernelIdeal.S6.Idx → Elt Ideal .f32)
    (w : Cert.KernelIdeal.S6x4096x14336.Idx → Elt Ideal .fp8e4m3) (ws : Cert.KernelIdeal.S6x14336.Idx → Elt Ideal .f32) (hs : nRow (gsz g) 6 = 256)
    (out : Cert.KernelIdeal.S256x14336.Idx → Elt Ideal .bf16) (h : ∀ i, OutIs x g xs w ws i (out i)) : out = Cert.RefRun.result (F := Ideal) x g xs w ws := by
  funext i
  obtain ⟨e, he, lo, hi⟩ := expert_exists (g := gsz g) (r := (i 0).val) 6 (by rw [hs]; exact (i 0).isLt)
  rw [h i e he lo hi]
  exact (Cert.RefRun.result_at x g xs w ws i (le_of_eq hs) e he lo hi).symm

/-- From memories agreeing on the arguments, the sizes partitioning the rows, both programs run and leave the same result. -/
theorem algebraic : Cert.algebraic_KernelIdeal_ReferenceIdeal := by
  intro m ρ m' ρ' hpre hargs
  refine ⟨fun c => Cert.RefRun.result (F := Ideal) (V m c Cert.KernelIdeal.main_arg0) (V m c Cert.KernelIdeal.main_arg1) (V m c Cert.KernelIdeal.main_arg2)
    (V m c Cert.KernelIdeal.main_arg3) (V m c Cert.KernelIdeal.main_arg4), ?_, ?_⟩
  · refine (θ_run _ _ _).mono (fun r h c => ?_) (run_main m ρ _ (sound_value m hpre))
    obtain ⟨h0, h1, h2, h3, h4, hv⟩ := h.1 c
    exact ⟨result_unique _ _ _ _ _ (total_of m hpre c) _ hv, h0, h1, h2, h3, h4⟩
  · refine (θ_run _ _ _).mono (fun r h c => ?_) (Cert.RefRun.run (F := Ideal) m' ρ')
    obtain ⟨a0, a1, a2, a3, a4⟩ := hargs c
    refine ⟨(h c).1.trans ?_, (h c).2⟩
    show Cert.RefRun.result _ _ _ _ _ = _
    rw [show m' _ = _ from a0, show m' _ = _ from a1, show m' _ = _ from a2, show m' _ = _ from a3, show m' _ = _ from a4]

end Cert.Equation
end
-- ==== Proof.lean ====
/- The assembly: the frames of the kernel as printed and over the reals, of the reference over the reals, the
   idealization (which rewrote nothing), and the equation of the two programs over the reals. -/
module

public import proofs.«01_k».proof.Defs
public import proofs.«01_k».proof.Proof.K.Frame
public import proofs.«01_k».proof.Proof.KI.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Equation
public import proofs.«01_k».proof.Proof.Gen.Pre_sizes_partition_rows

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Pre_sizes_partition_rows.Gen.facts,
  fun m ρ h => Cert.Kernel.Hand.frame m ρ h,
  fun m ρ h => Cert.KernelIdeal.Hand.frame m ρ h,
  fun m ρ _ => Cert.ReferenceIdeal.Gen.frame m ρ,
  fun m ρ _ => Cert.ReferenceIdeal.Gen.frame m ρ,
  trivial,
  Cert.Equation.algebraic⟩

end Cert.Proof

end
